-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9))
      ∧ r.2.sem = fun _ => 0)

def preserves_Kernel_KernelIdeal : Prop :=
  True

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v15)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v15) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v72) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v30_0)) (v1 : (c : Dev Cert.Kernel3Ideal.nD) → Buf (Elt Ideal) ((c.tc : Thread Cert.Kernel3Ideal.nD Cert.Kernel3Ideal.τ).loc Cert.Kernel3Ideal.main_v30_1)) (v2 : (c : Dev Cert.Kernel3Ideal.nD) → Buf (Elt Ideal) ((c.tc : Thread Cert.Kernel3Ideal.nD Cert.Kernel3Ideal.τ).loc Cert.Kernel3Ideal.main_v30_2)) (v3 : (c : Dev Cert.Kernel3Ideal.nD) → Buf (Elt Ideal) ((c.tc : Thread Cert.Kernel3Ideal.nD Cert.Kernel3Ideal.τ).loc Cert.Kernel3Ideal.main_v30_3)) (v4 : (c : Dev Cert.Kernel3Ideal.nD) → Buf (Elt Ideal) ((c.tc : Thread Cert.Kernel3Ideal.nD Cert.Kernel3Ideal.τ).loc Cert.Kernel3Ideal.main_v30_4)) (v5 : (c : Dev Cert.Kernel3Ideal.nD) → Buf (Elt Ideal) ((c.tc : Thread Cert.Kernel3Ideal.nD Cert.Kernel3Ideal.τ).loc Cert.Kernel3Ideal.main_v30_5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v30_0) = v0 c
          ∧ r.2.mem ((c.tc : Thread Cert.Kernel3Ideal.nD Cert.Kernel3Ideal.τ).loc Cert.Kernel3Ideal.main_v30_1) = v1 c
          ∧ r.2.mem ((c.tc : Thread Cert.Kernel3Ideal.nD Cert.Kernel3Ideal.τ).loc Cert.Kernel3Ideal.main_v30_2) = v2 c
          ∧ r.2.mem ((c.tc : Thread Cert.Kernel3Ideal.nD Cert.Kernel3Ideal.τ).loc Cert.Kernel3Ideal.main_v30_3) = v3 c
          ∧ r.2.mem ((c.tc : Thread Cert.Kernel3Ideal.nD Cert.Kernel3Ideal.τ).loc Cert.Kernel3Ideal.main_v30_4) = v4 c
          ∧ r.2.mem ((c.tc : Thread Cert.Kernel3Ideal.nD Cert.Kernel3Ideal.τ).loc Cert.Kernel3Ideal.main_v30_5) = v5 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v106) = v0 c
          ∧ r.2.mem ((c.tc : Thread Cert.Reference3Ideal.nD Cert.Reference3Ideal.τ).loc Cert.Reference3Ideal.main_v108) = v1 c
          ∧ r.2.mem ((c.tc : Thread Cert.Reference3Ideal.nD Cert.Reference3Ideal.τ).loc Cert.Reference3Ideal.main_v110) = v2 c
          ∧ r.2.mem ((c.tc : Thread Cert.Reference3Ideal.nD Cert.Reference3Ideal.τ).loc Cert.Reference3Ideal.main_v112) = v3 c
          ∧ r.2.mem ((c.tc : Thread Cert.Reference3Ideal.nD Cert.Reference3Ideal.τ).loc Cert.Reference3Ideal.main_v114) = v4 c
          ∧ r.2.mem ((c.tc : Thread Cert.Reference3Ideal.nD Cert.Reference3Ideal.τ).loc Cert.Reference3Ideal.main_v104) = v5 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)) →
    ∃ (v0 : (c : Dev Cert.Kernel4Ideal.nD) → Buf (Elt Ideal) ((c.tc : Thread Cert.Kernel4Ideal.nD Cert.Kernel4Ideal.τ).loc Cert.Kernel4Ideal.main_v15)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v15) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v54) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9))

def Claim : Prop :=
  ∃ (hKernel : Cert.Kernel.Facts) (hKernelIdeal : Cert.KernelIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts),
    quiescent_Kernel (hKernel := hKernel)
    ∧ quiescent_KernelIdeal (hKernelIdeal := hKernelIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Kernel.lean ====
abbrev S16x2112x512 : Shape := ⟨3, ![16, 2112, 512]⟩
abbrev S16x2112x128 : Shape := ⟨3, ![16, 2112, 128]⟩
abbrev S2x4 : Shape := ⟨2, ![2, 4]⟩
abbrev S8 : Shape := ⟨1, ![8]⟩
abbrev S_ : Shape := ⟨0, ![]⟩
abbrev S8x1 : Shape := ⟨2, ![8, 1]⟩
abbrev S1x8 : Shape := ⟨2, ![1, 8]⟩
abbrev S1x128 : Shape := ⟨2, ![1, 128]⟩
abbrev S1x2112x512 : Shape := ⟨3, ![1, 2112, 512]⟩
abbrev S1x2112x128 : Shape := ⟨3, ![1, 2112, 128]⟩
abbrev S2112x128 : Shape := ⟨2, ![2112, 128]⟩
abbrev S33x4x128 : Shape := ⟨3, ![33, 4, 128]⟩
abbrev S8x128x128 : Shape := ⟨3, ![8, 128, 128]⟩
abbrev S2x24x64x128 : Shape := ⟨4, ![2, 24, 64, 128]⟩
abbrev S2x24x128x128 : Shape := ⟨4, ![2, 24, 128, 128]⟩
abbrev S2x24x192x64 : Shape := ⟨4, ![2, 24, 192, 64]⟩
abbrev S128x64 : Shape := ⟨2, ![128, 64]⟩
abbrev S64x128 : Shape := ⟨2, ![64, 128]⟩
abbrev S1x64x128 : Shape := ⟨3, ![1, 64, 128]⟩
abbrev S128x128 : Shape := ⟨2, ![128, 128]⟩
abbrev S8x64 : Shape := ⟨2, ![8, 64]⟩
abbrev S4x64 : Shape := ⟨2, ![4, 64]⟩
abbrev S4x128 : Shape := ⟨2, ![4, 128]⟩
abbrev S1x4x128 : Shape := ⟨3, ![1, 4, 128]⟩
abbrev S64x256 : Shape := ⟨2, ![64, 256]⟩
abbrev S128x256 : Shape := ⟨2, ![128, 256]⟩
abbrev S64x1 : Shape := ⟨2, ![64, 1]⟩
abbrev S1x1 : Shape := ⟨2, ![1, 1]⟩
abbrev S1x1x64x128 : Shape := ⟨4, ![1, 1, 64, 128]⟩
abbrev S1x1x128x64 : Shape := ⟨4, ![1, 1, 128, 64]⟩
abbrev S64x512 : Shape := ⟨2, ![64, 512]⟩
abbrev S128x512 : Shape := ⟨2, ![128, 512]⟩
abbrev S64x64 : Shape := ⟨2, ![64, 64]⟩
abbrev S1x1x64x64 : Shape := ⟨4, ![1, 1, 64, 64]⟩
abbrev S1x128x128 : Shape := ⟨3, ![1, 128, 128]⟩
abbrev S1x1x128x128 : Shape := ⟨4, ![1, 1, 128, 128]⟩
abbrev S1x1x192x64 : Shape := ⟨4, ![1, 1, 192, 64]⟩
abbrev S192x64 : Shape := ⟨2, ![192, 64]⟩
abbrev S192x128 : Shape := ⟨2, ![192, 128]⟩
abbrev S8x128 : Shape := ⟨2, ![8, 128]⟩

abbrev nBuf : Space → Nat
  | .hbm => 36
  | .vmem => 19
  | .smem => 0
  | _ => 0

abbrev bufTy : (tb : Table) → Fin (tcTables nBuf tb) → BufTy
  | .hbm, ⟨0, _⟩ => ⟨S16x2112x512, .bf16⟩
  | .hbm, ⟨1, _⟩ => ⟨S16x2112x512, .bf16⟩
  | .hbm, ⟨2, _⟩ => ⟨S16x2112x512, .bf16⟩
  | .hbm, ⟨3, _⟩ => ⟨S16x2112x128, .f32⟩
  | .hbm, ⟨4, _⟩ => ⟨S2x4, .f32⟩
  | .hbm, ⟨5, _⟩ => ⟨S2x4, .f32⟩
  | .hbm, ⟨6, _⟩ => ⟨S8, .i32⟩
  | .hbm, ⟨7, _⟩ => ⟨S8, .f32⟩
  | .hbm, ⟨8, _⟩ => ⟨S_, .i32⟩
  | .hbm, ⟨9, _⟩ => ⟨S8, .i32⟩
  | .hbm, ⟨10, _⟩ => ⟨S8, .i1⟩
  | .hbm, ⟨11, _⟩ => ⟨S_, .i32⟩
  | .hbm, ⟨12, _⟩ => ⟨S8, .i32⟩
  | .hbm, ⟨13, _⟩ => ⟨S8, .i32⟩
  | .hbm, ⟨14, _⟩ => ⟨S8, .i32⟩
  | .hbm, ⟨15, _⟩ => ⟨S8x1, .i32⟩
  | .hbm, ⟨16, _⟩ => ⟨S8, .f32⟩
  | .hbm, ⟨17, _⟩ => ⟨S1x8, .f32⟩
  | .hbm, ⟨18, _⟩ => ⟨S_, .i32⟩
  | .hbm, ⟨19, _⟩ => ⟨S_, .f32⟩
  | .hbm, ⟨20, _⟩ => ⟨S1x128, .f32⟩
  | .hbm, ⟨21, _⟩ => ⟨S8, .f32⟩
  | .hbm, ⟨22, _⟩ => ⟨S_, .i32⟩
  | .hbm, ⟨23, _⟩ => ⟨S8, .i32⟩
  | .hbm, ⟨24, _⟩ => ⟨S8, .i1⟩
  | .hbm, ⟨25, _⟩ => ⟨S_, .i32⟩
  | .hbm, ⟨26, _⟩ => ⟨S8, .i32⟩
  | .hbm, ⟨27, _⟩ => ⟨S8, .i32⟩
  | .hbm, ⟨28, _⟩ => ⟨S8, .i32⟩
  | .hbm, ⟨29, _⟩ => ⟨S8x1, .i32⟩
  | .hbm, ⟨30, _⟩ => ⟨S8, .f32⟩
  | .hbm, ⟨31, _⟩ => ⟨S1x8, .f32⟩
  | .hbm, ⟨32, _⟩ => ⟨S_, .i32⟩
  | .hbm, ⟨33, _⟩ => ⟨S_, .f32⟩
  | .hbm, ⟨34, _⟩ => ⟨S1x128, .f32⟩
  | .hbm, ⟨35, _⟩ => ⟨S16x2112x512, .f32⟩
  | .local _ .vmem, ⟨0, _⟩ => ⟨S1x2112x512, .bf16⟩
  | .local _ .vmem, ⟨1, _⟩ => ⟨S1x2112x512, .bf16⟩
  | .local _ .vmem, ⟨2, _⟩ => ⟨S1x2112x512, .bf16⟩
  | .local _ .vmem, ⟨3, _⟩ => ⟨S1x2112x512, .bf16⟩
  | .local _ .vmem, ⟨4, _⟩ => ⟨S1x2112x512, .bf16⟩
  | .local _ .vmem, ⟨5, _⟩ => ⟨S1x2112x512, .bf16⟩
  | .local _ .vmem, ⟨6, _⟩ => ⟨S1x2112x128, .f32⟩
  | .local _ .vmem, ⟨7, _⟩ => ⟨S1x2112x128, .f32⟩
  | .local _ .vmem, ⟨8, _⟩ => ⟨S1x128, .f32⟩
  | .local _ .vmem, ⟨9, _⟩ => ⟨S1x128, .f32⟩
  | .local _ .vmem, ⟨10, _⟩ => ⟨S1x2112x512, .f32⟩
  | .local _ .vmem, ⟨11, _⟩ => ⟨S1x2112x512, .f32⟩
  | .local _ .vmem, ⟨12, _⟩ => ⟨S2112x128, .f32⟩
  | .local _ .vmem, ⟨13, _⟩ => ⟨S2112x128, .f32⟩
  | .local _ .vmem, ⟨14, _⟩ => ⟨S33x4x128, .f32⟩
  | .local _ .vmem, ⟨15, _⟩ => ⟨S8x128x128, .f32⟩
  | .local _ .vmem, ⟨16, _⟩ => ⟨S2x24x64x128, .f32⟩
  | .local _ .vmem, ⟨17, _⟩ => ⟨S2x24x128x128, .bf16⟩
  | .local _ .vmem, ⟨18, _⟩ => ⟨S2x24x192x64, .bf16⟩
  | _, _ => ⟨S16x2112x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_c_0 : Ref sig .tc := ⟨.hbm, 8, rfl⟩
abbrev main_v1 : Ref sig .tc := ⟨.hbm, 9, rfl⟩
abbrev main_v2 : Ref sig .tc := ⟨.hbm, 10, rfl⟩
abbrev main_c_1 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_call0_v0 : Ref sig .tc := ⟨.hbm, 19, rfl⟩
abbrev main_v9 : Ref sig .tc := ⟨.hbm, 20, rfl⟩
abbrev main_v10 : Ref sig .tc := ⟨.hbm, 21, rfl⟩
abbrev main_c_3 : Ref sig .tc := ⟨.hbm, 22, rfl⟩
abbrev main_v11 : Ref sig .tc := ⟨.hbm, 23, rfl⟩
abbrev main_v12 : Ref sig .tc := ⟨.hbm, 24, rfl⟩
abbrev main_c_4 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_5 : Ref sig .tc := ⟨.hbm, 32, rfl⟩
abbrev main_call1_v0 : Ref sig .tc := ⟨.hbm, 33, rfl⟩
abbrev main_v19 : Ref sig .tc := ⟨.hbm, 34, rfl⟩
abbrev main_v20 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_scratch6 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c33_i32 : BitVec 32 := 33#32
  let v18 : BitVec 32 := Scalar.addi c0_i32 c33_i32
  let c1_i32 : BitVec 32 := 1#32
  ⟨c0_i32, v18, c1_i32⟩
def k0_mult1 (k0_t1 : Fin k0_t1_loop.trips) : BitVec 32 :=
  let c0_i32 : BitVec 32 := 0#32
  let c1_i32 : BitVec 32 := 1#32
  let arg15 : BitVec 32 := Scf.iv c0_i32 c1_i32 k0_t1
  let c64_i32_1610 : BitVec 32 := 64#32
  let v3572 : BitVec 32 := Scalar.muli arg15 c64_i32_1610
  v3572
def k0_off1 (k0_t1 : Fin k0_t1_loop.trips) : Fin 3 → Nat :=
  let c0_1611 : Index := 0#32
  let c0_i32 : BitVec 32 := 0#32
  let c1_i32 : BitVec 32 := 1#32
  let arg15 : BitVec 32 := Scf.iv c0_i32 c1_i32 k0_t1
  let c64_i32_1610 : BitVec 32 := 64#32
  let v3572 : BitVec 32 := Scalar.muli arg15 c64_i32_1610
  let v3573 : BitVec 32 := v3572
  let v3574 : Index := Scalar.indexCast v3573
  let c0_1612 : Index := 0#32
  ![0, v3574.toNat, 0]
def k0_off2 (k0_t1 : Fin k0_t1_loop.trips) : Fin 2 → Nat :=
  let c0_i32 : BitVec 32 := 0#32
  let c1_i32 : BitVec 32 := 1#32
  let arg15 : BitVec 32 := Scf.iv c0_i32 c1_i32 k0_t1
  let c64_i32_1610 : BitVec 32 := 64#32
  let v3572 : BitVec 32 := Scalar.muli arg15 c64_i32_1610
  let v3573 : BitVec 32 := v3572
  let v3578 : Index := Scalar.indexCast v3573
  let c0_1613 : Index := 0#32
  ![v3578.toNat, 0]
def k0_off3 (k0_t1 : Fin k0_t1_loop.trips) : Fin 3 → Nat :=
  let c0_i32 : BitVec 32 := 0#32
  let c1_i32 : BitVec 32 := 1#32
  let arg15 : BitVec 32 := Scf.iv c0_i32 c1_i32 k0_t1
  let v3627 : Index := Scalar.indexCast arg15
  let c0_1625 : Index := 0#32
  let c0_1626 : Index := 0#32
  ![v3627.toNat, 0, 0]
def k0_mult2 : BitVec 32 :=
  let c0_i32_12 : BitVec 32 := 0#32
  c0_i32_12
def k0_mult3 : BitVec 32 :=
  let c64_i32_13 : BitVec 32 := 64#32
  c64_i32_13
def k0_mult4 : BitVec 32 :=
  let c128_i32 : BitVec 32 := 128#32
  c128_i32
def k0_mult5 : BitVec 32 :=
  let c2048_i32 : BitVec 32 := 2048#32
  c2048_i32
def k0_mult6 : BitVec 32 :=
  let c1984_i32 : BitVec 32 := 1984#32
  c1984_i32
def k0_mult7 : BitVec 32 :=
  let c1920_i32 : BitVec 32 := 1920#32
  c1920_i32
@[reducible] def k0_t2_loop : Scf.Loop 32 :=
  let c0_i32_962 : BitVec 32 := 0#32
  let c10_i32 : BitVec 32 := 10#32
  let v2659 : BitVec 32 := Scalar.addi c0_i32_962 c10_i32
  let c1_i32_963 : BitVec 32 := 1#32
  ⟨c0_i32_962, v2659, c1_i32_963⟩
def k0_mult8 (k0_t2 : Fin k0_t2_loop.trips) : BitVec 32 :=
  let c0_i32_962 : BitVec 32 := 0#32
  let c1_i32_963 : BitVec 32 := 1#32
  let arg15 : BitVec 32 := Scf.iv c0_i32_962 c1_i32_963 k0_t2
  let c1_i32_1616 : BitVec 32 := 1#32
  let v3582 : BitVec 32 := Scalar.addi arg15 c1_i32_1616
  let c3_i32_1618 : BitVec 32 := 3#32
  let v3584 : BitVec 32 := Scalar.muli v3582 c3_i32_1618
  let c0_i32_1619 : BitVec 32 := 0#32
  let v3585 : BitVec 32 := Scalar.addi v3584 c0_i32_1619
  let c64_i32_1620 : BitVec 32 := 64#32
  let v3586 : BitVec 32 := Scalar.muli v3585 c64_i32_1620
  v3586
def k0_mult9 (k0_t2 : Fin k0_t2_loop.trips) : BitVec 32 :=
  let c0_i32_962 : BitVec 32 := 0#32
  let c1_i32_963 : BitVec 32 := 1#32
  let arg15 : BitVec 32 := Scf.iv c0_i32_962 c1_i32_963 k0_t2
  let c1_i32_1616 : BitVec 32 := 1#32
  let v3582 : BitVec 32 := Scalar.addi arg15 c1_i32_1616
  let c3_i32_1621 : BitVec 32 := 3#32
  let v3588 : BitVec 32 := Scalar.muli v3582 c3_i32_1621
  let c1_i32_1622 : BitVec 32 := 1#32
  let v3589 : BitVec 32 := Scalar.addi v3588 c1_i32_1622
  let c64_i32_1623 : BitVec 32 := 64#32
  let v3590 : BitVec 32 := Scalar.muli v3589 c64_i32_1623
  v3590
def k0_mult10 (k0_t2 : Fin k0_t2_loop.trips) : BitVec 32 :=
  let c0_i32_962 : BitVec 32 := 0#32
  let c1_i32_963 : BitVec 32 := 1#32
  let arg15 : BitVec 32 := Scf.iv c0_i32_962 c1_i32_963 k0_t2
  let c1_i32_1616 : BitVec 32 := 1#32
  let v3582 : BitVec 32 := Scalar.addi arg15 c1_i32_1616
  let c3_i32_1624 : BitVec 32 := 3#32
  let v3592 : BitVec 32 := Scalar.muli v3582 c3_i32_1624
  let c2_i32_1625 : BitVec 32 := 2#32
  let v3593 : BitVec 32 := Scalar.addi v3592 c2_i32_1625
  let c64_i32_1626 : BitVec 32 := 64#32
  let v3594 : BitVec 32 := Scalar.muli v3593 c64_i32_1626
  v3594
def k0_mult11 (k0_t2 : Fin k0_t2_loop.trips) : BitVec 32 :=
  let c32_i32 : BitVec 32 := 32#32
  let c0_i32_962 : BitVec 32 := 0#32
  let c1_i32_963 : BitVec 32 := 1#32
  let arg15 : BitVec 32 := Scf.iv c0_i32_962 c1_i32_963 k0_t2
  let c1_i32_1616 : BitVec 32 := 1#32
  let v3582 : BitVec 32 := Scalar.addi arg15 c1_i32_1616
  let c3_i32_1627 : BitVec 32 := 3#32
  let v3596 : BitVec 32 := Scalar.muli v3582 c3_i32_1627
  let c0_i32_1628 : BitVec 32 := 0#32
  let v3597 : BitVec 32 := Scalar.addi v3596 c0_i32_1628
  let v3598 : BitVec 32 := Scalar.subi c32_i32 v3597
  let c64_i32_1629 : BitVec 32 := 64#32
  let v3599 : BitVec 32 := Scalar.muli v3598 c64_i32_1629
  v3599
def k0_mult12 (k0_t2 : Fin k0_t2_loop.trips) : BitVec 32 :=
  let c32_i32_1632 : BitVec 32 := 32#32
  let c0_i32_962 : BitVec 32 := 0#32
  let c1_i32_963 : BitVec 32 := 1#32
  let arg15 : BitVec 32 := Scf.iv c0_i32_962 c1_i32_963 k0_t2
  let c1_i32_1616 : BitVec 32 := 1#32
  let v3582 : BitVec 32 := Scalar.addi arg15 c1_i32_1616
  let c3_i32_1630 : BitVec 32 := 3#32
  let v3601 : BitVec 32 := Scalar.muli v3582 c3_i32_1630
  let c1_i32_1631 : BitVec 32 := 1#32
  let v3602 : BitVec 32 := Scalar.addi v3601 c1_i32_1631
  let v3603 : BitVec 32 := Scalar.subi c32_i32_1632 v3602
  let c64_i32_1633 : BitVec 32 := 64#32
  let v3604 : BitVec 32 := Scalar.muli v3603 c64_i32_1633
  v3604
def k0_mult13 (k0_t2 : Fin k0_t2_loop.trips) : BitVec 32 :=
  let c32_i32_1636 : BitVec 32 := 32#32
  let c0_i32_962 : BitVec 32 := 0#32
  let c1_i32_963 : BitVec 32 := 1#32
  let arg15 : BitVec 32 := Scf.iv c0_i32_962 c1_i32_963 k0_t2
  let c1_i32_1616 : BitVec 32 := 1#32
  let v3582 : BitVec 32 := Scalar.addi arg15 c1_i32_1616
  let c3_i32_1634 : BitVec 32 := 3#32
  let v3606 : BitVec 32 := Scalar.muli v3582 c3_i32_1634
  let c2_i32_1635 : BitVec 32 := 2#32
  let v3607 : BitVec 32 := Scalar.addi v3606 c2_i32_1635
  let v3608 : BitVec 32 := Scalar.subi c32_i32_1636 v3607
  let c64_i32_1637 : BitVec 32 := 64#32
  let v3609 : BitVec 32 := Scalar.muli v3608 c64_i32_1637
  v3609
def k0_off4 (k0_t2 : Fin k0_t2_loop.trips) (c0_i32_1619 : BitVec 32) : Fin 3 → Nat :=
  let c0_1638 : Index := 0#32
  let c0_i32_962 : BitVec 32 := 0#32
  let c1_i32_963 : BitVec 32 := 1#32
  let arg15 : BitVec 32 := Scf.iv c0_i32_962 c1_i32_963 k0_t2
  let c1_i32_1616 : BitVec 32 := 1#32
  let v3582 : BitVec 32 := Scalar.addi arg15 c1_i32_1616
  let c3_i32_1618 : BitVec 32 := 3#32
  let v3584 : BitVec 32 := Scalar.muli v3582 c3_i32_1618
  let v3585 : BitVec 32 := Scalar.addi v3584 c0_i32_1619
  let c64_i32_1620 : BitVec 32 := 64#32
  let v3586 : BitVec 32 := Scalar.muli v3585 c64_i32_1620
  let v3587 : BitVec 32 := v3586
  let v3611 : Index := Scalar.indexCast v3587
  let c0_1639 : Index := 0#32
  ![0, v3611.toNat, 0]
def k0_off5 (k0_t2 : Fin k0_t2_loop.trips) (c0_i32_1619 : BitVec 32) : Fin 3 → Nat :=
  let c0_1642 : Index := 0#32
  let c0_i32_962 : BitVec 32 := 0#32
  let c1_i32_963 : BitVec 32 := 1#32
  let arg15 : BitVec 32 := Scf.iv c0_i32_962 c1_i32_963 k0_t2
  let c1_i32_1616 : BitVec 32 := 1#32
  let v3582 : BitVec 32 := Scalar.addi arg15 c1_i32_1616
  let c3_i32_1618 : BitVec 32 := 3#32
  let v3584 : BitVec 32 := Scalar.muli v3582 c3_i32_1618
  let v3585 : BitVec 32 := Scalar.addi v3584 c0_i32_1619
  let c64_i32_1620 : BitVec 32 := 64#32
  let v3586 : BitVec 32 := Scalar.muli v3585 c64_i32_1620
  let v3587 : BitVec 32 := v3586
  let v3617 : Index := Scalar.indexCast v3587
  let c128_1643 : Index := 128#32
  ![0, v3617.toNat, 128]
def k0_off6 (k0_t2 : Fin k0_t2_loop.trips) (c0_i32_1619 : BitVec 32) : Fin 3 → Nat :=
  let c0_1647 : Index := 0#32
  let c0_i32_962 : BitVec 32 := 0#32
  let c1_i32_963 : BitVec 32 := 1#32
  let arg15 : BitVec 32 := Scf.iv c0_i32_962 c1_i32_963 k0_t2
  let c1_i32_1616 : BitVec 32 := 1#32
  let v3582 : BitVec 32 := Scalar.addi arg15 c1_i32_1616
  let c3_i32_1618 : BitVec 32 := 3#32
  let v3584 : BitVec 32 := Scalar.muli v3582 c3_i32_1618
  let v3585 : BitVec 32 := Scalar.addi v3584 c0_i32_1619
  let c64_i32_1620 : BitVec 32 := 64#32
  let v3586 : BitVec 32 := Scalar.muli v3585 c64_i32_1620
  let v3587 : BitVec 32 := v3586
  let v3632 : Index := Scalar.indexCast v3587
  let c256_1648 : Index := 256#32
  ![0, v3632.toNat, 256]
def k0_off7 (k0_t2 : Fin k0_t2_loop.trips) (c0_i32_1619 : BitVec 32) : Fin 3 → Nat :=
  let c0_1651 : Index := 0#32
  let c0_i32_962 : BitVec 32 := 0#32
  let c1_i32_963 : BitVec 32 := 1#32
  let arg15 : BitVec 32 := Scf.iv c0_i32_962 c1_i32_963 k0_t2
  let c1_i32_1616 : BitVec 32 := 1#32
  let v3582 : BitVec 32 := Scalar.addi arg15 c1_i32_1616
  let c3_i32_1618 : BitVec 32 := 3#32
  let v3584 : BitVec 32 := Scalar.muli v3582 c3_i32_1618
  let v3585 : BitVec 32 := Scalar.addi v3584 c0_i32_1619
  let c64_i32_1620 : BitVec 32 := 64#32
  let v3586 : BitVec 32 := Scalar.muli v3585 c64_i32_1620
  let v3587 : BitVec 32 := v3586
  let v3638 : Index := Scalar.indexCast v3587
  let c384_1652 : Index := 384#32
  ![0, v3638.toNat, 384]
def k0_off8 (k0_t2 : Fin k0_t2_loop.trips) (c0_i32_1628 : BitVec 32) : Fin 3 → Nat :=
  let c0_1692 : Index := 0#32
  let c32_i32 : BitVec 32 := 32#32
  let c0_i32_962 : BitVec 32 := 0#32
  let c1_i32_963 : BitVec 32 := 1#32
  let arg15 : BitVec 32 := Scf.iv c0_i32_962 c1_i32_963 k0_t2
  let c1_i32_1616 : BitVec 32 := 1#32
  let v3582 : BitVec 32 := Scalar.addi arg15 c1_i32_1616
  let c3_i32_1627 : BitVec 32 := 3#32
  let v3596 : BitVec 32 := Scalar.muli v3582 c3_i32_1627
  let v3597 : BitVec 32 := Scalar.addi v3596 c0_i32_1628
  let v3598 : BitVec 32 := Scalar.subi c32_i32 v3597
  let c64_i32_1629 : BitVec 32 := 64#32
  let v3599 : BitVec 32 := Scalar.muli v3598 c64_i32_1629
  let v3600 : BitVec 32 := v3599
  let v3737 : Index := Scalar.indexCast v3600
  let c0_1693 : Index := 0#32
  ![0, v3737.toNat, 0]
def k0_off9 (k0_t2 : Fin k0_t2_loop.trips) (c0_i32_1628 : BitVec 32) : Fin 3 → Nat :=
  let c0_1696 : Index := 0#32
  let c32_i32 : BitVec 32 := 32#32
  let c0_i32_962 : BitVec 32 := 0#32
  let c1_i32_963 : BitVec 32 := 1#32
  let arg15 : BitVec 32 := Scf.iv c0_i32_962 c1_i32_963 k0_t2
  let c1_i32_1616 : BitVec 32 := 1#32
  let v3582 : BitVec 32 := Scalar.addi arg15 c1_i32_1616
  let c3_i32_1627 : BitVec 32 := 3#32
  let v3596 : BitVec 32 := Scalar.muli v3582 c3_i32_1627
  let v3597 : BitVec 32 := Scalar.addi v3596 c0_i32_1628
  let v3598 : BitVec 32 := Scalar.subi c32_i32 v3597
  let c64_i32_1629 : BitVec 32 := 64#32
  let v3599 : BitVec 32 := Scalar.muli v3598 c64_i32_1629
  let v3600 : BitVec 32 := v3599
  let v3743 : Index := Scalar.indexCast v3600
  let c128_1697 : Index := 128#32
  ![0, v3743.toNat, 128]
def k0_off10 (k0_t2 : Fin k0_t2_loop.trips) (c0_i32_1628 : BitVec 32) : Fin 3 → Nat :=
  let c0_1701 : Index := 0#32
  let c32_i32 : BitVec 32 := 32#32
  let c0_i32_962 : BitVec 32 := 0#32
  let c1_i32_963 : BitVec 32 := 1#32
  let arg15 : BitVec 32 := Scf.iv c0_i32_962 c1_i32_963 k0_t2
  let c1_i32_1616 : BitVec 32 := 1#32
  let v3582 : BitVec 32 := Scalar.addi arg15 c1_i32_1616
  let c3_i32_1627 : BitVec 32 := 3#32
  let v3596 : BitVec 32 := Scalar.muli v3582 c3_i32_1627
  let v3597 : BitVec 32 := Scalar.addi v3596 c0_i32_1628
  let v3598 : BitVec 32 := Scalar.subi c32_i32 v3597
  let c64_i32_1629 : BitVec 32 := 64#32
  let v3599 : BitVec 32 := Scalar.muli v3598 c64_i32_1629
  let v3600 : BitVec 32 := v3599
  let v3758 : Index := Scalar.indexCast v3600
  let c256_1702 : Index := 256#32
  ![0, v3758.toNat, 256]
def k0_off11 (k0_t2 : Fin k0_t2_loop.trips) (c0_i32_1628 : BitVec 32) : Fin 3 → Nat :=
  let c0_1705 : Index := 0#32
  let c32_i32 : BitVec 32 := 32#32
  let c0_i32_962 : BitVec 32 := 0#32
  let c1_i32_963 : BitVec 32 := 1#32
  let arg15 : BitVec 32 := Scf.iv c0_i32_962 c1_i32_963 k0_t2
  let c1_i32_1616 : BitVec 32 := 1#32
  let v3582 : BitVec 32 := Scalar.addi arg15 c1_i32_1616
  let c3_i32_1627 : BitVec 32 := 3#32
  let v3596 : BitVec 32 := Scalar.muli v3582 c3_i32_1627
  let v3597 : BitVec 32 := Scalar.addi v3596 c0_i32_1628
  let v3598 : BitVec 32 := Scalar.subi c32_i32 v3597
  let c64_i32_1629 : BitVec 32 := 64#32
  let v3599 : BitVec 32 := Scalar.muli v3598 c64_i32_1629
  let v3600 : BitVec 32 := v3599
  let v3764 : Index := Scalar.indexCast v3600
  let c384_1706 : Index := 384#32
  ![0, v3764.toNat, 384]
def k0_off12 (k0_t2 : Fin k0_t2_loop.trips) : Fin 4 → Nat :=
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v3879 : Index := Scalar.indexCast v3581
  let c0_1770 : Index := 0#32
  let c0_1771 : Index := 0#32
  let c0_1772 : Index := 0#32
  ![v3879.toNat, 0, 0, 0]
def k0_off13 (k0_t2 : Fin k0_t2_loop.trips) : Fin 4 → Nat :=
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v3884 : Index := Scalar.indexCast v3581
  let c3_1774 : Index := 3#32
  let c0_1775 : Index := 0#32
  let c0_1776 : Index := 0#32
  ![v3884.toNat, 3, 0, 0]
def k0_off14 (k0_t2 : Fin k0_t2_loop.trips) : Fin 4 → Nat :=
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v3889 : Index := Scalar.indexCast v3581
  let c6_1778 : Index := 6#32
  let c0_1779 : Index := 0#32
  let c0_1780 : Index := 0#32
  ![v3889.toNat, 6, 0, 0]
def k0_off15 (k0_t2 : Fin k0_t2_loop.trips) : Fin 4 → Nat :=
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v3894 : Index := Scalar.indexCast v3581
  let c9_1782 : Index := 9#32
  let c0_1783 : Index := 0#32
  let c0_1784 : Index := 0#32
  ![v3894.toNat, 9, 0, 0]
def k0_off16 (k0_t2 : Fin k0_t2_loop.trips) : Fin 4 → Nat :=
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v3899 : Index := Scalar.indexCast v3581
  let c12_1786 : Index := 12#32
  let c0_1787 : Index := 0#32
  let c0_1788 : Index := 0#32
  ![v3899.toNat, 12, 0, 0]
def k0_off17 (k0_t2 : Fin k0_t2_loop.trips) : Fin 4 → Nat :=
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v3904 : Index := Scalar.indexCast v3581
  let c15_1790 : Index := 15#32
  let c0_1791 : Index := 0#32
  let c0_1792 : Index := 0#32
  ![v3904.toNat, 15, 0, 0]
def k0_off18 (k0_t2 : Fin k0_t2_loop.trips) : Fin 4 → Nat :=
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v3909 : Index := Scalar.indexCast v3581
  let c18_1794 : Index := 18#32
  let c0_1795 : Index := 0#32
  let c0_1796 : Index := 0#32
  ![v3909.toNat, 18, 0, 0]
def k0_off19 (k0_t2 : Fin k0_t2_loop.trips) : Fin 4 → Nat :=
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v3914 : Index := Scalar.indexCast v3581
  let c21_1798 : Index := 21#32
  let c0_1799 : Index := 0#32
  let c0_1800 : Index := 0#32
  ![v3914.toNat, 21, 0, 0]
def k0_off20 (k0_t2 : Fin k0_t2_loop.trips) (c0_i32_1619 : BitVec 32) : Fin 2 → Nat :=
  let c0_i32_962 : BitVec 32 := 0#32
  let c1_i32_963 : BitVec 32 := 1#32
  let arg15 : BitVec 32 := Scf.iv c0_i32_962 c1_i32_963 k0_t2
  let c1_i32_1616 : BitVec 32 := 1#32
  let v3582 : BitVec 32 := Scalar.addi arg15 c1_i32_1616
  let c3_i32_1618 : BitVec 32 := 3#32
  let v3584 : BitVec 32 := Scalar.muli v3582 c3_i32_1618
  let v3585 : BitVec 32 := Scalar.addi v3584 c0_i32_1619
  let c64_i32_1620 : BitVec 32 := 64#32
  let v3586 : BitVec 32 := Scalar.muli v3585 c64_i32_1620
  let v3587 : BitVec 32 := v3586
  let v3919 : Index := Scalar.indexCast v3587
  let c0_1802 : Index := 0#32
  ![v3919.toNat, 0]
def k0_off21 (k0_t2 : Fin k0_t2_loop.trips) (c0_i32_1628 : BitVec 32) : Fin 2 → Nat :=
  let c32_i32 : BitVec 32 := 32#32
  let c0_i32_962 : BitVec 32 := 0#32
  let c1_i32_963 : BitVec 32 := 1#32
  let arg15 : BitVec 32 := Scf.iv c0_i32_962 c1_i32_963 k0_t2
  let c1_i32_1616 : BitVec 32 := 1#32
  let v3582 : BitVec 32 := Scalar.addi arg15 c1_i32_1616
  let c3_i32_1627 : BitVec 32 := 3#32
  let v3596 : BitVec 32 := Scalar.muli v3582 c3_i32_1627
  let v3597 : BitVec 32 := Scalar.addi v3596 c0_i32_1628
  let v3598 : BitVec 32 := Scalar.subi c32_i32 v3597
  let c64_i32_1629 : BitVec 32 := 64#32
  let v3599 : BitVec 32 := Scalar.muli v3598 c64_i32_1629
  let v3600 : BitVec 32 := v3599
  let v3925 : Index := Scalar.indexCast v3600
  let c0_1805 : Index := 0#32
  ![v3925.toNat, 0]
def k0_off22 (k0_t2 : Fin k0_t2_loop.trips) (c0_i32_1815 : BitVec 32) : Fin 3 → Nat :=
  let c0_i32_962 : BitVec 32 := 0#32
  let c1_i32_963 : BitVec 32 := 1#32
  let arg15 : BitVec 32 := Scf.iv c0_i32_962 c1_i32_963 k0_t2
  let c1_i32_1616 : BitVec 32 := 1#32
  let v3582 : BitVec 32 := Scalar.addi arg15 c1_i32_1616
  let c3_i32_1814 : BitVec 32 := 3#32
  let v3943 : BitVec 32 := Scalar.muli v3582 c3_i32_1814
  let v3944 : BitVec 32 := Scalar.addi v3943 c0_i32_1815
  let v3945 : Index := Scalar.indexCast v3944
  let c0_1816 : Index := 0#32
  let c0_1817 : Index := 0#32
  ![v3945.toNat, 0, 0]
def k0_off23 (k0_t2 : Fin k0_t2_loop.trips) (c0_i32_1827 : BitVec 32) : Fin 3 → Nat :=
  let c32_i32_1828 : BitVec 32 := 32#32
  let c0_i32_962 : BitVec 32 := 0#32
  let c1_i32_963 : BitVec 32 := 1#32
  let arg15 : BitVec 32 := Scf.iv c0_i32_962 c1_i32_963 k0_t2
  let c1_i32_1616 : BitVec 32 := 1#32
  let v3582 : BitVec 32 := Scalar.addi arg15 c1_i32_1616
  let c3_i32_1826 : BitVec 32 := 3#32
  let v3958 : BitVec 32 := Scalar.muli v3582 c3_i32_1826
  let v3959 : BitVec 32 := Scalar.addi v3958 c0_i32_1827
  let v3960 : BitVec 32 := Scalar.subi c32_i32_1828 v3959
  let v3961 : Index := Scalar.indexCast v3960
  let c0_1829 : Index := 0#32
  let c0_1830 : Index := 0#32
  ![v3961.toNat, 0, 0]
def k0_off24 (k0_t2 : Fin k0_t2_loop.trips) : Fin 4 → Nat :=
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v4380 : Index := Scalar.indexCast v3581
  let c0_1903 : Index := 0#32
  let c0_1904 : Index := 0#32
  let c0_1905 : Index := 0#32
  ![v4380.toNat, 0, 0, 0]
def k0_off25 (k0_t2 : Fin k0_t2_loop.trips) : Fin 4 → Nat :=
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v4385 : Index := Scalar.indexCast v3581
  let c3_1906 : Index := 3#32
  let c0_1907 : Index := 0#32
  let c0_1908 : Index := 0#32
  ![v4385.toNat, 3, 0, 0]
def k0_off26 (k0_t2 : Fin k0_t2_loop.trips) : Fin 4 → Nat :=
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v4390 : Index := Scalar.indexCast v3581
  let c6_1909 : Index := 6#32
  let c0_1910 : Index := 0#32
  let c0_1911 : Index := 0#32
  ![v4390.toNat, 6, 0, 0]
def k0_off27 (k0_t2 : Fin k0_t2_loop.trips) : Fin 4 → Nat :=
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v4395 : Index := Scalar.indexCast v3581
  let c9_1912 : Index := 9#32
  let c0_1913 : Index := 0#32
  let c0_1914 : Index := 0#32
  ![v4395.toNat, 9, 0, 0]
def k0_off28 (k0_t2 : Fin k0_t2_loop.trips) : Fin 4 → Nat :=
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v4400 : Index := Scalar.indexCast v3581
  let c12_1915 : Index := 12#32
  let c0_1916 : Index := 0#32
  let c0_1917 : Index := 0#32
  ![v4400.toNat, 12, 0, 0]
def k0_off29 (k0_t2 : Fin k0_t2_loop.trips) : Fin 4 → Nat :=
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v4405 : Index := Scalar.indexCast v3581
  let c15_1918 : Index := 15#32
  let c0_1919 : Index := 0#32
  let c0_1920 : Index := 0#32
  ![v4405.toNat, 15, 0, 0]
def k0_off30 (k0_t2 : Fin k0_t2_loop.trips) : Fin 4 → Nat :=
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v4410 : Index := Scalar.indexCast v3581
  let c18_1921 : Index := 18#32
  let c0_1922 : Index := 0#32
  let c0_1923 : Index := 0#32
  ![v4410.toNat, 18, 0, 0]
def k0_off31 (k0_t2 : Fin k0_t2_loop.trips) : Fin 4 → Nat :=
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v4415 : Index := Scalar.indexCast v3581
  let c21_1924 : Index := 21#32
  let c0_1925 : Index := 0#32
  let c0_1926 : Index := 0#32
  ![v4415.toNat, 21, 0, 0]
def k0_off32 (k0_t2 : Fin k0_t2_loop.trips) : Fin 4 → Nat :=
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v4420 : Index := Scalar.indexCast v3581
  let c0_1927 : Index := 0#32
  let c0_1928 : Index := 0#32
  let c0_1929 : Index := 0#32
  ![v4420.toNat, 0, 0, 0]
def k0_off33 (k0_t2 : Fin k0_t2_loop.trips) : Fin 4 → Nat :=
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v4425 : Index := Scalar.indexCast v3581
  let c3_1931 : Index := 3#32
  let c0_1932 : Index := 0#32
  let c0_1933 : Index := 0#32
  ![v4425.toNat, 3, 0, 0]
def k0_off34 (k0_t2 : Fin k0_t2_loop.trips) : Fin 4 → Nat :=
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v4430 : Index := Scalar.indexCast v3581
  let c6_1935 : Index := 6#32
  let c0_1936 : Index := 0#32
  let c0_1937 : Index := 0#32
  ![v4430.toNat, 6, 0, 0]
def k0_off35 (k0_t2 : Fin k0_t2_loop.trips) : Fin 4 → Nat :=
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v4435 : Index := Scalar.indexCast v3581
  let c9_1939 : Index := 9#32
  let c0_1940 : Index := 0#32
  let c0_1941 : Index := 0#32
  ![v4435.toNat, 9, 0, 0]
def k0_off36 (k0_t2 : Fin k0_t2_loop.trips) : Fin 4 → Nat :=
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v4440 : Index := Scalar.indexCast v3581
  let c12_1943 : Index := 12#32
  let c0_1944 : Index := 0#32
  let c0_1945 : Index := 0#32
  ![v4440.toNat, 12, 0, 0]
def k0_off37 (k0_t2 : Fin k0_t2_loop.trips) : Fin 4 → Nat :=
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v4445 : Index := Scalar.indexCast v3581
  let c15_1947 : Index := 15#32
  let c0_1948 : Index := 0#32
  let c0_1949 : Index := 0#32
  ![v4445.toNat, 15, 0, 0]
def k0_off38 (k0_t2 : Fin k0_t2_loop.trips) : Fin 4 → Nat :=
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v4450 : Index := Scalar.indexCast v3581
  let c18_1951 : Index := 18#32
  let c0_1952 : Index := 0#32
  let c0_1953 : Index := 0#32
  ![v4450.toNat, 18, 0, 0]
def k0_off39 (k0_t2 : Fin k0_t2_loop.trips) : Fin 4 → Nat :=
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v4455 : Index := Scalar.indexCast v3581
  let c21_1955 : Index := 21#32
  let c0_1956 : Index := 0#32
  let c0_1957 : Index := 0#32
  ![v4455.toNat, 21, 0, 0]
def k0_mult14 (k0_t2 : Fin k0_t2_loop.trips) : BitVec 32 :=
  let c0_i32_962 : BitVec 32 := 0#32
  let c1_i32_963 : BitVec 32 := 1#32
  let arg15 : BitVec 32 := Scf.iv c0_i32_962 c1_i32_963 k0_t2
  let c3_i32_1959 : BitVec 32 := 3#32
  let v4460 : BitVec 32 := Scalar.muli arg15 c3_i32_1959
  let c0_i32_1960 : BitVec 32 := 0#32
  let v4461 : BitVec 32 := Scalar.addi v4460 c0_i32_1960
  let c64_i32_1961 : BitVec 32 := 64#32
  let v4462 : BitVec 32 := Scalar.muli v4461 c64_i32_1961
  let c56_i32 : BitVec 32 := 56#32
  let v4463 : BitVec 32 := Scalar.addi v4462 c56_i32
  v4463
def k0_off40 (k0_t2 : Fin k0_t2_loop.trips) (c0_i32_1960 : BitVec 32) : Fin 2 → Nat :=
  let c0_i32_962 : BitVec 32 := 0#32
  let c1_i32_963 : BitVec 32 := 1#32
  let arg15 : BitVec 32 := Scf.iv c0_i32_962 c1_i32_963 k0_t2
  let c3_i32_1959 : BitVec 32 := 3#32
  let v4460 : BitVec 32 := Scalar.muli arg15 c3_i32_1959
  let v4461 : BitVec 32 := Scalar.addi v4460 c0_i32_1960
  let c64_i32_1961 : BitVec 32 := 64#32
  let v4462 : BitVec 32 := Scalar.muli v4461 c64_i32_1961
  let c56_i32 : BitVec 32 := 56#32
  let v4463 : BitVec 32 := Scalar.addi v4462 c56_i32
  let v4464 : BitVec 32 := v4463
  let v4465 : Index := Scalar.indexCast v4464
  let c0_1962 : Index := 0#32
  ![v4465.toNat, 0]
def k0_mult15 (k0_t2 : Fin k0_t2_loop.trips) : BitVec 32 :=
  let c0_i32_962 : BitVec 32 := 0#32
  let c1_i32_963 : BitVec 32 := 1#32
  let arg15 : BitVec 32 := Scf.iv c0_i32_962 c1_i32_963 k0_t2
  let c3_i32_1959 : BitVec 32 := 3#32
  let v4460 : BitVec 32 := Scalar.muli arg15 c3_i32_1959
  let c0_i32_1960 : BitVec 32 := 0#32
  let v4461 : BitVec 32 := Scalar.addi v4460 c0_i32_1960
  let c64_i32_1966 : BitVec 32 := 64#32
  let v4476 : BitVec 32 := Scalar.muli v4461 c64_i32_1966
  v4476
def k0_off41 (k0_t2 : Fin k0_t2_loop.trips) (c0_i32_1960 : BitVec 32) : Fin 3 → Nat :=
  let c0_1967 : Index := 0#32
  let c0_i32_962 : BitVec 32 := 0#32
  let c1_i32_963 : BitVec 32 := 1#32
  let arg15 : BitVec 32 := Scf.iv c0_i32_962 c1_i32_963 k0_t2
  let c3_i32_1959 : BitVec 32 := 3#32
  let v4460 : BitVec 32 := Scalar.muli arg15 c3_i32_1959
  let v4461 : BitVec 32 := Scalar.addi v4460 c0_i32_1960
  let c64_i32_1966 : BitVec 32 := 64#32
  let v4476 : BitVec 32 := Scalar.muli v4461 c64_i32_1966
  let v4477 : BitVec 32 := v4476
  let v4478 : Index := Scalar.indexCast v4477
  let c0_1968 : Index := 0#32
  ![0, v4478.toNat, 0]
def k0_mult16 (k0_t2 : Fin k0_t2_loop.trips) : BitVec 32 :=
  let c0_i32_962 : BitVec 32 := 0#32
  let c1_i32_963 : BitVec 32 := 1#32
  let arg15 : BitVec 32 := Scf.iv c0_i32_962 c1_i32_963 k0_t2
  let c3_i32_1971 : BitVec 32 := 3#32
  let v4489 : BitVec 32 := Scalar.muli arg15 c3_i32_1971
  let c0_i32_1972 : BitVec 32 := 0#32
  let v4490 : BitVec 32 := Scalar.addi v4489 c0_i32_1972
  let c64_i32_1973 : BitVec 32 := 64#32
  let v4491 : BitVec 32 := Scalar.muli v4490 c64_i32_1973
  let c56_i32_1974 : BitVec 32 := 56#32
  let v4492 : BitVec 32 := Scalar.addi v4491 c56_i32_1974
  v4492
def k0_mult17 (k0_t2 : Fin k0_t2_loop.trips) : BitVec 32 :=
  let c0_i32_962 : BitVec 32 := 0#32
  let c1_i32_963 : BitVec 32 := 1#32
  let arg15 : BitVec 32 := Scf.iv c0_i32_962 c1_i32_963 k0_t2
  let c3_i32_1971 : BitVec 32 := 3#32
  let v4489 : BitVec 32 := Scalar.muli arg15 c3_i32_1971
  let c0_i32_1972 : BitVec 32 := 0#32
  let v4490 : BitVec 32 := Scalar.addi v4489 c0_i32_1972
  let c64_i32_1979 : BitVec 32 := 64#32
  let v4505 : BitVec 32 := Scalar.muli v4490 c64_i32_1979
  v4505
def k0_off42 (k0_t2 : Fin k0_t2_loop.trips) (c0_i32_1972 : BitVec 32) : Fin 3 → Nat :=
  let c0_1980 : Index := 0#32
  let c0_i32_962 : BitVec 32 := 0#32
  let c1_i32_963 : BitVec 32 := 1#32
  let arg15 : BitVec 32 := Scf.iv c0_i32_962 c1_i32_963 k0_t2
  let c3_i32_1971 : BitVec 32 := 3#32
  let v4489 : BitVec 32 := Scalar.muli arg15 c3_i32_1971
  let v4490 : BitVec 32 := Scalar.addi v4489 c0_i32_1972
  let c64_i32_1979 : BitVec 32 := 64#32
  let v4505 : BitVec 32 := Scalar.muli v4490 c64_i32_1979
  let v4506 : BitVec 32 := v4505
  let v4507 : Index := Scalar.indexCast v4506
  let c128_1981 : Index := 128#32
  ![0, v4507.toNat, 128]
def k0_mult18 (k0_t2 : Fin k0_t2_loop.trips) : BitVec 32 :=
  let c0_i32_962 : BitVec 32 := 0#32
  let c1_i32_963 : BitVec 32 := 1#32
  let arg15 : BitVec 32 := Scf.iv c0_i32_962 c1_i32_963 k0_t2
  let c3_i32_1984 : BitVec 32 := 3#32
  let v4518 : BitVec 32 := Scalar.muli arg15 c3_i32_1984
  let c0_i32_1985 : BitVec 32 := 0#32
  let v4519 : BitVec 32 := Scalar.addi v4518 c0_i32_1985
  let c64_i32_1986 : BitVec 32 := 64#32
  let v4520 : BitVec 32 := Scalar.muli v4519 c64_i32_1986
  let c56_i32_1987 : BitVec 32 := 56#32
  let v4521 : BitVec 32 := Scalar.addi v4520 c56_i32_1987
  v4521
def k0_mult19 (k0_t2 : Fin k0_t2_loop.trips) : BitVec 32 :=
  let c0_i32_962 : BitVec 32 := 0#32
  let c1_i32_963 : BitVec 32 := 1#32
  let arg15 : BitVec 32 := Scf.iv c0_i32_962 c1_i32_963 k0_t2
  let c3_i32_1984 : BitVec 32 := 3#32
  let v4518 : BitVec 32 := Scalar.muli arg15 c3_i32_1984
  let c0_i32_1985 : BitVec 32 := 0#32
  let v4519 : BitVec 32 := Scalar.addi v4518 c0_i32_1985
  let c64_i32_1992 : BitVec 32 := 64#32
  let v4534 : BitVec 32 := Scalar.muli v4519 c64_i32_1992
  v4534
def k0_off43 (k0_t2 : Fin k0_t2_loop.trips) (c0_i32_1985 : BitVec 32) : Fin 3 → Nat :=
  let c0_1993 : Index := 0#32
  let c0_i32_962 : BitVec 32 := 0#32
  let c1_i32_963 : BitVec 32 := 1#32
  let arg15 : BitVec 32 := Scf.iv c0_i32_962 c1_i32_963 k0_t2
  let c3_i32_1984 : BitVec 32 := 3#32
  let v4518 : BitVec 32 := Scalar.muli arg15 c3_i32_1984
  let v4519 : BitVec 32 := Scalar.addi v4518 c0_i32_1985
  let c64_i32_1992 : BitVec 32 := 64#32
  let v4534 : BitVec 32 := Scalar.muli v4519 c64_i32_1992
  let v4535 : BitVec 32 := v4534
  let v4536 : Index := Scalar.indexCast v4535
  let c256_1994 : Index := 256#32
  ![0, v4536.toNat, 256]
def k0_mult20 (k0_t2 : Fin k0_t2_loop.trips) : BitVec 32 :=
  let c0_i32_962 : BitVec 32 := 0#32
  let c1_i32_963 : BitVec 32 := 1#32
  let arg15 : BitVec 32 := Scf.iv c0_i32_962 c1_i32_963 k0_t2
  let c3_i32_1997 : BitVec 32 := 3#32
  let v4547 : BitVec 32 := Scalar.muli arg15 c3_i32_1997
  let c0_i32_1998 : BitVec 32 := 0#32
  let v4548 : BitVec 32 := Scalar.addi v4547 c0_i32_1998
  let c64_i32_1999 : BitVec 32 := 64#32
  let v4549 : BitVec 32 := Scalar.muli v4548 c64_i32_1999
  let c56_i32_2000 : BitVec 32 := 56#32
  let v4550 : BitVec 32 := Scalar.addi v4549 c56_i32_2000
  v4550
def k0_mult21 (k0_t2 : Fin k0_t2_loop.trips) : BitVec 32 :=
  let c0_i32_962 : BitVec 32 := 0#32
  let c1_i32_963 : BitVec 32 := 1#32
  let arg15 : BitVec 32 := Scf.iv c0_i32_962 c1_i32_963 k0_t2
  let c3_i32_1997 : BitVec 32 := 3#32
  let v4547 : BitVec 32 := Scalar.muli arg15 c3_i32_1997
  let c0_i32_1998 : BitVec 32 := 0#32
  let v4548 : BitVec 32 := Scalar.addi v4547 c0_i32_1998
  let c64_i32_2005 : BitVec 32 := 64#32
  let v4563 : BitVec 32 := Scalar.muli v4548 c64_i32_2005
  v4563
def k0_off44 (k0_t2 : Fin k0_t2_loop.trips) (c0_i32_1998 : BitVec 32) : Fin 3 → Nat :=
  let c0_2006 : Index := 0#32
  let c0_i32_962 : BitVec 32 := 0#32
  let c1_i32_963 : BitVec 32 := 1#32
  let arg15 : BitVec 32 := Scf.iv c0_i32_962 c1_i32_963 k0_t2
  let c3_i32_1997 : BitVec 32 := 3#32
  let v4547 : BitVec 32 := Scalar.muli arg15 c3_i32_1997
  let v4548 : BitVec 32 := Scalar.addi v4547 c0_i32_1998
  let c64_i32_2005 : BitVec 32 := 64#32
  let v4563 : BitVec 32 := Scalar.muli v4548 c64_i32_2005
  let v4564 : BitVec 32 := v4563
  let v4565 : Index := Scalar.indexCast v4564
  let c384_2007 : Index := 384#32
  ![0, v4565.toNat, 384]
def k0_mult22 (k0_t2 : Fin k0_t2_loop.trips) : BitVec 32 :=
  let c32_i32_2012 : BitVec 32 := 32#32
  let c0_i32_962 : BitVec 32 := 0#32
  let c1_i32_963 : BitVec 32 := 1#32
  let arg15 : BitVec 32 := Scf.iv c0_i32_962 c1_i32_963 k0_t2
  let c3_i32_2010 : BitVec 32 := 3#32
  let v4576 : BitVec 32 := Scalar.muli arg15 c3_i32_2010
  let c0_i32_2011 : BitVec 32 := 0#32
  let v4577 : BitVec 32 := Scalar.addi v4576 c0_i32_2011
  let v4578 : BitVec 32 := Scalar.subi c32_i32_2012 v4577
  let c64_i32_2013 : BitVec 32 := 64#32
  let v4579 : BitVec 32 := Scalar.muli v4578 c64_i32_2013
  let c0_i32_2014 : BitVec 32 := 0#32
  let v4580 : BitVec 32 := Scalar.addi v4579 c0_i32_2014
  v4580
def k0_off45 (k0_t2 : Fin k0_t2_loop.trips) (c0_i32_2011 : BitVec 32) : Fin 2 → Nat :=
  let c32_i32_2012 : BitVec 32 := 32#32
  let c0_i32_962 : BitVec 32 := 0#32
  let c1_i32_963 : BitVec 32 := 1#32
  let arg15 : BitVec 32 := Scf.iv c0_i32_962 c1_i32_963 k0_t2
  let c3_i32_2010 : BitVec 32 := 3#32
  let v4576 : BitVec 32 := Scalar.muli arg15 c3_i32_2010
  let v4577 : BitVec 32 := Scalar.addi v4576 c0_i32_2011
  let v4578 : BitVec 32 := Scalar.subi c32_i32_2012 v4577
  let c64_i32_2013 : BitVec 32 := 64#32
  let v4579 : BitVec 32 := Scalar.muli v4578 c64_i32_2013
  let c0_i32_2014 : BitVec 32 := 0#32
  let v4580 : BitVec 32 := Scalar.addi v4579 c0_i32_2014
  let v4581 : BitVec 32 := v4580
  let v4582 : Index := Scalar.indexCast v4581
  let c0_2015 : Index := 0#32
  ![v4582.toNat, 0]
def k0_mult23 (k0_t2 : Fin k0_t2_loop.trips) : BitVec 32 :=
  let c32_i32_2012 : BitVec 32 := 32#32
  let c0_i32_962 : BitVec 32 := 0#32
  let c1_i32_963 : BitVec 32 := 1#32
  let arg15 : BitVec 32 := Scf.iv c0_i32_962 c1_i32_963 k0_t2
  let c3_i32_2010 : BitVec 32 := 3#32
  let v4576 : BitVec 32 := Scalar.muli arg15 c3_i32_2010
  let c0_i32_2011 : BitVec 32 := 0#32
  let v4577 : BitVec 32 := Scalar.addi v4576 c0_i32_2011
  let v4578 : BitVec 32 := Scalar.subi c32_i32_2012 v4577
  let c64_i32_2019 : BitVec 32 := 64#32
  let v4593 : BitVec 32 := Scalar.muli v4578 c64_i32_2019
  v4593
def k0_off46 (k0_t2 : Fin k0_t2_loop.trips) (c0_i32_2011 : BitVec 32) : Fin 3 → Nat :=
  let c0_2020 : Index := 0#32
  let c32_i32_2012 : BitVec 32 := 32#32
  let c0_i32_962 : BitVec 32 := 0#32
  let c1_i32_963 : BitVec 32 := 1#32
  let arg15 : BitVec 32 := Scf.iv c0_i32_962 c1_i32_963 k0_t2
  let c3_i32_2010 : BitVec 32 := 3#32
  let v4576 : BitVec 32 := Scalar.muli arg15 c3_i32_2010
  let v4577 : BitVec 32 := Scalar.addi v4576 c0_i32_2011
  let v4578 : BitVec 32 := Scalar.subi c32_i32_2012 v4577
  let c64_i32_2019 : BitVec 32 := 64#32
  let v4593 : BitVec 32 := Scalar.muli v4578 c64_i32_2019
  let v4594 : BitVec 32 := v4593
  let v4595 : Index := Scalar.indexCast v4594
  let c0_2021 : Index := 0#32
  ![0, v4595.toNat, 0]
def k0_mult24 (k0_t2 : Fin k0_t2_loop.trips) : BitVec 32 :=
  let c32_i32_2026 : BitVec 32 := 32#32
  let c0_i32_962 : BitVec 32 := 0#32
  let c1_i32_963 : BitVec 32 := 1#32
  let arg15 : BitVec 32 := Scf.iv c0_i32_962 c1_i32_963 k0_t2
  let c3_i32_2024 : BitVec 32 := 3#32
  let v4606 : BitVec 32 := Scalar.muli arg15 c3_i32_2024
  let c0_i32_2025 : BitVec 32 := 0#32
  let v4607 : BitVec 32 := Scalar.addi v4606 c0_i32_2025
  let v4608 : BitVec 32 := Scalar.subi c32_i32_2026 v4607
  let c64_i32_2027 : BitVec 32 := 64#32
  let v4609 : BitVec 32 := Scalar.muli v4608 c64_i32_2027
  let c0_i32_2028 : BitVec 32 := 0#32
  let v4610 : BitVec 32 := Scalar.addi v4609 c0_i32_2028
  v4610
def k0_mult25 (k0_t2 : Fin k0_t2_loop.trips) : BitVec 32 :=
  let c32_i32_2026 : BitVec 32 := 32#32
  let c0_i32_962 : BitVec 32 := 0#32
  let c1_i32_963 : BitVec 32 := 1#32
  let arg15 : BitVec 32 := Scf.iv c0_i32_962 c1_i32_963 k0_t2
  let c3_i32_2024 : BitVec 32 := 3#32
  let v4606 : BitVec 32 := Scalar.muli arg15 c3_i32_2024
  let c0_i32_2025 : BitVec 32 := 0#32
  let v4607 : BitVec 32 := Scalar.addi v4606 c0_i32_2025
  let v4608 : BitVec 32 := Scalar.subi c32_i32_2026 v4607
  let c64_i32_2033 : BitVec 32 := 64#32
  let v4623 : BitVec 32 := Scalar.muli v4608 c64_i32_2033
  v4623
def k0_off47 (k0_t2 : Fin k0_t2_loop.trips) (c0_i32_2025 : BitVec 32) : Fin 3 → Nat :=
  let c0_2034 : Index := 0#32
  let c32_i32_2026 : BitVec 32 := 32#32
  let c0_i32_962 : BitVec 32 := 0#32
  let c1_i32_963 : BitVec 32 := 1#32
  let arg15 : BitVec 32 := Scf.iv c0_i32_962 c1_i32_963 k0_t2
  let c3_i32_2024 : BitVec 32 := 3#32
  let v4606 : BitVec 32 := Scalar.muli arg15 c3_i32_2024
  let v4607 : BitVec 32 := Scalar.addi v4606 c0_i32_2025
  let v4608 : BitVec 32 := Scalar.subi c32_i32_2026 v4607
  let c64_i32_2033 : BitVec 32 := 64#32
  let v4623 : BitVec 32 := Scalar.muli v4608 c64_i32_2033
  let v4624 : BitVec 32 := v4623
  let v4625 : Index := Scalar.indexCast v4624
  let c128_2035 : Index := 128#32
  ![0, v4625.toNat, 128]
def k0_mult26 (k0_t2 : Fin k0_t2_loop.trips) : BitVec 32 :=
  let c32_i32_2040 : BitVec 32 := 32#32
  let c0_i32_962 : BitVec 32 := 0#32
  let c1_i32_963 : BitVec 32 := 1#32
  let arg15 : BitVec 32 := Scf.iv c0_i32_962 c1_i32_963 k0_t2
  let c3_i32_2038 : BitVec 32 := 3#32
  let v4636 : BitVec 32 := Scalar.muli arg15 c3_i32_2038
  let c0_i32_2039 : BitVec 32 := 0#32
  let v4637 : BitVec 32 := Scalar.addi v4636 c0_i32_2039
  let v4638 : BitVec 32 := Scalar.subi c32_i32_2040 v4637
  let c64_i32_2041 : BitVec 32 := 64#32
  let v4639 : BitVec 32 := Scalar.muli v4638 c64_i32_2041
  let c0_i32_2042 : BitVec 32 := 0#32
  let v4640 : BitVec 32 := Scalar.addi v4639 c0_i32_2042
  v4640
def k0_mult27 (k0_t2 : Fin k0_t2_loop.trips) : BitVec 32 :=
  let c32_i32_2040 : BitVec 32 := 32#32
  let c0_i32_962 : BitVec 32 := 0#32
  let c1_i32_963 : BitVec 32 := 1#32
  let arg15 : BitVec 32 := Scf.iv c0_i32_962 c1_i32_963 k0_t2
  let c3_i32_2038 : BitVec 32 := 3#32
  let v4636 : BitVec 32 := Scalar.muli arg15 c3_i32_2038
  let c0_i32_2039 : BitVec 32 := 0#32
  let v4637 : BitVec 32 := Scalar.addi v4636 c0_i32_2039
  let v4638 : BitVec 32 := Scalar.subi c32_i32_2040 v4637
  let c64_i32_2047 : BitVec 32 := 64#32
  let v4653 : BitVec 32 := Scalar.muli v4638 c64_i32_2047
  v4653
def k0_off48 (k0_t2 : Fin k0_t2_loop.trips) (c0_i32_2039 : BitVec 32) : Fin 3 → Nat :=
  let c0_2048 : Index := 0#32
  let c32_i32_2040 : BitVec 32 := 32#32
  let c0_i32_962 : BitVec 32 := 0#32
  let c1_i32_963 : BitVec 32 := 1#32
  let arg15 : BitVec 32 := Scf.iv c0_i32_962 c1_i32_963 k0_t2
  let c3_i32_2038 : BitVec 32 := 3#32
  let v4636 : BitVec 32 := Scalar.muli arg15 c3_i32_2038
  let v4637 : BitVec 32 := Scalar.addi v4636 c0_i32_2039
  let v4638 : BitVec 32 := Scalar.subi c32_i32_2040 v4637
  let c64_i32_2047 : BitVec 32 := 64#32
  let v4653 : BitVec 32 := Scalar.muli v4638 c64_i32_2047
  let v4654 : BitVec 32 := v4653
  let v4655 : Index := Scalar.indexCast v4654
  let c256_2049 : Index := 256#32
  ![0, v4655.toNat, 256]
def k0_mult28 (k0_t2 : Fin k0_t2_loop.trips) : BitVec 32 :=
  let c32_i32_2054 : BitVec 32 := 32#32
  let c0_i32_962 : BitVec 32 := 0#32
  let c1_i32_963 : BitVec 32 := 1#32
  let arg15 : BitVec 32 := Scf.iv c0_i32_962 c1_i32_963 k0_t2
  let c3_i32_2052 : BitVec 32 := 3#32
  let v4666 : BitVec 32 := Scalar.muli arg15 c3_i32_2052
  let c0_i32_2053 : BitVec 32 := 0#32
  let v4667 : BitVec 32 := Scalar.addi v4666 c0_i32_2053
  let v4668 : BitVec 32 := Scalar.subi c32_i32_2054 v4667
  let c64_i32_2055 : BitVec 32 := 64#32
  let v4669 : BitVec 32 := Scalar.muli v4668 c64_i32_2055
  let c0_i32_2056 : BitVec 32 := 0#32
  let v4670 : BitVec 32 := Scalar.addi v4669 c0_i32_2056
  v4670
def k0_mult29 (k0_t2 : Fin k0_t2_loop.trips) : BitVec 32 :=
  let c32_i32_2054 : BitVec 32 := 32#32
  let c0_i32_962 : BitVec 32 := 0#32
  let c1_i32_963 : BitVec 32 := 1#32
  let arg15 : BitVec 32 := Scf.iv c0_i32_962 c1_i32_963 k0_t2
  let c3_i32_2052 : BitVec 32 := 3#32
  let v4666 : BitVec 32 := Scalar.muli arg15 c3_i32_2052
  let c0_i32_2053 : BitVec 32 := 0#32
  let v4667 : BitVec 32 := Scalar.addi v4666 c0_i32_2053
  let v4668 : BitVec 32 := Scalar.subi c32_i32_2054 v4667
  let c64_i32_2061 : BitVec 32 := 64#32
  let v4683 : BitVec 32 := Scalar.muli v4668 c64_i32_2061
  v4683
def k0_off49 (k0_t2 : Fin k0_t2_loop.trips) (c0_i32_2053 : BitVec 32) : Fin 3 → Nat :=
  let c0_2062 : Index := 0#32
  let c32_i32_2054 : BitVec 32 := 32#32
  let c0_i32_962 : BitVec 32 := 0#32
  let c1_i32_963 : BitVec 32 := 1#32
  let arg15 : BitVec 32 := Scf.iv c0_i32_962 c1_i32_963 k0_t2
  let c3_i32_2052 : BitVec 32 := 3#32
  let v4666 : BitVec 32 := Scalar.muli arg15 c3_i32_2052
  let v4667 : BitVec 32 := Scalar.addi v4666 c0_i32_2053
  let v4668 : BitVec 32 := Scalar.subi c32_i32_2054 v4667
  let c64_i32_2061 : BitVec 32 := 64#32
  let v4683 : BitVec 32 := Scalar.muli v4668 c64_i32_2061
  let v4684 : BitVec 32 := v4683
  let v4685 : Index := Scalar.indexCast v4684
  let c384_2063 : Index := 384#32
  ![0, v4685.toNat, 384]
def k0_off50 (k0_t2 : Fin k0_t2_loop.trips) : Fin 4 → Nat :=
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v4856 : Index := Scalar.indexCast v3581
  let c1_2114 : Index := 1#32
  let c0_2115 : Index := 0#32
  let c0_2116 : Index := 0#32
  ![v4856.toNat, 1, 0, 0]
def k0_off51 (k0_t2 : Fin k0_t2_loop.trips) : Fin 4 → Nat :=
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v4861 : Index := Scalar.indexCast v3581
  let c4_2118 : Index := 4#32
  let c0_2119 : Index := 0#32
  let c0_2120 : Index := 0#32
  ![v4861.toNat, 4, 0, 0]
def k0_off52 (k0_t2 : Fin k0_t2_loop.trips) : Fin 4 → Nat :=
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v4866 : Index := Scalar.indexCast v3581
  let c7_2122 : Index := 7#32
  let c0_2123 : Index := 0#32
  let c0_2124 : Index := 0#32
  ![v4866.toNat, 7, 0, 0]
def k0_off53 (k0_t2 : Fin k0_t2_loop.trips) : Fin 4 → Nat :=
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v4871 : Index := Scalar.indexCast v3581
  let c10_2126 : Index := 10#32
  let c0_2127 : Index := 0#32
  let c0_2128 : Index := 0#32
  ![v4871.toNat, 10, 0, 0]
def k0_off54 (k0_t2 : Fin k0_t2_loop.trips) : Fin 4 → Nat :=
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v4876 : Index := Scalar.indexCast v3581
  let c13_2130 : Index := 13#32
  let c0_2131 : Index := 0#32
  let c0_2132 : Index := 0#32
  ![v4876.toNat, 13, 0, 0]
def k0_off55 (k0_t2 : Fin k0_t2_loop.trips) : Fin 4 → Nat :=
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v4881 : Index := Scalar.indexCast v3581
  let c16_2134 : Index := 16#32
  let c0_2135 : Index := 0#32
  let c0_2136 : Index := 0#32
  ![v4881.toNat, 16, 0, 0]
def k0_off56 (k0_t2 : Fin k0_t2_loop.trips) : Fin 4 → Nat :=
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v4886 : Index := Scalar.indexCast v3581
  let c19_2138 : Index := 19#32
  let c0_2139 : Index := 0#32
  let c0_2140 : Index := 0#32
  ![v4886.toNat, 19, 0, 0]
def k0_off57 (k0_t2 : Fin k0_t2_loop.trips) : Fin 4 → Nat :=
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v4891 : Index := Scalar.indexCast v3581
  let c22_2142 : Index := 22#32
  let c0_2143 : Index := 0#32
  let c0_2144 : Index := 0#32
  ![v4891.toNat, 22, 0, 0]
def k0_off58 (k0_t2 : Fin k0_t2_loop.trips) : Fin 4 → Nat :=
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v4980 : Index := Scalar.indexCast v3581
  let c1_2170 : Index := 1#32
  let c0_2171 : Index := 0#32
  let c0_2172 : Index := 0#32
  ![v4980.toNat, 1, 0, 0]
def k0_off59 (k0_t2 : Fin k0_t2_loop.trips) : Fin 4 → Nat :=
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v4985 : Index := Scalar.indexCast v3581
  let c4_2173 : Index := 4#32
  let c0_2174 : Index := 0#32
  let c0_2175 : Index := 0#32
  ![v4985.toNat, 4, 0, 0]
def k0_off60 (k0_t2 : Fin k0_t2_loop.trips) : Fin 4 → Nat :=
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v4990 : Index := Scalar.indexCast v3581
  let c7_2176 : Index := 7#32
  let c0_2177 : Index := 0#32
  let c0_2178 : Index := 0#32
  ![v4990.toNat, 7, 0, 0]
def k0_off61 (k0_t2 : Fin k0_t2_loop.trips) : Fin 4 → Nat :=
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v4995 : Index := Scalar.indexCast v3581
  let c10_2179 : Index := 10#32
  let c0_2180 : Index := 0#32
  let c0_2181 : Index := 0#32
  ![v4995.toNat, 10, 0, 0]
def k0_off62 (k0_t2 : Fin k0_t2_loop.trips) : Fin 4 → Nat :=
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v5000 : Index := Scalar.indexCast v3581
  let c13_2182 : Index := 13#32
  let c0_2183 : Index := 0#32
  let c0_2184 : Index := 0#32
  ![v5000.toNat, 13, 0, 0]
def k0_off63 (k0_t2 : Fin k0_t2_loop.trips) : Fin 4 → Nat :=
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v5005 : Index := Scalar.indexCast v3581
  let c16_2185 : Index := 16#32
  let c0_2186 : Index := 0#32
  let c0_2187 : Index := 0#32
  ![v5005.toNat, 16, 0, 0]
def k0_off64 (k0_t2 : Fin k0_t2_loop.trips) : Fin 4 → Nat :=
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v5010 : Index := Scalar.indexCast v3581
  let c19_2188 : Index := 19#32
  let c0_2189 : Index := 0#32
  let c0_2190 : Index := 0#32
  ![v5010.toNat, 19, 0, 0]
def k0_off65 (k0_t2 : Fin k0_t2_loop.trips) : Fin 4 → Nat :=
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v5015 : Index := Scalar.indexCast v3581
  let c22_2191 : Index := 22#32
  let c0_2192 : Index := 0#32
  let c0_2193 : Index := 0#32
  ![v5015.toNat, 22, 0, 0]
def k0_off66 (k0_t2 : Fin k0_t2_loop.trips) : Fin 4 → Nat :=
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v5020 : Index := Scalar.indexCast v3581
  let c1_2194 : Index := 1#32
  let c0_2195 : Index := 0#32
  let c0_2196 : Index := 0#32
  ![v5020.toNat, 1, 0, 0]
def k0_off67 (k0_t2 : Fin k0_t2_loop.trips) : Fin 4 → Nat :=
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v5025 : Index := Scalar.indexCast v3581
  let c4_2198 : Index := 4#32
  let c0_2199 : Index := 0#32
  let c0_2200 : Index := 0#32
  ![v5025.toNat, 4, 0, 0]
def k0_off68 (k0_t2 : Fin k0_t2_loop.trips) : Fin 4 → Nat :=
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v5030 : Index := Scalar.indexCast v3581
  let c7_2202 : Index := 7#32
  let c0_2203 : Index := 0#32
  let c0_2204 : Index := 0#32
  ![v5030.toNat, 7, 0, 0]
def k0_off69 (k0_t2 : Fin k0_t2_loop.trips) : Fin 4 → Nat :=
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v5035 : Index := Scalar.indexCast v3581
  let c10_2206 : Index := 10#32
  let c0_2207 : Index := 0#32
  let c0_2208 : Index := 0#32
  ![v5035.toNat, 10, 0, 0]
def k0_off70 (k0_t2 : Fin k0_t2_loop.trips) : Fin 4 → Nat :=
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v5040 : Index := Scalar.indexCast v3581
  let c13_2210 : Index := 13#32
  let c0_2211 : Index := 0#32
  let c0_2212 : Index := 0#32
  ![v5040.toNat, 13, 0, 0]
def k0_off71 (k0_t2 : Fin k0_t2_loop.trips) : Fin 4 → Nat :=
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v5045 : Index := Scalar.indexCast v3581
  let c16_2214 : Index := 16#32
  let c0_2215 : Index := 0#32
  let c0_2216 : Index := 0#32
  ![v5045.toNat, 16, 0, 0]
def k0_off72 (k0_t2 : Fin k0_t2_loop.trips) : Fin 4 → Nat :=
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v5050 : Index := Scalar.indexCast v3581
  let c19_2218 : Index := 19#32
  let c0_2219 : Index := 0#32
  let c0_2220 : Index := 0#32
  ![v5050.toNat, 19, 0, 0]
def k0_off73 (k0_t2 : Fin k0_t2_loop.trips) : Fin 4 → Nat :=
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v5055 : Index := Scalar.indexCast v3581
  let c22_2222 : Index := 22#32
  let c0_2223 : Index := 0#32
  let c0_2224 : Index := 0#32
  ![v5055.toNat, 22, 0, 0]
def k0_mult30 (k0_t2 : Fin k0_t2_loop.trips) : BitVec 32 :=
  let c0_i32_962 : BitVec 32 := 0#32
  let c1_i32_963 : BitVec 32 := 1#32
  let arg15 : BitVec 32 := Scf.iv c0_i32_962 c1_i32_963 k0_t2
  let c3_i32_2226 : BitVec 32 := 3#32
  let v5060 : BitVec 32 := Scalar.muli arg15 c3_i32_2226
  let c1_i32_2227 : BitVec 32 := 1#32
  let v5061 : BitVec 32 := Scalar.addi v5060 c1_i32_2227
  let c64_i32_2228 : BitVec 32 := 64#32
  let v5062 : BitVec 32 := Scalar.muli v5061 c64_i32_2228
  let c56_i32_2229 : BitVec 32 := 56#32
  let v5063 : BitVec 32 := Scalar.addi v5062 c56_i32_2229
  v5063
def k0_mult31 (k0_t2 : Fin k0_t2_loop.trips) : BitVec 32 :=
  let c0_i32_962 : BitVec 32 := 0#32
  let c1_i32_963 : BitVec 32 := 1#32
  let arg15 : BitVec 32 := Scf.iv c0_i32_962 c1_i32_963 k0_t2
  let c3_i32_2226 : BitVec 32 := 3#32
  let v5060 : BitVec 32 := Scalar.muli arg15 c3_i32_2226
  let c1_i32_2227 : BitVec 32 := 1#32
  let v5061 : BitVec 32 := Scalar.addi v5060 c1_i32_2227
  let c64_i32_2234 : BitVec 32 := 64#32
  let v5076 : BitVec 32 := Scalar.muli v5061 c64_i32_2234
  v5076
def k0_mult32 (k0_t2 : Fin k0_t2_loop.trips) : BitVec 32 :=
  let c0_i32_962 : BitVec 32 := 0#32
  let c1_i32_963 : BitVec 32 := 1#32
  let arg15 : BitVec 32 := Scf.iv c0_i32_962 c1_i32_963 k0_t2
  let c3_i32_2239 : BitVec 32 := 3#32
  let v5089 : BitVec 32 := Scalar.muli arg15 c3_i32_2239
  let c1_i32_2240 : BitVec 32 := 1#32
  let v5090 : BitVec 32 := Scalar.addi v5089 c1_i32_2240
  let c64_i32_2241 : BitVec 32 := 64#32
  let v5091 : BitVec 32 := Scalar.muli v5090 c64_i32_2241
  let c56_i32_2242 : BitVec 32 := 56#32
  let v5092 : BitVec 32 := Scalar.addi v5091 c56_i32_2242
  v5092
def k0_mult33 (k0_t2 : Fin k0_t2_loop.trips) : BitVec 32 :=
  let c0_i32_962 : BitVec 32 := 0#32
  let c1_i32_963 : BitVec 32 := 1#32
  let arg15 : BitVec 32 := Scf.iv c0_i32_962 c1_i32_963 k0_t2
  let c3_i32_2239 : BitVec 32 := 3#32
  let v5089 : BitVec 32 := Scalar.muli arg15 c3_i32_2239
  let c1_i32_2240 : BitVec 32 := 1#32
  let v5090 : BitVec 32 := Scalar.addi v5089 c1_i32_2240
  let c64_i32_2247 : BitVec 32 := 64#32
  let v5105 : BitVec 32 := Scalar.muli v5090 c64_i32_2247
  v5105
def k0_mult34 (k0_t2 : Fin k0_t2_loop.trips) : BitVec 32 :=
  let c0_i32_962 : BitVec 32 := 0#32
  let c1_i32_963 : BitVec 32 := 1#32
  let arg15 : BitVec 32 := Scf.iv c0_i32_962 c1_i32_963 k0_t2
  let c3_i32_2252 : BitVec 32 := 3#32
  let v5118 : BitVec 32 := Scalar.muli arg15 c3_i32_2252
  let c1_i32_2253 : BitVec 32 := 1#32
  let v5119 : BitVec 32 := Scalar.addi v5118 c1_i32_2253
  let c64_i32_2254 : BitVec 32 := 64#32
  let v5120 : BitVec 32 := Scalar.muli v5119 c64_i32_2254
  let c56_i32_2255 : BitVec 32 := 56#32
  let v5121 : BitVec 32 := Scalar.addi v5120 c56_i32_2255
  v5121
def k0_mult35 (k0_t2 : Fin k0_t2_loop.trips) : BitVec 32 :=
  let c0_i32_962 : BitVec 32 := 0#32
  let c1_i32_963 : BitVec 32 := 1#32
  let arg15 : BitVec 32 := Scf.iv c0_i32_962 c1_i32_963 k0_t2
  let c3_i32_2252 : BitVec 32 := 3#32
  let v5118 : BitVec 32 := Scalar.muli arg15 c3_i32_2252
  let c1_i32_2253 : BitVec 32 := 1#32
  let v5119 : BitVec 32 := Scalar.addi v5118 c1_i32_2253
  let c64_i32_2260 : BitVec 32 := 64#32
  let v5134 : BitVec 32 := Scalar.muli v5119 c64_i32_2260
  v5134
def k0_mult36 (k0_t2 : Fin k0_t2_loop.trips) : BitVec 32 :=
  let c0_i32_962 : BitVec 32 := 0#32
  let c1_i32_963 : BitVec 32 := 1#32
  let arg15 : BitVec 32 := Scf.iv c0_i32_962 c1_i32_963 k0_t2
  let c3_i32_2265 : BitVec 32 := 3#32
  let v5147 : BitVec 32 := Scalar.muli arg15 c3_i32_2265
  let c1_i32_2266 : BitVec 32 := 1#32
  let v5148 : BitVec 32 := Scalar.addi v5147 c1_i32_2266
  let c64_i32_2267 : BitVec 32 := 64#32
  let v5149 : BitVec 32 := Scalar.muli v5148 c64_i32_2267
  let c56_i32_2268 : BitVec 32 := 56#32
  let v5150 : BitVec 32 := Scalar.addi v5149 c56_i32_2268
  v5150
def k0_mult37 (k0_t2 : Fin k0_t2_loop.trips) : BitVec 32 :=
  let c0_i32_962 : BitVec 32 := 0#32
  let c1_i32_963 : BitVec 32 := 1#32
  let arg15 : BitVec 32 := Scf.iv c0_i32_962 c1_i32_963 k0_t2
  let c3_i32_2265 : BitVec 32 := 3#32
  let v5147 : BitVec 32 := Scalar.muli arg15 c3_i32_2265
  let c1_i32_2266 : BitVec 32 := 1#32
  let v5148 : BitVec 32 := Scalar.addi v5147 c1_i32_2266
  let c64_i32_2273 : BitVec 32 := 64#32
  let v5163 : BitVec 32 := Scalar.muli v5148 c64_i32_2273
  v5163
def k0_mult38 (k0_t2 : Fin k0_t2_loop.trips) : BitVec 32 :=
  let c32_i32_2280 : BitVec 32 := 32#32
  let c0_i32_962 : BitVec 32 := 0#32
  let c1_i32_963 : BitVec 32 := 1#32
  let arg15 : BitVec 32 := Scf.iv c0_i32_962 c1_i32_963 k0_t2
  let c3_i32_2278 : BitVec 32 := 3#32
  let v5176 : BitVec 32 := Scalar.muli arg15 c3_i32_2278
  let c1_i32_2279 : BitVec 32 := 1#32
  let v5177 : BitVec 32 := Scalar.addi v5176 c1_i32_2279
  let v5178 : BitVec 32 := Scalar.subi c32_i32_2280 v5177
  let c64_i32_2281 : BitVec 32 := 64#32
  let v5179 : BitVec 32 := Scalar.muli v5178 c64_i32_2281
  let c0_i32_2282 : BitVec 32 := 0#32
  let v5180 : BitVec 32 := Scalar.addi v5179 c0_i32_2282
  v5180
def k0_mult39 (k0_t2 : Fin k0_t2_loop.trips) : BitVec 32 :=
  let c32_i32_2280 : BitVec 32 := 32#32
  let c0_i32_962 : BitVec 32 := 0#32
  let c1_i32_963 : BitVec 32 := 1#32
  let arg15 : BitVec 32 := Scf.iv c0_i32_962 c1_i32_963 k0_t2
  let c3_i32_2278 : BitVec 32 := 3#32
  let v5176 : BitVec 32 := Scalar.muli arg15 c3_i32_2278
  let c1_i32_2279 : BitVec 32 := 1#32
  let v5177 : BitVec 32 := Scalar.addi v5176 c1_i32_2279
  let v5178 : BitVec 32 := Scalar.subi c32_i32_2280 v5177
  let c64_i32_2287 : BitVec 32 := 64#32
  let v5193 : BitVec 32 := Scalar.muli v5178 c64_i32_2287
  v5193
def k0_mult40 (k0_t2 : Fin k0_t2_loop.trips) : BitVec 32 :=
  let c32_i32_2294 : BitVec 32 := 32#32
  let c0_i32_962 : BitVec 32 := 0#32
  let c1_i32_963 : BitVec 32 := 1#32
  let arg15 : BitVec 32 := Scf.iv c0_i32_962 c1_i32_963 k0_t2
  let c3_i32_2292 : BitVec 32 := 3#32
  let v5206 : BitVec 32 := Scalar.muli arg15 c3_i32_2292
  let c1_i32_2293 : BitVec 32 := 1#32
  let v5207 : BitVec 32 := Scalar.addi v5206 c1_i32_2293
  let v5208 : BitVec 32 := Scalar.subi c32_i32_2294 v5207
  let c64_i32_2295 : BitVec 32 := 64#32
  let v5209 : BitVec 32 := Scalar.muli v5208 c64_i32_2295
  let c0_i32_2296 : BitVec 32 := 0#32
  let v5210 : BitVec 32 := Scalar.addi v5209 c0_i32_2296
  v5210
def k0_mult41 (k0_t2 : Fin k0_t2_loop.trips) : BitVec 32 :=
  let c32_i32_2294 : BitVec 32 := 32#32
  let c0_i32_962 : BitVec 32 := 0#32
  let c1_i32_963 : BitVec 32 := 1#32
  let arg15 : BitVec 32 := Scf.iv c0_i32_962 c1_i32_963 k0_t2
  let c3_i32_2292 : BitVec 32 := 3#32
  let v5206 : BitVec 32 := Scalar.muli arg15 c3_i32_2292
  let c1_i32_2293 : BitVec 32 := 1#32
  let v5207 : BitVec 32 := Scalar.addi v5206 c1_i32_2293
  let v5208 : BitVec 32 := Scalar.subi c32_i32_2294 v5207
  let c64_i32_2301 : BitVec 32 := 64#32
  let v5223 : BitVec 32 := Scalar.muli v5208 c64_i32_2301
  v5223
def k0_mult42 (k0_t2 : Fin k0_t2_loop.trips) : BitVec 32 :=
  let c32_i32_2308 : BitVec 32 := 32#32
  let c0_i32_962 : BitVec 32 := 0#32
  let c1_i32_963 : BitVec 32 := 1#32
  let arg15 : BitVec 32 := Scf.iv c0_i32_962 c1_i32_963 k0_t2
  let c3_i32_2306 : BitVec 32 := 3#32
  let v5236 : BitVec 32 := Scalar.muli arg15 c3_i32_2306
  let c1_i32_2307 : BitVec 32 := 1#32
  let v5237 : BitVec 32 := Scalar.addi v5236 c1_i32_2307
  let v5238 : BitVec 32 := Scalar.subi c32_i32_2308 v5237
  let c64_i32_2309 : BitVec 32 := 64#32
  let v5239 : BitVec 32 := Scalar.muli v5238 c64_i32_2309
  let c0_i32_2310 : BitVec 32 := 0#32
  let v5240 : BitVec 32 := Scalar.addi v5239 c0_i32_2310
  v5240
def k0_mult43 (k0_t2 : Fin k0_t2_loop.trips) : BitVec 32 :=
  let c32_i32_2308 : BitVec 32 := 32#32
  let c0_i32_962 : BitVec 32 := 0#32
  let c1_i32_963 : BitVec 32 := 1#32
  let arg15 : BitVec 32 := Scf.iv c0_i32_962 c1_i32_963 k0_t2
  let c3_i32_2306 : BitVec 32 := 3#32
  let v5236 : BitVec 32 := Scalar.muli arg15 c3_i32_2306
  let c1_i32_2307 : BitVec 32 := 1#32
  let v5237 : BitVec 32 := Scalar.addi v5236 c1_i32_2307
  let v5238 : BitVec 32 := Scalar.subi c32_i32_2308 v5237
  let c64_i32_2315 : BitVec 32 := 64#32
  let v5253 : BitVec 32 := Scalar.muli v5238 c64_i32_2315
  v5253
def k0_mult44 (k0_t2 : Fin k0_t2_loop.trips) : BitVec 32 :=
  let c32_i32_2322 : BitVec 32 := 32#32
  let c0_i32_962 : BitVec 32 := 0#32
  let c1_i32_963 : BitVec 32 := 1#32
  let arg15 : BitVec 32 := Scf.iv c0_i32_962 c1_i32_963 k0_t2
  let c3_i32_2320 : BitVec 32 := 3#32
  let v5266 : BitVec 32 := Scalar.muli arg15 c3_i32_2320
  let c1_i32_2321 : BitVec 32 := 1#32
  let v5267 : BitVec 32 := Scalar.addi v5266 c1_i32_2321
  let v5268 : BitVec 32 := Scalar.subi c32_i32_2322 v5267
  let c64_i32_2323 : BitVec 32 := 64#32
  let v5269 : BitVec 32 := Scalar.muli v5268 c64_i32_2323
  let c0_i32_2324 : BitVec 32 := 0#32
  let v5270 : BitVec 32 := Scalar.addi v5269 c0_i32_2324
  v5270
def k0_mult45 (k0_t2 : Fin k0_t2_loop.trips) : BitVec 32 :=
  let c32_i32_2322 : BitVec 32 := 32#32
  let c0_i32_962 : BitVec 32 := 0#32
  let c1_i32_963 : BitVec 32 := 1#32
  let arg15 : BitVec 32 := Scf.iv c0_i32_962 c1_i32_963 k0_t2
  let c3_i32_2320 : BitVec 32 := 3#32
  let v5266 : BitVec 32 := Scalar.muli arg15 c3_i32_2320
  let c1_i32_2321 : BitVec 32 := 1#32
  let v5267 : BitVec 32 := Scalar.addi v5266 c1_i32_2321
  let v5268 : BitVec 32 := Scalar.subi c32_i32_2322 v5267
  let c64_i32_2329 : BitVec 32 := 64#32
  let v5283 : BitVec 32 := Scalar.muli v5268 c64_i32_2329
  v5283
def k0_off74 (k0_t2 : Fin k0_t2_loop.trips) : Fin 4 → Nat :=
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v5419 : Index := Scalar.indexCast v3581
  let c2_2398 : Index := 2#32
  let c0_2399 : Index := 0#32
  let c0_2400 : Index := 0#32
  ![v5419.toNat, 2, 0, 0]
def k0_off75 (k0_t2 : Fin k0_t2_loop.trips) : Fin 4 → Nat :=
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v5424 : Index := Scalar.indexCast v3581
  let c5_2402 : Index := 5#32
  let c0_2403 : Index := 0#32
  let c0_2404 : Index := 0#32
  ![v5424.toNat, 5, 0, 0]
def k0_off76 (k0_t2 : Fin k0_t2_loop.trips) : Fin 4 → Nat :=
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v5429 : Index := Scalar.indexCast v3581
  let c8_2406 : Index := 8#32
  let c0_2407 : Index := 0#32
  let c0_2408 : Index := 0#32
  ![v5429.toNat, 8, 0, 0]
def k0_off77 (k0_t2 : Fin k0_t2_loop.trips) : Fin 4 → Nat :=
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v5434 : Index := Scalar.indexCast v3581
  let c11_2410 : Index := 11#32
  let c0_2411 : Index := 0#32
  let c0_2412 : Index := 0#32
  ![v5434.toNat, 11, 0, 0]
def k0_off78 (k0_t2 : Fin k0_t2_loop.trips) : Fin 4 → Nat :=
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v5439 : Index := Scalar.indexCast v3581
  let c14_2414 : Index := 14#32
  let c0_2415 : Index := 0#32
  let c0_2416 : Index := 0#32
  ![v5439.toNat, 14, 0, 0]
def k0_off79 (k0_t2 : Fin k0_t2_loop.trips) : Fin 4 → Nat :=
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v5444 : Index := Scalar.indexCast v3581
  let c17_2418 : Index := 17#32
  let c0_2419 : Index := 0#32
  let c0_2420 : Index := 0#32
  ![v5444.toNat, 17, 0, 0]
def k0_off80 (k0_t2 : Fin k0_t2_loop.trips) : Fin 4 → Nat :=
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v5449 : Index := Scalar.indexCast v3581
  let c20_2422 : Index := 20#32
  let c0_2423 : Index := 0#32
  let c0_2424 : Index := 0#32
  ![v5449.toNat, 20, 0, 0]
def k0_off81 (k0_t2 : Fin k0_t2_loop.trips) : Fin 4 → Nat :=
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v5454 : Index := Scalar.indexCast v3581
  let c23_2426 : Index := 23#32
  let c0_2427 : Index := 0#32
  let c0_2428 : Index := 0#32
  ![v5454.toNat, 23, 0, 0]
def k0_off82 (k0_t2 : Fin k0_t2_loop.trips) : Fin 4 → Nat :=
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v5543 : Index := Scalar.indexCast v3581
  let c2_2454 : Index := 2#32
  let c0_2455 : Index := 0#32
  let c0_2456 : Index := 0#32
  ![v5543.toNat, 2, 0, 0]
def k0_off83 (k0_t2 : Fin k0_t2_loop.trips) : Fin 4 → Nat :=
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v5548 : Index := Scalar.indexCast v3581
  let c5_2457 : Index := 5#32
  let c0_2458 : Index := 0#32
  let c0_2459 : Index := 0#32
  ![v5548.toNat, 5, 0, 0]
def k0_off84 (k0_t2 : Fin k0_t2_loop.trips) : Fin 4 → Nat :=
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v5553 : Index := Scalar.indexCast v3581
  let c8_2460 : Index := 8#32
  let c0_2461 : Index := 0#32
  let c0_2462 : Index := 0#32
  ![v5553.toNat, 8, 0, 0]
def k0_off85 (k0_t2 : Fin k0_t2_loop.trips) : Fin 4 → Nat :=
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v5558 : Index := Scalar.indexCast v3581
  let c11_2463 : Index := 11#32
  let c0_2464 : Index := 0#32
  let c0_2465 : Index := 0#32
  ![v5558.toNat, 11, 0, 0]
def k0_off86 (k0_t2 : Fin k0_t2_loop.trips) : Fin 4 → Nat :=
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v5563 : Index := Scalar.indexCast v3581
  let c14_2466 : Index := 14#32
  let c0_2467 : Index := 0#32
  let c0_2468 : Index := 0#32
  ![v5563.toNat, 14, 0, 0]
def k0_off87 (k0_t2 : Fin k0_t2_loop.trips) : Fin 4 → Nat :=
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v5568 : Index := Scalar.indexCast v3581
  let c17_2469 : Index := 17#32
  let c0_2470 : Index := 0#32
  let c0_2471 : Index := 0#32
  ![v5568.toNat, 17, 0, 0]
def k0_off88 (k0_t2 : Fin k0_t2_loop.trips) : Fin 4 → Nat :=
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v5573 : Index := Scalar.indexCast v3581
  let c20_2472 : Index := 20#32
  let c0_2473 : Index := 0#32
  let c0_2474 : Index := 0#32
  ![v5573.toNat, 20, 0, 0]
def k0_off89 (k0_t2 : Fin k0_t2_loop.trips) : Fin 4 → Nat :=
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v5578 : Index := Scalar.indexCast v3581
  let c23_2475 : Index := 23#32
  let c0_2476 : Index := 0#32
  let c0_2477 : Index := 0#32
  ![v5578.toNat, 23, 0, 0]
def k0_off90 (k0_t2 : Fin k0_t2_loop.trips) : Fin 4 → Nat :=
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v5583 : Index := Scalar.indexCast v3581
  let c2_2478 : Index := 2#32
  let c0_2479 : Index := 0#32
  let c0_2480 : Index := 0#32
  ![v5583.toNat, 2, 0, 0]
def k0_off91 (k0_t2 : Fin k0_t2_loop.trips) : Fin 4 → Nat :=
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v5588 : Index := Scalar.indexCast v3581
  let c5_2482 : Index := 5#32
  let c0_2483 : Index := 0#32
  let c0_2484 : Index := 0#32
  ![v5588.toNat, 5, 0, 0]
def k0_off92 (k0_t2 : Fin k0_t2_loop.trips) : Fin 4 → Nat :=
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v5593 : Index := Scalar.indexCast v3581
  let c8_2486 : Index := 8#32
  let c0_2487 : Index := 0#32
  let c0_2488 : Index := 0#32
  ![v5593.toNat, 8, 0, 0]
def k0_off93 (k0_t2 : Fin k0_t2_loop.trips) : Fin 4 → Nat :=
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v5598 : Index := Scalar.indexCast v3581
  let c11_2490 : Index := 11#32
  let c0_2491 : Index := 0#32
  let c0_2492 : Index := 0#32
  ![v5598.toNat, 11, 0, 0]
def k0_off94 (k0_t2 : Fin k0_t2_loop.trips) : Fin 4 → Nat :=
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v5603 : Index := Scalar.indexCast v3581
  let c14_2494 : Index := 14#32
  let c0_2495 : Index := 0#32
  let c0_2496 : Index := 0#32
  ![v5603.toNat, 14, 0, 0]
def k0_off95 (k0_t2 : Fin k0_t2_loop.trips) : Fin 4 → Nat :=
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v5608 : Index := Scalar.indexCast v3581
  let c17_2498 : Index := 17#32
  let c0_2499 : Index := 0#32
  let c0_2500 : Index := 0#32
  ![v5608.toNat, 17, 0, 0]
def k0_off96 (k0_t2 : Fin k0_t2_loop.trips) : Fin 4 → Nat :=
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v5613 : Index := Scalar.indexCast v3581
  let c20_2502 : Index := 20#32
  let c0_2503 : Index := 0#32
  let c0_2504 : Index := 0#32
  ![v5613.toNat, 20, 0, 0]
def k0_off97 (k0_t2 : Fin k0_t2_loop.trips) : Fin 4 → Nat :=
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v5618 : Index := Scalar.indexCast v3581
  let c23_2506 : Index := 23#32
  let c0_2507 : Index := 0#32
  let c0_2508 : Index := 0#32
  ![v5618.toNat, 23, 0, 0]
def k0_mult46 (k0_t2 : Fin k0_t2_loop.trips) : BitVec 32 :=
  let c0_i32_962 : BitVec 32 := 0#32
  let c1_i32_963 : BitVec 32 := 1#32
  let arg15 : BitVec 32 := Scf.iv c0_i32_962 c1_i32_963 k0_t2
  let c3_i32_2510 : BitVec 32 := 3#32
  let v5623 : BitVec 32 := Scalar.muli arg15 c3_i32_2510
  let c2_i32_2511 : BitVec 32 := 2#32
  let v5624 : BitVec 32 := Scalar.addi v5623 c2_i32_2511
  let c64_i32_2512 : BitVec 32 := 64#32
  let v5625 : BitVec 32 := Scalar.muli v5624 c64_i32_2512
  let c56_i32_2513 : BitVec 32 := 56#32
  let v5626 : BitVec 32 := Scalar.addi v5625 c56_i32_2513
  v5626
def k0_mult47 (k0_t2 : Fin k0_t2_loop.trips) : BitVec 32 :=
  let c0_i32_962 : BitVec 32 := 0#32
  let c1_i32_963 : BitVec 32 := 1#32
  let arg15 : BitVec 32 := Scf.iv c0_i32_962 c1_i32_963 k0_t2
  let c3_i32_2510 : BitVec 32 := 3#32
  let v5623 : BitVec 32 := Scalar.muli arg15 c3_i32_2510
  let c2_i32_2511 : BitVec 32 := 2#32
  let v5624 : BitVec 32 := Scalar.addi v5623 c2_i32_2511
  let c64_i32_2518 : BitVec 32 := 64#32
  let v5639 : BitVec 32 := Scalar.muli v5624 c64_i32_2518
  v5639
def k0_mult48 (k0_t2 : Fin k0_t2_loop.trips) : BitVec 32 :=
  let c0_i32_962 : BitVec 32 := 0#32
  let c1_i32_963 : BitVec 32 := 1#32
  let arg15 : BitVec 32 := Scf.iv c0_i32_962 c1_i32_963 k0_t2
  let c3_i32_2523 : BitVec 32 := 3#32
  let v5652 : BitVec 32 := Scalar.muli arg15 c3_i32_2523
  let c2_i32_2524 : BitVec 32 := 2#32
  let v5653 : BitVec 32 := Scalar.addi v5652 c2_i32_2524
  let c64_i32_2525 : BitVec 32 := 64#32
  let v5654 : BitVec 32 := Scalar.muli v5653 c64_i32_2525
  let c56_i32_2526 : BitVec 32 := 56#32
  let v5655 : BitVec 32 := Scalar.addi v5654 c56_i32_2526
  v5655
def k0_mult49 (k0_t2 : Fin k0_t2_loop.trips) : BitVec 32 :=
  let c0_i32_962 : BitVec 32 := 0#32
  let c1_i32_963 : BitVec 32 := 1#32
  let arg15 : BitVec 32 := Scf.iv c0_i32_962 c1_i32_963 k0_t2
  let c3_i32_2523 : BitVec 32 := 3#32
  let v5652 : BitVec 32 := Scalar.muli arg15 c3_i32_2523
  let c2_i32_2524 : BitVec 32 := 2#32
  let v5653 : BitVec 32 := Scalar.addi v5652 c2_i32_2524
  let c64_i32_2531 : BitVec 32 := 64#32
  let v5668 : BitVec 32 := Scalar.muli v5653 c64_i32_2531
  v5668
def k0_mult50 (k0_t2 : Fin k0_t2_loop.trips) : BitVec 32 :=
  let c0_i32_962 : BitVec 32 := 0#32
  let c1_i32_963 : BitVec 32 := 1#32
  let arg15 : BitVec 32 := Scf.iv c0_i32_962 c1_i32_963 k0_t2
  let c3_i32_2536 : BitVec 32 := 3#32
  let v5681 : BitVec 32 := Scalar.muli arg15 c3_i32_2536
  let c2_i32_2537 : BitVec 32 := 2#32
  let v5682 : BitVec 32 := Scalar.addi v5681 c2_i32_2537
  let c64_i32_2538 : BitVec 32 := 64#32
  let v5683 : BitVec 32 := Scalar.muli v5682 c64_i32_2538
  let c56_i32_2539 : BitVec 32 := 56#32
  let v5684 : BitVec 32 := Scalar.addi v5683 c56_i32_2539
  v5684
def k0_mult51 (k0_t2 : Fin k0_t2_loop.trips) : BitVec 32 :=
  let c0_i32_962 : BitVec 32 := 0#32
  let c1_i32_963 : BitVec 32 := 1#32
  let arg15 : BitVec 32 := Scf.iv c0_i32_962 c1_i32_963 k0_t2
  let c3_i32_2536 : BitVec 32 := 3#32
  let v5681 : BitVec 32 := Scalar.muli arg15 c3_i32_2536
  let c2_i32_2537 : BitVec 32 := 2#32
  let v5682 : BitVec 32 := Scalar.addi v5681 c2_i32_2537
  let c64_i32_2544 : BitVec 32 := 64#32
  let v5697 : BitVec 32 := Scalar.muli v5682 c64_i32_2544
  v5697
def k0_mult52 (k0_t2 : Fin k0_t2_loop.trips) : BitVec 32 :=
  let c0_i32_962 : BitVec 32 := 0#32
  let c1_i32_963 : BitVec 32 := 1#32
  let arg15 : BitVec 32 := Scf.iv c0_i32_962 c1_i32_963 k0_t2
  let c3_i32_2549 : BitVec 32 := 3#32
  let v5710 : BitVec 32 := Scalar.muli arg15 c3_i32_2549
  let c2_i32_2550 : BitVec 32 := 2#32
  let v5711 : BitVec 32 := Scalar.addi v5710 c2_i32_2550
  let c64_i32_2551 : BitVec 32 := 64#32
  let v5712 : BitVec 32 := Scalar.muli v5711 c64_i32_2551
  let c56_i32_2552 : BitVec 32 := 56#32
  let v5713 : BitVec 32 := Scalar.addi v5712 c56_i32_2552
  v5713
def k0_mult53 (k0_t2 : Fin k0_t2_loop.trips) : BitVec 32 :=
  let c0_i32_962 : BitVec 32 := 0#32
  let c1_i32_963 : BitVec 32 := 1#32
  let arg15 : BitVec 32 := Scf.iv c0_i32_962 c1_i32_963 k0_t2
  let c3_i32_2549 : BitVec 32 := 3#32
  let v5710 : BitVec 32 := Scalar.muli arg15 c3_i32_2549
  let c2_i32_2550 : BitVec 32 := 2#32
  let v5711 : BitVec 32 := Scalar.addi v5710 c2_i32_2550
  let c64_i32_2557 : BitVec 32 := 64#32
  let v5726 : BitVec 32 := Scalar.muli v5711 c64_i32_2557
  v5726
def k0_mult54 (k0_t2 : Fin k0_t2_loop.trips) : BitVec 32 :=
  let c32_i32_2564 : BitVec 32 := 32#32
  let c0_i32_962 : BitVec 32 := 0#32
  let c1_i32_963 : BitVec 32 := 1#32
  let arg15 : BitVec 32 := Scf.iv c0_i32_962 c1_i32_963 k0_t2
  let c3_i32_2562 : BitVec 32 := 3#32
  let v5739 : BitVec 32 := Scalar.muli arg15 c3_i32_2562
  let c2_i32_2563 : BitVec 32 := 2#32
  let v5740 : BitVec 32 := Scalar.addi v5739 c2_i32_2563
  let v5741 : BitVec 32 := Scalar.subi c32_i32_2564 v5740
  let c64_i32_2565 : BitVec 32 := 64#32
  let v5742 : BitVec 32 := Scalar.muli v5741 c64_i32_2565
  let c0_i32_2566 : BitVec 32 := 0#32
  let v5743 : BitVec 32 := Scalar.addi v5742 c0_i32_2566
  v5743
def k0_mult55 (k0_t2 : Fin k0_t2_loop.trips) : BitVec 32 :=
  let c32_i32_2564 : BitVec 32 := 32#32
  let c0_i32_962 : BitVec 32 := 0#32
  let c1_i32_963 : BitVec 32 := 1#32
  let arg15 : BitVec 32 := Scf.iv c0_i32_962 c1_i32_963 k0_t2
  let c3_i32_2562 : BitVec 32 := 3#32
  let v5739 : BitVec 32 := Scalar.muli arg15 c3_i32_2562
  let c2_i32_2563 : BitVec 32 := 2#32
  let v5740 : BitVec 32 := Scalar.addi v5739 c2_i32_2563
  let v5741 : BitVec 32 := Scalar.subi c32_i32_2564 v5740
  let c64_i32_2571 : BitVec 32 := 64#32
  let v5756 : BitVec 32 := Scalar.muli v5741 c64_i32_2571
  v5756
def k0_mult56 (k0_t2 : Fin k0_t2_loop.trips) : BitVec 32 :=
  let c32_i32_2578 : BitVec 32 := 32#32
  let c0_i32_962 : BitVec 32 := 0#32
  let c1_i32_963 : BitVec 32 := 1#32
  let arg15 : BitVec 32 := Scf.iv c0_i32_962 c1_i32_963 k0_t2
  let c3_i32_2576 : BitVec 32 := 3#32
  let v5769 : BitVec 32 := Scalar.muli arg15 c3_i32_2576
  let c2_i32_2577 : BitVec 32 := 2#32
  let v5770 : BitVec 32 := Scalar.addi v5769 c2_i32_2577
  let v5771 : BitVec 32 := Scalar.subi c32_i32_2578 v5770
  let c64_i32_2579 : BitVec 32 := 64#32
  let v5772 : BitVec 32 := Scalar.muli v5771 c64_i32_2579
  let c0_i32_2580 : BitVec 32 := 0#32
  let v5773 : BitVec 32 := Scalar.addi v5772 c0_i32_2580
  v5773
def k0_mult57 (k0_t2 : Fin k0_t2_loop.trips) : BitVec 32 :=
  let c32_i32_2578 : BitVec 32 := 32#32
  let c0_i32_962 : BitVec 32 := 0#32
  let c1_i32_963 : BitVec 32 := 1#32
  let arg15 : BitVec 32 := Scf.iv c0_i32_962 c1_i32_963 k0_t2
  let c3_i32_2576 : BitVec 32 := 3#32
  let v5769 : BitVec 32 := Scalar.muli arg15 c3_i32_2576
  let c2_i32_2577 : BitVec 32 := 2#32
  let v5770 : BitVec 32 := Scalar.addi v5769 c2_i32_2577
  let v5771 : BitVec 32 := Scalar.subi c32_i32_2578 v5770
  let c64_i32_2585 : BitVec 32 := 64#32
  let v5786 : BitVec 32 := Scalar.muli v5771 c64_i32_2585
  v5786
def k0_mult58 (k0_t2 : Fin k0_t2_loop.trips) : BitVec 32 :=
  let c32_i32_2592 : BitVec 32 := 32#32
  let c0_i32_962 : BitVec 32 := 0#32
  let c1_i32_963 : BitVec 32 := 1#32
  let arg15 : BitVec 32 := Scf.iv c0_i32_962 c1_i32_963 k0_t2
  let c3_i32_2590 : BitVec 32 := 3#32
  let v5799 : BitVec 32 := Scalar.muli arg15 c3_i32_2590
  let c2_i32_2591 : BitVec 32 := 2#32
  let v5800 : BitVec 32 := Scalar.addi v5799 c2_i32_2591
  let v5801 : BitVec 32 := Scalar.subi c32_i32_2592 v5800
  let c64_i32_2593 : BitVec 32 := 64#32
  let v5802 : BitVec 32 := Scalar.muli v5801 c64_i32_2593
  let c0_i32_2594 : BitVec 32 := 0#32
  let v5803 : BitVec 32 := Scalar.addi v5802 c0_i32_2594
  v5803
def k0_mult59 (k0_t2 : Fin k0_t2_loop.trips) : BitVec 32 :=
  let c32_i32_2592 : BitVec 32 := 32#32
  let c0_i32_962 : BitVec 32 := 0#32
  let c1_i32_963 : BitVec 32 := 1#32
  let arg15 : BitVec 32 := Scf.iv c0_i32_962 c1_i32_963 k0_t2
  let c3_i32_2590 : BitVec 32 := 3#32
  let v5799 : BitVec 32 := Scalar.muli arg15 c3_i32_2590
  let c2_i32_2591 : BitVec 32 := 2#32
  let v5800 : BitVec 32 := Scalar.addi v5799 c2_i32_2591
  let v5801 : BitVec 32 := Scalar.subi c32_i32_2592 v5800
  let c64_i32_2599 : BitVec 32 := 64#32
  let v5816 : BitVec 32 := Scalar.muli v5801 c64_i32_2599
  v5816
def k0_mult60 (k0_t2 : Fin k0_t2_loop.trips) : BitVec 32 :=
  let c32_i32_2606 : BitVec 32 := 32#32
  let c0_i32_962 : BitVec 32 := 0#32
  let c1_i32_963 : BitVec 32 := 1#32
  let arg15 : BitVec 32 := Scf.iv c0_i32_962 c1_i32_963 k0_t2
  let c3_i32_2604 : BitVec 32 := 3#32
  let v5829 : BitVec 32 := Scalar.muli arg15 c3_i32_2604
  let c2_i32_2605 : BitVec 32 := 2#32
  let v5830 : BitVec 32 := Scalar.addi v5829 c2_i32_2605
  let v5831 : BitVec 32 := Scalar.subi c32_i32_2606 v5830
  let c64_i32_2607 : BitVec 32 := 64#32
  let v5832 : BitVec 32 := Scalar.muli v5831 c64_i32_2607
  let c0_i32_2608 : BitVec 32 := 0#32
  let v5833 : BitVec 32 := Scalar.addi v5832 c0_i32_2608
  v5833
def k0_mult61 (k0_t2 : Fin k0_t2_loop.trips) : BitVec 32 :=
  let c32_i32_2606 : BitVec 32 := 32#32
  let c0_i32_962 : BitVec 32 := 0#32
  let c1_i32_963 : BitVec 32 := 1#32
  let arg15 : BitVec 32 := Scf.iv c0_i32_962 c1_i32_963 k0_t2
  let c3_i32_2604 : BitVec 32 := 3#32
  let v5829 : BitVec 32 := Scalar.muli arg15 c3_i32_2604
  let c2_i32_2605 : BitVec 32 := 2#32
  let v5830 : BitVec 32 := Scalar.addi v5829 c2_i32_2605
  let v5831 : BitVec 32 := Scalar.subi c32_i32_2606 v5830
  let c64_i32_2613 : BitVec 32 := 64#32
  let v5846 : BitVec 32 := Scalar.muli v5831 c64_i32_2613
  v5846
def k0_off98 (k0_t2 : Fin k0_t2_loop.trips) : Fin 4 → Nat :=
  let c1_i32_1617 : BitVec 32 := 1#32
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v3583 : BitVec 32 := Scalar.subi c1_i32_1617 v3581
  let v6252 : Index := Scalar.indexCast v3583
  let c0_2748 : Index := 0#32
  let c64_2749 : Index := 64#32
  let c0_2750 : Index := 0#32
  ![v6252.toNat, 0, 64, 0]
def k0_off99 (k0_t2 : Fin k0_t2_loop.trips) : Fin 4 → Nat :=
  let c1_i32_1617 : BitVec 32 := 1#32
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v3583 : BitVec 32 := Scalar.subi c1_i32_1617 v3581
  let v6263 : Index := Scalar.indexCast v3583
  let c0_2751 : Index := 0#32
  let c0_2752 : Index := 0#32
  let c0_2753 : Index := 0#32
  ![v6263.toNat, 0, 0, 0]
def k0_off100 (k0_t2 : Fin k0_t2_loop.trips) : Fin 4 → Nat :=
  let c1_i32_1617 : BitVec 32 := 1#32
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v3583 : BitVec 32 := Scalar.subi c1_i32_1617 v3581
  let v6284 : Index := Scalar.indexCast v3583
  let c3_2756 : Index := 3#32
  let c64_2757 : Index := 64#32
  let c0_2758 : Index := 0#32
  ![v6284.toNat, 3, 64, 0]
def k0_off101 (k0_t2 : Fin k0_t2_loop.trips) : Fin 4 → Nat :=
  let c1_i32_1617 : BitVec 32 := 1#32
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v3583 : BitVec 32 := Scalar.subi c1_i32_1617 v3581
  let v6295 : Index := Scalar.indexCast v3583
  let c3_2759 : Index := 3#32
  let c0_2760 : Index := 0#32
  let c0_2761 : Index := 0#32
  ![v6295.toNat, 3, 0, 0]
def k0_off102 (k0_t2 : Fin k0_t2_loop.trips) : Fin 4 → Nat :=
  let c1_i32_1617 : BitVec 32 := 1#32
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v3583 : BitVec 32 := Scalar.subi c1_i32_1617 v3581
  let v6313 : Index := Scalar.indexCast v3583
  let c0_2763 : Index := 0#32
  let c0_2764 : Index := 0#32
  let c0_2765 : Index := 0#32
  ![v6313.toNat, 0, 0, 0]
def k0_off103 (k0_t2 : Fin k0_t2_loop.trips) : Fin 4 → Nat :=
  let c1_i32_1617 : BitVec 32 := 1#32
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v3583 : BitVec 32 := Scalar.subi c1_i32_1617 v3581
  let v6319 : Index := Scalar.indexCast v3583
  let c0_2766 : Index := 0#32
  let c0_2767 : Index := 0#32
  let c0_2768 : Index := 0#32
  ![v6319.toNat, 0, 0, 0]
def k0_off104 (k0_t2 : Fin k0_t2_loop.trips) : Fin 4 → Nat :=
  let c1_i32_1617 : BitVec 32 := 1#32
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v3583 : BitVec 32 := Scalar.subi c1_i32_1617 v3581
  let v6324 : Index := Scalar.indexCast v3583
  let c0_2769 : Index := 0#32
  let c128_2770 : Index := 128#32
  let c0_2771 : Index := 0#32
  ![v6324.toNat, 0, 128, 0]
def k0_off105 (k0_t2 : Fin k0_t2_loop.trips) : Fin 4 → Nat :=
  let c1_i32_1617 : BitVec 32 := 1#32
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v3583 : BitVec 32 := Scalar.subi c1_i32_1617 v3581
  let v6329 : Index := Scalar.indexCast v3583
  let c3_2772 : Index := 3#32
  let c0_2773 : Index := 0#32
  let c0_2774 : Index := 0#32
  ![v6329.toNat, 3, 0, 0]
def k0_off106 (k0_t2 : Fin k0_t2_loop.trips) : Fin 4 → Nat :=
  let c1_i32_1617 : BitVec 32 := 1#32
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v3583 : BitVec 32 := Scalar.subi c1_i32_1617 v3581
  let v6335 : Index := Scalar.indexCast v3583
  let c3_2775 : Index := 3#32
  let c0_2776 : Index := 0#32
  let c0_2777 : Index := 0#32
  ![v6335.toNat, 3, 0, 0]
def k0_off107 (k0_t2 : Fin k0_t2_loop.trips) : Fin 4 → Nat :=
  let c1_i32_1617 : BitVec 32 := 1#32
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v3583 : BitVec 32 := Scalar.subi c1_i32_1617 v3581
  let v6340 : Index := Scalar.indexCast v3583
  let c3_2778 : Index := 3#32
  let c128_2779 : Index := 128#32
  let c0_2780 : Index := 0#32
  ![v6340.toNat, 3, 128, 0]
def k0_off108 (k0_t2 : Fin k0_t2_loop.trips) : Fin 4 → Nat :=
  let c1_i32_1617 : BitVec 32 := 1#32
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v3583 : BitVec 32 := Scalar.subi c1_i32_1617 v3581
  let v6355 : Index := Scalar.indexCast v3583
  let c6_2783 : Index := 6#32
  let c64_2784 : Index := 64#32
  let c0_2785 : Index := 0#32
  ![v6355.toNat, 6, 64, 0]
def k0_off109 (k0_t2 : Fin k0_t2_loop.trips) : Fin 4 → Nat :=
  let c1_i32_1617 : BitVec 32 := 1#32
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v3583 : BitVec 32 := Scalar.subi c1_i32_1617 v3581
  let v6366 : Index := Scalar.indexCast v3583
  let c6_2786 : Index := 6#32
  let c0_2787 : Index := 0#32
  let c0_2788 : Index := 0#32
  ![v6366.toNat, 6, 0, 0]
def k0_off110 (k0_t2 : Fin k0_t2_loop.trips) : Fin 4 → Nat :=
  let c1_i32_1617 : BitVec 32 := 1#32
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v3583 : BitVec 32 := Scalar.subi c1_i32_1617 v3581
  let v6387 : Index := Scalar.indexCast v3583
  let c9_2791 : Index := 9#32
  let c64_2792 : Index := 64#32
  let c0_2793 : Index := 0#32
  ![v6387.toNat, 9, 64, 0]
def k0_off111 (k0_t2 : Fin k0_t2_loop.trips) : Fin 4 → Nat :=
  let c1_i32_1617 : BitVec 32 := 1#32
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v3583 : BitVec 32 := Scalar.subi c1_i32_1617 v3581
  let v6398 : Index := Scalar.indexCast v3583
  let c9_2794 : Index := 9#32
  let c0_2795 : Index := 0#32
  let c0_2796 : Index := 0#32
  ![v6398.toNat, 9, 0, 0]
def k0_off112 (k0_t2 : Fin k0_t2_loop.trips) : Fin 4 → Nat :=
  let c1_i32_1617 : BitVec 32 := 1#32
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v3583 : BitVec 32 := Scalar.subi c1_i32_1617 v3581
  let v6416 : Index := Scalar.indexCast v3583
  let c6_2798 : Index := 6#32
  let c0_2799 : Index := 0#32
  let c0_2800 : Index := 0#32
  ![v6416.toNat, 6, 0, 0]
def k0_off113 (k0_t2 : Fin k0_t2_loop.trips) : Fin 4 → Nat :=
  let c1_i32_1617 : BitVec 32 := 1#32
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v3583 : BitVec 32 := Scalar.subi c1_i32_1617 v3581
  let v6422 : Index := Scalar.indexCast v3583
  let c6_2801 : Index := 6#32
  let c0_2802 : Index := 0#32
  let c0_2803 : Index := 0#32
  ![v6422.toNat, 6, 0, 0]
def k0_off114 (k0_t2 : Fin k0_t2_loop.trips) : Fin 4 → Nat :=
  let c1_i32_1617 : BitVec 32 := 1#32
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v3583 : BitVec 32 := Scalar.subi c1_i32_1617 v3581
  let v6427 : Index := Scalar.indexCast v3583
  let c6_2804 : Index := 6#32
  let c128_2805 : Index := 128#32
  let c0_2806 : Index := 0#32
  ![v6427.toNat, 6, 128, 0]
def k0_off115 (k0_t2 : Fin k0_t2_loop.trips) : Fin 4 → Nat :=
  let c1_i32_1617 : BitVec 32 := 1#32
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v3583 : BitVec 32 := Scalar.subi c1_i32_1617 v3581
  let v6432 : Index := Scalar.indexCast v3583
  let c9_2807 : Index := 9#32
  let c0_2808 : Index := 0#32
  let c0_2809 : Index := 0#32
  ![v6432.toNat, 9, 0, 0]
def k0_off116 (k0_t2 : Fin k0_t2_loop.trips) : Fin 4 → Nat :=
  let c1_i32_1617 : BitVec 32 := 1#32
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v3583 : BitVec 32 := Scalar.subi c1_i32_1617 v3581
  let v6438 : Index := Scalar.indexCast v3583
  let c9_2810 : Index := 9#32
  let c0_2811 : Index := 0#32
  let c0_2812 : Index := 0#32
  ![v6438.toNat, 9, 0, 0]
def k0_off117 (k0_t2 : Fin k0_t2_loop.trips) : Fin 4 → Nat :=
  let c1_i32_1617 : BitVec 32 := 1#32
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v3583 : BitVec 32 := Scalar.subi c1_i32_1617 v3581
  let v6443 : Index := Scalar.indexCast v3583
  let c9_2813 : Index := 9#32
  let c128_2814 : Index := 128#32
  let c0_2815 : Index := 0#32
  ![v6443.toNat, 9, 128, 0]
def k0_off118 (k0_t2 : Fin k0_t2_loop.trips) : Fin 4 → Nat :=
  let c1_i32_1617 : BitVec 32 := 1#32
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v3583 : BitVec 32 := Scalar.subi c1_i32_1617 v3581
  let v6458 : Index := Scalar.indexCast v3583
  let c1_2818 : Index := 1#32
  let c64_2819 : Index := 64#32
  let c0_2820 : Index := 0#32
  ![v6458.toNat, 1, 64, 0]
def k0_off119 (k0_t2 : Fin k0_t2_loop.trips) : Fin 4 → Nat :=
  let c1_i32_1617 : BitVec 32 := 1#32
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v3583 : BitVec 32 := Scalar.subi c1_i32_1617 v3581
  let v6469 : Index := Scalar.indexCast v3583
  let c1_2821 : Index := 1#32
  let c0_2822 : Index := 0#32
  let c0_2823 : Index := 0#32
  ![v6469.toNat, 1, 0, 0]
def k0_off120 (k0_t2 : Fin k0_t2_loop.trips) : Fin 4 → Nat :=
  let c1_i32_1617 : BitVec 32 := 1#32
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v3583 : BitVec 32 := Scalar.subi c1_i32_1617 v3581
  let v6490 : Index := Scalar.indexCast v3583
  let c4_2826 : Index := 4#32
  let c64_2827 : Index := 64#32
  let c0_2828 : Index := 0#32
  ![v6490.toNat, 4, 64, 0]
def k0_off121 (k0_t2 : Fin k0_t2_loop.trips) : Fin 4 → Nat :=
  let c1_i32_1617 : BitVec 32 := 1#32
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v3583 : BitVec 32 := Scalar.subi c1_i32_1617 v3581
  let v6501 : Index := Scalar.indexCast v3583
  let c4_2829 : Index := 4#32
  let c0_2830 : Index := 0#32
  let c0_2831 : Index := 0#32
  ![v6501.toNat, 4, 0, 0]
def k0_off122 (k0_t2 : Fin k0_t2_loop.trips) : Fin 4 → Nat :=
  let c1_i32_1617 : BitVec 32 := 1#32
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v3583 : BitVec 32 := Scalar.subi c1_i32_1617 v3581
  let v6519 : Index := Scalar.indexCast v3583
  let c1_2833 : Index := 1#32
  let c0_2834 : Index := 0#32
  let c0_2835 : Index := 0#32
  ![v6519.toNat, 1, 0, 0]
def k0_off123 (k0_t2 : Fin k0_t2_loop.trips) : Fin 4 → Nat :=
  let c1_i32_1617 : BitVec 32 := 1#32
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v3583 : BitVec 32 := Scalar.subi c1_i32_1617 v3581
  let v6525 : Index := Scalar.indexCast v3583
  let c1_2836 : Index := 1#32
  let c0_2837 : Index := 0#32
  let c0_2838 : Index := 0#32
  ![v6525.toNat, 1, 0, 0]
def k0_off124 (k0_t2 : Fin k0_t2_loop.trips) : Fin 4 → Nat :=
  let c1_i32_1617 : BitVec 32 := 1#32
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v3583 : BitVec 32 := Scalar.subi c1_i32_1617 v3581
  let v6530 : Index := Scalar.indexCast v3583
  let c1_2839 : Index := 1#32
  let c128_2840 : Index := 128#32
  let c0_2841 : Index := 0#32
  ![v6530.toNat, 1, 128, 0]
def k0_off125 (k0_t2 : Fin k0_t2_loop.trips) : Fin 4 → Nat :=
  let c1_i32_1617 : BitVec 32 := 1#32
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v3583 : BitVec 32 := Scalar.subi c1_i32_1617 v3581
  let v6535 : Index := Scalar.indexCast v3583
  let c4_2842 : Index := 4#32
  let c0_2843 : Index := 0#32
  let c0_2844 : Index := 0#32
  ![v6535.toNat, 4, 0, 0]
def k0_off126 (k0_t2 : Fin k0_t2_loop.trips) : Fin 4 → Nat :=
  let c1_i32_1617 : BitVec 32 := 1#32
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v3583 : BitVec 32 := Scalar.subi c1_i32_1617 v3581
  let v6541 : Index := Scalar.indexCast v3583
  let c4_2845 : Index := 4#32
  let c0_2846 : Index := 0#32
  let c0_2847 : Index := 0#32
  ![v6541.toNat, 4, 0, 0]
def k0_off127 (k0_t2 : Fin k0_t2_loop.trips) : Fin 4 → Nat :=
  let c1_i32_1617 : BitVec 32 := 1#32
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v3583 : BitVec 32 := Scalar.subi c1_i32_1617 v3581
  let v6546 : Index := Scalar.indexCast v3583
  let c4_2848 : Index := 4#32
  let c128_2849 : Index := 128#32
  let c0_2850 : Index := 0#32
  ![v6546.toNat, 4, 128, 0]
def k0_off128 (k0_t2 : Fin k0_t2_loop.trips) : Fin 4 → Nat :=
  let c1_i32_1617 : BitVec 32 := 1#32
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v3583 : BitVec 32 := Scalar.subi c1_i32_1617 v3581
  let v6561 : Index := Scalar.indexCast v3583
  let c7_2853 : Index := 7#32
  let c64_2854 : Index := 64#32
  let c0_2855 : Index := 0#32
  ![v6561.toNat, 7, 64, 0]
def k0_off129 (k0_t2 : Fin k0_t2_loop.trips) : Fin 4 → Nat :=
  let c1_i32_1617 : BitVec 32 := 1#32
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v3583 : BitVec 32 := Scalar.subi c1_i32_1617 v3581
  let v6572 : Index := Scalar.indexCast v3583
  let c7_2856 : Index := 7#32
  let c0_2857 : Index := 0#32
  let c0_2858 : Index := 0#32
  ![v6572.toNat, 7, 0, 0]
def k0_off130 (k0_t2 : Fin k0_t2_loop.trips) : Fin 4 → Nat :=
  let c1_i32_1617 : BitVec 32 := 1#32
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v3583 : BitVec 32 := Scalar.subi c1_i32_1617 v3581
  let v6593 : Index := Scalar.indexCast v3583
  let c10_2861 : Index := 10#32
  let c64_2862 : Index := 64#32
  let c0_2863 : Index := 0#32
  ![v6593.toNat, 10, 64, 0]
def k0_off131 (k0_t2 : Fin k0_t2_loop.trips) : Fin 4 → Nat :=
  let c1_i32_1617 : BitVec 32 := 1#32
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v3583 : BitVec 32 := Scalar.subi c1_i32_1617 v3581
  let v6604 : Index := Scalar.indexCast v3583
  let c10_2864 : Index := 10#32
  let c0_2865 : Index := 0#32
  let c0_2866 : Index := 0#32
  ![v6604.toNat, 10, 0, 0]
def k0_off132 (k0_t2 : Fin k0_t2_loop.trips) : Fin 4 → Nat :=
  let c1_i32_1617 : BitVec 32 := 1#32
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v3583 : BitVec 32 := Scalar.subi c1_i32_1617 v3581
  let v6622 : Index := Scalar.indexCast v3583
  let c7_2868 : Index := 7#32
  let c0_2869 : Index := 0#32
  let c0_2870 : Index := 0#32
  ![v6622.toNat, 7, 0, 0]
def k0_off133 (k0_t2 : Fin k0_t2_loop.trips) : Fin 4 → Nat :=
  let c1_i32_1617 : BitVec 32 := 1#32
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v3583 : BitVec 32 := Scalar.subi c1_i32_1617 v3581
  let v6628 : Index := Scalar.indexCast v3583
  let c7_2871 : Index := 7#32
  let c0_2872 : Index := 0#32
  let c0_2873 : Index := 0#32
  ![v6628.toNat, 7, 0, 0]
def k0_off134 (k0_t2 : Fin k0_t2_loop.trips) : Fin 4 → Nat :=
  let c1_i32_1617 : BitVec 32 := 1#32
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v3583 : BitVec 32 := Scalar.subi c1_i32_1617 v3581
  let v6633 : Index := Scalar.indexCast v3583
  let c7_2874 : Index := 7#32
  let c128_2875 : Index := 128#32
  let c0_2876 : Index := 0#32
  ![v6633.toNat, 7, 128, 0]
def k0_off135 (k0_t2 : Fin k0_t2_loop.trips) : Fin 4 → Nat :=
  let c1_i32_1617 : BitVec 32 := 1#32
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v3583 : BitVec 32 := Scalar.subi c1_i32_1617 v3581
  let v6638 : Index := Scalar.indexCast v3583
  let c10_2877 : Index := 10#32
  let c0_2878 : Index := 0#32
  let c0_2879 : Index := 0#32
  ![v6638.toNat, 10, 0, 0]
def k0_off136 (k0_t2 : Fin k0_t2_loop.trips) : Fin 4 → Nat :=
  let c1_i32_1617 : BitVec 32 := 1#32
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v3583 : BitVec 32 := Scalar.subi c1_i32_1617 v3581
  let v6644 : Index := Scalar.indexCast v3583
  let c10_2880 : Index := 10#32
  let c0_2881 : Index := 0#32
  let c0_2882 : Index := 0#32
  ![v6644.toNat, 10, 0, 0]
def k0_off137 (k0_t2 : Fin k0_t2_loop.trips) : Fin 4 → Nat :=
  let c1_i32_1617 : BitVec 32 := 1#32
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v3583 : BitVec 32 := Scalar.subi c1_i32_1617 v3581
  let v6649 : Index := Scalar.indexCast v3583
  let c10_2883 : Index := 10#32
  let c128_2884 : Index := 128#32
  let c0_2885 : Index := 0#32
  ![v6649.toNat, 10, 128, 0]
def k0_off138 (k0_t2 : Fin k0_t2_loop.trips) : Fin 4 → Nat :=
  let c1_i32_1617 : BitVec 32 := 1#32
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v3583 : BitVec 32 := Scalar.subi c1_i32_1617 v3581
  let v6664 : Index := Scalar.indexCast v3583
  let c2_2888 : Index := 2#32
  let c64_2889 : Index := 64#32
  let c0_2890 : Index := 0#32
  ![v6664.toNat, 2, 64, 0]
def k0_off139 (k0_t2 : Fin k0_t2_loop.trips) : Fin 4 → Nat :=
  let c1_i32_1617 : BitVec 32 := 1#32
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v3583 : BitVec 32 := Scalar.subi c1_i32_1617 v3581
  let v6675 : Index := Scalar.indexCast v3583
  let c2_2891 : Index := 2#32
  let c0_2892 : Index := 0#32
  let c0_2893 : Index := 0#32
  ![v6675.toNat, 2, 0, 0]
def k0_off140 (k0_t2 : Fin k0_t2_loop.trips) : Fin 4 → Nat :=
  let c1_i32_1617 : BitVec 32 := 1#32
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v3583 : BitVec 32 := Scalar.subi c1_i32_1617 v3581
  let v6696 : Index := Scalar.indexCast v3583
  let c5_2896 : Index := 5#32
  let c64_2897 : Index := 64#32
  let c0_2898 : Index := 0#32
  ![v6696.toNat, 5, 64, 0]
def k0_off141 (k0_t2 : Fin k0_t2_loop.trips) : Fin 4 → Nat :=
  let c1_i32_1617 : BitVec 32 := 1#32
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v3583 : BitVec 32 := Scalar.subi c1_i32_1617 v3581
  let v6707 : Index := Scalar.indexCast v3583
  let c5_2899 : Index := 5#32
  let c0_2900 : Index := 0#32
  let c0_2901 : Index := 0#32
  ![v6707.toNat, 5, 0, 0]
def k0_off142 (k0_t2 : Fin k0_t2_loop.trips) : Fin 4 → Nat :=
  let c1_i32_1617 : BitVec 32 := 1#32
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v3583 : BitVec 32 := Scalar.subi c1_i32_1617 v3581
  let v6725 : Index := Scalar.indexCast v3583
  let c2_2903 : Index := 2#32
  let c0_2904 : Index := 0#32
  let c0_2905 : Index := 0#32
  ![v6725.toNat, 2, 0, 0]
def k0_off143 (k0_t2 : Fin k0_t2_loop.trips) : Fin 4 → Nat :=
  let c1_i32_1617 : BitVec 32 := 1#32
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v3583 : BitVec 32 := Scalar.subi c1_i32_1617 v3581
  let v6731 : Index := Scalar.indexCast v3583
  let c2_2906 : Index := 2#32
  let c0_2907 : Index := 0#32
  let c0_2908 : Index := 0#32
  ![v6731.toNat, 2, 0, 0]
def k0_off144 (k0_t2 : Fin k0_t2_loop.trips) : Fin 4 → Nat :=
  let c1_i32_1617 : BitVec 32 := 1#32
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v3583 : BitVec 32 := Scalar.subi c1_i32_1617 v3581
  let v6736 : Index := Scalar.indexCast v3583
  let c2_2909 : Index := 2#32
  let c128_2910 : Index := 128#32
  let c0_2911 : Index := 0#32
  ![v6736.toNat, 2, 128, 0]
def k0_off145 (k0_t2 : Fin k0_t2_loop.trips) : Fin 4 → Nat :=
  let c1_i32_1617 : BitVec 32 := 1#32
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v3583 : BitVec 32 := Scalar.subi c1_i32_1617 v3581
  let v6741 : Index := Scalar.indexCast v3583
  let c5_2912 : Index := 5#32
  let c0_2913 : Index := 0#32
  let c0_2914 : Index := 0#32
  ![v6741.toNat, 5, 0, 0]
def k0_off146 (k0_t2 : Fin k0_t2_loop.trips) : Fin 4 → Nat :=
  let c1_i32_1617 : BitVec 32 := 1#32
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v3583 : BitVec 32 := Scalar.subi c1_i32_1617 v3581
  let v6747 : Index := Scalar.indexCast v3583
  let c5_2915 : Index := 5#32
  let c0_2916 : Index := 0#32
  let c0_2917 : Index := 0#32
  ![v6747.toNat, 5, 0, 0]
def k0_off147 (k0_t2 : Fin k0_t2_loop.trips) : Fin 4 → Nat :=
  let c1_i32_1617 : BitVec 32 := 1#32
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v3583 : BitVec 32 := Scalar.subi c1_i32_1617 v3581
  let v6752 : Index := Scalar.indexCast v3583
  let c5_2918 : Index := 5#32
  let c128_2919 : Index := 128#32
  let c0_2920 : Index := 0#32
  ![v6752.toNat, 5, 128, 0]
def k0_off148 (k0_t2 : Fin k0_t2_loop.trips) : Fin 4 → Nat :=
  let c1_i32_1617 : BitVec 32 := 1#32
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v3583 : BitVec 32 := Scalar.subi c1_i32_1617 v3581
  let v6767 : Index := Scalar.indexCast v3583
  let c8_2923 : Index := 8#32
  let c64_2924 : Index := 64#32
  let c0_2925 : Index := 0#32
  ![v6767.toNat, 8, 64, 0]
def k0_off149 (k0_t2 : Fin k0_t2_loop.trips) : Fin 4 → Nat :=
  let c1_i32_1617 : BitVec 32 := 1#32
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v3583 : BitVec 32 := Scalar.subi c1_i32_1617 v3581
  let v6778 : Index := Scalar.indexCast v3583
  let c8_2926 : Index := 8#32
  let c0_2927 : Index := 0#32
  let c0_2928 : Index := 0#32
  ![v6778.toNat, 8, 0, 0]
def k0_off150 (k0_t2 : Fin k0_t2_loop.trips) : Fin 4 → Nat :=
  let c1_i32_1617 : BitVec 32 := 1#32
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v3583 : BitVec 32 := Scalar.subi c1_i32_1617 v3581
  let v6799 : Index := Scalar.indexCast v3583
  let c11_2931 : Index := 11#32
  let c64_2932 : Index := 64#32
  let c0_2933 : Index := 0#32
  ![v6799.toNat, 11, 64, 0]
def k0_off151 (k0_t2 : Fin k0_t2_loop.trips) : Fin 4 → Nat :=
  let c1_i32_1617 : BitVec 32 := 1#32
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v3583 : BitVec 32 := Scalar.subi c1_i32_1617 v3581
  let v6810 : Index := Scalar.indexCast v3583
  let c11_2934 : Index := 11#32
  let c0_2935 : Index := 0#32
  let c0_2936 : Index := 0#32
  ![v6810.toNat, 11, 0, 0]
def k0_off152 (k0_t2 : Fin k0_t2_loop.trips) : Fin 4 → Nat :=
  let c1_i32_1617 : BitVec 32 := 1#32
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v3583 : BitVec 32 := Scalar.subi c1_i32_1617 v3581
  let v6828 : Index := Scalar.indexCast v3583
  let c8_2938 : Index := 8#32
  let c0_2939 : Index := 0#32
  let c0_2940 : Index := 0#32
  ![v6828.toNat, 8, 0, 0]
def k0_off153 (k0_t2 : Fin k0_t2_loop.trips) : Fin 4 → Nat :=
  let c1_i32_1617 : BitVec 32 := 1#32
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v3583 : BitVec 32 := Scalar.subi c1_i32_1617 v3581
  let v6834 : Index := Scalar.indexCast v3583
  let c8_2941 : Index := 8#32
  let c0_2942 : Index := 0#32
  let c0_2943 : Index := 0#32
  ![v6834.toNat, 8, 0, 0]
def k0_off154 (k0_t2 : Fin k0_t2_loop.trips) : Fin 4 → Nat :=
  let c1_i32_1617 : BitVec 32 := 1#32
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v3583 : BitVec 32 := Scalar.subi c1_i32_1617 v3581
  let v6839 : Index := Scalar.indexCast v3583
  let c8_2944 : Index := 8#32
  let c128_2945 : Index := 128#32
  let c0_2946 : Index := 0#32
  ![v6839.toNat, 8, 128, 0]
def k0_off155 (k0_t2 : Fin k0_t2_loop.trips) : Fin 4 → Nat :=
  let c1_i32_1617 : BitVec 32 := 1#32
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v3583 : BitVec 32 := Scalar.subi c1_i32_1617 v3581
  let v6844 : Index := Scalar.indexCast v3583
  let c11_2947 : Index := 11#32
  let c0_2948 : Index := 0#32
  let c0_2949 : Index := 0#32
  ![v6844.toNat, 11, 0, 0]
def k0_off156 (k0_t2 : Fin k0_t2_loop.trips) : Fin 4 → Nat :=
  let c1_i32_1617 : BitVec 32 := 1#32
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v3583 : BitVec 32 := Scalar.subi c1_i32_1617 v3581
  let v6850 : Index := Scalar.indexCast v3583
  let c11_2950 : Index := 11#32
  let c0_2951 : Index := 0#32
  let c0_2952 : Index := 0#32
  ![v6850.toNat, 11, 0, 0]
def k0_off157 (k0_t2 : Fin k0_t2_loop.trips) : Fin 4 → Nat :=
  let c1_i32_1617 : BitVec 32 := 1#32
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v3583 : BitVec 32 := Scalar.subi c1_i32_1617 v3581
  let v6855 : Index := Scalar.indexCast v3583
  let c11_2953 : Index := 11#32
  let c128_2954 : Index := 128#32
  let c0_2955 : Index := 0#32
  ![v6855.toNat, 11, 128, 0]
def k0_off158 (k0_t2 : Fin k0_t2_loop.trips) : Fin 4 → Nat :=
  let c1_i32_1617 : BitVec 32 := 1#32
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v3583 : BitVec 32 := Scalar.subi c1_i32_1617 v3581
  let v6870 : Index := Scalar.indexCast v3583
  let c12_2958 : Index := 12#32
  let c64_2959 : Index := 64#32
  let c0_2960 : Index := 0#32
  ![v6870.toNat, 12, 64, 0]
def k0_off159 (k0_t2 : Fin k0_t2_loop.trips) : Fin 4 → Nat :=
  let c1_i32_1617 : BitVec 32 := 1#32
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v3583 : BitVec 32 := Scalar.subi c1_i32_1617 v3581
  let v6881 : Index := Scalar.indexCast v3583
  let c12_2961 : Index := 12#32
  let c0_2962 : Index := 0#32
  let c0_2963 : Index := 0#32
  ![v6881.toNat, 12, 0, 0]
def k0_off160 (k0_t2 : Fin k0_t2_loop.trips) : Fin 4 → Nat :=
  let c1_i32_1617 : BitVec 32 := 1#32
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v3583 : BitVec 32 := Scalar.subi c1_i32_1617 v3581
  let v6902 : Index := Scalar.indexCast v3583
  let c15_2966 : Index := 15#32
  let c64_2967 : Index := 64#32
  let c0_2968 : Index := 0#32
  ![v6902.toNat, 15, 64, 0]
def k0_off161 (k0_t2 : Fin k0_t2_loop.trips) : Fin 4 → Nat :=
  let c1_i32_1617 : BitVec 32 := 1#32
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v3583 : BitVec 32 := Scalar.subi c1_i32_1617 v3581
  let v6913 : Index := Scalar.indexCast v3583
  let c15_2969 : Index := 15#32
  let c0_2970 : Index := 0#32
  let c0_2971 : Index := 0#32
  ![v6913.toNat, 15, 0, 0]
def k0_off162 (k0_t2 : Fin k0_t2_loop.trips) : Fin 4 → Nat :=
  let c1_i32_1617 : BitVec 32 := 1#32
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v3583 : BitVec 32 := Scalar.subi c1_i32_1617 v3581
  let v6931 : Index := Scalar.indexCast v3583
  let c12_2973 : Index := 12#32
  let c0_2974 : Index := 0#32
  let c0_2975 : Index := 0#32
  ![v6931.toNat, 12, 0, 0]
def k0_off163 (k0_t2 : Fin k0_t2_loop.trips) : Fin 4 → Nat :=
  let c1_i32_1617 : BitVec 32 := 1#32
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v3583 : BitVec 32 := Scalar.subi c1_i32_1617 v3581
  let v6937 : Index := Scalar.indexCast v3583
  let c12_2976 : Index := 12#32
  let c0_2977 : Index := 0#32
  let c0_2978 : Index := 0#32
  ![v6937.toNat, 12, 0, 0]
def k0_off164 (k0_t2 : Fin k0_t2_loop.trips) : Fin 4 → Nat :=
  let c1_i32_1617 : BitVec 32 := 1#32
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v3583 : BitVec 32 := Scalar.subi c1_i32_1617 v3581
  let v6942 : Index := Scalar.indexCast v3583
  let c12_2979 : Index := 12#32
  let c128_2980 : Index := 128#32
  let c0_2981 : Index := 0#32
  ![v6942.toNat, 12, 128, 0]
def k0_off165 (k0_t2 : Fin k0_t2_loop.trips) : Fin 4 → Nat :=
  let c1_i32_1617 : BitVec 32 := 1#32
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v3583 : BitVec 32 := Scalar.subi c1_i32_1617 v3581
  let v6947 : Index := Scalar.indexCast v3583
  let c15_2982 : Index := 15#32
  let c0_2983 : Index := 0#32
  let c0_2984 : Index := 0#32
  ![v6947.toNat, 15, 0, 0]
def k0_off166 (k0_t2 : Fin k0_t2_loop.trips) : Fin 4 → Nat :=
  let c1_i32_1617 : BitVec 32 := 1#32
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v3583 : BitVec 32 := Scalar.subi c1_i32_1617 v3581
  let v6953 : Index := Scalar.indexCast v3583
  let c15_2985 : Index := 15#32
  let c0_2986 : Index := 0#32
  let c0_2987 : Index := 0#32
  ![v6953.toNat, 15, 0, 0]
def k0_off167 (k0_t2 : Fin k0_t2_loop.trips) : Fin 4 → Nat :=
  let c1_i32_1617 : BitVec 32 := 1#32
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v3583 : BitVec 32 := Scalar.subi c1_i32_1617 v3581
  let v6958 : Index := Scalar.indexCast v3583
  let c15_2988 : Index := 15#32
  let c128_2989 : Index := 128#32
  let c0_2990 : Index := 0#32
  ![v6958.toNat, 15, 128, 0]
def k0_off168 (k0_t2 : Fin k0_t2_loop.trips) : Fin 4 → Nat :=
  let c1_i32_1617 : BitVec 32 := 1#32
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v3583 : BitVec 32 := Scalar.subi c1_i32_1617 v3581
  let v6973 : Index := Scalar.indexCast v3583
  let c18_2993 : Index := 18#32
  let c64_2994 : Index := 64#32
  let c0_2995 : Index := 0#32
  ![v6973.toNat, 18, 64, 0]
def k0_off169 (k0_t2 : Fin k0_t2_loop.trips) : Fin 4 → Nat :=
  let c1_i32_1617 : BitVec 32 := 1#32
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v3583 : BitVec 32 := Scalar.subi c1_i32_1617 v3581
  let v6984 : Index := Scalar.indexCast v3583
  let c18_2996 : Index := 18#32
  let c0_2997 : Index := 0#32
  let c0_2998 : Index := 0#32
  ![v6984.toNat, 18, 0, 0]
def k0_off170 (k0_t2 : Fin k0_t2_loop.trips) : Fin 4 → Nat :=
  let c1_i32_1617 : BitVec 32 := 1#32
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v3583 : BitVec 32 := Scalar.subi c1_i32_1617 v3581
  let v7005 : Index := Scalar.indexCast v3583
  let c21_3001 : Index := 21#32
  let c64_3002 : Index := 64#32
  let c0_3003 : Index := 0#32
  ![v7005.toNat, 21, 64, 0]
def k0_off171 (k0_t2 : Fin k0_t2_loop.trips) : Fin 4 → Nat :=
  let c1_i32_1617 : BitVec 32 := 1#32
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v3583 : BitVec 32 := Scalar.subi c1_i32_1617 v3581
  let v7016 : Index := Scalar.indexCast v3583
  let c21_3004 : Index := 21#32
  let c0_3005 : Index := 0#32
  let c0_3006 : Index := 0#32
  ![v7016.toNat, 21, 0, 0]
def k0_off172 (k0_t2 : Fin k0_t2_loop.trips) : Fin 4 → Nat :=
  let c1_i32_1617 : BitVec 32 := 1#32
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v3583 : BitVec 32 := Scalar.subi c1_i32_1617 v3581
  let v7034 : Index := Scalar.indexCast v3583
  let c18_3008 : Index := 18#32
  let c0_3009 : Index := 0#32
  let c0_3010 : Index := 0#32
  ![v7034.toNat, 18, 0, 0]
def k0_off173 (k0_t2 : Fin k0_t2_loop.trips) : Fin 4 → Nat :=
  let c1_i32_1617 : BitVec 32 := 1#32
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v3583 : BitVec 32 := Scalar.subi c1_i32_1617 v3581
  let v7040 : Index := Scalar.indexCast v3583
  let c18_3011 : Index := 18#32
  let c0_3012 : Index := 0#32
  let c0_3013 : Index := 0#32
  ![v7040.toNat, 18, 0, 0]
def k0_off174 (k0_t2 : Fin k0_t2_loop.trips) : Fin 4 → Nat :=
  let c1_i32_1617 : BitVec 32 := 1#32
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v3583 : BitVec 32 := Scalar.subi c1_i32_1617 v3581
  let v7045 : Index := Scalar.indexCast v3583
  let c18_3014 : Index := 18#32
  let c128_3015 : Index := 128#32
  let c0_3016 : Index := 0#32
  ![v7045.toNat, 18, 128, 0]
def k0_off175 (k0_t2 : Fin k0_t2_loop.trips) : Fin 4 → Nat :=
  let c1_i32_1617 : BitVec 32 := 1#32
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v3583 : BitVec 32 := Scalar.subi c1_i32_1617 v3581
  let v7050 : Index := Scalar.indexCast v3583
  let c21_3017 : Index := 21#32
  let c0_3018 : Index := 0#32
  let c0_3019 : Index := 0#32
  ![v7050.toNat, 21, 0, 0]
def k0_off176 (k0_t2 : Fin k0_t2_loop.trips) : Fin 4 → Nat :=
  let c1_i32_1617 : BitVec 32 := 1#32
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v3583 : BitVec 32 := Scalar.subi c1_i32_1617 v3581
  let v7056 : Index := Scalar.indexCast v3583
  let c21_3020 : Index := 21#32
  let c0_3021 : Index := 0#32
  let c0_3022 : Index := 0#32
  ![v7056.toNat, 21, 0, 0]
def k0_off177 (k0_t2 : Fin k0_t2_loop.trips) : Fin 4 → Nat :=
  let c1_i32_1617 : BitVec 32 := 1#32
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v3583 : BitVec 32 := Scalar.subi c1_i32_1617 v3581
  let v7061 : Index := Scalar.indexCast v3583
  let c21_3023 : Index := 21#32
  let c128_3024 : Index := 128#32
  let c0_3025 : Index := 0#32
  ![v7061.toNat, 21, 128, 0]
def k0_off178 (k0_t2 : Fin k0_t2_loop.trips) : Fin 4 → Nat :=
  let c1_i32_1617 : BitVec 32 := 1#32
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v3583 : BitVec 32 := Scalar.subi c1_i32_1617 v3581
  let v7076 : Index := Scalar.indexCast v3583
  let c13_3028 : Index := 13#32
  let c64_3029 : Index := 64#32
  let c0_3030 : Index := 0#32
  ![v7076.toNat, 13, 64, 0]
def k0_off179 (k0_t2 : Fin k0_t2_loop.trips) : Fin 4 → Nat :=
  let c1_i32_1617 : BitVec 32 := 1#32
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v3583 : BitVec 32 := Scalar.subi c1_i32_1617 v3581
  let v7087 : Index := Scalar.indexCast v3583
  let c13_3031 : Index := 13#32
  let c0_3032 : Index := 0#32
  let c0_3033 : Index := 0#32
  ![v7087.toNat, 13, 0, 0]
def k0_off180 (k0_t2 : Fin k0_t2_loop.trips) : Fin 4 → Nat :=
  let c1_i32_1617 : BitVec 32 := 1#32
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v3583 : BitVec 32 := Scalar.subi c1_i32_1617 v3581
  let v7108 : Index := Scalar.indexCast v3583
  let c16_3036 : Index := 16#32
  let c64_3037 : Index := 64#32
  let c0_3038 : Index := 0#32
  ![v7108.toNat, 16, 64, 0]
def k0_off181 (k0_t2 : Fin k0_t2_loop.trips) : Fin 4 → Nat :=
  let c1_i32_1617 : BitVec 32 := 1#32
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v3583 : BitVec 32 := Scalar.subi c1_i32_1617 v3581
  let v7119 : Index := Scalar.indexCast v3583
  let c16_3039 : Index := 16#32
  let c0_3040 : Index := 0#32
  let c0_3041 : Index := 0#32
  ![v7119.toNat, 16, 0, 0]
def k0_off182 (k0_t2 : Fin k0_t2_loop.trips) : Fin 4 → Nat :=
  let c1_i32_1617 : BitVec 32 := 1#32
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v3583 : BitVec 32 := Scalar.subi c1_i32_1617 v3581
  let v7137 : Index := Scalar.indexCast v3583
  let c13_3043 : Index := 13#32
  let c0_3044 : Index := 0#32
  let c0_3045 : Index := 0#32
  ![v7137.toNat, 13, 0, 0]
def k0_off183 (k0_t2 : Fin k0_t2_loop.trips) : Fin 4 → Nat :=
  let c1_i32_1617 : BitVec 32 := 1#32
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v3583 : BitVec 32 := Scalar.subi c1_i32_1617 v3581
  let v7143 : Index := Scalar.indexCast v3583
  let c13_3046 : Index := 13#32
  let c0_3047 : Index := 0#32
  let c0_3048 : Index := 0#32
  ![v7143.toNat, 13, 0, 0]
def k0_off184 (k0_t2 : Fin k0_t2_loop.trips) : Fin 4 → Nat :=
  let c1_i32_1617 : BitVec 32 := 1#32
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v3583 : BitVec 32 := Scalar.subi c1_i32_1617 v3581
  let v7148 : Index := Scalar.indexCast v3583
  let c13_3049 : Index := 13#32
  let c128_3050 : Index := 128#32
  let c0_3051 : Index := 0#32
  ![v7148.toNat, 13, 128, 0]
def k0_off185 (k0_t2 : Fin k0_t2_loop.trips) : Fin 4 → Nat :=
  let c1_i32_1617 : BitVec 32 := 1#32
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v3583 : BitVec 32 := Scalar.subi c1_i32_1617 v3581
  let v7153 : Index := Scalar.indexCast v3583
  let c16_3052 : Index := 16#32
  let c0_3053 : Index := 0#32
  let c0_3054 : Index := 0#32
  ![v7153.toNat, 16, 0, 0]
def k0_off186 (k0_t2 : Fin k0_t2_loop.trips) : Fin 4 → Nat :=
  let c1_i32_1617 : BitVec 32 := 1#32
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v3583 : BitVec 32 := Scalar.subi c1_i32_1617 v3581
  let v7159 : Index := Scalar.indexCast v3583
  let c16_3055 : Index := 16#32
  let c0_3056 : Index := 0#32
  let c0_3057 : Index := 0#32
  ![v7159.toNat, 16, 0, 0]
def k0_off187 (k0_t2 : Fin k0_t2_loop.trips) : Fin 4 → Nat :=
  let c1_i32_1617 : BitVec 32 := 1#32
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v3583 : BitVec 32 := Scalar.subi c1_i32_1617 v3581
  let v7164 : Index := Scalar.indexCast v3583
  let c16_3058 : Index := 16#32
  let c128_3059 : Index := 128#32
  let c0_3060 : Index := 0#32
  ![v7164.toNat, 16, 128, 0]
def k0_off188 (k0_t2 : Fin k0_t2_loop.trips) : Fin 4 → Nat :=
  let c1_i32_1617 : BitVec 32 := 1#32
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v3583 : BitVec 32 := Scalar.subi c1_i32_1617 v3581
  let v7179 : Index := Scalar.indexCast v3583
  let c19_3063 : Index := 19#32
  let c64_3064 : Index := 64#32
  let c0_3065 : Index := 0#32
  ![v7179.toNat, 19, 64, 0]
def k0_off189 (k0_t2 : Fin k0_t2_loop.trips) : Fin 4 → Nat :=
  let c1_i32_1617 : BitVec 32 := 1#32
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v3583 : BitVec 32 := Scalar.subi c1_i32_1617 v3581
  let v7190 : Index := Scalar.indexCast v3583
  let c19_3066 : Index := 19#32
  let c0_3067 : Index := 0#32
  let c0_3068 : Index := 0#32
  ![v7190.toNat, 19, 0, 0]
def k0_off190 (k0_t2 : Fin k0_t2_loop.trips) : Fin 4 → Nat :=
  let c1_i32_1617 : BitVec 32 := 1#32
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v3583 : BitVec 32 := Scalar.subi c1_i32_1617 v3581
  let v7211 : Index := Scalar.indexCast v3583
  let c22_3071 : Index := 22#32
  let c64_3072 : Index := 64#32
  let c0_3073 : Index := 0#32
  ![v7211.toNat, 22, 64, 0]
def k0_off191 (k0_t2 : Fin k0_t2_loop.trips) : Fin 4 → Nat :=
  let c1_i32_1617 : BitVec 32 := 1#32
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v3583 : BitVec 32 := Scalar.subi c1_i32_1617 v3581
  let v7222 : Index := Scalar.indexCast v3583
  let c22_3074 : Index := 22#32
  let c0_3075 : Index := 0#32
  let c0_3076 : Index := 0#32
  ![v7222.toNat, 22, 0, 0]
def k0_off192 (k0_t2 : Fin k0_t2_loop.trips) : Fin 4 → Nat :=
  let c1_i32_1617 : BitVec 32 := 1#32
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v3583 : BitVec 32 := Scalar.subi c1_i32_1617 v3581
  let v7240 : Index := Scalar.indexCast v3583
  let c19_3078 : Index := 19#32
  let c0_3079 : Index := 0#32
  let c0_3080 : Index := 0#32
  ![v7240.toNat, 19, 0, 0]
def k0_off193 (k0_t2 : Fin k0_t2_loop.trips) : Fin 4 → Nat :=
  let c1_i32_1617 : BitVec 32 := 1#32
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v3583 : BitVec 32 := Scalar.subi c1_i32_1617 v3581
  let v7246 : Index := Scalar.indexCast v3583
  let c19_3081 : Index := 19#32
  let c0_3082 : Index := 0#32
  let c0_3083 : Index := 0#32
  ![v7246.toNat, 19, 0, 0]
def k0_off194 (k0_t2 : Fin k0_t2_loop.trips) : Fin 4 → Nat :=
  let c1_i32_1617 : BitVec 32 := 1#32
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v3583 : BitVec 32 := Scalar.subi c1_i32_1617 v3581
  let v7251 : Index := Scalar.indexCast v3583
  let c19_3084 : Index := 19#32
  let c128_3085 : Index := 128#32
  let c0_3086 : Index := 0#32
  ![v7251.toNat, 19, 128, 0]
def k0_off195 (k0_t2 : Fin k0_t2_loop.trips) : Fin 4 → Nat :=
  let c1_i32_1617 : BitVec 32 := 1#32
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v3583 : BitVec 32 := Scalar.subi c1_i32_1617 v3581
  let v7256 : Index := Scalar.indexCast v3583
  let c22_3087 : Index := 22#32
  let c0_3088 : Index := 0#32
  let c0_3089 : Index := 0#32
  ![v7256.toNat, 22, 0, 0]
def k0_off196 (k0_t2 : Fin k0_t2_loop.trips) : Fin 4 → Nat :=
  let c1_i32_1617 : BitVec 32 := 1#32
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v3583 : BitVec 32 := Scalar.subi c1_i32_1617 v3581
  let v7262 : Index := Scalar.indexCast v3583
  let c22_3090 : Index := 22#32
  let c0_3091 : Index := 0#32
  let c0_3092 : Index := 0#32
  ![v7262.toNat, 22, 0, 0]
def k0_off197 (k0_t2 : Fin k0_t2_loop.trips) : Fin 4 → Nat :=
  let c1_i32_1617 : BitVec 32 := 1#32
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v3583 : BitVec 32 := Scalar.subi c1_i32_1617 v3581
  let v7267 : Index := Scalar.indexCast v3583
  let c22_3093 : Index := 22#32
  let c128_3094 : Index := 128#32
  let c0_3095 : Index := 0#32
  ![v7267.toNat, 22, 128, 0]
def k0_off198 (k0_t2 : Fin k0_t2_loop.trips) : Fin 4 → Nat :=
  let c1_i32_1617 : BitVec 32 := 1#32
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v3583 : BitVec 32 := Scalar.subi c1_i32_1617 v3581
  let v7282 : Index := Scalar.indexCast v3583
  let c14_3098 : Index := 14#32
  let c64_3099 : Index := 64#32
  let c0_3100 : Index := 0#32
  ![v7282.toNat, 14, 64, 0]
def k0_off199 (k0_t2 : Fin k0_t2_loop.trips) : Fin 4 → Nat :=
  let c1_i32_1617 : BitVec 32 := 1#32
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v3583 : BitVec 32 := Scalar.subi c1_i32_1617 v3581
  let v7293 : Index := Scalar.indexCast v3583
  let c14_3101 : Index := 14#32
  let c0_3102 : Index := 0#32
  let c0_3103 : Index := 0#32
  ![v7293.toNat, 14, 0, 0]
def k0_off200 (k0_t2 : Fin k0_t2_loop.trips) : Fin 4 → Nat :=
  let c1_i32_1617 : BitVec 32 := 1#32
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v3583 : BitVec 32 := Scalar.subi c1_i32_1617 v3581
  let v7314 : Index := Scalar.indexCast v3583
  let c17_3106 : Index := 17#32
  let c64_3107 : Index := 64#32
  let c0_3108 : Index := 0#32
  ![v7314.toNat, 17, 64, 0]
def k0_off201 (k0_t2 : Fin k0_t2_loop.trips) : Fin 4 → Nat :=
  let c1_i32_1617 : BitVec 32 := 1#32
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v3583 : BitVec 32 := Scalar.subi c1_i32_1617 v3581
  let v7325 : Index := Scalar.indexCast v3583
  let c17_3109 : Index := 17#32
  let c0_3110 : Index := 0#32
  let c0_3111 : Index := 0#32
  ![v7325.toNat, 17, 0, 0]
def k0_off202 (k0_t2 : Fin k0_t2_loop.trips) : Fin 4 → Nat :=
  let c1_i32_1617 : BitVec 32 := 1#32
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v3583 : BitVec 32 := Scalar.subi c1_i32_1617 v3581
  let v7343 : Index := Scalar.indexCast v3583
  let c14_3113 : Index := 14#32
  let c0_3114 : Index := 0#32
  let c0_3115 : Index := 0#32
  ![v7343.toNat, 14, 0, 0]
def k0_off203 (k0_t2 : Fin k0_t2_loop.trips) : Fin 4 → Nat :=
  let c1_i32_1617 : BitVec 32 := 1#32
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v3583 : BitVec 32 := Scalar.subi c1_i32_1617 v3581
  let v7349 : Index := Scalar.indexCast v3583
  let c14_3116 : Index := 14#32
  let c0_3117 : Index := 0#32
  let c0_3118 : Index := 0#32
  ![v7349.toNat, 14, 0, 0]
def k0_off204 (k0_t2 : Fin k0_t2_loop.trips) : Fin 4 → Nat :=
  let c1_i32_1617 : BitVec 32 := 1#32
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v3583 : BitVec 32 := Scalar.subi c1_i32_1617 v3581
  let v7354 : Index := Scalar.indexCast v3583
  let c14_3119 : Index := 14#32
  let c128_3120 : Index := 128#32
  let c0_3121 : Index := 0#32
  ![v7354.toNat, 14, 128, 0]
def k0_off205 (k0_t2 : Fin k0_t2_loop.trips) : Fin 4 → Nat :=
  let c1_i32_1617 : BitVec 32 := 1#32
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v3583 : BitVec 32 := Scalar.subi c1_i32_1617 v3581
  let v7359 : Index := Scalar.indexCast v3583
  let c17_3122 : Index := 17#32
  let c0_3123 : Index := 0#32
  let c0_3124 : Index := 0#32
  ![v7359.toNat, 17, 0, 0]
def k0_off206 (k0_t2 : Fin k0_t2_loop.trips) : Fin 4 → Nat :=
  let c1_i32_1617 : BitVec 32 := 1#32
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v3583 : BitVec 32 := Scalar.subi c1_i32_1617 v3581
  let v7365 : Index := Scalar.indexCast v3583
  let c17_3125 : Index := 17#32
  let c0_3126 : Index := 0#32
  let c0_3127 : Index := 0#32
  ![v7365.toNat, 17, 0, 0]
def k0_off207 (k0_t2 : Fin k0_t2_loop.trips) : Fin 4 → Nat :=
  let c1_i32_1617 : BitVec 32 := 1#32
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v3583 : BitVec 32 := Scalar.subi c1_i32_1617 v3581
  let v7370 : Index := Scalar.indexCast v3583
  let c17_3128 : Index := 17#32
  let c128_3129 : Index := 128#32
  let c0_3130 : Index := 0#32
  ![v7370.toNat, 17, 128, 0]
def k0_off208 (k0_t2 : Fin k0_t2_loop.trips) : Fin 4 → Nat :=
  let c1_i32_1617 : BitVec 32 := 1#32
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v3583 : BitVec 32 := Scalar.subi c1_i32_1617 v3581
  let v7385 : Index := Scalar.indexCast v3583
  let c20_3133 : Index := 20#32
  let c64_3134 : Index := 64#32
  let c0_3135 : Index := 0#32
  ![v7385.toNat, 20, 64, 0]
def k0_off209 (k0_t2 : Fin k0_t2_loop.trips) : Fin 4 → Nat :=
  let c1_i32_1617 : BitVec 32 := 1#32
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v3583 : BitVec 32 := Scalar.subi c1_i32_1617 v3581
  let v7396 : Index := Scalar.indexCast v3583
  let c20_3136 : Index := 20#32
  let c0_3137 : Index := 0#32
  let c0_3138 : Index := 0#32
  ![v7396.toNat, 20, 0, 0]
def k0_off210 (k0_t2 : Fin k0_t2_loop.trips) : Fin 4 → Nat :=
  let c1_i32_1617 : BitVec 32 := 1#32
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v3583 : BitVec 32 := Scalar.subi c1_i32_1617 v3581
  let v7417 : Index := Scalar.indexCast v3583
  let c23_3141 : Index := 23#32
  let c64_3142 : Index := 64#32
  let c0_3143 : Index := 0#32
  ![v7417.toNat, 23, 64, 0]
def k0_off211 (k0_t2 : Fin k0_t2_loop.trips) : Fin 4 → Nat :=
  let c1_i32_1617 : BitVec 32 := 1#32
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v3583 : BitVec 32 := Scalar.subi c1_i32_1617 v3581
  let v7428 : Index := Scalar.indexCast v3583
  let c23_3144 : Index := 23#32
  let c0_3145 : Index := 0#32
  let c0_3146 : Index := 0#32
  ![v7428.toNat, 23, 0, 0]
def k0_off212 (k0_t2 : Fin k0_t2_loop.trips) : Fin 4 → Nat :=
  let c1_i32_1617 : BitVec 32 := 1#32
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v3583 : BitVec 32 := Scalar.subi c1_i32_1617 v3581
  let v7446 : Index := Scalar.indexCast v3583
  let c20_3148 : Index := 20#32
  let c0_3149 : Index := 0#32
  let c0_3150 : Index := 0#32
  ![v7446.toNat, 20, 0, 0]
def k0_off213 (k0_t2 : Fin k0_t2_loop.trips) : Fin 4 → Nat :=
  let c1_i32_1617 : BitVec 32 := 1#32
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v3583 : BitVec 32 := Scalar.subi c1_i32_1617 v3581
  let v7452 : Index := Scalar.indexCast v3583
  let c20_3151 : Index := 20#32
  let c0_3152 : Index := 0#32
  let c0_3153 : Index := 0#32
  ![v7452.toNat, 20, 0, 0]
def k0_off214 (k0_t2 : Fin k0_t2_loop.trips) : Fin 4 → Nat :=
  let c1_i32_1617 : BitVec 32 := 1#32
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v3583 : BitVec 32 := Scalar.subi c1_i32_1617 v3581
  let v7457 : Index := Scalar.indexCast v3583
  let c20_3154 : Index := 20#32
  let c128_3155 : Index := 128#32
  let c0_3156 : Index := 0#32
  ![v7457.toNat, 20, 128, 0]
def k0_off215 (k0_t2 : Fin k0_t2_loop.trips) : Fin 4 → Nat :=
  let c1_i32_1617 : BitVec 32 := 1#32
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v3583 : BitVec 32 := Scalar.subi c1_i32_1617 v3581
  let v7462 : Index := Scalar.indexCast v3583
  let c23_3157 : Index := 23#32
  let c0_3158 : Index := 0#32
  let c0_3159 : Index := 0#32
  ![v7462.toNat, 23, 0, 0]
def k0_off216 (k0_t2 : Fin k0_t2_loop.trips) : Fin 4 → Nat :=
  let c1_i32_1617 : BitVec 32 := 1#32
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v3583 : BitVec 32 := Scalar.subi c1_i32_1617 v3581
  let v7468 : Index := Scalar.indexCast v3583
  let c23_3160 : Index := 23#32
  let c0_3161 : Index := 0#32
  let c0_3162 : Index := 0#32
  ![v7468.toNat, 23, 0, 0]
def k0_off217 (k0_t2 : Fin k0_t2_loop.trips) : Fin 4 → Nat :=
  let c1_i32_1617 : BitVec 32 := 1#32
  let c0_i32_962 : BitVec 32 := 0#32
  let c1_i32_963 : BitVec 32 := 1#32
  let arg15 : BitVec 32 := Scf.iv c0_i32_962 c1_i32_963 k0_t2
  let c2_i32_1610 : BitVec 32 := 2#32
  let c0_i32_1611 : BitVec 32 := 0#32
  let v3572 : BitVec 1 := Scalar.cmpi .eq c2_i32_1610 c0_i32_1611
  let c1_i32_1612 : BitVec 32 := 1#32
  let v3573 : BitVec 32 := Scalar.select v3572 c1_i32_1612 c2_i32_1610
  let v3574 : BitVec 32 := Scalar.remsi arg15 v3573
  let c0_i32_1614 : BitVec 32 := 0#32
  let v3576 : BitVec 1 := Scalar.cmpi .slt v3574 c0_i32_1614
  let c0_i32_1615 : BitVec 32 := 0#32
  let v3577 : BitVec 1 := Scalar.cmpi .slt v3573 c0_i32_1615
  let v3578 : BitVec 1 := Scalar.xori v3576 v3577
  let c0_i32_1613 : BitVec 32 := 0#32
  let v3575 : BitVec 1 := Scalar.cmpi .ne v3574 c0_i32_1613
  let v3579 : BitVec 1 := Scalar.andi v3578 v3575
  let v3580 : BitVec 32 := Scalar.addi v3574 v3573
  let v3581 : BitVec 32 := Scalar.select v3579 v3580 v3574
  let v3583 : BitVec 32 := Scalar.subi c1_i32_1617 v3581
  let v7473 : Index := Scalar.indexCast v3583
  let c23_3163 : Index := 23#32
  let c128_3164 : Index := 128#32
  let c0_3165 : Index := 0#32
  ![v7473.toNat, 23, 128, 0]
def k0_mult62 : BitVec 32 :=
  let c1976_i32 : BitVec 32 := 1976#32
  c1976_i32
def k0_mult63 : BitVec 32 :=
  let c1920_i32_1105 : BitVec 32 := 1920#32
  c1920_i32_1105
def k0_mult64 : BitVec 32 :=
  let c1976_i32_1110 : BitVec 32 := 1976#32
  c1976_i32_1110
def k0_mult65 : BitVec 32 :=
  let c1920_i32_1115 : BitVec 32 := 1920#32
  c1920_i32_1115
def k0_mult66 : BitVec 32 :=
  let c1976_i32_1120 : BitVec 32 := 1976#32
  c1976_i32_1120
def k0_mult67 : BitVec 32 :=
  let c1920_i32_1125 : BitVec 32 := 1920#32
  c1920_i32_1125
def k0_mult68 : BitVec 32 :=
  let c1976_i32_1130 : BitVec 32 := 1976#32
  c1976_i32_1130
def k0_mult69 : BitVec 32 :=
  let c1920_i32_1135 : BitVec 32 := 1920#32
  c1920_i32_1135
def k0_mult70 : BitVec 32 :=
  let c128_i32_1140 : BitVec 32 := 128#32
  c128_i32_1140
def k0_mult71 : BitVec 32 :=
  let c128_i32_1145 : BitVec 32 := 128#32
  c128_i32_1145
def k0_mult72 : BitVec 32 :=
  let c128_i32_1150 : BitVec 32 := 128#32
  c128_i32_1150
def k0_mult73 : BitVec 32 :=
  let c128_i32_1155 : BitVec 32 := 128#32
  c128_i32_1155
def k0_mult74 : BitVec 32 :=
  let c128_i32_1160 : BitVec 32 := 128#32
  c128_i32_1160
def k0_mult75 : BitVec 32 :=
  let c128_i32_1165 : BitVec 32 := 128#32
  c128_i32_1165
def k0_mult76 : BitVec 32 :=
  let c128_i32_1170 : BitVec 32 := 128#32
  c128_i32_1170
def k0_mult77 : BitVec 32 :=
  let c128_i32_1175 : BitVec 32 := 128#32
  c128_i32_1175
def k0_mult78 : BitVec 32 :=
  let c2040_i32 : BitVec 32 := 2040#32
  c2040_i32
def k0_mult79 : BitVec 32 :=
  let c1984_i32_1320 : BitVec 32 := 1984#32
  c1984_i32_1320
def k0_mult80 : BitVec 32 :=
  let c2040_i32_1325 : BitVec 32 := 2040#32
  c2040_i32_1325
def k0_mult81 : BitVec 32 :=
  let c1984_i32_1330 : BitVec 32 := 1984#32
  c1984_i32_1330
def k0_mult82 : BitVec 32 :=
  let c2040_i32_1335 : BitVec 32 := 2040#32
  c2040_i32_1335
def k0_mult83 : BitVec 32 :=
  let c1984_i32_1340 : BitVec 32 := 1984#32
  c1984_i32_1340
def k0_mult84 : BitVec 32 :=
  let c2040_i32_1345 : BitVec 32 := 2040#32
  c2040_i32_1345
def k0_mult85 : BitVec 32 :=
  let c1984_i32_1350 : BitVec 32 := 1984#32
  c1984_i32_1350
def k0_mult86 : BitVec 32 :=
  let c64_i32_1355 : BitVec 32 := 64#32
  c64_i32_1355
def k0_mult87 : BitVec 32 :=
  let c64_i32_1360 : BitVec 32 := 64#32
  c64_i32_1360
def k0_mult88 : BitVec 32 :=
  let c64_i32_1365 : BitVec 32 := 64#32
  c64_i32_1365
def k0_mult89 : BitVec 32 :=
  let c64_i32_1370 : BitVec 32 := 64#32
  c64_i32_1370
def k0_mult90 : BitVec 32 :=
  let c64_i32_1375 : BitVec 32 := 64#32
  c64_i32_1375
def k0_mult91 : BitVec 32 :=
  let c64_i32_1380 : BitVec 32 := 64#32
  c64_i32_1380
def k0_mult92 : BitVec 32 :=
  let c64_i32_1385 : BitVec 32 := 64#32
  c64_i32_1385
def k0_mult93 : BitVec 32 :=
  let c64_i32_1390 : BitVec 32 := 64#32
  c64_i32_1390
def k0_mult94 : BitVec 32 :=
  let c2104_i32 : BitVec 32 := 2104#32
  c2104_i32
def k0_mult95 : BitVec 32 :=
  let c2048_i32_1535 : BitVec 32 := 2048#32
  c2048_i32_1535
def k0_mult96 : BitVec 32 :=
  let c2104_i32_1540 : BitVec 32 := 2104#32
  c2104_i32_1540
def k0_mult97 : BitVec 32 :=
  let c2048_i32_1545 : BitVec 32 := 2048#32
  c2048_i32_1545
def k0_mult98 : BitVec 32 :=
  let c2104_i32_1550 : BitVec 32 := 2104#32
  c2104_i32_1550
def k0_mult99 : BitVec 32 :=
  let c2048_i32_1555 : BitVec 32 := 2048#32
  c2048_i32_1555
def k0_mult100 : BitVec 32 :=
  let c2104_i32_1560 : BitVec 32 := 2104#32
  c2104_i32_1560
def k0_mult101 : BitVec 32 :=
  let c2048_i32_1565 : BitVec 32 := 2048#32
  c2048_i32_1565
def k0_mult102 : BitVec 32 :=
  let c0_i32_1570 : BitVec 32 := 0#32
  c0_i32_1570
def k0_mult103 : BitVec 32 :=
  let c0_i32_1575 : BitVec 32 := 0#32
  c0_i32_1575
def k0_mult104 : BitVec 32 :=
  let c0_i32_1580 : BitVec 32 := 0#32
  c0_i32_1580
def k0_mult105 : BitVec 32 :=
  let c0_i32_1585 : BitVec 32 := 0#32
  c0_i32_1585
def k0_mult106 : BitVec 32 :=
  let c0_i32_1590 : BitVec 32 := 0#32
  c0_i32_1590
def k0_mult107 : BitVec 32 :=
  let c0_i32_1595 : BitVec 32 := 0#32
  c0_i32_1595
def k0_mult108 : BitVec 32 :=
  let c0_i32_1600 : BitVec 32 := 0#32
  c0_i32_1600
def k0_mult109 : BitVec 32 :=
  let c0_i32_1605 : BitVec 32 := 0#32
  c0_i32_1605
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2112x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2112x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2112x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2112x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x2112x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel2.lean ====
abbrev S16x2112x1024 : Shape := ⟨3, ![16, 2112, 1024]⟩
abbrev S16x2112x512 : Shape := ⟨3, ![16, 2112, 512]⟩
abbrev S128 : Shape := ⟨1, ![128]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S1x128 : Shape := ⟨2, ![1, 128]⟩
abbrev S4x128 : Shape := ⟨2, ![4, 128]⟩
abbrev S512 : Shape := ⟨1, ![512]⟩
abbrev S1x512 : Shape := ⟨2, ![1, 512]⟩
abbrev S512x1024 : Shape := ⟨2, ![512, 1024]⟩
abbrev S1x1024 : Shape := ⟨2, ![1, 1024]⟩
abbrev S1024x2816 : Shape := ⟨2, ![1024, 2816]⟩
abbrev S16x2048x1024 : Shape := ⟨3, ![16, 2048, 1024]⟩
abbrev S1x1024x1024 : Shape := ⟨3, ![1, 1024, 1024]⟩
abbrev S1x1024x512 : Shape := ⟨3, ![1, 1024, 512]⟩
abbrev S1024x512 : Shape := ⟨2, ![1024, 512]⟩
abbrev S1024x128 : Shape := ⟨2, ![1024, 128]⟩
abbrev S1024x1 : Shape := ⟨2, ![1024, 1]⟩
abbrev S1024x256 : Shape := ⟨2, ![1024, 256]⟩
abbrev S256x1024 : Shape := ⟨2, ![256, 1024]⟩

abbrev nBuf : Space → Nat
  | .hbm => 26
  | .vmem => 20
  | .smem => 0
  | _ => 0

abbrev bufTy : (tb : Table) → Fin (tcTables nBuf tb) → BufTy
  | .hbm, ⟨0, _⟩ => ⟨S16x2112x1024, .f32⟩
  | .hbm, ⟨1, _⟩ => ⟨S16x2112x512, .f32⟩
  | .hbm, ⟨2, _⟩ => ⟨S16x2112x512, .bf16⟩
  | .hbm, ⟨3, _⟩ => ⟨S16x2112x512, .bf16⟩
  | .hbm, ⟨4, _⟩ => ⟨S128, .f32⟩
  | .hbm, ⟨5, _⟩ => ⟨S1024x1024, .f32⟩
  | .hbm, ⟨6, _⟩ => ⟨S1024, .f32⟩
  | .hbm, ⟨7, _⟩ => ⟨S1024x5632, .f32⟩
  | .hbm, ⟨8, _⟩ => ⟨S2816x1024, .f32⟩
  | .hbm, ⟨9, _⟩ => ⟨S1024, .f32⟩
  | .hbm, ⟨10, _⟩ => ⟨S1x128, .f32⟩
  | .hbm, ⟨11, _⟩ => ⟨S4x128, .f32⟩
  | .hbm, ⟨12, _⟩ => ⟨S512, .f32⟩
  | .hbm, ⟨13, _⟩ => ⟨S1x512, .f32⟩
  | .hbm, ⟨14, _⟩ => ⟨S512x1024, .f32⟩
  | .hbm, ⟨15, _⟩ => ⟨S512x1024, .bf16⟩
  | .hbm, ⟨16, _⟩ => ⟨S512x1024, .f32⟩
  | .hbm, ⟨17, _⟩ => ⟨S512x1024, .bf16⟩
  | .hbm, ⟨18, _⟩ => ⟨S1x1024, .f32⟩
  | .hbm, ⟨19, _⟩ => ⟨S1024x2816, .f32⟩
  | .hbm, ⟨20, _⟩ => ⟨S1024x2816, .bf16⟩
  | .hbm, ⟨21, _⟩ => ⟨S1024x2816, .f32⟩
  | .hbm, ⟨22, _⟩ => ⟨S1024x2816, .bf16⟩
  | .hbm, ⟨23, _⟩ => ⟨S2816x1024, .bf16⟩
  | .hbm, ⟨24, _⟩ => ⟨S1x1024, .f32⟩
  | .hbm, ⟨25, _⟩ => ⟨S16x2048x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x512, .f32⟩
  | .local _ .vmem, ⟨3, _⟩ => ⟨S1x1024x512, .f32⟩
  | .local _ .vmem, ⟨4, _⟩ => ⟨S1x1024x512, .bf16⟩
  | .local _ .vmem, ⟨5, _⟩ => ⟨S1x1024x512, .bf16⟩
  | .local _ .vmem, ⟨6, _⟩ => ⟨S1x1024x512, .bf16⟩
  | .local _ .vmem, ⟨7, _⟩ => ⟨S1x1024x512, .bf16⟩
  | .local _ .vmem, ⟨8, _⟩ => ⟨S1x512, .f32⟩
  | .local _ .vmem, ⟨9, _⟩ => ⟨S512x1024, .bf16⟩
  | .local _ .vmem, ⟨10, _⟩ => ⟨S512x1024, .bf16⟩
  | .local _ .vmem, ⟨11, _⟩ => ⟨S1x1024, .f32⟩
  | .local _ .vmem, ⟨12, _⟩ => ⟨S1024x2816, .bf16⟩
  | .local _ .vmem, ⟨13, _⟩ => ⟨S1024x2816, .bf16⟩
  | .local _ .vmem, ⟨14, _⟩ => ⟨S2816x1024, .bf16⟩
  | .local _ .vmem, ⟨15, _⟩ => ⟨S1x1024, .f32⟩
  | .local _ .vmem, ⟨16, _⟩ => ⟨S1x1024x1024, .f32⟩
  | .local _ .vmem, ⟨17, _⟩ => ⟨S1x1024x1024, .f32⟩
  | .local _ .vmem, ⟨18, _⟩ => ⟨S1024x512, .bf16⟩
  | .local _ .vmem, ⟨19, _⟩ => ⟨S1024x1024, .bf16⟩
  | _, _ => ⟨S16x2112x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨2, ![16, 2], ![false, false]⟩

def k0_mult1 (i : grid0.Coords) : BitVec 32 :=
  let c64_i32 : BitVec 32 := 64#32
  let arg1 : BitVec 32 := BitVec.ofNat 32 (i 1).val
  let c1024_i32 : BitVec 32 := 1024#32
  let v0 : BitVec 32 := Scalar.muli arg1 c1024_i32
  let v1 : BitVec 32 := Scalar.addi c64_i32 v0
  v1
def k0_mult2 (i : grid0.Coords) : BitVec 32 :=
  let c64_i32 : BitVec 32 := 64#32
  let arg1 : BitVec 32 := BitVec.ofNat 32 (i 1).val
  let c1024_i32 : BitVec 32 := 1024#32
  let v0 : BitVec 32 := Scalar.muli arg1 c1024_i32
  let v1 : BitVec 32 := Scalar.addi c64_i32 v0
  v1
def k0_mult3 (i : grid0.Coords) : BitVec 32 :=
  let c64_i32 : BitVec 32 := 64#32
  let arg1 : BitVec 32 := BitVec.ofNat 32 (i 1).val
  let c1024_i32 : BitVec 32 := 1024#32
  let v0 : BitVec 32 := Scalar.muli arg1 c1024_i32
  let v1 : BitVec 32 := Scalar.addi c64_i32 v0
  v1
def k0_mult4 (i : grid0.Coords) : BitVec 32 :=
  let c64_i32 : BitVec 32 := 64#32
  let arg1 : BitVec 32 := BitVec.ofNat 32 (i 1).val
  let c1024_i32 : BitVec 32 := 1024#32
  let v0 : BitVec 32 := Scalar.muli arg1 c1024_i32
  let v1 : BitVec 32 := Scalar.addi c64_i32 v0
  v1
def cc0_transform_0 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg1 c1024_i32
  let c64_i32 : BitVec 32 := 64#32
  let v1 : BitVec 32 := Scalar.addi c64_i32 v0
  let v2 : BitVec 32 := v1
  let c0_i32 : BitVec 32 := 0#32
  let c0_i32_0 : BitVec 32 := 0#32
  ![arg0.toNat, v2.toNat, c0_i32.toNat]

def cc0_transform_1 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg1 c1024_i32
  let c64_i32 : BitVec 32 := 64#32
  let v1 : BitVec 32 := Scalar.addi c64_i32 v0
  let v2 : BitVec 32 := v1
  let c0_i32 : BitVec 32 := 0#32
  let c0_i32_0 : BitVec 32 := 0#32
  ![arg0.toNat, v2.toNat, c0_i32.toNat]

def cc0_transform_2 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg1 c1024_i32
  let c64_i32 : BitVec 32 := 64#32
  let v1 : BitVec 32 := Scalar.addi c64_i32 v0
  let v2 : BitVec 32 := v1
  let c0_i32 : BitVec 32 := 0#32
  let c0_i32_0 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg1 c1024_i32
  let c64_i32 : BitVec 32 := 64#32
  let v1 : BitVec 32 := Scalar.addi c64_i32 v0
  let v2 : BitVec 32 := v1
  let c0_i32 : BitVec 32 := 0#32
  let c0_i32_0 : BitVec 32 := 0#32
  ![arg0.toNat, v2.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x2816 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x2816 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S2816x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x1024x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Reference2Ideal.lean ====
abbrev S16x2112x1024 : Shape := ⟨3, ![16, 2112, 1024]⟩
abbrev S16x2112x512 : Shape := ⟨3, ![16, 2112, 512]⟩
abbrev S128 : Shape := ⟨1, ![128]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S16x2064x1024 : Shape := ⟨3, ![16, 2064, 1024]⟩
abbrev S16x2064x512 : Shape := ⟨3, ![16, 2064, 512]⟩
abbrev S16x2064x4x128 : Shape := ⟨4, ![16, 2064, 4, 128]⟩
abbrev S_ : Shape := ⟨0, ![]⟩
abbrev S16x2064x4 : Shape := ⟨3, ![16, 2064, 4]⟩
abbrev S16x2064x4x1 : Shape := ⟨4, ![16, 2064, 4, 1]⟩
abbrev S1x1x1x128 : Shape := ⟨4, ![1, 1, 1, 128]⟩
abbrev S16x2064 : Shape := ⟨2, ![16, 2064]⟩
abbrev S16x2064x1 : Shape := ⟨3, ![16, 2064, 1]⟩
abbrev S1x1x1024 : Shape := ⟨3, ![1, 1, 1024]⟩
abbrev S16x2064x5632 : Shape := ⟨3, ![16, 2064, 5632]⟩
abbrev S16x2064x2816 : Shape := ⟨3, ![16, 2064, 2816]⟩
abbrev S16x2048x1024 : Shape := ⟨3, ![16, 2048, 1024]⟩

abbrev nBuf : Space → Nat
  | .hbm => 96
  | .vmem => 0
  | .smem => 0
  | _ => 0

abbrev bufTy : (tb : Table) → Fin (tcTables nBuf tb) → BufTy
  | .hbm, ⟨0, _⟩ => ⟨S16x2112x1024, .f32⟩
  | .hbm, ⟨1, _⟩ => ⟨S16x2112x512, .f32⟩
  | .hbm, ⟨2, _⟩ => ⟨S16x2112x512, .bf16⟩
  | .hbm, ⟨3, _⟩ => ⟨S16x2112x512, .bf16⟩
  | .hbm, ⟨4, _⟩ => ⟨S128, .f32⟩
  | .hbm, ⟨5, _⟩ => ⟨S1024x1024, .f32⟩
  | .hbm, ⟨6, _⟩ => ⟨S1024, .f32⟩
  | .hbm, ⟨7, _⟩ => ⟨S1024x5632, .f32⟩
  | .hbm, ⟨8, _⟩ => ⟨S2816x1024, .f32⟩
  | .hbm, ⟨9, _⟩ => ⟨S1024, .f32⟩
  | .hbm, ⟨10, _⟩ => ⟨S16x2064x1024, .f32⟩
  | .hbm, ⟨11, _⟩ => ⟨S16x2064x512, .f32⟩
  | .hbm, ⟨12, _⟩ => ⟨S16x2064x512, .bf16⟩
  | .hbm, ⟨13, _⟩ => ⟨S16x2064x512, .f32⟩
  | .hbm, ⟨14, _⟩ => ⟨S16x2064x512, .bf16⟩
  | .hbm, ⟨15, _⟩ => ⟨S16x2064x512, .f32⟩
  | .hbm, ⟨16, _⟩ => ⟨S16x2064x4x128, .f32⟩
  | .hbm, ⟨17, _⟩ => ⟨S16x2064x4x128, .f32⟩
  | .hbm, ⟨18, _⟩ => ⟨S_, .f32⟩
  | .hbm, ⟨19, _⟩ => ⟨S16x2064x4, .f32⟩
  | .hbm, ⟨20, _⟩ => ⟨S16x2064x4x1, .f32⟩
  | .hbm, ⟨21, _⟩ => ⟨S_, .f32⟩
  | .hbm, ⟨22, _⟩ => ⟨S16x2064x4x1, .f32⟩
  | .hbm, ⟨23, _⟩ => ⟨S16x2064x4x1, .f32⟩
  | .hbm, ⟨24, _⟩ => ⟨S_, .f32⟩
  | .hbm, ⟨25, _⟩ => ⟨S16x2064x4x1, .f32⟩
  | .hbm, ⟨26, _⟩ => ⟨S16x2064x4x1, .f32⟩
  | .hbm, ⟨27, _⟩ => ⟨S16x2064x4x1, .f32⟩
  | .hbm, ⟨28, _⟩ => ⟨S16x2064x4x128, .f32⟩
  | .hbm, ⟨29, _⟩ => ⟨S16x2064x4x128, .f32⟩
  | .hbm, ⟨30, _⟩ => ⟨S1x1x1x128, .f32⟩
  | .hbm, ⟨31, _⟩ => ⟨S16x2064x4x128, .f32⟩
  | .hbm, ⟨32, _⟩ => ⟨S16x2064x4x128, .f32⟩
  | .hbm, ⟨33, _⟩ => ⟨S16x2064x4x128, .f32⟩
  | .hbm, ⟨34, _⟩ => ⟨S16x2064x4x128, .f32⟩
  | .hbm, ⟨35, _⟩ => ⟨S16x2064x4x128, .f32⟩
  | .hbm, ⟨36, _⟩ => ⟨S_, .f32⟩
  | .hbm, ⟨37, _⟩ => ⟨S16x2064x4x128, .f32⟩
  | .hbm, ⟨38, _⟩ => ⟨S16x2064x4x128, .f32⟩
  | .hbm, ⟨39, _⟩ => ⟨S_, .f32⟩
  | .hbm, ⟨40, _⟩ => ⟨S16x2064x4x128, .f32⟩
  | .hbm, ⟨41, _⟩ => ⟨S16x2064x4x128, .f32⟩
  | .hbm, ⟨42, _⟩ => ⟨S16x2064x4x128, .f32⟩
  | .hbm, ⟨43, _⟩ => ⟨S16x2064x4x128, .f32⟩
  | .hbm, ⟨44, _⟩ => ⟨S16x2064x512, .f32⟩
  | .hbm, ⟨45, _⟩ => ⟨S16x2064x1024, .f32⟩
  | .hbm, ⟨46, _⟩ => ⟨S16x2064x1024, .f32⟩
  | .hbm, ⟨47, _⟩ => ⟨S16x2064x1024, .f32⟩
  | .hbm, ⟨48, _⟩ => ⟨S16x2064x1024, .f32⟩
  | .hbm, ⟨49, _⟩ => ⟨S_, .f32⟩
  | .hbm, ⟨50, _⟩ => ⟨S16x2064, .f32⟩
  | .hbm, ⟨51, _⟩ => ⟨S16x2064x1, .f32⟩
  | .hbm, ⟨52, _⟩ => ⟨S_, .f32⟩
  | .hbm, ⟨53, _⟩ => ⟨S16x2064x1, .f32⟩
  | .hbm, ⟨54, _⟩ => ⟨S16x2064x1, .f32⟩
  | .hbm, ⟨55, _⟩ => ⟨S_, .f32⟩
  | .hbm, ⟨56, _⟩ => ⟨S16x2064x1, .f32⟩
  | .hbm, ⟨57, _⟩ => ⟨S16x2064x1, .f32⟩
  | .hbm, ⟨58, _⟩ => ⟨S16x2064x1, .f32⟩
  | .hbm, ⟨59, _⟩ => ⟨S16x2064x1024, .f32⟩
  | .hbm, ⟨60, _⟩ => ⟨S16x2064x1024, .f32⟩
  | .hbm, ⟨61, _⟩ => ⟨S1x1x1024, .f32⟩
  | .hbm, ⟨62, _⟩ => ⟨S16x2064x1024, .f32⟩
  | .hbm, ⟨63, _⟩ => ⟨S16x2064x1024, .f32⟩
  | .hbm, ⟨64, _⟩ => ⟨S16x2064x5632, .f32⟩
  | .hbm, ⟨65, _⟩ => ⟨S16x2064x2816, .f32⟩
  | .hbm, ⟨66, _⟩ => ⟨S16x2064x2816, .f32⟩
  | .hbm, ⟨67, _⟩ => ⟨S16x2064x2816, .f32⟩
  | .hbm, ⟨68, _⟩ => ⟨S16x2064x2816, .f32⟩
  | .hbm, ⟨69, _⟩ => ⟨S_, .f32⟩
  | .hbm, ⟨70, _⟩ => ⟨S16x2064x2816, .f32⟩
  | .hbm, ⟨71, _⟩ => ⟨S16x2064x2816, .f32⟩
  | .hbm, ⟨72, _⟩ => ⟨S_, .f32⟩
  | .hbm, ⟨73, _⟩ => ⟨S16x2064x2816, .f32⟩
  | .hbm, ⟨74, _⟩ => ⟨S16x2064x2816, .f32⟩
  | .hbm, ⟨75, _⟩ => ⟨S16x2064x2816, .f32⟩
  | .hbm, ⟨76, _⟩ => ⟨S16x2064x2816, .f32⟩
  | .hbm, ⟨77, _⟩ => ⟨S16x2064x1024, .f32⟩
  | .hbm, ⟨78, _⟩ => ⟨S16x2064x1024, .f32⟩
  | .hbm, ⟨79, _⟩ => ⟨S16x2064x1024, .f32⟩
  | .hbm, ⟨80, _⟩ => ⟨S_, .f32⟩
  | .hbm, ⟨81, _⟩ => ⟨S16x2064, .f32⟩
  | .hbm, ⟨82, _⟩ => ⟨S16x2064x1, .f32⟩
  | .hbm, ⟨83, _⟩ => ⟨S_, .f32⟩
  | .hbm, ⟨84, _⟩ => ⟨S16x2064x1, .f32⟩
  | .hbm, ⟨85, _⟩ => ⟨S16x2064x1, .f32⟩
  | .hbm, ⟨86, _⟩ => ⟨S_, .f32⟩
  | .hbm, ⟨87, _⟩ => ⟨S16x2064x1, .f32⟩
  | .hbm, ⟨88, _⟩ => ⟨S16x2064x1, .f32⟩
  | .hbm, ⟨89, _⟩ => ⟨S16x2064x1, .f32⟩
  | .hbm, ⟨90, _⟩ => ⟨S16x2064x1024, .f32⟩
  | .hbm, ⟨91, _⟩ => ⟨S16x2064x1024, .f32⟩
  | .hbm, ⟨92, _⟩ => ⟨S1x1x1024, .f32⟩
  | .hbm, ⟨93, _⟩ => ⟨S16x2064x1024, .f32⟩
  | .hbm, ⟨94, _⟩ => ⟨S16x2064x1024, .f32⟩
  | .hbm, ⟨95, _⟩ => ⟨S16x2048x1024, .f32⟩
  | _, _ => ⟨S16x2112x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_2 : Ref sig .tc := ⟨.hbm, 36, rfl⟩
abbrev main_v23 : Ref sig .tc := ⟨.hbm, 37, rfl⟩
abbrev main_v24 : Ref sig .tc := ⟨.hbm, 38, rfl⟩
abbrev main_cst_3 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_4 : Ref sig .tc := ⟨.hbm, 49, rfl⟩
abbrev main_v34 : Ref sig .tc := ⟨.hbm, 50, rfl⟩
abbrev main_v35 : Ref sig .tc := ⟨.hbm, 51, rfl⟩
abbrev main_cst_5 : Ref sig .tc := ⟨.hbm, 52, rfl⟩
abbrev main_v36 : Ref sig .tc := ⟨.hbm, 53, rfl⟩
abbrev main_v37 : Ref sig .tc := ⟨.hbm, 54, rfl⟩
abbrev main_cst_6 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_7 : Ref sig .tc := ⟨.hbm, 69, rfl⟩
abbrev main_v51 : Ref sig .tc := ⟨.hbm, 70, rfl⟩
abbrev main_v52 : Ref sig .tc := ⟨.hbm, 71, rfl⟩
abbrev main_cst_8 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_9 : Ref sig .tc := ⟨.hbm, 80, rfl⟩
abbrev main_v60 : Ref sig .tc := ⟨.hbm, 81, rfl⟩
abbrev main_v61 : Ref sig .tc := ⟨.hbm, 82, rfl⟩
abbrev main_cst_10 : Ref sig .tc := ⟨.hbm, 83, rfl⟩
abbrev main_v62 : Ref sig .tc := ⟨.hbm, 84, rfl⟩
abbrev main_v63 : Ref sig .tc := ⟨.hbm, 85, rfl⟩
abbrev main_cst_11 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩

abbrev nD : Nat := 1
abbrev τ : Topo := Topo.v7x

variable {F : FTy → Type} [FloatOps F]
-- ==== Kernel3.lean ====
abbrev S16x2064x1024 : Shape := ⟨3, ![16, 2064, 1024]⟩
abbrev S1024 : Shape := ⟨1, ![1024]⟩
abbrev S1024x3600 : Shape := ⟨2, ![1024, 3600]⟩
abbrev S3x1536 : Shape := ⟨2, ![3, 1536]⟩
abbrev S3x512 : Shape := ⟨2, ![3, 512]⟩
abbrev S8 : Shape := ⟨1, ![8]⟩
abbrev S_ : Shape := ⟨0, ![]⟩
abbrev S16x48x1024 : Shape := ⟨3, ![16, 48, 1024]⟩
abbrev S16x2112x1024 : Shape := ⟨3, ![16, 2112, 1024]⟩
abbrev S1024x1536 : Shape := ⟨2, ![1024, 1536]⟩
abbrev S1024x512 : Shape := ⟨2, ![1024, 512]⟩
abbrev S8x1 : Shape := ⟨2, ![8, 1]⟩
abbrev S1024x8 : Shape := ⟨2, ![1024, 8]⟩
abbrev S1024x16 : Shape := ⟨2, ![1024, 16]⟩
abbrev S1024x128 : Shape := ⟨2, ![1024, 128]⟩
abbrev S1x1024 : Shape := ⟨2, ![1, 1024]⟩
abbrev S16x2112x512 : Shape := ⟨3, ![16, 2112, 512]⟩
abbrev S16x2112x128 : Shape := ⟨3, ![16, 2112, 128]⟩
abbrev S1x16x1024 : Shape := ⟨3, ![1, 16, 1024]⟩
abbrev S1x704x1024 : Shape := ⟨3, ![1, 704, 1024]⟩
abbrev S1x704x512 : Shape := ⟨3, ![1, 704, 512]⟩
abbrev S1x704x128 : Shape := ⟨3, ![1, 704, 128]⟩
abbrev S736x1024 : Shape := ⟨2, ![736, 1024]⟩
abbrev S736x1536 : Shape := ⟨2, ![736, 1536]⟩
abbrev S16x1024 : Shape := ⟨2, ![16, 1024]⟩
abbrev S16 : Shape := ⟨1, ![16]⟩
abbrev S16x1 : Shape := ⟨2, ![16, 1]⟩
abbrev S704x1024 : Shape := ⟨2, ![704, 1024]⟩
abbrev S704 : Shape := ⟨1, ![704]⟩
abbrev S704x1 : Shape := ⟨2, ![704, 1]⟩
abbrev S1024x256 : Shape := ⟨2, ![1024, 256]⟩
abbrev S736x256 : Shape := ⟨2, ![736, 256]⟩
abbrev S80x128 : Shape := ⟨2, ![80, 128]⟩
abbrev S3x128 : Shape := ⟨2, ![3, 128]⟩
abbrev S1x128 : Shape := ⟨2, ![1, 128]⟩
abbrev S64x128 : Shape := ⟨2, ![64, 128]⟩
abbrev S64 : Shape := ⟨1, ![64]⟩
abbrev S64x1 : Shape := ⟨2, ![64, 1]⟩
abbrev S1x64x128 : Shape := ⟨3, ![1, 64, 128]⟩
abbrev S704x512 : Shape := ⟨2, ![704, 512]⟩
abbrev S704x128 : Shape := ⟨2, ![704, 128]⟩

abbrev nBuf : Space → Nat
  | .hbm => 51
  | .vmem => 28
  | .smem => 0
  | _ => 0

abbrev bufTy : (tb : Table) → Fin (tcTables nBuf tb) → BufTy
  | .hbm, ⟨0, _⟩ => ⟨S16x2064x1024, .f32⟩
  | .hbm, ⟨1, _⟩ => ⟨S1024, .f32⟩
  | .hbm, ⟨2, _⟩ => ⟨S1024x3600, .f32⟩
  | .hbm, ⟨3, _⟩ => ⟨S3x1536, .f32⟩
  | .hbm, ⟨4, _⟩ => ⟨S3x512, .f32⟩
  | .hbm, ⟨5, _⟩ => ⟨S8, .i32⟩
  | .hbm, ⟨6, _⟩ => ⟨S_, .f32⟩
  | .hbm, ⟨7, _⟩ => ⟨S16x48x1024, .f32⟩
  | .hbm, ⟨8, _⟩ => ⟨S16x2112x1024, .f32⟩
  | .hbm, ⟨9, _⟩ => ⟨S1024x1536, .f32⟩
  | .hbm, ⟨10, _⟩ => ⟨S1024x1536, .bf16⟩
  | .hbm, ⟨11, _⟩ => ⟨S1024x512, .f32⟩
  | .hbm, ⟨12, _⟩ => ⟨S1024x512, .bf16⟩
  | .hbm, ⟨13, _⟩ => ⟨S_, .i32⟩
  | .hbm, ⟨14, _⟩ => ⟨S8, .i32⟩
  | .hbm, ⟨15, _⟩ => ⟨S8, .i32⟩
  | .hbm, ⟨16, _⟩ => ⟨S_, .i32⟩
  | .hbm, ⟨17, _⟩ => ⟨S8, .i32⟩
  | .hbm, ⟨18, _⟩ => ⟨S8, .i1⟩
  | .hbm, ⟨19, _⟩ => ⟨S_, .i32⟩
  | .hbm, ⟨20, _⟩ => ⟨S8, .i32⟩
  | .hbm, ⟨21, _⟩ => ⟨S8, .i32⟩
  | .hbm, ⟨22, _⟩ => ⟨S8, .i32⟩
  | .hbm, ⟨23, _⟩ => ⟨S8x1, .i32⟩
  | .hbm, ⟨24, _⟩ => ⟨S1024x8, .f32⟩
  | .hbm, ⟨25, _⟩ => ⟨S_, .i32⟩
  | .hbm, ⟨26, _⟩ => ⟨S8, .i32⟩
  | .hbm, ⟨27, _⟩ => ⟨S8, .i32⟩
  | .hbm, ⟨28, _⟩ => ⟨S_, .i32⟩
  | .hbm, ⟨29, _⟩ => ⟨S8, .i32⟩
  | .hbm, ⟨30, _⟩ => ⟨S8, .i1⟩
  | .hbm, ⟨31, _⟩ => ⟨S_, .i32⟩
  | .hbm, ⟨32, _⟩ => ⟨S8, .i32⟩
  | .hbm, ⟨33, _⟩ => ⟨S8, .i32⟩
  | .hbm, ⟨34, _⟩ => ⟨S8, .i32⟩
  | .hbm, ⟨35, _⟩ => ⟨S8x1, .i32⟩
  | .hbm, ⟨36, _⟩ => ⟨S1024x8, .f32⟩
  | .hbm, ⟨37, _⟩ => ⟨S1024x16, .f32⟩
  | .hbm, ⟨38, _⟩ => ⟨S_, .i32⟩
  | .hbm, ⟨39, _⟩ => ⟨S_, .f32⟩
  | .hbm, ⟨40, _⟩ => ⟨S1024x128, .f32⟩
  | .hbm, ⟨41, _⟩ => ⟨S1024x128, .bf16⟩
  | .hbm, ⟨42, _⟩ => ⟨S1024x1536, .f32⟩
  | .hbm, ⟨43, _⟩ => ⟨S1024x1536, .bf16⟩
  | .hbm, ⟨44, _⟩ => ⟨S1x1024, .f32⟩
  | .hbm, ⟨45, _⟩ => ⟨S16x2112x512, .bf16⟩
  | .hbm, ⟨46, _⟩ => ⟨S16x2112x512, .bf16⟩
  | .hbm, ⟨47, _⟩ => ⟨S16x2112x512, .bf16⟩
  | .hbm, ⟨48, _⟩ => ⟨S16x2112x512, .bf16⟩
  | .hbm, ⟨49, _⟩ => ⟨S16x2112x512, .bf16⟩
  | .hbm, ⟨50, _⟩ => ⟨S16x2112x128, .f32⟩
  | .local _ .vmem, ⟨0, _⟩ => ⟨S1x16x1024, .f32⟩
  | .local _ .vmem, ⟨1, _⟩ => ⟨S1x16x1024, .f32⟩
  | .local _ .vmem, ⟨2, _⟩ => ⟨S1x704x1024, .f32⟩
  | .local _ .vmem, ⟨3, _⟩ => ⟨S1x704x1024, .f32⟩
  | .local _ .vmem, ⟨4, _⟩ => ⟨S1x16x1024, .f32⟩
  | .local _ .vmem, ⟨5, _⟩ => ⟨S1x16x1024, .f32⟩
  | .local _ .vmem, ⟨6, _⟩ => ⟨S1x1024, .f32⟩
  | .local _ .vmem, ⟨7, _⟩ => ⟨S1024x1536, .bf16⟩
  | .local _ .vmem, ⟨8, _⟩ => ⟨S1024x512, .bf16⟩
  | .local _ .vmem, ⟨9, _⟩ => ⟨S1024x1536, .bf16⟩
  | .local _ .vmem, ⟨10, _⟩ => ⟨S1024x128, .bf16⟩
  | .local _ .vmem, ⟨11, _⟩ => ⟨S3x1536, .f32⟩
  | .local _ .vmem, ⟨12, _⟩ => ⟨S3x512, .f32⟩
  | .local _ .vmem, ⟨13, _⟩ => ⟨S1x704x512, .bf16⟩
  | .local _ .vmem, ⟨14, _⟩ => ⟨S1x704x512, .bf16⟩
  | .local _ .vmem, ⟨15, _⟩ => ⟨S1x704x512, .bf16⟩
  | .local _ .vmem, ⟨16, _⟩ => ⟨S1x704x512, .bf16⟩
  | .local _ .vmem, ⟨17, _⟩ => ⟨S1x704x512, .bf16⟩
  | .local _ .vmem, ⟨18, _⟩ => ⟨S1x704x512, .bf16⟩
  | .local _ .vmem, ⟨19, _⟩ => ⟨S1x704x512, .bf16⟩
  | .local _ .vmem, ⟨20, _⟩ => ⟨S1x704x512, .bf16⟩
  | .local _ .vmem, ⟨21, _⟩ => ⟨S1x704x512, .bf16⟩
  | .local _ .vmem, ⟨22, _⟩ => ⟨S1x704x512, .bf16⟩
  | .local _ .vmem, ⟨23, _⟩ => ⟨S1x704x128, .f32⟩
  | .local _ .vmem, ⟨24, _⟩ => ⟨S1x704x128, .f32⟩
  | .local _ .vmem, ⟨25, _⟩ => ⟨S736x1024, .bf16⟩
  | .local _ .vmem, ⟨26, _⟩ => ⟨S736x1536, .f32⟩
  | .local _ .vmem, ⟨27, _⟩ => ⟨S736x1536, .f32⟩
  | _, _ => ⟨S16x2064x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_c_1 : Ref sig .tc := ⟨.hbm, 16, rfl⟩
abbrev main_v8 : Ref sig .tc := ⟨.hbm, 17, rfl⟩
abbrev main_v9 : Ref sig .tc := ⟨.hbm, 18, rfl⟩
abbrev main_c_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c_3 : Ref sig .tc := ⟨.hbm, 25, rfl⟩
abbrev main_v15 : Ref sig .tc := ⟨.hbm, 26, rfl⟩
abbrev main_v16 : Ref sig .tc := ⟨.hbm, 27, rfl⟩
abbrev main_c_4 : Ref sig .tc := ⟨.hbm, 28, rfl⟩
abbrev main_v17 : Ref sig .tc := ⟨.hbm, 29, rfl⟩
abbrev main_v18 : Ref sig .tc := ⟨.hbm, 30, rfl⟩
abbrev main_c_5 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c_6 : Ref sig .tc := ⟨.hbm, 38, rfl⟩
abbrev main_call0_v0 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30_0 : Ref sig .tc := ⟨.hbm, 45, rfl⟩
abbrev main_v30_1 : Ref sig .tc := ⟨.hbm, 46, rfl⟩
abbrev main_v30_2 : Ref sig .tc := ⟨.hbm, 47, rfl⟩
abbrev main_v30_3 : Ref sig .tc := ⟨.hbm, 48, rfl⟩
abbrev main_v30_4 : Ref sig .tc := ⟨.hbm, 49, rfl⟩
abbrev main_v30_5 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_scratch0 : Ref sig .tc := ⟨.vmem, 25, rfl⟩
abbrev cc0_scratch1 : Ref sig .tc := ⟨.vmem, 26, rfl⟩
abbrev cc0_scratch2 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24

abbrev nD : Nat := 1
abbrev τ : Topo := Topo.v7x

variable {F : FTy → Type} [FloatOps F]

abbrev grid0 : Pipeline.Grid := ⟨2, ![16, 3], ![false, false]⟩

def cc0_transform_0 (i : grid0.Coords) : Fin 3 → Nat :=
  let arg0 : BitVec 32 := BitVec.ofNat 32 (i 0).val
  let arg1 : BitVec 32 := BitVec.ofNat 32 (i 1).val
  let c44_i32 : BitVec 32 := 44#32
  let v0 : BitVec 32 := Scalar.muli arg1 c44_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c44_i32 : BitVec 32 := 44#32
  let v1 : BitVec 32 := Scalar.muli v0 c44_i32
  let c131_i32 : BitVec 32 := 131#32
  let v2 : BitVec 32 := Scalar.minsi v1 c131_i32
  let c0_i32 : BitVec 32 := 0#32
  let c0_i32_0 : BitVec 32 := 0#32
  ![arg0.toNat, v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x704x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1536 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S3x1536 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S3x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x704x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x704x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x704x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x704x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x704x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x704x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== Reference3Ideal.lean ====
abbrev S16x2064x1024 : Shape := ⟨3, ![16, 2064, 1024]⟩
abbrev S1024 : Shape := ⟨1, ![1024]⟩
abbrev S1024x3600 : Shape := ⟨2, ![1024, 3600]⟩
abbrev S3x1536 : Shape := ⟨2, ![3, 1536]⟩
abbrev S3x512 : Shape := ⟨2, ![3, 512]⟩
abbrev S_ : Shape := ⟨0, ![]⟩
abbrev S16x2064 : Shape := ⟨2, ![16, 2064]⟩
abbrev S16x2064x1 : Shape := ⟨3, ![16, 2064, 1]⟩
abbrev S1x1x1024 : Shape := ⟨3, ![1, 1, 1024]⟩
abbrev S16x2064x3600 : Shape := ⟨3, ![16, 2064, 3600]⟩
abbrev S16x2064x1536 : Shape := ⟨3, ![16, 2064, 1536]⟩
abbrev S16x2064x512 : Shape := ⟨3, ![16, 2064, 512]⟩
abbrev S16x2064x8 : Shape := ⟨3, ![16, 2064, 8]⟩
abbrev S16x2066x1536 : Shape := ⟨3, ![16, 2066, 1536]⟩
abbrev S1x1536 : Shape := ⟨2, ![1, 1536]⟩
abbrev S1536 : Shape := ⟨1, ![1536]⟩
abbrev S1x1x1536 : Shape := ⟨3, ![1, 1, 1536]⟩
abbrev S16x2064x4x128 : Shape := ⟨4, ![16, 2064, 4, 128]⟩
abbrev S16x2064x4 : Shape := ⟨3, ![16, 2064, 4]⟩
abbrev S16x2064x4x1 : Shape := ⟨4, ![16, 2064, 4, 1]⟩
abbrev S16x2066x512 : Shape := ⟨3, ![16, 2066, 512]⟩
abbrev S1x512 : Shape := ⟨2, ![1, 512]⟩
abbrev S512 : Shape := ⟨1, ![512]⟩
abbrev S1x1x512 : Shape := ⟨3, ![1, 1, 512]⟩
abbrev S16x2064x2x2x2 : Shape := ⟨5, ![16, 2064, 2, 2, 2]⟩
abbrev S16x2064x16 : Shape := ⟨3, ![16, 2064, 16]⟩
abbrev S16x2112x128 : Shape := ⟨3, ![16, 2112, 128]⟩
abbrev S16x2112x512 : Shape := ⟨3, ![16, 2112, 512]⟩

abbrev nBuf : Space → Nat
  | .hbm => 146
  | .vmem => 0
  | .smem => 0
  | _ => 0

abbrev hbmTy0_0 (i : Nat) : BufTy := match i % 128 with
  | 0 => ⟨S16x2064x1024, .f32⟩
  | 1 => ⟨S1024, .f32⟩
  | 2 => ⟨S1024x3600, .f32⟩
  | 3 => ⟨S3x1536, .f32⟩
  | 4 => ⟨S3x512, .f32⟩
  | 5 => ⟨S16x2064x1024, .f32⟩
  | 6 => ⟨S_, .f32⟩
  | 7 => ⟨S16x2064, .f32⟩
  | 8 => ⟨S16x2064x1, .f32⟩
  | 9 => ⟨S_, .f32⟩
  | 10 => ⟨S16x2064x1, .f32⟩
  | 11 => ⟨S16x2064x1, .f32⟩
  | 12 => ⟨S_, .f32⟩
  | 13 => ⟨S16x2064x1, .f32⟩
  | 14 => ⟨S16x2064x1, .f32⟩
  | 15 => ⟨S16x2064x1, .f32⟩
  | 16 => ⟨S16x2064x1024, .f32⟩
  | 17 => ⟨S16x2064x1024, .f32⟩
  | 18 => ⟨S1x1x1024, .f32⟩
  | 19 => ⟨S16x2064x1024, .f32⟩
  | 20 => ⟨S16x2064x1024, .f32⟩
  | 21 => ⟨S16x2064x3600, .f32⟩
  | 22 => ⟨S16x2064x1536, .f32⟩
  | 23 => ⟨S16x2064x512, .f32⟩
  | 24 => ⟨S16x2064x8, .f32⟩
  | 25 => ⟨S16x2064x8, .f32⟩
  | 26 => ⟨S16x2064x512, .f32⟩
  | 27 => ⟨S16x2064x512, .f32⟩
  | 28 => ⟨S16x2064x512, .f32⟩
  | 29 => ⟨S_, .i32⟩
  | 30 => ⟨S_, .f32⟩
  | 31 => ⟨S16x2066x1536, .f32⟩
  | 32 => ⟨S16x2064x1536, .f32⟩
  | 33 => ⟨S1x1536, .f32⟩
  | 34 => ⟨S1536, .f32⟩
  | 35 => ⟨S1x1x1536, .f32⟩
  | 36 => ⟨S16x2064x1536, .f32⟩
  | 37 => ⟨S16x2064x1536, .f32⟩
  | 38 => ⟨S16x2064x1536, .f32⟩
  | 39 => ⟨S1x1536, .f32⟩
  | 40 => ⟨S1536, .f32⟩
  | 41 => ⟨S1x1x1536, .f32⟩
  | 42 => ⟨S16x2064x1536, .f32⟩
  | 43 => ⟨S16x2064x1536, .f32⟩
  | 44 => ⟨S16x2064x1536, .f32⟩
  | 45 => ⟨S16x2064x1536, .f32⟩
  | 46 => ⟨S1x1536, .f32⟩
  | 47 => ⟨S1536, .f32⟩
  | 48 => ⟨S1x1x1536, .f32⟩
  | 49 => ⟨S16x2064x1536, .f32⟩
  | 50 => ⟨S16x2064x1536, .f32⟩
  | 51 => ⟨S16x2064x1536, .f32⟩
  | 52 => ⟨S16x2064x1536, .f32⟩
  | 53 => ⟨S16x2064x1536, .f32⟩
  | 54 => ⟨S_, .f32⟩
  | 55 => ⟨S16x2064x1536, .f32⟩
  | 56 => ⟨S16x2064x1536, .f32⟩
  | 57 => ⟨S_, .f32⟩
  | 58 => ⟨S16x2064x1536, .f32⟩
  | 59 => ⟨S16x2064x1536, .f32⟩
  | 60 => ⟨S16x2064x1536, .f32⟩
  | 61 => ⟨S16x2064x512, .f32⟩
  | 62 => ⟨S16x2064x512, .f32⟩
  | 63 => ⟨S16x2064x512, .f32⟩
  | 64 => ⟨S16x2064x4x128, .f32⟩
  | 65 => ⟨S16x2064x4x128, .f32⟩
  | 66 => ⟨S_, .f32⟩
  | 67 => ⟨S16x2064x4, .f32⟩
  | 68 => ⟨S16x2064x4x1, .f32⟩
  | 69 => ⟨S_, .f32⟩
  | 70 => ⟨S16x2064x4x1, .f32⟩
  | 71 => ⟨S16x2064x4x1, .f32⟩
  | 72 => ⟨S16x2064x4x1, .f32⟩
  | 73 => ⟨S16x2064x4x128, .f32⟩
  | 74 => ⟨S16x2064x4x128, .f32⟩
  | 75 => ⟨S_, .f32⟩
  | 76 => ⟨S16x2064x4x128, .f32⟩
  | 77 => ⟨S16x2064x4x128, .f32⟩
  | 78 => ⟨S16x2064x512, .f32⟩
  | 79 => ⟨S16x2064x4x128, .f32⟩
  | 80 => ⟨S16x2064x4x128, .f32⟩
  | 81 => ⟨S_, .f32⟩
  | 82 => ⟨S16x2064x4, .f32⟩
  | 83 => ⟨S16x2064x4x1, .f32⟩
  | 84 => ⟨S_, .f32⟩
  | 85 => ⟨S16x2064x4x1, .f32⟩
  | 86 => ⟨S16x2064x4x1, .f32⟩
  | 87 => ⟨S16x2064x4x1, .f32⟩
  | 88 => ⟨S16x2064x4x128, .f32⟩
  | 89 => ⟨S16x2064x4x128, .f32⟩
  | 90 => ⟨S16x2064x512, .f32⟩
  | 91 => ⟨S16x2064x512, .f32⟩
  | 92 => ⟨S_, .i32⟩
  | 93 => ⟨S_, .f32⟩
  | 94 => ⟨S16x2066x512, .f32⟩
  | 95 => ⟨S16x2064x512, .f32⟩
  | 96 => ⟨S1x512, .f32⟩
  | 97 => ⟨S512, .f32⟩
  | 98 => ⟨S1x1x512, .f32⟩
  | 99 => ⟨S16x2064x512, .f32⟩
  | 100 => ⟨S16x2064x512, .f32⟩
  | 101 => ⟨S16x2064x512, .f32⟩
  | 102 => ⟨S1x512, .f32⟩
  | 103 => ⟨S512, .f32⟩
  | 104 => ⟨S1x1x512, .f32⟩
  | 105 => ⟨S16x2064x512, .f32⟩
  | 106 => ⟨S16x2064x512, .f32⟩
  | 107 => ⟨S16x2064x512, .f32⟩
  | 108 => ⟨S16x2064x512, .f32⟩
  | 109 => ⟨S1x512, .f32⟩
  | 110 => ⟨S512, .f32⟩
  | 111 => ⟨S1x1x512, .f32⟩
  | 112 => ⟨S16x2064x512, .f32⟩
  | 113 => ⟨S16x2064x512, .f32⟩
  | 114 => ⟨S16x2064x512, .f32⟩
  | 115 => ⟨S16x2064x512, .f32⟩
  | 116 => ⟨S16x2064x2x2x2, .f32⟩
  | 117 => ⟨S16x2064x2x2x2, .f32⟩
  | 118 => ⟨S16x2064x8, .f32⟩
  | 119 => ⟨S16x2064x2x2x2, .f32⟩
  | 120 => ⟨S16x2064x2x2x2, .f32⟩
  | 121 => ⟨S16x2064x8, .f32⟩
  | 122 => ⟨S16x2064x16, .f32⟩
  | 123 => ⟨S_, .i32⟩
  | 124 => ⟨S_, .f32⟩
  | 125 => ⟨S16x2112x128, .f32⟩
  | 126 => ⟨S_, .i32⟩
  | 127 => ⟨S_, .f32⟩
  | _ => ⟨S16x2064x1024, .f32⟩

abbrev hbmTy0_1 (i : Nat) : BufTy := match i % 128 with
  | 0 => ⟨S16x2112x512, .f32⟩
  | 1 => ⟨S16x2112x512, .bf16⟩
  | 2 => ⟨S_, .i32⟩
  | 3 => ⟨S_, .f32⟩
  | 4 => ⟨S16x2112x512, .f32⟩
  | 5 => ⟨S16x2112x512, .bf16⟩
  | 6 => ⟨S_, .i32⟩
  | 7 => ⟨S_, .f32⟩
  | 8 => ⟨S16x2112x512, .f32⟩
  | 9 => ⟨S16x2112x512, .bf16⟩
  | 10 => ⟨S_, .i32⟩
  | 11 => ⟨S_, .f32⟩
  | 12 => ⟨S16x2112x512, .f32⟩
  | 13 => ⟨S16x2112x512, .bf16⟩
  | 14 => ⟨S_, .i32⟩
  | 15 => ⟨S_, .f32⟩
  | 16 => ⟨S16x2112x512, .f32⟩
  | 17 => ⟨S16x2112x512, .bf16⟩
  | _ => ⟨S16x2064x1024, .f32⟩

abbrev hbmTy (i : Nat) : BufTy := match i / 128 with
  | 0 => hbmTy0_0 i
  | 1 => hbmTy0_1 i
  | _ => ⟨S16x2064x1024, .f32⟩

abbrev bufTy : (tb : Table) → Fin (tcTables nBuf tb) → BufTy
  | .hbm, ⟨i, _⟩ => hbmTy i
  | _, _ => ⟨S16x2064x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_c : Ref sig .tc := ⟨.hbm, 29, rfl⟩
abbrev main_call0_v0 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_cst_2 : Ref sig .tc := ⟨.hbm, 54, rfl⟩
abbrev main_v44 : Ref sig .tc := ⟨.hbm, 55, rfl⟩
abbrev main_v45 : Ref sig .tc := ⟨.hbm, 56, rfl⟩
abbrev main_cst_3 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_cst_4 : Ref sig .tc := ⟨.hbm, 66, rfl⟩
abbrev main_v54 : Ref sig .tc := ⟨.hbm, 67, rfl⟩
abbrev main_v55 : Ref sig .tc := ⟨.hbm, 68, rfl⟩
abbrev main_cst_5 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_cst_6 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_cst_7 : Ref sig .tc := ⟨.hbm, 81, rfl⟩
abbrev main_v66 : Ref sig .tc := ⟨.hbm, 82, rfl⟩
abbrev main_v67 : Ref sig .tc := ⟨.hbm, 83, rfl⟩
abbrev main_cst_8 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_c_9 : Ref sig .tc := ⟨.hbm, 92, rfl⟩
abbrev main_call1_v0 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_c_10 : Ref sig .tc := ⟨.hbm, 123, rfl⟩
abbrev main_call2_v0 : Ref sig .tc := ⟨.hbm, 124, rfl⟩
abbrev main_v104 : Ref sig .tc := ⟨.hbm, 125, rfl⟩
abbrev main_c_11 : Ref sig .tc := ⟨.hbm, 126, rfl⟩
abbrev main_call3_v0 : Ref sig .tc := ⟨.hbm, 127, rfl⟩
abbrev main_v105 : Ref sig .tc := ⟨.hbm, 128, rfl⟩
abbrev main_v106 : Ref sig .tc := ⟨.hbm, 129, rfl⟩
abbrev main_c_12 : Ref sig .tc := ⟨.hbm, 130, rfl⟩
abbrev main_call4_v0 : Ref sig .tc := ⟨.hbm, 131, rfl⟩
abbrev main_v107 : Ref sig .tc := ⟨.hbm, 132, rfl⟩
abbrev main_v108 : Ref sig .tc := ⟨.hbm, 133, rfl⟩
abbrev main_c_13 : Ref sig .tc := ⟨.hbm, 134, rfl⟩
abbrev main_call5_v0 : Ref sig .tc := ⟨.hbm, 135, rfl⟩
abbrev main_v109 : Ref sig .tc := ⟨.hbm, 136, rfl⟩
abbrev main_v110 : Ref sig .tc := ⟨.hbm, 137, rfl⟩
abbrev main_c_14 : Ref sig .tc := ⟨.hbm, 138, rfl⟩
abbrev main_call6_v0 : Ref sig .tc := ⟨.hbm, 139, rfl⟩
abbrev main_v111 : Ref sig .tc := ⟨.hbm, 140, rfl⟩
abbrev main_v112 : Ref sig .tc := ⟨.hbm, 141, rfl⟩
abbrev main_c_15 : Ref sig .tc := ⟨.hbm, 142, rfl⟩
abbrev main_call7_v0 : Ref sig .tc := ⟨.hbm, 143, rfl⟩
abbrev main_v113 : Ref sig .tc := ⟨.hbm, 144, rfl⟩
abbrev main_v114 : Ref sig .tc := ⟨.hbm, 145, rfl⟩

abbrev nD : Nat := 1
abbrev τ : Topo := Topo.v7x

variable {F : FTy → Type} [FloatOps F]
-- ==== Kernel4.lean ====
abbrev S16x2112x1024 : Shape := ⟨3, ![16, 2112, 1024]⟩
abbrev S16x2112x512 : Shape := ⟨3, ![16, 2112, 512]⟩
abbrev S128 : Shape := ⟨1, ![128]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S1x128 : Shape := ⟨2, ![1, 128]⟩
abbrev S4x128 : Shape := ⟨2, ![4, 128]⟩
abbrev S512 : Shape := ⟨1, ![512]⟩
abbrev S1x512 : Shape := ⟨2, ![1, 512]⟩
abbrev S512x1024 : Shape := ⟨2, ![512, 1024]⟩
abbrev S1x1024 : Shape := ⟨2, ![1, 1024]⟩
abbrev S1024x2816 : Shape := ⟨2, ![1024, 2816]⟩
abbrev S1x704x1024 : Shape := ⟨3, ![1, 704, 1024]⟩
abbrev S1x704x512 : Shape := ⟨3, ![1, 704, 512]⟩
abbrev S704x512 : Shape := ⟨2, ![704, 512]⟩
abbrev S704x1024 : Shape := ⟨2, ![704, 1024]⟩
abbrev S1x704x128 : Shape := ⟨3, ![1, 704, 128]⟩
abbrev S704x128 : Shape := ⟨2, ![704, 128]⟩
abbrev S704 : Shape := ⟨1, ![704]⟩
abbrev S704x1 : Shape := ⟨2, ![704, 1]⟩
abbrev S1024x256 : Shape := ⟨2, ![1024, 256]⟩
abbrev S704x256 : Shape := ⟨2, ![704, 256]⟩
abbrev S256x1024 : Shape := ⟨2, ![256, 1024]⟩

abbrev nBuf : Space → Nat
  | .hbm => 26
  | .vmem => 20
  | .smem => 0
  | _ => 0

abbrev bufTy : (tb : Table) → Fin (tcTables nBuf tb) → BufTy
  | .hbm, ⟨0, _⟩ => ⟨S16x2112x1024, .f32⟩
  | .hbm, ⟨1, _⟩ => ⟨S16x2112x512, .f32⟩
  | .hbm, ⟨2, _⟩ => ⟨S16x2112x512, .bf16⟩
  | .hbm, ⟨3, _⟩ => ⟨S16x2112x512, .bf16⟩
  | .hbm, ⟨4, _⟩ => ⟨S128, .f32⟩
  | .hbm, ⟨5, _⟩ => ⟨S1024x1024, .f32⟩
  | .hbm, ⟨6, _⟩ => ⟨S1024, .f32⟩
  | .hbm, ⟨7, _⟩ => ⟨S1024x5632, .f32⟩
  | .hbm, ⟨8, _⟩ => ⟨S2816x1024, .f32⟩
  | .hbm, ⟨9, _⟩ => ⟨S1024, .f32⟩
  | .hbm, ⟨10, _⟩ => ⟨S1x128, .f32⟩
  | .hbm, ⟨11, _⟩ => ⟨S4x128, .f32⟩
  | .hbm, ⟨12, _⟩ => ⟨S512, .f32⟩
  | .hbm, ⟨13, _⟩ => ⟨S1x512, .f32⟩
  | .hbm, ⟨14, _⟩ => ⟨S512x1024, .f32⟩
  | .hbm, ⟨15, _⟩ => ⟨S512x1024, .bf16⟩
  | .hbm, ⟨16, _⟩ => ⟨S512x1024, .f32⟩
  | .hbm, ⟨17, _⟩ => ⟨S512x1024, .bf16⟩
  | .hbm, ⟨18, _⟩ => ⟨S1x1024, .f32⟩
  | .hbm, ⟨19, _⟩ => ⟨S1024x2816, .f32⟩
  | .hbm, ⟨20, _⟩ => ⟨S1024x2816, .bf16⟩
  | .hbm, ⟨21, _⟩ => ⟨S1024x2816, .f32⟩
  | .hbm, ⟨22, _⟩ => ⟨S1024x2816, .bf16⟩
  | .hbm, ⟨23, _⟩ => ⟨S2816x1024, .bf16⟩
  | .hbm, ⟨24, _⟩ => ⟨S1x1024, .f32⟩
  | .hbm, ⟨25, _⟩ => ⟨S16x2112x1024, .f32⟩
  | .local _ .vmem, ⟨0, _⟩ => ⟨S1x704x1024, .f32⟩
  | .local _ .vmem, ⟨1, _⟩ => ⟨S1x704x1024, .f32⟩
  | .local _ .vmem, ⟨2, _⟩ => ⟨S1x704x512, .f32⟩
  | .local _ .vmem, ⟨3, _⟩ => ⟨S1x704x512, .f32⟩
  | .local _ .vmem, ⟨4, _⟩ => ⟨S1x704x512, .bf16⟩
  | .local _ .vmem, ⟨5, _⟩ => ⟨S1x704x512, .bf16⟩
  | .local _ .vmem, ⟨6, _⟩ => ⟨S1x704x512, .bf16⟩
  | .local _ .vmem, ⟨7, _⟩ => ⟨S1x704x512, .bf16⟩
  | .local _ .vmem, ⟨8, _⟩ => ⟨S1x512, .f32⟩
  | .local _ .vmem, ⟨9, _⟩ => ⟨S512x1024, .bf16⟩
  | .local _ .vmem, ⟨10, _⟩ => ⟨S512x1024, .bf16⟩
  | .local _ .vmem, ⟨11, _⟩ => ⟨S1x1024, .f32⟩
  | .local _ .vmem, ⟨12, _⟩ => ⟨S1024x2816, .bf16⟩
  | .local _ .vmem, ⟨13, _⟩ => ⟨S1024x2816, .bf16⟩
  | .local _ .vmem, ⟨14, _⟩ => ⟨S2816x1024, .bf16⟩
  | .local _ .vmem, ⟨15, _⟩ => ⟨S1x1024, .f32⟩
  | .local _ .vmem, ⟨16, _⟩ => ⟨S1x704x1024, .f32⟩
  | .local _ .vmem, ⟨17, _⟩ => ⟨S1x704x1024, .f32⟩
  | .local _ .vmem, ⟨18, _⟩ => ⟨S704x512, .bf16⟩
  | .local _ .vmem, ⟨19, _⟩ => ⟨S704x1024, .bf16⟩
  | _, _ => ⟨S16x2112x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨2, ![16, 3], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x704x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x704x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x704x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x704x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x2816 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x2816 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S2816x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x704x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Reference4Ideal.lean ====
abbrev S16x2112x1024 : Shape := ⟨3, ![16, 2112, 1024]⟩
abbrev S16x2112x512 : Shape := ⟨3, ![16, 2112, 512]⟩
abbrev S128 : Shape := ⟨1, ![128]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S16x2112x4x128 : Shape := ⟨4, ![16, 2112, 4, 128]⟩
abbrev S_ : Shape := ⟨0, ![]⟩
abbrev S16x2112x4 : Shape := ⟨3, ![16, 2112, 4]⟩
abbrev S16x2112x4x1 : Shape := ⟨4, ![16, 2112, 4, 1]⟩
abbrev S1x1x1x128 : Shape := ⟨4, ![1, 1, 1, 128]⟩
abbrev S16x2112 : Shape := ⟨2, ![16, 2112]⟩
abbrev S16x2112x1 : Shape := ⟨3, ![16, 2112, 1]⟩
abbrev S1x1x1024 : Shape := ⟨3, ![1, 1, 1024]⟩
abbrev S16x2112x5632 : Shape := ⟨3, ![16, 2112, 5632]⟩
abbrev S16x2112x2816 : Shape := ⟨3, ![16, 2112, 2816]⟩

abbrev nBuf : Space → Nat
  | .hbm => 75
  | .vmem => 0
  | .smem => 0
  | _ => 0

abbrev bufTy : (tb : Table) → Fin (tcTables nBuf tb) → BufTy
  | .hbm, ⟨0, _⟩ => ⟨S16x2112x1024, .f32⟩
  | .hbm, ⟨1, _⟩ => ⟨S16x2112x512, .f32⟩
  | .hbm, ⟨2, _⟩ => ⟨S16x2112x512, .bf16⟩
  | .hbm, ⟨3, _⟩ => ⟨S16x2112x512, .bf16⟩
  | .hbm, ⟨4, _⟩ => ⟨S128, .f32⟩
  | .hbm, ⟨5, _⟩ => ⟨S1024x1024, .f32⟩
  | .hbm, ⟨6, _⟩ => ⟨S1024, .f32⟩
  | .hbm, ⟨7, _⟩ => ⟨S1024x5632, .f32⟩
  | .hbm, ⟨8, _⟩ => ⟨S2816x1024, .f32⟩
  | .hbm, ⟨9, _⟩ => ⟨S1024, .f32⟩
  | .hbm, ⟨10, _⟩ => ⟨S16x2112x512, .f32⟩
  | .hbm, ⟨11, _⟩ => ⟨S16x2112x512, .f32⟩
  | .hbm, ⟨12, _⟩ => ⟨S16x2112x4x128, .f32⟩
  | .hbm, ⟨13, _⟩ => ⟨S16x2112x4x128, .f32⟩
  | .hbm, ⟨14, _⟩ => ⟨S_, .f32⟩
  | .hbm, ⟨15, _⟩ => ⟨S16x2112x4, .f32⟩
  | .hbm, ⟨16, _⟩ => ⟨S16x2112x4x1, .f32⟩
  | .hbm, ⟨17, _⟩ => ⟨S_, .f32⟩
  | .hbm, ⟨18, _⟩ => ⟨S16x2112x4x1, .f32⟩
  | .hbm, ⟨19, _⟩ => ⟨S16x2112x4x1, .f32⟩
  | .hbm, ⟨20, _⟩ => ⟨S_, .f32⟩
  | .hbm, ⟨21, _⟩ => ⟨S16x2112x4x1, .f32⟩
  | .hbm, ⟨22, _⟩ => ⟨S16x2112x4x1, .f32⟩
  | .hbm, ⟨23, _⟩ => ⟨S16x2112x4x1, .f32⟩
  | .hbm, ⟨24, _⟩ => ⟨S16x2112x4x128, .f32⟩
  | .hbm, ⟨25, _⟩ => ⟨S16x2112x4x128, .f32⟩
  | .hbm, ⟨26, _⟩ => ⟨S1x1x1x128, .f32⟩
  | .hbm, ⟨27, _⟩ => ⟨S16x2112x4x128, .f32⟩
  | .hbm, ⟨28, _⟩ => ⟨S16x2112x4x128, .f32⟩
  | .hbm, ⟨29, _⟩ => ⟨S16x2112x4x128, .f32⟩
  | .hbm, ⟨30, _⟩ => ⟨S16x2112x4x128, .f32⟩
  | .hbm, ⟨31, _⟩ => ⟨S16x2112x4x128, .f32⟩
  | .hbm, ⟨32, _⟩ => ⟨S_, .f32⟩
  | .hbm, ⟨33, _⟩ => ⟨S16x2112x4x128, .f32⟩
  | .hbm, ⟨34, _⟩ => ⟨S16x2112x4x128, .f32⟩
  | .hbm, ⟨35, _⟩ => ⟨S_, .f32⟩
  | .hbm, ⟨36, _⟩ => ⟨S16x2112x4x128, .f32⟩
  | .hbm, ⟨37, _⟩ => ⟨S16x2112x4x128, .f32⟩
  | .hbm, ⟨38, _⟩ => ⟨S16x2112x4x128, .f32⟩
  | .hbm, ⟨39, _⟩ => ⟨S16x2112x4x128, .f32⟩
  | .hbm, ⟨40, _⟩ => ⟨S16x2112x512, .f32⟩
  | .hbm, ⟨41, _⟩ => ⟨S16x2112x1024, .f32⟩
  | .hbm, ⟨42, _⟩ => ⟨S16x2112x1024, .f32⟩
  | .hbm, ⟨43, _⟩ => ⟨S16x2112x1024, .f32⟩
  | .hbm, ⟨44, _⟩ => ⟨S16x2112x1024, .f32⟩
  | .hbm, ⟨45, _⟩ => ⟨S_, .f32⟩
  | .hbm, ⟨46, _⟩ => ⟨S16x2112, .f32⟩
  | .hbm, ⟨47, _⟩ => ⟨S16x2112x1, .f32⟩
  | .hbm, ⟨48, _⟩ => ⟨S_, .f32⟩
  | .hbm, ⟨49, _⟩ => ⟨S16x2112x1, .f32⟩
  | .hbm, ⟨50, _⟩ => ⟨S16x2112x1, .f32⟩
  | .hbm, ⟨51, _⟩ => ⟨S_, .f32⟩
  | .hbm, ⟨52, _⟩ => ⟨S16x2112x1, .f32⟩
  | .hbm, ⟨53, _⟩ => ⟨S16x2112x1, .f32⟩
  | .hbm, ⟨54, _⟩ => ⟨S16x2112x1, .f32⟩
  | .hbm, ⟨55, _⟩ => ⟨S16x2112x1024, .f32⟩
  | .hbm, ⟨56, _⟩ => ⟨S16x2112x1024, .f32⟩
  | .hbm, ⟨57, _⟩ => ⟨S1x1x1024, .f32⟩
  | .hbm, ⟨58, _⟩ => ⟨S16x2112x1024, .f32⟩
  | .hbm, ⟨59, _⟩ => ⟨S16x2112x1024, .f32⟩
  | .hbm, ⟨60, _⟩ => ⟨S16x2112x5632, .f32⟩
  | .hbm, ⟨61, _⟩ => ⟨S16x2112x2816, .f32⟩
  | .hbm, ⟨62, _⟩ => ⟨S16x2112x2816, .f32⟩
  | .hbm, ⟨63, _⟩ => ⟨S16x2112x2816, .f32⟩
  | .hbm, ⟨64, _⟩ => ⟨S16x2112x2816, .f32⟩
  | .hbm, ⟨65, _⟩ => ⟨S_, .f32⟩
  | .hbm, ⟨66, _⟩ => ⟨S16x2112x2816, .f32⟩
  | .hbm, ⟨67, _⟩ => ⟨S16x2112x2816, .f32⟩
  | .hbm, ⟨68, _⟩ => ⟨S_, .f32⟩
  | .hbm, ⟨69, _⟩ => ⟨S16x2112x2816, .f32⟩
  | .hbm, ⟨70, _⟩ => ⟨S16x2112x2816, .f32⟩
  | .hbm, ⟨71, _⟩ => ⟨S16x2112x2816, .f32⟩
  | .hbm, ⟨72, _⟩ => ⟨S16x2112x2816, .f32⟩
  | .hbm, ⟨73, _⟩ => ⟨S16x2112x1024, .f32⟩
  | .hbm, ⟨74, _⟩ => ⟨S16x2112x1024, .f32⟩
  | _, _ => ⟨S16x2112x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_2 : Ref sig .tc := ⟨.hbm, 32, rfl⟩
abbrev main_v19 : Ref sig .tc := ⟨.hbm, 33, rfl⟩
abbrev main_v20 : Ref sig .tc := ⟨.hbm, 34, rfl⟩
abbrev main_cst_3 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_4 : Ref sig .tc := ⟨.hbm, 45, rfl⟩
abbrev main_v30 : Ref sig .tc := ⟨.hbm, 46, rfl⟩
abbrev main_v31 : Ref sig .tc := ⟨.hbm, 47, rfl⟩
abbrev main_cst_5 : Ref sig .tc := ⟨.hbm, 48, rfl⟩
abbrev main_v32 : Ref sig .tc := ⟨.hbm, 49, rfl⟩
abbrev main_v33 : Ref sig .tc := ⟨.hbm, 50, rfl⟩
abbrev main_cst_6 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_7 : Ref sig .tc := ⟨.hbm, 65, rfl⟩
abbrev main_v47 : Ref sig .tc := ⟨.hbm, 66, rfl⟩
abbrev main_v48 : Ref sig .tc := ⟨.hbm, 67, rfl⟩
abbrev main_cst_8 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩

abbrev nD : Nat := 1
abbrev τ : Topo := Topo.v7x

variable {F : FTy → Type} [FloatOps F]
-- ==== Proof.Gdn.Keeps.lean ====
/- A program KEEPS an assertion `A` when from `A` it runs without fault and ends with `A` again, whatever values it
   computes. The gated delta rule's body is a long straight line of loads and stores of whole operands, calls of such
   lines and two counted loops of them; each of these keeps "the inputs are as they were, the other operands are held
   at some contents", and that is all a frame asks. -/
module

public import proofs.«01_k».proof.Proof.Gen.KernelIdeal.Launch
public import proofs.«01_k».proof.Proof.Gen.KernelIdeal.Points
public import Idealize.ShloMosaic.Lib.Pipeline.FrameBody
public import Idealize.ShloMosaic.Lib.Ring
public import Idealize.ShloMosaic.Lib.Tactic

@[expose] public section

noncomputable section

namespace Cert.Proof.Gdn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- From `A` the program runs without fault and ends with `A`. -/
structure Keeps (c : Dev nD) (A : sProp 𝕄) {α : Type} (p : Prog (TpuEff nD τ sig (Elt F) Λ₀ .tc) α) : Prop where
  out : A ⊢ wp frame (wpE (defs₀ (F := F)) Variants.none (c : Thread nD τ) none) Set.univ p (fun _ => A)

/-- `A` holds the memref at some contents and gets it back unchanged. -/
def Reads (c : Dev nD) (A : sProp 𝕄) {S : Shape} {e : EltTy} (m : Memref sig .tc .vmem S e) : Prop :=
  ∃ q, A ⊢ iprop(∃ f : Buf (Elt F) (m.view.loc (c : Thread nD τ)), (m.view.loc (c : Thread nD τ) ↦[m.view.set]{q} f)
    ∗ ((m.view.loc (c : Thread nD τ) ↦[m.view.set]{q} f) -∗ A))

/-- `A` holds the memref whole at some contents and takes it back at any. -/
def Writes (c : Dev nD) (A : sProp 𝕄) {S : Shape} {e : EltTy} (m : Memref sig .tc .vmem S e) : Prop :=
  A ⊢ iprop(∃ f : Buf (Elt F) (m.view.loc (c : Thread nD τ)), (m.view.loc (c : Thread nD τ) ↦[m.view.set]{fullShare} f)
    ∗ (∀ g, (m.view.loc (c : Thread nD τ) ↦[m.view.set]{fullShare} g) -∗ A))

theorem keeps_pure {c : Dev nD} {A : sProp 𝕄} {α : Type} (a : α) : Keeps c A (pure a) := by
  refine ⟨?_⟩; rw [wp_pure]; exact fupd_intro

theorem keeps_bind {c : Dev nD} {A : sProp 𝕄} {α β : Type} {p : Prog (TpuEff nD τ sig (Elt F) Λ₀ .tc) α} {k : α → Prog (TpuEff nD τ sig (Elt F) Λ₀ .tc) β}
    (hp : Keeps c A p) (hk : ∀ a, Keeps c A (k a)) : Keeps c A (p >>= k) := by
  refine ⟨?_⟩; rw [wp_bind]; exact hp.out.trans (wp_mono _ _ _ fun a => (hk a).out)

theorem keeps_load {c : Dev nD} {A : sProp 𝕄} {S : Shape} {e : EltTy} {m : Memref sig .tc .vmem S e} (hm : Reads c A m) {r : LoadRect S}
    {hl : m.view.LoadsAt r} :
    Keeps c A (Prog.lift (TpuEff.load m r hl)) := by
  obtain ⟨q, hq⟩ := hm
  refine ⟨hq.trans ?_⟩
  iintro ⟨%f, Hf, Hback⟩
  iapply (wp_load (defs := defs₀ (F := F)) Variants.none (c : Thread nD τ) none Set.univ (View.setOn_subset_set _ _)) $$ Hf
  iintro Hf
  rw [wp_ret]
  imodintro
  iapply Hback $$ Hf

theorem keeps_store {c : Dev nD} {A : sProp 𝕄} {S : Shape} {e : EltTy} {m : Memref sig .tc .vmem S e} (hm : Writes c A m) {r : Rect S}
    {w : r.shape.Idx → Elt F e} {Mk : Finset r.shape.Idx} {hx : (m.access r).Stores Mk}
    {hM : Mk = Finset.univ ∨ ∀ a, r.stride a = 1} :
    Keeps c A (Prog.lift (TpuEff.store m r w Mk hx hM)) := by
  refine ⟨hm.trans ?_⟩
  iintro ⟨%f, Hf, Hback⟩
  iapply (wp_store (defs := defs₀ (F := F)) Variants.none (c : Thread nD τ) none Set.univ (m := m) (r := r) (f := f) (S := m.view.set)
       ((View.setOn_subset_set _ _).trans (View.set_slice_subset _ _))) $$ Hf
  iintro Hf
  rw [wp_ret]
  imodintro
  iapply Hback $$ Hf

theorem keeps_for {c : Dev nD} {A : sProp 𝕄} {α : Type} {w : ℕ} (lb ub st : BitVec w) (hok : Scf.OK lb ub st)
    (body : Fin (Scf.trips lb ub st) → α → Prog (TpuEff nD τ sig (Elt F) Λ₀ .tc) α) (init : α)
    (hb : ∀ k a, Keeps c A (body k a)) : Keeps c A (Scf.for lb ub st hok init body) := by
  have h := Scf.wp_for (Fr := frame) (wpE := wpE (defs₀ (F := F)) Variants.none (c : Thread nD τ) none) (Es := Set.univ)
    lb ub st hok init body (fun _ _ => A) (fun k a => (hb k a).out) (Q := fun _ => A)
  refine ⟨BIBase.Entails.trans ?_ h⟩
  iintro H
  isplitl [H]
  · iexact H
  · iintro %acc H
    iexact H

theorem Writes.reads {c : Dev nD} {A : sProp 𝕄} {S : Shape} {e : EltTy} {m : Memref sig .tc .vmem S e} (h : Writes c A m) : Reads c A m := by
  refine ⟨fullShare, h.trans ?_⟩
  iintro ⟨%f, Hf, Hback⟩
  iexists f
  isplitl [Hf]
  · iexact Hf
  · iintro Hf
    iapply Hback $$ Hf

end Cert.Proof.Gdn

end
-- ==== Proof.Gdn.Held.lean ====
/- The operands of the gated delta rule's body. -/
module

public import proofs.«01_k».proof.Proof.Gen.KernelIdeal.Skeleton
public import proofs.«01_k».proof.Proof.Gdn.Keeps

@[expose] public section

noncomputable section

namespace Cert.Proof.Gdn

open Cert.KernelIdeal Cert.KernelIdeal.Gen
open Idealize.ShloMosaic Idealize.ShloMosaic.TcCoe
open Idealize.SL Idealize.SL.RA Idealize.SL.BI Idealize.SL.Sem

variable {F : FTy → Type} [FloatOps F]

local notation "𝕄" => MT nD τ sig Unit (Elt F) ℕ (UR sig nD τ) ℕ

variable {arg1 : Memref sig .tc .vmem S1x2112x512 .bf16}
  {arg2 : Memref sig .tc .vmem S1x2112x512 .bf16}
  {arg3 : Memref sig .tc .vmem S1x2112x512 .bf16}
  {arg4 : Memref sig .tc .vmem S1x2112x128 .f32}
  {arg5 : Memref sig .tc .vmem S1x128 .f32}
  {arg6 : Memref sig .tc .vmem S1x128 .f32}
  {arg7 : Memref sig .tc .vmem S1x2112x512 .f32}
  {arg8 : Memref sig .tc .vmem S2112x128 .f32}
  {arg9 : Memref sig .tc .vmem S2112x128 .f32}
  {arg10 : Memref sig .tc .vmem S33x4x128 .f32}
  {arg11 : Memref sig .tc .vmem S8x128x128 .f32}
  {arg12 : Memref sig .tc .vmem S2x24x64x128 .f32}
  {arg13 : Memref sig .tc .vmem S2x24x128x128 .bf16}
  {arg14 : Memref sig .tc .vmem S2x24x192x64 .bf16}

/-- The operands of the gated delta rule's body under an assertion: the six inputs may be read, the output and the seven
    scratch buffers written. -/
structure Held (c : Dev nD) (A : sProp 𝕄)
    (arg1 : Memref sig .tc .vmem S1x2112x512 .bf16)
    (arg2 : Memref sig .tc .vmem S1x2112x512 .bf16)
    (arg3 : Memref sig .tc .vmem S1x2112x512 .bf16)
    (arg4 : Memref sig .tc .vmem S1x2112x128 .f32)
    (arg5 : Memref sig .tc .vmem S1x128 .f32)
    (arg6 : Memref sig .tc .vmem S1x128 .f32)
    (arg7 : Memref sig .tc .vmem S1x2112x512 .f32)
    (arg8 : Memref sig .tc .vmem S2112x128 .f32)
    (arg9 : Memref sig .tc .vmem S2112x128 .f32)
    (arg10 : Memref sig .tc .vmem S33x4x128 .f32)
    (arg11 : Memref sig .tc .vmem S8x128x128 .f32)
    (arg12 : Memref sig .tc .vmem S2x24x64x128 .f32)
    (arg13 : Memref sig .tc .vmem S2x24x128x128 .bf16)
    (arg14 : Memref sig .tc .vmem S2x24x192x64 .bf16) : Prop where
  r1 : Reads c A arg1
  r2 : Reads c A arg2
  r3 : Reads c A arg3
  r4 : Reads c A arg4
  r5 : Reads c A arg5
  r6 : Reads c A arg6
  w7 : Writes c A arg7
  w8 : Writes c A arg8
  w9 : Writes c A arg9
  w10 : Writes c A arg10
  w11 : Writes c A arg11
  w12 : Writes c A arg12
  w13 : Writes c A arg13
  w14 : Writes c A arg14

theorem Held.r7 {c : Dev nD} {A : sProp 𝕄}
    (h : Held c A arg1 arg2 arg3 arg4 arg5 arg6 arg7 arg8 arg9 arg10 arg11 arg12 arg13 arg14) : Reads c A arg7 := h.w7.reads

theorem Held.r8 {c : Dev nD} {A : sProp 𝕄}
    (h : Held c A arg1 arg2 arg3 arg4 arg5 arg6 arg7 arg8 arg9 arg10 arg11 arg12 arg13 arg14) : Reads c A arg8 := h.w8.reads

theorem Held.r9 {c : Dev nD} {A : sProp 𝕄}
    (h : Held c A arg1 arg2 arg3 arg4 arg5 arg6 arg7 arg8 arg9 arg10 arg11 arg12 arg13 arg14) : Reads c A arg9 := h.w9.reads

theorem Held.r10 {c : Dev nD} {A : sProp 𝕄}
    (h : Held c A arg1 arg2 arg3 arg4 arg5 arg6 arg7 arg8 arg9 arg10 arg11 arg12 arg13 arg14) : Reads c A arg10 := h.w10.reads

theorem Held.r11 {c : Dev nD} {A : sProp 𝕄}
    (h : Held c A arg1 arg2 arg3 arg4 arg5 arg6 arg7 arg8 arg9 arg10 arg11 arg12 arg13 arg14) : Reads c A arg11 := h.w11.reads

theorem Held.r12 {c : Dev nD} {A : sProp 𝕄}
    (h : Held c A arg1 arg2 arg3 arg4 arg5 arg6 arg7 arg8 arg9 arg10 arg11 arg12 arg13 arg14) : Reads c A arg12 := h.w12.reads

theorem Held.r13 {c : Dev nD} {A : sProp 𝕄}
    (h : Held c A arg1 arg2 arg3 arg4 arg5 arg6 arg7 arg8 arg9 arg10 arg11 arg12 arg13 arg14) : Reads c A arg13 := h.w13.reads

theorem Held.r14 {c : Dev nD} {A : sProp 𝕄}
    (h : Held c A arg1 arg2 arg3 arg4 arg5 arg6 arg7 arg8 arg9 arg10 arg11 arg12 arg13 arg14) : Reads c A arg14 := h.w14.reads

end Cert.Proof.Gdn

end
-- ==== Proof.Gdn.Hold.lean ====
/- The assertion the gated delta rule's body runs under: the inputs at their blocks, the output and the scratch buffers at
   some contents. -/
module

public import proofs.«01_k».proof.Proof.Gdn.Held

@[expose] public section

set_option maxRecDepth 16384

noncomputable section

namespace Cert.Proof.Gdn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

theorem reads_owns {c : Dev nD} {S : Shape} {e : EltTy} {m : Memref sig .tc .vmem S e} {q : PosShare TreeShare}
    {X : S.Idx → Elt F e} : Reads (F := F) c (owns (c : Thread nD τ) m q X) m := by
  refine ⟨q, ?_⟩
  unfold owns
  iintro ⟨%f, %hf, Hf⟩
  iexists f
  isplitl [Hf]
  · iexact Hf
  · iintro Hf
    iexists f
    isplitr
    · ipureintro; exact hf
    · iexact Hf

theorem writes_owns {c : Dev nD} {S : Shape} {e : EltTy} {m : Memref sig .tc .vmem S e} :
    Writes (F := F) c iprop(∃ X, owns (c : Thread nD τ) m fullShare X) m := by
  unfold Writes owns
  iintro ⟨%X, %f, %hf, Hf⟩
  iexists f
  isplitl [Hf]
  · iexact Hf
  · iintro %g Hg
    iexists (m.view.read (Elt F) g)
    iexists g
    isplitr
    · ipureintro; rfl
    · iexact Hg

theorem reads_left {c : Dev nD} {A B : sProp 𝕄} {S : Shape} {e : EltTy} {m : Memref sig .tc .vmem S e}
    (h : Reads c A m) : Reads c iprop(A ∗ B) m := by
  obtain ⟨q, h⟩ := h
  refine ⟨q, ?_⟩
  iintro ⟨HA, HB⟩
  ihave HA := h $$ HA
  icases HA with ⟨%f, Hf, Hback⟩
  iexists f
  isplitl [Hf]
  · iexact Hf
  · iintro Hf
    isplitl [Hback Hf]
    · iapply Hback $$ Hf
    · iexact HB

theorem reads_right {c : Dev nD} {A B : sProp 𝕄} {S : Shape} {e : EltTy} {m : Memref sig .tc .vmem S e}
    (h : Reads c B m) : Reads c iprop(A ∗ B) m := by
  obtain ⟨q, h⟩ := h
  refine ⟨q, ?_⟩
  iintro ⟨HA, HB⟩
  ihave HB := h $$ HB
  icases HB with ⟨%f, Hf, Hback⟩
  iexists f
  isplitl [Hf]
  · iexact Hf
  · iintro Hf
    isplitl [HA]
    · iexact HA
    · iapply Hback $$ Hf

theorem writes_left {c : Dev nD} {A B : sProp 𝕄} {S : Shape} {e : EltTy} {m : Memref sig .tc .vmem S e}
    (h : Writes c A m) : Writes c iprop(A ∗ B) m := by
  unfold Writes at *
  iintro ⟨HA, HB⟩
  ihave HA := h $$ HA
  icases HA with ⟨%f, Hf, Hback⟩
  iexists f
  isplitl [Hf]
  · iexact Hf
  · iintro %g Hg
    isplitl [Hback Hg]
    · iapply Hback $$ Hg
    · iexact HB

theorem writes_right {c : Dev nD} {A B : sProp 𝕄} {S : Shape} {e : EltTy} {m : Memref sig .tc .vmem S e}
    (h : Writes c B m) : Writes c iprop(A ∗ B) m := by
  unfold Writes at *
  iintro ⟨HA, HB⟩
  ihave HB := h $$ HB
  icases HB with ⟨%f, Hf, Hback⟩
  iexists f
  isplitl [Hf]
  · iexact Hf
  · iintro %g Hg
    isplitl [HA]
    · iexact HA
    · iapply Hback $$ Hg

/-- The inputs at given contents, the output and the scratch buffers at some. -/
def Hold (c : Dev nD)
    (arg1 : Memref sig .tc .vmem S1x2112x512 .bf16)
    (arg2 : Memref sig .tc .vmem S1x2112x512 .bf16)
    (arg3 : Memref sig .tc .vmem S1x2112x512 .bf16)
    (arg4 : Memref sig .tc .vmem S1x2112x128 .f32)
    (arg5 : Memref sig .tc .vmem S1x128 .f32)
    (arg6 : Memref sig .tc .vmem S1x128 .f32)
    (arg7 : Memref sig .tc .vmem S1x2112x512 .f32)
    (arg8 : Memref sig .tc .vmem S2112x128 .f32)
    (arg9 : Memref sig .tc .vmem S2112x128 .f32)
    (arg10 : Memref sig .tc .vmem S33x4x128 .f32)
    (arg11 : Memref sig .tc .vmem S8x128x128 .f32)
    (arg12 : Memref sig .tc .vmem S2x24x64x128 .f32)
    (arg13 : Memref sig .tc .vmem S2x24x128x128 .bf16)
    (arg14 : Memref sig .tc .vmem S2x24x192x64 .bf16)
    (x1 : Vec F S1x2112x512 .bf16)
    (x2 : Vec F S1x2112x512 .bf16)
    (x3 : Vec F S1x2112x512 .bf16)
    (x4 : Vec F S1x2112x128 .f32)
    (x5 : Vec F S1x128 .f32)
    (x6 : Vec F S1x128 .f32) : sProp 𝕄 :=
  iprop(owns (c : Thread nD τ) arg1 fullShare x1
    ∗ owns (c : Thread nD τ) arg2 fullShare x2
    ∗ owns (c : Thread nD τ) arg3 fullShare x3
    ∗ owns (c : Thread nD τ) arg4 fullShare x4
    ∗ owns (c : Thread nD τ) arg5 fullShare x5
    ∗ owns (c : Thread nD τ) arg6 fullShare x6
    ∗ (∃ X, owns (c : Thread nD τ) arg7 fullShare X)
    ∗ (∃ X, owns (c : Thread nD τ) arg8 fullShare X)
    ∗ (∃ X, owns (c : Thread nD τ) arg9 fullShare X)
    ∗ (∃ X, owns (c : Thread nD τ) arg10 fullShare X)
    ∗ (∃ X, owns (c : Thread nD τ) arg11 fullShare X)
    ∗ (∃ X, owns (c : Thread nD τ) arg12 fullShare X)
    ∗ (∃ X, owns (c : Thread nD τ) arg13 fullShare X)
    ∗ (∃ X, owns (c : Thread nD τ) arg14 fullShare X))

theorem held (c : Dev nD)
    (arg1 : Memref sig .tc .vmem S1x2112x512 .bf16)
    (arg2 : Memref sig .tc .vmem S1x2112x512 .bf16)
    (arg3 : Memref sig .tc .vmem S1x2112x512 .bf16)
    (arg4 : Memref sig .tc .vmem S1x2112x128 .f32)
    (arg5 : Memref sig .tc .vmem S1x128 .f32)
    (arg6 : Memref sig .tc .vmem S1x128 .f32)
    (arg7 : Memref sig .tc .vmem S1x2112x512 .f32)
    (arg8 : Memref sig .tc .vmem S2112x128 .f32)
    (arg9 : Memref sig .tc .vmem S2112x128 .f32)
    (arg10 : Memref sig .tc .vmem S33x4x128 .f32)
    (arg11 : Memref sig .tc .vmem S8x128x128 .f32)
    (arg12 : Memref sig .tc .vmem S2x24x64x128 .f32)
    (arg13 : Memref sig .tc .vmem S2x24x128x128 .bf16)
    (arg14 : Memref sig .tc .vmem S2x24x192x64 .bf16)
    (x1 : Vec F S1x2112x512 .bf16)
    (x2 : Vec F S1x2112x512 .bf16)
    (x3 : Vec F S1x2112x512 .bf16)
    (x4 : Vec F S1x2112x128 .f32)
    (x5 : Vec F S1x128 .f32)
    (x6 : Vec F S1x128 .f32) :
    Held (F := F) c (Hold c arg1 arg2 arg3 arg4 arg5 arg6 arg7 arg8 arg9 arg10 arg11 arg12 arg13 arg14 x1 x2 x3 x4 x5 x6) arg1 arg2 arg3 arg4 arg5 arg6 arg7 arg8 arg9 arg10 arg11 arg12 arg13 arg14 where
  r1 := reads_left reads_owns
  r2 := reads_right (reads_left reads_owns)
  r3 := reads_right (reads_right (reads_left reads_owns))
  r4 := reads_right (reads_right (reads_right (reads_left reads_owns)))
  r5 := reads_right (reads_right (reads_right (reads_right (reads_left reads_owns))))
  r6 := reads_right (reads_right (reads_right (reads_right (reads_right (reads_left reads_owns)))))
  w7 := writes_right (writes_right (writes_right (writes_right (writes_right (writes_right (writes_left writes_owns))))))
  w8 := writes_right (writes_right (writes_right (writes_right (writes_right (writes_right (writes_right (writes_left writes_owns)))))))
  w9 := writes_right (writes_right (writes_right (writes_right (writes_right (writes_right (writes_right (writes_right (writes_left writes_owns))))))))
  w10 := writes_right (writes_right (writes_right (writes_right (writes_right (writes_right (writes_right (writes_right (writes_right (writes_left writes_owns)))))))))
  w11 := writes_right (writes_right (writes_right (writes_right (writes_right (writes_right (writes_right (writes_right (writes_right (writes_right (writes_left writes_owns))))))))))
  w12 := writes_right (writes_right (writes_right (writes_right (writes_right (writes_right (writes_right (writes_right (writes_right (writes_right (writes_right (writes_left writes_owns)))))))))))
  w13 := writes_right (writes_right (writes_right (writes_right (writes_right (writes_right (writes_right (writes_right (writes_right (writes_right (writes_right (writes_right (writes_left writes_owns))))))))))))
  w14 := writes_right (writes_right (writes_right (writes_right (writes_right (writes_right (writes_right (writes_right (writes_right (writes_right (writes_right (writes_right (writes_right (writes_owns)))))))))))))

end Cert.Proof.Gdn

end
-- ==== Proof.Gdn.Parts1.lean ====
/- Each straight piece of the gated delta rule's body keeps what holds its operands. -/
module

public import proofs.«01_k».proof.Proof.Gen.KernelIdeal.Skeleton
public import proofs.«01_k».proof.Proof.Gdn.Held

@[expose] public section

noncomputable section

namespace Cert.Proof.Gdn

open Cert.KernelIdeal Cert.KernelIdeal.Gen
open Idealize.ShloMosaic Idealize.ShloMosaic.TcCoe
open Idealize.SL Idealize.SL.RA Idealize.SL.BI Idealize.SL.Sem

variable {F : FTy → Type} [FloatOps F]

local notation "𝕄" => MT nD τ sig Unit (Elt F) ℕ (UR sig nD τ) ℕ

variable {i : grid0.Coords}
  {arg1 : Memref sig .tc .vmem S1x2112x512 .bf16} {harg1 : arg1.IsWhole}
  {arg2 : Memref sig .tc .vmem S1x2112x512 .bf16} {harg2 : arg2.IsWhole}
  {arg3 : Memref sig .tc .vmem S1x2112x512 .bf16} {harg3 : arg3.IsWhole}
  {arg4 : Memref sig .tc .vmem S1x2112x128 .f32} {harg4 : arg4.IsWhole}
  {arg5 : Memref sig .tc .vmem S1x128 .f32} {harg5 : arg5.IsWhole}
  {arg6 : Memref sig .tc .vmem S1x128 .f32} {harg6 : arg6.IsWhole}
  {arg7 : Memref sig .tc .vmem S1x2112x512 .f32} {harg7 : arg7.IsWhole}
  {arg8 : Memref sig .tc .vmem S2112x128 .f32} {harg8 : arg8.IsWhole}
  {arg9 : Memref sig .tc .vmem S2112x128 .f32} {harg9 : arg9.IsWhole}
  {arg10 : Memref sig .tc .vmem S33x4x128 .f32} {harg10 : arg10.IsWhole}
  {arg11 : Memref sig .tc .vmem S8x128x128 .f32} {harg11 : arg11.IsWhole}
  {arg12 : Memref sig .tc .vmem S2x24x64x128 .f32} {harg12 : arg12.IsWhole}
  {arg13 : Memref sig .tc .vmem S2x24x128x128 .bf16} {harg13 : arg13.IsWhole}
  {arg14 : Memref sig .tc .vmem S2x24x192x64 .bf16} {harg14 : arg14.IsWhole}

theorem keeps_k0_part98 {c : Dev nD} {A : sProp 𝕄} (h : Held c A arg1 arg2 arg3 arg4 arg5 arg6 arg7 arg8 arg9 arg10 arg11 arg12 arg13 arg14) (v25 : IVec S64x128 32) (v28 : IVec S64x128 32) (v33 : IVec S128x128 32) (v34 : IVec S128x128 32) (v35 : IVec S128x128 32) :
    Keeps c A (k0_part98 (F := F) i arg1 harg1 arg2 harg2 arg3 harg3 arg4 harg4 arg5 harg5 arg6 harg6 arg7 harg7 arg8 harg8 arg9 harg9 arg10 harg10 arg11 harg11 arg12 harg12 arg13 harg13 arg14 harg14 v25 v28 v33 v34 v35) := by
  rw [k0_part98_eq_skeleton]; unfold k0_part98_skel
  exact keeps_bind (keeps_load h.r1) fun _ =>
    keeps_bind (keeps_load h.r2) fun _ =>
    keeps_bind (keeps_load h.r1) fun _ =>
    keeps_bind (keeps_load h.r2) fun _ =>
    keeps_bind (keeps_load h.r1) fun _ =>
    keeps_pure _

theorem keeps_k0_part101 {c : Dev nD} {A : sProp 𝕄} (h : Held c A arg1 arg2 arg3 arg4 arg5 arg6 arg7 arg8 arg9 arg10 arg11 arg12 arg13 arg14) (v42 : FVec F S64x128 .bf16) (v46 : BitVec 32) (v47 : BitVec 32) (v157 : FVec F S64x128 .bf16) :
    Keeps c A (k0_part101 (F := F) i arg1 harg1 arg2 harg2 arg3 harg3 arg4 harg4 arg5 harg5 arg6 harg6 arg7 harg7 arg8 harg8 arg9 harg9 arg10 harg10 arg11 harg11 arg12 harg12 arg13 harg13 arg14 harg14 v42 v46 v47 v157) := by
  rw [k0_part101_eq_skeleton]; unfold k0_part101_skel
  exact keeps_bind (keeps_load h.r2) fun _ =>
    keeps_bind (keeps_load h.r1) fun _ =>
    keeps_bind (keeps_load h.r2) fun _ =>
    keeps_bind (keeps_load h.r1) fun _ =>
    keeps_bind (keeps_load h.r2) fun _ =>
    keeps_bind (keeps_load h.r1) fun _ =>
    keeps_bind (keeps_load h.r2) fun _ =>
    keeps_bind (keeps_load h.r1) fun _ =>
    keeps_pure _

theorem keeps_k0_part104 {c : Dev nD} {A : sProp 𝕄} (h : Held c A arg1 arg2 arg3 arg4 arg5 arg6 arg7 arg8 arg9 arg10 arg11 arg12 arg13 arg14) (v42 : FVec F S64x128 .bf16) (v44 : BitVec 32) (v45 : BitVec 32) (v46 : BitVec 32) (v47 : BitVec 32) (v48 : BitVec 32) (v49 : BitVec 32) (v283 : FVec F S64x128 .bf16) :
    Keeps c A (k0_part104 (F := F) i arg1 harg1 arg2 harg2 arg3 harg3 arg4 harg4 arg5 harg5 arg6 harg6 arg7 harg7 arg8 harg8 arg9 harg9 arg10 harg10 arg11 harg11 arg12 harg12 arg13 harg13 arg14 harg14 v42 v44 v45 v46 v47 v48 v49 v283) := by
  rw [k0_part104_eq_skeleton]; unfold k0_part104_skel
  exact keeps_bind (keeps_load h.r2) fun _ =>
    keeps_bind (keeps_load h.r1) fun _ =>
    keeps_bind (keeps_load h.r2) fun _ =>
    keeps_bind (keeps_load h.r9) fun _ =>
    keeps_bind (keeps_load h.r9) fun _ =>
    keeps_bind (keeps_load h.r9) fun _ =>
    keeps_bind (keeps_load h.r9) fun _ =>
    keeps_bind (keeps_load h.r9) fun _ =>
    keeps_bind (keeps_load h.r9) fun _ =>
    keeps_bind (keeps_load h.r8) fun _ =>
    keeps_bind (keeps_load h.r8) fun _ =>
    keeps_bind (keeps_load h.r8) fun _ =>
    keeps_bind (keeps_load h.r8) fun _ =>
    keeps_bind (keeps_load h.r8) fun _ =>
    keeps_bind (keeps_load h.r8) fun _ =>
    keeps_pure _

theorem keeps_k0_part107 {c : Dev nD} {A : sProp 𝕄} (h : Held c A arg1 arg2 arg3 arg4 arg5 arg6 arg7 arg8 arg9 arg10 arg11 arg12 arg13 arg14) (v30 : IVec S64x128 1) (v38 : IVec S64x128 1) (v40 : IVec S64x128 1) (v132 : FVec F S64x128 .f32) (v133 : FVec F S64x128 .f32) (v153 : FVec F S64x128 .f32) (v154 : FVec F S64x128 .f32) (v307 : Vec F S64x128 .f32) (v319 : Vec F S64x128 .f32) (v329 : FVec F S4x128 .f32) (v331 : FVec F S4x128 .f32) (v416 : FVec F S64x1 .f32) (v421 : FVec F S64x128 .f32) (v423 : FVec F S64x128 .f32) :
    Keeps c A (k0_part107 (F := F) i arg1 harg1 arg2 harg2 arg3 harg3 arg4 harg4 arg5 harg5 arg6 harg6 arg7 harg7 arg8 harg8 arg9 harg9 arg10 harg10 arg11 harg11 arg12 harg12 arg13 harg13 arg14 harg14 v30 v38 v40 v132 v133 v153 v154 v307 v319 v329 v331 v416 v421 v423) := by
  rw [k0_part107_eq_skeleton]; unfold k0_part107_skel
  exact keeps_pure _

theorem keeps_k0_part110 {c : Dev nD} {A : sProp 𝕄} (h : Held c A arg1 arg2 arg3 arg4 arg5 arg6 arg7 arg8 arg9 arg10 arg11 arg12 arg13 arg14) (v25 : IVec S64x128 32) (v28 : IVec S64x128 32) (v30 : IVec S64x128 1) (v39 : IVec S64x128 1) (v41 : IVec S64x128 1) (v279 : FVec F S64x128 .f32) (v280 : FVec F S64x128 .f32) (v300 : FVec F S64x128 .f32) (v301 : FVec F S64x128 .f32) (v313 : Vec F S64x128 .f32) (v325 : Vec F S64x128 .f32) (v337 : FVec F S4x128 .f32) (v588 : FVec F S64x1 .f32) (v589 : FVec F S64x1 .f32) :
    Keeps c A (k0_part110 (F := F) i arg1 harg1 arg2 harg2 arg3 harg3 arg4 harg4 arg5 harg5 arg6 harg6 arg7 harg7 arg8 harg8 arg9 harg9 arg10 harg10 arg11 harg11 arg12 harg12 arg13 harg13 arg14 harg14 v25 v28 v30 v39 v41 v279 v280 v300 v301 v313 v325 v337 v588 v589) := by
  rw [k0_part110_eq_skeleton]; unfold k0_part110_skel
  exact keeps_pure _

theorem keeps_k0_part113 {c : Dev nD} {A : sProp 𝕄} (h : Held c A arg1 arg2 arg3 arg4 arg5 arg6 arg7 arg8 arg9 arg10 arg11 arg12 arg13 arg14) (v37 : IVec S128x128 1) (v640 : FVec F S64x128 .f32) (v647 : FVec F S64x128 .f32) (v649 : FVec F S64x128 .f32) (v651 : FVec F S64x128 .f32) (v653 : FVec F S64x128 .f32) (v655 : FVec F S64x128 .f32) (v669 : FVec F S64x128 .f32) (v675 : FVec F S64x128 .f32) (v681 : FVec F S64x128 .f32) (v687 : FVec F S64x128 .f32) (v693 : FVec F S64x128 .f32) (v699 : FVec F S64x128 .f32) (v730 : FVec F S64x128 .bf16) (v731 : FVec F S128x128 .f32) :
    Keeps c A (k0_part113 (F := F) i arg1 harg1 arg2 harg2 arg3 harg3 arg4 harg4 arg5 harg5 arg6 harg6 arg7 harg7 arg8 harg8 arg9 harg9 arg10 harg10 arg11 harg11 arg12 harg12 arg13 harg13 arg14 harg14 v37 v640 v647 v649 v651 v653 v655 v669 v675 v681 v687 v693 v699 v730 v731) := by
  rw [k0_part113_eq_skeleton]; unfold k0_part113_skel
  exact keeps_pure _

theorem keeps_k0_part116 {c : Dev nD} {A : sProp 𝕄} (h : Held c A arg1 arg2 arg3 arg4 arg5 arg6 arg7 arg8 arg9 arg10 arg11 arg12 arg13 arg14) (v37 : IVec S128x128 1) (v837 : FVec F S128x128 .f32) (v838 : FVec F S64x128 .f32) (v839 : FVec F S64x128 .f32) (v840 : FVec F S64x128 .f32) (v841 : FVec F S64x128 .f32) (v842 : FVec F S64x128 .f32) (v843 : FVec F S64x128 .f32) (v844 : FVec F S64x128 .f32) (v852 : FVec F S64x128 .f32) (v855 : FVec F S64x128 .f32) (v858 : FVec F S64x128 .f32) (v861 : FVec F S64x128 .f32) (v864 : FVec F S64x128 .f32) (v867 : FVec F S64x128 .f32) (v870 : FVec F S64x128 .f32) (v883 : FVec F S64x128 .f32) :
    Keeps c A (k0_part116 (F := F) i arg1 harg1 arg2 harg2 arg3 harg3 arg4 harg4 arg5 harg5 arg6 harg6 arg7 harg7 arg8 harg8 arg9 harg9 arg10 harg10 arg11 harg11 arg12 harg12 arg13 harg13 arg14 harg14 v37 v837 v838 v839 v840 v841 v842 v843 v844 v852 v855 v858 v861 v864 v867 v870 v883) := by
  rw [k0_part116_eq_skeleton]; unfold k0_part116_skel
  exact keeps_pure _

theorem keeps_k0_part119 {c : Dev nD} {A : sProp 𝕄} (h : Held c A arg1 arg2 arg3 arg4 arg5 arg6 arg7 arg8 arg9 arg10 arg11 arg12 arg13 arg14) (v37 : IVec S128x128 1) (v486 : FVec F S64x128 .f32) (v511 : FVec F S64x128 .f32) (v536 : FVec F S64x128 .f32) (v561 : FVec F S64x128 .f32) (v586 : FVec F S64x128 .f32) (v611 : FVec F S64x128 .f32) (v927 : FVec F S64x128 .f32) (v934 : FVec F S64x128 .f32) (v941 : FVec F S64x128 .f32) (v948 : FVec F S64x128 .f32) (v955 : FVec F S64x128 .f32) (v962 : FVec F S64x128 .f32) (v980 : IVec S64x128 1) :
    Keeps c A (k0_part119 (F := F) i arg1 harg1 arg2 harg2 arg3 harg3 arg4 harg4 arg5 harg5 arg6 harg6 arg7 harg7 arg8 harg8 arg9 harg9 arg10 harg10 arg11 harg11 arg12 harg12 arg13 harg13 arg14 harg14 v37 v486 v511 v536 v561 v586 v611 v927 v934 v941 v948 v955 v962 v980) := by
  rw [k0_part119_eq_skeleton]; unfold k0_part119_skel
  exact keeps_pure _

theorem keeps_k0_part122 {c : Dev nD} {A : sProp 𝕄} (h : Held c A arg1 arg2 arg3 arg4 arg5 arg6 arg7 arg8 arg9 arg10 arg11 arg12 arg13 arg14) (v25 : IVec S64x128 32) (v28 : IVec S64x128 32) (v37 : IVec S128x128 1) (v361 : FVec F S64x128 .f32) (v386 : FVec F S64x128 .f32) (v411 : FVec F S64x128 .f32) (v436 : FVec F S64x128 .f32) (v969 : FVec F S64x128 .f32) (v1083 : FVec F S64x128 .f32) (v1090 : FVec F S64x128 .f32) (v1097 : FVec F S64x128 .f32) (v1104 : FVec F S64x128 .f32) (v1154 : FVec F S64x128 .bf16) (v1155 : FVec F S128x128 .f32) (v1156 : FVec F S128x128 .f32) :
    Keeps c A (k0_part122 (F := F) i arg1 harg1 arg2 harg2 arg3 harg3 arg4 harg4 arg5 harg5 arg6 harg6 arg7 harg7 arg8 harg8 arg9 harg9 arg10 harg10 arg11 harg11 arg12 harg12 arg13 harg13 arg14 harg14 v25 v28 v37 v361 v386 v411 v436 v969 v1083 v1090 v1097 v1104 v1154 v1155 v1156) := by
  rw [k0_part122_eq_skeleton]; unfold k0_part122_skel
  exact keeps_pure _

theorem keeps_k0_part125 {c : Dev nD} {A : sProp 𝕄} (h : Held c A arg1 arg2 arg3 arg4 arg5 arg6 arg7 arg8 arg9 arg10 arg11 arg12 arg13 arg14) (v37 : IVec S128x128 1) (v1104 : FVec F S64x128 .f32) (v1111 : FVec F S64x128 .f32) (v1118 : FVec F S64x128 .f32) (v1125 : FVec F S64x128 .f32) (v1132 : FVec F S64x128 .f32) (v1139 : FVec F S64x128 .f32) (v1146 : FVec F S64x128 .f32) (v1211 : FVec F S64x128 .f32) (v1219 : FVec F S64x128 .f32) (v1227 : FVec F S64x128 .f32) (v1235 : FVec F S64x128 .f32) (v1243 : FVec F S64x128 .f32) (v1251 : FVec F S64x128 .f32) (v1289 : FVec F S64x128 .bf16) :
    Keeps c A (k0_part125 (F := F) i arg1 harg1 arg2 harg2 arg3 harg3 arg4 harg4 arg5 harg5 arg6 harg6 arg7 harg7 arg8 harg8 arg9 harg9 arg10 harg10 arg11 harg11 arg12 harg12 arg13 harg13 arg14 harg14 v37 v1104 v1111 v1118 v1125 v1132 v1139 v1146 v1211 v1219 v1227 v1235 v1243 v1251 v1289) := by
  rw [k0_part125_eq_skeleton]; unfold k0_part125_skel
  exact keeps_pure _

theorem keeps_k0_part128 {c : Dev nD} {A : sProp 𝕄} (h : Held c A arg1 arg2 arg3 arg4 arg5 arg6 arg7 arg8 arg9 arg10 arg11 arg12 arg13 arg14) (v37 : IVec S128x128 1) (v561 : FVec F S64x128 .f32) (v586 : FVec F S64x128 .f32) (v611 : FVec F S64x128 .f32) (v636 : FVec F S64x128 .f32) (v1274 : FVec F S64x128 .f32) (v1281 : FVec F S64x128 .f32) (v1330 : FVec F S64x128 .f32) (v1337 : FVec F S64x128 .f32) (v1344 : FVec F S64x128 .f32) (v1351 : FVec F S64x128 .f32) (v1362 : IVec S64x128 1) (v1370 : FVec F S64x128 .f32) (v1378 : FVec F S64x128 .f32) (v1421 : FVec F S64x128 .bf16) (v1424 : FVec F S128x128 .f32) :
    Keeps c A (k0_part128 (F := F) i arg1 harg1 arg2 harg2 arg3 harg3 arg4 harg4 arg5 harg5 arg6 harg6 arg7 harg7 arg8 harg8 arg9 harg9 arg10 harg10 arg11 harg11 arg12 harg12 arg13 harg13 arg14 harg14 v37 v561 v586 v611 v636 v1274 v1281 v1330 v1337 v1344 v1351 v1362 v1370 v1378 v1421 v1424) := by
  rw [k0_part128_eq_skeleton]; unfold k0_part128_skel
  exact keeps_pure _

theorem keeps_k0_part131 {c : Dev nD} {A : sProp 𝕄} (h : Held c A arg1 arg2 arg3 arg4 arg5 arg6 arg7 arg8 arg9 arg10 arg11 arg12 arg13 arg14) (v43 : FVec F S64x256 .f32) (v44 : BitVec 32) (v58 : FVec F S64x128 .bf16) (v61 : FVec F S64x128 .bf16) (v339 : FVec F S64x1 .f32) (v340 : FVec F S64x1 .f32) (v341 : FVec F S64x1 .f32) (v1543 : FVec F S64x128 .f32) (v1547 : FVec F S64x128 .f32) (v1548 : FVec F S64x1 .f32) (v1560 : FVec F S64x128 .f32) :
    Keeps c A (k0_part131 (F := F) i arg1 harg1 arg2 harg2 arg3 harg3 arg4 harg4 arg5 harg5 arg6 harg6 arg7 harg7 arg8 harg8 arg9 harg9 arg10 harg10 arg11 harg11 arg12 harg12 arg13 harg13 arg14 harg14 v43 v44 v58 v61 v339 v340 v341 v1543 v1547 v1548 v1560) := by
  rw [k0_part131_eq_skeleton]; unfold k0_part131_skel
  exact keeps_bind (keeps_load h.r14) fun _ =>
    keeps_bind (keeps_store h.w14) fun _ =>
    keeps_bind (keeps_load h.r3) fun _ =>
    keeps_bind (keeps_load h.r13) fun _ =>
    keeps_bind (keeps_store h.w13) fun _ =>
    keeps_bind (keeps_load h.r14) fun _ =>
    keeps_bind (keeps_store h.w14) fun _ =>
    keeps_pure _

theorem keeps_k0_part134 {c : Dev nD} {A : sProp 𝕄} (h : Held c A arg1 arg2 arg3 arg4 arg5 arg6 arg7 arg8 arg9 arg10 arg11 arg12 arg13 arg14) (v43 : FVec F S64x256 .f32) (v365 : FVec F S64x1 .f32) (v366 : FVec F S64x1 .f32) (v387 : FVec F S64x128 .f32) (v1472 : FVec F S64x128 .f32) (v1665 : FVec F S64x256 .f32) (v1666 : FVec F S64x128 .f32) (v1670 : FVec F S64x128 .f32) (v1671 : FVec F S64x1 .f32) (v1672 : FVec F S1x1 .f32) (v1676 : FVec F S64x128 .bf16) :
    Keeps c A (k0_part134 (F := F) i arg1 harg1 arg2 harg2 arg3 harg3 arg4 harg4 arg5 harg5 arg6 harg6 arg7 harg7 arg8 harg8 arg9 harg9 arg10 harg10 arg11 harg11 arg12 harg12 arg13 harg13 arg14 harg14 v43 v365 v366 v387 v1472 v1665 v1666 v1670 v1671 v1672 v1676) := by
  rw [k0_part134_eq_skeleton]; unfold k0_part134_skel
  exact keeps_bind (keeps_load h.r13) fun _ =>
    keeps_bind (keeps_store h.w13) fun _ =>
    keeps_bind (keeps_load h.r14) fun _ =>
    keeps_bind (keeps_store h.w14) fun _ =>
    keeps_bind (keeps_load h.r12) fun _ =>
    keeps_bind (keeps_store h.w12) fun _ =>
    keeps_bind (keeps_load h.r13) fun _ =>
    keeps_bind (keeps_store h.w13) fun _ =>
    keeps_bind (keeps_load h.r14) fun _ =>
    keeps_pure _

theorem keeps_k0_part137 {c : Dev nD} {A : sProp 𝕄} (h : Held c A arg1 arg2 arg3 arg4 arg5 arg6 arg7 arg8 arg9 arg10 arg11 arg12 arg13 arg14) (v118 : FVec F S64x128 .bf16) (v412 : FVec F S64x128 .f32) (v1792 : FVec F S64x128 .bf16) (v1793 : FVec F S128x512 .bf16) :
    Keeps c A (k0_part137 (F := F) i arg1 harg1 arg2 harg2 arg3 harg3 arg4 harg4 arg5 harg5 arg6 harg6 arg7 harg7 arg8 harg8 arg9 harg9 arg10 harg10 arg11 harg11 arg12 harg12 arg13 harg13 arg14 harg14 v118 v412 v1792 v1793) := by
  rw [k0_part137_eq_skeleton]; unfold k0_part137_skel
  exact keeps_bind (keeps_load h.r12) fun _ =>
    keeps_bind (keeps_store h.w12) fun _ =>
    keeps_bind (keeps_load h.r13) fun _ =>
    keeps_bind (keeps_store h.w13) fun _ =>
    keeps_bind (keeps_load h.r14) fun _ =>
    keeps_bind (keeps_store h.w14) fun _ =>
    keeps_bind (keeps_load h.r12) fun _ =>
    keeps_bind (keeps_store h.w12) fun _ =>
    keeps_bind (keeps_load h.r13) fun _ =>
    keeps_bind (keeps_store h.w13) fun _ =>
    keeps_bind (keeps_load h.r14) fun _ =>
    keeps_bind (keeps_store h.w14) fun _ =>
    keeps_pure _

theorem keeps_k0_part140 {c : Dev nD} {A : sProp 𝕄} (h : Held c A arg1 arg2 arg3 arg4 arg5 arg6 arg7 arg8 arg9 arg10 arg11 arg12 arg13 arg14) (v46 : BitVec 32) (v136 : FVec F S64x128 .bf16) (v139 : FVec F S64x128 .bf16) (v438 : FVec F S64x1 .f32) (v1887 : FVec F S64x512 .f32) (v1888 : FVec F S64x128 .bf16) (v1902 : FVec F S64x128 .f32) :
    Keeps c A (k0_part140 (F := F) i arg1 harg1 arg2 harg2 arg3 harg3 arg4 harg4 arg5 harg5 arg6 harg6 arg7 harg7 arg8 harg8 arg9 harg9 arg10 harg10 arg11 harg11 arg12 harg12 arg13 harg13 arg14 harg14 v46 v136 v139 v438 v1887 v1888 v1902) := by
  rw [k0_part140_eq_skeleton]; unfold k0_part140_skel
  exact keeps_bind (keeps_load h.r12) fun _ =>
    keeps_bind (keeps_store h.w12) fun _ =>
    keeps_bind (keeps_load h.r13) fun _ =>
    keeps_bind (keeps_store h.w13) fun _ =>
    keeps_bind (keeps_load h.r14) fun _ =>
    keeps_bind (keeps_store h.w14) fun _ =>
    keeps_bind (keeps_load h.r3) fun _ =>
    keeps_bind (keeps_load h.r13) fun _ =>
    keeps_bind (keeps_store h.w13) fun _ =>
    keeps_bind (keeps_load h.r14) fun _ =>
    keeps_pure _

theorem keeps_k0_part143 {c : Dev nD} {A : sProp 𝕄} (h : Held c A arg1 arg2 arg3 arg4 arg5 arg6 arg7 arg8 arg9 arg10 arg11 arg12 arg13 arg14) (v46 : BitVec 32) (v157 : FVec F S64x128 .bf16) (v163 : FVec F S64x128 .bf16) (v166 : FVec F S64x128 .bf16) (v463 : FVec F S64x1 .f32) (v464 : FVec F S64x1 .f32) (v465 : FVec F S64x1 .f32) (v2008 : FVec F S64x128 .f32) (v2010 : Vec F S1x64x128 .bf16) :
    Keeps c A (k0_part143 (F := F) i arg1 harg1 arg2 harg2 arg3 harg3 arg4 harg4 arg5 harg5 arg6 harg6 arg7 harg7 arg8 harg8 arg9 harg9 arg10 harg10 arg11 harg11 arg12 harg12 arg13 harg13 arg14 harg14 v46 v157 v163 v166 v463 v464 v465 v2008 v2010) := by
  rw [k0_part143_eq_skeleton]; unfold k0_part143_skel
  exact keeps_bind (keeps_load h.r13) fun _ =>
    keeps_bind (keeps_store h.w13) fun _ =>
    keeps_bind (keeps_load h.r14) fun _ =>
    keeps_bind (keeps_store h.w14) fun _ =>
    keeps_bind (keeps_load h.r3) fun _ =>
    keeps_bind (keeps_load h.r13) fun _ =>
    keeps_bind (keeps_store h.w13) fun _ =>
    keeps_pure _

theorem keeps_k0_part146 {c : Dev nD} {A : sProp 𝕄} (h : Held c A arg1 arg2 arg3 arg4 arg5 arg6 arg7 arg8 arg9 arg10 arg11 arg12 arg13 arg14) (v43 : FVec F S64x256 .f32) (v47 : BitVec 32) (v184 : FVec F S64x128 .bf16) (v187 : FVec F S64x128 .bf16) (v489 : FVec F S64x1 .f32) (v490 : FVec F S64x1 .f32) (v491 : FVec F S64x1 .f32) (v512 : FVec F S64x128 .f32) (v1507 : FVec F S64x128 .f32) (v2101 : FVec F S64x128 .f32) (v2105 : FVec F S64x128 .f32) (v2106 : FVec F S64x1 .f32) (v2125 : FVec F S64x128 .f32) :
    Keeps c A (k0_part146 (F := F) i arg1 harg1 arg2 harg2 arg3 harg3 arg4 harg4 arg5 harg5 arg6 harg6 arg7 harg7 arg8 harg8 arg9 harg9 arg10 harg10 arg11 harg11 arg12 harg12 arg13 harg13 arg14 harg14 v43 v47 v184 v187 v489 v490 v491 v512 v1507 v2101 v2105 v2106 v2125) := by
  rw [k0_part146_eq_skeleton]; unfold k0_part146_skel
  exact keeps_bind (keeps_load h.r3) fun _ =>
    keeps_bind (keeps_load h.r13) fun _ =>
    keeps_bind (keeps_store h.w13) fun _ =>
    keeps_bind (keeps_load h.r14) fun _ =>
    keeps_bind (keeps_store h.w14) fun _ =>
    keeps_pure _

theorem keeps_k0_part149 {c : Dev nD} {A : sProp 𝕄} (h : Held c A arg1 arg2 arg3 arg4 arg5 arg6 arg7 arg8 arg9 arg10 arg11 arg12 arg13 arg14) (v43 : FVec F S64x256 .f32) (v516 : FVec F S64x1 .f32) (v537 : FVec F S64x128 .f32) (v1514 : FVec F S64x128 .f32) (v2223 : FVec F S64x256 .f32) (v2224 : FVec F S64x128 .f32) (v2228 : FVec F S64x128 .f32) (v2229 : FVec F S64x1 .f32) (v2243 : FVec F S128x64 .f32) :
    Keeps c A (k0_part149 (F := F) i arg1 harg1 arg2 harg2 arg3 harg3 arg4 harg4 arg5 harg5 arg6 harg6 arg7 harg7 arg8 harg8 arg9 harg9 arg10 harg10 arg11 harg11 arg12 harg12 arg13 harg13 arg14 harg14 v43 v516 v537 v1514 v2223 v2224 v2228 v2229 v2243) := by
  rw [k0_part149_eq_skeleton]; unfold k0_part149_skel
  exact keeps_bind (keeps_load h.r14) fun _ =>
    keeps_bind (keeps_store h.w14) fun _ =>
    keeps_bind (keeps_load h.r12) fun _ =>
    keeps_bind (keeps_store h.w12) fun _ =>
    keeps_bind (keeps_load h.r13) fun _ =>
    keeps_bind (keeps_store h.w13) fun _ =>
    keeps_bind (keeps_load h.r14) fun _ =>
    keeps_bind (keeps_store h.w14) fun _ =>
    keeps_bind (keeps_load h.r12) fun _ =>
    keeps_bind (keeps_store h.w12) fun _ =>
    keeps_pure _

theorem keeps_k0_part152 {c : Dev nD} {A : sProp 𝕄} (h : Held c A arg1 arg2 arg3 arg4 arg5 arg6 arg7 arg8 arg9 arg10 arg11 arg12 arg13 arg14) (v48 : BitVec 32) (v241 : FVec F S64x128 .bf16) (v244 : FVec F S64x128 .bf16) (v563 : FVec F S64x1 .f32) (v2352 : FVec F S64x512 .f32) (v2353 : FVec F S64x128 .bf16) :
    Keeps c A (k0_part152 (F := F) i arg1 harg1 arg2 harg2 arg3 harg3 arg4 harg4 arg5 harg5 arg6 harg6 arg7 harg7 arg8 harg8 arg9 harg9 arg10 harg10 arg11 harg11 arg12 harg12 arg13 harg13 arg14 harg14 v48 v241 v244 v563 v2352 v2353) := by
  rw [k0_part152_eq_skeleton]; unfold k0_part152_skel
  exact keeps_bind (keeps_load h.r13) fun _ =>
    keeps_bind (keeps_store h.w13) fun _ =>
    keeps_bind (keeps_load h.r14) fun _ =>
    keeps_bind (keeps_store h.w14) fun _ =>
    keeps_bind (keeps_load h.r12) fun _ =>
    keeps_bind (keeps_store h.w12) fun _ =>
    keeps_bind (keeps_load h.r13) fun _ =>
    keeps_bind (keeps_store h.w13) fun _ =>
    keeps_bind (keeps_load h.r14) fun _ =>
    keeps_bind (keeps_store h.w14) fun _ =>
    keeps_bind (keeps_load h.r3) fun _ =>
    keeps_pure _

theorem keeps_k0_part155 {c : Dev nD} {A : sProp 𝕄} (h : Held c A arg1 arg2 arg3 arg4 arg5 arg6 arg7 arg8 arg9 arg10 arg11 arg12 arg13 arg14) (v49 : BitVec 32) (v262 : FVec F S64x128 .bf16) (v265 : FVec F S64x128 .bf16) (v271 : FVec F S64x128 .bf16) (v588 : FVec F S64x1 .f32) (v589 : FVec F S64x1 .f32) (v2446 : FVec F S64x128 .bf16) (v2465 : FVec F S64x128 .bf16) :
    Keeps c A (k0_part155 (F := F) i arg1 harg1 arg2 harg2 arg3 harg3 arg4 harg4 arg5 harg5 arg6 harg6 arg7 harg7 arg8 harg8 arg9 harg9 arg10 harg10 arg11 harg11 arg12 harg12 arg13 harg13 arg14 harg14 v49 v262 v265 v271 v588 v589 v2446 v2465) := by
  rw [k0_part155_eq_skeleton]; unfold k0_part155_skel
  exact keeps_bind (keeps_load h.r13) fun _ =>
    keeps_bind (keeps_store h.w13) fun _ =>
    keeps_bind (keeps_load h.r14) fun _ =>
    keeps_bind (keeps_store h.w14) fun _ =>
    keeps_bind (keeps_load h.r3) fun _ =>
    keeps_bind (keeps_load h.r13) fun _ =>
    keeps_bind (keeps_store h.w13) fun _ =>
    keeps_bind (keeps_load h.r14) fun _ =>
    keeps_bind (keeps_store h.w14) fun _ =>
    keeps_pure _

theorem keeps_k0_part158 {c : Dev nD} {A : sProp 𝕄} (h : Held c A arg1 arg2 arg3 arg4 arg5 arg6 arg7 arg8 arg9 arg10 arg11 arg12 arg13 arg14) (v49 : BitVec 32) (v289 : FVec F S64x128 .bf16) (v292 : FVec F S64x128 .bf16) (v613 : FVec F S64x1 .f32) (v614 : FVec F S64x1 .f32) (v615 : FVec F S64x1 .f32) (v2566 : FVec F S64x128 .f32) (v2570 : FVec F S64x128 .f32) (v2571 : FVec F S64x1 .f32) (v2572 : FVec F S1x1 .f32) (v2576 : FVec F S64x128 .bf16) :
    Keeps c A (k0_part158 (F := F) i arg1 harg1 arg2 harg2 arg3 harg3 arg4 harg4 arg5 harg5 arg6 harg6 arg7 harg7 arg8 harg8 arg9 harg9 arg10 harg10 arg11 harg11 arg12 harg12 arg13 harg13 arg14 harg14 v49 v289 v292 v613 v614 v615 v2566 v2570 v2571 v2572 v2576) := by
  rw [k0_part158_eq_skeleton]; unfold k0_part158_skel
  exact keeps_bind (keeps_load h.r13) fun _ =>
    keeps_bind (keeps_store h.w13) fun _ =>
    keeps_bind (keeps_load h.r14) fun _ =>
    keeps_bind (keeps_store h.w14) fun _ =>
    keeps_bind (keeps_load h.r3) fun _ =>
    keeps_bind (keeps_load h.r13) fun _ =>
    keeps_bind (keeps_store h.w13) fun _ =>
    keeps_bind (keeps_load h.r14) fun _ =>
    keeps_pure _

theorem keeps_k0_part3 {c : Dev nD} {A : sProp 𝕄} (h : Held c A arg1 arg2 arg3 arg4 arg5 arg6 arg7 arg8 arg9 arg10 arg11 arg12 arg13 arg14) (v42 : FVec F S64x128 .bf16) (k0_t2 : Fin k0_t2_loop.trips) (v3582 : BitVec 32) (v3587 : BitVec 32) :
    Keeps c A (k0_part3 (F := F) i arg1 harg1 arg2 harg2 arg3 harg3 arg4 harg4 arg5 harg5 arg6 harg6 arg7 harg7 arg8 harg8 arg9 harg9 arg10 harg10 arg11 harg11 arg12 harg12 arg13 harg13 arg14 harg14 v42 k0_t2 v3582 v3587) := by
  rw [k0_part3_eq_skeleton]; unfold k0_part3_skel
  exact keeps_bind (keeps_load h.r1) fun _ =>
    keeps_bind (keeps_load h.r2) fun _ =>
    keeps_bind (keeps_load h.r1) fun _ =>
    keeps_bind (keeps_load h.r2) fun _ =>
    keeps_bind (keeps_load h.r1) fun _ =>
    keeps_bind (keeps_load h.r2) fun _ =>
    keeps_bind (keeps_load h.r1) fun _ =>
    keeps_bind (keeps_load h.r2) fun _ =>
    keeps_pure _

theorem keeps_k0_part6 {c : Dev nD} {A : sProp 𝕄} (h : Held c A arg1 arg2 arg3 arg4 arg5 arg6 arg7 arg8 arg9 arg10 arg11 arg12 arg13 arg14) (v42 : FVec F S64x128 .bf16) (k0_t2 : Fin k0_t2_loop.trips) (v3600 : BitVec 32) (v3718 : FVec F S64x128 .bf16) (v3721 : FVec F S64x128 .bf16) (v3724 : FVec F S64x128 .bf16) (v3727 : FVec F S64x128 .bf16) (v3728 : FVec F S64x256 .bf16) :
    Keeps c A (k0_part6 (F := F) i arg1 harg1 arg2 harg2 arg3 harg3 arg4 harg4 arg5 harg5 arg6 harg6 arg7 harg7 arg8 harg8 arg9 harg9 arg10 harg10 arg11 harg11 arg12 harg12 arg13 harg13 arg14 harg14 v42 k0_t2 v3600 v3718 v3721 v3724 v3727 v3728) := by
  rw [k0_part6_eq_skeleton]; unfold k0_part6_skel
  exact keeps_bind (keeps_load h.r1) fun _ =>
    keeps_bind (keeps_load h.r2) fun _ =>
    keeps_bind (keeps_load h.r1) fun _ =>
    keeps_bind (keeps_load h.r2) fun _ =>
    keeps_bind (keeps_load h.r1) fun _ =>
    keeps_bind (keeps_load h.r2) fun _ =>
    keeps_bind (keeps_load h.r1) fun _ =>
    keeps_bind (keeps_load h.r2) fun _ =>
    keeps_pure _

theorem keeps_k0_part9 {c : Dev nD} {A : sProp 𝕄} (h : Held c A arg1 arg2 arg3 arg4 arg5 arg6 arg7 arg8 arg9 arg10 arg11 arg12 arg13 arg14) (v42 : FVec F S64x128 .bf16) (k0_t2 : Fin k0_t2_loop.trips) (v3581 : BitVec 32) (v3844 : FVec F S64x128 .bf16) (v3847 : FVec F S64x128 .bf16) (v3850 : FVec F S64x128 .bf16) (v3853 : FVec F S64x128 .bf16) (v3854 : FVec F S64x256 .bf16) :
    Keeps c A (k0_part9 (F := F) i arg1 harg1 arg2 harg2 arg3 harg3 arg4 harg4 arg5 harg5 arg6 harg6 arg7 harg7 arg8 harg8 arg9 harg9 arg10 harg10 arg11 harg11 arg12 harg12 arg13 harg13 arg14 harg14 v42 k0_t2 v3581 v3844 v3847 v3850 v3853 v3854) := by
  rw [k0_part9_eq_skeleton]; unfold k0_part9_skel
  exact keeps_bind (keeps_load h.r11) fun _ =>
    keeps_bind (keeps_load h.r11) fun _ =>
    keeps_bind (keeps_load h.r11) fun _ =>
    keeps_bind (keeps_load h.r11) fun _ =>
    keeps_bind (keeps_load h.r11) fun _ =>
    keeps_bind (keeps_load h.r11) fun _ =>
    keeps_bind (keeps_load h.r11) fun _ =>
    keeps_bind (keeps_load h.r11) fun _ =>
    keeps_bind (keeps_load h.r13) fun _ =>
    keeps_pure _

theorem keeps_k0_part12 {c : Dev nD} {A : sProp 𝕄} (h : Held c A arg1 arg2 arg3 arg4 arg5 arg6 arg7 arg8 arg9 arg10 arg11 arg12 arg13 arg14) (v30 : IVec S64x128 1) (v38 : IVec S64x128 1) (k0_t2 : Fin k0_t2_loop.trips) (v3582 : BitVec 32) (v3630 : FVec F S64x128 .f32) (v3920 : Vec F S64x128 .f32) (v3932 : Vec F S64x128 .f32) (v3947 : FVec F S4x128 .f32) :
    Keeps c A (k0_part12 (F := F) i arg1 harg1 arg2 harg2 arg3 harg3 arg4 harg4 arg5 harg5 arg6 harg6 arg7 harg7 arg8 harg8 arg9 harg9 arg10 harg10 arg11 harg11 arg12 harg12 arg13 harg13 arg14 harg14 v30 v38 k0_t2 v3582 v3630 v3920 v3932 v3947) := by
  rw [k0_part12_eq_skeleton]; unfold k0_part12_skel
  exact keeps_bind (keeps_load h.r10) fun _ =>
    keeps_bind (keeps_load h.r10) fun _ =>
    keeps_bind (keeps_load h.r10) fun _ =>
    keeps_bind (keeps_load h.r10) fun _ =>
    keeps_pure _

theorem keeps_k0_part15 {c : Dev nD} {A : sProp 𝕄} (h : Held c A arg1 arg2 arg3 arg4 arg5 arg6 arg7 arg8 arg9 arg10 arg11 arg12 arg13 arg14) (v30 : IVec S64x128 1) (v38 : IVec S64x128 1) (v39 : IVec S64x128 1) (v40 : IVec S64x128 1) (v41 : IVec S64x128 1) (v3735 : FVec F S64x128 .f32) (v3736 : FVec F S64x128 .f32) (v3756 : FVec F S64x128 .f32) (v3757 : FVec F S64x128 .f32) (v3926 : Vec F S64x128 .f32) (v3938 : Vec F S64x128 .f32) (v3957 : FVec F S4x128 .f32) (v3963 : FVec F S4x128 .f32) (v4102 : FVec F S64x1 .f32) (v4104 : FVec F S64x1 .f32) (v4106 : FVec F S64x128 .f32) (v4108 : FVec F S64x128 .f32) :
    Keeps c A (k0_part15 (F := F) i arg1 harg1 arg2 harg2 arg3 harg3 arg4 harg4 arg5 harg5 arg6 harg6 arg7 harg7 arg8 harg8 arg9 harg9 arg10 harg10 arg11 harg11 arg12 harg12 arg13 harg13 arg14 harg14 v30 v38 v39 v40 v41 v3735 v3736 v3756 v3757 v3926 v3938 v3957 v3963 v4102 v4104 v4106 v4108) := by
  rw [k0_part15_eq_skeleton]; unfold k0_part15_skel
  exact keeps_pure _

theorem keeps_k0_part18 {c : Dev nD} {A : sProp 𝕄} (h : Held c A arg1 arg2 arg3 arg4 arg5 arg6 arg7 arg8 arg9 arg10 arg11 arg12 arg13 arg14) (v25 : IVec S64x128 32) (v28 : IVec S64x128 32) (v37 : IVec S128x128 1) (v3862 : FVec F S64x128 .f32) (v3999 : FVec F S64x128 .f32) (v4024 : FVec F S64x128 .f32) (v4049 : FVec F S64x128 .f32) (v4074 : FVec F S64x128 .f32) (v4099 : FVec F S64x128 .f32) (v4124 : FVec F S64x128 .f32) (v4149 : FVec F S64x128 .f32) (v4174 : FVec F S64x128 .f32) (v4199 : FVec F S64x128 .f32) (v4224 : FVec F S64x128 .f32) (v4249 : FVec F S64x128 .f32) (v4270 : FVec F S64x128 .f32) (v4274 : FVec F S64x128 .f32) :
    Keeps c A (k0_part18 (F := F) i arg1 harg1 arg2 harg2 arg3 harg3 arg4 harg4 arg5 harg5 arg6 harg6 arg7 harg7 arg8 harg8 arg9 harg9 arg10 harg10 arg11 harg11 arg12 harg12 arg13 harg13 arg14 harg14 v25 v28 v37 v3862 v3999 v4024 v4049 v4074 v4099 v4124 v4149 v4174 v4199 v4224 v4249 v4270 v4274) := by
  rw [k0_part18_eq_skeleton]; unfold k0_part18_skel
  exact keeps_pure _

theorem keeps_k0_part21 {c : Dev nD} {A : sProp 𝕄} (h : Held c A arg1 arg2 arg3 arg4 arg5 arg6 arg7 arg8 arg9 arg10 arg11 arg12 arg13 arg14) (k0_t2 : Fin k0_t2_loop.trips) (v3581 : BitVec 32) (v3903 : FVec F S128x128 .f32) (v3908 : FVec F S128x128 .f32) (v3913 : FVec F S128x128 .f32) (v3918 : FVec F S128x128 .f32) (v4384 : FVec F S64x128 .f32) (v4389 : FVec F S64x128 .f32) (v4394 : FVec F S64x128 .f32) (v4401 : Vec F S1x1x64x128 .f32) :
    Keeps c A (k0_part21 (F := F) i arg1 harg1 arg2 harg2 arg3 harg3 arg4 harg4 arg5 harg5 arg6 harg6 arg7 harg7 arg8 harg8 arg9 harg9 arg10 harg10 arg11 harg11 arg12 harg12 arg13 harg13 arg14 harg14 k0_t2 v3581 v3903 v3908 v3913 v3918 v4384 v4389 v4394 v4401) := by
  rw [k0_part21_eq_skeleton]; unfold k0_part21_skel
  exact keeps_bind (keeps_load h.r12) fun _ =>
    keeps_bind (keeps_load h.r12) fun _ =>
    keeps_bind (keeps_load h.r12) fun _ =>
    keeps_bind (keeps_load h.r14) fun _ =>
    keeps_bind (keeps_load h.r14) fun _ =>
    keeps_bind (keeps_load h.r14) fun _ =>
    keeps_bind (keeps_load h.r14) fun _ =>
    keeps_pure _

theorem keeps_k0_part24 {c : Dev nD} {A : sProp 𝕄} (h : Held c A arg1 arg2 arg3 arg4 arg5 arg6 arg7 arg8 arg9 arg10 arg11 arg12 arg13 arg14) (k0_t2 : Fin k0_t2_loop.trips) (arg15 : BitVec 32) (v3868 : FVec F S128x128 .f32) (v3893 : FVec F S128x128 .f32) (v4434 : FVec F S192x128 .f32) (v4506 : BitVec 32) (v4513 : FVec F S64x128 .f32) :
    Keeps c A (k0_part24 (F := F) i arg1 harg1 arg2 harg2 arg3 harg3 arg4 harg4 arg5 harg5 arg6 harg6 arg7 harg7 arg8 harg8 arg9 harg9 arg10 harg10 arg11 harg11 arg12 harg12 arg13 harg13 arg14 harg14 k0_t2 arg15 v3868 v3893 v4434 v4506 v4513) := by
  rw [k0_part24_eq_skeleton]; unfold k0_part24_skel
  exact keeps_bind (keeps_load h.r7) fun _ =>
    keeps_bind (keeps_store h.w7) fun _ =>
    keeps_bind (keeps_load h.r9) fun _ =>
    keeps_bind (keeps_load h.r11) fun _ =>
    keeps_bind (keeps_store h.w11) fun _ =>
    keeps_bind (keeps_load h.r7) fun _ =>
    keeps_bind (keeps_load h.r7) fun _ =>
    keeps_bind (keeps_store h.w7) fun _ =>
    keeps_pure _

theorem keeps_k0_part27 {c : Dev nD} {A : sProp 𝕄} (h : Held c A arg1 arg2 arg3 arg4 arg5 arg6 arg7 arg8 arg9 arg10 arg11 arg12 arg13 arg14) (k0_t2 : Fin k0_t2_loop.trips) (arg15 : BitVec 32) (v3876 : FVec F S128x128 .f32) (v3913 : FVec F S128x128 .f32) (v4454 : FVec F S192x128 .f32) (v4624 : BitVec 32) (v4631 : FVec F S64x128 .f32) :
    Keeps c A (k0_part27 (F := F) i arg1 harg1 arg2 harg2 arg3 harg3 arg4 harg4 arg5 harg5 arg6 harg6 arg7 harg7 arg8 harg8 arg9 harg9 arg10 harg10 arg11 harg11 arg12 harg12 arg13 harg13 arg14 harg14 k0_t2 arg15 v3876 v3913 v4454 v4624 v4631) := by
  rw [k0_part27_eq_skeleton]; unfold k0_part27_skel
  exact keeps_bind (keeps_load h.r7) fun _ =>
    keeps_bind (keeps_store h.w7) fun _ =>
    keeps_bind (keeps_load h.r9) fun _ =>
    keeps_bind (keeps_load h.r11) fun _ =>
    keeps_bind (keeps_store h.w11) fun _ =>
    keeps_bind (keeps_load h.r7) fun _ =>
    keeps_bind (keeps_load h.r7) fun _ =>
    keeps_bind (keeps_store h.w7) fun _ =>
    keeps_pure _

theorem keeps_k0_part30 {c : Dev nD} {A : sProp 𝕄} (h : Held c A arg1 arg2 arg3 arg4 arg5 arg6 arg7 arg8 arg9 arg10 arg11 arg12 arg13 arg14) (v37 : IVec S128x128 1) (v4278 : FVec F S64x128 .f32) (v4285 : FVec F S64x128 .f32) (v4287 : FVec F S64x128 .f32) (v4289 : FVec F S64x128 .f32) (v4303 : FVec F S64x128 .f32) (v4305 : FVec F S64x128 .f32) (v4307 : FVec F S64x128 .f32) (v4361 : FVec F S64x128 .f32) (v4367 : FVec F S64x128 .f32) (v4373 : FVec F S64x128 .f32) (v4379 : FVec F S64x128 .f32) (v4703 : FVec F S128x128 .f32) (v4711 : FVec F S128x128 .f32) (v4719 : FVec F S128x128 .f32) (v4727 : FVec F S128x128 .f32) (v4735 : FVec F S128x128 .f32) (v4743 : FVec F S128x128 .f32) (v4751 : FVec F S128x128 .f32) (v4759 : FVec F S128x128 .f32) (v4760 : FVec F S64x128 .f32) :
    Keeps c A (k0_part30 (F := F) i arg1 harg1 arg2 harg2 arg3 harg3 arg4 harg4 arg5 harg5 arg6 harg6 arg7 harg7 arg8 harg8 arg9 harg9 arg10 harg10 arg11 harg11 arg12 harg12 arg13 harg13 arg14 harg14 v37 v4278 v4285 v4287 v4289 v4303 v4305 v4307 v4361 v4367 v4373 v4379 v4703 v4711 v4719 v4727 v4735 v4743 v4751 v4759 v4760) := by
  rw [k0_part30_eq_skeleton]; unfold k0_part30_skel
  exact keeps_pure _

theorem keeps_k0_part33 {c : Dev nD} {A : sProp 𝕄} (h : Held c A arg1 arg2 arg3 arg4 arg5 arg6 arg7 arg8 arg9 arg10 arg11 arg12 arg13 arg14) (v37 : IVec S128x128 1) (k0_t2 : Fin k0_t2_loop.trips) (v3581 : BitVec 32) (v4792 : FVec F S64x128 .f32) (v4793 : FVec F S64x128 .f32) (v4794 : FVec F S64x128 .f32) (v4795 : FVec F S64x128 .f32) (v4796 : FVec F S64x128 .f32) (v4806 : FVec F S64x128 .f32) (v4809 : FVec F S64x128 .f32) (v4812 : FVec F S64x128 .f32) (v4815 : FVec F S64x128 .f32) (v4818 : FVec F S64x128 .f32) (v4853 : FVec F S128x128 .f32) (v4855 : FVec F S128x128 .f32) (v4883 : FVec F S128x128 .bf16) (v4884 : FVec F S128x128 .bf16) (cst_2137 : FVec F S128x128 .f32) :
    Keeps c A (k0_part33 (F := F) i arg1 harg1 arg2 harg2 arg3 harg3 arg4 harg4 arg5 harg5 arg6 harg6 arg7 harg7 arg8 harg8 arg9 harg9 arg10 harg10 arg11 harg11 arg12 harg12 arg13 harg13 arg14 harg14 v37 k0_t2 v3581 v4792 v4793 v4794 v4795 v4796 v4806 v4809 v4812 v4815 v4818 v4853 v4855 v4883 v4884 cst_2137) := by
  rw [k0_part33_eq_skeleton]; unfold k0_part33_skel
  exact keeps_bind (keeps_load h.r13) fun _ =>
    keeps_bind (keeps_load h.r13) fun _ =>
    keeps_pure _

theorem keeps_k0_part36 {c : Dev nD} {A : sProp 𝕄} (h : Held c A arg1 arg2 arg3 arg4 arg5 arg6 arg7 arg8 arg9 arg10 arg11 arg12 arg13 arg14) (k0_t2 : Fin k0_t2_loop.trips) (v3581 : BitVec 32) (v4890 : FVec F S128x128 .f32) (v4895 : FVec F S128x128 .f32) (v4984 : FVec F S64x128 .f32) (v4989 : FVec F S64x128 .f32) (v4994 : FVec F S64x128 .f32) (v4999 : FVec F S64x128 .f32) (v5004 : FVec F S64x128 .f32) (v5011 : Vec F S1x1x64x128 .f32) :
    Keeps c A (k0_part36 (F := F) i arg1 harg1 arg2 harg2 arg3 harg3 arg4 harg4 arg5 harg5 arg6 harg6 arg7 harg7 arg8 harg8 arg9 harg9 arg10 harg10 arg11 harg11 arg12 harg12 arg13 harg13 arg14 harg14 k0_t2 v3581 v4890 v4895 v4984 v4989 v4994 v4999 v5004 v5011) := by
  rw [k0_part36_eq_skeleton]; unfold k0_part36_skel
  exact keeps_bind (keeps_load h.r12) fun _ =>
    keeps_bind (keeps_load h.r14) fun _ =>
    keeps_bind (keeps_load h.r14) fun _ =>
    keeps_bind (keeps_load h.r14) fun _ =>
    keeps_bind (keeps_load h.r14) fun _ =>
    keeps_bind (keeps_load h.r14) fun _ =>
    keeps_pure _

theorem keeps_k0_part39 {c : Dev nD} {A : sProp 𝕄} (h : Held c A arg1 arg2 arg3 arg4 arg5 arg6 arg7 arg8 arg9 arg10 arg11 arg12 arg13 arg14) (k0_t2 : Fin k0_t2_loop.trips) (arg15 : BitVec 32) (v4845 : FVec F S128x128 .f32) (v4847 : FVec F S128x128 .f32) (v4870 : FVec F S128x128 .f32) (v5034 : FVec F S192x128 .f32) (v5039 : FVec F S192x128 .f32) (v5119 : BitVec 32) (v5122 : BitVec 32) :
    Keeps c A (k0_part39 (F := F) i arg1 harg1 arg2 harg2 arg3 harg3 arg4 harg4 arg5 harg5 arg6 harg6 arg7 harg7 arg8 harg8 arg9 harg9 arg10 harg10 arg11 harg11 arg12 harg12 arg13 harg13 arg14 harg14 k0_t2 arg15 v4845 v4847 v4870 v5034 v5039 v5119 v5122) := by
  rw [k0_part39_eq_skeleton]; unfold k0_part39_skel
  exact keeps_bind (keeps_load h.r9) fun _ =>
    keeps_bind (keeps_load h.r11) fun _ =>
    keeps_bind (keeps_store h.w11) fun _ =>
    keeps_bind (keeps_load h.r7) fun _ =>
    keeps_bind (keeps_load h.r7) fun _ =>
    keeps_bind (keeps_store h.w7) fun _ =>
    keeps_bind (keeps_load h.r9) fun _ =>
    keeps_bind (keeps_load h.r11) fun _ =>
    keeps_bind (keeps_store h.w11) fun _ =>
    keeps_pure _

theorem keeps_k0_part42 {c : Dev nD} {A : sProp 𝕄} (h : Held c A arg1 arg2 arg3 arg4 arg5 arg6 arg7 arg8 arg9 arg10 arg11 arg12 arg13 arg14) (k0_t2 : Fin k0_t2_loop.trips) (arg15 : BitVec 32) (v4853 : FVec F S128x128 .f32) (v4855 : FVec F S128x128 .f32) (v4890 : FVec F S128x128 .f32) (v5054 : FVec F S192x128 .f32) (v5059 : FVec F S192x128 .f32) (v5238 : BitVec 32) (v5239 : BitVec 32) (c0_i32_2310 : BitVec 32) :
    Keeps c A (k0_part42 (F := F) i arg1 harg1 arg2 harg2 arg3 harg3 arg4 harg4 arg5 harg5 arg6 harg6 arg7 harg7 arg8 harg8 arg9 harg9 arg10 harg10 arg11 harg11 arg12 harg12 arg13 harg13 arg14 harg14 k0_t2 arg15 v4853 v4855 v4890 v5054 v5059 v5238 v5239 c0_i32_2310) := by
  rw [k0_part42_eq_skeleton]; unfold k0_part42_skel
  exact keeps_bind (keeps_load h.r9) fun _ =>
    keeps_bind (keeps_load h.r11) fun _ =>
    keeps_bind (keeps_store h.w11) fun _ =>
    keeps_bind (keeps_load h.r7) fun _ =>
    keeps_bind (keeps_load h.r7) fun _ =>
    keeps_bind (keeps_store h.w7) fun _ =>
    keeps_bind (keeps_load h.r9) fun _ =>
    keeps_pure _

theorem keeps_k0_part45 {c : Dev nD} {A : sProp 𝕄} (h : Held c A arg1 arg2 arg3 arg4 arg5 arg6 arg7 arg8 arg9 arg10 arg11 arg12 arg13 arg14) (v37 : IVec S128x128 1) (v4199 : FVec F S64x128 .f32) (v4224 : FVec F S64x128 .f32) (v4249 : FVec F S64x128 .f32) (v4274 : FVec F S64x128 .f32) (v4958 : FVec F S64x128 .f32) (v4965 : FVec F S64x128 .f32) (v4972 : FVec F S64x128 .f32) (v4979 : FVec F S64x128 .f32) (v5306 : IVec S64x128 1) (v5365 : FVec F S64x128 .bf16) (v5366 : FVec F S128x128 .f32) :
    Keeps c A (k0_part45 (F := F) i arg1 harg1 arg2 harg2 arg3 harg3 arg4 harg4 arg5 harg5 arg6 harg6 arg7 harg7 arg8 harg8 arg9 harg9 arg10 harg10 arg11 harg11 arg12 harg12 arg13 harg13 arg14 harg14 v37 v4199 v4224 v4249 v4274 v4958 v4965 v4972 v4979 v5306 v5365 v5366) := by
  rw [k0_part45_eq_skeleton]; unfold k0_part45_skel
  exact keeps_bind (keeps_load h.r11) fun _ =>
    keeps_bind (keeps_load h.r11) fun _ =>
    keeps_pure _

theorem keeps_k0_part48 {c : Dev nD} {A : sProp 𝕄} (h : Held c A arg1 arg2 arg3 arg4 arg5 arg6 arg7 arg8 arg9 arg10 arg11 arg12 arg13 arg14) (v37 : IVec S128x128 1) (v4916 : FVec F S64x128 .f32) (v4923 : FVec F S64x128 .f32) (v4930 : FVec F S64x128 .f32) (v4937 : FVec F S64x128 .f32) (v4944 : FVec F S64x128 .f32) (v4951 : FVec F S64x128 .f32) (v4958 : FVec F S64x128 .f32) (v5330 : FVec F S64x128 .f32) (v5338 : FVec F S64x128 .f32) (v5346 : FVec F S64x128 .f32) (v5354 : FVec F S64x128 .f32) (v5362 : FVec F S64x128 .f32) (v5370 : FVec F S64x128 .f32) (v5378 : FVec F S64x128 .f32) :
    Keeps c A (k0_part48 (F := F) i arg1 harg1 arg2 harg2 arg3 harg3 arg4 harg4 arg5 harg5 arg6 harg6 arg7 harg7 arg8 harg8 arg9 harg9 arg10 harg10 arg11 harg11 arg12 harg12 arg13 harg13 arg14 harg14 v37 v4916 v4923 v4930 v4937 v4944 v4951 v4958 v5330 v5338 v5346 v5354 v5362 v5370 v5378) := by
  rw [k0_part48_eq_skeleton]; unfold k0_part48_skel
  exact keeps_pure _

theorem keeps_k0_part51 {c : Dev nD} {A : sProp 𝕄} (h : Held c A arg1 arg2 arg3 arg4 arg5 arg6 arg7 arg8 arg9 arg10 arg11 arg12 arg13 arg14) (k0_t2 : Fin k0_t2_loop.trips) (arg15 : BitVec 32) (v3581 : BitVec 32) (v5562 : FVec F S64x128 .f32) (v5567 : FVec F S64x128 .f32) (v5572 : FVec F S64x128 .f32) (v5577 : FVec F S64x128 .f32) (v5582 : FVec F S64x128 .f32) (v5595 : FVec F S192x64 .bf16) (v5596 : FVec F S64x128 .bf16) (cst_2489 : FVec F S192x128 .f32) :
    Keeps c A (k0_part51 (F := F) i arg1 harg1 arg2 harg2 arg3 harg3 arg4 harg4 arg5 harg5 arg6 harg6 arg7 harg7 arg8 harg8 arg9 harg9 arg10 harg10 arg11 harg11 arg12 harg12 arg13 harg13 arg14 harg14 k0_t2 arg15 v3581 v5562 v5567 v5572 v5577 v5582 v5595 v5596 cst_2489) := by
  rw [k0_part51_eq_skeleton]; unfold k0_part51_skel
  exact keeps_bind (keeps_load h.r14) fun _ =>
    keeps_bind (keeps_load h.r14) fun _ =>
    keeps_bind (keeps_load h.r14) fun _ =>
    keeps_bind (keeps_load h.r14) fun _ =>
    keeps_bind (keeps_load h.r14) fun _ =>
    keeps_bind (keeps_load h.r9) fun _ =>
    keeps_pure _

theorem keeps_k0_part54 {c : Dev nD} {A : sProp 𝕄} (h : Held c A arg1 arg2 arg3 arg4 arg5 arg6 arg7 arg8 arg9 arg10 arg11 arg12 arg13 arg14) (k0_t2 : Fin k0_t2_loop.trips) (arg15 : BitVec 32) (v5410 : FVec F S128x128 .f32) (v5412 : FVec F S128x128 .f32) (v5438 : FVec F S128x128 .f32) (v5602 : FVec F S192x128 .f32) (v5710 : BitVec 32) :
    Keeps c A (k0_part54 (F := F) i arg1 harg1 arg2 harg2 arg3 harg3 arg4 harg4 arg5 harg5 arg6 harg6 arg7 harg7 arg8 harg8 arg9 harg9 arg10 harg10 arg11 harg11 arg12 harg12 arg13 harg13 arg14 harg14 k0_t2 arg15 v5410 v5412 v5438 v5602 v5710) := by
  rw [k0_part54_eq_skeleton]; unfold k0_part54_skel
  exact keeps_bind (keeps_load h.r9) fun _ =>
    keeps_bind (keeps_load h.r11) fun _ =>
    keeps_bind (keeps_store h.w11) fun _ =>
    keeps_bind (keeps_load h.r7) fun _ =>
    keeps_bind (keeps_load h.r7) fun _ =>
    keeps_bind (keeps_store h.w7) fun _ =>
    keeps_bind (keeps_load h.r9) fun _ =>
    keeps_pure _

theorem keeps_k0_part57 {c : Dev nD} {A : sProp 𝕄} (h : Held c A arg1 arg2 arg3 arg4 arg5 arg6 arg7 arg8 arg9 arg10 arg11 arg12 arg13 arg14) (v25 : IVec S64x128 32) (v28 : IVec S64x128 32) (k0_t2 : Fin k0_t2_loop.trips) (arg15 : BitVec 32) (v5418 : FVec F S128x128 .f32) (v5458 : FVec F S128x128 .f32) (v5622 : FVec F S192x128 .f32) :
    Keeps c A (k0_part57 (F := F) i arg1 harg1 arg2 harg2 arg3 harg3 arg4 harg4 arg5 harg5 arg6 harg6 arg7 harg7 arg8 harg8 arg9 harg9 arg10 harg10 arg11 harg11 arg12 harg12 arg13 harg13 arg14 harg14 v25 v28 k0_t2 arg15 v5418 v5458 v5622) := by
  rw [k0_part57_eq_skeleton]; unfold k0_part57_skel
  exact keeps_bind (keeps_load h.r9) fun _ =>
    keeps_bind (keeps_load h.r11) fun _ =>
    keeps_bind (keeps_store h.w11) fun _ =>
    keeps_bind (keeps_load h.r7) fun _ =>
    keeps_bind (keeps_load h.r7) fun _ =>
    keeps_bind (keeps_store h.w7) fun _ =>
    keeps_pure _

theorem keeps_k0_part60 {c : Dev nD} {A : sProp 𝕄} (h : Held c A arg1 arg2 arg3 arg4 arg5 arg6 arg7 arg8 arg9 arg10 arg11 arg12 arg13 arg14) (v37 : IVec S128x128 1) (v4274 : FVec F S64x128 .f32) (v5465 : FVec F S64x128 .f32) (v5472 : FVec F S64x128 .f32) (v5479 : FVec F S64x128 .f32) (v5486 : FVec F S64x128 .f32) (v5493 : FVec F S64x128 .f32) (v5500 : FVec F S64x128 .f32) (v5542 : FVec F S64x128 .f32) (v5869 : IVec S64x128 1) (v5877 : FVec F S64x128 .f32) (v5885 : FVec F S64x128 .f32) (v5893 : FVec F S64x128 .f32) (v5901 : FVec F S64x128 .f32) (v5909 : FVec F S64x128 .f32) (v5917 : FVec F S64x128 .f32) (v5952 : FVec F S64x128 .bf16) (v5956 : FVec F S128x128 .bf16) :
    Keeps c A (k0_part60 (F := F) i arg1 harg1 arg2 harg2 arg3 harg3 arg4 harg4 arg5 harg5 arg6 harg6 arg7 harg7 arg8 harg8 arg9 harg9 arg10 harg10 arg11 harg11 arg12 harg12 arg13 harg13 arg14 harg14 v37 v4274 v5465 v5472 v5479 v5486 v5493 v5500 v5542 v5869 v5877 v5885 v5893 v5901 v5909 v5917 v5952 v5956) := by
  rw [k0_part60_eq_skeleton]; unfold k0_part60_skel
  exact keeps_pure _

theorem keeps_k0_part63 {c : Dev nD} {A : sProp 𝕄} (h : Held c A arg1 arg2 arg3 arg4 arg5 arg6 arg7 arg8 arg9 arg10 arg11 arg12 arg13 arg14) (v37 : IVec S128x128 1) (v4099 : FVec F S64x128 .f32) (v4124 : FVec F S64x128 .f32) (v4149 : FVec F S64x128 .f32) (v4174 : FVec F S64x128 .f32) (v4199 : FVec F S64x128 .f32) (v4224 : FVec F S64x128 .f32) (v6000 : FVec F S64x128 .f32) (v6007 : FVec F S64x128 .f32) (v6014 : FVec F S64x128 .f32) (v6021 : FVec F S64x128 .f32) (v6028 : FVec F S64x128 .f32) (v6035 : FVec F S64x128 .f32) (v6060 : IVec S64x128 1) :
    Keeps c A (k0_part63 (F := F) i arg1 harg1 arg2 harg2 arg3 harg3 arg4 harg4 arg5 harg5 arg6 harg6 arg7 harg7 arg8 harg8 arg9 harg9 arg10 harg10 arg11 harg11 arg12 harg12 arg13 harg13 arg14 harg14 v37 v4099 v4124 v4149 v4174 v4199 v4224 v6000 v6007 v6014 v6021 v6028 v6035 v6060) := by
  rw [k0_part63_eq_skeleton]; unfold k0_part63_skel
  exact keeps_pure _

theorem keeps_k0_part66 {c : Dev nD} {A : sProp 𝕄} (h : Held c A arg1 arg2 arg3 arg4 arg5 arg6 arg7 arg8 arg9 arg10 arg11 arg12 arg13 arg14) (v37 : IVec S128x128 1) (k0_t2 : Fin k0_t2_loop.trips) (v3583 : BitVec 32) (v3587 : BitVec 32) (v3613 : FVec F S64x128 .bf16) (v3616 : FVec F S64x128 .bf16) (v3622 : FVec F S64x128 .bf16) (v3976 : FVec F S64x1 .f32) (v3977 : FVec F S64x1 .f32) (v6042 : FVec F S64x128 .f32) (v6049 : FVec F S64x128 .f32) (v6156 : FVec F S64x128 .f32) (v6227 : FVec F S64x128 .bf16) (v6228 : FVec F S128x128 .f32) :
    Keeps c A (k0_part66 (F := F) i arg1 harg1 arg2 harg2 arg3 harg3 arg4 harg4 arg5 harg5 arg6 harg6 arg7 harg7 arg8 harg8 arg9 harg9 arg10 harg10 arg11 harg11 arg12 harg12 arg13 harg13 arg14 harg14 v37 k0_t2 v3583 v3587 v3613 v3616 v3622 v3976 v3977 v6042 v6049 v6156 v6227 v6228) := by
  rw [k0_part66_eq_skeleton]; unfold k0_part66_skel
  exact keeps_bind (keeps_load h.r3) fun _ =>
    keeps_bind (keeps_load h.r13) fun _ =>
    keeps_bind (keeps_store h.w13) fun _ =>
    keeps_bind (keeps_load h.r14) fun _ =>
    keeps_bind (keeps_store h.w14) fun _ =>
    keeps_pure _

theorem keeps_k0_part69 {c : Dev nD} {A : sProp 𝕄} (h : Held c A arg1 arg2 arg3 arg4 arg5 arg6 arg7 arg8 arg9 arg10 arg11 arg12 arg13 arg14) (k0_t2 : Fin k0_t2_loop.trips) (v3583 : BitVec 32) (v3587 : BitVec 32) (v3640 : FVec F S64x128 .bf16) (v3643 : FVec F S64x128 .bf16) (v4001 : FVec F S64x1 .f32) (v4002 : FVec F S64x1 .f32) (v4003 : FVec F S64x1 .f32) (v6344 : FVec F S64x128 .f32) (v6348 : FVec F S64x128 .f32) (v6349 : FVec F S64x1 .f32) (v6350 : FVec F S1x1 .f32) (v6354 : FVec F S64x128 .bf16) :
    Keeps c A (k0_part69 (F := F) i arg1 harg1 arg2 harg2 arg3 harg3 arg4 harg4 arg5 harg5 arg6 harg6 arg7 harg7 arg8 harg8 arg9 harg9 arg10 harg10 arg11 harg11 arg12 harg12 arg13 harg13 arg14 harg14 k0_t2 v3583 v3587 v3640 v3643 v4001 v4002 v4003 v6344 v6348 v6349 v6350 v6354) := by
  rw [k0_part69_eq_skeleton]; unfold k0_part69_skel
  exact keeps_bind (keeps_load h.r13) fun _ =>
    keeps_bind (keeps_store h.w13) fun _ =>
    keeps_bind (keeps_load h.r14) fun _ =>
    keeps_bind (keeps_store h.w14) fun _ =>
    keeps_bind (keeps_load h.r3) fun _ =>
    keeps_bind (keeps_load h.r13) fun _ =>
    keeps_bind (keeps_store h.w13) fun _ =>
    keeps_bind (keeps_load h.r14) fun _ =>
    keeps_pure _

theorem keeps_k0_part72 {c : Dev nD} {A : sProp 𝕄} (h : Held c A arg1 arg2 arg3 arg4 arg5 arg6 arg7 arg8 arg9 arg10 arg11 arg12 arg13 arg14) (v43 : FVec F S64x256 .f32) (k0_t2 : Fin k0_t2_loop.trips) (v3583 : BitVec 32) (v3661 : FVec F S64x128 .bf16) (v4028 : FVec F S64x1 .f32) (v4029 : FVec F S64x1 .f32) (v4050 : FVec F S64x128 .f32) (v6177 : FVec F S64x128 .f32) (v6478 : FVec F S64x256 .f32) (v6479 : FVec F S64x128 .f32) (v6482 : FVec F S64x128 .bf16) :
    Keeps c A (k0_part72 (F := F) i arg1 harg1 arg2 harg2 arg3 harg3 arg4 harg4 arg5 harg5 arg6 harg6 arg7 harg7 arg8 harg8 arg9 harg9 arg10 harg10 arg11 harg11 arg12 harg12 arg13 harg13 arg14 harg14 v43 k0_t2 v3583 v3661 v4028 v4029 v4050 v6177 v6478 v6479 v6482) := by
  rw [k0_part72_eq_skeleton]; unfold k0_part72_skel
  exact keeps_bind (keeps_load h.r13) fun _ =>
    keeps_bind (keeps_store h.w13) fun _ =>
    keeps_bind (keeps_load h.r14) fun _ =>
    keeps_bind (keeps_store h.w14) fun _ =>
    keeps_bind (keeps_load h.r12) fun _ =>
    keeps_bind (keeps_store h.w12) fun _ =>
    keeps_bind (keeps_load h.r13) fun _ =>
    keeps_pure _

theorem keeps_k0_part75 {c : Dev nD} {A : sProp 𝕄} (h : Held c A arg1 arg2 arg3 arg4 arg5 arg6 arg7 arg8 arg9 arg10 arg11 arg12 arg13 arg14) (v43 : FVec F S64x256 .f32) (k0_t2 : Fin k0_t2_loop.trips) (v3583 : BitVec 32) (v4054 : FVec F S64x1 .f32) (v4075 : FVec F S64x128 .f32) (v6184 : FVec F S64x128 .f32) (v6581 : FVec F S64x256 .f32) (v6582 : FVec F S64x128 .f32) (v6587 : FVec F S64x1 .f32) (v6609 : FVec F S64x128 .f32) :
    Keeps c A (k0_part75 (F := F) i arg1 harg1 arg2 harg2 arg3 harg3 arg4 harg4 arg5 harg5 arg6 harg6 arg7 harg7 arg8 harg8 arg9 harg9 arg10 harg10 arg11 harg11 arg12 harg12 arg13 harg13 arg14 harg14 v43 k0_t2 v3583 v4054 v4075 v6184 v6581 v6582 v6587 v6609) := by
  rw [k0_part75_eq_skeleton]; unfold k0_part75_skel
  exact keeps_bind (keeps_load h.r12) fun _ =>
    keeps_bind (keeps_store h.w12) fun _ =>
    keeps_bind (keeps_load h.r13) fun _ =>
    keeps_bind (keeps_store h.w13) fun _ =>
    keeps_bind (keeps_load h.r14) fun _ =>
    keeps_bind (keeps_store h.w14) fun _ =>
    keeps_bind (keeps_load h.r12) fun _ =>
    keeps_bind (keeps_store h.w12) fun _ =>
    keeps_bind (keeps_load h.r13) fun _ =>
    keeps_bind (keeps_store h.w13) fun _ =>
    keeps_pure _

theorem keeps_k0_part78 {c : Dev nD} {A : sProp 𝕄} (h : Held c A arg1 arg2 arg3 arg4 arg5 arg6 arg7 arg8 arg9 arg10 arg11 arg12 arg13 arg14) (k0_t2 : Fin k0_t2_loop.trips) (v3583 : BitVec 32) (v3595 : BitVec 32) (v3718 : FVec F S64x128 .bf16) (v3721 : FVec F S64x128 .bf16) (v4101 : FVec F S64x1 .f32) (v6722 : FVec F S64x512 .f32) (v6723 : FVec F S64x128 .bf16) (v6735 : FVec F S64x64 .bf16) :
    Keeps c A (k0_part78 (F := F) i arg1 harg1 arg2 harg2 arg3 harg3 arg4 harg4 arg5 harg5 arg6 harg6 arg7 harg7 arg8 harg8 arg9 harg9 arg10 harg10 arg11 harg11 arg12 harg12 arg13 harg13 arg14 harg14 k0_t2 v3583 v3595 v3718 v3721 v4101 v6722 v6723 v6735) := by
  rw [k0_part78_eq_skeleton]; unfold k0_part78_skel
  exact keeps_bind (keeps_load h.r14) fun _ =>
    keeps_bind (keeps_store h.w14) fun _ =>
    keeps_bind (keeps_load h.r12) fun _ =>
    keeps_bind (keeps_store h.w12) fun _ =>
    keeps_bind (keeps_load h.r13) fun _ =>
    keeps_bind (keeps_store h.w13) fun _ =>
    keeps_bind (keeps_load h.r14) fun _ =>
    keeps_bind (keeps_store h.w14) fun _ =>
    keeps_bind (keeps_load h.r3) fun _ =>
    keeps_bind (keeps_load h.r13) fun _ =>
    keeps_bind (keeps_store h.w13) fun _ =>
    keeps_pure _

theorem keeps_k0_part81 {c : Dev nD} {A : sProp 𝕄} (h : Held c A arg1 arg2 arg3 arg4 arg5 arg6 arg7 arg8 arg9 arg10 arg11 arg12 arg13 arg14) (k0_t2 : Fin k0_t2_loop.trips) (v3583 : BitVec 32) (v3600 : BitVec 32) (v3739 : FVec F S64x128 .bf16) (v3742 : FVec F S64x128 .bf16) (v3745 : FVec F S64x128 .bf16) (v3748 : FVec F S64x128 .bf16) (v4126 : FVec F S64x1 .f32) (v4127 : FVec F S64x1 .f32) (v4128 : FVec F S64x1 .f32) (v6854 : FVec F S64x64 .bf16) :
    Keeps c A (k0_part81 (F := F) i arg1 harg1 arg2 harg2 arg3 harg3 arg4 harg4 arg5 harg5 arg6 harg6 arg7 harg7 arg8 harg8 arg9 harg9 arg10 harg10 arg11 harg11 arg12 harg12 arg13 harg13 arg14 harg14 k0_t2 v3583 v3600 v3739 v3742 v3745 v3748 v4126 v4127 v4128 v6854) := by
  rw [k0_part81_eq_skeleton]; unfold k0_part81_skel
  exact keeps_bind (keeps_load h.r14) fun _ =>
    keeps_bind (keeps_store h.w14) fun _ =>
    keeps_bind (keeps_load h.r3) fun _ =>
    keeps_bind (keeps_load h.r13) fun _ =>
    keeps_bind (keeps_store h.w13) fun _ =>
    keeps_bind (keeps_load h.r14) fun _ =>
    keeps_bind (keeps_store h.w14) fun _ =>
    keeps_bind (keeps_load h.r3) fun _ =>
    keeps_pure _

theorem keeps_k0_part84 {c : Dev nD} {A : sProp 𝕄} (h : Held c A arg1 arg2 arg3 arg4 arg5 arg6 arg7 arg8 arg9 arg10 arg11 arg12 arg13 arg14) (v43 : FVec F S64x256 .f32) (k0_t2 : Fin k0_t2_loop.trips) (v3583 : BitVec 32) (v3600 : BitVec 32) (v3766 : FVec F S64x128 .bf16) (v3769 : FVec F S64x128 .bf16) (v4152 : FVec F S64x1 .f32) (v4153 : FVec F S64x1 .f32) (v4154 : FVec F S64x1 .f32) (v6212 : FVec F S64x128 .f32) (v6962 : FVec F S64x128 .f32) (v6966 : FVec F S64x128 .f32) (v6967 : FVec F S64x1 .f32) (v6983 : FVec F S128x64 .bf16) :
    Keeps c A (k0_part84 (F := F) i arg1 harg1 arg2 harg2 arg3 harg3 arg4 harg4 arg5 harg5 arg6 harg6 arg7 harg7 arg8 harg8 arg9 harg9 arg10 harg10 arg11 harg11 arg12 harg12 arg13 harg13 arg14 harg14 v43 k0_t2 v3583 v3600 v3766 v3769 v4152 v4153 v4154 v6212 v6962 v6966 v6967 v6983) := by
  rw [k0_part84_eq_skeleton]; unfold k0_part84_skel
  exact keeps_bind (keeps_load h.r14) fun _ =>
    keeps_bind (keeps_store h.w14) fun _ =>
    keeps_bind (keeps_load h.r3) fun _ =>
    keeps_bind (keeps_load h.r13) fun _ =>
    keeps_bind (keeps_store h.w13) fun _ =>
    keeps_bind (keeps_load h.r14) fun _ =>
    keeps_bind (keeps_store h.w14) fun _ =>
    keeps_pure _

theorem keeps_k0_part87 {c : Dev nD} {A : sProp 𝕄} (h : Held c A arg1 arg2 arg3 arg4 arg5 arg6 arg7 arg8 arg9 arg10 arg11 arg12 arg13 arg14) (v43 : FVec F S64x256 .f32) (k0_t2 : Fin k0_t2_loop.trips) (v3583 : BitVec 32) (v4178 : FVec F S64x1 .f32) (v4179 : FVec F S64x1 .f32) (v4200 : FVec F S64x128 .f32) (v6219 : FVec F S64x128 .f32) (v7096 : FVec F S64x256 .f32) (v7097 : FVec F S64x128 .f32) (v7101 : FVec F S64x128 .f32) (v7102 : FVec F S64x1 .f32) (v7103 : FVec F S1x1 .f32) (v7107 : FVec F S64x128 .bf16) (v7109 : Vec F S1x1x64x128 .bf16) :
    Keeps c A (k0_part87 (F := F) i arg1 harg1 arg2 harg2 arg3 harg3 arg4 harg4 arg5 harg5 arg6 harg6 arg7 harg7 arg8 harg8 arg9 harg9 arg10 harg10 arg11 harg11 arg12 harg12 arg13 harg13 arg14 harg14 v43 k0_t2 v3583 v4178 v4179 v4200 v6219 v7096 v7097 v7101 v7102 v7103 v7107 v7109) := by
  rw [k0_part87_eq_skeleton]; unfold k0_part87_skel
  exact keeps_bind (keeps_store h.w13) fun _ =>
    keeps_bind (keeps_load h.r14) fun _ =>
    keeps_bind (keeps_store h.w14) fun _ =>
    keeps_bind (keeps_load h.r12) fun _ =>
    keeps_bind (keeps_store h.w12) fun _ =>
    keeps_bind (keeps_load h.r13) fun _ =>
    keeps_bind (keeps_store h.w13) fun _ =>
    keeps_bind (keeps_load h.r14) fun _ =>
    keeps_bind (keeps_store h.w14) fun _ =>
    keeps_pure _

theorem keeps_k0_part90 {c : Dev nD} {A : sProp 𝕄} (h : Held c A arg1 arg2 arg3 arg4 arg5 arg6 arg7 arg8 arg9 arg10 arg11 arg12 arg13 arg14) (k0_t2 : Fin k0_t2_loop.trips) (v3583 : BitVec 32) (v3610 : BitVec 32) (v3826 : FVec F S64x128 .bf16) (v7237 : FVec F S64x512 .f32) (v7238 : FVec F S64x128 .bf16) :
    Keeps c A (k0_part90 (F := F) i arg1 harg1 arg2 harg2 arg3 harg3 arg4 harg4 arg5 harg5 arg6 harg6 arg7 harg7 arg8 harg8 arg9 harg9 arg10 harg10 arg11 harg11 arg12 harg12 arg13 harg13 arg14 harg14 k0_t2 v3583 v3610 v3826 v7237 v7238) := by
  rw [k0_part90_eq_skeleton]; unfold k0_part90_skel
  exact keeps_bind (keeps_load h.r12) fun _ =>
    keeps_bind (keeps_store h.w12) fun _ =>
    keeps_bind (keeps_load h.r13) fun _ =>
    keeps_bind (keeps_store h.w13) fun _ =>
    keeps_bind (keeps_load h.r14) fun _ =>
    keeps_bind (keeps_store h.w14) fun _ =>
    keeps_bind (keeps_load h.r12) fun _ =>
    keeps_bind (keeps_store h.w12) fun _ =>
    keeps_bind (keeps_load h.r13) fun _ =>
    keeps_bind (keeps_store h.w13) fun _ =>
    keeps_bind (keeps_load h.r14) fun _ =>
    keeps_bind (keeps_store h.w14) fun _ =>
    keeps_pure _

theorem keeps_k0_part93 {c : Dev nD} {A : sProp 𝕄} (h : Held c A arg1 arg2 arg3 arg4 arg5 arg6 arg7 arg8 arg9 arg10 arg11 arg12 arg13 arg14) (k0_t2 : Fin k0_t2_loop.trips) (v3583 : BitVec 32) (v3610 : BitVec 32) (v3844 : FVec F S64x128 .bf16) (v3847 : FVec F S64x128 .bf16) (v4251 : FVec F S64x1 .f32) (v7340 : FVec F S64x512 .f32) (v7341 : FVec F S64x128 .bf16) (v7358 : FVec F S64x128 .f32) :
    Keeps c A (k0_part93 (F := F) i arg1 harg1 arg2 harg2 arg3 harg3 arg4 harg4 arg5 harg5 arg6 harg6 arg7 harg7 arg8 harg8 arg9 harg9 arg10 harg10 arg11 harg11 arg12 harg12 arg13 harg13 arg14 harg14 k0_t2 v3583 v3610 v3844 v3847 v4251 v7340 v7341 v7358) := by
  rw [k0_part93_eq_skeleton]; unfold k0_part93_skel
  exact keeps_bind (keeps_load h.r12) fun _ =>
    keeps_bind (keeps_store h.w12) fun _ =>
    keeps_bind (keeps_load h.r13) fun _ =>
    keeps_bind (keeps_store h.w13) fun _ =>
    keeps_bind (keeps_load h.r14) fun _ =>
    keeps_bind (keeps_store h.w14) fun _ =>
    keeps_bind (keeps_load h.r3) fun _ =>
    keeps_bind (keeps_load h.r13) fun _ =>
    keeps_bind (keeps_store h.w13) fun _ =>
    keeps_bind (keeps_load h.r14) fun _ =>
    keeps_bind (keeps_store h.w14) fun _ =>
    keeps_pure _

theorem keeps_k0_part162 {c : Dev nD} {A : sProp 𝕄} (h : Held c A arg1 arg2 arg3 arg4 arg5 arg6 arg7 arg8 arg9 arg10 arg11 arg12 arg13 arg14) (v2675 : FVec F S128x128 .f32) (v2679 : FVec F S128x128 .f32) (v2683 : FVec F S128x128 .f32) (v2687 : FVec F S128x128 .f32) (v2691 : FVec F S128x128 .f32) (v2695 : FVec F S128x128 .f32) (v2699 : FVec F S128x128 .f32) :
    Keeps c A (k0_part162 (F := F) i arg1 harg1 arg2 harg2 arg3 harg3 arg4 harg4 arg5 harg5 arg6 harg6 arg7 harg7 arg8 harg8 arg9 harg9 arg10 harg10 arg11 harg11 arg12 harg12 arg13 harg13 arg14 harg14 v2675 v2679 v2683 v2687 v2691 v2695 v2699) := by
  rw [k0_part162_eq_skeleton]; unfold k0_part162_skel
  exact keeps_bind (keeps_load h.r13) fun _ =>
    keeps_bind (keeps_load h.r12) fun _ =>
    keeps_bind (keeps_load h.r12) fun _ =>
    keeps_bind (keeps_load h.r12) fun _ =>
    keeps_bind (keeps_load h.r12) fun _ =>
    keeps_bind (keeps_load h.r12) fun _ =>
    keeps_bind (keeps_load h.r12) fun _ =>
    keeps_pure _

theorem keeps_k0_part165 {c : Dev nD} {A : sProp 𝕄} (h : Held c A arg1 arg2 arg3 arg4 arg5 arg6 arg7 arg8 arg9 arg10 arg11 arg12 arg13 arg14) (v2663 : FVec F S128x128 .f32) (v2665 : FVec F S128x128 .f32) (v2683 : FVec F S128x128 .f32) (v2747 : FVec F S192x128 .f32) (v2751 : FVec F S192x128 .f32) (v2795 : FVec F S1x64x128 .f32) :
    Keeps c A (k0_part165 (F := F) i arg1 harg1 arg2 harg2 arg3 harg3 arg4 harg4 arg5 harg5 arg6 harg6 arg7 harg7 arg8 harg8 arg9 harg9 arg10 harg10 arg11 harg11 arg12 harg12 arg13 harg13 arg14 harg14 v2663 v2665 v2683 v2747 v2751 v2795) := by
  rw [k0_part165_eq_skeleton]; unfold k0_part165_skel
  exact keeps_bind (keeps_store h.w7) fun _ =>
    keeps_bind (keeps_load h.r9) fun _ =>
    keeps_bind (keeps_load h.r11) fun _ =>
    keeps_bind (keeps_store h.w11) fun _ =>
    keeps_bind (keeps_load h.r7) fun _ =>
    keeps_bind (keeps_load h.r7) fun _ =>
    keeps_bind (keeps_store h.w7) fun _ =>
    keeps_bind (keeps_load h.r9) fun _ =>
    keeps_bind (keeps_load h.r11) fun _ =>
    keeps_bind (keeps_store h.w11) fun _ =>
    keeps_pure _

theorem keeps_k0_part168 {c : Dev nD} {A : sProp 𝕄} (h : Held c A arg1 arg2 arg3 arg4 arg5 arg6 arg7 arg8 arg9 arg10 arg11 arg12 arg13 arg14) (v2673 : FVec F S128x128 .f32) (v2675 : FVec F S128x128 .f32) (v2703 : FVec F S128x128 .f32) (v2767 : FVec F S192x128 .f32) (v2771 : FVec F S192x128 .f32) (v2915 : FVec F S1x64x128 .f32) :
    Keeps c A (k0_part168 (F := F) i arg1 harg1 arg2 harg2 arg3 harg3 arg4 harg4 arg5 harg5 arg6 harg6 arg7 harg7 arg8 harg8 arg9 harg9 arg10 harg10 arg11 harg11 arg12 harg12 arg13 harg13 arg14 harg14 v2673 v2675 v2703 v2767 v2771 v2915) := by
  rw [k0_part168_eq_skeleton]; unfold k0_part168_skel
  exact keeps_bind (keeps_store h.w7) fun _ =>
    keeps_bind (keeps_load h.r9) fun _ =>
    keeps_bind (keeps_load h.r11) fun _ =>
    keeps_bind (keeps_store h.w11) fun _ =>
    keeps_bind (keeps_load h.r7) fun _ =>
    keeps_bind (keeps_load h.r7) fun _ =>
    keeps_bind (keeps_store h.w7) fun _ =>
    keeps_bind (keeps_load h.r9) fun _ =>
    keeps_bind (keeps_load h.r11) fun _ =>
    keeps_bind (keeps_store h.w11) fun _ =>
    keeps_pure _

theorem keeps_k0_part171 {c : Dev nD} {A : sProp 𝕄} (h : Held c A arg1 arg2 arg3 arg4 arg5 arg6 arg7 arg8 arg9 arg10 arg11 arg12 arg13 arg14) (v2979 : FVec F S128x128 .f32) (v2983 : FVec F S128x128 .f32) (v2987 : FVec F S128x128 .f32) (v2991 : FVec F S128x128 .f32) (v2995 : FVec F S128x128 .f32) (v2999 : FVec F S128x128 .f32) (v3003 : FVec F S128x128 .f32) (v3007 : FVec F S128x128 .f32) :
    Keeps c A (k0_part171 (F := F) i arg1 harg1 arg2 harg2 arg3 harg3 arg4 harg4 arg5 harg5 arg6 harg6 arg7 harg7 arg8 harg8 arg9 harg9 arg10 harg10 arg11 harg11 arg12 harg12 arg13 harg13 arg14 harg14 v2979 v2983 v2987 v2991 v2995 v2999 v3003 v3007) := by
  rw [k0_part171_eq_skeleton]; unfold k0_part171_skel
  exact keeps_bind (keeps_load h.r13) fun _ =>
    keeps_bind (keeps_load h.r12) fun _ =>
    keeps_bind (keeps_load h.r12) fun _ =>
    keeps_bind (keeps_load h.r12) fun _ =>
    keeps_bind (keeps_load h.r12) fun _ =>
    keeps_bind (keeps_load h.r12) fun _ =>
    keeps_bind (keeps_load h.r12) fun _ =>
    keeps_bind (keeps_load h.r12) fun _ =>
    keeps_pure _

theorem keeps_k0_part174 {c : Dev nD} {A : sProp 𝕄} (h : Held c A arg1 arg2 arg3 arg4 arg5 arg6 arg7 arg8 arg9 arg10 arg11 arg12 arg13 arg14) (v2967 : FVec F S128x128 .f32) (v2969 : FVec F S128x128 .f32) (v2987 : FVec F S128x128 .f32) (v2991 : FVec F S128x128 .f32) (v3051 : FVec F S192x128 .f32) (v3055 : FVec F S192x128 .f32) :
    Keeps c A (k0_part174 (F := F) i arg1 harg1 arg2 harg2 arg3 harg3 arg4 harg4 arg5 harg5 arg6 harg6 arg7 harg7 arg8 harg8 arg9 harg9 arg10 harg10 arg11 harg11 arg12 harg12 arg13 harg13 arg14 harg14 v2967 v2969 v2987 v2991 v3051 v3055) := by
  rw [k0_part174_eq_skeleton]; unfold k0_part174_skel
  exact keeps_bind (keeps_load h.r9) fun _ =>
    keeps_bind (keeps_load h.r11) fun _ =>
    keeps_bind (keeps_store h.w11) fun _ =>
    keeps_bind (keeps_load h.r7) fun _ =>
    keeps_bind (keeps_load h.r7) fun _ =>
    keeps_bind (keeps_store h.w7) fun _ =>
    keeps_bind (keeps_load h.r9) fun _ =>
    keeps_bind (keeps_load h.r11) fun _ =>
    keeps_bind (keeps_store h.w11) fun _ =>
    keeps_bind (keeps_load h.r7) fun _ =>
    keeps_pure _

theorem keeps_k0_part177 {c : Dev nD} {A : sProp 𝕄} (h : Held c A arg1 arg2 arg3 arg4 arg5 arg6 arg7 arg8 arg9 arg10 arg11 arg12 arg13 arg14) (v2977 : FVec F S128x128 .f32) (v2979 : FVec F S128x128 .f32) (v3007 : FVec F S128x128 .f32) (v3011 : FVec F S128x128 .f32) (v3071 : FVec F S192x128 .f32) (v3075 : FVec F S192x128 .f32) :
    Keeps c A (k0_part177 (F := F) i arg1 harg1 arg2 harg2 arg3 harg3 arg4 harg4 arg5 harg5 arg6 harg6 arg7 harg7 arg8 harg8 arg9 harg9 arg10 harg10 arg11 harg11 arg12 harg12 arg13 harg13 arg14 harg14 v2977 v2979 v3007 v3011 v3071 v3075) := by
  rw [k0_part177_eq_skeleton]; unfold k0_part177_skel
  exact keeps_bind (keeps_load h.r9) fun _ =>
    keeps_bind (keeps_load h.r11) fun _ =>
    keeps_bind (keeps_store h.w11) fun _ =>
    keeps_bind (keeps_load h.r7) fun _ =>
    keeps_bind (keeps_load h.r7) fun _ =>
    keeps_bind (keeps_store h.w7) fun _ =>
    keeps_bind (keeps_load h.r9) fun _ =>
    keeps_bind (keeps_load h.r11) fun _ =>
    keeps_bind (keeps_store h.w11) fun _ =>
    keeps_bind (keeps_load h.r7) fun _ =>
    keeps_pure _

theorem keeps_k0_part180 {c : Dev nD} {A : sProp 𝕄} (h : Held c A arg1 arg2 arg3 arg4 arg5 arg6 arg7 arg8 arg9 arg10 arg11 arg12 arg13 arg14) (v3287 : FVec F S128x128 .f32) (v3291 : FVec F S128x128 .f32) (v3295 : FVec F S128x128 .f32) (v3299 : FVec F S128x128 .f32) (v3303 : FVec F S128x128 .f32) (v3307 : FVec F S128x128 .f32) (v3311 : FVec F S128x128 .f32) (v3313 : FVec F S128x128 .bf16) (v3314 : FVec F S128x128 .bf16) (cst_1458 : FVec F S128x128 .f32) :
    Keeps c A (k0_part180 (F := F) i arg1 harg1 arg2 harg2 arg3 harg3 arg4 harg4 arg5 harg5 arg6 harg6 arg7 harg7 arg8 harg8 arg9 harg9 arg10 harg10 arg11 harg11 arg12 harg12 arg13 harg13 arg14 harg14 v3287 v3291 v3295 v3299 v3303 v3307 v3311 v3313 v3314 cst_1458) := by
  rw [k0_part180_eq_skeleton]; unfold k0_part180_skel
  exact keeps_bind (keeps_load h.r12) fun _ =>
    keeps_bind (keeps_load h.r12) fun _ =>
    keeps_bind (keeps_load h.r12) fun _ =>
    keeps_bind (keeps_load h.r12) fun _ =>
    keeps_bind (keeps_load h.r12) fun _ =>
    keeps_bind (keeps_load h.r12) fun _ =>
    keeps_bind (keeps_load h.r12) fun _ =>
    keeps_pure _

theorem keeps_k0_part183 {c : Dev nD} {A : sProp 𝕄} (h : Held c A arg1 arg2 arg3 arg4 arg5 arg6 arg7 arg8 arg9 arg10 arg11 arg12 arg13 arg14) (v3271 : FVec F S128x128 .f32) (v3273 : FVec F S128x128 .f32) (v3291 : FVec F S128x128 .f32) (v3295 : FVec F S128x128 .f32) (v3355 : FVec F S192x128 .f32) (v3359 : FVec F S192x128 .f32) (v3408 : FVec F S1x1 .f32) :
    Keeps c A (k0_part183 (F := F) i arg1 harg1 arg2 harg2 arg3 harg3 arg4 harg4 arg5 harg5 arg6 harg6 arg7 harg7 arg8 harg8 arg9 harg9 arg10 harg10 arg11 harg11 arg12 harg12 arg13 harg13 arg14 harg14 v3271 v3273 v3291 v3295 v3355 v3359 v3408) := by
  rw [k0_part183_eq_skeleton]; unfold k0_part183_skel
  exact keeps_bind (keeps_load h.r11) fun _ =>
    keeps_bind (keeps_store h.w11) fun _ =>
    keeps_bind (keeps_load h.r7) fun _ =>
    keeps_bind (keeps_load h.r7) fun _ =>
    keeps_bind (keeps_store h.w7) fun _ =>
    keeps_bind (keeps_load h.r9) fun _ =>
    keeps_bind (keeps_load h.r11) fun _ =>
    keeps_bind (keeps_store h.w11) fun _ =>
    keeps_bind (keeps_load h.r7) fun _ =>
    keeps_pure _

theorem keeps_k0_part186 {c : Dev nD} {A : sProp 𝕄} (h : Held c A arg1 arg2 arg3 arg4 arg5 arg6 arg7 arg8 arg9 arg10 arg11 arg12 arg13 arg14) (v3281 : FVec F S128x128 .f32) (v3283 : FVec F S128x128 .f32) (v3311 : FVec F S128x128 .f32) (v3315 : FVec F S128x128 .f32) (v3375 : FVec F S192x128 .f32) (v3379 : FVec F S192x128 .f32) (v3528 : FVec F S1x1 .f32) :
    Keeps c A (k0_part186 (F := F) i arg1 harg1 arg2 harg2 arg3 harg3 arg4 harg4 arg5 harg5 arg6 harg6 arg7 harg7 arg8 harg8 arg9 harg9 arg10 harg10 arg11 harg11 arg12 harg12 arg13 harg13 arg14 harg14 v3281 v3283 v3311 v3315 v3375 v3379 v3528) := by
  rw [k0_part186_eq_skeleton]; unfold k0_part186_skel
  exact keeps_bind (keeps_load h.r11) fun _ =>
    keeps_bind (keeps_store h.w11) fun _ =>
    keeps_bind (keeps_load h.r7) fun _ =>
    keeps_bind (keeps_load h.r7) fun _ =>
    keeps_bind (keeps_store h.w7) fun _ =>
    keeps_bind (keeps_load h.r9) fun _ =>
    keeps_bind (keeps_load h.r11) fun _ =>
    keeps_bind (keeps_store h.w11) fun _ =>
    keeps_bind (keeps_load h.r7) fun _ =>
    keeps_pure _

end Cert.Proof.Gdn

end
-- ==== Proof.Gdn.Parts2.lean ====
/- Each straight piece of the gated delta rule's body keeps what holds its operands. -/
module

public import proofs.«01_k».proof.Proof.Gen.KernelIdeal.Skeleton
public import proofs.«01_k».proof.Proof.Gdn.Held

@[expose] public section

noncomputable section

namespace Cert.Proof.Gdn

open Cert.KernelIdeal Cert.KernelIdeal.Gen
open Idealize.ShloMosaic Idealize.ShloMosaic.TcCoe
open Idealize.SL Idealize.SL.RA Idealize.SL.BI Idealize.SL.Sem

variable {F : FTy → Type} [FloatOps F]

local notation "𝕄" => MT nD τ sig Unit (Elt F) ℕ (UR sig nD τ) ℕ

variable {i : grid0.Coords}
  {arg1 : Memref sig .tc .vmem S1x2112x512 .bf16} {harg1 : arg1.IsWhole}
  {arg2 : Memref sig .tc .vmem S1x2112x512 .bf16} {harg2 : arg2.IsWhole}
  {arg3 : Memref sig .tc .vmem S1x2112x512 .bf16} {harg3 : arg3.IsWhole}
  {arg4 : Memref sig .tc .vmem S1x2112x128 .f32} {harg4 : arg4.IsWhole}
  {arg5 : Memref sig .tc .vmem S1x128 .f32} {harg5 : arg5.IsWhole}
  {arg6 : Memref sig .tc .vmem S1x128 .f32} {harg6 : arg6.IsWhole}
  {arg7 : Memref sig .tc .vmem S1x2112x512 .f32} {harg7 : arg7.IsWhole}
  {arg8 : Memref sig .tc .vmem S2112x128 .f32} {harg8 : arg8.IsWhole}
  {arg9 : Memref sig .tc .vmem S2112x128 .f32} {harg9 : arg9.IsWhole}
  {arg10 : Memref sig .tc .vmem S33x4x128 .f32} {harg10 : arg10.IsWhole}
  {arg11 : Memref sig .tc .vmem S8x128x128 .f32} {harg11 : arg11.IsWhole}
  {arg12 : Memref sig .tc .vmem S2x24x64x128 .f32} {harg12 : arg12.IsWhole}
  {arg13 : Memref sig .tc .vmem S2x24x128x128 .bf16} {harg13 : arg13.IsWhole}
  {arg14 : Memref sig .tc .vmem S2x24x192x64 .bf16} {harg14 : arg14.IsWhole}

theorem keeps_k0_part99 {c : Dev nD} {A : sProp 𝕄} (h : Held c A arg1 arg2 arg3 arg4 arg5 arg6 arg7 arg8 arg9 arg10 arg11 arg12 arg13 arg14) (v42 : FVec F S64x128 .bf16) (v44 : BitVec 32) (v45 : BitVec 32) (v73 : FVec F S64x128 .bf16) :
    Keeps c A (k0_part99 (F := F) i arg1 harg1 arg2 harg2 arg3 harg3 arg4 harg4 arg5 harg5 arg6 harg6 arg7 harg7 arg8 harg8 arg9 harg9 arg10 harg10 arg11 harg11 arg12 harg12 arg13 harg13 arg14 harg14 v42 v44 v45 v73) := by
  rw [k0_part99_eq_skeleton]; unfold k0_part99_skel
  exact keeps_bind (keeps_load h.r2) fun _ =>
    keeps_bind (keeps_load h.r1) fun _ =>
    keeps_bind (keeps_load h.r2) fun _ =>
    keeps_bind (keeps_load h.r1) fun _ =>
    keeps_bind (keeps_load h.r2) fun _ =>
    keeps_bind (keeps_load h.r1) fun _ =>
    keeps_bind (keeps_load h.r2) fun _ =>
    keeps_bind (keeps_load h.r1) fun _ =>
    keeps_pure _

theorem keeps_k0_part102 {c : Dev nD} {A : sProp 𝕄} (h : Held c A arg1 arg2 arg3 arg4 arg5 arg6 arg7 arg8 arg9 arg10 arg11 arg12 arg13 arg14) (v42 : FVec F S64x128 .bf16) (v47 : BitVec 32) (v48 : BitVec 32) (v199 : FVec F S64x128 .bf16) :
    Keeps c A (k0_part102 (F := F) i arg1 harg1 arg2 harg2 arg3 harg3 arg4 harg4 arg5 harg5 arg6 harg6 arg7 harg7 arg8 harg8 arg9 harg9 arg10 harg10 arg11 harg11 arg12 harg12 arg13 harg13 arg14 harg14 v42 v47 v48 v199) := by
  rw [k0_part102_eq_skeleton]; unfold k0_part102_skel
  exact keeps_bind (keeps_load h.r2) fun _ =>
    keeps_bind (keeps_load h.r1) fun _ =>
    keeps_bind (keeps_load h.r2) fun _ =>
    keeps_bind (keeps_load h.r1) fun _ =>
    keeps_bind (keeps_load h.r2) fun _ =>
    keeps_bind (keeps_load h.r1) fun _ =>
    keeps_bind (keeps_load h.r2) fun _ =>
    keeps_bind (keeps_load h.r1) fun _ =>
    keeps_pure _

theorem keeps_k0_part105 {c : Dev nD} {A : sProp 𝕄} (h : Held c A arg1 arg2 arg3 arg4 arg5 arg6 arg7 arg8 arg9 arg10 arg11 arg12 arg13 arg14) (v30 : IVec S64x128 1) (v38 : IVec S64x128 1) (v40 : IVec S64x128 1) (v69 : FVec F S64x128 .f32) (v70 : FVec F S64x128 .f32) (v303 : Vec F S64x128 .f32) (v315 : Vec F S64x128 .f32) :
    Keeps c A (k0_part105 (F := F) i arg1 harg1 arg2 harg2 arg3 harg3 arg4 harg4 arg5 harg5 arg6 harg6 arg7 harg7 arg8 harg8 arg9 harg9 arg10 harg10 arg11 harg11 arg12 harg12 arg13 harg13 arg14 harg14 v30 v38 v40 v69 v70 v303 v315) := by
  rw [k0_part105_eq_skeleton]; unfold k0_part105_skel
  exact keeps_bind (keeps_load h.r10) fun _ =>
    keeps_bind (keeps_load h.r10) fun _ =>
    keeps_bind (keeps_load h.r10) fun _ =>
    keeps_bind (keeps_load h.r10) fun _ =>
    keeps_bind (keeps_load h.r10) fun _ =>
    keeps_bind (keeps_load h.r10) fun _ =>
    keeps_pure _

theorem keeps_k0_part108 {c : Dev nD} {A : sProp 𝕄} (h : Held c A arg1 arg2 arg3 arg4 arg5 arg6 arg7 arg8 arg9 arg10 arg11 arg12 arg13 arg14) (v30 : IVec S64x128 1) (v38 : IVec S64x128 1) (v39 : IVec S64x128 1) (v40 : IVec S64x128 1) (v41 : IVec S64x128 1) (v174 : FVec F S64x128 .f32) (v175 : FVec F S64x128 .f32) (v195 : FVec F S64x128 .f32) (v196 : FVec F S64x128 .f32) (v216 : FVec F S64x128 .f32) (v309 : Vec F S64x128 .f32) (v321 : Vec F S64x128 .f32) (v333 : FVec F S4x128 .f32) (v476 : FVec F S64x128 .f32) (v479 : FVec F S64x128 .f32) :
    Keeps c A (k0_part108 (F := F) i arg1 harg1 arg2 harg2 arg3 harg3 arg4 harg4 arg5 harg5 arg6 harg6 arg7 harg7 arg8 harg8 arg9 harg9 arg10 harg10 arg11 harg11 arg12 harg12 arg13 harg13 arg14 harg14 v30 v38 v39 v40 v41 v174 v175 v195 v196 v216 v309 v321 v333 v476 v479) := by
  rw [k0_part108_eq_skeleton]; unfold k0_part108_skel
  exact keeps_pure _

theorem keeps_k0_part111 {c : Dev nD} {A : sProp 𝕄} (h : Held c A arg1 arg2 arg3 arg4 arg5 arg6 arg7 arg8 arg9 arg10 arg11 arg12 arg13 arg14) (v28 : IVec S64x128 32) (v37 : IVec S128x128 1) (v361 : FVec F S64x128 .f32) (v386 : FVec F S64x128 .f32) (v411 : FVec F S64x128 .f32) (v436 : FVec F S64x128 .f32) (v461 : FVec F S64x128 .f32) (v486 : FVec F S64x128 .f32) (v511 : FVec F S64x128 .f32) (v536 : FVec F S64x128 .f32) (v561 : FVec F S64x128 .f32) (v586 : FVec F S64x128 .f32) (v611 : FVec F S64x128 .f32) (v636 : FVec F S64x128 .f32) (v642 : IVec S64x128 32) (v643 : IVec S64x128 32) :
    Keeps c A (k0_part111 (F := F) i arg1 harg1 arg2 harg2 arg3 harg3 arg4 harg4 arg5 harg5 arg6 harg6 arg7 harg7 arg8 harg8 arg9 harg9 arg10 harg10 arg11 harg11 arg12 harg12 arg13 harg13 arg14 harg14 v28 v37 v361 v386 v411 v436 v461 v486 v511 v536 v561 v586 v611 v636 v642 v643) := by
  rw [k0_part111_eq_skeleton]; unfold k0_part111_skel
  exact keeps_pure _

theorem keeps_k0_part114 {c : Dev nD} {A : sProp 𝕄} (h : Held c A arg1 arg2 arg3 arg4 arg5 arg6 arg7 arg8 arg9 arg10 arg11 arg12 arg13 arg14) (v37 : IVec S128x128 1) (v640 : FVec F S64x128 .f32) (v657 : FVec F S64x128 .f32) (v659 : FVec F S64x128 .f32) (v661 : FVec F S64x128 .f32) (v663 : FVec F S64x128 .f32) (v665 : FVec F S64x128 .f32) (v667 : FVec F S64x128 .f32) (v705 : FVec F S64x128 .f32) (v711 : FVec F S64x128 .f32) (v717 : FVec F S64x128 .f32) (v723 : FVec F S64x128 .f32) (v729 : FVec F S64x128 .f32) (v735 : FVec F S64x128 .f32) (v776 : FVec F S128x128 .bf16) (v777 : FVec F S128x128 .f32) (v778 : FVec F S128x128 .f32) :
    Keeps c A (k0_part114 (F := F) i arg1 harg1 arg2 harg2 arg3 harg3 arg4 harg4 arg5 harg5 arg6 harg6 arg7 harg7 arg8 harg8 arg9 harg9 arg10 harg10 arg11 harg11 arg12 harg12 arg13 harg13 arg14 harg14 v37 v640 v657 v659 v661 v663 v665 v667 v705 v711 v717 v723 v729 v735 v776 v777 v778) := by
  rw [k0_part114_eq_skeleton]; unfold k0_part114_skel
  exact keeps_pure _

theorem keeps_k0_part117 {c : Dev nD} {A : sProp 𝕄} (h : Held c A arg1 arg2 arg3 arg4 arg5 arg6 arg7 arg8 arg9 arg10 arg11 arg12 arg13 arg14) (v25 : IVec S64x128 32) (v28 : IVec S64x128 32) (v37 : IVec S128x128 1) (v845 : FVec F S64x128 .f32) (v846 : FVec F S64x128 .f32) (v847 : FVec F S64x128 .f32) (v848 : FVec F S64x128 .f32) (v849 : FVec F S64x128 .f32) (v870 : FVec F S64x128 .f32) (v873 : FVec F S64x128 .f32) (v876 : FVec F S64x128 .f32) (v879 : FVec F S64x128 .f32) (v882 : FVec F S64x128 .f32) (v885 : FVec F S64x128 .f32) (v928 : FVec F S64x128 .bf16) (v929 : FVec F S128x128 .f32) (v930 : FVec F S128x128 .f32) :
    Keeps c A (k0_part117 (F := F) i arg1 harg1 arg2 harg2 arg3 harg3 arg4 harg4 arg5 harg5 arg6 harg6 arg7 harg7 arg8 harg8 arg9 harg9 arg10 harg10 arg11 harg11 arg12 harg12 arg13 harg13 arg14 harg14 v25 v28 v37 v845 v846 v847 v848 v849 v870 v873 v876 v879 v882 v885 v928 v929 v930) := by
  rw [k0_part117_eq_skeleton]; unfold k0_part117_skel
  exact keeps_pure _

theorem keeps_k0_part120 {c : Dev nD} {A : sProp 𝕄} (h : Held c A arg1 arg2 arg3 arg4 arg5 arg6 arg7 arg8 arg9 arg10 arg11 arg12 arg13 arg14) (v37 : IVec S128x128 1) (v636 : FVec F S64x128 .f32) (v892 : FVec F S64x128 .f32) (v899 : FVec F S64x128 .f32) (v906 : FVec F S64x128 .f32) (v913 : FVec F S64x128 .f32) (v920 : FVec F S64x128 .f32) (v969 : FVec F S64x128 .f32) (v980 : IVec S64x128 1) (v988 : FVec F S64x128 .f32) (v996 : FVec F S64x128 .f32) (v1004 : FVec F S64x128 .f32) (v1012 : FVec F S64x128 .f32) (v1020 : FVec F S64x128 .f32) (v1063 : FVec F S64x128 .bf16) (v1064 : FVec F S128x128 .f32) :
    Keeps c A (k0_part120 (F := F) i arg1 harg1 arg2 harg2 arg3 harg3 arg4 harg4 arg5 harg5 arg6 harg6 arg7 harg7 arg8 harg8 arg9 harg9 arg10 harg10 arg11 harg11 arg12 harg12 arg13 harg13 arg14 harg14 v37 v636 v892 v899 v906 v913 v920 v969 v980 v988 v996 v1004 v1012 v1020 v1063 v1064) := by
  rw [k0_part120_eq_skeleton]; unfold k0_part120_skel
  exact keeps_pure _

theorem keeps_k0_part123 {c : Dev nD} {A : sProp 𝕄} (h : Held c A arg1 arg2 arg3 arg4 arg5 arg6 arg7 arg8 arg9 arg10 arg11 arg12 arg13 arg14) (v37 : IVec S128x128 1) (v461 : FVec F S64x128 .f32) (v486 : FVec F S64x128 .f32) (v511 : FVec F S64x128 .f32) (v536 : FVec F S64x128 .f32) (v561 : FVec F S64x128 .f32) (v1111 : FVec F S64x128 .f32) (v1118 : FVec F S64x128 .f32) (v1125 : FVec F S64x128 .f32) (v1132 : FVec F S64x128 .f32) (v1139 : FVec F S64x128 .f32) (v1171 : IVec S64x128 1) (v1198 : FVec F S64x128 .bf16) (v1199 : FVec F S128x128 .f32) (v1200 : FVec F S128x128 .f32) :
    Keeps c A (k0_part123 (F := F) i arg1 harg1 arg2 harg2 arg3 harg3 arg4 harg4 arg5 harg5 arg6 harg6 arg7 harg7 arg8 harg8 arg9 harg9 arg10 harg10 arg11 harg11 arg12 harg12 arg13 harg13 arg14 harg14 v37 v461 v486 v511 v536 v561 v1111 v1118 v1125 v1132 v1139 v1171 v1198 v1199 v1200) := by
  rw [k0_part123_eq_skeleton]; unfold k0_part123_skel
  exact keeps_pure _

theorem keeps_k0_part126 {c : Dev nD} {A : sProp 𝕄} (h : Held c A arg1 arg2 arg3 arg4 arg5 arg6 arg7 arg8 arg9 arg10 arg11 arg12 arg13 arg14) (v25 : IVec S64x128 32) (v28 : IVec S64x128 32) (v37 : IVec S128x128 1) (v361 : FVec F S64x128 .f32) (v386 : FVec F S64x128 .f32) (v411 : FVec F S64x128 .f32) (v1146 : FVec F S64x128 .f32) (v1153 : FVec F S64x128 .f32) (v1160 : FVec F S64x128 .f32) (v1259 : FVec F S64x128 .f32) (v1267 : FVec F S64x128 .f32) (v1274 : FVec F S64x128 .f32) (v1281 : FVec F S64x128 .f32) (v1331 : FVec F S64x128 .bf16) (v1335 : FVec F S128x128 .bf16) (cst_375 : FVec F S64x128 .f32) :
    Keeps c A (k0_part126 (F := F) i arg1 harg1 arg2 harg2 arg3 harg3 arg4 harg4 arg5 harg5 arg6 harg6 arg7 harg7 arg8 harg8 arg9 harg9 arg10 harg10 arg11 harg11 arg12 harg12 arg13 harg13 arg14 harg14 v25 v28 v37 v361 v386 v411 v1146 v1153 v1160 v1259 v1267 v1274 v1281 v1331 v1335 cst_375) := by
  rw [k0_part126_eq_skeleton]; unfold k0_part126_skel
  exact keeps_pure _

theorem keeps_k0_part129 {c : Dev nD} {A : sProp 𝕄} (h : Held c A arg1 arg2 arg3 arg4 arg5 arg6 arg7 arg8 arg9 arg10 arg11 arg12 arg13 arg14) (v37 : IVec S128x128 1) (v1281 : FVec F S64x128 .f32) (v1288 : FVec F S64x128 .f32) (v1295 : FVec F S64x128 .f32) (v1302 : FVec F S64x128 .f32) (v1309 : FVec F S64x128 .f32) (v1316 : FVec F S64x128 .f32) (v1323 : FVec F S64x128 .f32) (v1386 : FVec F S64x128 .f32) (v1394 : FVec F S64x128 .f32) (v1402 : FVec F S64x128 .f32) (v1410 : FVec F S64x128 .f32) (v1418 : FVec F S64x128 .f32) (v1426 : FVec F S64x128 .f32) (v1434 : FVec F S64x128 .f32) (v1466 : FVec F S64x128 .bf16) (v1467 : FVec F S128x128 .f32) (v1468 : FVec F S128x128 .f32) :
    Keeps c A (k0_part129 (F := F) i arg1 harg1 arg2 harg2 arg3 harg3 arg4 harg4 arg5 harg5 arg6 harg6 arg7 harg7 arg8 harg8 arg9 harg9 arg10 harg10 arg11 harg11 arg12 harg12 arg13 harg13 arg14 harg14 v37 v1281 v1288 v1295 v1302 v1309 v1316 v1323 v1386 v1394 v1402 v1410 v1418 v1426 v1434 v1466 v1467 v1468) := by
  rw [k0_part129_eq_skeleton]; unfold k0_part129_skel
  exact keeps_pure _

theorem keeps_k0_part132 {c : Dev nD} {A : sProp 𝕄} (h : Held c A arg1 arg2 arg3 arg4 arg5 arg6 arg7 arg8 arg9 arg10 arg11 arg12 arg13 arg14) (v43 : FVec F S64x256 .f32) (v362 : FVec F S64x128 .f32) (v1465 : FVec F S64x128 .f32) (v1602 : FVec F S64x256 .f32) (v1603 : FVec F S64x512 .f32) :
    Keeps c A (k0_part132 (F := F) i arg1 harg1 arg2 harg2 arg3 harg3 arg4 harg4 arg5 harg5 arg6 harg6 arg7 harg7 arg8 harg8 arg9 harg9 arg10 harg10 arg11 harg11 arg12 harg12 arg13 harg13 arg14 harg14 v43 v362 v1465 v1602 v1603) := by
  rw [k0_part132_eq_skeleton]; unfold k0_part132_skel
  exact keeps_bind (keeps_load h.r12) fun _ =>
    keeps_bind (keeps_store h.w12) fun _ =>
    keeps_bind (keeps_load h.r13) fun _ =>
    keeps_bind (keeps_store h.w13) fun _ =>
    keeps_bind (keeps_load h.r14) fun _ =>
    keeps_bind (keeps_store h.w14) fun _ =>
    keeps_bind (keeps_load h.r12) fun _ =>
    keeps_bind (keeps_store h.w12) fun _ =>
    keeps_bind (keeps_load h.r13) fun _ =>
    keeps_bind (keeps_store h.w13) fun _ =>
    keeps_bind (keeps_load h.r14) fun _ =>
    keeps_pure _

theorem keeps_k0_part135 {c : Dev nD} {A : sProp 𝕄} (h : Held c A arg1 arg2 arg3 arg4 arg5 arg6 arg7 arg8 arg9 arg10 arg11 arg12 arg13 arg14) (v45 : BitVec 32) (v94 : FVec F S64x128 .bf16) (v97 : FVec F S64x128 .bf16) (v388 : FVec F S64x1 .f32) (v1701 : FVec F S64x512 .f32) (v1702 : FVec F S64x128 .bf16) (v1712 : FVec F S64x64 .bf16) (v1713 : Vec F S1x1x64x64 .bf16) :
    Keeps c A (k0_part135 (F := F) i arg1 harg1 arg2 harg2 arg3 harg3 arg4 harg4 arg5 harg5 arg6 harg6 arg7 harg7 arg8 harg8 arg9 harg9 arg10 harg10 arg11 harg11 arg12 harg12 arg13 harg13 arg14 harg14 v45 v94 v97 v388 v1701 v1702 v1712 v1713) := by
  rw [k0_part135_eq_skeleton]; unfold k0_part135_skel
  exact keeps_bind (keeps_store h.w14) fun _ =>
    keeps_bind (keeps_load h.r12) fun _ =>
    keeps_bind (keeps_store h.w12) fun _ =>
    keeps_bind (keeps_load h.r13) fun _ =>
    keeps_bind (keeps_store h.w13) fun _ =>
    keeps_bind (keeps_load h.r14) fun _ =>
    keeps_bind (keeps_store h.w14) fun _ =>
    keeps_bind (keeps_load h.r3) fun _ =>
    keeps_bind (keeps_load h.r13) fun _ =>
    keeps_bind (keeps_store h.w13) fun _ =>
    keeps_pure _

theorem keeps_k0_part138 {c : Dev nD} {A : sProp 𝕄} (h : Held c A arg1 arg2 arg3 arg4 arg5 arg6 arg7 arg8 arg9 arg10 arg11 arg12 arg13 arg14) (v45 : BitVec 32) (v115 : FVec F S64x128 .bf16) (v121 : FVec F S64x128 .bf16) (v124 : FVec F S64x128 .bf16) (v413 : FVec F S64x1 .f32) (v414 : FVec F S64x1 .f32) (v415 : FVec F S64x1 .f32) (v1822 : FVec F S64x128 .f32) :
    Keeps c A (k0_part138 (F := F) i arg1 harg1 arg2 harg2 arg3 harg3 arg4 harg4 arg5 harg5 arg6 harg6 arg7 harg7 arg8 harg8 arg9 harg9 arg10 harg10 arg11 harg11 arg12 harg12 arg13 harg13 arg14 harg14 v45 v115 v121 v124 v413 v414 v415 v1822) := by
  rw [k0_part138_eq_skeleton]; unfold k0_part138_skel
  exact keeps_bind (keeps_load h.r3) fun _ =>
    keeps_bind (keeps_load h.r13) fun _ =>
    keeps_bind (keeps_store h.w13) fun _ =>
    keeps_bind (keeps_load h.r14) fun _ =>
    keeps_bind (keeps_store h.w14) fun _ =>
    keeps_bind (keeps_load h.r3) fun _ =>
    keeps_bind (keeps_load h.r13) fun _ =>
    keeps_pure _

theorem keeps_k0_part141 {c : Dev nD} {A : sProp 𝕄} (h : Held c A arg1 arg2 arg3 arg4 arg5 arg6 arg7 arg8 arg9 arg10 arg11 arg12 arg13 arg14) (v43 : FVec F S64x256 .f32) (v46 : BitVec 32) (v142 : FVec F S64x128 .bf16) (v145 : FVec F S64x128 .bf16) (v439 : FVec F S64x1 .f32) (v440 : FVec F S64x1 .f32) (v441 : FVec F S64x1 .f32) (v462 : FVec F S64x128 .f32) (v1493 : FVec F S64x128 .f32) (v1915 : FVec F S64x128 .f32) (v1919 : FVec F S64x128 .f32) (v1920 : FVec F S64x1 .f32) (v1935 : FVec F S128x64 .bf16) (v1936 : Vec F S1x1x128x64 .bf16) :
    Keeps c A (k0_part141 (F := F) i arg1 harg1 arg2 harg2 arg3 harg3 arg4 harg4 arg5 harg5 arg6 harg6 arg7 harg7 arg8 harg8 arg9 harg9 arg10 harg10 arg11 harg11 arg12 harg12 arg13 harg13 arg14 harg14 v43 v46 v142 v145 v439 v440 v441 v462 v1493 v1915 v1919 v1920 v1935 v1936) := by
  rw [k0_part141_eq_skeleton]; unfold k0_part141_skel
  exact keeps_bind (keeps_store h.w14) fun _ =>
    keeps_bind (keeps_load h.r3) fun _ =>
    keeps_bind (keeps_load h.r13) fun _ =>
    keeps_bind (keeps_store h.w13) fun _ =>
    keeps_bind (keeps_load h.r14) fun _ =>
    keeps_bind (keeps_store h.w14) fun _ =>
    keeps_pure _

theorem keeps_k0_part144 {c : Dev nD} {A : sProp 𝕄} (h : Held c A arg1 arg2 arg3 arg4 arg5 arg6 arg7 arg8 arg9 arg10 arg11 arg12 arg13 arg14) (v43 : FVec F S64x256 .f32) (v466 : FVec F S64x1 .f32) (v487 : FVec F S64x128 .f32) (v1500 : FVec F S64x128 .f32) (v2037 : FVec F S64x256 .f32) (v2038 : FVec F S64x128 .f32) (v2042 : FVec F S64x128 .f32) (v2043 : FVec F S64x1 .f32) (v2053 : FVec F S64x1 .f32) :
    Keeps c A (k0_part144 (F := F) i arg1 harg1 arg2 harg2 arg3 harg3 arg4 harg4 arg5 harg5 arg6 harg6 arg7 harg7 arg8 harg8 arg9 harg9 arg10 harg10 arg11 harg11 arg12 harg12 arg13 harg13 arg14 harg14 v43 v466 v487 v1500 v2037 v2038 v2042 v2043 v2053) := by
  rw [k0_part144_eq_skeleton]; unfold k0_part144_skel
  exact keeps_bind (keeps_load h.r14) fun _ =>
    keeps_bind (keeps_store h.w14) fun _ =>
    keeps_bind (keeps_load h.r12) fun _ =>
    keeps_bind (keeps_store h.w12) fun _ =>
    keeps_bind (keeps_load h.r13) fun _ =>
    keeps_bind (keeps_store h.w13) fun _ =>
    keeps_bind (keeps_load h.r14) fun _ =>
    keeps_bind (keeps_store h.w14) fun _ =>
    keeps_pure _

theorem keeps_k0_part147 {c : Dev nD} {A : sProp 𝕄} (h : Held c A arg1 arg2 arg3 arg4 arg5 arg6 arg7 arg8 arg9 arg10 arg11 arg12 arg13 arg14) (v47 : BitVec 32) (v202 : FVec F S64x128 .bf16) (v513 : FVec F S64x1 .f32) (v2166 : FVec F S64x512 .f32) (v2167 : FVec F S64x128 .bf16) (v2168 : FVec F S64x128 .f32) :
    Keeps c A (k0_part147 (F := F) i arg1 harg1 arg2 harg2 arg3 harg3 arg4 harg4 arg5 harg5 arg6 harg6 arg7 harg7 arg8 harg8 arg9 harg9 arg10 harg10 arg11 harg11 arg12 harg12 arg13 harg13 arg14 harg14 v47 v202 v513 v2166 v2167 v2168) := by
  rw [k0_part147_eq_skeleton]; unfold k0_part147_skel
  exact keeps_bind (keeps_load h.r12) fun _ =>
    keeps_bind (keeps_store h.w12) fun _ =>
    keeps_bind (keeps_load h.r13) fun _ =>
    keeps_bind (keeps_store h.w13) fun _ =>
    keeps_bind (keeps_load h.r14) fun _ =>
    keeps_bind (keeps_store h.w14) fun _ =>
    keeps_bind (keeps_load h.r12) fun _ =>
    keeps_bind (keeps_store h.w12) fun _ =>
    keeps_bind (keeps_load h.r13) fun _ =>
    keeps_bind (keeps_store h.w13) fun _ =>
    keeps_bind (keeps_load h.r14) fun _ =>
    keeps_bind (keeps_store h.w14) fun _ =>
    keeps_bind (keeps_load h.r3) fun _ =>
    keeps_pure _

theorem keeps_k0_part150 {c : Dev nD} {A : sProp 𝕄} (h : Held c A arg1 arg2 arg3 arg4 arg5 arg6 arg7 arg8 arg9 arg10 arg11 arg12 arg13 arg14) (v48 : BitVec 32) (v220 : FVec F S64x128 .bf16) (v223 : FVec F S64x128 .bf16) (v538 : FVec F S64x1 .f32) (v539 : FVec F S64x1 .f32) (v2259 : FVec F S64x512 .f32) (v2260 : FVec F S64x128 .bf16) :
    Keeps c A (k0_part150 (F := F) i arg1 harg1 arg2 harg2 arg3 harg3 arg4 harg4 arg5 harg5 arg6 harg6 arg7 harg7 arg8 harg8 arg9 harg9 arg10 harg10 arg11 harg11 arg12 harg12 arg13 harg13 arg14 harg14 v48 v220 v223 v538 v539 v2259 v2260) := by
  rw [k0_part150_eq_skeleton]; unfold k0_part150_skel
  exact keeps_bind (keeps_load h.r13) fun _ =>
    keeps_bind (keeps_store h.w13) fun _ =>
    keeps_bind (keeps_load h.r14) fun _ =>
    keeps_bind (keeps_store h.w14) fun _ =>
    keeps_bind (keeps_load h.r3) fun _ =>
    keeps_bind (keeps_load h.r13) fun _ =>
    keeps_bind (keeps_store h.w13) fun _ =>
    keeps_bind (keeps_load h.r14) fun _ =>
    keeps_bind (keeps_store h.w14) fun _ =>
    keeps_pure _

theorem keeps_k0_part153 {c : Dev nD} {A : sProp 𝕄} (h : Held c A arg1 arg2 arg3 arg4 arg5 arg6 arg7 arg8 arg9 arg10 arg11 arg12 arg13 arg14) (v48 : BitVec 32) (v247 : FVec F S64x128 .bf16) (v250 : FVec F S64x128 .bf16) (v563 : FVec F S64x1 .f32) (v564 : FVec F S64x1 .f32) (v565 : FVec F S64x1 .f32) (v2380 : FVec F S64x128 .f32) (v2384 : FVec F S64x128 .f32) (v2385 : FVec F S64x1 .f32) (v2386 : FVec F S1x1 .f32) (v2390 : FVec F S64x128 .bf16) :
    Keeps c A (k0_part153 (F := F) i arg1 harg1 arg2 harg2 arg3 harg3 arg4 harg4 arg5 harg5 arg6 harg6 arg7 harg7 arg8 harg8 arg9 harg9 arg10 harg10 arg11 harg11 arg12 harg12 arg13 harg13 arg14 harg14 v48 v247 v250 v563 v564 v565 v2380 v2384 v2385 v2386 v2390) := by
  rw [k0_part153_eq_skeleton]; unfold k0_part153_skel
  exact keeps_bind (keeps_load h.r13) fun _ =>
    keeps_bind (keeps_store h.w13) fun _ =>
    keeps_bind (keeps_load h.r14) fun _ =>
    keeps_bind (keeps_store h.w14) fun _ =>
    keeps_bind (keeps_load h.r3) fun _ =>
    keeps_bind (keeps_load h.r13) fun _ =>
    keeps_bind (keeps_store h.w13) fun _ =>
    keeps_pure _

theorem keeps_k0_part156 {c : Dev nD} {A : sProp 𝕄} (h : Held c A arg1 arg2 arg3 arg4 arg5 arg6 arg7 arg8 arg9 arg10 arg11 arg12 arg13 arg14) (v43 : FVec F S64x256 .f32) (v268 : FVec F S64x128 .bf16) (v590 : FVec F S64x1 .f32) (v591 : FVec F S64x1 .f32) (v612 : FVec F S64x128 .f32) (v1535 : FVec F S64x128 .f32) (v2502 : FVec F S64x256 .f32) (v2503 : FVec F S64x128 .f32) :
    Keeps c A (k0_part156 (F := F) i arg1 harg1 arg2 harg2 arg3 harg3 arg4 harg4 arg5 harg5 arg6 harg6 arg7 harg7 arg8 harg8 arg9 harg9 arg10 harg10 arg11 harg11 arg12 harg12 arg13 harg13 arg14 harg14 v43 v268 v590 v591 v612 v1535 v2502 v2503) := by
  rw [k0_part156_eq_skeleton]; unfold k0_part156_skel
  exact keeps_bind (keeps_load h.r3) fun _ =>
    keeps_bind (keeps_load h.r13) fun _ =>
    keeps_bind (keeps_store h.w13) fun _ =>
    keeps_bind (keeps_load h.r14) fun _ =>
    keeps_bind (keeps_store h.w14) fun _ =>
    keeps_bind (keeps_load h.r12) fun _ =>
    keeps_bind (keeps_store h.w12) fun _ =>
    keeps_pure _

theorem keeps_k0_part159 {c : Dev nD} {A : sProp 𝕄} (h : Held c A arg1 arg2 arg3 arg4 arg5 arg6 arg7 arg8 arg9 arg10 arg11 arg12 arg13 arg14) (v43 : FVec F S64x256 .f32) (v616 : FVec F S64x1 .f32) (v637 : FVec F S64x128 .f32) (v1542 : FVec F S64x128 .f32) (v2595 : FVec F S64x256 .f32) (v2596 : FVec F S64x128 .f32) (v2600 : FVec F S64x128 .f32) (v2601 : FVec F S64x1 .f32) (v2619 : FVec F S1x1x128x64 .bf16) :
    Keeps c A (k0_part159 (F := F) i arg1 harg1 arg2 harg2 arg3 harg3 arg4 harg4 arg5 harg5 arg6 harg6 arg7 harg7 arg8 harg8 arg9 harg9 arg10 harg10 arg11 harg11 arg12 harg12 arg13 harg13 arg14 harg14 v43 v616 v637 v1542 v2595 v2596 v2600 v2601 v2619) := by
  rw [k0_part159_eq_skeleton]; unfold k0_part159_skel
  exact keeps_bind (keeps_store h.w14) fun _ =>
    keeps_bind (keeps_load h.r12) fun _ =>
    keeps_bind (keeps_store h.w12) fun _ =>
    keeps_bind (keeps_load h.r13) fun _ =>
    keeps_bind (keeps_store h.w13) fun _ =>
    keeps_bind (keeps_load h.r14) fun _ =>
    keeps_bind (keeps_store h.w14) fun _ =>
    keeps_bind (keeps_load h.r12) fun _ =>
    keeps_bind (keeps_store h.w12) fun _ =>
    keeps_bind (keeps_load h.r13) fun _ =>
    keeps_pure _

theorem keeps_k0_part4 {c : Dev nD} {A : sProp 𝕄} (h : Held c A arg1 arg2 arg3 arg4 arg5 arg6 arg7 arg8 arg9 arg10 arg11 arg12 arg13 arg14) (v42 : FVec F S64x128 .bf16) (k0_t2 : Fin k0_t2_loop.trips) (v3591 : BitVec 32) (v3634 : FVec F S64x128 .bf16) (v3637 : FVec F S64x128 .bf16) (v3640 : FVec F S64x128 .bf16) (v3643 : FVec F S64x128 .bf16) (v3644 : FVec F S64x256 .bf16) :
    Keeps c A (k0_part4 (F := F) i arg1 harg1 arg2 harg2 arg3 harg3 arg4 harg4 arg5 harg5 arg6 harg6 arg7 harg7 arg8 harg8 arg9 harg9 arg10 harg10 arg11 harg11 arg12 harg12 arg13 harg13 arg14 harg14 v42 k0_t2 v3591 v3634 v3637 v3640 v3643 v3644) := by
  rw [k0_part4_eq_skeleton]; unfold k0_part4_skel
  exact keeps_bind (keeps_load h.r1) fun _ =>
    keeps_bind (keeps_load h.r2) fun _ =>
    keeps_bind (keeps_load h.r1) fun _ =>
    keeps_bind (keeps_load h.r2) fun _ =>
    keeps_bind (keeps_load h.r1) fun _ =>
    keeps_bind (keeps_load h.r2) fun _ =>
    keeps_bind (keeps_load h.r1) fun _ =>
    keeps_bind (keeps_load h.r2) fun _ =>
    keeps_pure _

theorem keeps_k0_part7 {c : Dev nD} {A : sProp 𝕄} (h : Held c A arg1 arg2 arg3 arg4 arg5 arg6 arg7 arg8 arg9 arg10 arg11 arg12 arg13 arg14) (v42 : FVec F S64x128 .bf16) (k0_t2 : Fin k0_t2_loop.trips) (v3605 : BitVec 32) (v3760 : FVec F S64x128 .bf16) (v3763 : FVec F S64x128 .bf16) (v3766 : FVec F S64x128 .bf16) (v3769 : FVec F S64x128 .bf16) (v3770 : FVec F S64x256 .bf16) :
    Keeps c A (k0_part7 (F := F) i arg1 harg1 arg2 harg2 arg3 harg3 arg4 harg4 arg5 harg5 arg6 harg6 arg7 harg7 arg8 harg8 arg9 harg9 arg10 harg10 arg11 harg11 arg12 harg12 arg13 harg13 arg14 harg14 v42 k0_t2 v3605 v3760 v3763 v3766 v3769 v3770) := by
  rw [k0_part7_eq_skeleton]; unfold k0_part7_skel
  exact keeps_bind (keeps_load h.r1) fun _ =>
    keeps_bind (keeps_load h.r2) fun _ =>
    keeps_bind (keeps_load h.r1) fun _ =>
    keeps_bind (keeps_load h.r2) fun _ =>
    keeps_bind (keeps_load h.r1) fun _ =>
    keeps_bind (keeps_load h.r2) fun _ =>
    keeps_bind (keeps_load h.r1) fun _ =>
    keeps_bind (keeps_load h.r2) fun _ =>
    keeps_pure _

theorem keeps_k0_part10 {c : Dev nD} {A : sProp 𝕄} (h : Held c A arg1 arg2 arg3 arg4 arg5 arg6 arg7 arg8 arg9 arg10 arg11 arg12 arg13 arg14) (k0_t2 : Fin k0_t2_loop.trips) (v3581 : BitVec 32) (v3866 : FVec F S128x128 .f32) (v3868 : FVec F S128x128 .f32) (v3870 : FVec F S128x128 .f32) (v3872 : FVec F S128x128 .f32) (v3874 : FVec F S128x128 .f32) (v3876 : FVec F S128x128 .f32) (v3878 : FVec F S128x128 .f32) :
    Keeps c A (k0_part10 (F := F) i arg1 harg1 arg2 harg2 arg3 harg3 arg4 harg4 arg5 harg5 arg6 harg6 arg7 harg7 arg8 harg8 arg9 harg9 arg10 harg10 arg11 harg11 arg12 harg12 arg13 harg13 arg14 harg14 k0_t2 v3581 v3866 v3868 v3870 v3872 v3874 v3876 v3878) := by
  rw [k0_part10_eq_skeleton]; unfold k0_part10_skel
  exact keeps_bind (keeps_load h.r13) fun _ =>
    keeps_bind (keeps_load h.r13) fun _ =>
    keeps_bind (keeps_load h.r13) fun _ =>
    keeps_bind (keeps_load h.r13) fun _ =>
    keeps_bind (keeps_load h.r13) fun _ =>
    keeps_bind (keeps_load h.r13) fun _ =>
    keeps_bind (keeps_load h.r13) fun _ =>
    keeps_pure _

theorem keeps_k0_part13 {c : Dev nD} {A : sProp 𝕄} (h : Held c A arg1 arg2 arg3 arg4 arg5 arg6 arg7 arg8 arg9 arg10 arg11 arg12 arg13 arg14) (v30 : IVec S64x128 1) (v38 : IVec S64x128 1) (v40 : IVec S64x128 1) (v3631 : FVec F S64x128 .f32) (v3651 : FVec F S64x128 .f32) (v3652 : FVec F S64x128 .f32) (v3672 : FVec F S64x128 .f32) (v3673 : FVec F S64x128 .f32) (v3920 : Vec F S64x128 .f32) (v3922 : Vec F S64x128 .f32) (v3932 : Vec F S64x128 .f32) (v3934 : Vec F S64x128 .f32) (v3947 : FVec F S4x128 .f32) (v3952 : FVec F S4x128 .f32) (v3995 : FVec F S64x128 .f32) (v3997 : FVec F S64x128 .f32) :
    Keeps c A (k0_part13 (F := F) i arg1 harg1 arg2 harg2 arg3 harg3 arg4 harg4 arg5 harg5 arg6 harg6 arg7 harg7 arg8 harg8 arg9 harg9 arg10 harg10 arg11 harg11 arg12 harg12 arg13 harg13 arg14 harg14 v30 v38 v40 v3631 v3651 v3652 v3672 v3673 v3920 v3922 v3932 v3934 v3947 v3952 v3995 v3997) := by
  rw [k0_part13_eq_skeleton]; unfold k0_part13_skel
  exact keeps_pure _

theorem keeps_k0_part16 {c : Dev nD} {A : sProp 𝕄} (h : Held c A arg1 arg2 arg3 arg4 arg5 arg6 arg7 arg8 arg9 arg10 arg11 arg12 arg13 arg14) (v30 : IVec S64x128 1) (v39 : IVec S64x128 1) (v41 : IVec S64x128 1) (v3777 : FVec F S64x128 .f32) (v3778 : FVec F S64x128 .f32) (v3798 : FVec F S64x128 .f32) (v3799 : FVec F S64x128 .f32) (v3928 : Vec F S64x128 .f32) (v3940 : Vec F S64x128 .f32) (v3963 : FVec F S4x128 .f32) (v3969 : FVec F S4x128 .f32) (v4159 : FVec F S64x128 .f32) (v4164 : FVec F S64x128 .f32) :
    Keeps c A (k0_part16 (F := F) i arg1 harg1 arg2 harg2 arg3 harg3 arg4 harg4 arg5 harg5 arg6 harg6 arg7 harg7 arg8 harg8 arg9 harg9 arg10 harg10 arg11 harg11 arg12 harg12 arg13 harg13 arg14 harg14 v30 v39 v41 v3777 v3778 v3798 v3799 v3928 v3940 v3963 v3969 v4159 v4164) := by
  rw [k0_part16_eq_skeleton]; unfold k0_part16_skel
  exact keeps_pure _

theorem keeps_k0_part19 {c : Dev nD} {A : sProp 𝕄} (h : Held c A arg1 arg2 arg3 arg4 arg5 arg6 arg7 arg8 arg9 arg10 arg11 arg12 arg13 arg14) (v37 : IVec S128x128 1) (v4289 : FVec F S64x128 .f32) (v4291 : FVec F S64x128 .f32) (v4293 : FVec F S64x128 .f32) (v4295 : FVec F S64x128 .f32) (v4297 : FVec F S64x128 .f32) (v4299 : FVec F S64x128 .f32) (v4301 : FVec F S64x128 .f32) (v4303 : FVec F S64x128 .f32) (v4314 : FVec F S64x128 .bf16) (v4317 : FVec F S128x128 .f32) :
    Keeps c A (k0_part19 (F := F) i arg1 harg1 arg2 harg2 arg3 harg3 arg4 harg4 arg5 harg5 arg6 harg6 arg7 harg7 arg8 harg8 arg9 harg9 arg10 harg10 arg11 harg11 arg12 harg12 arg13 harg13 arg14 harg14 v37 v4289 v4291 v4293 v4295 v4297 v4299 v4301 v4303 v4314 v4317) := by
  rw [k0_part19_eq_skeleton]; unfold k0_part19_skel
  exact keeps_pure _

theorem keeps_k0_part22 {c : Dev nD} {A : sProp 𝕄} (h : Held c A arg1 arg2 arg3 arg4 arg5 arg6 arg7 arg8 arg9 arg10 arg11 arg12 arg13 arg14) (k0_t2 : Fin k0_t2_loop.trips) (arg15 : BitVec 32) (v3581 : BitVec 32) (v3864 : FVec F S128x128 .f32) (v4399 : FVec F S64x128 .f32) (v4404 : FVec F S64x128 .f32) (v4409 : FVec F S64x128 .f32) (v4414 : FVec F S64x128 .f32) (v4419 : FVec F S64x128 .f32) (v4424 : FVec F S192x128 .f32) (v4437 : FVec F S192x64 .bf16) :
    Keeps c A (k0_part22 (F := F) i arg1 harg1 arg2 harg2 arg3 harg3 arg4 harg4 arg5 harg5 arg6 harg6 arg7 harg7 arg8 harg8 arg9 harg9 arg10 harg10 arg11 harg11 arg12 harg12 arg13 harg13 arg14 harg14 k0_t2 arg15 v3581 v3864 v4399 v4404 v4409 v4414 v4419 v4424 v4437) := by
  rw [k0_part22_eq_skeleton]; unfold k0_part22_skel
  exact keeps_bind (keeps_load h.r14) fun _ =>
    keeps_bind (keeps_load h.r14) fun _ =>
    keeps_bind (keeps_load h.r14) fun _ =>
    keeps_bind (keeps_load h.r14) fun _ =>
    keeps_bind (keeps_load h.r9) fun _ =>
    keeps_pure _

theorem keeps_k0_part25 {c : Dev nD} {A : sProp 𝕄} (h : Held c A arg1 arg2 arg3 arg4 arg5 arg6 arg7 arg8 arg9 arg10 arg11 arg12 arg13 arg14) (k0_t2 : Fin k0_t2_loop.trips) (arg15 : BitVec 32) (v3870 : FVec F S128x128 .f32) (v3872 : FVec F S128x128 .f32) (v3898 : FVec F S128x128 .f32) (v4439 : FVec F S192x128 .f32) (v4444 : FVec F S192x128 .f32) (v4548 : BitVec 32) (v4551 : BitVec 32) :
    Keeps c A (k0_part25 (F := F) i arg1 harg1 arg2 harg2 arg3 harg3 arg4 harg4 arg5 harg5 arg6 harg6 arg7 harg7 arg8 harg8 arg9 harg9 arg10 harg10 arg11 harg11 arg12 harg12 arg13 harg13 arg14 harg14 k0_t2 arg15 v3870 v3872 v3898 v4439 v4444 v4548 v4551) := by
  rw [k0_part25_eq_skeleton]; unfold k0_part25_skel
  exact keeps_bind (keeps_load h.r9) fun _ =>
    keeps_bind (keeps_load h.r11) fun _ =>
    keeps_bind (keeps_store h.w11) fun _ =>
    keeps_bind (keeps_load h.r7) fun _ =>
    keeps_bind (keeps_load h.r7) fun _ =>
    keeps_bind (keeps_store h.w7) fun _ =>
    keeps_bind (keeps_load h.r9) fun _ =>
    keeps_bind (keeps_load h.r11) fun _ =>
    keeps_pure _

theorem keeps_k0_part28 {c : Dev nD} {A : sProp 𝕄} (h : Held c A arg1 arg2 arg3 arg4 arg5 arg6 arg7 arg8 arg9 arg10 arg11 arg12 arg13 arg14) (v37 : IVec S128x128 1) (k0_t2 : Fin k0_t2_loop.trips) (v3878 : FVec F S128x128 .f32) (v3918 : FVec F S128x128 .f32) (v4278 : FVec F S64x128 .f32) (v4285 : FVec F S64x128 .f32) (v4287 : FVec F S64x128 .f32) (v4289 : FVec F S64x128 .f32) (v4313 : FVec F S64x128 .f32) (v4319 : FVec F S64x128 .f32) (v4459 : FVec F S192x128 .f32) (v4668 : BitVec 32) (c64_i32_2055 : BitVec 32) :
    Keeps c A (k0_part28 (F := F) i arg1 harg1 arg2 harg2 arg3 harg3 arg4 harg4 arg5 harg5 arg6 harg6 arg7 harg7 arg8 harg8 arg9 harg9 arg10 harg10 arg11 harg11 arg12 harg12 arg13 harg13 arg14 harg14 v37 k0_t2 v3878 v3918 v4278 v4285 v4287 v4289 v4313 v4319 v4459 v4668 c64_i32_2055) := by
  rw [k0_part28_eq_skeleton]; unfold k0_part28_skel
  exact keeps_bind (keeps_load h.r9) fun _ =>
    keeps_bind (keeps_load h.r11) fun _ =>
    keeps_bind (keeps_store h.w11) fun _ =>
    keeps_bind (keeps_load h.r7) fun _ =>
    keeps_bind (keeps_load h.r7) fun _ =>
    keeps_bind (keeps_store h.w7) fun _ =>
    keeps_pure _

theorem keeps_k0_part31 {c : Dev nD} {A : sProp 𝕄} (h : Held c A arg1 arg2 arg3 arg4 arg5 arg6 arg7 arg8 arg9 arg10 arg11 arg12 arg13 arg14) (v4278 : FVec F S64x128 .f32) (v4291 : FVec F S64x128 .f32) (v4293 : FVec F S64x128 .f32) (v4295 : FVec F S64x128 .f32) (v4297 : FVec F S64x128 .f32) (v4299 : FVec F S64x128 .f32) (v4301 : FVec F S64x128 .f32) (v4303 : FVec F S64x128 .f32) (v4305 : FVec F S64x128 .f32) (v4307 : FVec F S64x128 .f32) (v4727 : FVec F S128x128 .f32) (v4735 : FVec F S128x128 .f32) (v4743 : FVec F S128x128 .f32) (v4751 : FVec F S128x128 .f32) (v4759 : FVec F S128x128 .f32) (v4767 : FVec F S128x128 .f32) (v4775 : FVec F S128x128 .f32) (v4783 : FVec F S128x128 .f32) (v4791 : FVec F S128x128 .f32) :
    Keeps c A (k0_part31 (F := F) i arg1 harg1 arg2 harg2 arg3 harg3 arg4 harg4 arg5 harg5 arg6 harg6 arg7 harg7 arg8 harg8 arg9 harg9 arg10 harg10 arg11 harg11 arg12 harg12 arg13 harg13 arg14 harg14 v4278 v4291 v4293 v4295 v4297 v4299 v4301 v4303 v4305 v4307 v4727 v4735 v4743 v4751 v4759 v4767 v4775 v4783 v4791) := by
  rw [k0_part31_eq_skeleton]; unfold k0_part31_skel
  exact keeps_bind (keeps_load h.r11) fun _ =>
    keeps_bind (keeps_load h.r11) fun _ =>
    keeps_bind (keeps_load h.r11) fun _ =>
    keeps_bind (keeps_load h.r11) fun _ =>
    keeps_bind (keeps_load h.r11) fun _ =>
    keeps_bind (keeps_load h.r11) fun _ =>
    keeps_pure _

theorem keeps_k0_part34 {c : Dev nD} {A : sProp 𝕄} (h : Held c A arg1 arg2 arg3 arg4 arg5 arg6 arg7 arg8 arg9 arg10 arg11 arg12 arg13 arg14) (v37 : IVec S128x128 1) (v4797 : FVec F S64x128 .f32) (v4798 : FVec F S64x128 .f32) (v4799 : FVec F S64x128 .f32) (v4800 : FVec F S64x128 .f32) (v4801 : FVec F S64x128 .f32) (v4802 : FVec F S64x128 .f32) (v4803 : FVec F S64x128 .f32) (v4818 : FVec F S64x128 .f32) (v4821 : FVec F S64x128 .f32) (v4824 : FVec F S64x128 .f32) (v4827 : FVec F S64x128 .f32) (v4830 : FVec F S64x128 .f32) (v4833 : FVec F S64x128 .f32) (v4836 : FVec F S64x128 .f32) (v4839 : FVec F S64x128 .f32) (v4924 : FVec F S64x128 .bf16) (v4927 : FVec F S128x128 .f32) :
    Keeps c A (k0_part34 (F := F) i arg1 harg1 arg2 harg2 arg3 harg3 arg4 harg4 arg5 harg5 arg6 harg6 arg7 harg7 arg8 harg8 arg9 harg9 arg10 harg10 arg11 harg11 arg12 harg12 arg13 harg13 arg14 harg14 v37 v4797 v4798 v4799 v4800 v4801 v4802 v4803 v4818 v4821 v4824 v4827 v4830 v4833 v4836 v4839 v4924 v4927) := by
  rw [k0_part34_eq_skeleton]; unfold k0_part34_skel
  exact keeps_pure _

theorem keeps_k0_part37 {c : Dev nD} {A : sProp 𝕄} (h : Held c A arg1 arg2 arg3 arg4 arg5 arg6 arg7 arg8 arg9 arg10 arg11 arg12 arg13 arg14) (k0_t2 : Fin k0_t2_loop.trips) (arg15 : BitVec 32) (v3581 : BitVec 32) (v4841 : FVec F S128x128 .f32) (v4860 : FVec F S128x128 .f32) (v5009 : FVec F S64x128 .f32) (v5014 : FVec F S64x128 .f32) (v5019 : FVec F S64x128 .f32) (v5024 : FVec F S192x128 .f32) :
    Keeps c A (k0_part37 (F := F) i arg1 harg1 arg2 harg2 arg3 harg3 arg4 harg4 arg5 harg5 arg6 harg6 arg7 harg7 arg8 harg8 arg9 harg9 arg10 harg10 arg11 harg11 arg12 harg12 arg13 harg13 arg14 harg14 k0_t2 arg15 v3581 v4841 v4860 v5009 v5014 v5019 v5024) := by
  rw [k0_part37_eq_skeleton]; unfold k0_part37_skel
  exact keeps_bind (keeps_load h.r14) fun _ =>
    keeps_bind (keeps_load h.r14) fun _ =>
    keeps_bind (keeps_load h.r14) fun _ =>
    keeps_bind (keeps_load h.r9) fun _ =>
    keeps_bind (keeps_load h.r11) fun _ =>
    keeps_bind (keeps_store h.w11) fun _ =>
    keeps_bind (keeps_load h.r7) fun _ =>
    keeps_pure _

theorem keeps_k0_part40 {c : Dev nD} {A : sProp 𝕄} (h : Held c A arg1 arg2 arg3 arg4 arg5 arg6 arg7 arg8 arg9 arg10 arg11 arg12 arg13 arg14) (k0_t2 : Fin k0_t2_loop.trips) (arg15 : BitVec 32) (v4849 : FVec F S128x128 .f32) (v4875 : FVec F S128x128 .f32) (v4880 : FVec F S128x128 .f32) (v5039 : FVec F S192x128 .f32) (v5044 : FVec F S192x128 .f32) (v5148 : BitVec 32) :
    Keeps c A (k0_part40 (F := F) i arg1 harg1 arg2 harg2 arg3 harg3 arg4 harg4 arg5 harg5 arg6 harg6 arg7 harg7 arg8 harg8 arg9 harg9 arg10 harg10 arg11 harg11 arg12 harg12 arg13 harg13 arg14 harg14 k0_t2 arg15 v4849 v4875 v4880 v5039 v5044 v5148) := by
  rw [k0_part40_eq_skeleton]; unfold k0_part40_skel
  exact keeps_bind (keeps_load h.r7) fun _ =>
    keeps_bind (keeps_load h.r7) fun _ =>
    keeps_bind (keeps_store h.w7) fun _ =>
    keeps_bind (keeps_load h.r9) fun _ =>
    keeps_bind (keeps_load h.r11) fun _ =>
    keeps_bind (keeps_store h.w11) fun _ =>
    keeps_bind (keeps_load h.r7) fun _ =>
    keeps_pure _

theorem keeps_k0_part43 {c : Dev nD} {A : sProp 𝕄} (h : Held c A arg1 arg2 arg3 arg4 arg5 arg6 arg7 arg8 arg9 arg10 arg11 arg12 arg13 arg14) (v25 : IVec S64x128 32) (v28 : IVec S64x128 32) (v37 : IVec S128x128 1) (k0_t2 : Fin k0_t2_loop.trips) (v3999 : FVec F S64x128 .f32) (v4024 : FVec F S64x128 .f32) (v4895 : FVec F S128x128 .f32) (v4902 : FVec F S64x128 .f32) (v4909 : FVec F S64x128 .f32) (v5059 : FVec F S192x128 .f32) (v5268 : BitVec 32) (v5279 : FVec F S128x128 .f32) :
    Keeps c A (k0_part43 (F := F) i arg1 harg1 arg2 harg2 arg3 harg3 arg4 harg4 arg5 harg5 arg6 harg6 arg7 harg7 arg8 harg8 arg9 harg9 arg10 harg10 arg11 harg11 arg12 harg12 arg13 harg13 arg14 harg14 v25 v28 v37 k0_t2 v3999 v4024 v4895 v4902 v4909 v5059 v5268 v5279) := by
  rw [k0_part43_eq_skeleton]; unfold k0_part43_skel
  exact keeps_bind (keeps_load h.r11) fun _ =>
    keeps_bind (keeps_store h.w11) fun _ =>
    keeps_bind (keeps_load h.r7) fun _ =>
    keeps_bind (keeps_load h.r7) fun _ =>
    keeps_bind (keeps_store h.w7) fun _ =>
    keeps_pure _

theorem keeps_k0_part46 {c : Dev nD} {A : sProp 𝕄} (h : Held c A arg1 arg2 arg3 arg4 arg5 arg6 arg7 arg8 arg9 arg10 arg11 arg12 arg13 arg14) (k0_t2 : Fin k0_t2_loop.trips) (v3581 : BitVec 32) (v5404 : FVec F S128x128 .f32) (v5406 : FVec F S128x128 .f32) :
    Keeps c A (k0_part46 (F := F) i arg1 harg1 arg2 harg2 arg3 harg3 arg4 harg4 arg5 harg5 arg6 harg6 arg7 harg7 arg8 harg8 arg9 harg9 arg10 harg10 arg11 harg11 arg12 harg12 arg13 harg13 arg14 harg14 k0_t2 v3581 v5404 v5406) := by
  rw [k0_part46_eq_skeleton]; unfold k0_part46_skel
  exact keeps_bind (keeps_load h.r11) fun _ =>
    keeps_bind (keeps_load h.r11) fun _ =>
    keeps_bind (keeps_load h.r11) fun _ =>
    keeps_bind (keeps_load h.r11) fun _ =>
    keeps_bind (keeps_load h.r11) fun _ =>
    keeps_bind (keeps_load h.r11) fun _ =>
    keeps_bind (keeps_load h.r13) fun _ =>
    keeps_bind (keeps_load h.r13) fun _ =>
    keeps_bind (keeps_load h.r13) fun _ =>
    keeps_pure _

theorem keeps_k0_part49 {c : Dev nD} {A : sProp 𝕄} (h : Held c A arg1 arg2 arg3 arg4 arg5 arg6 arg7 arg8 arg9 arg10 arg11 arg12 arg13 arg14) (v37 : IVec S128x128 1) (k0_t2 : Fin k0_t2_loop.trips) (v3581 : BitVec 32) (v4958 : FVec F S64x128 .f32) (v4965 : FVec F S64x128 .f32) (v4972 : FVec F S64x128 .f32) (v4979 : FVec F S64x128 .f32) (v5386 : FVec F S64x128 .f32) (v5394 : FVec F S64x128 .f32) (v5402 : FVec F S64x128 .f32) (v5423 : FVec F S128x128 .f32) (v5428 : FVec F S128x128 .f32) (v5433 : FVec F S128x128 .f32) (v5515 : FVec F S64x128 .bf16) (v5519 : FVec F S128x128 .bf16) :
    Keeps c A (k0_part49 (F := F) i arg1 harg1 arg2 harg2 arg3 harg3 arg4 harg4 arg5 harg5 arg6 harg6 arg7 harg7 arg8 harg8 arg9 harg9 arg10 harg10 arg11 harg11 arg12 harg12 arg13 harg13 arg14 harg14 v37 k0_t2 v3581 v4958 v4965 v4972 v4979 v5386 v5394 v5402 v5423 v5428 v5433 v5515 v5519) := by
  rw [k0_part49_eq_skeleton]; unfold k0_part49_skel
  exact keeps_bind (keeps_load h.r12) fun _ =>
    keeps_bind (keeps_load h.r12) fun _ =>
    keeps_bind (keeps_load h.r12) fun _ =>
    keeps_bind (keeps_load h.r12) fun _ =>
    keeps_pure _

theorem keeps_k0_part52 {c : Dev nD} {A : sProp 𝕄} (h : Held c A arg1 arg2 arg3 arg4 arg5 arg6 arg7 arg8 arg9 arg10 arg11 arg12 arg13 arg14) (k0_t2 : Fin k0_t2_loop.trips) (arg15 : BitVec 32) (v5404 : FVec F S128x128 .f32) (v5406 : FVec F S128x128 .f32) (v5423 : FVec F S128x128 .f32) (v5587 : FVec F S192x128 .f32) (v5592 : FVec F S192x128 .f32) (v5624 : BitVec 32) (v5631 : FVec F S1x1 .f32) :
    Keeps c A (k0_part52 (F := F) i arg1 harg1 arg2 harg2 arg3 harg3 arg4 harg4 arg5 harg5 arg6 harg6 arg7 harg7 arg8 harg8 arg9 harg9 arg10 harg10 arg11 harg11 arg12 harg12 arg13 harg13 arg14 harg14 k0_t2 arg15 v5404 v5406 v5423 v5587 v5592 v5624 v5631) := by
  rw [k0_part52_eq_skeleton]; unfold k0_part52_skel
  exact keeps_bind (keeps_load h.r11) fun _ =>
    keeps_bind (keeps_store h.w11) fun _ =>
    keeps_bind (keeps_load h.r7) fun _ =>
    keeps_bind (keeps_load h.r7) fun _ =>
    keeps_bind (keeps_store h.w7) fun _ =>
    keeps_bind (keeps_load h.r9) fun _ =>
    keeps_bind (keeps_load h.r11) fun _ =>
    keeps_bind (keeps_store h.w11) fun _ =>
    keeps_pure _

theorem keeps_k0_part55 {c : Dev nD} {A : sProp 𝕄} (h : Held c A arg1 arg2 arg3 arg4 arg5 arg6 arg7 arg8 arg9 arg10 arg11 arg12 arg13 arg14) (k0_t2 : Fin k0_t2_loop.trips) (arg15 : BitVec 32) (v5414 : FVec F S128x128 .f32) (v5443 : FVec F S128x128 .f32) (v5607 : FVec F S192x128 .f32) (v5612 : FVec F S192x128 .f32) (v5741 : BitVec 32) (v5750 : FVec F S128x128 .f32) :
    Keeps c A (k0_part55 (F := F) i arg1 harg1 arg2 harg2 arg3 harg3 arg4 harg4 arg5 harg5 arg6 harg6 arg7 harg7 arg8 harg8 arg9 harg9 arg10 harg10 arg11 harg11 arg12 harg12 arg13 harg13 arg14 harg14 k0_t2 arg15 v5414 v5443 v5607 v5612 v5741 v5750) := by
  rw [k0_part55_eq_skeleton]; unfold k0_part55_skel
  exact keeps_bind (keeps_load h.r11) fun _ =>
    keeps_bind (keeps_store h.w11) fun _ =>
    keeps_bind (keeps_load h.r7) fun _ =>
    keeps_bind (keeps_load h.r7) fun _ =>
    keeps_bind (keeps_store h.w7) fun _ =>
    keeps_bind (keeps_load h.r9) fun _ =>
    keeps_bind (keeps_load h.r11) fun _ =>
    keeps_bind (keeps_store h.w11) fun _ =>
    keeps_pure _

theorem keeps_k0_part58 {c : Dev nD} {A : sProp 𝕄} (h : Held c A arg1 arg2 arg3 arg4 arg5 arg6 arg7 arg8 arg9 arg10 arg11 arg12 arg13 arg14) (v37 : IVec S128x128 1) (v3999 : FVec F S64x128 .f32) (v4024 : FVec F S64x128 .f32) (v4049 : FVec F S64x128 .f32) (v4074 : FVec F S64x128 .f32) (v4099 : FVec F S64x128 .f32) (v4124 : FVec F S64x128 .f32) (v5465 : FVec F S64x128 .f32) (v5472 : FVec F S64x128 .f32) (v5479 : FVec F S64x128 .f32) (v5486 : FVec F S64x128 .f32) (v5493 : FVec F S64x128 .f32) (v5500 : FVec F S64x128 .f32) (v5863 : IVec S64x128 1) (v5868 : IVec S64x128 1) :
    Keeps c A (k0_part58 (F := F) i arg1 harg1 arg2 harg2 arg3 harg3 arg4 harg4 arg5 harg5 arg6 harg6 arg7 harg7 arg8 harg8 arg9 harg9 arg10 harg10 arg11 harg11 arg12 harg12 arg13 harg13 arg14 harg14 v37 v3999 v4024 v4049 v4074 v4099 v4124 v5465 v5472 v5479 v5486 v5493 v5500 v5863 v5868) := by
  rw [k0_part58_eq_skeleton]; unfold k0_part58_skel
  exact keeps_pure _

theorem keeps_k0_part61 {c : Dev nD} {A : sProp 𝕄} (h : Held c A arg1 arg2 arg3 arg4 arg5 arg6 arg7 arg8 arg9 arg10 arg11 arg12 arg13 arg14) (v37 : IVec S128x128 1) (v5500 : FVec F S64x128 .f32) (v5507 : FVec F S64x128 .f32) (v5514 : FVec F S64x128 .f32) (v5521 : FVec F S64x128 .f32) (v5528 : FVec F S64x128 .f32) (v5535 : FVec F S64x128 .f32) (v5542 : FVec F S64x128 .f32) (v5925 : FVec F S64x128 .f32) (v5933 : FVec F S64x128 .f32) (v5941 : FVec F S64x128 .f32) (v5949 : FVec F S64x128 .f32) (v5957 : FVec F S64x128 .f32) (v5965 : FVec F S64x128 .f32) (v6001 : FVec F S64x128 .bf16) (v6002 : FVec F S128x128 .f32) :
    Keeps c A (k0_part61 (F := F) i arg1 harg1 arg2 harg2 arg3 harg3 arg4 harg4 arg5 harg5 arg6 harg6 arg7 harg7 arg8 harg8 arg9 harg9 arg10 harg10 arg11 harg11 arg12 harg12 arg13 harg13 arg14 harg14 v37 v5500 v5507 v5514 v5521 v5528 v5535 v5542 v5925 v5933 v5941 v5949 v5957 v5965 v6001 v6002) := by
  rw [k0_part61_eq_skeleton]; unfold k0_part61_skel
  exact keeps_pure _

theorem keeps_k0_part64 {c : Dev nD} {A : sProp 𝕄} (h : Held c A arg1 arg2 arg3 arg4 arg5 arg6 arg7 arg8 arg9 arg10 arg11 arg12 arg13 arg14) (v37 : IVec S128x128 1) (v4249 : FVec F S64x128 .f32) (v4274 : FVec F S64x128 .f32) (v5972 : FVec F S64x128 .f32) (v5979 : FVec F S64x128 .f32) (v5986 : FVec F S64x128 .f32) (v5993 : FVec F S64x128 .f32) (v6042 : FVec F S64x128 .f32) (v6049 : FVec F S64x128 .f32) (v6060 : IVec S64x128 1) (v6068 : FVec F S64x128 .f32) (v6076 : FVec F S64x128 .f32) (v6084 : FVec F S64x128 .f32) (v6092 : FVec F S64x128 .f32) (v6135 : FVec F S64x128 .bf16) (v6136 : FVec F S128x128 .f32) :
    Keeps c A (k0_part64 (F := F) i arg1 harg1 arg2 harg2 arg3 harg3 arg4 harg4 arg5 harg5 arg6 harg6 arg7 harg7 arg8 harg8 arg9 harg9 arg10 harg10 arg11 harg11 arg12 harg12 arg13 harg13 arg14 harg14 v37 v4249 v4274 v5972 v5979 v5986 v5993 v6042 v6049 v6060 v6068 v6076 v6084 v6092 v6135 v6136) := by
  rw [k0_part64_eq_skeleton]; unfold k0_part64_skel
  exact keeps_pure _

theorem keeps_k0_part67 {c : Dev nD} {A : sProp 𝕄} (h : Held c A arg1 arg2 arg3 arg4 arg5 arg6 arg7 arg8 arg9 arg10 arg11 arg12 arg13 arg14) (v43 : FVec F S64x256 .f32) (k0_t2 : Fin k0_t2_loop.trips) (v3583 : BitVec 32) (v3587 : BitVec 32) (v3619 : FVec F S64x128 .bf16) (v3978 : FVec F S64x1 .f32) (v3979 : FVec F S64x1 .f32) (v4000 : FVec F S64x128 .f32) (v6163 : FVec F S64x128 .f32) (v6272 : FVec F S64x256 .f32) (v6273 : FVec F S64x128 .f32) :
    Keeps c A (k0_part67 (F := F) i arg1 harg1 arg2 harg2 arg3 harg3 arg4 harg4 arg5 harg5 arg6 harg6 arg7 harg7 arg8 harg8 arg9 harg9 arg10 harg10 arg11 harg11 arg12 harg12 arg13 harg13 arg14 harg14 v43 k0_t2 v3583 v3587 v3619 v3978 v3979 v4000 v6163 v6272 v6273) := by
  rw [k0_part67_eq_skeleton]; unfold k0_part67_skel
  exact keeps_bind (keeps_load h.r3) fun _ =>
    keeps_bind (keeps_load h.r13) fun _ =>
    keeps_bind (keeps_store h.w13) fun _ =>
    keeps_bind (keeps_load h.r14) fun _ =>
    keeps_bind (keeps_store h.w14) fun _ =>
    keeps_bind (keeps_load h.r12) fun _ =>
    keeps_bind (keeps_store h.w12) fun _ =>
    keeps_pure _

theorem keeps_k0_part70 {c : Dev nD} {A : sProp 𝕄} (h : Held c A arg1 arg2 arg3 arg4 arg5 arg6 arg7 arg8 arg9 arg10 arg11 arg12 arg13 arg14) (v43 : FVec F S64x256 .f32) (k0_t2 : Fin k0_t2_loop.trips) (v3583 : BitVec 32) (v4004 : FVec F S64x1 .f32) (v4025 : FVec F S64x128 .f32) (v6170 : FVec F S64x128 .f32) (v6375 : FVec F S64x256 .f32) (v6376 : FVec F S64x128 .f32) (v6380 : FVec F S64x128 .f32) (v6381 : FVec F S64x1 .f32) (v6397 : FVec F S128x64 .bf16) :
    Keeps c A (k0_part70 (F := F) i arg1 harg1 arg2 harg2 arg3 harg3 arg4 harg4 arg5 harg5 arg6 harg6 arg7 harg7 arg8 harg8 arg9 harg9 arg10 harg10 arg11 harg11 arg12 harg12 arg13 harg13 arg14 harg14 v43 k0_t2 v3583 v4004 v4025 v6170 v6375 v6376 v6380 v6381 v6397) := by
  rw [k0_part70_eq_skeleton]; unfold k0_part70_skel
  exact keeps_bind (keeps_store h.w14) fun _ =>
    keeps_bind (keeps_load h.r12) fun _ =>
    keeps_bind (keeps_store h.w12) fun _ =>
    keeps_bind (keeps_load h.r13) fun _ =>
    keeps_bind (keeps_store h.w13) fun _ =>
    keeps_bind (keeps_load h.r14) fun _ =>
    keeps_bind (keeps_store h.w14) fun _ =>
    keeps_bind (keeps_load h.r12) fun _ =>
    keeps_bind (keeps_store h.w12) fun _ =>
    keeps_bind (keeps_load h.r13) fun _ =>
    keeps_pure _

theorem keeps_k0_part73 {c : Dev nD} {A : sProp 𝕄} (h : Held c A arg1 arg2 arg3 arg4 arg5 arg6 arg7 arg8 arg9 arg10 arg11 arg12 arg13 arg14) (k0_t2 : Fin k0_t2_loop.trips) (v3583 : BitVec 32) (v3591 : BitVec 32) (v3676 : FVec F S64x128 .bf16) (v3679 : FVec F S64x128 .bf16) (v4051 : FVec F S64x1 .f32) (v6516 : FVec F S64x512 .f32) (v6517 : FVec F S64x128 .bf16) (v6524 : FVec F S64x128 .bf16) (v6526 : Vec F S1x1x64x128 .bf16) :
    Keeps c A (k0_part73 (F := F) i arg1 harg1 arg2 harg2 arg3 harg3 arg4 harg4 arg5 harg5 arg6 harg6 arg7 harg7 arg8 harg8 arg9 harg9 arg10 harg10 arg11 harg11 arg12 harg12 arg13 harg13 arg14 harg14 k0_t2 v3583 v3591 v3676 v3679 v4051 v6516 v6517 v6524 v6526) := by
  rw [k0_part73_eq_skeleton]; unfold k0_part73_skel
  exact keeps_bind (keeps_store h.w13) fun _ =>
    keeps_bind (keeps_load h.r14) fun _ =>
    keeps_bind (keeps_store h.w14) fun _ =>
    keeps_bind (keeps_load h.r12) fun _ =>
    keeps_bind (keeps_store h.w12) fun _ =>
    keeps_bind (keeps_load h.r13) fun _ =>
    keeps_bind (keeps_store h.w13) fun _ =>
    keeps_bind (keeps_load h.r14) fun _ =>
    keeps_bind (keeps_store h.w14) fun _ =>
    keeps_bind (keeps_load h.r3) fun _ =>
    keeps_bind (keeps_load h.r13) fun _ =>
    keeps_pure _

theorem keeps_k0_part76 {c : Dev nD} {A : sProp 𝕄} (h : Held c A arg1 arg2 arg3 arg4 arg5 arg6 arg7 arg8 arg9 arg10 arg11 arg12 arg13 arg14) (k0_t2 : Fin k0_t2_loop.trips) (v3583 : BitVec 32) (v3595 : BitVec 32) (v3697 : FVec F S64x128 .bf16) (v3700 : FVec F S64x128 .bf16) (v3703 : FVec F S64x128 .bf16) (v3706 : FVec F S64x128 .bf16) (v4076 : FVec F S64x1 .f32) (v4077 : FVec F S64x1 .f32) (v4078 : FVec F S64x1 .f32) (v6648 : FVec F S64x64 .bf16) :
    Keeps c A (k0_part76 (F := F) i arg1 harg1 arg2 harg2 arg3 harg3 arg4 harg4 arg5 harg5 arg6 harg6 arg7 harg7 arg8 harg8 arg9 harg9 arg10 harg10 arg11 harg11 arg12 harg12 arg13 harg13 arg14 harg14 k0_t2 v3583 v3595 v3697 v3700 v3703 v3706 v4076 v4077 v4078 v6648) := by
  rw [k0_part76_eq_skeleton]; unfold k0_part76_skel
  exact keeps_bind (keeps_load h.r14) fun _ =>
    keeps_bind (keeps_store h.w14) fun _ =>
    keeps_bind (keeps_load h.r3) fun _ =>
    keeps_bind (keeps_load h.r13) fun _ =>
    keeps_bind (keeps_store h.w13) fun _ =>
    keeps_bind (keeps_load h.r14) fun _ =>
    keeps_bind (keeps_store h.w14) fun _ =>
    keeps_bind (keeps_load h.r3) fun _ =>
    keeps_pure _

theorem keeps_k0_part79 {c : Dev nD} {A : sProp 𝕄} (h : Held c A arg1 arg2 arg3 arg4 arg5 arg6 arg7 arg8 arg9 arg10 arg11 arg12 arg13 arg14) (k0_t2 : Fin k0_t2_loop.trips) (v3583 : BitVec 32) (v3595 : BitVec 32) (v3724 : FVec F S64x128 .bf16) (v3727 : FVec F S64x128 .bf16) (v4102 : FVec F S64x1 .f32) (v4103 : FVec F S64x1 .f32) (v4104 : FVec F S64x1 .f32) (v6756 : FVec F S64x128 .f32) (v6760 : FVec F S64x128 .f32) (v6761 : FVec F S64x1 .f32) (v6773 : FVec F S64x1 .f32) :
    Keeps c A (k0_part79 (F := F) i arg1 harg1 arg2 harg2 arg3 harg3 arg4 harg4 arg5 harg5 arg6 harg6 arg7 harg7 arg8 harg8 arg9 harg9 arg10 harg10 arg11 harg11 arg12 harg12 arg13 harg13 arg14 harg14 k0_t2 v3583 v3595 v3724 v3727 v4102 v4103 v4104 v6756 v6760 v6761 v6773) := by
  rw [k0_part79_eq_skeleton]; unfold k0_part79_skel
  exact keeps_bind (keeps_load h.r14) fun _ =>
    keeps_bind (keeps_store h.w14) fun _ =>
    keeps_bind (keeps_load h.r3) fun _ =>
    keeps_bind (keeps_load h.r13) fun _ =>
    keeps_bind (keeps_store h.w13) fun _ =>
    keeps_bind (keeps_load h.r14) fun _ =>
    keeps_bind (keeps_store h.w14) fun _ =>
    keeps_pure _

theorem keeps_k0_part82 {c : Dev nD} {A : sProp 𝕄} (h : Held c A arg1 arg2 arg3 arg4 arg5 arg6 arg7 arg8 arg9 arg10 arg11 arg12 arg13 arg14) (v43 : FVec F S64x256 .f32) (k0_t2 : Fin k0_t2_loop.trips) (v3583 : BitVec 32) (v4128 : FVec F S64x1 .f32) (v4129 : FVec F S64x1 .f32) (v4150 : FVec F S64x128 .f32) (v6205 : FVec F S64x128 .f32) (v6890 : FVec F S64x256 .f32) (v6891 : FVec F S64x128 .f32) (v6895 : FVec F S64x128 .f32) (v6896 : FVec F S64x1 .f32) (v6897 : FVec F S1x1 .f32) (v6901 : FVec F S64x128 .bf16) :
    Keeps c A (k0_part82 (F := F) i arg1 harg1 arg2 harg2 arg3 harg3 arg4 harg4 arg5 harg5 arg6 harg6 arg7 harg7 arg8 harg8 arg9 harg9 arg10 harg10 arg11 harg11 arg12 harg12 arg13 harg13 arg14 harg14 v43 k0_t2 v3583 v4128 v4129 v4150 v6205 v6890 v6891 v6895 v6896 v6897 v6901) := by
  rw [k0_part82_eq_skeleton]; unfold k0_part82_skel
  exact keeps_bind (keeps_load h.r13) fun _ =>
    keeps_bind (keeps_store h.w13) fun _ =>
    keeps_bind (keeps_load h.r14) fun _ =>
    keeps_bind (keeps_store h.w14) fun _ =>
    keeps_bind (keeps_load h.r12) fun _ =>
    keeps_bind (keeps_store h.w12) fun _ =>
    keeps_bind (keeps_load h.r13) fun _ =>
    keeps_bind (keeps_store h.w13) fun _ =>
    keeps_pure _

theorem keeps_k0_part85 {c : Dev nD} {A : sProp 𝕄} (h : Held c A arg1 arg2 arg3 arg4 arg5 arg6 arg7 arg8 arg9 arg10 arg11 arg12 arg13 arg14) (k0_t2 : Fin k0_t2_loop.trips) (v3583 : BitVec 32) (v4175 : FVec F S64x128 .f32) (v7028 : FVec F S128x512 .f32) (v7029 : FVec F S64x128 .bf16) :
    Keeps c A (k0_part85 (F := F) i arg1 harg1 arg2 harg2 arg3 harg3 arg4 harg4 arg5 harg5 arg6 harg6 arg7 harg7 arg8 harg8 arg9 harg9 arg10 harg10 arg11 harg11 arg12 harg12 arg13 harg13 arg14 harg14 k0_t2 v3583 v4175 v7028 v7029) := by
  rw [k0_part85_eq_skeleton]; unfold k0_part85_skel
  exact keeps_bind (keeps_load h.r12) fun _ =>
    keeps_bind (keeps_store h.w12) fun _ =>
    keeps_bind (keeps_load h.r13) fun _ =>
    keeps_bind (keeps_store h.w13) fun _ =>
    keeps_bind (keeps_load h.r14) fun _ =>
    keeps_bind (keeps_store h.w14) fun _ =>
    keeps_bind (keeps_load h.r12) fun _ =>
    keeps_bind (keeps_store h.w12) fun _ =>
    keeps_bind (keeps_load h.r13) fun _ =>
    keeps_bind (keeps_store h.w13) fun _ =>
    keeps_bind (keeps_load h.r14) fun _ =>
    keeps_bind (keeps_store h.w14) fun _ =>
    keeps_pure _

theorem keeps_k0_part88 {c : Dev nD} {A : sProp 𝕄} (h : Held c A arg1 arg2 arg3 arg4 arg5 arg6 arg7 arg8 arg9 arg10 arg11 arg12 arg13 arg14) (k0_t2 : Fin k0_t2_loop.trips) (v3583 : BitVec 32) (v3605 : BitVec 32) (v3802 : FVec F S64x128 .bf16) (v3805 : FVec F S64x128 .bf16) (v4201 : FVec F S64x1 .f32) (v7134 : FVec F S64x512 .f32) (v7135 : FVec F S64x128 .bf16) :
    Keeps c A (k0_part88 (F := F) i arg1 harg1 arg2 harg2 arg3 harg3 arg4 harg4 arg5 harg5 arg6 harg6 arg7 harg7 arg8 harg8 arg9 harg9 arg10 harg10 arg11 harg11 arg12 harg12 arg13 harg13 arg14 harg14 k0_t2 v3583 v3605 v3802 v3805 v4201 v7134 v7135) := by
  rw [k0_part88_eq_skeleton]; unfold k0_part88_skel
  exact keeps_bind (keeps_load h.r12) fun _ =>
    keeps_bind (keeps_store h.w12) fun _ =>
    keeps_bind (keeps_load h.r13) fun _ =>
    keeps_bind (keeps_store h.w13) fun _ =>
    keeps_bind (keeps_load h.r14) fun _ =>
    keeps_bind (keeps_store h.w14) fun _ =>
    keeps_bind (keeps_load h.r3) fun _ =>
    keeps_bind (keeps_load h.r13) fun _ =>
    keeps_bind (keeps_store h.w13) fun _ =>
    keeps_pure _

theorem keeps_k0_part91 {c : Dev nD} {A : sProp 𝕄} (h : Held c A arg1 arg2 arg3 arg4 arg5 arg6 arg7 arg8 arg9 arg10 arg11 arg12 arg13 arg14) (k0_t2 : Fin k0_t2_loop.trips) (v3583 : BitVec 32) (v3610 : BitVec 32) (v3823 : FVec F S64x128 .bf16) (v3829 : FVec F S64x128 .bf16) (v3832 : FVec F S64x128 .bf16) (v4226 : FVec F S64x1 .f32) (v4227 : FVec F S64x1 .f32) (v4228 : FVec F S64x1 .f32) (v7271 : FVec F S64x128 .f32) :
    Keeps c A (k0_part91 (F := F) i arg1 harg1 arg2 harg2 arg3 harg3 arg4 harg4 arg5 harg5 arg6 harg6 arg7 harg7 arg8 harg8 arg9 harg9 arg10 harg10 arg11 harg11 arg12 harg12 arg13 harg13 arg14 harg14 k0_t2 v3583 v3610 v3823 v3829 v3832 v4226 v4227 v4228 v7271) := by
  rw [k0_part91_eq_skeleton]; unfold k0_part91_skel
  exact keeps_bind (keeps_load h.r3) fun _ =>
    keeps_bind (keeps_load h.r13) fun _ =>
    keeps_bind (keeps_store h.w13) fun _ =>
    keeps_bind (keeps_load h.r14) fun _ =>
    keeps_bind (keeps_store h.w14) fun _ =>
    keeps_bind (keeps_load h.r3) fun _ =>
    keeps_bind (keeps_load h.r13) fun _ =>
    keeps_bind (keeps_store h.w13) fun _ =>
    keeps_pure _

theorem keeps_k0_part94 {c : Dev nD} {A : sProp 𝕄} (h : Held c A arg1 arg2 arg3 arg4 arg5 arg6 arg7 arg8 arg9 arg10 arg11 arg12 arg13 arg14) (v43 : FVec F S64x256 .f32) (k0_t2 : Fin k0_t2_loop.trips) (v3583 : BitVec 32) (v3610 : BitVec 32) (v3850 : FVec F S64x128 .bf16) (v3853 : FVec F S64x128 .bf16) (v4252 : FVec F S64x1 .f32) (v4253 : FVec F S64x1 .f32) (v4254 : FVec F S64x1 .f32) (v4275 : FVec F S64x128 .f32) (v6240 : FVec F S64x128 .f32) (v7374 : FVec F S64x128 .f32) (v7378 : FVec F S64x128 .f32) (v7379 : FVec F S64x1 .f32) :
    Keeps c A (k0_part94 (F := F) i arg1 harg1 arg2 harg2 arg3 harg3 arg4 harg4 arg5 harg5 arg6 harg6 arg7 harg7 arg8 harg8 arg9 harg9 arg10 harg10 arg11 harg11 arg12 harg12 arg13 harg13 arg14 harg14 v43 k0_t2 v3583 v3610 v3850 v3853 v4252 v4253 v4254 v4275 v6240 v7374 v7378 v7379) := by
  rw [k0_part94_eq_skeleton]; unfold k0_part94_skel
  exact keeps_bind (keeps_load h.r3) fun _ =>
    keeps_bind (keeps_load h.r13) fun _ =>
    keeps_bind (keeps_store h.w13) fun _ =>
    keeps_bind (keeps_load h.r14) fun _ =>
    keeps_bind (keeps_store h.w14) fun _ =>
    keeps_pure _

theorem keeps_k0_part163 {c : Dev nD} {A : sProp 𝕄} (h : Held c A arg1 arg2 arg3 arg4 arg5 arg6 arg7 arg8 arg9 arg10 arg11 arg12 arg13 arg14) (v2703 : FVec F S128x128 .f32) (v2707 : FVec F S128x128 .f32) (v2711 : FVec F S64x128 .f32) (v2715 : FVec F S64x128 .f32) (v2719 : FVec F S64x128 .f32) (v2723 : FVec F S64x128 .f32) (v2727 : FVec F S64x128 .f32) :
    Keeps c A (k0_part163 (F := F) i arg1 harg1 arg2 harg2 arg3 harg3 arg4 harg4 arg5 harg5 arg6 harg6 arg7 harg7 arg8 harg8 arg9 harg9 arg10 harg10 arg11 harg11 arg12 harg12 arg13 harg13 arg14 harg14 v2703 v2707 v2711 v2715 v2719 v2723 v2727) := by
  rw [k0_part163_eq_skeleton]; unfold k0_part163_skel
  exact keeps_bind (keeps_load h.r12) fun _ =>
    keeps_bind (keeps_load h.r12) fun _ =>
    keeps_bind (keeps_load h.r14) fun _ =>
    keeps_bind (keeps_load h.r14) fun _ =>
    keeps_bind (keeps_load h.r14) fun _ =>
    keeps_bind (keeps_load h.r14) fun _ =>
    keeps_bind (keeps_load h.r14) fun _ =>
    keeps_pure _

theorem keeps_k0_part166 {c : Dev nD} {A : sProp 𝕄} (h : Held c A arg1 arg2 arg3 arg4 arg5 arg6 arg7 arg8 arg9 arg10 arg11 arg12 arg13 arg14) (v2667 : FVec F S128x128 .f32) (v2669 : FVec F S128x128 .f32) (v2687 : FVec F S128x128 .f32) (v2691 : FVec F S128x128 .f32) (v2751 : FVec F S192x128 .f32) (v2755 : FVec F S192x128 .f32) (v2759 : FVec F S192x128 .f32) (v2832 : BitVec 32) :
    Keeps c A (k0_part166 (F := F) i arg1 harg1 arg2 harg2 arg3 harg3 arg4 harg4 arg5 harg5 arg6 harg6 arg7 harg7 arg8 harg8 arg9 harg9 arg10 harg10 arg11 harg11 arg12 harg12 arg13 harg13 arg14 harg14 v2667 v2669 v2687 v2691 v2751 v2755 v2759 v2832) := by
  rw [k0_part166_eq_skeleton]; unfold k0_part166_skel
  exact keeps_bind (keeps_load h.r7) fun _ =>
    keeps_bind (keeps_load h.r7) fun _ =>
    keeps_bind (keeps_store h.w7) fun _ =>
    keeps_bind (keeps_load h.r9) fun _ =>
    keeps_bind (keeps_load h.r11) fun _ =>
    keeps_bind (keeps_store h.w11) fun _ =>
    keeps_bind (keeps_load h.r7) fun _ =>
    keeps_bind (keeps_load h.r7) fun _ =>
    keeps_bind (keeps_store h.w7) fun _ =>
    keeps_bind (keeps_load h.r9) fun _ =>
    keeps_pure _

theorem keeps_k0_part169 {c : Dev nD} {A : sProp 𝕄} (h : Held c A arg1 arg2 arg3 arg4 arg5 arg6 arg7 arg8 arg9 arg10 arg11 arg12 arg13 arg14) (v2707 : FVec F S128x128 .f32) (v2771 : FVec F S192x128 .f32) (v2952 : BitVec 32) :
    Keeps c A (k0_part169 (F := F) i arg1 harg1 arg2 harg2 arg3 harg3 arg4 harg4 arg5 harg5 arg6 harg6 arg7 harg7 arg8 harg8 arg9 harg9 arg10 harg10 arg11 harg11 arg12 harg12 arg13 harg13 arg14 harg14 v2707 v2771 v2952) := by
  rw [k0_part169_eq_skeleton]; unfold k0_part169_skel
  exact keeps_bind (keeps_load h.r7) fun _ =>
    keeps_bind (keeps_load h.r7) fun _ =>
    keeps_bind (keeps_store h.w7) fun _ =>
    keeps_bind (keeps_load h.r11) fun _ =>
    keeps_bind (keeps_load h.r11) fun _ =>
    keeps_bind (keeps_load h.r11) fun _ =>
    keeps_bind (keeps_load h.r11) fun _ =>
    keeps_bind (keeps_load h.r11) fun _ =>
    keeps_bind (keeps_load h.r11) fun _ =>
    keeps_bind (keeps_load h.r11) fun _ =>
    keeps_bind (keeps_load h.r11) fun _ =>
    keeps_bind (keeps_load h.r13) fun _ =>
    keeps_pure _

theorem keeps_k0_part172 {c : Dev nD} {A : sProp 𝕄} (h : Held c A arg1 arg2 arg3 arg4 arg5 arg6 arg7 arg8 arg9 arg10 arg11 arg12 arg13 arg14) (v3011 : FVec F S128x128 .f32) (v3015 : FVec F S64x128 .f32) (v3019 : FVec F S64x128 .f32) (v3023 : FVec F S64x128 .f32) (v3027 : FVec F S64x128 .f32) (v3031 : FVec F S64x128 .f32) (v3037 : FVec F S64x128 .f32) (v3038 : FVec F S64x128 .f32) :
    Keeps c A (k0_part172 (F := F) i arg1 harg1 arg2 harg2 arg3 harg3 arg4 harg4 arg5 harg5 arg6 harg6 arg7 harg7 arg8 harg8 arg9 harg9 arg10 harg10 arg11 harg11 arg12 harg12 arg13 harg13 arg14 harg14 v3011 v3015 v3019 v3023 v3027 v3031 v3037 v3038) := by
  rw [k0_part172_eq_skeleton]; unfold k0_part172_skel
  exact keeps_bind (keeps_load h.r12) fun _ =>
    keeps_bind (keeps_load h.r14) fun _ =>
    keeps_bind (keeps_load h.r14) fun _ =>
    keeps_bind (keeps_load h.r14) fun _ =>
    keeps_bind (keeps_load h.r14) fun _ =>
    keeps_bind (keeps_load h.r14) fun _ =>
    keeps_bind (keeps_load h.r14) fun _ =>
    keeps_pure _

theorem keeps_k0_part175 {c : Dev nD} {A : sProp 𝕄} (h : Held c A arg1 arg2 arg3 arg4 arg5 arg6 arg7 arg8 arg9 arg10 arg11 arg12 arg13 arg14) (v2971 : FVec F S128x128 .f32) (v2973 : FVec F S128x128 .f32) (v2995 : FVec F S128x128 .f32) (v3059 : FVec F S192x128 .f32) (v3063 : FVec F S192x128 .f32) (v3136 : BitVec 32) (v3139 : FVec F S64x128 .f32) (v3140 : FVec F S64x128 .f32) (v3141 : FVec F S64x128 .f32) :
    Keeps c A (k0_part175 (F := F) i arg1 harg1 arg2 harg2 arg3 harg3 arg4 harg4 arg5 harg5 arg6 harg6 arg7 harg7 arg8 harg8 arg9 harg9 arg10 harg10 arg11 harg11 arg12 harg12 arg13 harg13 arg14 harg14 v2971 v2973 v2995 v3059 v3063 v3136 v3139 v3140 v3141) := by
  rw [k0_part175_eq_skeleton]; unfold k0_part175_skel
  exact keeps_bind (keeps_load h.r7) fun _ =>
    keeps_bind (keeps_store h.w7) fun _ =>
    keeps_bind (keeps_load h.r9) fun _ =>
    keeps_bind (keeps_load h.r11) fun _ =>
    keeps_bind (keeps_store h.w11) fun _ =>
    keeps_bind (keeps_load h.r7) fun _ =>
    keeps_bind (keeps_load h.r7) fun _ =>
    keeps_bind (keeps_store h.w7) fun _ =>
    keeps_bind (keeps_load h.r9) fun _ =>
    keeps_bind (keeps_load h.r11) fun _ =>
    keeps_pure _

theorem keeps_k0_part178 {c : Dev nD} {A : sProp 𝕄} (h : Held c A arg1 arg2 arg3 arg4 arg5 arg6 arg7 arg8 arg9 arg10 arg11 arg12 arg13 arg14) (v3256 : BitVec 32) (v3259 : FVec F S64x128 .f32) (v3260 : FVec F S64x128 .f32) (v3261 : FVec F S64x128 .f32) :
    Keeps c A (k0_part178 (F := F) i arg1 harg1 arg2 harg2 arg3 harg3 arg4 harg4 arg5 harg5 arg6 harg6 arg7 harg7 arg8 harg8 arg9 harg9 arg10 harg10 arg11 harg11 arg12 harg12 arg13 harg13 arg14 harg14 v3256 v3259 v3260 v3261) := by
  rw [k0_part178_eq_skeleton]; unfold k0_part178_skel
  exact keeps_bind (keeps_load h.r7) fun _ =>
    keeps_bind (keeps_store h.w7) fun _ =>
    keeps_bind (keeps_load h.r11) fun _ =>
    keeps_bind (keeps_load h.r11) fun _ =>
    keeps_bind (keeps_load h.r11) fun _ =>
    keeps_bind (keeps_load h.r11) fun _ =>
    keeps_bind (keeps_load h.r11) fun _ =>
    keeps_bind (keeps_load h.r11) fun _ =>
    keeps_bind (keeps_load h.r11) fun _ =>
    keeps_bind (keeps_load h.r11) fun _ =>
    keeps_bind (keeps_load h.r13) fun _ =>
    keeps_pure _

theorem keeps_k0_part181 {c : Dev nD} {A : sProp 𝕄} (h : Held c A arg1 arg2 arg3 arg4 arg5 arg6 arg7 arg8 arg9 arg10 arg11 arg12 arg13 arg14) (v3315 : FVec F S128x128 .f32) (v3319 : FVec F S64x128 .f32) (v3323 : FVec F S64x128 .f32) (v3327 : FVec F S64x128 .f32) (v3331 : FVec F S64x128 .f32) (v3335 : FVec F S64x128 .f32) (v3339 : FVec F S64x128 .f32) :
    Keeps c A (k0_part181 (F := F) i arg1 harg1 arg2 harg2 arg3 harg3 arg4 harg4 arg5 harg5 arg6 harg6 arg7 harg7 arg8 harg8 arg9 harg9 arg10 harg10 arg11 harg11 arg12 harg12 arg13 harg13 arg14 harg14 v3315 v3319 v3323 v3327 v3331 v3335 v3339) := by
  rw [k0_part181_eq_skeleton]; unfold k0_part181_skel
  exact keeps_bind (keeps_load h.r12) fun _ =>
    keeps_bind (keeps_load h.r14) fun _ =>
    keeps_bind (keeps_load h.r14) fun _ =>
    keeps_bind (keeps_load h.r14) fun _ =>
    keeps_bind (keeps_load h.r14) fun _ =>
    keeps_bind (keeps_load h.r14) fun _ =>
    keeps_bind (keeps_load h.r14) fun _ =>
    keeps_pure _

theorem keeps_k0_part184 {c : Dev nD} {A : sProp 𝕄} (h : Held c A arg1 arg2 arg3 arg4 arg5 arg6 arg7 arg8 arg9 arg10 arg11 arg12 arg13 arg14) (v3275 : FVec F S128x128 .f32) (v3277 : FVec F S128x128 .f32) (v3299 : FVec F S128x128 .f32) (v3363 : FVec F S192x128 .f32) (v3367 : FVec F S192x128 .f32) (v3447 : FVec F S64x128 .f32) :
    Keeps c A (k0_part184 (F := F) i arg1 harg1 arg2 harg2 arg3 harg3 arg4 harg4 arg5 harg5 arg6 harg6 arg7 harg7 arg8 harg8 arg9 harg9 arg10 harg10 arg11 harg11 arg12 harg12 arg13 harg13 arg14 harg14 v3275 v3277 v3299 v3363 v3367 v3447) := by
  rw [k0_part184_eq_skeleton]; unfold k0_part184_skel
  exact keeps_bind (keeps_load h.r7) fun _ =>
    keeps_bind (keeps_store h.w7) fun _ =>
    keeps_bind (keeps_load h.r9) fun _ =>
    keeps_bind (keeps_load h.r11) fun _ =>
    keeps_bind (keeps_store h.w11) fun _ =>
    keeps_bind (keeps_load h.r7) fun _ =>
    keeps_bind (keeps_load h.r7) fun _ =>
    keeps_bind (keeps_store h.w7) fun _ =>
    keeps_bind (keeps_load h.r9) fun _ =>
    keeps_bind (keeps_load h.r11) fun _ =>
    keeps_bind (keeps_store h.w11) fun _ =>
    keeps_pure _

end Cert.Proof.Gdn

end
-- ==== Proof.Gdn.Parts3.lean ====
/- Each straight piece of the gated delta rule's body keeps what holds its operands. -/
module

public import proofs.«01_k».proof.Proof.Gen.KernelIdeal.Skeleton
public import proofs.«01_k».proof.Proof.Gdn.Held

@[expose] public section

noncomputable section

namespace Cert.Proof.Gdn

open Cert.KernelIdeal Cert.KernelIdeal.Gen
open Idealize.ShloMosaic Idealize.ShloMosaic.TcCoe
open Idealize.SL Idealize.SL.RA Idealize.SL.BI Idealize.SL.Sem

variable {F : FTy → Type} [FloatOps F]

local notation "𝕄" => MT nD τ sig Unit (Elt F) ℕ (UR sig nD τ) ℕ

variable {i : grid0.Coords}
  {arg1 : Memref sig .tc .vmem S1x2112x512 .bf16} {harg1 : arg1.IsWhole}
  {arg2 : Memref sig .tc .vmem S1x2112x512 .bf16} {harg2 : arg2.IsWhole}
  {arg3 : Memref sig .tc .vmem S1x2112x512 .bf16} {harg3 : arg3.IsWhole}
  {arg4 : Memref sig .tc .vmem S1x2112x128 .f32} {harg4 : arg4.IsWhole}
  {arg5 : Memref sig .tc .vmem S1x128 .f32} {harg5 : arg5.IsWhole}
  {arg6 : Memref sig .tc .vmem S1x128 .f32} {harg6 : arg6.IsWhole}
  {arg7 : Memref sig .tc .vmem S1x2112x512 .f32} {harg7 : arg7.IsWhole}
  {arg8 : Memref sig .tc .vmem S2112x128 .f32} {harg8 : arg8.IsWhole}
  {arg9 : Memref sig .tc .vmem S2112x128 .f32} {harg9 : arg9.IsWhole}
  {arg10 : Memref sig .tc .vmem S33x4x128 .f32} {harg10 : arg10.IsWhole}
  {arg11 : Memref sig .tc .vmem S8x128x128 .f32} {harg11 : arg11.IsWhole}
  {arg12 : Memref sig .tc .vmem S2x24x64x128 .f32} {harg12 : arg12.IsWhole}
  {arg13 : Memref sig .tc .vmem S2x24x128x128 .bf16} {harg13 : arg13.IsWhole}
  {arg14 : Memref sig .tc .vmem S2x24x192x64 .bf16} {harg14 : arg14.IsWhole}

theorem keeps_k0_part100 {c : Dev nD} {A : sProp 𝕄} (h : Held c A arg1 arg2 arg3 arg4 arg5 arg6 arg7 arg8 arg9 arg10 arg11 arg12 arg13 arg14) (v42 : FVec F S64x128 .bf16) (v45 : BitVec 32) (v46 : BitVec 32) (v115 : FVec F S64x128 .bf16) :
    Keeps c A (k0_part100 (F := F) i arg1 harg1 arg2 harg2 arg3 harg3 arg4 harg4 arg5 harg5 arg6 harg6 arg7 harg7 arg8 harg8 arg9 harg9 arg10 harg10 arg11 harg11 arg12 harg12 arg13 harg13 arg14 harg14 v42 v45 v46 v115) := by
  rw [k0_part100_eq_skeleton]; unfold k0_part100_skel
  exact keeps_bind (keeps_load h.r2) fun _ =>
    keeps_bind (keeps_load h.r1) fun _ =>
    keeps_bind (keeps_load h.r2) fun _ =>
    keeps_bind (keeps_load h.r1) fun _ =>
    keeps_bind (keeps_load h.r2) fun _ =>
    keeps_bind (keeps_load h.r1) fun _ =>
    keeps_bind (keeps_load h.r2) fun _ =>
    keeps_bind (keeps_load h.r1) fun _ =>
    keeps_pure _

theorem keeps_k0_part103 {c : Dev nD} {A : sProp 𝕄} (h : Held c A arg1 arg2 arg3 arg4 arg5 arg6 arg7 arg8 arg9 arg10 arg11 arg12 arg13 arg14) (v42 : FVec F S64x128 .bf16) (v48 : BitVec 32) (v49 : BitVec 32) (v241 : FVec F S64x128 .bf16) :
    Keeps c A (k0_part103 (F := F) i arg1 harg1 arg2 harg2 arg3 harg3 arg4 harg4 arg5 harg5 arg6 harg6 arg7 harg7 arg8 harg8 arg9 harg9 arg10 harg10 arg11 harg11 arg12 harg12 arg13 harg13 arg14 harg14 v42 v48 v49 v241) := by
  rw [k0_part103_eq_skeleton]; unfold k0_part103_skel
  exact keeps_bind (keeps_load h.r2) fun _ =>
    keeps_bind (keeps_load h.r1) fun _ =>
    keeps_bind (keeps_load h.r2) fun _ =>
    keeps_bind (keeps_load h.r1) fun _ =>
    keeps_bind (keeps_load h.r2) fun _ =>
    keeps_bind (keeps_load h.r1) fun _ =>
    keeps_bind (keeps_load h.r2) fun _ =>
    keeps_bind (keeps_load h.r1) fun _ =>
    keeps_pure _

theorem keeps_k0_part106 {c : Dev nD} {A : sProp 𝕄} (h : Held c A arg1 arg2 arg3 arg4 arg5 arg6 arg7 arg8 arg9 arg10 arg11 arg12 arg13 arg14) (v30 : IVec S64x128 1) (v38 : IVec S64x128 1) (v40 : IVec S64x128 1) (v90 : FVec F S64x128 .f32) (v91 : FVec F S64x128 .f32) (v111 : FVec F S64x128 .f32) (v112 : FVec F S64x128 .f32) (v305 : Vec F S64x128 .f32) (v317 : Vec F S64x128 .f32) (v327 : FVec F S4x128 .f32) (v329 : FVec F S4x128 .f32) (v364 : FVec F S64x1 .f32) (v365 : FVec F S64x1 .f32) (v366 : FVec F S64x1 .f32) (v367 : FVec F S64x1 .f32) :
    Keeps c A (k0_part106 (F := F) i arg1 harg1 arg2 harg2 arg3 harg3 arg4 harg4 arg5 harg5 arg6 harg6 arg7 harg7 arg8 harg8 arg9 harg9 arg10 harg10 arg11 harg11 arg12 harg12 arg13 harg13 arg14 harg14 v30 v38 v40 v90 v91 v111 v112 v305 v317 v327 v329 v364 v365 v366 v367) := by
  rw [k0_part106_eq_skeleton]; unfold k0_part106_skel
  exact keeps_pure _

theorem keeps_k0_part109 {c : Dev nD} {A : sProp 𝕄} (h : Held c A arg1 arg2 arg3 arg4 arg5 arg6 arg7 arg8 arg9 arg10 arg11 arg12 arg13 arg14) (v30 : IVec S64x128 1) (v39 : IVec S64x128 1) (v41 : IVec S64x128 1) (v217 : FVec F S64x128 .f32) (v237 : FVec F S64x128 .f32) (v238 : FVec F S64x128 .f32) (v258 : FVec F S64x128 .f32) (v259 : FVec F S64x128 .f32) (v311 : Vec F S64x128 .f32) (v313 : Vec F S64x128 .f32) (v323 : Vec F S64x128 .f32) (v325 : Vec F S64x128 .f32) (v335 : FVec F S4x128 .f32) (v532 : FVec F S64x128 .f32) (v534 : FVec F S64x128 .f32) :
    Keeps c A (k0_part109 (F := F) i arg1 harg1 arg2 harg2 arg3 harg3 arg4 harg4 arg5 harg5 arg6 harg6 arg7 harg7 arg8 harg8 arg9 harg9 arg10 harg10 arg11 harg11 arg12 harg12 arg13 harg13 arg14 harg14 v30 v39 v41 v217 v237 v238 v258 v259 v311 v313 v323 v325 v335 v532 v534) := by
  rw [k0_part109_eq_skeleton]; unfold k0_part109_skel
  exact keeps_pure _

theorem keeps_k0_part112 {c : Dev nD} {A : sProp 𝕄} (h : Held c A arg1 arg2 arg3 arg4 arg5 arg6 arg7 arg8 arg9 arg10 arg11 arg12 arg13 arg14) (v37 : IVec S128x128 1) (v653 : FVec F S64x128 .f32) (v655 : FVec F S64x128 .f32) (v657 : FVec F S64x128 .f32) (v659 : FVec F S64x128 .f32) (v661 : FVec F S64x128 .f32) (v663 : FVec F S64x128 .f32) (v665 : FVec F S64x128 .f32) (v667 : FVec F S64x128 .f32) (v682 : FVec F S64x128 .bf16) (v686 : FVec F S128x128 .bf16) :
    Keeps c A (k0_part112 (F := F) i arg1 harg1 arg2 harg2 arg3 harg3 arg4 harg4 arg5 harg5 arg6 harg6 arg7 harg7 arg8 harg8 arg9 harg9 arg10 harg10 arg11 harg11 arg12 harg12 arg13 harg13 arg14 harg14 v37 v653 v655 v657 v659 v661 v663 v665 v667 v682 v686) := by
  rw [k0_part112_eq_skeleton]; unfold k0_part112_skel
  exact keeps_pure _

theorem keeps_k0_part115 {c : Dev nD} {A : sProp 𝕄} (h : Held c A arg1 arg2 arg3 arg4 arg5 arg6 arg7 arg8 arg9 arg10 arg11 arg12 arg13 arg14) (v37 : IVec S128x128 1) (v640 : FVec F S64x128 .f32) (v647 : FVec F S64x128 .f32) (v649 : FVec F S64x128 .f32) (v651 : FVec F S64x128 .f32) (v653 : FVec F S64x128 .f32) (v655 : FVec F S64x128 .f32) (v657 : FVec F S64x128 .f32) (v659 : FVec F S64x128 .f32) (v661 : FVec F S64x128 .f32) (v663 : FVec F S64x128 .f32) (v665 : FVec F S64x128 .f32) (v667 : FVec F S64x128 .f32) (v669 : FVec F S64x128 .f32) (v741 : FVec F S64x128 .f32) (v749 : FVec F S128x128 .f32) (v757 : FVec F S128x128 .f32) (v765 : FVec F S128x128 .f32) (v773 : FVec F S128x128 .f32) (v781 : FVec F S128x128 .f32) (v789 : FVec F S128x128 .f32) (v797 : FVec F S128x128 .f32) (v805 : FVec F S128x128 .f32) (v813 : FVec F S128x128 .f32) (v821 : FVec F S128x128 .f32) (v824 : FVec F S128x128 .bf16) (v825 : FVec F S128x128 .f32) (v826 : FVec F S128x128 .f32) :
    Keeps c A (k0_part115 (F := F) i arg1 harg1 arg2 harg2 arg3 harg3 arg4 harg4 arg5 harg5 arg6 harg6 arg7 harg7 arg8 harg8 arg9 harg9 arg10 harg10 arg11 harg11 arg12 harg12 arg13 harg13 arg14 harg14 v37 v640 v647 v649 v651 v653 v655 v657 v659 v661 v663 v665 v667 v669 v741 v749 v757 v765 v773 v781 v789 v797 v805 v813 v821 v824 v825 v826) := by
  rw [k0_part115_eq_skeleton]; unfold k0_part115_skel
  exact keeps_pure _

theorem keeps_k0_part118 {c : Dev nD} {A : sProp 𝕄} (h : Held c A arg1 arg2 arg3 arg4 arg5 arg6 arg7 arg8 arg9 arg10 arg11 arg12 arg13 arg14) (v28 : IVec S64x128 32) (v37 : IVec S128x128 1) (v361 : FVec F S64x128 .f32) (v386 : FVec F S64x128 .f32) (v411 : FVec F S64x128 .f32) (v436 : FVec F S64x128 .f32) (v461 : FVec F S64x128 .f32) (v892 : FVec F S64x128 .f32) (v899 : FVec F S64x128 .f32) (v906 : FVec F S64x128 .f32) (v913 : FVec F S64x128 .f32) (v920 : FVec F S64x128 .f32) (v974 : IVec S64x128 1) (v976 : IVec S64x128 32) :
    Keeps c A (k0_part118 (F := F) i arg1 harg1 arg2 harg2 arg3 harg3 arg4 harg4 arg5 harg5 arg6 harg6 arg7 harg7 arg8 harg8 arg9 harg9 arg10 harg10 arg11 harg11 arg12 harg12 arg13 harg13 arg14 harg14 v28 v37 v361 v386 v411 v436 v461 v892 v899 v906 v913 v920 v974 v976) := by
  rw [k0_part118_eq_skeleton]; unfold k0_part118_skel
  exact keeps_pure _

theorem keeps_k0_part121 {c : Dev nD} {A : sProp 𝕄} (h : Held c A arg1 arg2 arg3 arg4 arg5 arg6 arg7 arg8 arg9 arg10 arg11 arg12 arg13 arg14) (v37 : IVec S128x128 1) (v920 : FVec F S64x128 .f32) (v927 : FVec F S64x128 .f32) (v934 : FVec F S64x128 .f32) (v941 : FVec F S64x128 .f32) (v948 : FVec F S64x128 .f32) (v955 : FVec F S64x128 .f32) (v962 : FVec F S64x128 .f32) (v969 : FVec F S64x128 .f32) (v1028 : FVec F S64x128 .f32) (v1036 : FVec F S64x128 .f32) (v1044 : FVec F S64x128 .f32) (v1052 : FVec F S64x128 .f32) (v1060 : FVec F S64x128 .f32) (v1068 : FVec F S64x128 .f32) (v1076 : FVec F S64x128 .f32) (v1105 : FVec F S64x128 .bf16) (v1109 : FVec F S128x128 .bf16) (cst_302 : FVec F S64x128 .f32) :
    Keeps c A (k0_part121 (F := F) i arg1 harg1 arg2 harg2 arg3 harg3 arg4 harg4 arg5 harg5 arg6 harg6 arg7 harg7 arg8 harg8 arg9 harg9 arg10 harg10 arg11 harg11 arg12 harg12 arg13 harg13 arg14 harg14 v37 v920 v927 v934 v941 v948 v955 v962 v969 v1028 v1036 v1044 v1052 v1060 v1068 v1076 v1105 v1109 cst_302) := by
  rw [k0_part121_eq_skeleton]; unfold k0_part121_skel
  exact keeps_pure _

theorem keeps_k0_part124 {c : Dev nD} {A : sProp 𝕄} (h : Held c A arg1 arg2 arg3 arg4 arg5 arg6 arg7 arg8 arg9 arg10 arg11 arg12 arg13 arg14) (v37 : IVec S128x128 1) (v586 : FVec F S64x128 .f32) (v611 : FVec F S64x128 .f32) (v636 : FVec F S64x128 .f32) (v1083 : FVec F S64x128 .f32) (v1090 : FVec F S64x128 .f32) (v1097 : FVec F S64x128 .f32) (v1146 : FVec F S64x128 .f32) (v1153 : FVec F S64x128 .f32) (v1160 : FVec F S64x128 .f32) (v1171 : IVec S64x128 1) (v1179 : FVec F S64x128 .f32) (v1187 : FVec F S64x128 .f32) (v1195 : FVec F S64x128 .f32) (v1203 : FVec F S64x128 .f32) (cst_347 : F .f32) :
    Keeps c A (k0_part124 (F := F) i arg1 harg1 arg2 harg2 arg3 harg3 arg4 harg4 arg5 harg5 arg6 harg6 arg7 harg7 arg8 harg8 arg9 harg9 arg10 harg10 arg11 harg11 arg12 harg12 arg13 harg13 arg14 harg14 v37 v586 v611 v636 v1083 v1090 v1097 v1146 v1153 v1160 v1171 v1179 v1187 v1195 v1203 cst_347) := by
  rw [k0_part124_eq_skeleton]; unfold k0_part124_skel
  exact keeps_pure _

theorem keeps_k0_part127 {c : Dev nD} {A : sProp 𝕄} (h : Held c A arg1 arg2 arg3 arg4 arg5 arg6 arg7 arg8 arg9 arg10 arg11 arg12 arg13 arg14) (v37 : IVec S128x128 1) (v436 : FVec F S64x128 .f32) (v461 : FVec F S64x128 .f32) (v486 : FVec F S64x128 .f32) (v511 : FVec F S64x128 .f32) (v536 : FVec F S64x128 .f32) (v1288 : FVec F S64x128 .f32) (v1295 : FVec F S64x128 .f32) (v1302 : FVec F S64x128 .f32) (v1309 : FVec F S64x128 .f32) (v1316 : FVec F S64x128 .f32) (v1323 : FVec F S64x128 .f32) (v1362 : IVec S64x128 1) (v1380 : FVec F S64x128 .f32) :
    Keeps c A (k0_part127 (F := F) i arg1 harg1 arg2 harg2 arg3 harg3 arg4 harg4 arg5 harg5 arg6 harg6 arg7 harg7 arg8 harg8 arg9 harg9 arg10 harg10 arg11 harg11 arg12 harg12 arg13 harg13 arg14 harg14 v37 v436 v461 v486 v511 v536 v1288 v1295 v1302 v1309 v1316 v1323 v1362 v1380) := by
  rw [k0_part127_eq_skeleton]; unfold k0_part127_skel
  exact keeps_pure _

theorem keeps_k0_part130 {c : Dev nD} {A : sProp 𝕄} (h : Held c A arg1 arg2 arg3 arg4 arg5 arg6 arg7 arg8 arg9 arg10 arg11 arg12 arg13 arg14) (v37 : IVec S128x128 1) (v44 : BitVec 32) (v52 : FVec F S64x128 .bf16) (v55 : FVec F S64x128 .bf16) (v338 : FVec F S64x1 .f32) (v1330 : FVec F S64x128 .f32) (v1337 : FVec F S64x128 .f32) (v1344 : FVec F S64x128 .f32) (v1351 : FVec F S64x128 .f32) (v1442 : FVec F S64x128 .f32) (v1450 : FVec F S64x128 .f32) (v1458 : FVec F S64x128 .f32) (v1515 : FVec F S64x128 .bf16) :
    Keeps c A (k0_part130 (F := F) i arg1 harg1 arg2 harg2 arg3 harg3 arg4 harg4 arg5 harg5 arg6 harg6 arg7 harg7 arg8 harg8 arg9 harg9 arg10 harg10 arg11 harg11 arg12 harg12 arg13 harg13 arg14 harg14 v37 v44 v52 v55 v338 v1330 v1337 v1344 v1351 v1442 v1450 v1458 v1515) := by
  rw [k0_part130_eq_skeleton]; unfold k0_part130_skel
  exact keeps_bind (keeps_load h.r3) fun _ =>
    keeps_bind (keeps_load h.r13) fun _ =>
    keeps_bind (keeps_store h.w13) fun _ =>
    keeps_pure _

theorem keeps_k0_part133 {c : Dev nD} {A : sProp 𝕄} (h : Held c A arg1 arg2 arg3 arg4 arg5 arg6 arg7 arg8 arg9 arg10 arg11 arg12 arg13 arg14) (v44 : BitVec 32) (v73 : FVec F S64x128 .bf16) (v76 : FVec F S64x128 .bf16) (v79 : FVec F S64x128 .bf16) (v82 : FVec F S64x128 .bf16) (v363 : FVec F S64x1 .f32) (v364 : FVec F S64x1 .f32) (v365 : FVec F S64x1 .f32) (v1632 : FVec F S64x64 .bf16) (v1633 : Vec F S1x1x64x64 .bf16) :
    Keeps c A (k0_part133 (F := F) i arg1 harg1 arg2 harg2 arg3 harg3 arg4 harg4 arg5 harg5 arg6 harg6 arg7 harg7 arg8 harg8 arg9 harg9 arg10 harg10 arg11 harg11 arg12 harg12 arg13 harg13 arg14 harg14 v44 v73 v76 v79 v82 v363 v364 v365 v1632 v1633) := by
  rw [k0_part133_eq_skeleton]; unfold k0_part133_skel
  exact keeps_bind (keeps_store h.w14) fun _ =>
    keeps_bind (keeps_load h.r3) fun _ =>
    keeps_bind (keeps_load h.r13) fun _ =>
    keeps_bind (keeps_store h.w13) fun _ =>
    keeps_bind (keeps_load h.r14) fun _ =>
    keeps_bind (keeps_store h.w14) fun _ =>
    keeps_bind (keeps_load h.r3) fun _ =>
    keeps_pure _

theorem keeps_k0_part136 {c : Dev nD} {A : sProp 𝕄} (h : Held c A arg1 arg2 arg3 arg4 arg5 arg6 arg7 arg8 arg9 arg10 arg11 arg12 arg13 arg14) (v43 : FVec F S64x256 .f32) (v45 : BitVec 32) (v100 : FVec F S64x128 .bf16) (v103 : FVec F S64x128 .bf16) (v389 : FVec F S64x1 .f32) (v390 : FVec F S64x1 .f32) (v391 : FVec F S64x1 .f32) (v1479 : FVec F S64x128 .f32) (v1729 : FVec F S64x128 .f32) (v1733 : FVec F S64x128 .f32) (v1734 : FVec F S64x1 .f32) (v1749 : FVec F S128x64 .bf16) :
    Keeps c A (k0_part136 (F := F) i arg1 harg1 arg2 harg2 arg3 harg3 arg4 harg4 arg5 harg5 arg6 harg6 arg7 harg7 arg8 harg8 arg9 harg9 arg10 harg10 arg11 harg11 arg12 harg12 arg13 harg13 arg14 harg14 v43 v45 v100 v103 v389 v390 v391 v1479 v1729 v1733 v1734 v1749) := by
  rw [k0_part136_eq_skeleton]; unfold k0_part136_skel
  exact keeps_bind (keeps_load h.r14) fun _ =>
    keeps_bind (keeps_store h.w14) fun _ =>
    keeps_bind (keeps_load h.r3) fun _ =>
    keeps_bind (keeps_load h.r13) fun _ =>
    keeps_bind (keeps_store h.w13) fun _ =>
    keeps_bind (keeps_load h.r14) fun _ =>
    keeps_bind (keeps_store h.w14) fun _ =>
    keeps_pure _

theorem keeps_k0_part139 {c : Dev nD} {A : sProp 𝕄} (h : Held c A arg1 arg2 arg3 arg4 arg5 arg6 arg7 arg8 arg9 arg10 arg11 arg12 arg13 arg14) (v43 : FVec F S64x256 .f32) (v415 : FVec F S64x1 .f32) (v416 : FVec F S64x1 .f32) (v437 : FVec F S64x128 .f32) (v1486 : FVec F S64x128 .f32) (v1851 : FVec F S64x256 .f32) (v1852 : FVec F S64x128 .f32) (v1856 : FVec F S64x128 .f32) (v1857 : FVec F S64x1 .f32) (v1858 : FVec F S1x1 .f32) (v1862 : FVec F S64x128 .bf16) :
    Keeps c A (k0_part139 (F := F) i arg1 harg1 arg2 harg2 arg3 harg3 arg4 harg4 arg5 harg5 arg6 harg6 arg7 harg7 arg8 harg8 arg9 harg9 arg10 harg10 arg11 harg11 arg12 harg12 arg13 harg13 arg14 harg14 v43 v415 v416 v437 v1486 v1851 v1852 v1856 v1857 v1858 v1862) := by
  rw [k0_part139_eq_skeleton]; unfold k0_part139_skel
  exact keeps_bind (keeps_store h.w13) fun _ =>
    keeps_bind (keeps_load h.r14) fun _ =>
    keeps_bind (keeps_store h.w14) fun _ =>
    keeps_bind (keeps_load h.r12) fun _ =>
    keeps_bind (keeps_store h.w12) fun _ =>
    keeps_bind (keeps_load h.r13) fun _ =>
    keeps_bind (keeps_store h.w13) fun _ =>
    keeps_bind (keeps_load h.r14) fun _ =>
    keeps_bind (keeps_store h.w14) fun _ =>
    keeps_pure _

theorem keeps_k0_part142 {c : Dev nD} {A : sProp 𝕄} (h : Held c A arg1 arg2 arg3 arg4 arg5 arg6 arg7 arg8 arg9 arg10 arg11 arg12 arg13 arg14) (v46 : BitVec 32) (v160 : FVec F S64x128 .bf16) (v1980 : FVec F S64x512 .f32) (v1981 : FVec F S64x128 .bf16) (v1982 : FVec F S64x128 .f32) :
    Keeps c A (k0_part142 (F := F) i arg1 harg1 arg2 harg2 arg3 harg3 arg4 harg4 arg5 harg5 arg6 harg6 arg7 harg7 arg8 harg8 arg9 harg9 arg10 harg10 arg11 harg11 arg12 harg12 arg13 harg13 arg14 harg14 v46 v160 v1980 v1981 v1982) := by
  rw [k0_part142_eq_skeleton]; unfold k0_part142_skel
  exact keeps_bind (keeps_load h.r12) fun _ =>
    keeps_bind (keeps_store h.w12) fun _ =>
    keeps_bind (keeps_load h.r13) fun _ =>
    keeps_bind (keeps_store h.w13) fun _ =>
    keeps_bind (keeps_load h.r14) fun _ =>
    keeps_bind (keeps_store h.w14) fun _ =>
    keeps_bind (keeps_load h.r12) fun _ =>
    keeps_bind (keeps_store h.w12) fun _ =>
    keeps_bind (keeps_load h.r13) fun _ =>
    keeps_bind (keeps_store h.w13) fun _ =>
    keeps_bind (keeps_load h.r14) fun _ =>
    keeps_bind (keeps_store h.w14) fun _ =>
    keeps_bind (keeps_load h.r3) fun _ =>
    keeps_pure _

theorem keeps_k0_part145 {c : Dev nD} {A : sProp 𝕄} (h : Held c A arg1 arg2 arg3 arg4 arg5 arg6 arg7 arg8 arg9 arg10 arg11 arg12 arg13 arg14) (v47 : BitVec 32) (v178 : FVec F S64x128 .bf16) (v181 : FVec F S64x128 .bf16) (v488 : FVec F S64x1 .f32) (v489 : FVec F S64x1 .f32) (v2073 : FVec F S64x512 .f32) (v2074 : FVec F S64x128 .bf16) (v2088 : FVec F S64x128 .f32) :
    Keeps c A (k0_part145 (F := F) i arg1 harg1 arg2 harg2 arg3 harg3 arg4 harg4 arg5 harg5 arg6 harg6 arg7 harg7 arg8 harg8 arg9 harg9 arg10 harg10 arg11 harg11 arg12 harg12 arg13 harg13 arg14 harg14 v47 v178 v181 v488 v489 v2073 v2074 v2088) := by
  rw [k0_part145_eq_skeleton]; unfold k0_part145_skel
  exact keeps_bind (keeps_load h.r12) fun _ =>
    keeps_bind (keeps_store h.w12) fun _ =>
    keeps_bind (keeps_load h.r13) fun _ =>
    keeps_bind (keeps_store h.w13) fun _ =>
    keeps_bind (keeps_load h.r14) fun _ =>
    keeps_bind (keeps_store h.w14) fun _ =>
    keeps_bind (keeps_load h.r3) fun _ =>
    keeps_bind (keeps_load h.r13) fun _ =>
    keeps_bind (keeps_store h.w13) fun _ =>
    keeps_bind (keeps_load h.r14) fun _ =>
    keeps_bind (keeps_store h.w14) fun _ =>
    keeps_pure _

theorem keeps_k0_part148 {c : Dev nD} {A : sProp 𝕄} (h : Held c A arg1 arg2 arg3 arg4 arg5 arg6 arg7 arg8 arg9 arg10 arg11 arg12 arg13 arg14) (v47 : BitVec 32) (v199 : FVec F S64x128 .bf16) (v205 : FVec F S64x128 .bf16) (v208 : FVec F S64x128 .bf16) (v513 : FVec F S64x1 .f32) (v514 : FVec F S64x1 .f32) (v515 : FVec F S64x1 .f32) (v2194 : FVec F S64x128 .f32) (v2198 : FVec F S64x128 .f32) (v2199 : FVec F S64x1 .f32) (v2200 : FVec F S1x1 .f32) :
    Keeps c A (k0_part148 (F := F) i arg1 harg1 arg2 harg2 arg3 harg3 arg4 harg4 arg5 harg5 arg6 harg6 arg7 harg7 arg8 harg8 arg9 harg9 arg10 harg10 arg11 harg11 arg12 harg12 arg13 harg13 arg14 harg14 v47 v199 v205 v208 v513 v514 v515 v2194 v2198 v2199 v2200) := by
  rw [k0_part148_eq_skeleton]; unfold k0_part148_skel
  exact keeps_bind (keeps_load h.r13) fun _ =>
    keeps_bind (keeps_store h.w13) fun _ =>
    keeps_bind (keeps_load h.r14) fun _ =>
    keeps_bind (keeps_store h.w14) fun _ =>
    keeps_bind (keeps_load h.r3) fun _ =>
    keeps_bind (keeps_load h.r13) fun _ =>
    keeps_bind (keeps_store h.w13) fun _ =>
    keeps_pure _

theorem keeps_k0_part151 {c : Dev nD} {A : sProp 𝕄} (h : Held c A arg1 arg2 arg3 arg4 arg5 arg6 arg7 arg8 arg9 arg10 arg11 arg12 arg13 arg14) (v43 : FVec F S64x256 .f32) (v48 : BitVec 32) (v226 : FVec F S64x128 .bf16) (v229 : FVec F S64x128 .bf16) (v540 : FVec F S64x1 .f32) (v541 : FVec F S64x1 .f32) (v562 : FVec F S64x128 .f32) (v1521 : FVec F S64x128 .f32) (v2312 : FVec F S64x128 .f32) (v2315 : FVec F S64x128 .f32) :
    Keeps c A (k0_part151 (F := F) i arg1 harg1 arg2 harg2 arg3 harg3 arg4 harg4 arg5 harg5 arg6 harg6 arg7 harg7 arg8 harg8 arg9 harg9 arg10 harg10 arg11 harg11 arg12 harg12 arg13 harg13 arg14 harg14 v43 v48 v226 v229 v540 v541 v562 v1521 v2312 v2315) := by
  rw [k0_part151_eq_skeleton]; unfold k0_part151_skel
  exact keeps_bind (keeps_load h.r3) fun _ =>
    keeps_bind (keeps_load h.r13) fun _ =>
    keeps_bind (keeps_store h.w13) fun _ =>
    keeps_bind (keeps_load h.r14) fun _ =>
    keeps_bind (keeps_store h.w14) fun _ =>
    keeps_bind (keeps_load h.r12) fun _ =>
    keeps_bind (keeps_store h.w12) fun _ =>
    keeps_pure _

theorem keeps_k0_part154 {c : Dev nD} {A : sProp 𝕄} (h : Held c A arg1 arg2 arg3 arg4 arg5 arg6 arg7 arg8 arg9 arg10 arg11 arg12 arg13 arg14) (v43 : FVec F S64x256 .f32) (v566 : FVec F S64x1 .f32) (v587 : FVec F S64x128 .f32) (v1528 : FVec F S64x128 .f32) (v2409 : FVec F S64x256 .f32) (v2410 : FVec F S64x128 .f32) (v2414 : FVec F S64x128 .f32) (v2415 : FVec F S64x1 .f32) (v2430 : FVec F S128x64 .bf16) :
    Keeps c A (k0_part154 (F := F) i arg1 harg1 arg2 harg2 arg3 harg3 arg4 harg4 arg5 harg5 arg6 harg6 arg7 harg7 arg8 harg8 arg9 harg9 arg10 harg10 arg11 harg11 arg12 harg12 arg13 harg13 arg14 harg14 v43 v566 v587 v1528 v2409 v2410 v2414 v2415 v2430) := by
  rw [k0_part154_eq_skeleton]; unfold k0_part154_skel
  exact keeps_bind (keeps_load h.r14) fun _ =>
    keeps_bind (keeps_store h.w14) fun _ =>
    keeps_bind (keeps_load h.r12) fun _ =>
    keeps_bind (keeps_store h.w12) fun _ =>
    keeps_bind (keeps_load h.r13) fun _ =>
    keeps_bind (keeps_store h.w13) fun _ =>
    keeps_bind (keeps_load h.r14) fun _ =>
    keeps_bind (keeps_store h.w14) fun _ =>
    keeps_bind (keeps_load h.r12) fun _ =>
    keeps_bind (keeps_store h.w12) fun _ =>
    keeps_pure _

theorem keeps_k0_part157 {c : Dev nD} {A : sProp 𝕄} (h : Held c A arg1 arg2 arg3 arg4 arg5 arg6 arg7 arg8 arg9 arg10 arg11 arg12 arg13 arg14) (v49 : BitVec 32) (v283 : FVec F S64x128 .bf16) (v286 : FVec F S64x128 .bf16) (v613 : FVec F S64x1 .f32) (v2538 : FVec F S64x512 .f32) (v2539 : FVec F S64x128 .bf16) (v2545 : FVec F S64x128 .bf16) :
    Keeps c A (k0_part157 (F := F) i arg1 harg1 arg2 harg2 arg3 harg3 arg4 harg4 arg5 harg5 arg6 harg6 arg7 harg7 arg8 harg8 arg9 harg9 arg10 harg10 arg11 harg11 arg12 harg12 arg13 harg13 arg14 harg14 v49 v283 v286 v613 v2538 v2539 v2545) := by
  rw [k0_part157_eq_skeleton]; unfold k0_part157_skel
  exact keeps_bind (keeps_load h.r13) fun _ =>
    keeps_bind (keeps_store h.w13) fun _ =>
    keeps_bind (keeps_load h.r14) fun _ =>
    keeps_bind (keeps_store h.w14) fun _ =>
    keeps_bind (keeps_load h.r12) fun _ =>
    keeps_bind (keeps_store h.w12) fun _ =>
    keeps_bind (keeps_load h.r13) fun _ =>
    keeps_bind (keeps_store h.w13) fun _ =>
    keeps_bind (keeps_load h.r14) fun _ =>
    keeps_bind (keeps_store h.w14) fun _ =>
    keeps_bind (keeps_load h.r3) fun _ =>
    keeps_pure _

theorem keeps_k0_part2 {c : Dev nD} {A : sProp 𝕄} (h : Held c A arg1 arg2 arg3 arg4 arg5 arg6 arg7 arg8 arg9 arg10 arg11 arg12 arg13 arg14) (c0_i32_962 : BitVec 32) (c1_i32_963 : BitVec 32) (k0_t2 : Fin k0_t2_loop.trips) :
    Keeps c A (k0_part2 (F := F) i arg1 harg1 arg2 harg2 arg3 harg3 arg4 harg4 arg5 harg5 arg6 harg6 arg7 harg7 arg8 harg8 arg9 harg9 arg10 harg10 arg11 harg11 arg12 harg12 arg13 harg13 arg14 harg14 c0_i32_962 c1_i32_963 k0_t2) := by
  rw [k0_part2_eq_skeleton]; unfold k0_part2_skel
  exact keeps_pure _

theorem keeps_k0_part5 {c : Dev nD} {A : sProp 𝕄} (h : Held c A arg1 arg2 arg3 arg4 arg5 arg6 arg7 arg8 arg9 arg10 arg11 arg12 arg13 arg14) (v42 : FVec F S64x128 .bf16) (k0_t2 : Fin k0_t2_loop.trips) (v3595 : BitVec 32) (v3676 : FVec F S64x128 .bf16) (v3679 : FVec F S64x128 .bf16) (v3682 : FVec F S64x128 .bf16) (v3685 : FVec F S64x128 .bf16) (v3686 : FVec F S64x256 .bf16) :
    Keeps c A (k0_part5 (F := F) i arg1 harg1 arg2 harg2 arg3 harg3 arg4 harg4 arg5 harg5 arg6 harg6 arg7 harg7 arg8 harg8 arg9 harg9 arg10 harg10 arg11 harg11 arg12 harg12 arg13 harg13 arg14 harg14 v42 k0_t2 v3595 v3676 v3679 v3682 v3685 v3686) := by
  rw [k0_part5_eq_skeleton]; unfold k0_part5_skel
  exact keeps_bind (keeps_load h.r1) fun _ =>
    keeps_bind (keeps_load h.r2) fun _ =>
    keeps_bind (keeps_load h.r1) fun _ =>
    keeps_bind (keeps_load h.r2) fun _ =>
    keeps_bind (keeps_load h.r1) fun _ =>
    keeps_bind (keeps_load h.r2) fun _ =>
    keeps_bind (keeps_load h.r1) fun _ =>
    keeps_bind (keeps_load h.r2) fun _ =>
    keeps_pure _

theorem keeps_k0_part8 {c : Dev nD} {A : sProp 𝕄} (h : Held c A arg1 arg2 arg3 arg4 arg5 arg6 arg7 arg8 arg9 arg10 arg11 arg12 arg13 arg14) (v42 : FVec F S64x128 .bf16) (k0_t2 : Fin k0_t2_loop.trips) (v3610 : BitVec 32) (v3802 : FVec F S64x128 .bf16) (v3805 : FVec F S64x128 .bf16) (v3808 : FVec F S64x128 .bf16) (v3811 : FVec F S64x128 .bf16) (v3812 : FVec F S64x256 .bf16) :
    Keeps c A (k0_part8 (F := F) i arg1 harg1 arg2 harg2 arg3 harg3 arg4 harg4 arg5 harg5 arg6 harg6 arg7 harg7 arg8 harg8 arg9 harg9 arg10 harg10 arg11 harg11 arg12 harg12 arg13 harg13 arg14 harg14 v42 k0_t2 v3610 v3802 v3805 v3808 v3811 v3812) := by
  rw [k0_part8_eq_skeleton]; unfold k0_part8_skel
  exact keeps_bind (keeps_load h.r1) fun _ =>
    keeps_bind (keeps_load h.r2) fun _ =>
    keeps_bind (keeps_load h.r1) fun _ =>
    keeps_bind (keeps_load h.r2) fun _ =>
    keeps_bind (keeps_load h.r1) fun _ =>
    keeps_bind (keeps_load h.r2) fun _ =>
    keeps_bind (keeps_load h.r1) fun _ =>
    keeps_bind (keeps_load h.r2) fun _ =>
    keeps_pure _

theorem keeps_k0_part11 {c : Dev nD} {A : sProp 𝕄} (h : Held c A arg1 arg2 arg3 arg4 arg5 arg6 arg7 arg8 arg9 arg10 arg11 arg12 arg13 arg14) (k0_t2 : Fin k0_t2_loop.trips) (v3582 : BitVec 32) (v3587 : BitVec 32) (v3591 : BitVec 32) (v3595 : BitVec 32) (v3600 : BitVec 32) (v3605 : BitVec 32) (v3610 : BitVec 32) (v3916 : FVec F S128x128 .bf16) (v3917 : FVec F S128x128 .bf16) (cst_1801 : FVec F S128x128 .f32) :
    Keeps c A (k0_part11 (F := F) i arg1 harg1 arg2 harg2 arg3 harg3 arg4 harg4 arg5 harg5 arg6 harg6 arg7 harg7 arg8 harg8 arg9 harg9 arg10 harg10 arg11 harg11 arg12 harg12 arg13 harg13 arg14 harg14 k0_t2 v3582 v3587 v3591 v3595 v3600 v3605 v3610 v3916 v3917 cst_1801) := by
  rw [k0_part11_eq_skeleton]; unfold k0_part11_skel
  exact keeps_bind (keeps_load h.r9) fun _ =>
    keeps_bind (keeps_load h.r9) fun _ =>
    keeps_bind (keeps_load h.r9) fun _ =>
    keeps_bind (keeps_load h.r9) fun _ =>
    keeps_bind (keeps_load h.r9) fun _ =>
    keeps_bind (keeps_load h.r9) fun _ =>
    keeps_bind (keeps_load h.r8) fun _ =>
    keeps_bind (keeps_load h.r8) fun _ =>
    keeps_bind (keeps_load h.r8) fun _ =>
    keeps_bind (keeps_load h.r8) fun _ =>
    keeps_bind (keeps_load h.r8) fun _ =>
    keeps_bind (keeps_load h.r8) fun _ =>
    keeps_bind (keeps_load h.r10) fun _ =>
    keeps_bind (keeps_load h.r10) fun _ =>
    keeps_pure _

theorem keeps_k0_part14 {c : Dev nD} {A : sProp 𝕄} (h : Held c A arg1 arg2 arg3 arg4 arg5 arg6 arg7 arg8 arg9 arg10 arg11 arg12 arg13 arg14) (v30 : IVec S64x128 1) (v38 : IVec S64x128 1) (v40 : IVec S64x128 1) (v3693 : FVec F S64x128 .f32) (v3694 : FVec F S64x128 .f32) (v3714 : FVec F S64x128 .f32) (v3715 : FVec F S64x128 .f32) (v3922 : Vec F S64x128 .f32) (v3924 : Vec F S64x128 .f32) (v3934 : Vec F S64x128 .f32) (v3936 : Vec F S64x128 .f32) (v3952 : FVec F S4x128 .f32) (v3957 : FVec F S4x128 .f32) (v4051 : FVec F S64x1 .f32) (v4052 : FVec F S64x1 .f32) :
    Keeps c A (k0_part14 (F := F) i arg1 harg1 arg2 harg2 arg3 harg3 arg4 harg4 arg5 harg5 arg6 harg6 arg7 harg7 arg8 harg8 arg9 harg9 arg10 harg10 arg11 harg11 arg12 harg12 arg13 harg13 arg14 harg14 v30 v38 v40 v3693 v3694 v3714 v3715 v3922 v3924 v3934 v3936 v3952 v3957 v4051 v4052) := by
  rw [k0_part14_eq_skeleton]; unfold k0_part14_skel
  exact keeps_pure _

theorem keeps_k0_part17 {c : Dev nD} {A : sProp 𝕄} (h : Held c A arg1 arg2 arg3 arg4 arg5 arg6 arg7 arg8 arg9 arg10 arg11 arg12 arg13 arg14) (v30 : IVec S64x128 1) (v39 : IVec S64x128 1) (v41 : IVec S64x128 1) (v3819 : FVec F S64x128 .f32) (v3820 : FVec F S64x128 .f32) (v3840 : FVec F S64x128 .f32) (v3841 : FVec F S64x128 .f32) (v3861 : FVec F S64x128 .f32) (v3930 : Vec F S64x128 .f32) (v3942 : Vec F S64x128 .f32) (v3975 : FVec F S4x128 .f32) (v4214 : FVec F S64x128 .f32) (v4219 : FVec F S64x128 .f32) :
    Keeps c A (k0_part17 (F := F) i arg1 harg1 arg2 harg2 arg3 harg3 arg4 harg4 arg5 harg5 arg6 harg6 arg7 harg7 arg8 harg8 arg9 harg9 arg10 harg10 arg11 harg11 arg12 harg12 arg13 harg13 arg14 harg14 v30 v39 v41 v3819 v3820 v3840 v3841 v3861 v3930 v3942 v3975 v4214 v4219) := by
  rw [k0_part17_eq_skeleton]; unfold k0_part17_skel
  exact keeps_pure _

theorem keeps_k0_part20 {c : Dev nD} {A : sProp 𝕄} (h : Held c A arg1 arg2 arg3 arg4 arg5 arg6 arg7 arg8 arg9 arg10 arg11 arg12 arg13 arg14) (v37 : IVec S128x128 1) (k0_t2 : Fin k0_t2_loop.trips) (v3581 : BitVec 32) (v3883 : FVec F S128x128 .f32) (v3888 : FVec F S128x128 .f32) (v3893 : FVec F S128x128 .f32) (v3898 : FVec F S128x128 .f32) (v4303 : FVec F S64x128 .f32) (v4305 : FVec F S64x128 .f32) (v4307 : FVec F S64x128 .f32) (v4362 : FVec F S64x128 .bf16) :
    Keeps c A (k0_part20 (F := F) i arg1 harg1 arg2 harg2 arg3 harg3 arg4 harg4 arg5 harg5 arg6 harg6 arg7 harg7 arg8 harg8 arg9 harg9 arg10 harg10 arg11 harg11 arg12 harg12 arg13 harg13 arg14 harg14 v37 k0_t2 v3581 v3883 v3888 v3893 v3898 v4303 v4305 v4307 v4362) := by
  rw [k0_part20_eq_skeleton]; unfold k0_part20_skel
  exact keeps_bind (keeps_load h.r12) fun _ =>
    keeps_bind (keeps_load h.r12) fun _ =>
    keeps_bind (keeps_load h.r12) fun _ =>
    keeps_bind (keeps_load h.r12) fun _ =>
    keeps_bind (keeps_load h.r12) fun _ =>
    keeps_pure _

theorem keeps_k0_part23 {c : Dev nD} {A : sProp 𝕄} (h : Held c A arg1 arg2 arg3 arg4 arg5 arg6 arg7 arg8 arg9 arg10 arg11 arg12 arg13 arg14) (k0_t2 : Fin k0_t2_loop.trips) (arg15 : BitVec 32) (v3866 : FVec F S128x128 .f32) (v3883 : FVec F S128x128 .f32) (v3888 : FVec F S128x128 .f32) (v4424 : FVec F S192x128 .f32) (v4429 : FVec F S192x128 .f32) (v4461 : BitVec 32) (v4472 : FVec F S128x128 .f32) :
    Keeps c A (k0_part23 (F := F) i arg1 harg1 arg2 harg2 arg3 harg3 arg4 harg4 arg5 harg5 arg6 harg6 arg7 harg7 arg8 harg8 arg9 harg9 arg10 harg10 arg11 harg11 arg12 harg12 arg13 harg13 arg14 harg14 k0_t2 arg15 v3866 v3883 v3888 v4424 v4429 v4461 v4472) := by
  rw [k0_part23_eq_skeleton]; unfold k0_part23_skel
  exact keeps_bind (keeps_load h.r11) fun _ =>
    keeps_bind (keeps_store h.w11) fun _ =>
    keeps_bind (keeps_load h.r7) fun _ =>
    keeps_bind (keeps_load h.r7) fun _ =>
    keeps_bind (keeps_store h.w7) fun _ =>
    keeps_bind (keeps_load h.r9) fun _ =>
    keeps_bind (keeps_load h.r11) fun _ =>
    keeps_bind (keeps_store h.w11) fun _ =>
    keeps_bind (keeps_load h.r7) fun _ =>
    keeps_pure _

theorem keeps_k0_part26 {c : Dev nD} {A : sProp 𝕄} (h : Held c A arg1 arg2 arg3 arg4 arg5 arg6 arg7 arg8 arg9 arg10 arg11 arg12 arg13 arg14) (k0_t2 : Fin k0_t2_loop.trips) (arg15 : BitVec 32) (v3874 : FVec F S128x128 .f32) (v3903 : FVec F S128x128 .f32) (v3908 : FVec F S128x128 .f32) (v4444 : FVec F S192x128 .f32) (v4449 : FVec F S192x128 .f32) (v4578 : BitVec 32) (v4589 : FVec F S128x128 .f32) :
    Keeps c A (k0_part26 (F := F) i arg1 harg1 arg2 harg2 arg3 harg3 arg4 harg4 arg5 harg5 arg6 harg6 arg7 harg7 arg8 harg8 arg9 harg9 arg10 harg10 arg11 harg11 arg12 harg12 arg13 harg13 arg14 harg14 k0_t2 arg15 v3874 v3903 v3908 v4444 v4449 v4578 v4589) := by
  rw [k0_part26_eq_skeleton]; unfold k0_part26_skel
  exact keeps_bind (keeps_store h.w11) fun _ =>
    keeps_bind (keeps_load h.r7) fun _ =>
    keeps_bind (keeps_load h.r7) fun _ =>
    keeps_bind (keeps_store h.w7) fun _ =>
    keeps_bind (keeps_load h.r9) fun _ =>
    keeps_bind (keeps_load h.r11) fun _ =>
    keeps_bind (keeps_store h.w11) fun _ =>
    keeps_bind (keeps_load h.r7) fun _ =>
    keeps_pure _

theorem keeps_k0_part29 {c : Dev nD} {A : sProp 𝕄} (h : Held c A arg1 arg2 arg3 arg4 arg5 arg6 arg7 arg8 arg9 arg10 arg11 arg12 arg13 arg14) (v37 : IVec S128x128 1) (v4278 : FVec F S64x128 .f32) (v4291 : FVec F S64x128 .f32) (v4293 : FVec F S64x128 .f32) (v4295 : FVec F S64x128 .f32) (v4297 : FVec F S64x128 .f32) (v4299 : FVec F S64x128 .f32) (v4301 : FVec F S64x128 .f32) (v4325 : FVec F S64x128 .f32) (v4331 : FVec F S64x128 .f32) (v4337 : FVec F S64x128 .f32) (v4343 : FVec F S64x128 .f32) (v4349 : FVec F S64x128 .f32) (v4355 : FVec F S64x128 .f32) (v4712 : FVec F S64x128 .f32) :
    Keeps c A (k0_part29 (F := F) i arg1 harg1 arg2 harg2 arg3 harg3 arg4 harg4 arg5 harg5 arg6 harg6 arg7 harg7 arg8 harg8 arg9 harg9 arg10 harg10 arg11 harg11 arg12 harg12 arg13 harg13 arg14 harg14 v37 v4278 v4291 v4293 v4295 v4297 v4299 v4301 v4325 v4331 v4337 v4343 v4349 v4355 v4712) := by
  rw [k0_part29_eq_skeleton]; unfold k0_part29_skel
  exact keeps_pure _

theorem keeps_k0_part32 {c : Dev nD} {A : sProp 𝕄} (h : Held c A arg1 arg2 arg3 arg4 arg5 arg6 arg7 arg8 arg9 arg10 arg11 arg12 arg13 arg14) (k0_t2 : Fin k0_t2_loop.trips) (v3581 : BitVec 32) (v4841 : FVec F S128x128 .f32) (v4843 : FVec F S128x128 .f32) (v4845 : FVec F S128x128 .f32) (v4847 : FVec F S128x128 .f32) (v4849 : FVec F S128x128 .f32) (v4851 : FVec F S128x128 .f32) :
    Keeps c A (k0_part32 (F := F) i arg1 harg1 arg2 harg2 arg3 harg3 arg4 harg4 arg5 harg5 arg6 harg6 arg7 harg7 arg8 harg8 arg9 harg9 arg10 harg10 arg11 harg11 arg12 harg12 arg13 harg13 arg14 harg14 k0_t2 v3581 v4841 v4843 v4845 v4847 v4849 v4851) := by
  rw [k0_part32_eq_skeleton]; unfold k0_part32_skel
  exact keeps_bind (keeps_load h.r11) fun _ =>
    keeps_bind (keeps_load h.r11) fun _ =>
    keeps_bind (keeps_load h.r13) fun _ =>
    keeps_bind (keeps_load h.r13) fun _ =>
    keeps_bind (keeps_load h.r13) fun _ =>
    keeps_bind (keeps_load h.r13) fun _ =>
    keeps_bind (keeps_load h.r13) fun _ =>
    keeps_bind (keeps_load h.r13) fun _ =>
    keeps_pure _

theorem keeps_k0_part35 {c : Dev nD} {A : sProp 𝕄} (h : Held c A arg1 arg2 arg3 arg4 arg5 arg6 arg7 arg8 arg9 arg10 arg11 arg12 arg13 arg14) (v37 : IVec S128x128 1) (k0_t2 : Fin k0_t2_loop.trips) (v3581 : BitVec 32) (v4839 : FVec F S64x128 .f32) (v4860 : FVec F S128x128 .f32) (v4865 : FVec F S128x128 .f32) (v4870 : FVec F S128x128 .f32) (v4875 : FVec F S128x128 .f32) (v4880 : FVec F S128x128 .f32) (v4885 : FVec F S128x128 .f32) (v4973 : FVec F S64x128 .bf16) (v4974 : FVec F S128x128 .f32) :
    Keeps c A (k0_part35 (F := F) i arg1 harg1 arg2 harg2 arg3 harg3 arg4 harg4 arg5 harg5 arg6 harg6 arg7 harg7 arg8 harg8 arg9 harg9 arg10 harg10 arg11 harg11 arg12 harg12 arg13 harg13 arg14 harg14 v37 k0_t2 v3581 v4839 v4860 v4865 v4870 v4875 v4880 v4885 v4973 v4974) := by
  rw [k0_part35_eq_skeleton]; unfold k0_part35_skel
  exact keeps_bind (keeps_load h.r12) fun _ =>
    keeps_bind (keeps_load h.r12) fun _ =>
    keeps_bind (keeps_load h.r12) fun _ =>
    keeps_bind (keeps_load h.r12) fun _ =>
    keeps_bind (keeps_load h.r12) fun _ =>
    keeps_bind (keeps_load h.r12) fun _ =>
    keeps_bind (keeps_load h.r12) fun _ =>
    keeps_pure _

theorem keeps_k0_part38 {c : Dev nD} {A : sProp 𝕄} (h : Held c A arg1 arg2 arg3 arg4 arg5 arg6 arg7 arg8 arg9 arg10 arg11 arg12 arg13 arg14) (k0_t2 : Fin k0_t2_loop.trips) (arg15 : BitVec 32) (v4843 : FVec F S128x128 .f32) (v4865 : FVec F S128x128 .f32) (v5029 : FVec F S192x128 .f32) (v5077 : BitVec 32) (v5084 : FVec F S64x128 .f32) :
    Keeps c A (k0_part38 (F := F) i arg1 harg1 arg2 harg2 arg3 harg3 arg4 harg4 arg5 harg5 arg6 harg6 arg7 harg7 arg8 harg8 arg9 harg9 arg10 harg10 arg11 harg11 arg12 harg12 arg13 harg13 arg14 harg14 k0_t2 arg15 v4843 v4865 v5029 v5077 v5084) := by
  rw [k0_part38_eq_skeleton]; unfold k0_part38_skel
  exact keeps_bind (keeps_load h.r7) fun _ =>
    keeps_bind (keeps_store h.w7) fun _ =>
    keeps_bind (keeps_load h.r9) fun _ =>
    keeps_bind (keeps_load h.r11) fun _ =>
    keeps_bind (keeps_store h.w11) fun _ =>
    keeps_bind (keeps_load h.r7) fun _ =>
    keeps_bind (keeps_load h.r7) fun _ =>
    keeps_bind (keeps_store h.w7) fun _ =>
    keeps_pure _

theorem keeps_k0_part41 {c : Dev nD} {A : sProp 𝕄} (h : Held c A arg1 arg2 arg3 arg4 arg5 arg6 arg7 arg8 arg9 arg10 arg11 arg12 arg13 arg14) (k0_t2 : Fin k0_t2_loop.trips) (arg15 : BitVec 32) (v4851 : FVec F S128x128 .f32) (v4885 : FVec F S128x128 .f32) (v5049 : FVec F S192x128 .f32) (v5201 : FVec F S64x128 .f32) :
    Keeps c A (k0_part41 (F := F) i arg1 harg1 arg2 harg2 arg3 harg3 arg4 harg4 arg5 harg5 arg6 harg6 arg7 harg7 arg8 harg8 arg9 harg9 arg10 harg10 arg11 harg11 arg12 harg12 arg13 harg13 arg14 harg14 k0_t2 arg15 v4851 v4885 v5049 v5201) := by
  rw [k0_part41_eq_skeleton]; unfold k0_part41_skel
  exact keeps_bind (keeps_load h.r7) fun _ =>
    keeps_bind (keeps_store h.w7) fun _ =>
    keeps_bind (keeps_load h.r9) fun _ =>
    keeps_bind (keeps_load h.r11) fun _ =>
    keeps_bind (keeps_store h.w11) fun _ =>
    keeps_bind (keeps_load h.r7) fun _ =>
    keeps_bind (keeps_load h.r7) fun _ =>
    keeps_bind (keeps_store h.w7) fun _ =>
    keeps_pure _

theorem keeps_k0_part44 {c : Dev nD} {A : sProp 𝕄} (h : Held c A arg1 arg2 arg3 arg4 arg5 arg6 arg7 arg8 arg9 arg10 arg11 arg12 arg13 arg14) (v37 : IVec S128x128 1) (v4049 : FVec F S64x128 .f32) (v4074 : FVec F S64x128 .f32) (v4099 : FVec F S64x128 .f32) (v4124 : FVec F S64x128 .f32) (v4149 : FVec F S64x128 .f32) (v4174 : FVec F S64x128 .f32) (v4916 : FVec F S64x128 .f32) (v4923 : FVec F S64x128 .f32) (v4930 : FVec F S64x128 .f32) (v4937 : FVec F S64x128 .f32) (v4944 : FVec F S64x128 .f32) (v4951 : FVec F S64x128 .f32) (v5306 : IVec S64x128 1) :
    Keeps c A (k0_part44 (F := F) i arg1 harg1 arg2 harg2 arg3 harg3 arg4 harg4 arg5 harg5 arg6 harg6 arg7 harg7 arg8 harg8 arg9 harg9 arg10 harg10 arg11 harg11 arg12 harg12 arg13 harg13 arg14 harg14 v37 v4049 v4074 v4099 v4124 v4149 v4174 v4916 v4923 v4930 v4937 v4944 v4951 v5306) := by
  rw [k0_part44_eq_skeleton]; unfold k0_part44_skel
  exact keeps_pure _

theorem keeps_k0_part47 {c : Dev nD} {A : sProp 𝕄} (h : Held c A arg1 arg2 arg3 arg4 arg5 arg6 arg7 arg8 arg9 arg10 arg11 arg12 arg13 arg14) (v37 : IVec S128x128 1) (k0_t2 : Fin k0_t2_loop.trips) (v3581 : BitVec 32) (v4902 : FVec F S64x128 .f32) (v4909 : FVec F S64x128 .f32) (v5314 : FVec F S64x128 .f32) (v5322 : FVec F S64x128 .f32) (v5410 : FVec F S128x128 .f32) (v5412 : FVec F S128x128 .f32) (v5414 : FVec F S128x128 .f32) (v5416 : FVec F S128x128 .f32) (v5418 : FVec F S128x128 .f32) :
    Keeps c A (k0_part47 (F := F) i arg1 harg1 arg2 harg2 arg3 harg3 arg4 harg4 arg5 harg5 arg6 harg6 arg7 harg7 arg8 harg8 arg9 harg9 arg10 harg10 arg11 harg11 arg12 harg12 arg13 harg13 arg14 harg14 v37 k0_t2 v3581 v4902 v4909 v5314 v5322 v5410 v5412 v5414 v5416 v5418) := by
  rw [k0_part47_eq_skeleton]; unfold k0_part47_skel
  exact keeps_bind (keeps_load h.r13) fun _ =>
    keeps_bind (keeps_load h.r13) fun _ =>
    keeps_bind (keeps_load h.r13) fun _ =>
    keeps_bind (keeps_load h.r13) fun _ =>
    keeps_bind (keeps_load h.r13) fun _ =>
    keeps_pure _

theorem keeps_k0_part50 {c : Dev nD} {A : sProp 𝕄} (h : Held c A arg1 arg2 arg3 arg4 arg5 arg6 arg7 arg8 arg9 arg10 arg11 arg12 arg13 arg14) (k0_t2 : Fin k0_t2_loop.trips) (v3581 : BitVec 32) (v5438 : FVec F S128x128 .f32) (v5443 : FVec F S128x128 .f32) (v5448 : FVec F S128x128 .f32) (v5453 : FVec F S128x128 .f32) (v5458 : FVec F S128x128 .f32) (v5547 : FVec F S64x128 .f32) (v5552 : FVec F S64x128 .f32) (v5557 : FVec F S64x128 .f32) (v5560 : FVec F S64x128 .f32) :
    Keeps c A (k0_part50 (F := F) i arg1 harg1 arg2 harg2 arg3 harg3 arg4 harg4 arg5 harg5 arg6 harg6 arg7 harg7 arg8 harg8 arg9 harg9 arg10 harg10 arg11 harg11 arg12 harg12 arg13 harg13 arg14 harg14 k0_t2 v3581 v5438 v5443 v5448 v5453 v5458 v5547 v5552 v5557 v5560) := by
  rw [k0_part50_eq_skeleton]; unfold k0_part50_skel
  exact keeps_bind (keeps_load h.r12) fun _ =>
    keeps_bind (keeps_load h.r12) fun _ =>
    keeps_bind (keeps_load h.r12) fun _ =>
    keeps_bind (keeps_load h.r12) fun _ =>
    keeps_bind (keeps_load h.r14) fun _ =>
    keeps_bind (keeps_load h.r14) fun _ =>
    keeps_bind (keeps_load h.r14) fun _ =>
    keeps_pure _

theorem keeps_k0_part53 {c : Dev nD} {A : sProp 𝕄} (h : Held c A arg1 arg2 arg3 arg4 arg5 arg6 arg7 arg8 arg9 arg10 arg11 arg12 arg13 arg14) (k0_t2 : Fin k0_t2_loop.trips) (arg15 : BitVec 32) (v5408 : FVec F S128x128 .f32) (v5428 : FVec F S128x128 .f32) (v5433 : FVec F S128x128 .f32) (v5592 : FVec F S192x128 .f32) (v5597 : FVec F S192x128 .f32) (v5669 : BitVec 32) :
    Keeps c A (k0_part53 (F := F) i arg1 harg1 arg2 harg2 arg3 harg3 arg4 harg4 arg5 harg5 arg6 harg6 arg7 harg7 arg8 harg8 arg9 harg9 arg10 harg10 arg11 harg11 arg12 harg12 arg13 harg13 arg14 harg14 k0_t2 arg15 v5408 v5428 v5433 v5592 v5597 v5669) := by
  rw [k0_part53_eq_skeleton]; unfold k0_part53_skel
  exact keeps_bind (keeps_load h.r7) fun _ =>
    keeps_bind (keeps_load h.r7) fun _ =>
    keeps_bind (keeps_store h.w7) fun _ =>
    keeps_bind (keeps_load h.r9) fun _ =>
    keeps_bind (keeps_load h.r11) fun _ =>
    keeps_bind (keeps_store h.w11) fun _ =>
    keeps_bind (keeps_load h.r7) fun _ =>
    keeps_bind (keeps_load h.r7) fun _ =>
    keeps_bind (keeps_store h.w7) fun _ =>
    keeps_pure _

theorem keeps_k0_part56 {c : Dev nD} {A : sProp 𝕄} (h : Held c A arg1 arg2 arg3 arg4 arg5 arg6 arg7 arg8 arg9 arg10 arg11 arg12 arg13 arg14) (k0_t2 : Fin k0_t2_loop.trips) (arg15 : BitVec 32) (v5416 : FVec F S128x128 .f32) (v5448 : FVec F S128x128 .f32) (v5453 : FVec F S128x128 .f32) (v5612 : FVec F S192x128 .f32) (v5617 : FVec F S192x128 .f32) (v5787 : BitVec 32) :
    Keeps c A (k0_part56 (F := F) i arg1 harg1 arg2 harg2 arg3 harg3 arg4 harg4 arg5 harg5 arg6 harg6 arg7 harg7 arg8 harg8 arg9 harg9 arg10 harg10 arg11 harg11 arg12 harg12 arg13 harg13 arg14 harg14 k0_t2 arg15 v5416 v5448 v5453 v5612 v5617 v5787) := by
  rw [k0_part56_eq_skeleton]; unfold k0_part56_skel
  exact keeps_bind (keeps_load h.r7) fun _ =>
    keeps_bind (keeps_load h.r7) fun _ =>
    keeps_bind (keeps_store h.w7) fun _ =>
    keeps_bind (keeps_load h.r9) fun _ =>
    keeps_bind (keeps_load h.r11) fun _ =>
    keeps_bind (keeps_store h.w11) fun _ =>
    keeps_bind (keeps_load h.r7) fun _ =>
    keeps_bind (keeps_load h.r7) fun _ =>
    keeps_bind (keeps_store h.w7) fun _ =>
    keeps_pure _

theorem keeps_k0_part59 {c : Dev nD} {A : sProp 𝕄} (h : Held c A arg1 arg2 arg3 arg4 arg5 arg6 arg7 arg8 arg9 arg10 arg11 arg12 arg13 arg14) (v37 : IVec S128x128 1) (v4149 : FVec F S64x128 .f32) (v4174 : FVec F S64x128 .f32) (v4199 : FVec F S64x128 .f32) (v4224 : FVec F S64x128 .f32) (v4249 : FVec F S64x128 .f32) (v5507 : FVec F S64x128 .f32) (v5514 : FVec F S64x128 .f32) (v5521 : FVec F S64x128 .f32) (v5528 : FVec F S64x128 .f32) (v5535 : FVec F S64x128 .f32) (v5869 : IVec S64x128 1) (v5911 : FVec F S64x128 .f32) (v5912 : FVec F S64x128 .bf16) :
    Keeps c A (k0_part59 (F := F) i arg1 harg1 arg2 harg2 arg3 harg3 arg4 harg4 arg5 harg5 arg6 harg6 arg7 harg7 arg8 harg8 arg9 harg9 arg10 harg10 arg11 harg11 arg12 harg12 arg13 harg13 arg14 harg14 v37 v4149 v4174 v4199 v4224 v4249 v5507 v5514 v5521 v5528 v5535 v5869 v5911 v5912) := by
  rw [k0_part59_eq_skeleton]; unfold k0_part59_skel
  exact keeps_pure _

theorem keeps_k0_part62 {c : Dev nD} {A : sProp 𝕄} (h : Held c A arg1 arg2 arg3 arg4 arg5 arg6 arg7 arg8 arg9 arg10 arg11 arg12 arg13 arg14) (v25 : IVec S64x128 32) (v28 : IVec S64x128 32) (v37 : IVec S128x128 1) (v3999 : FVec F S64x128 .f32) (v4024 : FVec F S64x128 .f32) (v4049 : FVec F S64x128 .f32) (v4074 : FVec F S64x128 .f32) (v5542 : FVec F S64x128 .f32) (v5972 : FVec F S64x128 .f32) (v5979 : FVec F S64x128 .f32) (v5986 : FVec F S64x128 .f32) (v5993 : FVec F S64x128 .f32) (v6048 : FVec F S64x128 .f32) :
    Keeps c A (k0_part62 (F := F) i arg1 harg1 arg2 harg2 arg3 harg3 arg4 harg4 arg5 harg5 arg6 harg6 arg7 harg7 arg8 harg8 arg9 harg9 arg10 harg10 arg11 harg11 arg12 harg12 arg13 harg13 arg14 harg14 v25 v28 v37 v3999 v4024 v4049 v4074 v5542 v5972 v5979 v5986 v5993 v6048) := by
  rw [k0_part62_eq_skeleton]; unfold k0_part62_skel
  exact keeps_pure _

theorem keeps_k0_part65 {c : Dev nD} {A : sProp 𝕄} (h : Held c A arg1 arg2 arg3 arg4 arg5 arg6 arg7 arg8 arg9 arg10 arg11 arg12 arg13 arg14) (v37 : IVec S128x128 1) (v5993 : FVec F S64x128 .f32) (v6000 : FVec F S64x128 .f32) (v6007 : FVec F S64x128 .f32) (v6014 : FVec F S64x128 .f32) (v6021 : FVec F S64x128 .f32) (v6028 : FVec F S64x128 .f32) (v6035 : FVec F S64x128 .f32) (v6042 : FVec F S64x128 .f32) (v6100 : FVec F S64x128 .f32) (v6108 : FVec F S64x128 .f32) (v6116 : FVec F S64x128 .f32) (v6124 : FVec F S64x128 .f32) (v6132 : FVec F S64x128 .f32) (v6140 : FVec F S64x128 .f32) (v6148 : FVec F S64x128 .f32) (v6178 : FVec F S64x128 .bf16) (v6181 : FVec F S128x128 .f32) :
    Keeps c A (k0_part65 (F := F) i arg1 harg1 arg2 harg2 arg3 harg3 arg4 harg4 arg5 harg5 arg6 harg6 arg7 harg7 arg8 harg8 arg9 harg9 arg10 harg10 arg11 harg11 arg12 harg12 arg13 harg13 arg14 harg14 v37 v5993 v6000 v6007 v6014 v6021 v6028 v6035 v6042 v6100 v6108 v6116 v6124 v6132 v6140 v6148 v6178 v6181) := by
  rw [k0_part65_eq_skeleton]; unfold k0_part65_skel
  exact keeps_pure _

theorem keeps_k0_part68 {c : Dev nD} {A : sProp 𝕄} (h : Held c A arg1 arg2 arg3 arg4 arg5 arg6 arg7 arg8 arg9 arg10 arg11 arg12 arg13 arg14) (k0_t2 : Fin k0_t2_loop.trips) (v3583 : BitVec 32) (v3587 : BitVec 32) (v3634 : FVec F S64x128 .bf16) (v3637 : FVec F S64x128 .bf16) (v4001 : FVec F S64x1 .f32) (v6310 : FVec F S64x512 .f32) (v6311 : FVec F S64x128 .bf16) (v6318 : FVec F S64x128 .bf16) :
    Keeps c A (k0_part68 (F := F) i arg1 harg1 arg2 harg2 arg3 harg3 arg4 harg4 arg5 harg5 arg6 harg6 arg7 harg7 arg8 harg8 arg9 harg9 arg10 harg10 arg11 harg11 arg12 harg12 arg13 harg13 arg14 harg14 k0_t2 v3583 v3587 v3634 v3637 v4001 v6310 v6311 v6318) := by
  rw [k0_part68_eq_skeleton]; unfold k0_part68_skel
  exact keeps_bind (keeps_load h.r13) fun _ =>
    keeps_bind (keeps_store h.w13) fun _ =>
    keeps_bind (keeps_load h.r14) fun _ =>
    keeps_bind (keeps_store h.w14) fun _ =>
    keeps_bind (keeps_load h.r12) fun _ =>
    keeps_bind (keeps_store h.w12) fun _ =>
    keeps_bind (keeps_load h.r13) fun _ =>
    keeps_bind (keeps_store h.w13) fun _ =>
    keeps_bind (keeps_load h.r14) fun _ =>
    keeps_bind (keeps_store h.w14) fun _ =>
    keeps_bind (keeps_load h.r3) fun _ =>
    keeps_pure _

theorem keeps_k0_part71 {c : Dev nD} {A : sProp 𝕄} (h : Held c A arg1 arg2 arg3 arg4 arg5 arg6 arg7 arg8 arg9 arg10 arg11 arg12 arg13 arg14) (k0_t2 : Fin k0_t2_loop.trips) (v3583 : BitVec 32) (v3591 : BitVec 32) (v3655 : FVec F S64x128 .bf16) (v3658 : FVec F S64x128 .bf16) (v3664 : FVec F S64x128 .bf16) (v4026 : FVec F S64x1 .f32) (v4027 : FVec F S64x1 .f32) (v6414 : FVec F S64x128 .bf16) (v6437 : FVec F S64x128 .bf16) (v6439 : Vec F S1x1x64x128 .bf16) :
    Keeps c A (k0_part71 (F := F) i arg1 harg1 arg2 harg2 arg3 harg3 arg4 harg4 arg5 harg5 arg6 harg6 arg7 harg7 arg8 harg8 arg9 harg9 arg10 harg10 arg11 harg11 arg12 harg12 arg13 harg13 arg14 harg14 k0_t2 v3583 v3591 v3655 v3658 v3664 v4026 v4027 v6414 v6437 v6439) := by
  rw [k0_part71_eq_skeleton]; unfold k0_part71_skel
  exact keeps_bind (keeps_store h.w13) fun _ =>
    keeps_bind (keeps_load h.r14) fun _ =>
    keeps_bind (keeps_store h.w14) fun _ =>
    keeps_bind (keeps_load h.r3) fun _ =>
    keeps_bind (keeps_load h.r13) fun _ =>
    keeps_bind (keeps_store h.w13) fun _ =>
    keeps_bind (keeps_load h.r14) fun _ =>
    keeps_bind (keeps_store h.w14) fun _ =>
    keeps_bind (keeps_load h.r3) fun _ =>
    keeps_pure _

theorem keeps_k0_part74 {c : Dev nD} {A : sProp 𝕄} (h : Held c A arg1 arg2 arg3 arg4 arg5 arg6 arg7 arg8 arg9 arg10 arg11 arg12 arg13 arg14) (k0_t2 : Fin k0_t2_loop.trips) (v3583 : BitVec 32) (v3591 : BitVec 32) (v3682 : FVec F S64x128 .bf16) (v3685 : FVec F S64x128 .bf16) (v4051 : FVec F S64x1 .f32) (v4052 : FVec F S64x1 .f32) (v4053 : FVec F S64x1 .f32) (v4054 : FVec F S64x1 .f32) (v6550 : FVec F S64x128 .f32) (v6554 : FVec F S64x128 .f32) (v6555 : FVec F S64x1 .f32) (v6556 : FVec F S1x1 .f32) (v6564 : FVec F S1x1x64x128 .bf16) :
    Keeps c A (k0_part74 (F := F) i arg1 harg1 arg2 harg2 arg3 harg3 arg4 harg4 arg5 harg5 arg6 harg6 arg7 harg7 arg8 harg8 arg9 harg9 arg10 harg10 arg11 harg11 arg12 harg12 arg13 harg13 arg14 harg14 k0_t2 v3583 v3591 v3682 v3685 v4051 v4052 v4053 v4054 v6550 v6554 v6555 v6556 v6564) := by
  rw [k0_part74_eq_skeleton]; unfold k0_part74_skel
  exact keeps_bind (keeps_store h.w13) fun _ =>
    keeps_bind (keeps_load h.r14) fun _ =>
    keeps_bind (keeps_store h.w14) fun _ =>
    keeps_bind (keeps_load h.r3) fun _ =>
    keeps_bind (keeps_load h.r13) fun _ =>
    keeps_bind (keeps_store h.w13) fun _ =>
    keeps_bind (keeps_load h.r14) fun _ =>
    keeps_bind (keeps_store h.w14) fun _ =>
    keeps_pure _

theorem keeps_k0_part77 {c : Dev nD} {A : sProp 𝕄} (h : Held c A arg1 arg2 arg3 arg4 arg5 arg6 arg7 arg8 arg9 arg10 arg11 arg12 arg13 arg14) (v43 : FVec F S64x256 .f32) (k0_t2 : Fin k0_t2_loop.trips) (v3583 : BitVec 32) (v4078 : FVec F S64x1 .f32) (v4079 : FVec F S64x1 .f32) (v4100 : FVec F S64x128 .f32) (v6191 : FVec F S64x128 .f32) (v6684 : FVec F S64x256 .f32) (v6685 : FVec F S64x128 .f32) (v6689 : FVec F S64x128 .f32) (v6690 : FVec F S64x1 .f32) (v6691 : FVec F S1x1 .f32) (v6692 : FVec F S64x128 .f32) :
    Keeps c A (k0_part77 (F := F) i arg1 harg1 arg2 harg2 arg3 harg3 arg4 harg4 arg5 harg5 arg6 harg6 arg7 harg7 arg8 harg8 arg9 harg9 arg10 harg10 arg11 harg11 arg12 harg12 arg13 harg13 arg14 harg14 v43 k0_t2 v3583 v4078 v4079 v4100 v6191 v6684 v6685 v6689 v6690 v6691 v6692) := by
  rw [k0_part77_eq_skeleton]; unfold k0_part77_skel
  exact keeps_bind (keeps_load h.r13) fun _ =>
    keeps_bind (keeps_store h.w13) fun _ =>
    keeps_bind (keeps_load h.r14) fun _ =>
    keeps_bind (keeps_store h.w14) fun _ =>
    keeps_bind (keeps_load h.r12) fun _ =>
    keeps_bind (keeps_store h.w12) fun _ =>
    keeps_bind (keeps_load h.r13) fun _ =>
    keeps_bind (keeps_store h.w13) fun _ =>
    keeps_pure _

theorem keeps_k0_part80 {c : Dev nD} {A : sProp 𝕄} (h : Held c A arg1 arg2 arg3 arg4 arg5 arg6 arg7 arg8 arg9 arg10 arg11 arg12 arg13 arg14) (v43 : FVec F S64x256 .f32) (k0_t2 : Fin k0_t2_loop.trips) (v3583 : BitVec 32) (v4125 : FVec F S64x128 .f32) (v6198 : FVec F S64x128 .f32) (v6787 : FVec F S64x256 .f32) (v6819 : FVec F S64x256 .f32) :
    Keeps c A (k0_part80 (F := F) i arg1 harg1 arg2 harg2 arg3 harg3 arg4 harg4 arg5 harg5 arg6 harg6 arg7 harg7 arg8 harg8 arg9 harg9 arg10 harg10 arg11 harg11 arg12 harg12 arg13 harg13 arg14 harg14 v43 k0_t2 v3583 v4125 v6198 v6787 v6819) := by
  rw [k0_part80_eq_skeleton]; unfold k0_part80_skel
  exact keeps_bind (keeps_load h.r12) fun _ =>
    keeps_bind (keeps_store h.w12) fun _ =>
    keeps_bind (keeps_load h.r13) fun _ =>
    keeps_bind (keeps_store h.w13) fun _ =>
    keeps_bind (keeps_load h.r14) fun _ =>
    keeps_bind (keeps_store h.w14) fun _ =>
    keeps_bind (keeps_load h.r12) fun _ =>
    keeps_bind (keeps_store h.w12) fun _ =>
    keeps_bind (keeps_load h.r13) fun _ =>
    keeps_bind (keeps_store h.w13) fun _ =>
    keeps_pure _

theorem keeps_k0_part83 {c : Dev nD} {A : sProp 𝕄} (h : Held c A arg1 arg2 arg3 arg4 arg5 arg6 arg7 arg8 arg9 arg10 arg11 arg12 arg13 arg14) (k0_t2 : Fin k0_t2_loop.trips) (v3583 : BitVec 32) (v3600 : BitVec 32) (v3760 : FVec F S64x128 .bf16) (v3763 : FVec F S64x128 .bf16) (v4151 : FVec F S64x1 .f32) (v6928 : FVec F S64x512 .f32) (v6929 : FVec F S64x128 .bf16) (v6941 : FVec F S64x64 .bf16) :
    Keeps c A (k0_part83 (F := F) i arg1 harg1 arg2 harg2 arg3 harg3 arg4 harg4 arg5 harg5 arg6 harg6 arg7 harg7 arg8 harg8 arg9 harg9 arg10 harg10 arg11 harg11 arg12 harg12 arg13 harg13 arg14 harg14 k0_t2 v3583 v3600 v3760 v3763 v4151 v6928 v6929 v6941) := by
  rw [k0_part83_eq_skeleton]; unfold k0_part83_skel
  exact keeps_bind (keeps_load h.r14) fun _ =>
    keeps_bind (keeps_store h.w14) fun _ =>
    keeps_bind (keeps_load h.r12) fun _ =>
    keeps_bind (keeps_store h.w12) fun _ =>
    keeps_bind (keeps_load h.r13) fun _ =>
    keeps_bind (keeps_store h.w13) fun _ =>
    keeps_bind (keeps_load h.r14) fun _ =>
    keeps_bind (keeps_store h.w14) fun _ =>
    keeps_bind (keeps_load h.r3) fun _ =>
    keeps_bind (keeps_load h.r13) fun _ =>
    keeps_bind (keeps_store h.w13) fun _ =>
    keeps_pure _

theorem keeps_k0_part86 {c : Dev nD} {A : sProp 𝕄} (h : Held c A arg1 arg2 arg3 arg4 arg5 arg6 arg7 arg8 arg9 arg10 arg11 arg12 arg13 arg14) (k0_t2 : Fin k0_t2_loop.trips) (v3583 : BitVec 32) (v3605 : BitVec 32) (v3781 : FVec F S64x128 .bf16) (v3784 : FVec F S64x128 .bf16) (v3787 : FVec F S64x128 .bf16) (v3790 : FVec F S64x128 .bf16) (v4176 : FVec F S64x1 .f32) (v4177 : FVec F S64x1 .f32) (v4178 : FVec F S64x1 .f32) :
    Keeps c A (k0_part86 (F := F) i arg1 harg1 arg2 harg2 arg3 harg3 arg4 harg4 arg5 harg5 arg6 harg6 arg7 harg7 arg8 harg8 arg9 harg9 arg10 harg10 arg11 harg11 arg12 harg12 arg13 harg13 arg14 harg14 k0_t2 v3583 v3605 v3781 v3784 v3787 v3790 v4176 v4177 v4178) := by
  rw [k0_part86_eq_skeleton]; unfold k0_part86_skel
  exact keeps_bind (keeps_load h.r3) fun _ =>
    keeps_bind (keeps_load h.r13) fun _ =>
    keeps_bind (keeps_store h.w13) fun _ =>
    keeps_bind (keeps_load h.r14) fun _ =>
    keeps_bind (keeps_store h.w14) fun _ =>
    keeps_bind (keeps_load h.r3) fun _ =>
    keeps_bind (keeps_load h.r13) fun _ =>
    keeps_pure _

theorem keeps_k0_part89 {c : Dev nD} {A : sProp 𝕄} (h : Held c A arg1 arg2 arg3 arg4 arg5 arg6 arg7 arg8 arg9 arg10 arg11 arg12 arg13 arg14) (v43 : FVec F S64x256 .f32) (k0_t2 : Fin k0_t2_loop.trips) (v3583 : BitVec 32) (v3605 : BitVec 32) (v3808 : FVec F S64x128 .bf16) (v3811 : FVec F S64x128 .bf16) (v4202 : FVec F S64x1 .f32) (v4203 : FVec F S64x1 .f32) (v4204 : FVec F S64x1 .f32) (v4225 : FVec F S64x128 .f32) (v6226 : FVec F S64x128 .f32) (v7168 : FVec F S64x128 .f32) (v7172 : FVec F S64x128 .f32) (v7173 : FVec F S64x1 .f32) (v7189 : FVec F S128x64 .bf16) :
    Keeps c A (k0_part89 (F := F) i arg1 harg1 arg2 harg2 arg3 harg3 arg4 harg4 arg5 harg5 arg6 harg6 arg7 harg7 arg8 harg8 arg9 harg9 arg10 harg10 arg11 harg11 arg12 harg12 arg13 harg13 arg14 harg14 v43 k0_t2 v3583 v3605 v3808 v3811 v4202 v4203 v4204 v4225 v6226 v7168 v7172 v7173 v7189) := by
  rw [k0_part89_eq_skeleton]; unfold k0_part89_skel
  exact keeps_bind (keeps_load h.r14) fun _ =>
    keeps_bind (keeps_store h.w14) fun _ =>
    keeps_bind (keeps_load h.r3) fun _ =>
    keeps_bind (keeps_load h.r13) fun _ =>
    keeps_bind (keeps_store h.w13) fun _ =>
    keeps_bind (keeps_load h.r14) fun _ =>
    keeps_bind (keeps_store h.w14) fun _ =>
    keeps_pure _

theorem keeps_k0_part92 {c : Dev nD} {A : sProp 𝕄} (h : Held c A arg1 arg2 arg3 arg4 arg5 arg6 arg7 arg8 arg9 arg10 arg11 arg12 arg13 arg14) (v43 : FVec F S64x256 .f32) (k0_t2 : Fin k0_t2_loop.trips) (v3583 : BitVec 32) (v4228 : FVec F S64x1 .f32) (v4229 : FVec F S64x1 .f32) (v4250 : FVec F S64x128 .f32) (v6233 : FVec F S64x128 .f32) (v7302 : FVec F S64x256 .f32) (v7303 : FVec F S64x128 .f32) (v7307 : FVec F S64x128 .f32) (v7308 : FVec F S64x1 .f32) (v7318 : FVec F S64x1 .f32) :
    Keeps c A (k0_part92 (F := F) i arg1 harg1 arg2 harg2 arg3 harg3 arg4 harg4 arg5 harg5 arg6 harg6 arg7 harg7 arg8 harg8 arg9 harg9 arg10 harg10 arg11 harg11 arg12 harg12 arg13 harg13 arg14 harg14 v43 k0_t2 v3583 v4228 v4229 v4250 v6233 v7302 v7303 v7307 v7308 v7318) := by
  rw [k0_part92_eq_skeleton]; unfold k0_part92_skel
  exact keeps_bind (keeps_load h.r14) fun _ =>
    keeps_bind (keeps_store h.w14) fun _ =>
    keeps_bind (keeps_load h.r12) fun _ =>
    keeps_bind (keeps_store h.w12) fun _ =>
    keeps_bind (keeps_load h.r13) fun _ =>
    keeps_bind (keeps_store h.w13) fun _ =>
    keeps_bind (keeps_load h.r14) fun _ =>
    keeps_bind (keeps_store h.w14) fun _ =>
    keeps_pure _

theorem keeps_k0_part161 {c : Dev nD} {A : sProp 𝕄} (h : Held c A arg1 arg2 arg3 arg4 arg5 arg6 arg7 arg8 arg9 arg10 arg11 arg12 arg13 arg14) (v2661 : FVec F S128x128 .f32) (v2663 : FVec F S128x128 .f32) (v2665 : FVec F S128x128 .f32) (v2667 : FVec F S128x128 .f32) (v2669 : FVec F S128x128 .f32) (v2671 : FVec F S128x128 .f32) (v2673 : FVec F S128x128 .f32) :
    Keeps c A (k0_part161 (F := F) i arg1 harg1 arg2 harg2 arg3 harg3 arg4 harg4 arg5 harg5 arg6 harg6 arg7 harg7 arg8 harg8 arg9 harg9 arg10 harg10 arg11 harg11 arg12 harg12 arg13 harg13 arg14 harg14 v2661 v2663 v2665 v2667 v2669 v2671 v2673) := by
  rw [k0_part161_eq_skeleton]; unfold k0_part161_skel
  exact keeps_bind (keeps_load h.r13) fun _ =>
    keeps_bind (keeps_load h.r13) fun _ =>
    keeps_bind (keeps_load h.r13) fun _ =>
    keeps_bind (keeps_load h.r13) fun _ =>
    keeps_bind (keeps_load h.r13) fun _ =>
    keeps_bind (keeps_load h.r13) fun _ =>
    keeps_bind (keeps_load h.r13) fun _ =>
    keeps_pure _

theorem keeps_k0_part164 {c : Dev nD} {A : sProp 𝕄} (h : Held c A arg1 arg2 arg3 arg4 arg5 arg6 arg7 arg8 arg9 arg10 arg11 arg12 arg13 arg14) (v2661 : FVec F S128x128 .f32) (v2679 : FVec F S128x128 .f32) (v2731 : FVec F S64x128 .f32) (v2735 : FVec F S64x128 .f32) (v2739 : FVec F S64x128 .f32) (v2743 : FVec F S192x128 .f32) :
    Keeps c A (k0_part164 (F := F) i arg1 harg1 arg2 harg2 arg3 harg3 arg4 harg4 arg5 harg5 arg6 harg6 arg7 harg7 arg8 harg8 arg9 harg9 arg10 harg10 arg11 harg11 arg12 harg12 arg13 harg13 arg14 harg14 v2661 v2679 v2731 v2735 v2739 v2743) := by
  rw [k0_part164_eq_skeleton]; unfold k0_part164_skel
  exact keeps_bind (keeps_load h.r14) fun _ =>
    keeps_bind (keeps_load h.r14) fun _ =>
    keeps_bind (keeps_load h.r14) fun _ =>
    keeps_bind (keeps_load h.r9) fun _ =>
    keeps_bind (keeps_load h.r11) fun _ =>
    keeps_bind (keeps_store h.w11) fun _ =>
    keeps_bind (keeps_load h.r7) fun _ =>
    keeps_bind (keeps_load h.r7) fun _ =>
    keeps_pure _

theorem keeps_k0_part167 {c : Dev nD} {A : sProp 𝕄} (h : Held c A arg1 arg2 arg3 arg4 arg5 arg6 arg7 arg8 arg9 arg10 arg11 arg12 arg13 arg14) (v2671 : FVec F S128x128 .f32) (v2695 : FVec F S128x128 .f32) (v2699 : FVec F S128x128 .f32) (v2759 : FVec F S192x128 .f32) (v2763 : FVec F S192x128 .f32) (v2876 : FVec F S128x128 .f32) :
    Keeps c A (k0_part167 (F := F) i arg1 harg1 arg2 harg2 arg3 harg3 arg4 harg4 arg5 harg5 arg6 harg6 arg7 harg7 arg8 harg8 arg9 harg9 arg10 harg10 arg11 harg11 arg12 harg12 arg13 harg13 arg14 harg14 v2671 v2695 v2699 v2759 v2763 v2876) := by
  rw [k0_part167_eq_skeleton]; unfold k0_part167_skel
  exact keeps_bind (keeps_load h.r11) fun _ =>
    keeps_bind (keeps_store h.w11) fun _ =>
    keeps_bind (keeps_load h.r7) fun _ =>
    keeps_bind (keeps_load h.r7) fun _ =>
    keeps_bind (keeps_store h.w7) fun _ =>
    keeps_bind (keeps_load h.r9) fun _ =>
    keeps_bind (keeps_load h.r11) fun _ =>
    keeps_bind (keeps_store h.w11) fun _ =>
    keeps_bind (keeps_load h.r7) fun _ =>
    keeps_bind (keeps_load h.r7) fun _ =>
    keeps_pure _

theorem keeps_k0_part170 {c : Dev nD} {A : sProp 𝕄} (h : Held c A arg1 arg2 arg3 arg4 arg5 arg6 arg7 arg8 arg9 arg10 arg11 arg12 arg13 arg14) (v2967 : FVec F S128x128 .f32) (v2969 : FVec F S128x128 .f32) (v2971 : FVec F S128x128 .f32) (v2973 : FVec F S128x128 .f32) (v2975 : FVec F S128x128 .f32) (v2977 : FVec F S128x128 .f32) (v2981 : FVec F S128x128 .bf16) (v2982 : FVec F S128x128 .bf16) :
    Keeps c A (k0_part170 (F := F) i arg1 harg1 arg2 harg2 arg3 harg3 arg4 harg4 arg5 harg5 arg6 harg6 arg7 harg7 arg8 harg8 arg9 harg9 arg10 harg10 arg11 harg11 arg12 harg12 arg13 harg13 arg14 harg14 v2967 v2969 v2971 v2973 v2975 v2977 v2981 v2982) := by
  rw [k0_part170_eq_skeleton]; unfold k0_part170_skel
  exact keeps_bind (keeps_load h.r13) fun _ =>
    keeps_bind (keeps_load h.r13) fun _ =>
    keeps_bind (keeps_load h.r13) fun _ =>
    keeps_bind (keeps_load h.r13) fun _ =>
    keeps_bind (keeps_load h.r13) fun _ =>
    keeps_bind (keeps_load h.r13) fun _ =>
    keeps_pure _

theorem keeps_k0_part173 {c : Dev nD} {A : sProp 𝕄} (h : Held c A arg1 arg2 arg3 arg4 arg5 arg6 arg7 arg8 arg9 arg10 arg11 arg12 arg13 arg14) (v2965 : FVec F S128x128 .f32) (v2983 : FVec F S128x128 .f32) (v3035 : FVec F S64x128 .f32) (v3039 : FVec F S64x128 .f32) (v3043 : FVec F S64x128 .f32) (v3047 : FVec F S192x128 .f32) (v3065 : FVec F S192x64 .bf16) :
    Keeps c A (k0_part173 (F := F) i arg1 harg1 arg2 harg2 arg3 harg3 arg4 harg4 arg5 harg5 arg6 harg6 arg7 harg7 arg8 harg8 arg9 harg9 arg10 harg10 arg11 harg11 arg12 harg12 arg13 harg13 arg14 harg14 v2965 v2983 v3035 v3039 v3043 v3047 v3065) := by
  rw [k0_part173_eq_skeleton]; unfold k0_part173_skel
  exact keeps_bind (keeps_load h.r14) fun _ =>
    keeps_bind (keeps_load h.r14) fun _ =>
    keeps_bind (keeps_load h.r9) fun _ =>
    keeps_bind (keeps_load h.r11) fun _ =>
    keeps_bind (keeps_store h.w11) fun _ =>
    keeps_bind (keeps_load h.r7) fun _ =>
    keeps_bind (keeps_load h.r7) fun _ =>
    keeps_bind (keeps_store h.w7) fun _ =>
    keeps_pure _

theorem keeps_k0_part176 {c : Dev nD} {A : sProp 𝕄} (h : Held c A arg1 arg2 arg3 arg4 arg5 arg6 arg7 arg8 arg9 arg10 arg11 arg12 arg13 arg14) (v2975 : FVec F S128x128 .f32) (v2999 : FVec F S128x128 .f32) (v3003 : FVec F S128x128 .f32) (v3063 : FVec F S192x128 .f32) (v3067 : FVec F S192x128 .f32) (v3180 : FVec F S128x128 .f32) (v3181 : Vec F S1x128x128 .f32) :
    Keeps c A (k0_part176 (F := F) i arg1 harg1 arg2 harg2 arg3 harg3 arg4 harg4 arg5 harg5 arg6 harg6 arg7 harg7 arg8 harg8 arg9 harg9 arg10 harg10 arg11 harg11 arg12 harg12 arg13 harg13 arg14 harg14 v2975 v2999 v3003 v3063 v3067 v3180 v3181) := by
  rw [k0_part176_eq_skeleton]; unfold k0_part176_skel
  exact keeps_bind (keeps_store h.w11) fun _ =>
    keeps_bind (keeps_load h.r7) fun _ =>
    keeps_bind (keeps_load h.r7) fun _ =>
    keeps_bind (keeps_store h.w7) fun _ =>
    keeps_bind (keeps_load h.r9) fun _ =>
    keeps_bind (keeps_load h.r11) fun _ =>
    keeps_bind (keeps_store h.w11) fun _ =>
    keeps_bind (keeps_load h.r7) fun _ =>
    keeps_bind (keeps_load h.r7) fun _ =>
    keeps_bind (keeps_store h.w7) fun _ =>
    keeps_pure _

theorem keeps_k0_part179 {c : Dev nD} {A : sProp 𝕄} (h : Held c A arg1 arg2 arg3 arg4 arg5 arg6 arg7 arg8 arg9 arg10 arg11 arg12 arg13 arg14) (v3271 : FVec F S128x128 .f32) (v3273 : FVec F S128x128 .f32) (v3275 : FVec F S128x128 .f32) (v3277 : FVec F S128x128 .f32) (v3279 : FVec F S128x128 .f32) (v3281 : FVec F S128x128 .f32) (v3283 : FVec F S128x128 .f32) :
    Keeps c A (k0_part179 (F := F) i arg1 harg1 arg2 harg2 arg3 harg3 arg4 harg4 arg5 harg5 arg6 harg6 arg7 harg7 arg8 harg8 arg9 harg9 arg10 harg10 arg11 harg11 arg12 harg12 arg13 harg13 arg14 harg14 v3271 v3273 v3275 v3277 v3279 v3281 v3283) := by
  rw [k0_part179_eq_skeleton]; unfold k0_part179_skel
  exact keeps_bind (keeps_load h.r13) fun _ =>
    keeps_bind (keeps_load h.r13) fun _ =>
    keeps_bind (keeps_load h.r13) fun _ =>
    keeps_bind (keeps_load h.r13) fun _ =>
    keeps_bind (keeps_load h.r13) fun _ =>
    keeps_bind (keeps_load h.r13) fun _ =>
    keeps_bind (keeps_load h.r13) fun _ =>
    keeps_pure _

theorem keeps_k0_part182 {c : Dev nD} {A : sProp 𝕄} (h : Held c A arg1 arg2 arg3 arg4 arg5 arg6 arg7 arg8 arg9 arg10 arg11 arg12 arg13 arg14) (v3269 : FVec F S128x128 .f32) (v3287 : FVec F S128x128 .f32) (v3343 : FVec F S64x128 .f32) (v3347 : FVec F S64x128 .f32) (v3351 : FVec F S192x128 .f32) :
    Keeps c A (k0_part182 (F := F) i arg1 harg1 arg2 harg2 arg3 harg3 arg4 harg4 arg5 harg5 arg6 harg6 arg7 harg7 arg8 harg8 arg9 harg9 arg10 harg10 arg11 harg11 arg12 harg12 arg13 harg13 arg14 harg14 v3269 v3287 v3343 v3347 v3351) := by
  rw [k0_part182_eq_skeleton]; unfold k0_part182_skel
  exact keeps_bind (keeps_load h.r14) fun _ =>
    keeps_bind (keeps_load h.r14) fun _ =>
    keeps_bind (keeps_load h.r9) fun _ =>
    keeps_bind (keeps_load h.r11) fun _ =>
    keeps_bind (keeps_store h.w11) fun _ =>
    keeps_bind (keeps_load h.r7) fun _ =>
    keeps_bind (keeps_load h.r7) fun _ =>
    keeps_bind (keeps_store h.w7) fun _ =>
    keeps_bind (keeps_load h.r9) fun _ =>
    keeps_pure _

theorem keeps_k0_part185 {c : Dev nD} {A : sProp 𝕄} (h : Held c A arg1 arg2 arg3 arg4 arg5 arg6 arg7 arg8 arg9 arg10 arg11 arg12 arg13 arg14) (v3279 : FVec F S128x128 .f32) (v3303 : FVec F S128x128 .f32) (v3307 : FVec F S128x128 .f32) (v3367 : FVec F S192x128 .f32) (v3371 : FVec F S192x128 .f32) (c0_i32_1575 : BitVec 32) :
    Keeps c A (k0_part185 (F := F) i arg1 harg1 arg2 harg2 arg3 harg3 arg4 harg4 arg5 harg5 arg6 harg6 arg7 harg7 arg8 harg8 arg9 harg9 arg10 harg10 arg11 harg11 arg12 harg12 arg13 harg13 arg14 harg14 v3279 v3303 v3307 v3367 v3371 c0_i32_1575) := by
  rw [k0_part185_eq_skeleton]; unfold k0_part185_skel
  exact keeps_bind (keeps_load h.r7) fun _ =>
    keeps_bind (keeps_load h.r7) fun _ =>
    keeps_bind (keeps_store h.w7) fun _ =>
    keeps_bind (keeps_load h.r9) fun _ =>
    keeps_bind (keeps_load h.r11) fun _ =>
    keeps_bind (keeps_store h.w11) fun _ =>
    keeps_bind (keeps_load h.r7) fun _ =>
    keeps_bind (keeps_load h.r7) fun _ =>
    keeps_bind (keeps_store h.w7) fun _ =>
    keeps_bind (keeps_load h.r9) fun _ =>
    keeps_pure _

end Cert.Proof.Gdn

end
-- ==== Proof.Gdn.Body.lean ====
/- The two loops and the whole body of the gated delta rule keep what holds its operands. -/
module

public import proofs.«01_k».proof.Proof.Gen.KernelIdeal.Skeleton
public import proofs.«01_k».proof.Proof.Gdn.Parts1
public import proofs.«01_k».proof.Proof.Gdn.Parts2
public import proofs.«01_k».proof.Proof.Gdn.Parts3

@[expose] public section

noncomputable section

namespace Cert.Proof.Gdn

open Cert.KernelIdeal Cert.KernelIdeal.Gen
open Idealize.ShloMosaic Idealize.ShloMosaic.TcCoe
open Idealize.SL Idealize.SL.RA Idealize.SL.BI Idealize.SL.Sem

variable {F : FTy → Type} [FloatOps F]

local notation "𝕄" => MT nD τ sig Unit (Elt F) ℕ (UR sig nD τ) ℕ

variable {i : grid0.Coords}
  {arg1 : Memref sig .tc .vmem S1x2112x512 .bf16} {harg1 : arg1.IsWhole}
  {arg2 : Memref sig .tc .vmem S1x2112x512 .bf16} {harg2 : arg2.IsWhole}
  {arg3 : Memref sig .tc .vmem S1x2112x512 .bf16} {harg3 : arg3.IsWhole}
  {arg4 : Memref sig .tc .vmem S1x2112x128 .f32} {harg4 : arg4.IsWhole}
  {arg5 : Memref sig .tc .vmem S1x128 .f32} {harg5 : arg5.IsWhole}
  {arg6 : Memref sig .tc .vmem S1x128 .f32} {harg6 : arg6.IsWhole}
  {arg7 : Memref sig .tc .vmem S1x2112x512 .f32} {harg7 : arg7.IsWhole}
  {arg8 : Memref sig .tc .vmem S2112x128 .f32} {harg8 : arg8.IsWhole}
  {arg9 : Memref sig .tc .vmem S2112x128 .f32} {harg9 : arg9.IsWhole}
  {arg10 : Memref sig .tc .vmem S33x4x128 .f32} {harg10 : arg10.IsWhole}
  {arg11 : Memref sig .tc .vmem S8x128x128 .f32} {harg11 : arg11.IsWhole}
  {arg12 : Memref sig .tc .vmem S2x24x64x128 .f32} {harg12 : arg12.IsWhole}
  {arg13 : Memref sig .tc .vmem S2x24x128x128 .bf16} {harg13 : arg13.IsWhole}
  {arg14 : Memref sig .tc .vmem S2x24x192x64 .bf16} {harg14 : arg14.IsWhole}

theorem keeps_k0_part1 {c : Dev nD} {A : sProp 𝕄} (h : Held c A arg1 arg2 arg3 arg4 arg5 arg6 arg7 arg8 arg9 arg10 arg11 arg12 arg13 arg14) (v12 : FVec F S128x64 .f32) (c0_i32 : BitVec 32) (c1_i32 : BitVec 32) (k0_t1 : Fin k0_t1_loop.trips) :
    Keeps c A (k0_part1 (F := F) i arg1 harg1 arg2 harg2 arg3 harg3 arg4 harg4 arg5 harg5 arg6 harg6 arg7 harg7 arg8 harg8 arg9 harg9 arg10 harg10 arg11 harg11 arg12 harg12 arg13 harg13 arg14 harg14 v12 c0_i32 c1_i32 k0_t1) := by
  rw [k0_part1_eq_skeleton]; unfold k0_part1_skel
  exact keeps_bind (keeps_load h.r4) fun _ =>
    keeps_bind (keeps_load h.r8) fun _ =>
    keeps_bind (keeps_store h.w8) fun _ =>
    keeps_bind (keeps_load h.r5) fun _ =>
    keeps_bind (keeps_load h.r6) fun _ =>
    keeps_pure _

theorem keeps_k0_t1_body {c : Dev nD} {A : sProp 𝕄} (h : Held c A arg1 arg2 arg3 arg4 arg5 arg6 arg7 arg8 arg9 arg10 arg11 arg12 arg13 arg14)  (k0_t1 : Fin k0_t1_loop.trips) (u : Unit) :
    Keeps c A (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 k0_t1 u) := by
  unfold k0_t1_body
  refine keeps_bind (keeps_k0_part1 (h := h) ..) ?_
  rintro ⟨_, _, _⟩
  refine keeps_bind (keeps_load h.r9) fun _ => ?_
  refine keeps_bind (keeps_store h.w9) fun _ => ?_
  refine keeps_bind (keeps_load h.r10) fun _ => ?_
  refine keeps_bind (keeps_store h.w10) fun _ => ?_
  refine keeps_pure _

theorem keeps_k0_part97 {c : Dev nD} {A : sProp 𝕄} (h : Held c A arg1 arg2 arg3 arg4 arg5 arg6 arg7 arg8 arg9 arg10 arg11 arg12 arg13 arg14) :
    Keeps c A (k0_part97 (F := F) i arg1 harg1 arg2 harg2 arg3 harg3 arg4 harg4 arg5 harg5 arg6 harg6 arg7 harg7 arg8 harg8 arg9 harg9 arg10 harg10 arg11 harg11 arg12 harg12 arg13 harg13 arg14 harg14) := by
  rw [k0_part97_eq_skeleton]; unfold k0_part97_skel
  refine keeps_bind (keeps_for _ _ _ _ _ _ fun _ _ => keeps_k0_t1_body (h := h) ..) fun _ => ?_
  refine keeps_bind (keeps_load h.r11) fun _ => ?_
  refine keeps_bind (keeps_store h.w11) fun _ => ?_
  refine keeps_bind (keeps_load h.r7) fun _ => ?_
  refine keeps_bind (keeps_store h.w7) fun _ => ?_
  refine keeps_pure _

theorem keeps_k0_part187 {c : Dev nD} {A : sProp 𝕄} (h : Held c A arg1 arg2 arg3 arg4 arg5 arg6 arg7 arg8 arg9 arg10 arg11 arg12 arg13 arg14) :
    Keeps c A (k0_part187 (F := F) i arg1 harg1 arg2 harg2 arg3 harg3 arg4 harg4 arg5 harg5 arg6 harg6 arg7 harg7 arg8 harg8 arg9 harg9 arg10 harg10 arg11 harg11 arg12 harg12 arg13 harg13 arg14 harg14) := by
  rw [k0_part187_eq_skeleton]; unfold k0_part187_skel
  refine keeps_bind (keeps_k0_part97 (h := h) ..) ?_
  rintro ⟨_, _, _, _, _, _⟩
  refine keeps_bind (keeps_k0_part98 (h := h) ..) ?_
  rintro ⟨_, _, _, _, _, _, _, _, _, _, _, _, _, _, _, _, _, _, _, _⟩
  refine keeps_bind (keeps_k0_part99 (h := h) ..) ?_
  rintro ⟨_, _, _, _, _, _, _, _, _, _, _, _⟩
  refine keeps_bind (keeps_k0_part100 (h := h) ..) ?_
  rintro ⟨_, _, _, _, _, _, _, _, _, _, _, _⟩
  refine keeps_bind (keeps_k0_part101 (h := h) ..) ?_
  rintro ⟨_, _, _, _, _, _, _, _, _, _, _, _⟩
  refine keeps_bind (keeps_k0_part102 (h := h) ..) ?_
  rintro ⟨_, _, _, _, _, _, _, _, _, _, _, _⟩
  refine keeps_bind (keeps_k0_part103 (h := h) ..) ?_
  rintro ⟨_, _, _, _, _, _, _, _, _, _, _, _⟩
  refine keeps_bind (keeps_k0_part104 (h := h) ..) ?_
  rintro ⟨_, _, _, _, _, _, _, _, _, _, _, _, _, _, _, _, _⟩
  refine keeps_bind (keeps_k0_part105 (h := h) ..) ?_
  rintro ⟨_, _, _, _, _, _, _, _, _, _, _, _, _, _, _, _, _⟩
  refine keeps_bind (keeps_k0_part106 (h := h) ..) ?_
  rintro ⟨_, _, _, _, _, _, _, _, _, _, _, _, _, _⟩
  refine keeps_bind (keeps_k0_part107 (h := h) ..) ?_
  rintro ⟨_, _, _, _, _, _, _, _, _, _, _, _, _, _⟩
  refine keeps_bind (keeps_k0_part108 (h := h) ..) ?_
  rintro ⟨_, _, _, _, _, _, _, _, _, _, _, _, _, _⟩
  refine keeps_bind (keeps_k0_part109 (h := h) ..) ?_
  rintro ⟨_, _, _, _, _, _, _, _, _, _, _, _, _, _, _, _⟩
  refine keeps_bind (keeps_k0_part110 (h := h) ..) ?_
  rintro ⟨_, _, _, _, _, _, _, _, _, _, _, _, _⟩
  refine keeps_bind (keeps_k0_part111 (h := h) ..) ?_
  rintro ⟨_, _, _, _, _, _, _, _, _, _, _, _, _, _, _, _⟩
  refine keeps_bind (keeps_k0_part112 (h := h) ..) ?_
  rintro ⟨_, _, _, _, _, _, _, _, _, _⟩
  refine keeps_bind (keeps_k0_part113 (h := h) ..) ?_
  rintro ⟨_, _, _, _, _, _, _, _, _⟩
  refine keeps_bind (keeps_k0_part114 (h := h) ..) ?_
  rintro ⟨_, _, _, _, _, _, _, _, _⟩
  refine keeps_bind (keeps_k0_part115 (h := h) ..) ?_
  rintro ⟨_, _, _, _, _, _, _, _, _, _, _, _, _, _, _, _, _, _, _, _, _, _, _, _, _⟩
  refine keeps_bind (keeps_k0_part116 (h := h) ..) ?_
  rintro ⟨_, _, _, _, _, _, _, _, _, _⟩
  refine keeps_bind (keeps_k0_part117 (h := h) ..) ?_
  rintro ⟨_, _, _, _, _, _, _, _⟩
  refine keeps_bind (keeps_k0_part118 (h := h) ..) ?_
  rintro ⟨_, _, _, _, _, _⟩
  refine keeps_bind (keeps_k0_part119 (h := h) ..) ?_
  rintro ⟨_, _, _, _, _, _, _⟩
  refine keeps_bind (keeps_k0_part120 (h := h) ..) ?_
  rintro ⟨_, _, _, _, _, _, _, _, _⟩
  refine keeps_bind (keeps_k0_part121 (h := h) ..) ?_
  rintro ⟨_, _, _, _, _, _, _, _, _, _⟩
  refine keeps_bind (keeps_k0_part122 (h := h) ..) ?_
  rintro ⟨_, _, _, _, _, _, _, _⟩
  refine keeps_bind (keeps_k0_part123 (h := h) ..) ?_
  rintro ⟨_, _, _, _, _, _, _⟩
  refine keeps_bind (keeps_k0_part124 (h := h) ..) ?_
  rintro ⟨_, _, _, _, _, _, _⟩
  refine keeps_bind (keeps_k0_part125 (h := h) ..) ?_
  rintro ⟨_, _, _, _, _, _, _, _, _⟩
  refine keeps_bind (keeps_k0_part126 (h := h) ..) ?_
  rintro ⟨_, _, _, _, _, _, _⟩
  refine keeps_bind (keeps_k0_part127 (h := h) ..) ?_
  rintro ⟨_, _, _, _, _, _, _⟩
  refine keeps_bind (keeps_k0_part128 (h := h) ..) ?_
  rintro ⟨_, _, _, _, _, _, _, _, _⟩
  refine keeps_bind (keeps_k0_part129 (h := h) ..) ?_
  rintro ⟨_, _, _, _, _, _, _, _⟩
  refine keeps_bind (keeps_k0_part130 (h := h) ..) ?_
  rintro ⟨_, _, _, _, _, _, _, _⟩
  refine keeps_bind (keeps_k0_part131 (h := h) ..) ?_
  rintro ⟨_, _⟩
  refine keeps_bind (keeps_k0_part132 (h := h) ..) ?_
  rintro ⟨_, _⟩
  refine keeps_bind (keeps_k0_part133 (h := h) ..) ?_
  rintro ⟨_, _, _, _, _, _⟩
  refine keeps_bind (keeps_k0_part134 (h := h) ..) ?_
  rintro ⟨_, _, _, _⟩
  refine keeps_bind (keeps_k0_part135 (h := h) ..) ?_
  rintro ⟨_, _, _, _⟩
  refine keeps_bind (keeps_k0_part136 (h := h) ..) ?_
  rintro ⟨_, _⟩
  refine keeps_bind (keeps_k0_part137 (h := h) ..) fun _ => ?_
  refine keeps_bind (keeps_k0_part138 (h := h) ..) ?_
  rintro ⟨_, _, _, _, _, _⟩
  refine keeps_bind (keeps_k0_part139 (h := h) ..) ?_
  rintro ⟨_, _, _⟩
  refine keeps_bind (keeps_k0_part140 (h := h) ..) ?_
  rintro ⟨_, _, _, _, _⟩
  refine keeps_bind (keeps_k0_part141 (h := h) ..) ?_
  rintro ⟨_, _, _⟩
  refine keeps_bind (keeps_k0_part142 (h := h) ..) ?_
  rintro ⟨_, _⟩
  refine keeps_bind (keeps_k0_part143 (h := h) ..) ?_
  rintro ⟨_, _, _, _, _⟩
  refine keeps_bind (keeps_k0_part144 (h := h) ..) ?_
  rintro ⟨_, _, _⟩
  refine keeps_bind (keeps_k0_part145 (h := h) ..) ?_
  rintro ⟨_, _, _, _⟩
  refine keeps_bind (keeps_k0_part146 (h := h) ..) ?_
  rintro ⟨_, _, _⟩
  refine keeps_bind (keeps_k0_part147 (h := h) ..) ?_
  rintro ⟨_, _, _, _⟩
  refine keeps_bind (keeps_k0_part148 (h := h) ..) ?_
  rintro ⟨_, _, _, _, _⟩
  refine keeps_bind (keeps_k0_part149 (h := h) ..) ?_
  rintro ⟨_, _⟩
  refine keeps_bind (keeps_k0_part150 (h := h) ..) ?_
  rintro ⟨_, _⟩
  refine keeps_bind (keeps_k0_part151 (h := h) ..) ?_
  rintro ⟨_, _⟩
  refine keeps_bind (keeps_k0_part152 (h := h) ..) ?_
  rintro ⟨_, _, _, _, _⟩
  refine keeps_bind (keeps_k0_part153 (h := h) ..) ?_
  rintro ⟨_, _, _, _, _⟩
  refine keeps_bind (keeps_k0_part154 (h := h) ..) ?_
  rintro ⟨_, _⟩
  refine keeps_bind (keeps_k0_part155 (h := h) ..) ?_
  rintro ⟨_, _⟩
  refine keeps_bind (keeps_k0_part156 (h := h) ..) ?_
  rintro ⟨_, _, _⟩
  refine keeps_pure _

theorem keeps_k0_part95 {c : Dev nD} {A : sProp 𝕄} (h : Held c A arg1 arg2 arg3 arg4 arg5 arg6 arg7 arg8 arg9 arg10 arg11 arg12 arg13 arg14) (v25 : IVec S64x128 32) (v28 : IVec S64x128 32) (v30 : IVec S64x128 1) (v37 : IVec S128x128 1) (v38 : IVec S64x128 1) (v39 : IVec S64x128 1) (v40 : IVec S64x128 1) (v41 : IVec S64x128 1) (v42 : FVec F S64x128 .bf16) (c0_i32_962 : BitVec 32) (c1_i32_963 : BitVec 32) (k0_t2 : Fin k0_t2_loop.trips) :
    Keeps c A (k0_part95 (F := F) i arg1 harg1 arg2 harg2 arg3 harg3 arg4 harg4 arg5 harg5 arg6 harg6 arg7 harg7 arg8 harg8 arg9 harg9 arg10 harg10 arg11 harg11 arg12 harg12 arg13 harg13 arg14 harg14 v25 v28 v30 v37 v38 v39 v40 v41 v42 c0_i32_962 c1_i32_963 k0_t2) := by
  rw [k0_part95_eq_skeleton]; unfold k0_part95_skel
  refine keeps_bind (keeps_k0_part2 (h := h) ..) ?_
  rintro ⟨_, _, _, _, _, _, _, _, _⟩
  refine keeps_bind (keeps_k0_part3 (h := h) ..) ?_
  rintro ⟨_, _, _, _, _, _, _, _, _, _, _, _⟩
  refine keeps_bind (keeps_k0_part4 (h := h) ..) ?_
  rintro ⟨_, _, _, _, _, _, _, _, _, _, _, _, _⟩
  refine keeps_bind (keeps_k0_part5 (h := h) ..) ?_
  rintro ⟨_, _, _, _, _, _, _, _, _, _, _, _, _⟩
  refine keeps_bind (keeps_k0_part6 (h := h) ..) ?_
  rintro ⟨_, _, _, _, _, _, _, _, _, _, _, _, _⟩
  refine keeps_bind (keeps_k0_part7 (h := h) ..) ?_
  rintro ⟨_, _, _, _, _, _, _, _, _, _, _, _, _⟩
  refine keeps_bind (keeps_k0_part8 (h := h) ..) ?_
  rintro ⟨_, _, _, _, _, _, _, _, _, _, _, _, _⟩
  refine keeps_bind (keeps_k0_part9 (h := h) ..) ?_
  rintro ⟨_, _, _, _, _, _, _, _, _, _, _⟩
  refine keeps_bind (keeps_k0_part10 (h := h) ..) ?_
  rintro ⟨_, _, _, _, _, _, _, _, _⟩
  refine keeps_bind (keeps_k0_part11 (h := h) ..) ?_
  rintro ⟨_, _, _, _, _, _, _, _, _, _, _, _, _, _, _⟩
  refine keeps_bind (keeps_k0_part12 (h := h) ..) ?_
  rintro ⟨_, _, _, _, _, _, _, _, _, _⟩
  refine keeps_bind (keeps_k0_part13 (h := h) ..) ?_
  rintro ⟨_, _, _, _, _, _, _, _, _, _, _, _, _, _, _, _⟩
  refine keeps_bind (keeps_k0_part14 (h := h) ..) ?_
  rintro ⟨_, _, _, _, _, _, _, _, _, _, _, _, _, _, _, _⟩
  refine keeps_bind (keeps_k0_part15 (h := h) ..) ?_
  rintro ⟨_, _, _, _, _, _, _, _, _, _, _, _, _, _⟩
  refine keeps_bind (keeps_k0_part16 (h := h) ..) ?_
  rintro ⟨_, _, _, _, _, _, _, _, _, _, _, _, _, _⟩
  refine keeps_bind (keeps_k0_part17 (h := h) ..) ?_
  rintro ⟨_, _, _, _, _, _, _, _, _, _, _, _, _, _⟩
  refine keeps_bind (keeps_k0_part18 (h := h) ..) ?_
  rintro ⟨_, _, _, _, _, _, _, _, _, _, _, _, _, _, _, _, _⟩
  refine keeps_bind (keeps_k0_part19 (h := h) ..) ?_
  rintro ⟨_, _, _, _, _, _, _, _, _⟩
  refine keeps_bind (keeps_k0_part20 (h := h) ..) ?_
  rintro ⟨_, _, _, _, _, _, _, _⟩
  refine keeps_bind (keeps_k0_part21 (h := h) ..) ?_
  rintro ⟨_, _, _, _, _, _, _, _⟩
  refine keeps_bind (keeps_k0_part22 (h := h) ..) ?_
  rintro ⟨_, _, _, _, _, _, _⟩
  refine keeps_bind (keeps_k0_part23 (h := h) ..) ?_
  rintro ⟨_, _⟩
  refine keeps_bind (keeps_k0_part24 (h := h) ..) ?_
  rintro ⟨_, _⟩
  refine keeps_bind (keeps_k0_part25 (h := h) ..) ?_
  rintro ⟨_, _⟩
  refine keeps_bind (keeps_k0_part26 (h := h) ..) ?_
  rintro ⟨_, _⟩
  refine keeps_bind (keeps_k0_part27 (h := h) ..) ?_
  rintro ⟨_, _⟩
  refine keeps_bind (keeps_k0_part28 (h := h) ..) ?_
  rintro ⟨_, _, _⟩
  refine keeps_bind (keeps_k0_part29 (h := h) ..) ?_
  rintro ⟨_, _, _, _, _, _, _⟩
  refine keeps_bind (keeps_k0_part30 (h := h) ..) ?_
  rintro ⟨_, _, _, _, _, _, _, _, _, _, _, _, _, _, _, _, _, _, _⟩
  refine keeps_bind (keeps_k0_part31 (h := h) ..) ?_
  rintro ⟨_, _, _, _, _, _, _, _, _, _, _, _, _, _, _⟩
  refine keeps_bind (keeps_k0_part32 (h := h) ..) ?_
  rintro ⟨_, _, _, _, _, _, _, _, _, _⟩
  refine keeps_bind (keeps_k0_part33 (h := h) ..) ?_
  rintro ⟨_, _, _, _, _, _, _, _, _⟩
  refine keeps_bind (keeps_k0_part34 (h := h) ..) ?_
  rintro ⟨_, _, _, _, _, _, _, _, _⟩
  refine keeps_bind (keeps_k0_part35 (h := h) ..) ?_
  rintro ⟨_, _, _, _, _, _, _, _⟩
  refine keeps_bind (keeps_k0_part36 (h := h) ..) ?_
  rintro ⟨_, _, _, _, _, _, _⟩
  refine keeps_bind (keeps_k0_part37 (h := h) ..) ?_
  rintro ⟨_, _, _, _, _⟩
  refine keeps_bind (keeps_k0_part38 (h := h) ..) ?_
  rintro ⟨_, _⟩
  refine keeps_bind (keeps_k0_part39 (h := h) ..) fun _ => ?_
  refine keeps_bind (keeps_k0_part40 (h := h) ..) fun _ => ?_
  refine keeps_bind (keeps_k0_part41 (h := h) ..) ?_
  rintro ⟨_, _, _⟩
  refine keeps_bind (keeps_k0_part42 (h := h) ..) ?_
  rintro ⟨_, _⟩
  refine keeps_bind (keeps_k0_part43 (h := h) ..) ?_
  rintro ⟨_, _, _⟩
  refine keeps_bind (keeps_k0_part44 (h := h) ..) ?_
  rintro ⟨_, _, _, _, _, _, _⟩
  refine keeps_bind (keeps_k0_part45 (h := h) ..) ?_
  rintro ⟨_, _, _, _, _, _, _⟩
  refine keeps_bind (keeps_k0_part46 (h := h) ..) ?_
  rintro ⟨_, _, _, _, _, _, _, _, _⟩
  refine keeps_bind (keeps_k0_part47 (h := h) ..) ?_
  rintro ⟨_, _, _, _, _, _, _⟩
  refine keeps_bind (keeps_k0_part48 (h := h) ..) ?_
  rintro ⟨_, _, _, _, _, _, _, _⟩
  refine keeps_bind (keeps_k0_part49 (h := h) ..) ?_
  rintro ⟨_, _, _, _, _, _, _, _⟩
  refine keeps_bind (keeps_k0_part50 (h := h) ..) ?_
  rintro ⟨_, _, _, _, _, _, _, _, _, _⟩
  refine keeps_bind (keeps_k0_part51 (h := h) ..) ?_
  rintro ⟨_, _, _, _, _, _, _, _⟩
  refine keeps_bind (keeps_k0_part52 (h := h) ..) fun _ => ?_
  refine keeps_bind (keeps_k0_part53 (h := h) ..) fun _ => ?_
  refine keeps_bind (keeps_k0_part54 (h := h) ..) ?_
  rintro ⟨_, _⟩
  refine keeps_bind (keeps_k0_part55 (h := h) ..) fun _ => ?_
  refine keeps_bind (keeps_k0_part56 (h := h) ..) fun _ => ?_
  refine keeps_bind (keeps_k0_part57 (h := h) ..) ?_
  rintro ⟨_, _⟩
  refine keeps_bind (keeps_k0_part58 (h := h) ..) ?_
  rintro ⟨_, _, _, _, _, _, _, _⟩
  refine keeps_bind (keeps_k0_part59 (h := h) ..) ?_
  rintro ⟨_, _, _, _, _, _, _⟩
  refine keeps_bind (keeps_k0_part60 (h := h) ..) ?_
  rintro ⟨_, _, _, _, _, _, _, _, _⟩
  refine keeps_bind (keeps_k0_part61 (h := h) ..) ?_
  rintro ⟨_, _, _, _, _, _, _⟩
  refine keeps_pure _

theorem keeps_k0_part96 {c : Dev nD} {A : sProp 𝕄} (h : Held c A arg1 arg2 arg3 arg4 arg5 arg6 arg7 arg8 arg9 arg10 arg11 arg12 arg13 arg14) (v25 : IVec S64x128 32) (v28 : IVec S64x128 32) (v37 : IVec S128x128 1) (v43 : FVec F S64x256 .f32) (k0_t2 : Fin k0_t2_loop.trips) (v3583 : BitVec 32) (v3587 : BitVec 32) (v3591 : BitVec 32) (v3595 : BitVec 32) (v3600 : BitVec 32) (v3605 : BitVec 32) (v3610 : BitVec 32) (v3613 : FVec F S64x128 .bf16) (v3616 : FVec F S64x128 .bf16) (v3619 : FVec F S64x128 .bf16) (v3622 : FVec F S64x128 .bf16) (v3634 : FVec F S64x128 .bf16) (v3637 : FVec F S64x128 .bf16) (v3640 : FVec F S64x128 .bf16) (v3643 : FVec F S64x128 .bf16) (v3655 : FVec F S64x128 .bf16) (v3658 : FVec F S64x128 .bf16) (v3661 : FVec F S64x128 .bf16) (v3664 : FVec F S64x128 .bf16) (v3676 : FVec F S64x128 .bf16) (v3679 : FVec F S64x128 .bf16) (v3682 : FVec F S64x128 .bf16) (v3685 : FVec F S64x128 .bf16) (v3697 : FVec F S64x128 .bf16) (v3700 : FVec F S64x128 .bf16) (v3703 : FVec F S64x128 .bf16) (v3706 : FVec F S64x128 .bf16) (v3718 : FVec F S64x128 .bf16) (v3721 : FVec F S64x128 .bf16) (v3724 : FVec F S64x128 .bf16) (v3727 : FVec F S64x128 .bf16) (v3739 : FVec F S64x128 .bf16) (v3742 : FVec F S64x128 .bf16) (v3745 : FVec F S64x128 .bf16) (v3748 : FVec F S64x128 .bf16) (v3760 : FVec F S64x128 .bf16) (v3763 : FVec F S64x128 .bf16) (v3766 : FVec F S64x128 .bf16) (v3769 : FVec F S64x128 .bf16) (v3781 : FVec F S64x128 .bf16) (v3784 : FVec F S64x128 .bf16) (v3787 : FVec F S64x128 .bf16) (v3790 : FVec F S64x128 .bf16) (v3802 : FVec F S64x128 .bf16) (v3805 : FVec F S64x128 .bf16) (v3808 : FVec F S64x128 .bf16) (v3811 : FVec F S64x128 .bf16) (v3823 : FVec F S64x128 .bf16) (v3826 : FVec F S64x128 .bf16) (v3829 : FVec F S64x128 .bf16) (v3832 : FVec F S64x128 .bf16) (v3844 : FVec F S64x128 .bf16) (v3847 : FVec F S64x128 .bf16) (v3850 : FVec F S64x128 .bf16) (v3853 : FVec F S64x128 .bf16) (v3976 : FVec F S64x1 .f32) (v3977 : FVec F S64x1 .f32) (v3978 : FVec F S64x1 .f32) (v3979 : FVec F S64x1 .f32) (v3999 : FVec F S64x128 .f32) (v4000 : FVec F S64x128 .f32) (v4001 : FVec F S64x1 .f32) (v4002 : FVec F S64x1 .f32) (v4003 : FVec F S64x1 .f32) (v4004 : FVec F S64x1 .f32) (v4024 : FVec F S64x128 .f32) (v4025 : FVec F S64x128 .f32) (v4026 : FVec F S64x1 .f32) (v4027 : FVec F S64x1 .f32) (v4028 : FVec F S64x1 .f32) (v4029 : FVec F S64x1 .f32) (v4049 : FVec F S64x128 .f32) (v4050 : FVec F S64x128 .f32) (v4051 : FVec F S64x1 .f32) (v4052 : FVec F S64x1 .f32) (v4053 : FVec F S64x1 .f32) (v4054 : FVec F S64x1 .f32) (v4074 : FVec F S64x128 .f32) (v4075 : FVec F S64x128 .f32) (v4076 : FVec F S64x1 .f32) (v4077 : FVec F S64x1 .f32) (v4078 : FVec F S64x1 .f32) (v4079 : FVec F S64x1 .f32) (v4099 : FVec F S64x128 .f32) (v4100 : FVec F S64x128 .f32) (v4101 : FVec F S64x1 .f32) (v4102 : FVec F S64x1 .f32) (v4103 : FVec F S64x1 .f32) (v4104 : FVec F S64x1 .f32) (v4124 : FVec F S64x128 .f32) (v4125 : FVec F S64x128 .f32) (v4126 : FVec F S64x1 .f32) (v4127 : FVec F S64x1 .f32) (v4128 : FVec F S64x1 .f32) (v4129 : FVec F S64x1 .f32) (v4149 : FVec F S64x128 .f32) (v4150 : FVec F S64x128 .f32) (v4151 : FVec F S64x1 .f32) (v4152 : FVec F S64x1 .f32) (v4153 : FVec F S64x1 .f32) (v4154 : FVec F S64x1 .f32) (v4174 : FVec F S64x128 .f32) (v4175 : FVec F S64x128 .f32) (v4176 : FVec F S64x1 .f32) (v4177 : FVec F S64x1 .f32) (v4178 : FVec F S64x1 .f32) (v4179 : FVec F S64x1 .f32) (v4199 : FVec F S64x128 .f32) (v4200 : FVec F S64x128 .f32) (v4201 : FVec F S64x1 .f32) (v4202 : FVec F S64x1 .f32) (v4203 : FVec F S64x1 .f32) (v4204 : FVec F S64x1 .f32) (v4224 : FVec F S64x128 .f32) (v4225 : FVec F S64x128 .f32) (v4226 : FVec F S64x1 .f32) (v4227 : FVec F S64x1 .f32) (v4228 : FVec F S64x1 .f32) (v4229 : FVec F S64x1 .f32) (v4249 : FVec F S64x128 .f32) (v4250 : FVec F S64x128 .f32) (v4251 : FVec F S64x1 .f32) (v4252 : FVec F S64x1 .f32) (v4253 : FVec F S64x1 .f32) (v4254 : FVec F S64x1 .f32) (v4274 : FVec F S64x128 .f32) (v4275 : FVec F S64x128 .f32) (v5542 : FVec F S64x128 .f32) (v5972 : FVec F S64x128 .f32) (v5979 : FVec F S64x128 .f32) (v5986 : FVec F S64x128 .f32) (v5993 : FVec F S64x128 .f32) (v6000 : FVec F S64x128 .f32) (v6007 : FVec F S64x128 .f32) (v6014 : FVec F S64x128 .f32) (v6021 : FVec F S64x128 .f32) (v6028 : FVec F S64x128 .f32) (v6035 : FVec F S64x128 .f32) (v6042 : FVec F S64x128 .f32) (v6048 : FVec F S64x128 .f32) :
    Keeps c A (k0_part96 (F := F) i arg1 harg1 arg2 harg2 arg3 harg3 arg4 harg4 arg5 harg5 arg6 harg6 arg7 harg7 arg8 harg8 arg9 harg9 arg10 harg10 arg11 harg11 arg12 harg12 arg13 harg13 arg14 harg14 v25 v28 v37 v43 k0_t2 v3583 v3587 v3591 v3595 v3600 v3605 v3610 v3613 v3616 v3619 v3622 v3634 v3637 v3640 v3643 v3655 v3658 v3661 v3664 v3676 v3679 v3682 v3685 v3697 v3700 v3703 v3706 v3718 v3721 v3724 v3727 v3739 v3742 v3745 v3748 v3760 v3763 v3766 v3769 v3781 v3784 v3787 v3790 v3802 v3805 v3808 v3811 v3823 v3826 v3829 v3832 v3844 v3847 v3850 v3853 v3976 v3977 v3978 v3979 v3999 v4000 v4001 v4002 v4003 v4004 v4024 v4025 v4026 v4027 v4028 v4029 v4049 v4050 v4051 v4052 v4053 v4054 v4074 v4075 v4076 v4077 v4078 v4079 v4099 v4100 v4101 v4102 v4103 v4104 v4124 v4125 v4126 v4127 v4128 v4129 v4149 v4150 v4151 v4152 v4153 v4154 v4174 v4175 v4176 v4177 v4178 v4179 v4199 v4200 v4201 v4202 v4203 v4204 v4224 v4225 v4226 v4227 v4228 v4229 v4249 v4250 v4251 v4252 v4253 v4254 v4274 v4275 v5542 v5972 v5979 v5986 v5993 v6000 v6007 v6014 v6021 v6028 v6035 v6042 v6048) := by
  rw [k0_part96_eq_skeleton]; unfold k0_part96_skel
  refine keeps_bind (keeps_k0_part62 (h := h) ..) ?_
  rintro ⟨_, _, _, _, _, _⟩
  refine keeps_bind (keeps_k0_part63 (h := h) ..) ?_
  rintro ⟨_, _, _, _, _, _, _⟩
  refine keeps_bind (keeps_k0_part64 (h := h) ..) ?_
  rintro ⟨_, _, _, _, _, _, _, _⟩
  refine keeps_bind (keeps_k0_part65 (h := h) ..) ?_
  rintro ⟨_, _, _, _, _, _, _, _, _⟩
  refine keeps_bind (keeps_k0_part66 (h := h) ..) ?_
  rintro ⟨_, _, _, _⟩
  refine keeps_bind (keeps_k0_part67 (h := h) ..) ?_
  rintro ⟨_, _, _⟩
  refine keeps_bind (keeps_k0_part68 (h := h) ..) ?_
  rintro ⟨_, _, _, _, _⟩
  refine keeps_bind (keeps_k0_part69 (h := h) ..) ?_
  rintro ⟨_, _, _, _, _⟩
  refine keeps_bind (keeps_k0_part70 (h := h) ..) ?_
  rintro ⟨_, _, _⟩
  refine keeps_bind (keeps_k0_part71 (h := h) ..) ?_
  rintro ⟨_, _, _⟩
  refine keeps_bind (keeps_k0_part72 (h := h) ..) ?_
  rintro ⟨_, _, _, _⟩
  refine keeps_bind (keeps_k0_part73 (h := h) ..) ?_
  rintro ⟨_, _, _, _, _⟩
  refine keeps_bind (keeps_k0_part74 (h := h) ..) ?_
  rintro ⟨_, _, _, _⟩
  refine keeps_bind (keeps_k0_part75 (h := h) ..) fun _ => ?_
  refine keeps_bind (keeps_k0_part76 (h := h) ..) ?_
  rintro ⟨_, _, _, _, _, _⟩
  refine keeps_bind (keeps_k0_part77 (h := h) ..) ?_
  rintro ⟨_, _, _⟩
  refine keeps_bind (keeps_k0_part78 (h := h) ..) ?_
  rintro ⟨_, _, _, _⟩
  refine keeps_bind (keeps_k0_part79 (h := h) ..) ?_
  rintro ⟨_, _⟩
  refine keeps_bind (keeps_k0_part80 (h := h) ..) fun _ => ?_
  refine keeps_bind (keeps_k0_part81 (h := h) ..) ?_
  rintro ⟨_, _, _, _, _, _⟩
  refine keeps_bind (keeps_k0_part82 (h := h) ..) ?_
  rintro ⟨_, _, _⟩
  refine keeps_bind (keeps_k0_part83 (h := h) ..) ?_
  rintro ⟨_, _, _, _⟩
  refine keeps_bind (keeps_k0_part84 (h := h) ..) ?_
  rintro ⟨_, _⟩
  refine keeps_bind (keeps_k0_part85 (h := h) ..) fun _ => ?_
  refine keeps_bind (keeps_k0_part86 (h := h) ..) ?_
  rintro ⟨_, _, _, _, _, _, _⟩
  refine keeps_bind (keeps_k0_part87 (h := h) ..) ?_
  rintro ⟨_, _⟩
  refine keeps_bind (keeps_k0_part88 (h := h) ..) ?_
  rintro ⟨_, _, _, _⟩
  refine keeps_bind (keeps_k0_part89 (h := h) ..) ?_
  rintro ⟨_, _⟩
  refine keeps_bind (keeps_k0_part90 (h := h) ..) fun _ => ?_
  refine keeps_bind (keeps_k0_part91 (h := h) ..) ?_
  rintro ⟨_, _, _, _, _⟩
  refine keeps_bind (keeps_k0_part92 (h := h) ..) ?_
  rintro ⟨_, _, _⟩
  refine keeps_bind (keeps_k0_part93 (h := h) ..) ?_
  rintro ⟨_, _, _⟩
  refine keeps_bind (keeps_k0_part94 (h := h) ..) ?_
  rintro ⟨_, _, _⟩
  refine keeps_bind (keeps_load h.r12) fun _ => ?_
  refine keeps_bind (keeps_store h.w12) fun _ => ?_
  refine keeps_bind (keeps_load h.r13) fun _ => ?_
  refine keeps_bind (keeps_store h.w13) fun _ => ?_
  refine keeps_bind (keeps_load h.r14) fun _ => ?_
  refine keeps_bind (keeps_store h.w14) fun _ => ?_
  refine keeps_pure _

theorem keeps_k0_t2_body {c : Dev nD} {A : sProp 𝕄} (h : Held c A arg1 arg2 arg3 arg4 arg5 arg6 arg7 arg8 arg9 arg10 arg11 arg12 arg13 arg14) (v25 : IVec S64x128 32) (v28 : IVec S64x128 32) (v30 : IVec S64x128 1) (v37 : IVec S128x128 1) (v38 : IVec S64x128 1) (v39 : IVec S64x128 1) (v40 : IVec S64x128 1) (v41 : IVec S64x128 1) (v42 : FVec F S64x128 .bf16) (v43 : FVec F S64x256 .f32) (v2632 : FVec F S64x128 .bf16) (v2651 : FVec F S64x128 .bf16) (k0_t2 : Fin k0_t2_loop.trips) (u : Unit) :
    Keeps c A (k0_t2_body (F := F) i arg1 harg1 arg2 harg2 arg3 harg3 arg4 harg4 arg5 harg5 arg6 harg6 arg7 harg7 arg8 harg8 arg9 harg9 arg10 harg10 arg11 harg11 arg12 harg12 arg13 harg13 arg14 harg14 v25 v28 v30 v37 v38 v39 v40 v41 v42 v43 v2632 v2651 k0_t2 u) := by
  unfold k0_t2_body
  refine keeps_bind (keeps_k0_part95 (h := h) ..) ?_
  rintro ⟨_, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _, _⟩
  refine keeps_bind (keeps_k0_part96 (h := h) ..) ?_
  rintro ⟨_, _, _⟩
  refine keeps_bind (keeps_load h.r12) fun _ => ?_
  refine keeps_bind (keeps_store h.w12) fun _ => ?_
  refine keeps_bind (keeps_load h.r13) fun _ => ?_
  refine keeps_bind (keeps_store h.w13) fun _ => ?_
  refine keeps_bind (keeps_load h.r14) fun _ => ?_
  refine keeps_bind (keeps_store h.w14) fun _ => ?_
  refine keeps_pure _

theorem keeps_k0_part160 {c : Dev nD} {A : sProp 𝕄} (h : Held c A arg1 arg2 arg3 arg4 arg5 arg6 arg7 arg8 arg9 arg10 arg11 arg12 arg13 arg14) (v25 : IVec S64x128 32) (v28 : IVec S64x128 32) (v30 : IVec S64x128 1) (v37 : IVec S128x128 1) (v38 : IVec S64x128 1) (v39 : IVec S64x128 1) (v40 : IVec S64x128 1) (v41 : IVec S64x128 1) (v42 : FVec F S64x128 .bf16) (v43 : FVec F S64x256 .f32) (v2632 : FVec F S64x128 .bf16) (v2651 : FVec F S64x128 .bf16) :
    Keeps c A (k0_part160 (F := F) i arg1 harg1 arg2 harg2 arg3 harg3 arg4 harg4 arg5 harg5 arg6 harg6 arg7 harg7 arg8 harg8 arg9 harg9 arg10 harg10 arg11 harg11 arg12 harg12 arg13 harg13 arg14 harg14 v25 v28 v30 v37 v38 v39 v40 v41 v42 v43 v2632 v2651) := by
  rw [k0_part160_eq_skeleton]; unfold k0_part160_skel
  refine keeps_bind (keeps_store h.w13) fun _ => ?_
  refine keeps_bind (keeps_load h.r14) fun _ => ?_
  refine keeps_bind (keeps_store h.w14) fun _ => ?_
  refine keeps_bind (keeps_for _ _ _ _ _ _ fun _ _ => keeps_k0_t2_body (h := h) ..) fun _ => ?_
  refine keeps_bind (keeps_load h.r11) fun _ => ?_
  refine keeps_bind (keeps_load h.r11) fun _ => ?_
  refine keeps_bind (keeps_load h.r11) fun _ => ?_
  refine keeps_bind (keeps_load h.r11) fun _ => ?_
  refine keeps_bind (keeps_load h.r11) fun _ => ?_
  refine keeps_bind (keeps_load h.r11) fun _ => ?_
  refine keeps_bind (keeps_load h.r11) fun _ => ?_
  refine keeps_bind (keeps_load h.r11) fun _ => ?_
  refine keeps_pure _

theorem keeps_cc0_gdn {c : Dev nD} {A : sProp 𝕄} (h : Held c A arg1 arg2 arg3 arg4 arg5 arg6 arg7 arg8 arg9 arg10 arg11 arg12 arg13 arg14) :
    Keeps c A (cc0_gdn (F := F) i arg1 harg1 arg2 harg2 arg3 harg3 arg4 harg4 arg5 harg5 arg6 harg6 arg7 harg7 arg8 harg8 arg9 harg9 arg10 harg10 arg11 harg11 arg12 harg12 arg13 harg13 arg14 harg14) := by
  rw [cc0_gdn_eq_skeleton]; unfold cc0_gdn_skel
  refine keeps_bind (keeps_k0_part187 (h := h) ..) ?_
  rintro ⟨_, _, _, _, _, _, _, _, _, _, _, _, _, _, _, _, _, _, _, _, _, _, _, _⟩
  refine keeps_bind (keeps_k0_part157 (h := h) ..) ?_
  rintro ⟨_, _, _, _, _⟩
  refine keeps_bind (keeps_k0_part158 (h := h) ..) ?_
  rintro ⟨_, _, _, _, _⟩
  refine keeps_bind (keeps_k0_part159 (h := h) ..) ?_
  rintro ⟨_, _⟩
  refine keeps_bind (keeps_k0_part160 (h := h) ..) ?_
  rintro ⟨_, _, _, _, _, _, _, _⟩
  refine keeps_bind (keeps_k0_part161 (h := h) ..) ?_
  rintro ⟨_, _, _, _, _, _, _⟩
  refine keeps_bind (keeps_k0_part162 (h := h) ..) ?_
  rintro ⟨_, _, _, _, _, _, _⟩
  refine keeps_bind (keeps_k0_part163 (h := h) ..) ?_
  rintro ⟨_, _, _, _, _, _, _⟩
  refine keeps_bind (keeps_k0_part164 (h := h) ..) ?_
  rintro ⟨_, _, _, _⟩
  refine keeps_bind (keeps_k0_part165 (h := h) ..) fun _ => ?_
  refine keeps_bind (keeps_k0_part166 (h := h) ..) fun _ => ?_
  refine keeps_bind (keeps_k0_part167 (h := h) ..) fun _ => ?_
  refine keeps_bind (keeps_k0_part168 (h := h) ..) fun _ => ?_
  refine keeps_bind (keeps_k0_part169 (h := h) ..) ?_
  rintro ⟨_, _, _, _, _, _, _, _, _, _⟩
  refine keeps_bind (keeps_k0_part170 (h := h) ..) ?_
  rintro ⟨_, _, _, _, _, _, _⟩
  refine keeps_bind (keeps_k0_part171 (h := h) ..) ?_
  rintro ⟨_, _, _, _, _, _, _, _, _⟩
  refine keeps_bind (keeps_k0_part172 (h := h) ..) ?_
  rintro ⟨_, _, _, _, _, _, _, _⟩
  refine keeps_bind (keeps_k0_part173 (h := h) ..) ?_
  rintro ⟨_, _, _⟩
  refine keeps_bind (keeps_k0_part174 (h := h) ..) ?_
  rintro ⟨_, _, _, _⟩
  refine keeps_bind (keeps_k0_part175 (h := h) ..) ?_
  rintro ⟨_, _⟩
  refine keeps_bind (keeps_k0_part176 (h := h) ..) fun _ => ?_
  refine keeps_bind (keeps_k0_part177 (h := h) ..) ?_
  rintro ⟨_, _, _, _⟩
  refine keeps_bind (keeps_k0_part178 (h := h) ..) ?_
  rintro ⟨_, _, _, _, _, _, _, _, _⟩
  refine keeps_bind (keeps_k0_part179 (h := h) ..) ?_
  rintro ⟨_, _, _, _, _, _, _, _, _⟩
  refine keeps_bind (keeps_k0_part180 (h := h) ..) ?_
  rintro ⟨_, _, _, _, _, _, _, _⟩
  refine keeps_bind (keeps_k0_part181 (h := h) ..) ?_
  rintro ⟨_, _, _, _, _, _, _⟩
  refine keeps_bind (keeps_k0_part182 (h := h) ..) ?_
  rintro ⟨_, _, _⟩
  refine keeps_bind (keeps_k0_part183 (h := h) ..) fun _ => ?_
  refine keeps_bind (keeps_k0_part184 (h := h) ..) fun _ => ?_
  refine keeps_bind (keeps_k0_part185 (h := h) ..) fun _ => ?_
  refine keeps_bind (keeps_k0_part186 (h := h) ..) fun _ => ?_
  refine keeps_bind (keeps_load h.r7) fun _ => ?_
  refine keeps_bind (keeps_store h.w7) fun _ => ?_
  refine keeps_pure _

end Cert.Proof.Gdn

end
-- ==== Proof.Gdn.Frame.lean ====
/- The frame of the gated delta rule: every run of the call ends, without fault, with its inputs as they were and every
   semaphore at zero. What the output holds is left open, so the library's launch is used at proof data that forget it. -/
module

public import proofs.«01_k».proof.Proof.Gdn.Hold
public import proofs.«01_k».proof.Proof.Gdn.Body
public import proofs.«01_k».proof.Proof.Gen.KernelIdeal.Frame
public import Idealize.ShloMosaic.Lib.WordCmp

@[expose] public section

set_option maxRecDepth 16384

noncomputable section

namespace Cert.Proof.Gdn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data: the arrays as the call finds them, each input's buffer at its block. The output's entry is
    forgotten below (`fgt`). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
  Φ _ := Pipeline.ΦA spec0 c
  q _ := fullShare
  owed _ := 0

/-- The output window is forgotten. -/
def fgt : Fin cfg0.W → Bool
  | ⟨6, _⟩ => true
  | _ => false

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ X, owns (c : Thread nD τ) (win0_6.stage (cfg0.slots t 6)) fullShare X))

/-- What it gives back. -/
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ (∃ X, owns (c : Thread nD τ) (win0_6.stage (cfg0.slots t 6)) fullShare X))

/-- The call's invariant: the scratch buffers at some contents and the generator's register. -/
theorem inv_eq (c : Dev nD) :
    (Pipeline.ΦA spec0 c : sProp 𝕄)
      = iprop(((∃ X, owns (c : Thread nD τ) (Memref.whole cc0_scratch0) fullShare X) ∗ (∃ X, owns (c : Thread nD τ) (Memref.whole cc0_scratch1) fullShare X) ∗ (∃ X, owns (c : Thread nD τ) (Memref.whole cc0_scratch2) fullShare X) ∗ (∃ X, owns (c : Thread nD τ) (Memref.whole cc0_scratch3) fullShare X) ∗ (∃ X, owns (c : Thread nD τ) (Memref.whole cc0_scratch4) fullShare X) ∗ (∃ X, owns (c : Thread nD τ) (Memref.whole cc0_scratch5) fullShare X) ∗ (∃ X, owns (c : Thread nD τ) (Memref.whole cc0_scratch6) fullShare X)) ∗ (∃ r, prngReg c r)) := by
  unfold Pipeline.ΦA; rw [scopedRest0_eq]; simp only [owns_whole]; try rfl

set_option maxHeartbeats 1200000 in
theorem sound_body (c : Dev nD) (t : Fin cfg0.N) :
    bodyPre m c t ⊢ wp Idealize.ShloMosaic.frame (wpE (defs₀ (F := F)) Variants.none c none) Set.univ (bodyAt0 t) (fun _ => bodyPost m c t) := by
  unfold bodyPre bodyPost bodyAt0
  simp only [before_0, before_1, before_2, before_3, before_4, before_5]
  rw [show (dats m 0 c).Φ t.succ = (dats m 0 c).Φ t.castSucc from rfl,
    show (dats m 0 c).owesAt () t.succ = (dats m 0 c).owesAt () t.castSucc from rfl,
    after_0, after_1, after_2, after_3, after_4, after_5]
  rw [show (dats m 0 c).Φ t.castSucc = Pipeline.ΦA spec0 c from rfl, inv_eq]
  have hk := (keeps_cc0_gdn (F := F) (c := c) (i := grid0.coords t)
    (harg1 := hstage0_0 ((cfg0.slots t 0).cast nbuf0_0))
    (harg2 := hstage0_1 ((cfg0.slots t 1).cast nbuf0_1))
    (harg3 := hstage0_2 ((cfg0.slots t 2).cast nbuf0_2))
    (harg4 := hstage0_3 ((cfg0.slots t 3).cast nbuf0_3))
    (harg5 := hstage0_4 ((cfg0.slots t 4).cast nbuf0_4))
    (harg6 := hstage0_5 ((cfg0.slots t 5).cast nbuf0_5))
    (harg7 := hstage0_6 ((cfg0.slots t 6).cast nbuf0_6))
    (harg8 := Memref.isWhole_whole cc0_scratch0)
    (harg9 := Memref.isWhole_whole cc0_scratch1)
    (harg10 := Memref.isWhole_whole cc0_scratch2)
    (harg11 := Memref.isWhole_whole cc0_scratch3)
    (harg12 := Memref.isWhole_whole cc0_scratch4)
    (harg13 := Memref.isWhole_whole cc0_scratch5)
    (harg14 := Memref.isWhole_whole cc0_scratch6)
    (held (F := F) c (win0_0.stage (cfg0.slots t 0)) (win0_1.stage (cfg0.slots t 1)) (win0_2.stage (cfg0.slots t 2)) (win0_3.stage (cfg0.slots t 3)) (win0_4.stage (cfg0.slots t 4)) (win0_5.stage (cfg0.slots t 5)) (win0_6.stage (cfg0.slots t 6)) (Memref.whole cc0_scratch0) (Memref.whole cc0_scratch1) (Memref.whole cc0_scratch2) (Memref.whole cc0_scratch3) (Memref.whole cc0_scratch4) (Memref.whole cc0_scratch5) (Memref.whole cc0_scratch6)
      (iblk m c 0 t) (iblk m c 1 t) (iblk m c 2 t) (iblk m c 3 t) (iblk m c 4 t) (iblk m c 5 t))).out
  unfold Hold at hk
  iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, H6⟩
  iapply (wp_wand_r Idealize.ShloMosaic.frame (wpE (defs₀ (F := F)) Variants.none (c : Thread nD τ) none))
  isplitl [H0 H1 H2 H3 H4 H5 H6 HS0 HS1 HS2 HS3 HS4 HS5 HS6]
  · iapply hk
    iframe
  iintro %u ⟨H0, H1, H2, H3, H4, H5, H6, HS0, HS1, HS2, HS3, HS4, HS5, HS6⟩
  iframe

theorem defs₀_row (t : Fin cfg0.N) :
    defs₀ (F := F) .tc cfg0.body (cfg0.bodyArgs t (cfg0.slots t)) = bodyAt0 t := by
  unfold defs₀; rw [Defs.onTc_tc]

theorem body_obligation (c : Dev nD) :
    BodyObligationLoose (dats (F := F) m 0 c) (defs₀ (F := F)) Variants.none () Set.univ fgt := fun t => by
  rw [bigSep_W0, bigSep_W0, defs₀_row]
  exact triple_restated (sound_body m c t) rfl .rfl fun _ => .rfl

set_option backward.isDefEq.respectTransparency.types false in
/-- Every run of the call ends with its inputs as they were and every semaphore at zero. -/
theorem run : θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  Pipeline.θ_run_frame_forget (Q' := _) cfgs (dats m) (0 : Fin 1) launch0 defs₀ Variants.none fgt m ρ main
    (hbody := fun c => body_obligation m c) (hshare := fun c => (dats m 0 c).share_full fun _ => rfl)
    (howed := fun _ _ => rfl) (V := V m) (hmain := hmain m Variants.none) (hA := A_eq m) (hΦ := fun _ _ => rfl)
    (hQ' := fun r h => ⟨fun c => ⟨
      (Pipeline.RDat.FramePost.arr_in h.1 c 0 rfl).trans ((A_eq m c 0).trans (V_main_arg0 m c)),
      (Pipeline.RDat.FramePost.arr_in h.1 c 1 rfl).trans ((A_eq m c 1).trans (V_main_arg1 m c)),
      (Pipeline.RDat.FramePost.arr_in h.1 c 2 rfl).trans ((A_eq m c 2).trans (V_main_arg2 m c)),
      (Pipeline.RDat.FramePost.arr_in h.1 c 3 rfl).trans ((A_eq m c 3).trans (V_main_arg3 m c)),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c)⟩, h.2⟩)

end Cert.Proof.Gdn

end
-- ==== Proof.Gdn.Both.lean ====
/- Both frames of the gated delta rule: the compiled program and its idealization have the same text, so the one run,
   proved over any float instance, serves both. -/
module

public import proofs.«01_k».proof.Defs
public import proofs.«01_k».proof.Proof.Gen.Kernel
public import proofs.«01_k».proof.Proof.Gdn.Frame

@[expose] public section

namespace Cert.Proof.Gdn

open Idealize.ShloMosaic

theorem frame_kernelIdeal : Cert.quiescent_KernelIdeal := fun m ρ _ => run (F := Ideal) m ρ

theorem body_eq : Cert.Kernel.cc0_gdn (F := Bits) = Cert.KernelIdeal.cc0_gdn (F := Bits) := rfl

theorem main_eq : Cert.Kernel.main (F := Bits) = Cert.KernelIdeal.main (F := Bits) := rfl

theorem table_eq : Cert.Kernel.defs₀ (F := Bits) = Cert.KernelIdeal.defs₀ (F := Bits) := by
  unfold Cert.Kernel.defs₀ Cert.KernelIdeal.defs₀
  refine congrArg Defs.onTc (funext fun l => funext fun a => ?_)
  match l, a with
  | 0, (t, s) =>
    show Cert.Kernel.cc0_gdn (F := Bits) .. = Cert.KernelIdeal.cc0_gdn (F := Bits) ..
    rw [body_eq]
    rfl

theorem defs_eq : Cert.Kernel.defs (F := Bits) = Cert.KernelIdeal.defs (F := Bits) :=
  congrArg (Pipeline.defs Cert.KernelIdeal.pcfgs) table_eq

theorem frame_kernel : Cert.quiescent_Kernel := by
  intro m ρ _
  rw [main_eq, defs_eq]
  exact run (F := Bits) m ρ

end Cert.Proof.Gdn
-- ==== Proof.OutFfn.Block.lean ====
/- What one grid step of the second half's kernel leaves in its output block, as a term of the blocks it reads. -/
module

public import proofs.«01_k».proof.Proof.Gen.Kernel2Ideal.Value
public import Idealize.ShloMosaic.Lib.Pipeline.ValueKit
public import Idealize.ShloMosaic.Lib.ValueLayout

@[expose] public section

set_option maxRecDepth 16384

noncomputable section

open Idealize.ShloMosaic Idealize.ShloMosaic.TcCoe Idealize.SL.Sem Idealize.ShloMosaic.Tactic
open Idealize.ShloMosaic.Pipeline (Dat)

namespace Cert.Proof.OutFfn

open Cert.Kernel2Ideal Cert.Kernel2Ideal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The rows of a `[1, 1024, 512]` block as a `[1024, 512]` array. -/
def rows {e : EltTy} (x : Vec F S1x1024x512 e) : Vec F S1024x512 e := fun j => x (ix3 (0 : Fin 1) (j 0) (j 1))

theorem read_rows {e : EltTy} {m : Memref sig .tc .vmem S1x1024x512 e} (h : m.IsWhole) (x : Vec F S1x1024x512 e)
    (inb : ∀ a, (![0, 0, 0] : Fin 3 → ℕ) a + (![1, 1024, 512] : Fin 3 → ℕ) a ≤ S1x1024x512.size a)
    (hn : S1024x512.numel = (Rect.unit (s := S1x1024x512) ![0, 0, 0] ![1, 1024, 512] inb).shape.numel) :
    View.read (Elt F) ((m.view.slice (Rect.unit (s := S1x1024x512) ![0, 0, 0] ![1, 1024, 512] inb)).reshape S1024x512 hn)
      (h.unread x) = rows x := by
  funext j
  refine (congrFun (h.read_unread x) _).trans ?_
  show x _ = x _
  congr 1
  obtain ⟨a, b, rfl⟩ : ∃ a b, j = ix2 a b := ⟨j 0, j 1, eq_ix2 j⟩
  have e : Shape.reshapeEquiv hn (ix2 a b) = ix3 (0 : Fin 1) a b := ValueIdx.reshapeEquiv_ix2_1ab (a := 1024) (b := 512) hn a b
  funext t
  refine Fin.ext ?_
  show (![0, 0, 0] : Fin 3 → ℕ) t + 1 * (Shape.reshapeEquiv hn (ix2 a b) t).val = _
  rw [e]
  fin_cases t <;> simp [ix3] <;> rfl

/-- The four heads of a tile after norm and gate, as the scratch buffer holds them. -/
def heads (x1 : Vec F S1x1024x512 .f32) (x2 : Vec F S1x1024x512 .bf16) (x4 : Vec F S1x512 .f32) : Vec F S1024x512 .bf16 :=
  View.canon
    [⟨Rect.unit ![0, 384] ![1024, 128] inb_S1024x512_S1024x128_0_384,
        k0_pay7 (k0_pay1 x4) (View.ld (rows x1) (Rect.unit ![0, 384] ![1024, 128] inb_S1024x512_S1024x128_0_384))
          (View.ld (rows x2) (Rect.unit ![0, 384] ![1024, 128] inb_S1024x512_S1024x128_0_384))⟩,
     ⟨Rect.unit ![0, 256] ![1024, 128] inb_S1024x512_S1024x128_0_256,
        k0_pay6 (k0_pay5 (k0_pay1 x4) (View.ld (rows x1) (Rect.unit ![0, 256] ![1024, 128] inb_S1024x512_S1024x128_0_256)))
          (View.ld (rows x2) (Rect.unit ![0, 256] ![1024, 128] inb_S1024x512_S1024x128_0_256))⟩,
     ⟨Rect.unit ![0, 128] ![1024, 128] inb_S1024x512_S1024x128_0_128,
        k0_pay4 (k0_pay1 x4) (View.ld (rows x1) (Rect.unit ![0, 128] ![1024, 128] inb_S1024x512_S1024x128_0_128))
          (k0_pay3 (View.ld (rows x1) (Rect.unit ![0, 128] ![1024, 128] inb_S1024x512_S1024x128_0_128)))
          (View.ld (rows x2) (Rect.unit ![0, 128] ![1024, 128] inb_S1024x512_S1024x128_0_128))⟩,
     ⟨Rect.unit ![0, 0] ![1024, 128] inb_S1024x512_S1024x128_0_0,
        k0_pay2 x4 (View.ld (rows x1) (Rect.unit ![0, 0] ![1024, 128] inb_S1024x512_S1024x128_0_0))
          (View.ld (rows x2) (Rect.unit ![0, 0] ![1024, 128] inb_S1024x512_S1024x128_0_0))⟩]

/-- One block of 256 hidden columns of the feed-forward part, added to what is there. -/
def ffStep (hn : Vec F S1024x1024 .bf16) (x8 x9 : Vec F S1024x2816 .bf16) (x10 : Vec F S2816x1024 .bf16) (o : ℕ)
    (hc : ∀ a, (![0, o] : Fin 2 → ℕ) a + (![1024, 256] : Fin 2 → ℕ) a ≤ S1024x2816.size a)
    (hr : ∀ a, (![o, 0] : Fin 2 → ℕ) a + (![256, 1024] : Fin 2 → ℕ) a ≤ S2816x1024.size a)
    (acc : Vec F S1x1024x1024 .f32) : Vec F S1x1024x1024 .f32 :=
  k0_pay11 hn (View.ld x8 (Rect.unit ![0, o] ![1024, 256] hc)) hn (View.ld x9 (Rect.unit ![0, o] ![1024, 256] hc)) acc
    (View.ld x10 (Rect.unit ![o, 0] ![256, 1024] hr))

/-- The tile after the feed-forward part, before the final norm. -/
def ffTile (acc : Vec F S1x1024x1024 .f32) (hn : Vec F S1024x1024 .bf16) (x8 x9 : Vec F S1024x2816 .bf16)
    (x10 : Vec F S2816x1024 .bf16) : Vec F S1x1024x1024 .f32 :=
  ffStep hn x8 x9 x10 2560 inb_S1024x2816_S1024x256_0_2560 inb_S2816x1024_S256x1024_2560_0
    (ffStep hn x8 x9 x10 2304 inb_S1024x2816_S1024x256_0_2304 inb_S2816x1024_S256x1024_2304_0
    (ffStep hn x8 x9 x10 2048 inb_S1024x2816_S1024x256_0_2048 inb_S2816x1024_S256x1024_2048_0
    (ffStep hn x8 x9 x10 1792 inb_S1024x2816_S1024x256_0_1792 inb_S2816x1024_S256x1024_1792_0
    (ffStep hn x8 x9 x10 1536 inb_S1024x2816_S1024x256_0_1536 inb_S2816x1024_S256x1024_1536_0
    (ffStep hn x8 x9 x10 1280 inb_S1024x2816_S1024x256_0_1280 inb_S2816x1024_S256x1024_1280_0
    (ffStep hn x8 x9 x10 1024 inb_S1024x2816_S1024x256_0_1024 inb_S2816x1024_S256x1024_1024_0
    (ffStep hn x8 x9 x10 768 inb_S1024x2816_S1024x256_0_768 inb_S2816x1024_S256x1024_768_0
    (ffStep hn x8 x9 x10 512 inb_S1024x2816_S1024x256_0_512 inb_S2816x1024_S256x1024_512_0
    (ffStep hn x8 x9 x10 256 inb_S1024x2816_S1024x256_0_256 inb_S2816x1024_S256x1024_256_0
    (ffStep hn x8 x9 x10 0 inb_S1024x2816_S1024x256_0_0 inb_S2816x1024_S256x1024_0_0
    acc))))))))))

/-- The output block of one grid step. -/
def tile (x0 : Vec F S1x1024x1024 .f32) (x1 : Vec F S1x1024x512 .f32) (x2 : Vec F S1x1024x512 .bf16) (x3 : Vec F S1x1024x512 .bf16) (x4 : Vec F S1x512 .f32) (x5 : Vec F S512x1024 .bf16) (x6 : Vec F S512x1024 .bf16) (x7 : Vec F S1x1024 .f32) (x8 : Vec F S1024x2816 .bf16) (x9 : Vec F S1024x2816 .bf16) (x10 : Vec F S2816x1024 .bf16) (x11 : Vec F S1x1024 .f32) : Vec F S1x1024x1024 .f32 :=
  k0_pay29 (ffTile (k0_pay9 x0 (heads x1 x2 x4) x5 x3 x6) (k0_pay10 x0 (heads x1 x2 x4) x5 x3 x6 x7) x8 x9 x10) x11

theorem canon_whole (v : View sig .tc .vmem S1024x512 .bf16) (L : List (View.Piece (Elt F) S1024x512 .bf16))
    (inb : ∀ a, (![0, 0] : Fin 2 → ℕ) a + (![1024, 512] : Fin 2 → ℕ) a ≤ S1024x512.size a) :
    v.readCov L (Rect.unit (s := S1024x512) ![0, 0] ![1024, 512] inb).toLoadRect = View.canon L :=
  (View.readCov_eq_canon' v L _).trans (View.ld_unit_zero (S := S1024x512) hz2 inb (View.canon L))

set_option maxHeartbeats 4000000 in
/-- The body leaves that block in its output window. -/
theorem out_val (c : Dev nD) (i : grid0.Coords) (a2 : Memref sig .tc .vmem S1x1024x1024 .f32) (h2 : a2.IsWhole) (a3 : Memref sig .tc .vmem S1x1024x512 .f32) (h3 : a3.IsWhole) (a4 : Memref sig .tc .vmem S1x1024x512 .bf16) (h4 : a4.IsWhole) (a5 : Memref sig .tc .vmem S1x1024x512 .bf16) (h5 : a5.IsWhole) (a6 : Memref sig .tc .vmem S1x512 .f32) (h6 : a6.IsWhole) (a7 : Memref sig .tc .vmem S512x1024 .bf16) (h7 : a7.IsWhole) (a8 : Memref sig .tc .vmem S512x1024 .bf16) (h8 : a8.IsWhole) (a9 : Memref sig .tc .vmem S1x1024 .f32) (h9 : a9.IsWhole) (a10 : Memref sig .tc .vmem S1024x2816 .bf16) (h10 : a10.IsWhole) (a11 : Memref sig .tc .vmem S1024x2816 .bf16) (h11 : a11.IsWhole) (a12 : Memref sig .tc .vmem S2816x1024 .bf16) (h12 : a12.IsWhole) (a13 : Memref sig .tc .vmem S1x1024 .f32) (h13 : a13.IsWhole) (a14 : Memref sig .tc .vmem S1x1024x1024 .f32) (h14 : a14.IsWhole) (a15 : Memref sig .tc .vmem S1024x512 .bf16) (h15 : a15.IsWhole) (a16 : Memref sig .tc .vmem S1024x1024 .bf16) (h16 : a16.IsWhole)
    (x0 : Vec F S1x1024x1024 .f32) (x1 : Vec F S1x1024x512 .f32) (x2 : Vec F S1x1024x512 .bf16) (x3 : Vec F S1x1024x512 .bf16) (x4 : Vec F S1x512 .f32) (x5 : Vec F S512x1024 .bf16) (x6 : Vec F S512x1024 .bf16) (x7 : Vec F S1x1024 .f32) (x8 : Vec F S1024x2816 .bf16) (x9 : Vec F S1024x2816 .bf16) (x10 : Vec F S2816x1024 .bf16) (x11 : Vec F S1x1024 .f32) :
    out0_A_12 c i a2 h2 a3 h3 a4 h4 a5 h5 a6 h6 a7 h7 a8 h8 a9 h9 a10 h10 a11 h11 a12 h12 a13 h13 a14 h14 a15 h15 a16 h16 x0 x1 x2 x3 x4 x5 x6 x7 x8 x9 x10 x11
      = tile x0 x1 x2 x3 x4 x5 x6 x7 x8 x9 x10 x11 := by
  unfold out0_A_12
  rw [View.read_writes_eq_canon _ _ _ (cover0_A_12 c i a2 h2 a3 h3 a4 h4 a5 h5 a6 h6 a7 h7 a8 h8 a9 h9 a10 h10 a11 h11 a12 h12 a13 h13 a14 h14 a15 h15 a16 h16 x0 x1 x2 x3 x4 x5 x6 x7 x8 x9 x10 x11)]
  unfold kernelRun0_A
  dsimp only
  sl_unfold_words
  rw [View.canon_cons_unit_zero (S := S1x1024x1024) hz3]
  simp only [View.readAt_eq_ld, h2.read_unread, h3.read_unread, h4.read_unread, h5.read_unread, h6.read_unread, h7.read_unread, h8.read_unread, h9.read_unread, h10.read_unread, h11.read_unread, h12.read_unread, h13.read_unread, View.ld_unit_zero (S := S1x1024x1024) hz3, View.ld_unit_zero (S := S1024x1024) hz2, View.ld_unit_zero (S := S512x1024) hz2, View.ld_unit_zero (S := S1x1024) hz2, View.ld_unit_zero (S := S1x512) hz2, View.ld_unit_zero (S := S1x1024x512) hz3]
  simp only [View.readCov_cons_unit_lit' (S := S1x1024x1024) _ _ _ _ _ (fun a => congrFun hz3 a) (fun a => congrFun hz3 a)]
  simp only [View.readCov_cons_unit_lit' (S := S1024x1024) _ _ _ _ _ (fun a => congrFun hz2 a) (fun a => congrFun hz2 a), read_rows, canon_whole]
  unfold tile heads
  generalize k0_pay10 (F := F) _ _ _ _ _ _ = HN
  generalize k0_pay9 (F := F) _ _ _ _ _ = A
  rfl

end Cert.Proof.OutFfn

end
-- ==== Proof.OutFfn.Row.lean ====
/- One row of the layer's second half, over the extended reals: the gated and normalised mixer output joined with the
   convolution channel, the output projection, and the gated feed-forward block with its final norm. -/
module

public import Idealize.ShloMosaic.Lib.Pointwise

@[expose] public section

noncomputable section

open Idealize.ShloMosaic

namespace Cert.Proof

/-- `x / sqrt(mean(x²) + ε) · w` over a row of `n` entries, the mean's divisor `N` given as a number. -/
def rmsRow {n : ℕ} (N : EReal) (f w : Fin n → EReal) (j : Fin n) : EReal :=
  f j * Ideal.rsqrt (Ideal.div (∑ k, f k * f k) N + Ideal.ofBits .f32 0x358637BD#32) * w j

/-- `x · sigmoid(x)`. -/
def siluE (x : EReal) : EReal := x * Ideal.logistic x

/-- The number 128, the size of a head. -/
def c128 : EReal := Ideal.ofBits .f32 0x43000000#32

/-- The number 1024, the width of the model. -/
def c1024 : EReal := Ideal.ofBits .f32 0x44800000#32

/-- Entry `k` of head `d`, among the 512 entries of four heads. -/
def headIx (d : Fin 4) (k : Fin 128) : Fin 512 := ⟨128 * d.val + k.val, by omega⟩

/-- The mixer's row after its per-head norm and its gate. -/
def gateRow (o z : Fin 512 → EReal) (nw : Fin 128 → EReal) (d : Fin 4) (k : Fin 128) : EReal :=
  rmsRow c128 (fun k => o (headIx d k)) nw k * siluE (z (headIx d k))

/-- The gated mixer's row and the convolution channel's row, side by side. -/
def mixRow (o z y : Fin 512 → EReal) (nw : Fin 128 → EReal) (j : Fin 1024) : EReal :=
  if h : j.val < 512 then gateRow o z nw ⟨j.val / 128, by omega⟩ ⟨j.val % 128, by omega⟩ else y ⟨j.val - 512, by omega⟩

/-- The residual row after the output projection. -/
def midRow (h : Fin 1024 → EReal) (m : Fin 1024 → EReal) (Wo : Fin 1024 → Fin 1024 → EReal) (d : Fin 1024) : EReal :=
  h d + ∑ j, m j * Wo j d

/-- The feed-forward block's hidden row. -/
def actRow (a : Fin 1024 → EReal) (Wg Wu : Fin 1024 → Fin 2816 → EReal) (f : Fin 2816) : EReal :=
  siluE (∑ d, a d * Wg d f) * ∑ d, a d * Wu d f

/-- The residual row after the feed-forward block. -/
def ffRow (m : Fin 1024 → EReal) (n2 : Fin 1024 → EReal) (Wg Wu : Fin 1024 → Fin 2816 → EReal)
    (Wd : Fin 2816 → Fin 1024 → EReal) (d : Fin 1024) : EReal :=
  m d + ∑ f, actRow (rmsRow c1024 m n2) Wg Wu f * Wd f d

/-- A sum over a row of `n` entries as one over the first `n` numbers. -/
theorem sum_fin_range {n : ℕ} (g : ℕ → EReal) : ∑ k : Fin n, g k.val = ∑ k ∈ Finset.range n, g k :=
  Fin.sum_univ_eq_sum_range g n

/-- A function on `Fin n` continued by zero. -/
def ext0 {n : ℕ} (g : Fin n → EReal) (k : ℕ) : EReal := if h : k < n then g ⟨k, h⟩ else 0

theorem ext0_of_lt {n : ℕ} (g : Fin n → EReal) {k : ℕ} (h : k < n) : ext0 g k = g ⟨k, h⟩ := dif_pos h

theorem sum_ext0 {n : ℕ} (g : Fin n → EReal) : ∑ k, g k = ∑ k ∈ Finset.range n, ext0 g k := by
  rw [← sum_fin_range]
  exact Finset.sum_congr rfl fun k _ => (ext0_of_lt g k.isLt).symm

/-- A partial sum grows by a block. -/
theorem add_block {n : ℕ} (g : Fin n → EReal) (a : EReal) (o w : ℕ) (h : o + w ≤ n) :
    (a + ∑ k ∈ Finset.range o, ext0 g k) + ∑ k : Fin w, g ⟨o + k.val, by omega⟩
      = a + ∑ k ∈ Finset.range (o + w), ext0 g k := by
  rw [Finset.sum_range_add, add_assoc, ← sum_fin_range (fun x => ext0 g (o + x))]
  congr 2
  exact Finset.sum_congr rfl fun k _ => (ext0_of_lt g _).symm

/-- The output projection of the joined row, as the two products of its halves. -/
theorem midRow_eq (h : Fin 1024 → EReal) (o z y : Fin 512 → EReal) (nw : Fin 128 → EReal)
    (Wo : Fin 1024 → Fin 1024 → EReal) (d : Fin 1024) :
    midRow h (mixRow o z y nw) Wo d
      = (h d + ∑ j : Fin 512, gateRow o z nw ⟨j.val / 128, by omega⟩ ⟨j.val % 128, by omega⟩ * Wo ⟨j.val, by omega⟩ d)
        + ∑ j : Fin 512, y j * Wo ⟨512 + j.val, by omega⟩ d := by
  rw [midRow, sum_ext0]
  refine (add_block _ (h d) 512 512 (by omega)).symm.trans ?_
  rw [← sum_fin_range]
  refine congrArg₂ (· + ·) (congrArg (h d + ·) (Finset.sum_congr rfl fun j _ => ?_)) (Finset.sum_congr rfl fun j _ => ?_)
  · rw [ext0_of_lt _ (by omega : j.val < 1024), mixRow, dif_pos j.isLt]
  · rw [mixRow, dif_neg (by simp)]
    simp

/-- A row of the layer's second half with the final norm, from the arrays reference.py names. -/
def halfRow (h : Fin 1024 → EReal) (o z y : Fin 512 → EReal) (nw : Fin 128 → EReal) (Wo : Fin 1024 → Fin 1024 → EReal)
    (n2 : Fin 1024 → EReal) (Wgu : Fin 1024 → Fin 5632 → EReal) (Wd : Fin 2816 → Fin 1024 → EReal) (nf : Fin 1024 → EReal)
    (d : Fin 1024) : EReal :=
  rmsRow c1024 (ffRow (midRow h (mixRow o z y nw) Wo) n2 (fun j f => Wgu j ⟨f.val, by omega⟩)
    (fun j f => Wgu j ⟨2816 + f.val, by omega⟩) Wd) nf d

/-- The whole result: row `s` of the result is row `64 + s` of the padded sequence. -/
def half (a0 : (⟨3, ![16, 2112, 1024]⟩ : Shape).Idx → EReal) (a1 a2 a3 : (⟨3, ![16, 2112, 512]⟩ : Shape).Idx → EReal)
    (a4 : (⟨1, ![128]⟩ : Shape).Idx → EReal) (a5 : (⟨2, ![1024, 1024]⟩ : Shape).Idx → EReal)
    (a6 : (⟨1, ![1024]⟩ : Shape).Idx → EReal) (a7 : (⟨2, ![1024, 5632]⟩ : Shape).Idx → EReal)
    (a8 : (⟨2, ![2816, 1024]⟩ : Shape).Idx → EReal) (a9 : (⟨1, ![1024]⟩ : Shape).Idx → EReal)
    (b : Fin 16) (s : Fin 2048) (d : Fin 1024) : EReal :=
  halfRow (fun d => a0 (ix3 b ⟨64 + s.val, by omega⟩ d)) (fun j => a1 (ix3 b ⟨64 + s.val, by omega⟩ j))
    (fun j => a2 (ix3 b ⟨64 + s.val, by omega⟩ j)) (fun j => a3 (ix3 b ⟨64 + s.val, by omega⟩ j)) (fun k => a4 (ix1 k))
    (fun j d => a5 (ix2 j d)) (fun d => a6 (ix1 d)) (fun j f => a7 (ix2 j f)) (fun f d => a8 (ix2 f d)) (fun d => a9 (ix1 d)) d

/-- The layer's second half without the final norm, row by row of the padded sequence. -/
def full (a0 : (⟨3, ![16, 2112, 1024]⟩ : Shape).Idx → EReal) (a1 a2 a3 : (⟨3, ![16, 2112, 512]⟩ : Shape).Idx → EReal)
    (a4 : (⟨1, ![128]⟩ : Shape).Idx → EReal) (a5 : (⟨2, ![1024, 1024]⟩ : Shape).Idx → EReal)
    (a6 : (⟨1, ![1024]⟩ : Shape).Idx → EReal) (a7 : (⟨2, ![1024, 5632]⟩ : Shape).Idx → EReal)
    (a8 : (⟨2, ![2816, 1024]⟩ : Shape).Idx → EReal) (b : Fin 16) (s : Fin 2112) (d : Fin 1024) : EReal :=
  ffRow (midRow (fun d => a0 (ix3 b s d)) (mixRow (fun j => a1 (ix3 b s j)) (fun j => a2 (ix3 b s j)) (fun j => a3 (ix3 b s j))
      (fun k => a4 (ix1 k))) (fun j d => a5 (ix2 j d))) (fun d => a6 (ix1 d)) (fun j f => a7 (ix2 j ⟨f.val, by omega⟩))
    (fun j f => a7 (ix2 j ⟨2816 + f.val, by omega⟩)) (fun f d => a8 (ix2 f d)) d

end Cert.Proof

end
-- ==== Proof.OutFfn.Cols.lean ====
/- Blocks of columns and of rows read at an index, and the columns of four heads. -/
module

public import proofs.«01_k».proof.Proof.OutFfn.Row
public import Idealize.ShloMosaic.Lib.Pipeline.ValueKit
public import Idealize.ShloMosaic.Lib.ValueLayout

@[expose] public section

set_option maxRecDepth 16384

noncomputable section

open Idealize.ShloMosaic Idealize.ShloMosaic.TcCoe Idealize.SL.Sem

namespace Cert.Proof.OutFfn

/-- A block of columns read at an index. -/
theorem ld_cols {m n w o : ℕ} {e : EltTy} (x : Vec Ideal ⟨2, ![m, n]⟩ e)
    (h : ∀ a, (![0, o] : Fin 2 → ℕ) a + (![m, w] : Fin 2 → ℕ) a ≤ (⟨2, ![m, n]⟩ : Shape).size a) (r : Fin m) (k : Fin w) :
    View.ld x (Rect.unit (s := ⟨2, ![m, n]⟩) ![0, o] ![m, w] h) (ix2 r k)
      = x (ix2 r ⟨o + k.val, by have := h 1; simp at this; omega⟩) := by
  show x _ = x _
  congr 1
  funext a
  refine Fin.ext ?_
  fin_cases a
  · show 0 + 1 * r.val = r.val; omega
  · show o + 1 * k.val = o + k.val; omega

/-- A block of rows read at an index. -/
theorem ld_rows {m n w o : ℕ} {e : EltTy} (x : Vec Ideal ⟨2, ![m, n]⟩ e)
    (h : ∀ a, (![o, 0] : Fin 2 → ℕ) a + (![w, n] : Fin 2 → ℕ) a ≤ (⟨2, ![m, n]⟩ : Shape).size a) (k : Fin w) (c : Fin n) :
    View.ld x (Rect.unit (s := ⟨2, ![m, n]⟩) ![o, 0] ![w, n] h) (ix2 k c)
      = x (ix2 ⟨o + k.val, by have := h 0; simp at this; omega⟩ c) := by
  show x _ = x _
  congr 1
  funext a
  refine Fin.ext ?_
  fin_cases a
  · show o + 1 * k.val = o + k.val; omega
  · show 0 + 1 * c.val = c.val; omega

/-- The number of a head and the place in it, from the place in the row. -/
theorem col_split (j : Fin 512) : ∃ (d : Fin 4) (k : Fin 128), j = headIx d k :=
  ⟨⟨j.val / 128, by omega⟩, ⟨j.val % 128, by omega⟩, Fin.ext (by show j.val = 128 * (j.val / 128) + j.val % 128; omega)⟩

theorem head_of (d : Fin 4) (k : Fin 128) (h : (headIx d k).val / 128 < 4) : (⟨(headIx d k).val / 128, h⟩ : Fin 4) = d :=
  Fin.ext (by show (128 * d.val + k.val) / 128 = d.val; omega)

theorem place_of (d : Fin 4) (k : Fin 128) (h : (headIx d k).val % 128 < 128) : (⟨(headIx d k).val % 128, h⟩ : Fin 128) = k :=
  Fin.ext (by show (128 * d.val + k.val) % 128 = k.val; omega)

end Cert.Proof.OutFfn

end
-- ==== Proof.OutFfn.Tile.lean ====
/- One grid step's output block read row by row over the extended reals. -/
module

public import proofs.«01_k».proof.Proof.OutFfn.Block
public import proofs.«01_k».proof.Proof.OutFfn.Cols

@[expose] public section

set_option maxRecDepth 16384

noncomputable section

open Idealize.ShloMosaic Idealize.ShloMosaic.TcCoe Idealize.SL.Sem

namespace Cert.Proof.OutFfn

open Cert.Kernel2Ideal Cert.Kernel2Ideal.Gen

theorem pay11_apply (hn : Vec Ideal S1024x1024 .bf16) (g u : Vec Ideal S1024x256 .bf16) (acc : Vec Ideal S1x1024x1024 .f32)
    (w : Vec Ideal S256x1024 .bf16) (r d : Fin 1024) :
    k0_pay11 hn g hn u acc w (ix3 (0 : Fin 1) r d)
      = acc (ix3 (0 : Fin 1) r d) + ∑ k : Fin 256, (siluE (∑ j : Fin 1024, hn (ix2 r j) * g (ix2 j k))
          * ∑ j : Fin 1024, hn (ix2 r j) * u (ix2 j k)) * w (ix2 k d) := by
  unfold siluE
  pointwise [k0_pay11]

theorem pay29_apply (acc : Vec Ideal S1x1024x1024 .f32) (w : Vec Ideal S1x1024 .f32) (r d : Fin 1024) :
    k0_pay29 acc w (ix3 (0 : Fin 1) r d)
      = rmsRow c1024 (fun j => acc (ix3 (0 : Fin 1) r j)) (fun j => w (ix2 (0 : Fin 1) j)) d := by
  unfold rmsRow c1024
  pointwise [k0_pay29]

theorem pay8_apply (x0 : Vec Ideal S1x1024x1024 .f32) (O : Vec Ideal S1024x512 .bf16) (x5 x6 : Vec Ideal S512x1024 .bf16)
    (x3 : Vec Ideal S1x1024x512 .bf16) (r d : Fin 1024) :
    k0_pay8 x0 O x5 x3 x6 (ix2 r d)
      = (x0 (ix3 (0 : Fin 1) r d) + ∑ j : Fin 512, O (ix2 r j) * x5 (ix2 j d))
        + ∑ j : Fin 512, x3 (ix3 (0 : Fin 1) r j) * x6 (ix2 j d) := by
  pointwise [k0_pay8]

theorem pay9_apply (x0 : Vec Ideal S1x1024x1024 .f32) (O : Vec Ideal S1024x512 .bf16) (x5 x6 : Vec Ideal S512x1024 .bf16)
    (x3 : Vec Ideal S1x1024x512 .bf16) (r d : Fin 1024) :
    k0_pay9 x0 O x5 x3 x6 (ix3 (0 : Fin 1) r d) = k0_pay8 x0 O x5 x3 x6 (ix2 r d) := by
  pointwise [k0_pay9]

theorem pay10_apply (x0 : Vec Ideal S1x1024x1024 .f32) (O : Vec Ideal S1024x512 .bf16) (x5 x6 : Vec Ideal S512x1024 .bf16)
    (x3 : Vec Ideal S1x1024x512 .bf16) (x7 : Vec Ideal S1x1024 .f32) (r d : Fin 1024) :
    k0_pay10 x0 O x5 x3 x6 x7 (ix2 r d)
      = rmsRow c1024 (fun j => k0_pay8 x0 O x5 x3 x6 (ix2 r j)) (fun j => x7 (ix2 (0 : Fin 1) j)) d := by
  unfold rmsRow c1024 k0_pay10
  generalize k0_pay8 x0 O x5 x3 x6 = A
  pointwise

theorem pay2_apply (x4 : Vec Ideal S1x512 .f32) (o : Vec Ideal S1024x128 .f32) (z : Vec Ideal S1024x128 .bf16) (r : Fin 1024)
    (k : Fin 128) :
    k0_pay2 x4 o z (ix2 r k)
      = rmsRow c128 (fun k => o (ix2 r k)) (fun k => x4 (ix2 (0 : Fin 1) (headIx 0 k))) k * siluE (z (ix2 r k)) := by
  unfold rmsRow c128 siluE headIx
  pointwise [k0_pay2, k0_pay1]

theorem pay4_apply (x4 : Vec Ideal S1x512 .f32) (o : Vec Ideal S1024x128 .f32) (z : Vec Ideal S1024x128 .bf16) (r : Fin 1024)
    (k : Fin 128) :
    k0_pay4 (k0_pay1 x4) o (k0_pay3 o) z (ix2 r k)
      = rmsRow c128 (fun k => o (ix2 r k)) (fun k => x4 (ix2 (0 : Fin 1) (headIx 1 k))) k * siluE (z (ix2 r k)) := by
  unfold rmsRow c128 siluE headIx
  pointwise [k0_pay4, k0_pay3, k0_pay1]

theorem pay6_apply (x4 : Vec Ideal S1x512 .f32) (o : Vec Ideal S1024x128 .f32) (z : Vec Ideal S1024x128 .bf16) (r : Fin 1024)
    (k : Fin 128) :
    k0_pay6 (k0_pay5 (k0_pay1 x4) o) z (ix2 r k)
      = rmsRow c128 (fun k => o (ix2 r k)) (fun k => x4 (ix2 (0 : Fin 1) (headIx 2 k))) k * siluE (z (ix2 r k)) := by
  unfold rmsRow c128 siluE headIx
  pointwise [k0_pay6, k0_pay5, k0_pay1]

theorem pay7_apply (x4 : Vec Ideal S1x512 .f32) (o : Vec Ideal S1024x128 .f32) (z : Vec Ideal S1024x128 .bf16) (r : Fin 1024)
    (k : Fin 128) :
    k0_pay7 (k0_pay1 x4) o z (ix2 r k)
      = rmsRow c128 (fun k => o (ix2 r k)) (fun k => x4 (ix2 (0 : Fin 1) (headIx 3 k))) k * siluE (z (ix2 r k)) := by
  unfold rmsRow c128 siluE headIx
  pointwise [k0_pay7, k0_pay1]

/-- Head `d`'s columns of the tile's rows. -/
theorem ld_rows_head {e : EltTy} (x : Vec Ideal S1x1024x512 e) (d : Fin 4) (o : ℕ) (ho : o = 128 * d.val)
    (h : ∀ a, (![0, o] : Fin 2 → ℕ) a + (![1024, 128] : Fin 2 → ℕ) a ≤ S1024x512.size a) (r : Fin 1024) (k : Fin 128) :
    View.ld (rows x) (Rect.unit (s := S1024x512) ![0, o] ![1024, 128] h) (ix2 r k) = x (ix3 (0 : Fin 1) r (headIx d k)) := by
  subst ho
  exact ld_cols (rows x) h r k

/-- The scratch buffer's entry at row `r`: the row's gated and normalised mixer output. -/
theorem heads_apply (x1 : Vec Ideal S1x1024x512 .f32) (x2 : Vec Ideal S1x1024x512 .bf16) (x4 : Vec Ideal S1x512 .f32)
    (nw : Fin 128 → EReal) (h4 : ∀ d k, x4 (ix2 (0 : Fin 1) (headIx d k)) = nw k) (r : Fin 1024) (j : Fin 512) :
    heads x1 x2 x4 (ix2 r j)
      = gateRow (fun j => x1 (ix3 (0 : Fin 1) r j)) (fun j => x2 (ix3 (0 : Fin 1) r j)) nw
          ⟨j.val / 128, by omega⟩ ⟨j.val % 128, by omega⟩ := by
  have key : ∀ (d : Fin 4) (r : Fin 1024) (k : Fin 128),
      gateRow (fun j => x1 (ix3 (0 : Fin 1) r j)) (fun j => x2 (ix3 (0 : Fin 1) r j)) nw d k
        = rmsRow c128 (fun k => x1 (ix3 (0 : Fin 1) r (headIx d k))) (fun k => x4 (ix2 (0 : Fin 1) (headIx d k))) k
            * siluE (x2 (ix3 (0 : Fin 1) r (headIx d k))) := fun d r k => by
    simp only [gateRow, h4]
  let G : S1024x512.Idx → EReal := fun y =>
    gateRow (fun j => x1 (ix3 (0 : Fin 1) (y 0) j)) (fun j => x2 (ix3 (0 : Fin 1) (y 0) j)) nw
      ⟨(y 1).val / 128, by have := (y 1).isLt; change (y 1).val < 512 at this; omega⟩ ⟨(y 1).val % 128, by omega⟩
  have hG : ∀ (d : Fin 4) (o : ℕ) (ho : o = 128 * d.val)
      (h : ∀ a, (![0, o] : Fin 2 → ℕ) a + (![1024, 128] : Fin 2 → ℕ) a ≤ S1024x512.size a) (r : Fin 1024) (k : Fin 128),
      G ((Rect.unit (s := S1024x512) ![0, o] ![1024, 128] h).emb (ix2 r k))
        = rmsRow c128 (fun k => x1 (ix3 (0 : Fin 1) r (headIx d k))) (fun k => x4 (ix2 (0 : Fin 1) (headIx d k))) k
            * siluE (x2 (ix3 (0 : Fin 1) r (headIx d k))) := by
    intro d o ho h r k
    subst ho
    rw [← key]
    have e : (Rect.unit (s := S1024x512) ![0, 128 * d.val] ![1024, 128] h).emb (ix2 r k) = ix2 r (headIx d k) := by
      funext a
      refine Fin.ext ?_
      fin_cases a
      · show 0 + 1 * r.val = r.val; omega
      · show 128 * d.val + 1 * k.val = 128 * d.val + k.val; omega
    rw [e]
    show gateRow _ _ nw _ _ = _
    exact congrArg₂ (gateRow _ _ nw) (head_of d k _) (place_of d k _)
  refine (View.canon_apply_of_pieces (Val := Elt Ideal) (S := S1024x512) (e := .bf16) G _ ?_ (ix2 r j) ?_).trans rfl
  · intro p hp x
    simp only [List.mem_cons, List.not_mem_nil, or_false] at hp
    rcases hp with rfl | rfl | rfl | rfl <;>
      obtain ⟨r', k', rfl⟩ : ∃ (r' : Fin 1024) (k' : Fin 128), x = ix2 r' k' := ⟨x 0, x 1, eq_ix2 x⟩
    · refine Eq.trans ?_ (hG 3 384 rfl inb_S1024x512_S1024x128_0_384 r' k').symm
      refine (pay7_apply x4 _ _ r' k').trans ?_
      simp only [ld_rows_head _ 3 384 rfl]
    · refine Eq.trans ?_ (hG 2 256 rfl inb_S1024x512_S1024x128_0_256 r' k').symm
      refine (pay6_apply x4 _ _ r' k').trans ?_
      simp only [ld_rows_head _ 2 256 rfl]
    · refine Eq.trans ?_ (hG 1 128 rfl inb_S1024x512_S1024x128_0_128 r' k').symm
      refine (pay4_apply x4 _ _ r' k').trans ?_
      simp only [ld_rows_head _ 1 128 rfl]
    · refine Eq.trans ?_ (hG 0 0 rfl inb_S1024x512_S1024x128_0_0 r' k').symm
      refine (pay2_apply x4 _ _ r' k').trans ?_
      simp only [ld_rows_head _ 0 0 rfl]
  · obtain ⟨d, k, rfl⟩ := col_split j
    have hm : ∀ (o : ℕ) (ho : o = 128 * d.val)
        (h : ∀ a, (![0, o] : Fin 2 → ℕ) a + (![1024, 128] : Fin 2 → ℕ) a ≤ S1024x512.size a),
        ix2 r (headIx d k) ∈ (Rect.unit (s := S1024x512) ![0, o] ![1024, 128] h).set := by
      intro o ho h
      subst ho
      rw [Rect.mem_set_unit]
      intro a
      fin_cases a
      · show 0 ≤ r.val ∧ r.val < 0 + 1024; omega
      · show 128 * d.val ≤ 128 * d.val + k.val ∧ 128 * d.val + k.val < 128 * d.val + 128; omega
    fin_cases d
    · exact ⟨_, List.Mem.tail _ (List.Mem.tail _ (List.Mem.tail _ (List.Mem.head _))), hm 0 rfl inb_S1024x512_S1024x128_0_0⟩
    · exact ⟨_, List.Mem.tail _ (List.Mem.tail _ (List.Mem.head _)), hm 128 rfl inb_S1024x512_S1024x128_0_128⟩
    · exact ⟨_, List.Mem.tail _ (List.Mem.head _), hm 256 rfl inb_S1024x512_S1024x128_0_256⟩
    · exact ⟨_, List.Mem.head _, hm 384 rfl inb_S1024x512_S1024x128_0_384⟩

/-- One block of hidden columns adds its part of the second product. -/
theorem ffStep_apply (hn : Vec Ideal S1024x1024 .bf16) (x8 x9 : Vec Ideal S1024x2816 .bf16) (x10 : Vec Ideal S2816x1024 .bf16)
    (o : ℕ) (hc : ∀ a, (![0, o] : Fin 2 → ℕ) a + (![1024, 256] : Fin 2 → ℕ) a ≤ S1024x2816.size a)
    (hr : ∀ a, (![o, 0] : Fin 2 → ℕ) a + (![256, 1024] : Fin 2 → ℕ) a ≤ S2816x1024.size a)
    (ho : o + 256 ≤ 2816) (acc : Vec Ideal S1x1024x1024 .f32) (r d : Fin 1024) (a : EReal)
    (h : acc (ix3 (0 : Fin 1) r d) = a + ∑ k ∈ Finset.range o, ext0 (fun f =>
      actRow (fun j => hn (ix2 r j)) (fun j f => x8 (ix2 j f)) (fun j f => x9 (ix2 j f)) f * x10 (ix2 f d)) k) :
    ffStep hn x8 x9 x10 o hc hr acc (ix3 (0 : Fin 1) r d)
      = a + ∑ k ∈ Finset.range (o + 256), ext0 (fun f =>
          actRow (fun j => hn (ix2 r j)) (fun j f => x8 (ix2 j f)) (fun j f => x9 (ix2 j f)) f * x10 (ix2 f d)) k := by
  rw [← add_block _ a o 256 ho, ← h]
  refine (pay11_apply hn _ _ acc _ r d).trans ?_
  simp only [ld_cols x8 hc, ld_cols x9 hc, ld_rows x10 hr]
  rfl

/-- The whole feed-forward part at an entry. -/
theorem ffTile_apply (acc : Vec Ideal S1x1024x1024 .f32) (hn : Vec Ideal S1024x1024 .bf16) (x8 x9 : Vec Ideal S1024x2816 .bf16)
    (x10 : Vec Ideal S2816x1024 .bf16) (r d : Fin 1024) :
    ffTile acc hn x8 x9 x10 (ix3 (0 : Fin 1) r d)
      = acc (ix3 (0 : Fin 1) r d) + ∑ f : Fin 2816,
          actRow (fun j => hn (ix2 r j)) (fun j f => x8 (ix2 j f)) (fun j f => x9 (ix2 j f)) f * x10 (ix2 f d) := by
  rw [sum_ext0]
  unfold ffTile
  refine ffStep_apply hn x8 x9 x10 2560 _ _ (by omega) _ r d _ ?_
  refine ffStep_apply hn x8 x9 x10 2304 _ _ (by omega) _ r d _ ?_
  refine ffStep_apply hn x8 x9 x10 2048 _ _ (by omega) _ r d _ ?_
  refine ffStep_apply hn x8 x9 x10 1792 _ _ (by omega) _ r d _ ?_
  refine ffStep_apply hn x8 x9 x10 1536 _ _ (by omega) _ r d _ ?_
  refine ffStep_apply hn x8 x9 x10 1280 _ _ (by omega) _ r d _ ?_
  refine ffStep_apply hn x8 x9 x10 1024 _ _ (by omega) _ r d _ ?_
  refine ffStep_apply hn x8 x9 x10 768 _ _ (by omega) _ r d _ ?_
  refine ffStep_apply hn x8 x9 x10 512 _ _ (by omega) _ r d _ ?_
  refine ffStep_apply hn x8 x9 x10 256 _ _ (by omega) _ r d _ ?_
  refine ffStep_apply hn x8 x9 x10 0 _ _ (by omega) _ r d _ ?_
  rw [Finset.sum_range_zero, add_zero]

/-- The output block at an entry: the row's value. -/
theorem tile_apply (x0 : Vec Ideal S1x1024x1024 .f32) (x1 : Vec Ideal S1x1024x512 .f32) (x2 x3 : Vec Ideal S1x1024x512 .bf16)
    (x4 : Vec Ideal S1x512 .f32) (x5 x6 : Vec Ideal S512x1024 .bf16) (x7 : Vec Ideal S1x1024 .f32)
    (x8 x9 : Vec Ideal S1024x2816 .bf16) (x10 : Vec Ideal S2816x1024 .bf16) (x11 : Vec Ideal S1x1024 .f32)
    (nw : Fin 128 → EReal) (h4 : ∀ d k, x4 (ix2 (0 : Fin 1) (headIx d k)) = nw k) (Wo : Fin 1024 → Fin 1024 → EReal)
    (h5 : ∀ (j : Fin 512) d, x5 (ix2 j d) = Wo ⟨j.val, by omega⟩ d)
    (h6 : ∀ (j : Fin 512) d, x6 (ix2 j d) = Wo ⟨512 + j.val, by omega⟩ d) (r d : Fin 1024) :
    tile x0 x1 x2 x3 x4 x5 x6 x7 x8 x9 x10 x11 (ix3 (0 : Fin 1) r d)
      = rmsRow c1024 (ffRow (midRow (fun d => x0 (ix3 (0 : Fin 1) r d))
            (mixRow (fun j => x1 (ix3 (0 : Fin 1) r j)) (fun j => x2 (ix3 (0 : Fin 1) r j)) (fun j => x3 (ix3 (0 : Fin 1) r j)) nw) Wo)
          (fun j => x7 (ix2 (0 : Fin 1) j)) (fun j f => x8 (ix2 j f)) (fun j f => x9 (ix2 j f)) (fun f d => x10 (ix2 f d)))
          (fun j => x11 (ix2 (0 : Fin 1) j)) d := by
  have hmid : ∀ d : Fin 1024, k0_pay8 x0 (heads x1 x2 x4) x5 x3 x6 (ix2 r d)
      = midRow (fun d => x0 (ix3 (0 : Fin 1) r d))
          (mixRow (fun j => x1 (ix3 (0 : Fin 1) r j)) (fun j => x2 (ix3 (0 : Fin 1) r j)) (fun j => x3 (ix3 (0 : Fin 1) r j)) nw) Wo d := by
    intro d
    rw [pay8_apply, midRow_eq]
    simp only [heads_apply x1 x2 x4 nw h4, h5, h6]
  unfold tile
  rw [pay29_apply]
  congr 1
  funext d
  rw [ffTile_apply, pay9_apply, hmid]
  simp only [pay10_apply, hmid]
  rfl

end Cert.Proof.OutFfn

end
-- ==== Proof.OutFfn.Array.lean ====
/- The result array of the second half's kernel, from its argument arrays. -/
module

public import proofs.«01_k».proof.Proof.OutFfn.Tile
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)

namespace Cert.Proof.OutFfn

open Cert.Kernel2Ideal Cert.Kernel2Ideal.Gen

variable (m : (ℓ : Loc nD τ sig) → Buf (Elt Ideal) ℓ)

/-! ## The arrays the host code prepares -/

theorem V3 (c : Dev nD) (d : Fin 4) (k : Fin 128) :
    V m c main_v3 (ix2 (0 : Fin 1) (headIx d k)) = m ((c : Thread nD τ).loc main_arg4) (ix1 k) := by
  have e : V m c main_v3 = broadcastInDim S1x512 ![1] bcast_S512_S1x512_1 (shapeCast S512 (broadcastInDim S4x128 ![0, 1]
      bcast_S1x128_S4x128_0_1 (shapeCast S1x128 (m ((c : Thread nD τ).loc main_arg4)) shapeCasts_S128_S1x128)) shapeCasts_S4x128_S512) := by
    show StableHlo.after hostOps0 _ (Proc.devRef .tc main_v3) = _
    after_results_simp
    rfl
  rw [e]
  generalize m ((c : Thread nD τ).loc main_arg4) = A
  pointwise
  exact congrArg (fun k => A (ix1 k)) (place_of d k _)

theorem V5 (c : Dev nD) (j : Fin 512) (d : Fin 1024) :
    V m c main_v5 (ix2 j d) = m ((c : Thread nD τ).loc main_arg5) (ix2 (⟨j.val, by omega⟩ : Fin 1024) d) := by
  have e : @Eq (FVec Ideal S512x1024 .bf16) (V m c main_v5) (truncf .bf16 (extractStridedSlice S512x1024 ![0, 0] (m ((c : Thread nD τ).loc main_arg5) : Vec Ideal S1024x1024 .f32)
      slices_S1024x1024_S512x1024_0_0) bitsLt_bf16_f32) := by
    show StableHlo.after hostOps0 _ (Proc.devRef .tc main_v5) = _
    after_results_simp
  rw [e]
  generalize m ((c : Thread nD τ).loc main_arg5) = A
  pointwise

theorem V7 (c : Dev nD) (j : Fin 512) (d : Fin 1024) :
    V m c main_v7 (ix2 j d) = m ((c : Thread nD τ).loc main_arg5) (ix2 (⟨512 + j.val, by omega⟩ : Fin 1024) d) := by
  have e : @Eq (FVec Ideal S512x1024 .bf16) (V m c main_v7) (truncf .bf16 (extractStridedSlice S512x1024 ![512, 0] (m ((c : Thread nD τ).loc main_arg5) : Vec Ideal S1024x1024 .f32)
      slices_S1024x1024_S512x1024_512_0) bitsLt_bf16_f32) := by
    show StableHlo.after hostOps0 _ (Proc.devRef .tc main_v7) = _
    after_results_simp
  rw [e]
  generalize m ((c : Thread nD τ).loc main_arg5) = A
  pointwise

theorem V8 (c : Dev nD) (d : Fin 1024) :
    V m c main_v8 (ix2 (0 : Fin 1) d) = m ((c : Thread nD τ).loc main_arg6) (ix1 d) := by
  have e : V m c main_v8 = broadcastInDim S1x1024 ![1] bcast_S1024_S1x1024_1 (m ((c : Thread nD τ).loc main_arg6)) := by
    show StableHlo.after hostOps0 _ (Proc.devRef .tc main_v8) = _
    after_results_simp
  rw [e]
  generalize m ((c : Thread nD τ).loc main_arg6) = A
  pointwise

theorem V10 (c : Dev nD) (j : Fin 1024) (f : Fin 2816) :
    V m c main_v10 (ix2 j f) = m ((c : Thread nD τ).loc main_arg7) (ix2 j (⟨f.val, by omega⟩ : Fin 5632)) := by
  have e : @Eq (FVec Ideal S1024x2816 .bf16) (V m c main_v10) (truncf .bf16 (extractStridedSlice S1024x2816 ![0, 0] (m ((c : Thread nD τ).loc main_arg7) : Vec Ideal S1024x5632 .f32)
      slices_S1024x5632_S1024x2816_0_0) bitsLt_bf16_f32) := by
    show StableHlo.after hostOps0 _ (Proc.devRef .tc main_v10) = _
    after_results_simp
  rw [e]
  generalize m ((c : Thread nD τ).loc main_arg7) = A
  pointwise

theorem V12 (c : Dev nD) (j : Fin 1024) (f : Fin 2816) :
    V m c main_v12 (ix2 j f) = m ((c : Thread nD τ).loc main_arg7) (ix2 j (⟨2816 + f.val, by omega⟩ : Fin 5632)) := by
  have e : @Eq (FVec Ideal S1024x2816 .bf16) (V m c main_v12) (truncf .bf16 (extractStridedSlice S1024x2816 ![0, 2816] (m ((c : Thread nD τ).loc main_arg7) : Vec Ideal S1024x5632 .f32)
      slices_S1024x5632_S1024x2816_0_2816) bitsLt_bf16_f32) := by
    show StableHlo.after hostOps0 _ (Proc.devRef .tc main_v12) = _
    after_results_simp
  rw [e]
  generalize m ((c : Thread nD τ).loc main_arg7) = A
  pointwise

theorem V13 (c : Dev nD) (f : Fin 2816) (d : Fin 1024) :
    V m c main_v13 (ix2 f d) = m ((c : Thread nD τ).loc main_arg8) (ix2 f d) := by
  have e : @Eq (FVec Ideal S2816x1024 .bf16) (V m c main_v13) (truncf .bf16 (m ((c : Thread nD τ).loc main_arg8) : Vec Ideal S2816x1024 .f32) bitsLt_bf16_f32) := by
    show StableHlo.after hostOps0 _ (Proc.devRef .tc main_v13) = _
    after_results_simp
  rw [e]
  generalize m ((c : Thread nD τ).loc main_arg8) = A
  pointwise

theorem V14 (c : Dev nD) (d : Fin 1024) :
    V m c main_v14 (ix2 (0 : Fin 1) d) = m ((c : Thread nD τ).loc main_arg9) (ix1 d) := by
  have e : V m c main_v14 = broadcastInDim S1x1024 ![1] bcast_S1024_S1x1024_1 (m ((c : Thread nD τ).loc main_arg9)) := by
    show StableHlo.after hostOps0 _ (Proc.devRef .tc main_v14) = _
    after_results_simp
  rw [e]
  generalize m ((c : Thread nD τ).loc main_arg9) = A
  pointwise

/-! ## The blocks at a grid point -/

/-- The batch entry of grid point `t`. -/
def bOf (t : Fin cfg0.N) : Fin 16 := ⟨t.val / 2, by have := t.isLt; have h : cfg0.N = 32 := N_0; omega⟩

/-- Row `r` of grid point `t`, as a row of the result. -/
def sOf (t : Fin cfg0.N) (r : Fin 1024) : Fin 2048 := ⟨1024 * (t.val % 2) + r.val, by omega⟩

theorem at0 : ∀ t : Fin cfg0.N, cc0_transform_0 (grid0.coords t) = ![t.val / 2, 64 + 1024 * (t.val % 2), 0] :=
  (by decide +kernel : ∀ t : Fin grid0.N, cc0_transform_0 (grid0.coords t) = ![t.val / 2, 64 + 1024 * (t.val % 2), 0])
theorem at1 : ∀ t : Fin cfg0.N, cc0_transform_1 (grid0.coords t) = ![t.val / 2, 64 + 1024 * (t.val % 2), 0] :=
  (by decide +kernel : ∀ t : Fin grid0.N, cc0_transform_1 (grid0.coords t) = ![t.val / 2, 64 + 1024 * (t.val % 2), 0])
theorem at2 : ∀ t : Fin cfg0.N, cc0_transform_2 (grid0.coords t) = ![t.val / 2, 64 + 1024 * (t.val % 2), 0] :=
  (by decide +kernel : ∀ t : Fin grid0.N, cc0_transform_2 (grid0.coords t) = ![t.val / 2, 64 + 1024 * (t.val % 2), 0])
theorem at3 : ∀ t : Fin cfg0.N, cc0_transform_3 (grid0.coords t) = ![t.val / 2, 64 + 1024 * (t.val % 2), 0] :=
  (by decide +kernel : ∀ t : Fin grid0.N, cc0_transform_3 (grid0.coords t) = ![t.val / 2, 64 + 1024 * (t.val % 2), 0])
theorem at12 : ∀ t : Fin cfg0.N, cc0_transform_12 (grid0.coords t) = ![t.val / 2, t.val % 2, 0] :=
  (by decide +kernel : ∀ t : Fin grid0.N, cc0_transform_12 (grid0.coords t) = ![t.val / 2, t.val % 2, 0])

theorem blk0 (c : Dev nD) (t : Fin cfg0.N) (r d : Fin 1024) :
    (iblk m c 0 t : Vec Ideal S1x1024x1024 .f32) (ix3 (0 : Fin 1) r d)
      = m ((c : Thread nD τ).loc main_arg0) (ix3 (bOf t) (⟨64 + (sOf t r).val, by have := (sOf t r).isLt; omega⟩ : Fin 2112) d) := by
  unfold iblk
  rw [View.read_apply]
  show V m c main_arg0 _ = _
  rw [V_main_arg0]
  congr 1
  funext a
  refine Fin.ext ?_
  show cc0_transform_0 (grid0.coords t) a + 1 * (ix3 (0 : Fin 1) r d a).val = _
  rw [at0]
  match a with
  | ⟨0, _⟩ => show t.val / 2 + 1 * 0 = t.val / 2; omega
  | ⟨1, _⟩ => show 64 + 1024 * (t.val % 2) + 1 * r.val = 64 + (1024 * (t.val % 2) + r.val); omega
  | ⟨2, _⟩ => show 0 + 1 * d.val = d.val; omega

theorem blk1 (c : Dev nD) (t : Fin cfg0.N) (r : Fin 1024) (d : Fin 512) :
    (iblk m c 1 t : Vec Ideal S1x1024x512 .f32) (ix3 (0 : Fin 1) r d)
      = m ((c : Thread nD τ).loc main_arg1) (ix3 (bOf t) (⟨64 + (sOf t r).val, by have := (sOf t r).isLt; omega⟩ : Fin 2112) d) := by
  unfold iblk
  rw [View.read_apply]
  show V m c main_arg1 _ = _
  rw [V_main_arg1]
  congr 1
  funext a
  refine Fin.ext ?_
  show cc0_transform_1 (grid0.coords t) a + 1 * (ix3 (0 : Fin 1) r d a).val = _
  rw [at1]
  match a with
  | ⟨0, _⟩ => show t.val / 2 + 1 * 0 = t.val / 2; omega
  | ⟨1, _⟩ => show 64 + 1024 * (t.val % 2) + 1 * r.val = 64 + (1024 * (t.val % 2) + r.val); omega
  | ⟨2, _⟩ => show 0 + 1 * d.val = d.val; omega

theorem blk2 (c : Dev nD) (t : Fin cfg0.N) (r : Fin 1024) (d : Fin 512) :
    (iblk m c 2 t : Vec Ideal S1x1024x512 .bf16) (ix3 (0 : Fin 1) r d)
      = m ((c : Thread nD τ).loc main_arg2) (ix3 (bOf t) (⟨64 + (sOf t r).val, by have := (sOf t r).isLt; omega⟩ : Fin 2112) d) := by
  unfold iblk
  rw [View.read_apply]
  show V m c main_arg2 _ = _
  rw [V_main_arg2]
  congr 1
  funext a
  refine Fin.ext ?_
  show cc0_transform_2 (grid0.coords t) a + 1 * (ix3 (0 : Fin 1) r d a).val = _
  rw [at2]
  match a with
  | ⟨0, _⟩ => show t.val / 2 + 1 * 0 = t.val / 2; omega
  | ⟨1, _⟩ => show 64 + 1024 * (t.val % 2) + 1 * r.val = 64 + (1024 * (t.val % 2) + r.val); omega
  | ⟨2, _⟩ => show 0 + 1 * d.val = d.val; omega

theorem blk3 (c : Dev nD) (t : Fin cfg0.N) (r : Fin 1024) (d : Fin 512) :
    (iblk m c 3 t : Vec Ideal S1x1024x512 .bf16) (ix3 (0 : Fin 1) r d)
      = m ((c : Thread nD τ).loc main_arg3) (ix3 (bOf t) (⟨64 + (sOf t r).val, by have := (sOf t r).isLt; omega⟩ : Fin 2112) d) := by
  unfold iblk
  rw [View.read_apply]
  show V m c main_arg3 _ = _
  rw [V_main_arg3]
  congr 1
  funext a
  refine Fin.ext ?_
  show cc0_transform_3 (grid0.coords t) a + 1 * (ix3 (0 : Fin 1) r d a).val = _
  rw [at3]
  match a with
  | ⟨0, _⟩ => show t.val / 2 + 1 * 0 = t.val / 2; omega
  | ⟨1, _⟩ => show 64 + 1024 * (t.val % 2) + 1 * r.val = 64 + (1024 * (t.val % 2) + r.val); omega
  | ⟨2, _⟩ => show 0 + 1 * d.val = d.val; omega

theorem blk4 (c : Dev nD) (t : Fin cfg0.N) : (iblk m c 4 t : Vec Ideal S1x512 .f32) = V m c main_v3 := by
  have hz' : (fun a => win0_4.index t a * main_v3.ty.shape.size a) = fun _ => 0 := funext fun a => by fin_cases a <;> rfl
  exact Memref.read_access_unit_zero (Elt Ideal) main_v3 hz' (fun a => by rw [congrFun hz' a]; simp) (V m c main_v3)

theorem blk5 (c : Dev nD) (t : Fin cfg0.N) : (iblk m c 5 t : Vec Ideal S512x1024 .bf16) = V m c main_v5 := by
  have hz' : (fun a => win0_5.index t a * main_v5.ty.shape.size a) = fun _ => 0 := funext fun a => by fin_cases a <;> rfl
  exact Memref.read_access_unit_zero (Elt Ideal) main_v5 hz' (fun a => by rw [congrFun hz' a]; simp) (V m c main_v5)

theorem blk6 (c : Dev nD) (t : Fin cfg0.N) : (iblk m c 6 t : Vec Ideal S512x1024 .bf16) = V m c main_v7 := by
  have hz' : (fun a => win0_6.index t a * main_v7.ty.shape.size a) = fun _ => 0 := funext fun a => by fin_cases a <;> rfl
  exact Memref.read_access_unit_zero (Elt Ideal) main_v7 hz' (fun a => by rw [congrFun hz' a]; simp) (V m c main_v7)

theorem blk7 (c : Dev nD) (t : Fin cfg0.N) : (iblk m c 7 t : Vec Ideal S1x1024 .f32) = V m c main_v8 := by
  have hz' : (fun a => win0_7.index t a * main_v8.ty.shape.size a) = fun _ => 0 := funext fun a => by fin_cases a <;> rfl
  exact Memref.read_access_unit_zero (Elt Ideal) main_v8 hz' (fun a => by rw [congrFun hz' a]; simp) (V m c main_v8)

theorem blk8 (c : Dev nD) (t : Fin cfg0.N) : (iblk m c 8 t : Vec Ideal S1024x2816 .bf16) = V m c main_v10 := by
  have hz' : (fun a => win0_8.index t a * main_v10.ty.shape.size a) = fun _ => 0 := funext fun a => by fin_cases a <;> rfl
  exact Memref.read_access_unit_zero (Elt Ideal) main_v10 hz' (fun a => by rw [congrFun hz' a]; simp) (V m c main_v10)

theorem blk9 (c : Dev nD) (t : Fin cfg0.N) : (iblk m c 9 t : Vec Ideal S1024x2816 .bf16) = V m c main_v12 := by
  have hz' : (fun a => win0_9.index t a * main_v12.ty.shape.size a) = fun _ => 0 := funext fun a => by fin_cases a <;> rfl
  exact Memref.read_access_unit_zero (Elt Ideal) main_v12 hz' (fun a => by rw [congrFun hz' a]; simp) (V m c main_v12)

theorem blk10 (c : Dev nD) (t : Fin cfg0.N) : (iblk m c 10 t : Vec Ideal S2816x1024 .bf16) = V m c main_v13 := by
  have hz' : (fun a => win0_10.index t a * main_v13.ty.shape.size a) = fun _ => 0 := funext fun a => by fin_cases a <;> rfl
  exact Memref.read_access_unit_zero (Elt Ideal) main_v13 hz' (fun a => by rw [congrFun hz' a]; simp) (V m c main_v13)

theorem blk11 (c : Dev nD) (t : Fin cfg0.N) : (iblk m c 11 t : Vec Ideal S1x1024 .f32) = V m c main_v14 := by
  have hz' : (fun a => win0_11.index t a * main_v14.ty.shape.size a) = fun _ => 0 := funext fun a => by fin_cases a <;> rfl
  exact Memref.read_access_unit_zero (Elt Ideal) main_v14 hz' (fun a => by rw [congrFun hz' a]; simp) (V m c main_v14)

/-! ## The result array -/

/-- The result: the second half of every row. -/
def result (c : Dev nD) : Buf (Elt Ideal) ((c : Thread nD τ).loc main_v15) := fun i =>
  half (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (i 0) (i 1) (i 2)

/-- A row's value depends on nothing but what the row reads. -/
theorem row_congr {h h' : Fin 1024 → EReal} {o o' z z' y y' : Fin 512 → EReal} (eh : h = h') (eo : o = o') (ez : z = z') (ey : y = y')
    (nw : Fin 128 → EReal) (Wo : Fin 1024 → Fin 1024 → EReal) {n2 n2' : Fin 1024 → EReal} (en : n2 = n2')
    {Wg Wg' Wu Wu' : Fin 1024 → Fin 2816 → EReal} (eg : Wg = Wg') (eu : Wu = Wu') {Wd Wd' : Fin 2816 → Fin 1024 → EReal} (ed : Wd = Wd')
    {nf nf' : Fin 1024 → EReal} (ef : nf = nf') (d : Fin 1024) :
    rmsRow c1024 (ffRow (midRow h (mixRow o z y nw) Wo) n2 Wg Wu Wd) nf d
      = rmsRow c1024 (ffRow (midRow h' (mixRow o' z' y' nw) Wo) n2' Wg' Wu' Wd') nf' d := by
  subst eh eo ez ey en eg eu ed ef
  rfl

/-- What grid point `t` writes back at row `r` is the result there. -/
theorem point_eq (c : Dev nD) (t : Fin cfg0.N) (r d : Fin 1024) :
    tile (iblk m c 0 t) (iblk m c 1 t) (iblk m c 2 t) (iblk m c 3 t) (iblk m c 4 t) (iblk m c 5 t) (iblk m c 6 t)
        (iblk m c 7 t) (iblk m c 8 t) (iblk m c 9 t) (iblk m c 10 t) (iblk m c 11 t) (ix3 (0 : Fin 1) r d)
      = result m c (ix3 (bOf t) (sOf t r) d) := by
  refine (tile_apply _ _ _ _ _ _ _ _ _ _ _ _ (fun k => m ((c : Thread nD τ).loc main_arg4) (ix1 k))
    (fun d k => (congrFun (blk4 m c t) _).trans (V3 m c d k)) (fun j d => m ((c : Thread nD τ).loc main_arg5) (ix2 j d))
    (fun j d => (congrFun (blk5 m c t) _).trans (V5 m c j d)) (fun j d => (congrFun (blk6 m c t) _).trans (V7 m c j d)) r d).trans ?_
  exact row_congr (funext fun d => blk0 m c t r d) (funext fun j => blk1 m c t r j) (funext fun j => blk2 m c t r j)
    (funext fun j => blk3 m c t r j) _ _ (funext fun d => (congrFun (blk7 m c t) _).trans (V8 m c d))
    (funext fun j => funext fun f => (congrFun (blk8 m c t) _).trans (V10 m c j f))
    (funext fun j => funext fun f => (congrFun (blk9 m c t) _).trans (V12 m c j f))
    (funext fun f => funext fun d => (congrFun (blk10 m c t) _).trans (V13 m c f d))
    (funext fun d => (congrFun (blk11 m c t) _).trans (V14 m c d)) d

theorem flushed_eq (c : Dev nD) (t : Fin cfg0.N) :
    (dats m 0 c).flushed 12 t = ((cfg0.win 12).blk t).view.read (Elt Ideal) (result m c) := by
  rw [Cert.Kernel2Ideal.Value.flushed12_A, out_val]
  funext j
  obtain ⟨z, r, d, rfl⟩ : ∃ (z : Fin 1) (r d : Fin 1024), j = ix3 z r d := ⟨j 0, j 1, j 2, eq_ix3 j⟩
  obtain rfl : z = 0 := Subsingleton.elim _ _
  refine (point_eq m c t r d).trans ?_
  rw [View.read_apply]
  show result m c _ = result m c _
  congr 1
  funext a
  refine Fin.ext ?_
  show _ = cc0_transform_12 (grid0.coords t) a * S1x1024x1024.size a + 1 * (ix3 (0 : Fin 1) r d a).val
  rw [at12]
  match a with
  | ⟨0, _⟩ => show t.val / 2 = t.val / 2 * 1 + 1 * 0; omega
  | ⟨1, _⟩ => show 1024 * (t.val % 2) + r.val = t.val % 2 * 1024 + 1 * r.val; omega
  | ⟨2, _⟩ => show d.val = 0 * 1024 + 1 * d.val; omega

/-- The blocks fill the result array. -/
theorem final (c : Dev nD) : (dats m 0 c).arrAt 12 cfg0.N = result m c :=
  (dats m 0 c).arrAt_eq_of_cover 12 (result m c) (fun t _ => flushed_eq m c t) fun i => by
    have h0 : (i 0 : Nat) < 16 := (i 0).isLt
    have h1 : (i 1 : Nat) < 2048 := (i 1).isLt
    have h2 : (i 2 : Nat) < 1024 := (i 2).isLt
    have hN : cfg0.N = 32 := N_0
    obtain ⟨t, ht⟩ : ∃ t : Fin cfg0.N, t.val = 2 * (i 0 : Nat) + (i 1 : Nat) / 1024 := ⟨⟨_, by omega⟩, rfl⟩
    refine ⟨t, flush0_12 t, ?_⟩
    show i ∈ ((View.whole main_v15).slice (win0_12.rect t)).set
    rw [View.set_slice_whole, Rect.mem_set_unit]
    intro a
    show cc0_transform_12 (grid0.coords t) a * S1x1024x1024.size a ≤ (i a : Nat)
      ∧ (i a : Nat) < cc0_transform_12 (grid0.coords t) a * S1x1024x1024.size a + S1x1024x1024.size a
    rw [at12]
    match a with
    | ⟨0, _⟩ => show t.val / 2 * 1 ≤ (i 0 : Nat) ∧ (i 0 : Nat) < t.val / 2 * 1 + 1; omega
    | ⟨1, _⟩ => show t.val % 2 * 1024 ≤ (i 1 : Nat) ∧ (i 1 : Nat) < t.val % 2 * 1024 + 1024; omega
    | ⟨2, _⟩ => show 0 * 1024 ≤ (i 2 : Nat) ∧ (i 2 : Nat) < 0 * 1024 + 1024; omega

end Cert.Proof.OutFfn

end
-- ==== Proof.OutFfn.Ref.lean ====
/- The reference of the layer's second half, read row by row over the extended reals. -/
module

public import proofs.«01_k».proof.Proof.Gen.Reference2Ideal.Run
public import proofs.«01_k».proof.Proof.OutFfn.Row

@[expose] public section

set_option maxRecDepth 16384

noncomputable section

open Idealize.ShloMosaic Idealize.ShloMosaic.TcCoe Idealize.SL.Sem

namespace Cert.Proof.OutFfn.Ref

open Cert.Reference2Ideal Cert.Reference2Ideal.Gen

/-- `1 / (1 + e^(-x))`, over four axes. -/
def sig4 (x : FVec Ideal S16x2064x4x128 .f32) : FVec Ideal S16x2064x4x128 .f32 :=
  Host.divf (broadcastInDim S16x2064x4x128 ![] bcast_S_S16x2064x4x128 (constant S_ .f32 0x3F800000#32))
    (addf (broadcastInDim S16x2064x4x128 ![] bcast_S_S16x2064x4x128 (constant S_ .f32 0x3F800000#32)) (Host.exp (Host.negf x)))

/-- `1 / (1 + e^(-x))`, over the hidden columns. -/
def sig3 (x : FVec Ideal S16x2064x2816 .f32) : FVec Ideal S16x2064x2816 .f32 :=
  Host.divf (broadcastInDim S16x2064x2816 ![] bcast_S_S16x2064x2816 (constant S_ .f32 0x3F800000#32))
    (addf (broadcastInDim S16x2064x2816 ![] bcast_S_S16x2064x2816 (constant S_ .f32 0x3F800000#32)) (Host.exp (Host.negf x)))

/-- The mixer's rows after the per-head norm and the gate. -/
def gate4 (o z : FVec Ideal S16x2064x4x128 .f32) (w : FVec Ideal S128 .f32) : FVec Ideal S16x2064x4x128 .f32 :=
  mulf (mulf (mulf o (broadcastInDim S16x2064x4x128 ![0, 1, 2, 3] bcast_S16x2064x4x1_S16x2064x4x128_0_1_2_3 (Host.rsqrt (addf
      (Host.divf (broadcastInDim S16x2064x4x1 ![0, 1, 2] bcast_S16x2064x4_S16x2064x4x1_0_1_2
        (Host.reduceAdd (mulf o o) (constant S_ .f32 0x00000000#32) reducesTo_S16x2064x4x128_S16x2064x4_d3 h_S_))
        (broadcastInDim S16x2064x4x1 ![] bcast_S_S16x2064x4x1 (constant S_ .f32 0x43000000#32)))
      (broadcastInDim S16x2064x4x1 ![] bcast_S_S16x2064x4x1 (constant S_ .f32 0x358637BD#32))))))
    (broadcastInDim S16x2064x4x128 ![0, 1, 2, 3] bcast_S1x1x1x128_S16x2064x4x128_0_1_2_3
      (broadcastInDim S1x1x1x128 ![3] bcast_S128_S1x1x1x128_3 w))) (mulf z (sig4 z))

/-- A norm over the model's width. -/
def norm3 (x : FVec Ideal S16x2064x1024 .f32) (w : FVec Ideal S1024 .f32) : FVec Ideal S16x2064x1024 .f32 :=
  mulf (mulf x (broadcastInDim S16x2064x1024 ![0, 1, 2] bcast_S16x2064x1_S16x2064x1024_0_1_2 (Host.rsqrt (addf
      (Host.divf (broadcastInDim S16x2064x1 ![0, 1] bcast_S16x2064_S16x2064x1_0_1
        (Host.reduceAdd (mulf x x) (constant S_ .f32 0x00000000#32) reducesTo_S16x2064x1024_S16x2064_d2 h_S_))
        (broadcastInDim S16x2064x1 ![] bcast_S_S16x2064x1 (constant S_ .f32 0x44800000#32)))
      (broadcastInDim S16x2064x1 ![] bcast_S_S16x2064x1 (constant S_ .f32 0x358637BD#32))))))
    (broadcastInDim S16x2064x1024 ![0, 1, 2] bcast_S1x1x1024_S16x2064x1024_0_1_2
      (broadcastInDim S1x1x1024 ![2] bcast_S1024_S1x1x1024_2 w))

/-- The rows past the padding. -/
def cut (x : FVec Ideal S16x2112x512 .f32) : FVec Ideal S16x2064x512 .f32 :=
  extractStridedSlice S16x2064x512 ![0, 48, 0] x slices_S16x2112x512_S16x2064x512_0_48_0

/-- The joined row. -/
def mix3 (o z y : FVec Ideal S16x2064x512 .f32) (w : FVec Ideal S128 .f32) : FVec Ideal S16x2064x1024 .f32 :=
  concatenate S16x2064x1024 2 [⟨S16x2064x512, shapeCast S16x2064x512 (gate4 (shapeCast S16x2064x4x128 o shapeCasts_S16x2064x512_S16x2064x4x128)
    (shapeCast S16x2064x4x128 z shapeCasts_S16x2064x512_S16x2064x4x128) w) shapeCasts_S16x2064x4x128_S16x2064x512⟩, ⟨S16x2064x512, y⟩]
    concatenates_S16x2064x512_S16x2064x512_S16x2064x1024_d2

/-- The residual rows after the output projection. -/
def mid3 (h : FVec Ideal S16x2112x1024 .f32) (m : FVec Ideal S16x2064x1024 .f32) (W : FVec Ideal S1024x1024 .f32) :
    FVec Ideal S16x2064x1024 .f32 :=
  addf (extractStridedSlice S16x2064x1024 ![0, 48, 0] h slices_S16x2112x1024_S16x2064x1024_0_48_0)
    (Host.dotGeneral dot_S16x2064x1024_S1024x1024_S16x2064x1024_2_0_01_1_n_n none m W)

/-- The hidden columns. -/
def act3 (u : FVec Ideal S16x2064x5632 .f32) : FVec Ideal S16x2064x2816 .f32 :=
  mulf (mulf (extractStridedSlice S16x2064x2816 ![0, 0, 0] u slices_S16x2064x5632_S16x2064x2816_0_0_0)
    (sig3 (extractStridedSlice S16x2064x2816 ![0, 0, 0] u slices_S16x2064x5632_S16x2064x2816_0_0_0)))
    (extractStridedSlice S16x2064x2816 ![0, 0, 2816] u slices_S16x2064x5632_S16x2064x2816_0_0_2816)

/-- The residual rows after the feed-forward block. -/
def ff3 (x : FVec Ideal S16x2064x1024 .f32) (n : FVec Ideal S1024 .f32) (W : FVec Ideal S1024x5632 .f32)
    (D : FVec Ideal S2816x1024 .f32) : FVec Ideal S16x2064x1024 .f32 :=
  addf x (Host.dotGeneral dot_S16x2064x2816_S2816x1024_S16x2064x1024_2_0_01_1_n_n none
    (act3 (Host.dotGeneral dot_S16x2064x1024_S1024x5632_S16x2064x5632_2_0_01_1_n_n none (norm3 x n) W)) D)

/-- The whole of the reference's result. -/
def whole (a0 : FVec Ideal S16x2112x1024 .f32) (a1 a2 a3 : FVec Ideal S16x2112x512 .f32) (a4 : FVec Ideal S128 .f32)
    (a5 : FVec Ideal S1024x1024 .f32) (a6 : FVec Ideal S1024 .f32) (a7 : FVec Ideal S1024x5632 .f32)
    (a8 : FVec Ideal S2816x1024 .f32) (a9 : FVec Ideal S1024 .f32) : FVec Ideal S16x2048x1024 .f32 :=
  extractStridedSlice S16x2048x1024 ![0, 16, 0]
    (norm3 (ff3 (mid3 a0 (mix3 (cut a1) (cut a2) (cut a3) a4) a5) a6 a7 a8) a9) slices_S16x2064x1024_S16x2048x1024_0_16_0

theorem res_eq (m : (ℓ : Loc nD τ sig) → Buf (Elt Ideal) ℓ) (c : Dev nD) :
    Value.res_main_v72 m c = whole (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9)) := by
  unfold Value.res_main_v72
  rfl

theorem gate4_apply (o z : FVec Ideal S16x2064x4x128 .f32) (w : FVec Ideal S128 .f32) (b : Fin 16) (s : Fin 2064) (d : Fin 4)
    (k : Fin 128) :
    gate4 o z w (ix4 b s d k) = rmsRow c128 (fun k => o (ix4 b s d k)) (fun k => w (ix1 k)) k * siluE (z (ix4 b s d k)) := by
  unfold rmsRow siluE c128
  pointwise [gate4, sig4]
  rfl

theorem norm3_apply (x : FVec Ideal S16x2064x1024 .f32) (w : FVec Ideal S1024 .f32) (b : Fin 16) (s : Fin 2064) (d : Fin 1024) :
    norm3 x w (ix3 b s d) = rmsRow c1024 (fun d => x (ix3 b s d)) (fun d => w (ix1 d)) d := by
  unfold rmsRow c1024
  pointwise [norm3]

theorem cut_apply (x : FVec Ideal S16x2112x512 .f32) (b : Fin 16) (s : Fin 2064) (j : Fin 512) :
    cut x (ix3 b s j) = x (ix3 b ⟨48 + s.val, by omega⟩ j) := by
  pointwise [cut]

theorem mid3_apply (h : FVec Ideal S16x2112x1024 .f32) (m : FVec Ideal S16x2064x1024 .f32) (W : FVec Ideal S1024x1024 .f32)
    (b : Fin 16) (s : Fin 2064) (d : Fin 1024) :
    mid3 h m W (ix3 b s d)
      = midRow (fun d => h (ix3 b ⟨48 + s.val, by omega⟩ d)) (fun j => m (ix3 b s j)) (fun j d => W (ix2 j d)) d := by
  unfold midRow
  pointwise [mid3]

theorem act3_apply (u : FVec Ideal S16x2064x5632 .f32) (b : Fin 16) (s : Fin 2064) (f : Fin 2816) :
    act3 u (ix3 b s f) = siluE (u (ix3 b s ⟨f.val, by omega⟩)) * u (ix3 b s ⟨2816 + f.val, by omega⟩) := by
  unfold siluE
  pointwise [act3, sig3]
  rfl

theorem up_apply (x : FVec Ideal S16x2064x1024 .f32) (W : FVec Ideal S1024x5632 .f32) (b : Fin 16) (s : Fin 2064) (f : Fin 5632) :
    Host.dotGeneral dot_S16x2064x1024_S1024x5632_S16x2064x5632_2_0_01_1_n_n none x W (ix3 b s f)
      = ∑ d : Fin 1024, x (ix3 b s d) * W (ix2 d f) := by
  pointwise

theorem down_apply (x : FVec Ideal S16x2064x2816 .f32) (D : FVec Ideal S2816x1024 .f32) (b : Fin 16) (s : Fin 2064) (d : Fin 1024) :
    Host.dotGeneral dot_S16x2064x2816_S2816x1024_S16x2064x1024_2_0_01_1_n_n none x D (ix3 b s d)
      = ∑ f : Fin 2816, x (ix3 b s f) * D (ix2 f d) := by
  pointwise

theorem ff3_apply (x : FVec Ideal S16x2064x1024 .f32) (n : FVec Ideal S1024 .f32) (W : FVec Ideal S1024x5632 .f32)
    (D : FVec Ideal S2816x1024 .f32) (b : Fin 16) (s : Fin 2064) (d : Fin 1024) :
    ff3 x n W D (ix3 b s d)
      = ffRow (fun d => x (ix3 b s d)) (fun d => n (ix1 d)) (fun j f => W (ix2 j ⟨f.val, by omega⟩))
          (fun j f => W (ix2 j ⟨2816 + f.val, by omega⟩)) (fun f d => D (ix2 f d)) d := by
  unfold ff3 ffRow actRow
  refine congrArg (x (ix3 b s d) + ·) ((down_apply _ D b s d).trans (Finset.sum_congr rfl fun f _ => ?_))
  rw [act3_apply, up_apply, up_apply]
  simp only [norm3_apply]

theorem split_apply (x : FVec Ideal S16x2064x512 .f32) (b : Fin 16) (s : Fin 2064) (d : Fin 4) (k : Fin 128) :
    shapeCast S16x2064x4x128 x shapeCasts_S16x2064x512_S16x2064x4x128 (ix4 b s d k) = x (ix3 b s (headIx d k)) := by
  refine shapeCast_apply x _ _ _ ?_
  rw [rowMajor_val3 _ (2064 * 512) 512 rfl rfl, rowMajor_val4 _ (2064 * (4 * 128)) (4 * 128) 128 rfl rfl rfl]
  show b.val * (2064 * 512) + s.val * 512 + (128 * d.val + k.val) = b.val * (2064 * (4 * 128)) + s.val * (4 * 128) + d.val * 128 + k.val
  omega

theorem join_apply (x : FVec Ideal S16x2064x4x128 .f32) (b : Fin 16) (s : Fin 2064) (j : Fin 512) :
    shapeCast S16x2064x512 x shapeCasts_S16x2064x4x128_S16x2064x512 (ix3 b s j)
      = x (ix4 b s ⟨j.val / 128, by omega⟩ ⟨j.val % 128, by omega⟩) := by
  refine shapeCast_apply x _ _ _ ?_
  rw [rowMajor_val3 _ (2064 * 512) 512 rfl rfl, rowMajor_val4 _ (2064 * (4 * 128)) (4 * 128) 128 rfl rfl rfl]
  show b.val * (2064 * (4 * 128)) + s.val * (4 * 128) + j.val / 128 * 128 + j.val % 128 = b.val * (2064 * 512) + s.val * 512 + j.val
  omega

theorem mix3_apply (o z y : FVec Ideal S16x2064x512 .f32) (w : FVec Ideal S128 .f32) (b : Fin 16) (s : Fin 2064) (j : Fin 1024) :
    mix3 o z y w (ix3 b s j)
      = mixRow (fun j => o (ix3 b s j)) (fun j => z (ix3 b s j)) (fun j => y (ix3 b s j)) (fun k => w (ix1 k)) j := by
  unfold mixRow mix3
  split_ifs with h
  · refine (concatenate_pair_apply_left (t := S16x2064x1024) (s₁ := S16x2064x512) (s₂ := S16x2064x512) 2 _ _ _ (ix3 b s j) rfl
      (ix3 b s (⟨j.val, h⟩ : Fin 512)) (fun a => by fin_cases a <;> rfl)).trans ?_
    rw [join_apply, gate4_apply]
    simp only [split_apply]
    rfl
  · refine concatenate_pair_apply_right (t := S16x2064x1024) (s₁ := S16x2064x512) (s₂ := S16x2064x512) 2 _ _ _ (ix3 b s j) rfl rfl
      (ix3 b s (⟨j.val - 512, by omega⟩ : Fin 512)) (fun a ha => by fin_cases a <;> first | rfl | exact absurd rfl ha) ?_
    show j.val - 512 + 512 = j.val
    omega

theorem whole_apply (a0 : FVec Ideal S16x2112x1024 .f32) (a1 a2 a3 : FVec Ideal S16x2112x512 .f32) (a4 : FVec Ideal S128 .f32)
    (a5 : FVec Ideal S1024x1024 .f32) (a6 : FVec Ideal S1024 .f32) (a7 : FVec Ideal S1024x5632 .f32)
    (a8 : FVec Ideal S2816x1024 .f32) (a9 : FVec Ideal S1024 .f32) (b : Fin 16) (s : Fin 2048) (d : Fin 1024) :
    whole a0 a1 a2 a3 a4 a5 a6 a7 a8 a9 (ix3 b s d) = half a0 a1 a2 a3 a4 a5 a6 a7 a8 a9 b s d := by
  have e : whole a0 a1 a2 a3 a4 a5 a6 a7 a8 a9 (ix3 b s d)
      = norm3 (ff3 (mid3 a0 (mix3 (cut a1) (cut a2) (cut a3) a4) a5) a6 a7 a8) a9 (ix3 b (⟨16 + s.val, by omega⟩ : Fin 2064) d) := by
    unfold whole
    generalize norm3 (ff3 (mid3 a0 (mix3 (cut a1) (cut a2) (cut a3) a4) a5) a6 a7 a8) a9 = A
    pointwise
  have r : (⟨48 + (16 + s.val), by omega⟩ : Fin 2112) = ⟨64 + s.val, by omega⟩ := Fin.ext (by show 48 + (16 + s.val) = 64 + s.val; omega)
  rw [e, norm3_apply]
  simp only [ff3_apply, mid3_apply, mix3_apply, cut_apply, r]
  rfl

end Cert.Proof.OutFfn.Ref

end
-- ==== Proof.OutFfn.Claim.lean ====
/- The layer's second half: the kernel's result is the reference's, and the reference's frame. -/
module

public import proofs.«01_k».proof.Defs
public import proofs.«01_k».proof.Proof.OutFfn.Array
public import proofs.«01_k».proof.Proof.OutFfn.Ref

@[expose] public section

set_option maxRecDepth 16384

noncomputable section

open Idealize.ShloMosaic Idealize.ShloMosaic.TcCoe Idealize.SL.Sem

namespace Cert.Proof.OutFfn

/-- The reference's result from the kernel's arguments. -/
theorem ref_eq (m : (ℓ : Loc Cert.Kernel2Ideal.nD Cert.Kernel2Ideal.τ Cert.Kernel2Ideal.sig) → Buf (Elt Ideal) ℓ)
    (c : Dev Cert.Kernel2Ideal.nD)
    (A0 : FVec Ideal Cert.Reference2Ideal.S16x2112x1024 .f32) (A1 A2 A3 : FVec Ideal Cert.Reference2Ideal.S16x2112x512 .f32)
    (A4 : FVec Ideal Cert.Reference2Ideal.S128 .f32) (A5 : FVec Ideal Cert.Reference2Ideal.S1024x1024 .f32)
    (A6 : FVec Ideal Cert.Reference2Ideal.S1024 .f32) (A7 : FVec Ideal Cert.Reference2Ideal.S1024x5632 .f32)
    (A8 : FVec Ideal Cert.Reference2Ideal.S2816x1024 .f32) (A9 : FVec Ideal Cert.Reference2Ideal.S1024 .f32)
    (h0 : A0 = m ((c.tc : Thread Cert.Kernel2Ideal.nD Cert.Kernel2Ideal.τ).loc Cert.Kernel2Ideal.main_arg0))
    (h1 : A1 = m ((c.tc : Thread Cert.Kernel2Ideal.nD Cert.Kernel2Ideal.τ).loc Cert.Kernel2Ideal.main_arg1))
    (h2 : A2 = m ((c.tc : Thread Cert.Kernel2Ideal.nD Cert.Kernel2Ideal.τ).loc Cert.Kernel2Ideal.main_arg2))
    (h3 : A3 = m ((c.tc : Thread Cert.Kernel2Ideal.nD Cert.Kernel2Ideal.τ).loc Cert.Kernel2Ideal.main_arg3))
    (h4 : A4 = m ((c.tc : Thread Cert.Kernel2Ideal.nD Cert.Kernel2Ideal.τ).loc Cert.Kernel2Ideal.main_arg4))
    (h5 : A5 = m ((c.tc : Thread Cert.Kernel2Ideal.nD Cert.Kernel2Ideal.τ).loc Cert.Kernel2Ideal.main_arg5))
    (h6 : A6 = m ((c.tc : Thread Cert.Kernel2Ideal.nD Cert.Kernel2Ideal.τ).loc Cert.Kernel2Ideal.main_arg6))
    (h7 : A7 = m ((c.tc : Thread Cert.Kernel2Ideal.nD Cert.Kernel2Ideal.τ).loc Cert.Kernel2Ideal.main_arg7))
    (h8 : A8 = m ((c.tc : Thread Cert.Kernel2Ideal.nD Cert.Kernel2Ideal.τ).loc Cert.Kernel2Ideal.main_arg8))
    (h9 : A9 = m ((c.tc : Thread Cert.Kernel2Ideal.nD Cert.Kernel2Ideal.τ).loc Cert.Kernel2Ideal.main_arg9))
    : Ref.whole A0 A1 A2 A3 A4 A5 A6 A7 A8 A9 = result m c := by
  funext i
  have e : i = ix3 (i 0 : Fin 16) (i 1 : Fin 2048) (i 2 : Fin 1024) := eq_ix3 i
  subst h0 h1 h2 h3 h4 h5 h6 h7 h8 h9
  exact (congrArg _ e).trans (Ref.whole_apply _ _ _ _ _ _ _ _ _ _ (i 0) (i 1) (i 2))

theorem frame_reference : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem value : Cert.algebraic_Kernel2Ideal_Reference2Ideal := fun m ρ m' ρ' _ hag =>
  ⟨fun c => result m c,
    (θ_run Cert.Kernel2Ideal.defs _ _).mono (fun _ h c => ⟨(h c).1.trans (final m c), (h c).2⟩)
      (Cert.Kernel2Ideal.Value.run_blocks m ρ),
    (θ_run Cert.Reference2Ideal.defs _ _).mono (fun _ h c => ⟨(h c).1.trans ((Ref.res_eq m' c).trans (by
        obtain ⟨h0, h1, h2, h3, h4, h5, h6, h7, h8, h9⟩ := hag c
        exact ref_eq m c _ _ _ _ _ _ _ _ _ _ h0 h1 h2 h3 h4 h5 h6 h7 h8 h9)), (h c).2⟩)
      (Cert.Reference2Ideal.Value.run (F := Ideal) m' ρ')⟩

end Cert.Proof.OutFfn

end
-- ==== Proof.OutMid.Block.lean ====
/- What one grid step of the second half's kernel leaves in its output block, at the row tile of the layers before the last, as a term of the blocks it reads. -/
module

public import proofs.«01_k».proof.Proof.Gen.Kernel4Ideal.Value
public import Idealize.ShloMosaic.Lib.Pipeline.ValueKit
public import Idealize.ShloMosaic.Lib.ValueLayout

@[expose] public section

set_option maxRecDepth 16384

noncomputable section

open Idealize.ShloMosaic Idealize.ShloMosaic.TcCoe Idealize.SL.Sem Idealize.ShloMosaic.Tactic
open Idealize.ShloMosaic.Pipeline (Dat)

namespace Cert.Proof.OutMid

open Cert.Kernel4Ideal Cert.Kernel4Ideal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The four heads of a tile after norm and gate, as the scratch buffer holds them. -/
def heads (x1 : Vec F S1x704x512 .f32) (x2 : Vec F S1x704x512 .bf16) (x4 : Vec F S1x512 .f32) : Vec F S704x512 .bf16 :=
  View.canon
    [⟨Rect.unit ![0, 384] ![704, 128] inb_S704x512_S704x128_0_384,
        k0_pay8 (k0_pay2 x4) (View.ld x1 (Rect.unit ![0, 0, 384] ![1, 704, 128] inb_S1x704x512_S1x704x128_0_0_384))
          (View.ld x2 (Rect.unit ![0, 0, 384] ![1, 704, 128] inb_S1x704x512_S1x704x128_0_0_384))⟩,
     ⟨Rect.unit ![0, 256] ![704, 128] inb_S704x512_S704x128_0_256,
        k0_pay7 (k0_pay2 x4) (View.ld x1 (Rect.unit ![0, 0, 256] ![1, 704, 128] inb_S1x704x512_S1x704x128_0_0_256))
          (View.ld x2 (Rect.unit ![0, 0, 256] ![1, 704, 128] inb_S1x704x512_S1x704x128_0_0_256))⟩,
     ⟨Rect.unit ![0, 128] ![704, 128] inb_S704x512_S704x128_0_128,
        k0_pay6 (k0_pay2 x4) (k0_pay4 (View.ld x1 (Rect.unit ![0, 0, 128] ![1, 704, 128] inb_S1x704x512_S1x704x128_0_0_128)))
          (k0_pay5 (View.ld x1 (Rect.unit ![0, 0, 128] ![1, 704, 128] inb_S1x704x512_S1x704x128_0_0_128)))
          (View.ld x2 (Rect.unit ![0, 0, 128] ![1, 704, 128] inb_S1x704x512_S1x704x128_0_0_128))⟩,
     ⟨Rect.unit ![0, 0] ![704, 128] inb_S704x512_S704x128_0_0,
        k0_pay3 x4 (View.ld x1 (Rect.unit ![0, 0, 0] ![1, 704, 128] inb_S1x704x512_S1x704x128_0_0_0))
          (View.ld x2 (Rect.unit ![0, 0, 0] ![1, 704, 128] inb_S1x704x512_S1x704x128_0_0_0))⟩]

/-- One block of 256 hidden columns of the feed-forward part, added to what is there. -/
def ffStep (hn : Vec F S704x1024 .bf16) (x8 x9 : Vec F S1024x2816 .bf16) (x10 : Vec F S2816x1024 .bf16) (o : ℕ)
    (hc : ∀ a, (![0, o] : Fin 2 → ℕ) a + (![1024, 256] : Fin 2 → ℕ) a ≤ S1024x2816.size a)
    (hr : ∀ a, (![o, 0] : Fin 2 → ℕ) a + (![256, 1024] : Fin 2 → ℕ) a ≤ S2816x1024.size a)
    (acc : Vec F S1x704x1024 .f32) : Vec F S1x704x1024 .f32 :=
  k0_pay16 hn (View.ld x8 (Rect.unit ![0, o] ![1024, 256] hc)) hn (View.ld x9 (Rect.unit ![0, o] ![1024, 256] hc)) acc
    (View.ld x10 (Rect.unit ![o, 0] ![256, 1024] hr))

/-- The tile after the feed-forward part, before the final norm. -/
def ffTile (acc : Vec F S1x704x1024 .f32) (hn : Vec F S704x1024 .bf16) (x8 x9 : Vec F S1024x2816 .bf16)
    (x10 : Vec F S2816x1024 .bf16) : Vec F S1x704x1024 .f32 :=
  ffStep hn x8 x9 x10 2560 inb_S1024x2816_S1024x256_0_2560 inb_S2816x1024_S256x1024_2560_0
    (ffStep hn x8 x9 x10 2304 inb_S1024x2816_S1024x256_0_2304 inb_S2816x1024_S256x1024_2304_0
    (ffStep hn x8 x9 x10 2048 inb_S1024x2816_S1024x256_0_2048 inb_S2816x1024_S256x1024_2048_0
    (ffStep hn x8 x9 x10 1792 inb_S1024x2816_S1024x256_0_1792 inb_S2816x1024_S256x1024_1792_0
    (ffStep hn x8 x9 x10 1536 inb_S1024x2816_S1024x256_0_1536 inb_S2816x1024_S256x1024_1536_0
    (ffStep hn x8 x9 x10 1280 inb_S1024x2816_S1024x256_0_1280 inb_S2816x1024_S256x1024_1280_0
    (ffStep hn x8 x9 x10 1024 inb_S1024x2816_S1024x256_0_1024 inb_S2816x1024_S256x1024_1024_0
    (ffStep hn x8 x9 x10 768 inb_S1024x2816_S1024x256_0_768 inb_S2816x1024_S256x1024_768_0
    (ffStep hn x8 x9 x10 512 inb_S1024x2816_S1024x256_0_512 inb_S2816x1024_S256x1024_512_0
    (ffStep hn x8 x9 x10 256 inb_S1024x2816_S1024x256_0_256 inb_S2816x1024_S256x1024_256_0
    (ffStep hn x8 x9 x10 0 inb_S1024x2816_S1024x256_0_0 inb_S2816x1024_S256x1024_0_0
    acc))))))))))

/-- The output block of one grid step. -/
def tile (x0 : Vec F S1x704x1024 .f32) (x1 : Vec F S1x704x512 .f32) (x2 : Vec F S1x704x512 .bf16) (x3 : Vec F S1x704x512 .bf16) (x4 : Vec F S1x512 .f32) (x5 : Vec F S512x1024 .bf16) (x6 : Vec F S512x1024 .bf16) (x7 : Vec F S1x1024 .f32) (x8 : Vec F S1024x2816 .bf16) (x9 : Vec F S1024x2816 .bf16) (x10 : Vec F S2816x1024 .bf16) : Vec F S1x704x1024 .f32 :=
  ffTile (k0_pay12 (k0_pay9 x0 (heads x1 x2 x4) x5) (k0_pay10 x3 x6))
    (k0_pay13 (k0_pay9 x0 (heads x1 x2 x4) x5) (k0_pay10 x3 x6) x7) x8 x9 x10

theorem canon_whole (v : View sig .tc .vmem S704x512 .bf16) (L : List (View.Piece (Elt F) S704x512 .bf16))
    (inb : ∀ a, (![0, 0] : Fin 2 → ℕ) a + (![704, 512] : Fin 2 → ℕ) a ≤ S704x512.size a) :
    v.readCov L (Rect.unit (s := S704x512) ![0, 0] ![704, 512] inb).toLoadRect = View.canon L :=
  (View.readCov_eq_canon' v L _).trans (View.ld_unit_zero (S := S704x512) hz2 inb (View.canon L))

set_option maxHeartbeats 4000000 in
/-- The body leaves that block in its output window. -/
theorem out_val (c : Dev nD) (i : grid0.Coords) (a2 : Memref sig .tc .vmem S1x704x1024 .f32) (h2 : a2.IsWhole) (a3 : Memref sig .tc .vmem S1x704x512 .f32) (h3 : a3.IsWhole) (a4 : Memref sig .tc .vmem S1x704x512 .bf16) (h4 : a4.IsWhole) (a5 : Memref sig .tc .vmem S1x704x512 .bf16) (h5 : a5.IsWhole) (a6 : Memref sig .tc .vmem S1x512 .f32) (h6 : a6.IsWhole) (a7 : Memref sig .tc .vmem S512x1024 .bf16) (h7 : a7.IsWhole) (a8 : Memref sig .tc .vmem S512x1024 .bf16) (h8 : a8.IsWhole) (a9 : Memref sig .tc .vmem S1x1024 .f32) (h9 : a9.IsWhole) (a10 : Memref sig .tc .vmem S1024x2816 .bf16) (h10 : a10.IsWhole) (a11 : Memref sig .tc .vmem S1024x2816 .bf16) (h11 : a11.IsWhole) (a12 : Memref sig .tc .vmem S2816x1024 .bf16) (h12 : a12.IsWhole) (a13 : Memref sig .tc .vmem S1x1024 .f32) (h13 : a13.IsWhole) (a14 : Memref sig .tc .vmem S1x704x1024 .f32) (h14 : a14.IsWhole) (a15 : Memref sig .tc .vmem S704x512 .bf16) (h15 : a15.IsWhole) (a16 : Memref sig .tc .vmem S704x1024 .bf16) (h16 : a16.IsWhole)
    (x0 : Vec F S1x704x1024 .f32) (x1 : Vec F S1x704x512 .f32) (x2 : Vec F S1x704x512 .bf16) (x3 : Vec F S1x704x512 .bf16) (x4 : Vec F S1x512 .f32) (x5 : Vec F S512x1024 .bf16) (x6 : Vec F S512x1024 .bf16) (x7 : Vec F S1x1024 .f32) (x8 : Vec F S1024x2816 .bf16) (x9 : Vec F S1024x2816 .bf16) (x10 : Vec F S2816x1024 .bf16) (x11 : Vec F S1x1024 .f32) :
    out0_A_12 c i a2 h2 a3 h3 a4 h4 a5 h5 a6 h6 a7 h7 a8 h8 a9 h9 a10 h10 a11 h11 a12 h12 a13 h13 a14 h14 a15 h15 a16 h16 x0 x1 x2 x3 x4 x5 x6 x7 x8 x9 x10 x11
      = tile x0 x1 x2 x3 x4 x5 x6 x7 x8 x9 x10 := by
  unfold out0_A_12
  rw [View.read_writes_eq_canon _ _ _ (cover0_A_12 c i a2 h2 a3 h3 a4 h4 a5 h5 a6 h6 a7 h7 a8 h8 a9 h9 a10 h10 a11 h11 a12 h12 a13 h13 a14 h14 a15 h15 a16 h16 x0 x1 x2 x3 x4 x5 x6 x7 x8 x9 x10 x11)]
  unfold kernelRun0_A
  dsimp only
  sl_unfold_words
  rw [View.canon_cons_unit_zero (S := S1x704x1024) hz3]
  simp only [View.readAt_eq_ld, h2.read_unread, h3.read_unread, h4.read_unread, h5.read_unread, h6.read_unread, h7.read_unread, h8.read_unread, h9.read_unread, h10.read_unread, h11.read_unread, h12.read_unread, h13.read_unread, View.ld_unit_zero (S := S1x704x1024) hz3, View.ld_unit_zero (S := S704x1024) hz2, View.ld_unit_zero (S := S512x1024) hz2, View.ld_unit_zero (S := S1x1024) hz2, View.ld_unit_zero (S := S1x512) hz2, View.ld_unit_zero (S := S1x704x512) hz3]
  simp only [View.readCov_cons_unit_lit' (S := S1x704x1024) _ _ _ _ _ (fun a => congrFun hz3 a) (fun a => congrFun hz3 a)]
  simp only [View.readCov_cons_unit_lit' (S := S704x1024) _ _ _ _ _ (fun a => congrFun hz2 a) (fun a => congrFun hz2 a), canon_whole]
  unfold tile heads
  generalize k0_pay13 (F := F) _ _ _ = HN
  generalize k0_pay12 (F := F) _ _ = A
  rfl

end Cert.Proof.OutMid

end
-- ==== Proof.OutMid.Tile.lean ====
/- One grid step's output block read row by row over the extended reals. -/
module

public import proofs.«01_k».proof.Proof.OutMid.Block
public import proofs.«01_k».proof.Proof.OutFfn.Cols

@[expose] public section

set_option maxRecDepth 16384

noncomputable section

open Idealize.ShloMosaic Idealize.ShloMosaic.TcCoe Idealize.SL.Sem

namespace Cert.Proof.OutMid

open Cert.Proof.OutFfn (ld_cols ld_rows col_split head_of place_of)

open Cert.Kernel4Ideal Cert.Kernel4Ideal.Gen

theorem pay16_apply (hn : Vec Ideal S704x1024 .bf16) (g u : Vec Ideal S1024x256 .bf16) (acc : Vec Ideal S1x704x1024 .f32)
    (w : Vec Ideal S256x1024 .bf16) (r : Fin 704) (d : Fin 1024) :
    k0_pay16 hn g hn u acc w (ix3 (0 : Fin 1) r d)
      = acc (ix3 (0 : Fin 1) r d) + ∑ k : Fin 256, (siluE (∑ j : Fin 1024, hn (ix2 r j) * g (ix2 j k))
          * ∑ j : Fin 1024, hn (ix2 r j) * u (ix2 j k)) * w (ix2 k d) := by
  unfold siluE
  pointwise [k0_pay16]

theorem pay11_apply (x0 : Vec Ideal S1x704x1024 .f32) (O : Vec Ideal S704x512 .bf16) (x5 x6 : Vec Ideal S512x1024 .bf16)
    (x3 : Vec Ideal S1x704x512 .bf16) (r : Fin 704) (d : Fin 1024) :
    k0_pay11 (k0_pay9 x0 O x5) (k0_pay10 x3 x6) (ix2 r d)
      = (x0 (ix3 (0 : Fin 1) r d) + ∑ j : Fin 512, O (ix2 r j) * x5 (ix2 j d))
        + ∑ j : Fin 512, x3 (ix3 (0 : Fin 1) r j) * x6 (ix2 j d) := by
  pointwise [k0_pay11, k0_pay9, k0_pay10]

theorem pay12_apply (A B : FVec Ideal S704x1024 .f32) (r : Fin 704) (d : Fin 1024) :
    k0_pay12 A B (ix3 (0 : Fin 1) r d) = k0_pay11 A B (ix2 r d) := by
  pointwise [k0_pay12]

theorem pay13_apply (A B : FVec Ideal S704x1024 .f32) (x7 : Vec Ideal S1x1024 .f32) (r : Fin 704) (d : Fin 1024) :
    k0_pay13 A B x7 (ix2 r d)
      = rmsRow c1024 (fun j => k0_pay11 A B (ix2 r j)) (fun j => x7 (ix2 (0 : Fin 1) j)) d := by
  unfold rmsRow c1024 k0_pay13
  generalize k0_pay11 A B = A
  pointwise

theorem pay3_apply (x4 : Vec Ideal S1x512 .f32) (o : Vec Ideal S1x704x128 .f32) (z : Vec Ideal S1x704x128 .bf16) (r : Fin 704)
    (k : Fin 128) :
    k0_pay3 x4 o z (ix2 r k)
      = rmsRow c128 (fun k => o (ix3 (0 : Fin 1) r k)) (fun k => x4 (ix2 (0 : Fin 1) (headIx 0 k))) k
          * siluE (z (ix3 (0 : Fin 1) r k)) := by
  unfold rmsRow c128 siluE headIx
  pointwise [k0_pay3, k0_pay2]

theorem pay6_apply (x4 : Vec Ideal S1x512 .f32) (o : Vec Ideal S1x704x128 .f32) (z : Vec Ideal S1x704x128 .bf16) (r : Fin 704)
    (k : Fin 128) :
    k0_pay6 (k0_pay2 x4) (k0_pay4 o) (k0_pay5 o) z (ix2 r k)
      = rmsRow c128 (fun k => o (ix3 (0 : Fin 1) r k)) (fun k => x4 (ix2 (0 : Fin 1) (headIx 1 k))) k
          * siluE (z (ix3 (0 : Fin 1) r k)) := by
  unfold rmsRow c128 siluE headIx
  pointwise [k0_pay6, k0_pay5, k0_pay4, k0_pay2]

theorem pay7_apply (x4 : Vec Ideal S1x512 .f32) (o : Vec Ideal S1x704x128 .f32) (z : Vec Ideal S1x704x128 .bf16) (r : Fin 704)
    (k : Fin 128) :
    k0_pay7 (k0_pay2 x4) o z (ix2 r k)
      = rmsRow c128 (fun k => o (ix3 (0 : Fin 1) r k)) (fun k => x4 (ix2 (0 : Fin 1) (headIx 2 k))) k
          * siluE (z (ix3 (0 : Fin 1) r k)) := by
  unfold rmsRow c128 siluE headIx
  pointwise [k0_pay7, k0_pay2]

theorem pay8_apply (x4 : Vec Ideal S1x512 .f32) (o : Vec Ideal S1x704x128 .f32) (z : Vec Ideal S1x704x128 .bf16) (r : Fin 704)
    (k : Fin 128) :
    k0_pay8 (k0_pay2 x4) o z (ix2 r k)
      = rmsRow c128 (fun k => o (ix3 (0 : Fin 1) r k)) (fun k => x4 (ix2 (0 : Fin 1) (headIx 3 k))) k
          * siluE (z (ix3 (0 : Fin 1) r k)) := by
  unfold rmsRow c128 siluE headIx
  pointwise [k0_pay8, k0_pay2]

/-- Head `d`'s columns of the tile's rows. -/
theorem ld_head {e : EltTy} (x : Vec Ideal S1x704x512 e) (d : Fin 4) (o : ℕ) (ho : o = 128 * d.val)
    (h : ∀ a, (![0, 0, o] : Fin 3 → ℕ) a + (![1, 704, 128] : Fin 3 → ℕ) a ≤ S1x704x512.size a) (r : Fin 704) (k : Fin 128) :
    View.ld x (Rect.unit (s := S1x704x512) ![0, 0, o] ![1, 704, 128] h) (ix3 (0 : Fin 1) r k) = x (ix3 (0 : Fin 1) r (headIx d k)) := by
  subst ho
  show x _ = x _
  congr 1
  funext a
  refine Fin.ext ?_
  match a with
  | ⟨0, _⟩ => rfl
  | ⟨1, _⟩ => show 0 + 1 * r.val = r.val; omega
  | ⟨2, _⟩ => show 128 * d.val + 1 * k.val = 128 * d.val + k.val; omega

/-- The scratch buffer's entry at row `r`: the row's gated and normalised mixer output. -/
theorem heads_apply (x1 : Vec Ideal S1x704x512 .f32) (x2 : Vec Ideal S1x704x512 .bf16) (x4 : Vec Ideal S1x512 .f32)
    (nw : Fin 128 → EReal) (h4 : ∀ d k, x4 (ix2 (0 : Fin 1) (headIx d k)) = nw k) (r : Fin 704) (j : Fin 512) :
    heads x1 x2 x4 (ix2 r j)
      = gateRow (fun j => x1 (ix3 (0 : Fin 1) r j)) (fun j => x2 (ix3 (0 : Fin 1) r j)) nw
          ⟨j.val / 128, by omega⟩ ⟨j.val % 128, by omega⟩ := by
  have key : ∀ (d : Fin 4) (r : Fin 704) (k : Fin 128),
      gateRow (fun j => x1 (ix3 (0 : Fin 1) r j)) (fun j => x2 (ix3 (0 : Fin 1) r j)) nw d k
        = rmsRow c128 (fun k => x1 (ix3 (0 : Fin 1) r (headIx d k))) (fun k => x4 (ix2 (0 : Fin 1) (headIx d k))) k
            * siluE (x2 (ix3 (0 : Fin 1) r (headIx d k))) := fun d r k => by
    simp only [gateRow, h4]
  let G : S704x512.Idx → EReal := fun y =>
    gateRow (fun j => x1 (ix3 (0 : Fin 1) (y 0) j)) (fun j => x2 (ix3 (0 : Fin 1) (y 0) j)) nw
      ⟨(y 1).val / 128, by have := (y 1).isLt; change (y 1).val < 512 at this; omega⟩ ⟨(y 1).val % 128, by omega⟩
  have hG : ∀ (d : Fin 4) (o : ℕ) (ho : o = 128 * d.val)
      (h : ∀ a, (![0, o] : Fin 2 → ℕ) a + (![704, 128] : Fin 2 → ℕ) a ≤ S704x512.size a) (r : Fin 704) (k : Fin 128),
      G ((Rect.unit (s := S704x512) ![0, o] ![704, 128] h).emb (ix2 r k))
        = rmsRow c128 (fun k => x1 (ix3 (0 : Fin 1) r (headIx d k))) (fun k => x4 (ix2 (0 : Fin 1) (headIx d k))) k
            * siluE (x2 (ix3 (0 : Fin 1) r (headIx d k))) := by
    intro d o ho h r k
    subst ho
    rw [← key]
    have e : (Rect.unit (s := S704x512) ![0, 128 * d.val] ![704, 128] h).emb (ix2 r k) = ix2 r (headIx d k) := by
      funext a
      refine Fin.ext ?_
      fin_cases a
      · show 0 + 1 * r.val = r.val; omega
      · show 128 * d.val + 1 * k.val = 128 * d.val + k.val; omega
    rw [e]
    show gateRow _ _ nw _ _ = _
    exact congrArg₂ (gateRow _ _ nw) (head_of d k _) (place_of d k _)
  refine (View.canon_apply_of_pieces (Val := Elt Ideal) (S := S704x512) (e := .bf16) G _ ?_ (ix2 r j) ?_).trans rfl
  · intro p hp x
    simp only [List.mem_cons, List.not_mem_nil, or_false] at hp
    rcases hp with rfl | rfl | rfl | rfl <;>
      obtain ⟨r', k', rfl⟩ : ∃ (r' : Fin 704) (k' : Fin 128), x = ix2 r' k' := ⟨x 0, x 1, eq_ix2 x⟩
    · refine Eq.trans ?_ (hG 3 384 rfl inb_S704x512_S704x128_0_384 r' k').symm
      refine (pay8_apply x4 _ _ r' k').trans ?_
      exact congrArg₂ (fun f t => rmsRow c128 f _ k' * siluE t)
        (funext fun k => ld_head x1 3 384 rfl inb_S1x704x512_S1x704x128_0_0_384 r' k)
        (ld_head x2 3 384 rfl inb_S1x704x512_S1x704x128_0_0_384 r' k')
    · refine Eq.trans ?_ (hG 2 256 rfl inb_S704x512_S704x128_0_256 r' k').symm
      refine (pay7_apply x4 _ _ r' k').trans ?_
      exact congrArg₂ (fun f t => rmsRow c128 f _ k' * siluE t)
        (funext fun k => ld_head x1 2 256 rfl inb_S1x704x512_S1x704x128_0_0_256 r' k)
        (ld_head x2 2 256 rfl inb_S1x704x512_S1x704x128_0_0_256 r' k')
    · refine Eq.trans ?_ (hG 1 128 rfl inb_S704x512_S704x128_0_128 r' k').symm
      refine (pay6_apply x4 _ _ r' k').trans ?_
      exact congrArg₂ (fun f t => rmsRow c128 f _ k' * siluE t)
        (funext fun k => ld_head x1 1 128 rfl inb_S1x704x512_S1x704x128_0_0_128 r' k)
        (ld_head x2 1 128 rfl inb_S1x704x512_S1x704x128_0_0_128 r' k')
    · refine Eq.trans ?_ (hG 0 0 rfl inb_S704x512_S704x128_0_0 r' k').symm
      refine (pay3_apply x4 _ _ r' k').trans ?_
      exact congrArg₂ (fun f t => rmsRow c128 f _ k' * siluE t)
        (funext fun k => ld_head x1 0 0 rfl inb_S1x704x512_S1x704x128_0_0_0 r' k)
        (ld_head x2 0 0 rfl inb_S1x704x512_S1x704x128_0_0_0 r' k')
  · obtain ⟨d, k, rfl⟩ := col_split j
    have hm : ∀ (o : ℕ) (ho : o = 128 * d.val)
        (h : ∀ a, (![0, o] : Fin 2 → ℕ) a + (![704, 128] : Fin 2 → ℕ) a ≤ S704x512.size a),
        ix2 r (headIx d k) ∈ (Rect.unit (s := S704x512) ![0, o] ![704, 128] h).set := by
      intro o ho h
      subst ho
      rw [Rect.mem_set_unit]
      intro a
      fin_cases a
      · show 0 ≤ r.val ∧ r.val < 0 + 704; omega
      · show 128 * d.val ≤ 128 * d.val + k.val ∧ 128 * d.val + k.val < 128 * d.val + 128; omega
    fin_cases d
    · exact ⟨_, List.Mem.tail _ (List.Mem.tail _ (List.Mem.tail _ (List.Mem.head _))), hm 0 rfl inb_S704x512_S704x128_0_0⟩
    · exact ⟨_, List.Mem.tail _ (List.Mem.tail _ (List.Mem.head _)), hm 128 rfl inb_S704x512_S704x128_0_128⟩
    · exact ⟨_, List.Mem.tail _ (List.Mem.head _), hm 256 rfl inb_S704x512_S704x128_0_256⟩
    · exact ⟨_, List.Mem.head _, hm 384 rfl inb_S704x512_S704x128_0_384⟩

/-- One block of hidden columns adds its part of the second product. -/
theorem ffStep_apply (hn : Vec Ideal S704x1024 .bf16) (x8 x9 : Vec Ideal S1024x2816 .bf16) (x10 : Vec Ideal S2816x1024 .bf16)
    (o : ℕ) (hc : ∀ a, (![0, o] : Fin 2 → ℕ) a + (![1024, 256] : Fin 2 → ℕ) a ≤ S1024x2816.size a)
    (hr : ∀ a, (![o, 0] : Fin 2 → ℕ) a + (![256, 1024] : Fin 2 → ℕ) a ≤ S2816x1024.size a)
    (ho : o + 256 ≤ 2816) (acc : Vec Ideal S1x704x1024 .f32) (r : Fin 704) (d : Fin 1024) (a : EReal)
    (h : acc (ix3 (0 : Fin 1) r d) = a + ∑ k ∈ Finset.range o, ext0 (fun f =>
      actRow (fun j => hn (ix2 r j)) (fun j f => x8 (ix2 j f)) (fun j f => x9 (ix2 j f)) f * x10 (ix2 f d)) k) :
    ffStep hn x8 x9 x10 o hc hr acc (ix3 (0 : Fin 1) r d)
      = a + ∑ k ∈ Finset.range (o + 256), ext0 (fun f =>
          actRow (fun j => hn (ix2 r j)) (fun j f => x8 (ix2 j f)) (fun j f => x9 (ix2 j f)) f * x10 (ix2 f d)) k := by
  rw [← add_block _ a o 256 ho, ← h]
  refine (pay16_apply hn _ _ acc _ r d).trans ?_
  simp only [ld_cols x8 hc, ld_cols x9 hc, ld_rows x10 hr]
  rfl

/-- The whole feed-forward part at an entry. -/
theorem ffTile_apply (acc : Vec Ideal S1x704x1024 .f32) (hn : Vec Ideal S704x1024 .bf16) (x8 x9 : Vec Ideal S1024x2816 .bf16)
    (x10 : Vec Ideal S2816x1024 .bf16) (r : Fin 704) (d : Fin 1024) :
    ffTile acc hn x8 x9 x10 (ix3 (0 : Fin 1) r d)
      = acc (ix3 (0 : Fin 1) r d) + ∑ f : Fin 2816,
          actRow (fun j => hn (ix2 r j)) (fun j f => x8 (ix2 j f)) (fun j f => x9 (ix2 j f)) f * x10 (ix2 f d) := by
  rw [sum_ext0]
  unfold ffTile
  refine ffStep_apply hn x8 x9 x10 2560 _ _ (by omega) _ r d _ ?_
  refine ffStep_apply hn x8 x9 x10 2304 _ _ (by omega) _ r d _ ?_
  refine ffStep_apply hn x8 x9 x10 2048 _ _ (by omega) _ r d _ ?_
  refine ffStep_apply hn x8 x9 x10 1792 _ _ (by omega) _ r d _ ?_
  refine ffStep_apply hn x8 x9 x10 1536 _ _ (by omega) _ r d _ ?_
  refine ffStep_apply hn x8 x9 x10 1280 _ _ (by omega) _ r d _ ?_
  refine ffStep_apply hn x8 x9 x10 1024 _ _ (by omega) _ r d _ ?_
  refine ffStep_apply hn x8 x9 x10 768 _ _ (by omega) _ r d _ ?_
  refine ffStep_apply hn x8 x9 x10 512 _ _ (by omega) _ r d _ ?_
  refine ffStep_apply hn x8 x9 x10 256 _ _ (by omega) _ r d _ ?_
  refine ffStep_apply hn x8 x9 x10 0 _ _ (by omega) _ r d _ ?_
  rw [Finset.sum_range_zero, add_zero]

/-- The output block at an entry: the row's value. -/
theorem tile_apply (x0 : Vec Ideal S1x704x1024 .f32) (x1 : Vec Ideal S1x704x512 .f32) (x2 x3 : Vec Ideal S1x704x512 .bf16)
    (x4 : Vec Ideal S1x512 .f32) (x5 x6 : Vec Ideal S512x1024 .bf16) (x7 : Vec Ideal S1x1024 .f32)
    (x8 x9 : Vec Ideal S1024x2816 .bf16) (x10 : Vec Ideal S2816x1024 .bf16)
    (nw : Fin 128 → EReal) (h4 : ∀ d k, x4 (ix2 (0 : Fin 1) (headIx d k)) = nw k) (Wo : Fin 1024 → Fin 1024 → EReal)
    (h5 : ∀ (j : Fin 512) d, x5 (ix2 j d) = Wo ⟨j.val, by omega⟩ d)
    (h6 : ∀ (j : Fin 512) d, x6 (ix2 j d) = Wo ⟨512 + j.val, by omega⟩ d) (r : Fin 704) (d : Fin 1024) :
    tile x0 x1 x2 x3 x4 x5 x6 x7 x8 x9 x10 (ix3 (0 : Fin 1) r d)
      = ffRow (midRow (fun d => x0 (ix3 (0 : Fin 1) r d))
            (mixRow (fun j => x1 (ix3 (0 : Fin 1) r j)) (fun j => x2 (ix3 (0 : Fin 1) r j)) (fun j => x3 (ix3 (0 : Fin 1) r j)) nw) Wo)
          (fun j => x7 (ix2 (0 : Fin 1) j)) (fun j f => x8 (ix2 j f)) (fun j f => x9 (ix2 j f)) (fun f d => x10 (ix2 f d)) d := by
  have hmid : ∀ d : Fin 1024, k0_pay11 (k0_pay9 x0 (heads x1 x2 x4) x5) (k0_pay10 x3 x6) (ix2 r d)
      = midRow (fun d => x0 (ix3 (0 : Fin 1) r d))
          (mixRow (fun j => x1 (ix3 (0 : Fin 1) r j)) (fun j => x2 (ix3 (0 : Fin 1) r j)) (fun j => x3 (ix3 (0 : Fin 1) r j)) nw) Wo d := by
    intro d
    rw [pay11_apply, midRow_eq]
    simp only [heads_apply x1 x2 x4 nw h4, h5, h6]
  unfold tile
  rw [ffTile_apply, pay12_apply, hmid]
  simp only [pay13_apply, hmid]
  rfl

end Cert.Proof.OutMid

end
-- ==== Proof.OutMid.Array.lean ====
/- The result array of the second half's kernel, from its argument arrays. -/
module

public import proofs.«01_k».proof.Proof.OutMid.Tile
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)

namespace Cert.Proof.OutMid

open Cert.Proof.OutFfn (place_of)

open Cert.Kernel4Ideal Cert.Kernel4Ideal.Gen

variable (m : (ℓ : Loc nD τ sig) → Buf (Elt Ideal) ℓ)

/-! ## The arrays the host code prepares -/

theorem V3 (c : Dev nD) (d : Fin 4) (k : Fin 128) :
    V m c main_v3 (ix2 (0 : Fin 1) (headIx d k)) = m ((c : Thread nD τ).loc main_arg4) (ix1 k) := by
  have e : V m c main_v3 = broadcastInDim S1x512 ![1] bcast_S512_S1x512_1 (shapeCast S512 (broadcastInDim S4x128 ![0, 1]
      bcast_S1x128_S4x128_0_1 (shapeCast S1x128 (m ((c : Thread nD τ).loc main_arg4)) shapeCasts_S128_S1x128)) shapeCasts_S4x128_S512) := by
    show StableHlo.after hostOps0 _ (Proc.devRef .tc main_v3) = _
    after_results_simp
    rfl
  rw [e]
  generalize m ((c : Thread nD τ).loc main_arg4) = A
  pointwise
  exact congrArg (fun k => A (ix1 k)) (place_of d k _)

theorem V5 (c : Dev nD) (j : Fin 512) (d : Fin 1024) :
    V m c main_v5 (ix2 j d) = m ((c : Thread nD τ).loc main_arg5) (ix2 (⟨j.val, by omega⟩ : Fin 1024) d) := by
  have e : @Eq (FVec Ideal S512x1024 .bf16) (V m c main_v5) (truncf .bf16 (extractStridedSlice S512x1024 ![0, 0] (m ((c : Thread nD τ).loc main_arg5) : Vec Ideal S1024x1024 .f32)
      slices_S1024x1024_S512x1024_0_0) bitsLt_bf16_f32) := by
    show StableHlo.after hostOps0 _ (Proc.devRef .tc main_v5) = _
    after_results_simp
  rw [e]
  generalize m ((c : Thread nD τ).loc main_arg5) = A
  pointwise

theorem V7 (c : Dev nD) (j : Fin 512) (d : Fin 1024) :
    V m c main_v7 (ix2 j d) = m ((c : Thread nD τ).loc main_arg5) (ix2 (⟨512 + j.val, by omega⟩ : Fin 1024) d) := by
  have e : @Eq (FVec Ideal S512x1024 .bf16) (V m c main_v7) (truncf .bf16 (extractStridedSlice S512x1024 ![512, 0] (m ((c : Thread nD τ).loc main_arg5) : Vec Ideal S1024x1024 .f32)
      slices_S1024x1024_S512x1024_512_0) bitsLt_bf16_f32) := by
    show StableHlo.after hostOps0 _ (Proc.devRef .tc main_v7) = _
    after_results_simp
  rw [e]
  generalize m ((c : Thread nD τ).loc main_arg5) = A
  pointwise

theorem V8 (c : Dev nD) (d : Fin 1024) :
    V m c main_v8 (ix2 (0 : Fin 1) d) = m ((c : Thread nD τ).loc main_arg6) (ix1 d) := by
  have e : V m c main_v8 = broadcastInDim S1x1024 ![1] bcast_S1024_S1x1024_1 (m ((c : Thread nD τ).loc main_arg6)) := by
    show StableHlo.after hostOps0 _ (Proc.devRef .tc main_v8) = _
    after_results_simp
  rw [e]
  generalize m ((c : Thread nD τ).loc main_arg6) = A
  pointwise

theorem V10 (c : Dev nD) (j : Fin 1024) (f : Fin 2816) :
    V m c main_v10 (ix2 j f) = m ((c : Thread nD τ).loc main_arg7) (ix2 j (⟨f.val, by omega⟩ : Fin 5632)) := by
  have e : @Eq (FVec Ideal S1024x2816 .bf16) (V m c main_v10) (truncf .bf16 (extractStridedSlice S1024x2816 ![0, 0] (m ((c : Thread nD τ).loc main_arg7) : Vec Ideal S1024x5632 .f32)
      slices_S1024x5632_S1024x2816_0_0) bitsLt_bf16_f32) := by
    show StableHlo.after hostOps0 _ (Proc.devRef .tc main_v10) = _
    after_results_simp
  rw [e]
  generalize m ((c : Thread nD τ).loc main_arg7) = A
  pointwise

theorem V12 (c : Dev nD) (j : Fin 1024) (f : Fin 2816) :
    V m c main_v12 (ix2 j f) = m ((c : Thread nD τ).loc main_arg7) (ix2 j (⟨2816 + f.val, by omega⟩ : Fin 5632)) := by
  have e : @Eq (FVec Ideal S1024x2816 .bf16) (V m c main_v12) (truncf .bf16 (extractStridedSlice S1024x2816 ![0, 2816] (m ((c : Thread nD τ).loc main_arg7) : Vec Ideal S1024x5632 .f32)
      slices_S1024x5632_S1024x2816_0_2816) bitsLt_bf16_f32) := by
    show StableHlo.after hostOps0 _ (Proc.devRef .tc main_v12) = _
    after_results_simp
  rw [e]
  generalize m ((c : Thread nD τ).loc main_arg7) = A
  pointwise

theorem V13 (c : Dev nD) (f : Fin 2816) (d : Fin 1024) :
    V m c main_v13 (ix2 f d) = m ((c : Thread nD τ).loc main_arg8) (ix2 f d) := by
  have e : @Eq (FVec Ideal S2816x1024 .bf16) (V m c main_v13) (truncf .bf16 (m ((c : Thread nD τ).loc main_arg8) : Vec Ideal S2816x1024 .f32) bitsLt_bf16_f32) := by
    show StableHlo.after hostOps0 _ (Proc.devRef .tc main_v13) = _
    after_results_simp
  rw [e]
  generalize m ((c : Thread nD τ).loc main_arg8) = A
  pointwise

/-! ## The blocks at a grid point -/

/-- The batch entry of grid point `t`. -/
def bOf (t : Fin cfg0.N) : Fin 16 := ⟨t.val / 3, by have := t.isLt; have h : cfg0.N = 48 := N_0; omega⟩

/-- Row `r` of grid point `t`, as a row of the result. -/
def sOf (t : Fin cfg0.N) (r : Fin 704) : Fin 2112 := ⟨704 * (t.val % 3) + r.val, by omega⟩

theorem at0 : ∀ t : Fin cfg0.N, cc0_transform_0 (grid0.coords t) = ![t.val / 3, t.val % 3, 0] :=
  (by decide +kernel : ∀ t : Fin grid0.N, cc0_transform_0 (grid0.coords t) = ![t.val / 3, t.val % 3, 0])
theorem at1 : ∀ t : Fin cfg0.N, cc0_transform_1 (grid0.coords t) = ![t.val / 3, t.val % 3, 0] :=
  (by decide +kernel : ∀ t : Fin grid0.N, cc0_transform_1 (grid0.coords t) = ![t.val / 3, t.val % 3, 0])
theorem at2 : ∀ t : Fin cfg0.N, cc0_transform_2 (grid0.coords t) = ![t.val / 3, t.val % 3, 0] :=
  (by decide +kernel : ∀ t : Fin grid0.N, cc0_transform_2 (grid0.coords t) = ![t.val / 3, t.val % 3, 0])
theorem at3 : ∀ t : Fin cfg0.N, cc0_transform_3 (grid0.coords t) = ![t.val / 3, t.val % 3, 0] :=
  (by decide +kernel : ∀ t : Fin grid0.N, cc0_transform_3 (grid0.coords t) = ![t.val / 3, t.val % 3, 0])
theorem at12 : ∀ t : Fin cfg0.N, cc0_transform_12 (grid0.coords t) = ![t.val / 3, t.val % 3, 0] :=
  (by decide +kernel : ∀ t : Fin grid0.N, cc0_transform_12 (grid0.coords t) = ![t.val / 3, t.val % 3, 0])

theorem blk0 (c : Dev nD) (t : Fin cfg0.N) (r : Fin 704) (d : Fin 1024) :
    (iblk m c 0 t : Vec Ideal S1x704x1024 .f32) (ix3 (0 : Fin 1) r d)
      = m ((c : Thread nD τ).loc main_arg0) (ix3 (bOf t) (sOf t r) d) := by
  unfold iblk
  rw [View.read_apply]
  show V m c main_arg0 _ = _
  rw [V_main_arg0]
  congr 1
  funext a
  refine Fin.ext ?_
  show cc0_transform_0 (grid0.coords t) a * S1x704x1024.size a + 1 * (ix3 (0 : Fin 1) r d a).val = _
  rw [at0]
  match a with
  | ⟨0, _⟩ => show t.val / 3 * 1 + 1 * 0 = t.val / 3; omega
  | ⟨1, _⟩ => show t.val % 3 * 704 + 1 * r.val = 704 * (t.val % 3) + r.val; omega
  | ⟨2, _⟩ => show 0 * 1024 + 1 * d.val = d.val; omega

theorem blk1 (c : Dev nD) (t : Fin cfg0.N) (r : Fin 704) (d : Fin 512) :
    (iblk m c 1 t : Vec Ideal S1x704x512 .f32) (ix3 (0 : Fin 1) r d)
      = m ((c : Thread nD τ).loc main_arg1) (ix3 (bOf t) (sOf t r) d) := by
  unfold iblk
  rw [View.read_apply]
  show V m c main_arg1 _ = _
  rw [V_main_arg1]
  congr 1
  funext a
  refine Fin.ext ?_
  show cc0_transform_1 (grid0.coords t) a * S1x704x512.size a + 1 * (ix3 (0 : Fin 1) r d a).val = _
  rw [at1]
  match a with
  | ⟨0, _⟩ => show t.val / 3 * 1 + 1 * 0 = t.val / 3; omega
  | ⟨1, _⟩ => show t.val % 3 * 704 + 1 * r.val = 704 * (t.val % 3) + r.val; omega
  | ⟨2, _⟩ => show 0 * 512 + 1 * d.val = d.val; omega

theorem blk2 (c : Dev nD) (t : Fin cfg0.N) (r : Fin 704) (d : Fin 512) :
    (iblk m c 2 t : Vec Ideal S1x704x512 .bf16) (ix3 (0 : Fin 1) r d)
      = m ((c : Thread nD τ).loc main_arg2) (ix3 (bOf t) (sOf t r) d) := by
  unfold iblk
  rw [View.read_apply]
  show V m c main_arg2 _ = _
  rw [V_main_arg2]
  congr 1
  funext a
  refine Fin.ext ?_
  show cc0_transform_2 (grid0.coords t) a * S1x704x512.size a + 1 * (ix3 (0 : Fin 1) r d a).val = _
  rw [at2]
  match a with
  | ⟨0, _⟩ => show t.val / 3 * 1 + 1 * 0 = t.val / 3; omega
  | ⟨1, _⟩ => show t.val % 3 * 704 + 1 * r.val = 704 * (t.val % 3) + r.val; omega
  | ⟨2, _⟩ => show 0 * 512 + 1 * d.val = d.val; omega

theorem blk3 (c : Dev nD) (t : Fin cfg0.N) (r : Fin 704) (d : Fin 512) :
    (iblk m c 3 t : Vec Ideal S1x704x512 .bf16) (ix3 (0 : Fin 1) r d)
      = m ((c : Thread nD τ).loc main_arg3) (ix3 (bOf t) (sOf t r) d) := by
  unfold iblk
  rw [View.read_apply]
  show V m c main_arg3 _ = _
  rw [V_main_arg3]
  congr 1
  funext a
  refine Fin.ext ?_
  show cc0_transform_3 (grid0.coords t) a * S1x704x512.size a + 1 * (ix3 (0 : Fin 1) r d a).val = _
  rw [at3]
  match a with
  | ⟨0, _⟩ => show t.val / 3 * 1 + 1 * 0 = t.val / 3; omega
  | ⟨1, _⟩ => show t.val % 3 * 704 + 1 * r.val = 704 * (t.val % 3) + r.val; omega
  | ⟨2, _⟩ => show 0 * 512 + 1 * d.val = d.val; omega

theorem blk4 (c : Dev nD) (t : Fin cfg0.N) : (iblk m c 4 t : Vec Ideal S1x512 .f32) = V m c main_v3 := by
  have hz' : (fun a => win0_4.index t a * main_v3.ty.shape.size a) = fun _ => 0 := funext fun a => by fin_cases a <;> rfl
  exact Memref.read_access_unit_zero (Elt Ideal) main_v3 hz' (fun a => by rw [congrFun hz' a]; simp) (V m c main_v3)

theorem blk5 (c : Dev nD) (t : Fin cfg0.N) : (iblk m c 5 t : Vec Ideal S512x1024 .bf16) = V m c main_v5 := by
  have hz' : (fun a => win0_5.index t a * main_v5.ty.shape.size a) = fun _ => 0 := funext fun a => by fin_cases a <;> rfl
  exact Memref.read_access_unit_zero (Elt Ideal) main_v5 hz' (fun a => by rw [congrFun hz' a]; simp) (V m c main_v5)

theorem blk6 (c : Dev nD) (t : Fin cfg0.N) : (iblk m c 6 t : Vec Ideal S512x1024 .bf16) = V m c main_v7 := by
  have hz' : (fun a => win0_6.index t a * main_v7.ty.shape.size a) = fun _ => 0 := funext fun a => by fin_cases a <;> rfl
  exact Memref.read_access_unit_zero (Elt Ideal) main_v7 hz' (fun a => by rw [congrFun hz' a]; simp) (V m c main_v7)

theorem blk7 (c : Dev nD) (t : Fin cfg0.N) : (iblk m c 7 t : Vec Ideal S1x1024 .f32) = V m c main_v8 := by
  have hz' : (fun a => win0_7.index t a * main_v8.ty.shape.size a) = fun _ => 0 := funext fun a => by fin_cases a <;> rfl
  exact Memref.read_access_unit_zero (Elt Ideal) main_v8 hz' (fun a => by rw [congrFun hz' a]; simp) (V m c main_v8)

theorem blk8 (c : Dev nD) (t : Fin cfg0.N) : (iblk m c 8 t : Vec Ideal S1024x2816 .bf16) = V m c main_v10 := by
  have hz' : (fun a => win0_8.index t a * main_v10.ty.shape.size a) = fun _ => 0 := funext fun a => by fin_cases a <;> rfl
  exact Memref.read_access_unit_zero (Elt Ideal) main_v10 hz' (fun a => by rw [congrFun hz' a]; simp) (V m c main_v10)

theorem blk9 (c : Dev nD) (t : Fin cfg0.N) : (iblk m c 9 t : Vec Ideal S1024x2816 .bf16) = V m c main_v12 := by
  have hz' : (fun a => win0_9.index t a * main_v12.ty.shape.size a) = fun _ => 0 := funext fun a => by fin_cases a <;> rfl
  exact Memref.read_access_unit_zero (Elt Ideal) main_v12 hz' (fun a => by rw [congrFun hz' a]; simp) (V m c main_v12)

theorem blk10 (c : Dev nD) (t : Fin cfg0.N) : (iblk m c 10 t : Vec Ideal S2816x1024 .bf16) = V m c main_v13 := by
  have hz' : (fun a => win0_10.index t a * main_v13.ty.shape.size a) = fun _ => 0 := funext fun a => by fin_cases a <;> rfl
  exact Memref.read_access_unit_zero (Elt Ideal) main_v13 hz' (fun a => by rw [congrFun hz' a]; simp) (V m c main_v13)

/-! ## The result array -/

/-- The result: the second half of every row. -/
def result (c : Dev nD) : Buf (Elt Ideal) ((c : Thread nD τ).loc main_v15) := fun i =>
  full (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8)) (i 0) (i 1) (i 2)

/-- A row's value depends on nothing but what the row reads. -/
theorem row_congr {h h' : Fin 1024 → EReal} {o o' z z' y y' : Fin 512 → EReal} (eh : h = h') (eo : o = o') (ez : z = z') (ey : y = y')
    (nw : Fin 128 → EReal) (Wo : Fin 1024 → Fin 1024 → EReal) {n2 n2' : Fin 1024 → EReal} (en : n2 = n2')
    {Wg Wg' Wu Wu' : Fin 1024 → Fin 2816 → EReal} (eg : Wg = Wg') (eu : Wu = Wu') {Wd Wd' : Fin 2816 → Fin 1024 → EReal} (ed : Wd = Wd')
    (d : Fin 1024) :
    ffRow (midRow h (mixRow o z y nw) Wo) n2 Wg Wu Wd d
      = ffRow (midRow h' (mixRow o' z' y' nw) Wo) n2' Wg' Wu' Wd' d := by
  subst eh eo ez ey en eg eu ed
  rfl

/-- What grid point `t` writes back at row `r` is the result there. -/
theorem point_eq (c : Dev nD) (t : Fin cfg0.N) (r : Fin 704) (d : Fin 1024) :
    tile (iblk m c 0 t) (iblk m c 1 t) (iblk m c 2 t) (iblk m c 3 t) (iblk m c 4 t) (iblk m c 5 t) (iblk m c 6 t)
        (iblk m c 7 t) (iblk m c 8 t) (iblk m c 9 t) (iblk m c 10 t) (ix3 (0 : Fin 1) r d)
      = result m c (ix3 (bOf t) (sOf t r) d) := by
  refine (tile_apply _ _ _ _ _ _ _ _ _ _ _ (fun k => m ((c : Thread nD τ).loc main_arg4) (ix1 k))
    (fun d k => (congrFun (blk4 m c t) _).trans (V3 m c d k)) (fun j d => m ((c : Thread nD τ).loc main_arg5) (ix2 j d))
    (fun j d => (congrFun (blk5 m c t) _).trans (V5 m c j d)) (fun j d => (congrFun (blk6 m c t) _).trans (V7 m c j d)) r d).trans ?_
  exact row_congr (funext fun d => blk0 m c t r d) (funext fun j => blk1 m c t r j) (funext fun j => blk2 m c t r j)
    (funext fun j => blk3 m c t r j) _ _ (funext fun d => (congrFun (blk7 m c t) _).trans (V8 m c d))
    (funext fun j => funext fun f => (congrFun (blk8 m c t) _).trans (V10 m c j f))
    (funext fun j => funext fun f => (congrFun (blk9 m c t) _).trans (V12 m c j f))
    (funext fun f => funext fun d => (congrFun (blk10 m c t) _).trans (V13 m c f d)) d

theorem flushed_eq (c : Dev nD) (t : Fin cfg0.N) :
    (dats m 0 c).flushed 12 t = ((cfg0.win 12).blk t).view.read (Elt Ideal) (result m c) := by
  rw [Cert.Kernel4Ideal.Value.flushed12_A, out_val]
  funext j
  obtain ⟨z, r, d, rfl⟩ : ∃ (z : Fin 1) (r : Fin 704) (d : Fin 1024), j = ix3 z r d := ⟨j 0, j 1, j 2, eq_ix3 j⟩
  obtain rfl : z = 0 := Subsingleton.elim _ _
  refine (point_eq m c t r d).trans ?_
  rw [View.read_apply]
  show result m c _ = result m c _
  congr 1
  funext a
  refine Fin.ext ?_
  show _ = cc0_transform_12 (grid0.coords t) a * S1x704x1024.size a + 1 * (ix3 (0 : Fin 1) r d a).val
  rw [at12]
  match a with
  | ⟨0, _⟩ => show t.val / 3 = t.val / 3 * 1 + 1 * 0; omega
  | ⟨1, _⟩ => show 704 * (t.val % 3) + r.val = t.val % 3 * 704 + 1 * r.val; omega
  | ⟨2, _⟩ => show d.val = 0 * 1024 + 1 * d.val; omega

/-- The blocks fill the result array. -/
theorem final (c : Dev nD) : (dats m 0 c).arrAt 12 cfg0.N = result m c :=
  (dats m 0 c).arrAt_eq_of_cover 12 (result m c) (fun t _ => flushed_eq m c t) fun i => by
    have h0 : (i 0 : Nat) < 16 := (i 0).isLt
    have h1 : (i 1 : Nat) < 2112 := (i 1).isLt
    have h2 : (i 2 : Nat) < 1024 := (i 2).isLt
    have hN : cfg0.N = 48 := N_0
    obtain ⟨t, ht⟩ : ∃ t : Fin cfg0.N, t.val = 3 * (i 0 : Nat) + (i 1 : Nat) / 704 := ⟨⟨_, by omega⟩, rfl⟩
    refine ⟨t, flush0_12 t, ?_⟩
    show i ∈ ((View.whole main_v15).slice (win0_12.rect t)).set
    rw [View.set_slice_whole, Rect.mem_set_unit]
    intro a
    show cc0_transform_12 (grid0.coords t) a * S1x704x1024.size a ≤ (i a : Nat)
      ∧ (i a : Nat) < cc0_transform_12 (grid0.coords t) a * S1x704x1024.size a + S1x704x1024.size a
    rw [at12]
    match a with
    | ⟨0, _⟩ => show t.val / 3 * 1 ≤ (i 0 : Nat) ∧ (i 0 : Nat) < t.val / 3 * 1 + 1; omega
    | ⟨1, _⟩ => show t.val % 3 * 704 ≤ (i 1 : Nat) ∧ (i 1 : Nat) < t.val % 3 * 704 + 704; omega
    | ⟨2, _⟩ => show 0 * 1024 ≤ (i 2 : Nat) ∧ (i 2 : Nat) < 0 * 1024 + 1024; omega

end Cert.Proof.OutMid

end
-- ==== Proof.OutMid.Ref.lean ====
/- The reference of the layer's second half, read row by row over the extended reals. -/
module

public import proofs.«01_k».proof.Proof.Gen.Reference4Ideal.Run
public import proofs.«01_k».proof.Proof.OutFfn.Row

@[expose] public section

set_option maxRecDepth 16384

noncomputable section

open Idealize.ShloMosaic Idealize.ShloMosaic.TcCoe Idealize.SL.Sem

namespace Cert.Proof.OutMid.Ref

open Cert.Reference4Ideal Cert.Reference4Ideal.Gen

/-- `1 / (1 + e^(-x))`, over four axes. -/
def sig4 (x : FVec Ideal S16x2112x4x128 .f32) : FVec Ideal S16x2112x4x128 .f32 :=
  Host.divf (broadcastInDim S16x2112x4x128 ![] bcast_S_S16x2112x4x128 (constant S_ .f32 0x3F800000#32))
    (addf (broadcastInDim S16x2112x4x128 ![] bcast_S_S16x2112x4x128 (constant S_ .f32 0x3F800000#32)) (Host.exp (Host.negf x)))

/-- `1 / (1 + e^(-x))`, over the hidden columns. -/
def sig3 (x : FVec Ideal S16x2112x2816 .f32) : FVec Ideal S16x2112x2816 .f32 :=
  Host.divf (broadcastInDim S16x2112x2816 ![] bcast_S_S16x2112x2816 (constant S_ .f32 0x3F800000#32))
    (addf (broadcastInDim S16x2112x2816 ![] bcast_S_S16x2112x2816 (constant S_ .f32 0x3F800000#32)) (Host.exp (Host.negf x)))

/-- The mixer's rows after the per-head norm and the gate. -/
def gate4 (o z : FVec Ideal S16x2112x4x128 .f32) (w : FVec Ideal S128 .f32) : FVec Ideal S16x2112x4x128 .f32 :=
  mulf (mulf (mulf o (broadcastInDim S16x2112x4x128 ![0, 1, 2, 3] bcast_S16x2112x4x1_S16x2112x4x128_0_1_2_3 (Host.rsqrt (addf
      (Host.divf (broadcastInDim S16x2112x4x1 ![0, 1, 2] bcast_S16x2112x4_S16x2112x4x1_0_1_2
        (Host.reduceAdd (mulf o o) (constant S_ .f32 0x00000000#32) reducesTo_S16x2112x4x128_S16x2112x4_d3 h_S_))
        (broadcastInDim S16x2112x4x1 ![] bcast_S_S16x2112x4x1 (constant S_ .f32 0x43000000#32)))
      (broadcastInDim S16x2112x4x1 ![] bcast_S_S16x2112x4x1 (constant S_ .f32 0x358637BD#32))))))
    (broadcastInDim S16x2112x4x128 ![0, 1, 2, 3] bcast_S1x1x1x128_S16x2112x4x128_0_1_2_3
      (broadcastInDim S1x1x1x128 ![3] bcast_S128_S1x1x1x128_3 w))) (mulf z (sig4 z))

/-- A norm over the model's width. -/
def norm3 (x : FVec Ideal S16x2112x1024 .f32) (w : FVec Ideal S1024 .f32) : FVec Ideal S16x2112x1024 .f32 :=
  mulf (mulf x (broadcastInDim S16x2112x1024 ![0, 1, 2] bcast_S16x2112x1_S16x2112x1024_0_1_2 (Host.rsqrt (addf
      (Host.divf (broadcastInDim S16x2112x1 ![0, 1] bcast_S16x2112_S16x2112x1_0_1
        (Host.reduceAdd (mulf x x) (constant S_ .f32 0x00000000#32) reducesTo_S16x2112x1024_S16x2112_d2 h_S_))
        (broadcastInDim S16x2112x1 ![] bcast_S_S16x2112x1 (constant S_ .f32 0x44800000#32)))
      (broadcastInDim S16x2112x1 ![] bcast_S_S16x2112x1 (constant S_ .f32 0x358637BD#32))))))
    (broadcastInDim S16x2112x1024 ![0, 1, 2] bcast_S1x1x1024_S16x2112x1024_0_1_2
      (broadcastInDim S1x1x1024 ![2] bcast_S1024_S1x1x1024_2 w))

/-- The joined row. -/
def mix3 (o z y : FVec Ideal S16x2112x512 .f32) (w : FVec Ideal S128 .f32) : FVec Ideal S16x2112x1024 .f32 :=
  concatenate S16x2112x1024 2 [⟨S16x2112x512, shapeCast S16x2112x512 (gate4 (shapeCast S16x2112x4x128 o shapeCasts_S16x2112x512_S16x2112x4x128)
    (shapeCast S16x2112x4x128 z shapeCasts_S16x2112x512_S16x2112x4x128) w) shapeCasts_S16x2112x4x128_S16x2112x512⟩, ⟨S16x2112x512, y⟩]
    concatenates_S16x2112x512_S16x2112x512_S16x2112x1024_d2

/-- The residual rows after the output projection. -/
def mid3 (h : FVec Ideal S16x2112x1024 .f32) (m : FVec Ideal S16x2112x1024 .f32) (W : FVec Ideal S1024x1024 .f32) :
    FVec Ideal S16x2112x1024 .f32 :=
  addf h
    (Host.dotGeneral dot_S16x2112x1024_S1024x1024_S16x2112x1024_2_0_01_1_n_n none m W)

/-- The hidden columns. -/
def act3 (u : FVec Ideal S16x2112x5632 .f32) : FVec Ideal S16x2112x2816 .f32 :=
  mulf (mulf (extractStridedSlice S16x2112x2816 ![0, 0, 0] u slices_S16x2112x5632_S16x2112x2816_0_0_0)
    (sig3 (extractStridedSlice S16x2112x2816 ![0, 0, 0] u slices_S16x2112x5632_S16x2112x2816_0_0_0)))
    (extractStridedSlice S16x2112x2816 ![0, 0, 2816] u slices_S16x2112x5632_S16x2112x2816_0_0_2816)

/-- The residual rows after the feed-forward block. -/
def ff3 (x : FVec Ideal S16x2112x1024 .f32) (n : FVec Ideal S1024 .f32) (W : FVec Ideal S1024x5632 .f32)
    (D : FVec Ideal S2816x1024 .f32) : FVec Ideal S16x2112x1024 .f32 :=
  addf x (Host.dotGeneral dot_S16x2112x2816_S2816x1024_S16x2112x1024_2_0_01_1_n_n none
    (act3 (Host.dotGeneral dot_S16x2112x1024_S1024x5632_S16x2112x5632_2_0_01_1_n_n none (norm3 x n) W)) D)

/-- The whole of the reference's result. -/
def whole (a0 : FVec Ideal S16x2112x1024 .f32) (a1 a2 a3 : FVec Ideal S16x2112x512 .f32) (a4 : FVec Ideal S128 .f32)
    (a5 : FVec Ideal S1024x1024 .f32) (a6 : FVec Ideal S1024 .f32) (a7 : FVec Ideal S1024x5632 .f32)
    (a8 : FVec Ideal S2816x1024 .f32) : FVec Ideal S16x2112x1024 .f32 :=
  ff3 (mid3 a0 (mix3 a1 a2 a3 a4) a5) a6 a7 a8

theorem res_eq (m : (ℓ : Loc nD τ sig) → Buf (Elt Ideal) ℓ) (c : Dev nD) :
    Value.res_main_v54 m c = whole (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) := by
  unfold Value.res_main_v54
  rfl

theorem gate4_apply (o z : FVec Ideal S16x2112x4x128 .f32) (w : FVec Ideal S128 .f32) (b : Fin 16) (s : Fin 2112) (d : Fin 4)
    (k : Fin 128) :
    gate4 o z w (ix4 b s d k) = rmsRow c128 (fun k => o (ix4 b s d k)) (fun k => w (ix1 k)) k * siluE (z (ix4 b s d k)) := by
  unfold rmsRow siluE c128
  pointwise [gate4, sig4]
  rfl

theorem norm3_apply (x : FVec Ideal S16x2112x1024 .f32) (w : FVec Ideal S1024 .f32) (b : Fin 16) (s : Fin 2112) (d : Fin 1024) :
    norm3 x w (ix3 b s d) = rmsRow c1024 (fun d => x (ix3 b s d)) (fun d => w (ix1 d)) d := by
  unfold rmsRow c1024
  pointwise [norm3]

theorem mid3_apply (h : FVec Ideal S16x2112x1024 .f32) (m : FVec Ideal S16x2112x1024 .f32) (W : FVec Ideal S1024x1024 .f32)
    (b : Fin 16) (s : Fin 2112) (d : Fin 1024) :
    mid3 h m W (ix3 b s d)
      = midRow (fun d => h (ix3 b s d)) (fun j => m (ix3 b s j)) (fun j d => W (ix2 j d)) d := by
  unfold midRow
  pointwise [mid3]

theorem act3_apply (u : FVec Ideal S16x2112x5632 .f32) (b : Fin 16) (s : Fin 2112) (f : Fin 2816) :
    act3 u (ix3 b s f) = siluE (u (ix3 b s ⟨f.val, by omega⟩)) * u (ix3 b s ⟨2816 + f.val, by omega⟩) := by
  unfold siluE
  pointwise [act3, sig3]
  rfl

theorem up_apply (x : FVec Ideal S16x2112x1024 .f32) (W : FVec Ideal S1024x5632 .f32) (b : Fin 16) (s : Fin 2112) (f : Fin 5632) :
    Host.dotGeneral dot_S16x2112x1024_S1024x5632_S16x2112x5632_2_0_01_1_n_n none x W (ix3 b s f)
      = ∑ d : Fin 1024, x (ix3 b s d) * W (ix2 d f) := by
  pointwise

theorem down_apply (x : FVec Ideal S16x2112x2816 .f32) (D : FVec Ideal S2816x1024 .f32) (b : Fin 16) (s : Fin 2112) (d : Fin 1024) :
    Host.dotGeneral dot_S16x2112x2816_S2816x1024_S16x2112x1024_2_0_01_1_n_n none x D (ix3 b s d)
      = ∑ f : Fin 2816, x (ix3 b s f) * D (ix2 f d) := by
  pointwise

theorem ff3_apply (x : FVec Ideal S16x2112x1024 .f32) (n : FVec Ideal S1024 .f32) (W : FVec Ideal S1024x5632 .f32)
    (D : FVec Ideal S2816x1024 .f32) (b : Fin 16) (s : Fin 2112) (d : Fin 1024) :
    ff3 x n W D (ix3 b s d)
      = ffRow (fun d => x (ix3 b s d)) (fun d => n (ix1 d)) (fun j f => W (ix2 j ⟨f.val, by omega⟩))
          (fun j f => W (ix2 j ⟨2816 + f.val, by omega⟩)) (fun f d => D (ix2 f d)) d := by
  unfold ff3 ffRow actRow
  refine congrArg (x (ix3 b s d) + ·) ((down_apply _ D b s d).trans (Finset.sum_congr rfl fun f _ => ?_))
  rw [act3_apply, up_apply, up_apply]
  simp only [norm3_apply]

theorem split_apply (x : FVec Ideal S16x2112x512 .f32) (b : Fin 16) (s : Fin 2112) (d : Fin 4) (k : Fin 128) :
    shapeCast S16x2112x4x128 x shapeCasts_S16x2112x512_S16x2112x4x128 (ix4 b s d k) = x (ix3 b s (headIx d k)) := by
  refine shapeCast_apply x _ _ _ ?_
  rw [rowMajor_val3 _ (2112 * 512) 512 rfl rfl, rowMajor_val4 _ (2112 * (4 * 128)) (4 * 128) 128 rfl rfl rfl]
  show b.val * (2112 * 512) + s.val * 512 + (128 * d.val + k.val) = b.val * (2112 * (4 * 128)) + s.val * (4 * 128) + d.val * 128 + k.val
  omega

theorem join_apply (x : FVec Ideal S16x2112x4x128 .f32) (b : Fin 16) (s : Fin 2112) (j : Fin 512) :
    shapeCast S16x2112x512 x shapeCasts_S16x2112x4x128_S16x2112x512 (ix3 b s j)
      = x (ix4 b s ⟨j.val / 128, by omega⟩ ⟨j.val % 128, by omega⟩) := by
  refine shapeCast_apply x _ _ _ ?_
  rw [rowMajor_val3 _ (2112 * 512) 512 rfl rfl, rowMajor_val4 _ (2112 * (4 * 128)) (4 * 128) 128 rfl rfl rfl]
  show b.val * (2112 * (4 * 128)) + s.val * (4 * 128) + j.val / 128 * 128 + j.val % 128 = b.val * (2112 * 512) + s.val * 512 + j.val
  omega

theorem mix3_apply (o z y : FVec Ideal S16x2112x512 .f32) (w : FVec Ideal S128 .f32) (b : Fin 16) (s : Fin 2112) (j : Fin 1024) :
    mix3 o z y w (ix3 b s j)
      = mixRow (fun j => o (ix3 b s j)) (fun j => z (ix3 b s j)) (fun j => y (ix3 b s j)) (fun k => w (ix1 k)) j := by
  unfold mixRow mix3
  split_ifs with h
  · refine (concatenate_pair_apply_left (t := S16x2112x1024) (s₁ := S16x2112x512) (s₂ := S16x2112x512) 2 _ _ _ (ix3 b s j) rfl
      (ix3 b s (⟨j.val, h⟩ : Fin 512)) (fun a => by fin_cases a <;> rfl)).trans ?_
    rw [join_apply, gate4_apply]
    simp only [split_apply]
    rfl
  · refine concatenate_pair_apply_right (t := S16x2112x1024) (s₁ := S16x2112x512) (s₂ := S16x2112x512) 2 _ _ _ (ix3 b s j) rfl rfl
      (ix3 b s (⟨j.val - 512, by omega⟩ : Fin 512)) (fun a ha => by fin_cases a <;> first | rfl | exact absurd rfl ha) ?_
    show j.val - 512 + 512 = j.val
    omega

theorem whole_apply (a0 : FVec Ideal S16x2112x1024 .f32) (a1 a2 a3 : FVec Ideal S16x2112x512 .f32) (a4 : FVec Ideal S128 .f32)
    (a5 : FVec Ideal S1024x1024 .f32) (a6 : FVec Ideal S1024 .f32) (a7 : FVec Ideal S1024x5632 .f32)
    (a8 : FVec Ideal S2816x1024 .f32) (b : Fin 16) (s : Fin 2112) (d : Fin 1024) :
    whole a0 a1 a2 a3 a4 a5 a6 a7 a8 (ix3 b s d) = full a0 a1 a2 a3 a4 a5 a6 a7 a8 b s d := by
  unfold whole
  rw [ff3_apply]
  simp only [mid3_apply, mix3_apply]
  rfl

end Cert.Proof.OutMid.Ref

end
-- ==== Proof.OutMid.Claim.lean ====
/- The layer's second half without the final norm: the kernel's result is the reference's, and the reference's frame. -/
module

public import proofs.«01_k».proof.Defs
public import proofs.«01_k».proof.Proof.OutMid.Array
public import proofs.«01_k».proof.Proof.OutMid.Ref

@[expose] public section

set_option maxRecDepth 16384

noncomputable section

open Idealize.ShloMosaic Idealize.ShloMosaic.TcCoe Idealize.SL.Sem

namespace Cert.Proof.OutMid

/-- The reference's result from the kernel's arguments. -/
theorem ref_eq (m : (ℓ : Loc Cert.Kernel4Ideal.nD Cert.Kernel4Ideal.τ Cert.Kernel4Ideal.sig) → Buf (Elt Ideal) ℓ)
    (c : Dev Cert.Kernel4Ideal.nD)
    (A0 : FVec Ideal Cert.Reference4Ideal.S16x2112x1024 .f32) (A1 A2 A3 : FVec Ideal Cert.Reference4Ideal.S16x2112x512 .f32)
    (A4 : FVec Ideal Cert.Reference4Ideal.S128 .f32) (A5 : FVec Ideal Cert.Reference4Ideal.S1024x1024 .f32)
    (A6 : FVec Ideal Cert.Reference4Ideal.S1024 .f32) (A7 : FVec Ideal Cert.Reference4Ideal.S1024x5632 .f32)
    (A8 : FVec Ideal Cert.Reference4Ideal.S2816x1024 .f32)
    (h0 : A0 = m ((c.tc : Thread Cert.Kernel4Ideal.nD Cert.Kernel4Ideal.τ).loc Cert.Kernel4Ideal.main_arg0))
    (h1 : A1 = m ((c.tc : Thread Cert.Kernel4Ideal.nD Cert.Kernel4Ideal.τ).loc Cert.Kernel4Ideal.main_arg1))
    (h2 : A2 = m ((c.tc : Thread Cert.Kernel4Ideal.nD Cert.Kernel4Ideal.τ).loc Cert.Kernel4Ideal.main_arg2))
    (h3 : A3 = m ((c.tc : Thread Cert.Kernel4Ideal.nD Cert.Kernel4Ideal.τ).loc Cert.Kernel4Ideal.main_arg3))
    (h4 : A4 = m ((c.tc : Thread Cert.Kernel4Ideal.nD Cert.Kernel4Ideal.τ).loc Cert.Kernel4Ideal.main_arg4))
    (h5 : A5 = m ((c.tc : Thread Cert.Kernel4Ideal.nD Cert.Kernel4Ideal.τ).loc Cert.Kernel4Ideal.main_arg5))
    (h6 : A6 = m ((c.tc : Thread Cert.Kernel4Ideal.nD Cert.Kernel4Ideal.τ).loc Cert.Kernel4Ideal.main_arg6))
    (h7 : A7 = m ((c.tc : Thread Cert.Kernel4Ideal.nD Cert.Kernel4Ideal.τ).loc Cert.Kernel4Ideal.main_arg7))
    (h8 : A8 = m ((c.tc : Thread Cert.Kernel4Ideal.nD Cert.Kernel4Ideal.τ).loc Cert.Kernel4Ideal.main_arg8))
    : Ref.whole A0 A1 A2 A3 A4 A5 A6 A7 A8 = result m c := by
  funext i
  have e : i = ix3 (i 0 : Fin 16) (i 1 : Fin 2112) (i 2 : Fin 1024) := eq_ix3 i
  subst h0 h1 h2 h3 h4 h5 h6 h7 h8
  exact (congrArg _ e).trans (Ref.whole_apply _ _ _ _ _ _ _ _ _ (i 0) (i 1) (i 2))

theorem frame_reference : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

theorem value : Cert.algebraic_Kernel4Ideal_Reference4Ideal := fun m ρ m' ρ' _ hag =>
  ⟨fun c => result m c,
    (θ_run Cert.Kernel4Ideal.defs _ _).mono (fun _ h c => ⟨(h c).1.trans (final m c), (h c).2⟩)
      (Cert.Kernel4Ideal.Value.run_blocks m ρ),
    (θ_run Cert.Reference4Ideal.defs _ _).mono (fun _ h c => ⟨(h c).1.trans ((Ref.res_eq m' c).trans (by
        obtain ⟨h0, h1, h2, h3, h4, h5, h6, h7, h8, h9⟩ := hag c
        exact ref_eq m c _ _ _ _ _ _ _ _ _ h0 h1 h2 h3 h4 h5 h6 h7 h8)), (h c).2⟩)
      (Cert.Reference4Ideal.Value.run (F := Ideal) m' ρ')⟩

end Cert.Proof.OutMid

end
-- ==== Proof.InProj.Parts.lean ====
/- The pieces that one grid step of the input projection's kernel stores, as functions of the window they are computed
   from, and what they hold at an index. -/
module

public import proofs.«01_k».proof.Proof.Gen.Kernel3Ideal.Value
public import proofs.«01_k».proof.Proof.OutFfn.Row
public import Idealize.ShloMosaic.Lib.Pipeline.ValueKit
public import Idealize.ShloMosaic.Lib.ValueLayout

@[expose] public section

set_option maxRecDepth 16384

noncomputable section

open Idealize.ShloMosaic Idealize.ShloMosaic.TcCoe Idealize.SL.Sem

namespace Cert.Proof

/-- Three neighbours `p`, `c`, `n` weighed. -/
def conv3 (p c n w0 w1 w2 : EReal) : EReal := w1 * c + w0 * p + w2 * n

/-- The factor that brings a head's entries to length one. -/
def unitFac (y : Fin 128 → EReal) : EReal := Ideal.rsqrt (∑ k, y k * y k + Ideal.ofBits .f32 0x358637BD#32)

/-- The scale of the queries. -/
def qScale : EReal := Ideal.ofBits .f32 0x3DB504F3#32

end Cert.Proof

namespace Cert.Proof.InProj

open Cert.Kernel3Ideal Cert.Kernel3Ideal.Gen

section Terms

variable {F : FTy → Type} [FloatOps F]

/-- The convolution of a window of 80 rows, at its 64 middle rows. -/
def convT (win : Vec F S80x128 .f32) (w : Vec F S3x128 .f32) : FVec F S64x128 .f32 :=
  addf (addf
    (mulf (broadcastTo S64x128 (extractStridedSlice S1x128 ![1, 0] w slices_S3x128_o1_0_S1x128 : FVec F S1x128 .f32) broadcasts_S1x128_S64x128)
      (extractStridedSlice S64x128 ![8, 0] win slices_S80x128_o8_0_S64x128))
    (mulf (broadcastTo S64x128 (extractStridedSlice S1x128 ![0, 0] w slices_S3x128_o0_0_S1x128 : FVec F S1x128 .f32) broadcasts_S1x128_S64x128)
      (extractStridedSlice S64x128 ![7, 0] win slices_S80x128_o7_0_S64x128)))
    (mulf (broadcastTo S64x128 (extractStridedSlice S1x128 ![2, 0] w slices_S3x128_o2_0_S1x128 : FVec F S1x128 .f32) broadcasts_S1x128_S64x128)
      (extractStridedSlice S64x128 ![9, 0] win slices_S80x128_o9_0_S64x128))

/-- The convolution after its activation. -/
def actT (win : Vec F S80x128 .f32) (w : Vec F S3x128 .f32) : FVec F S64x128 .f32 :=
  mulf (convT win w) (logistic (convT win w))

/-- The factor that brings every row of a head to length one. -/
def facT (y : FVec F S64x128 .f32) : FVec F S64x1 .f32 :=
  rsqrt (addf (shapeCast S64x1 (multiReduction .add [1] S64 (mulf y y) 0x00000000#32 reduces_S64x128_S64 (.inl rfl) rfl) shapeCasts_S64_S64x1)
    (broadcast S64x1 (Scalar.ofBits .f32 0x358637BD#32)))

/-- A query head's rows. -/
def qT (win : Vec F S80x128 .f32) (w : Vec F S3x128 .f32) : FVec F S64x128 .f32 :=
  mulf (actT win w) (broadcastTo S64x128 (mulf (facT (actT win w)) (broadcast S64x1 (Scalar.ofBits .f32 0x3DB504F3#32))) broadcasts_S64x1_S64x128)

/-- A key head's rows. -/
def kT (win : Vec F S80x128 .f32) (w : Vec F S3x128 .f32) : FVec F S64x128 .f32 :=
  mulf (actT win w) (broadcastTo S64x128 (facT (actT win w)) broadcasts_S64x1_S64x128)

/-- The rows that are stored. -/
def outT (y : FVec F S64x128 .f32) : FVec F S1x64x128 .bf16 :=
  shapeCast S1x64x128 (truncf .bf16 y bitsLt_bf16_f32) shapeCasts_S64x128_S1x64x128

/-- The rows with zero in those before the sequence's start. -/
def maskT (a : BitVec 32) (y : FVec F S64x128 .f32) : FVec F S64x128 .f32 :=
  select (broadcastTo S64x128 (shapeCast S64x1 (cmpi .sge (addi (broadcast S64x1 (Scalar.addi (Scalar.muli a 704#32) 0#32))
    (iota .tc S64x1 32 [0] iota_S64x1_d0_w32)) (broadcast S64x1 48#32)) shapeCasts_S64x1_S64x1) broadcasts_S64x1_S64x128) y
    (broadcast S64x128 (Scalar.ofBits .f32 0x00000000#32))

/-- The rows of the convolution channel. -/
def scT (g : Vec F S64x128 .f32) (wc wh : Vec F S80x128 .f32) (w : Vec F S3x128 .f32) : FVec F S64x128 .f32 :=
  mulf g (convT (mulf wc wh) w)

end Terms

theorem convT_apply (win : Vec Ideal S80x128 .f32) (w : Vec Ideal S3x128 .f32) (r : Fin 64) (k : Fin 128) :
    convT win w (ix2 r k) = conv3 (win (ix2 (⟨7 + r.val, by omega⟩ : Fin 80) k)) (win (ix2 (⟨8 + r.val, by omega⟩ : Fin 80) k))
      (win (ix2 (⟨9 + r.val, by omega⟩ : Fin 80) k)) (w (ix2 (0 : Fin 3) k)) (w (ix2 (1 : Fin 3) k)) (w (ix2 (2 : Fin 3) k)) := by
  unfold conv3
  pointwise [convT]

theorem actT_apply (win : Vec Ideal S80x128 .f32) (w : Vec Ideal S3x128 .f32) (r : Fin 64) (k : Fin 128) :
    actT win w (ix2 r k) = siluE (convT win w (ix2 r k)) := by
  unfold siluE actT
  generalize convT win w = y
  pointwise

theorem facT_apply (y : FVec Ideal S64x128 .f32) (r : Fin 64) :
    facT y (ix2 r (0 : Fin 1)) = unitFac fun k => y (ix2 r k) := by
  unfold unitFac
  pointwise [facT]

theorem qT_apply (win : Vec Ideal S80x128 .f32) (w : Vec Ideal S3x128 .f32) (r : Fin 64) (k : Fin 128) :
    qT win w (ix2 r k) = actT win w (ix2 r k) * (unitFac (fun k => actT win w (ix2 r k)) * qScale) := by
  rw [← facT_apply]
  unfold qScale qT
  generalize facT (actT win w) = f
  generalize actT win w = y
  pointwise

theorem kT_apply (win : Vec Ideal S80x128 .f32) (w : Vec Ideal S3x128 .f32) (r : Fin 64) (k : Fin 128) :
    kT win w (ix2 r k) = actT win w (ix2 r k) * unitFac (fun k => actT win w (ix2 r k)) := by
  rw [← facT_apply]
  unfold kT
  generalize facT (actT win w) = f
  generalize actT win w = y
  pointwise

theorem outT_apply (y : FVec Ideal S64x128 .f32) (r : Fin 64) (k : Fin 128) : outT y (ix3 (0 : Fin 1) r k) = y (ix2 r k) := by
  pointwise [outT]

theorem scT_apply (g : Vec Ideal S64x128 .f32) (wc wh : Vec Ideal S80x128 .f32) (w : Vec Ideal S3x128 .f32) (r : Fin 64) (k : Fin 128) :
    scT g wc wh w (ix2 r k) = g (ix2 r k) * convT (mulf wc wh) w (ix2 r k) := rfl

theorem mask_word : ∀ (j : Fin 3) (r : Fin 64),
    IntOp.cmpi .sge (IntOp.addi (Scalar.addi (Scalar.muli (BitVec.ofNat 32 j.val) 704#32) 0#32) (BitVec.ofNat 32 r.val)) 48#32 = BitVec.ofBool (decide (48 ≤ 704 * j.val + r.val)) := by
  decide +kernel

theorem maskT_apply (j : Fin 3) (y : FVec Ideal S64x128 .f32) (r : Fin 64) (k : Fin 128) :
    maskT (BitVec.ofNat 32 j.val) y (ix2 r k) = if 48 ≤ 704 * j.val + r.val then y (ix2 r k) else 0 := by
  pointwise [maskT]
  refine (congrArg (fun c => Scalar.select c (y (ix2 r k)) 0) (mask_word j r)).trans ?_
  by_cases h : 48 ≤ 704 * j.val + r.val <;> simp [Scalar.select, h]

/-! ## The stored blocks from the projected rows -/

/-- Column `l` of the queries, keys or values, among the 1536 projected columns. -/
def col (B : Fin 3) (l : Fin 512) : Fin 1536 := ⟨512 * B.val + l.val, by omega⟩

/-- Lane `k` of the head that column `l` lies in. -/
def lane (l : Fin 512) (k : Fin 128) : Fin 512 := ⟨128 * (l.val / 128) + k.val, by omega⟩

/-- The projected rows after convolution and activation, at row `r` of the tile. -/
def yE (PQ : S736x1536.Idx → EReal) (cw : Fin 3 → Fin 1536 → EReal) (r : Fin 704) (c : Fin 1536) : EReal :=
  siluE (conv3 (PQ (ix2 (⟨15 + r.val, by omega⟩ : Fin 736) c)) (PQ (ix2 (⟨16 + r.val, by omega⟩ : Fin 736) c))
    (PQ (ix2 (⟨17 + r.val, by omega⟩ : Fin 736) c)) (cw 0 c) (cw 1 c) (cw 2 c))

/-- The block of queries. -/
def qE (PQ : S736x1536.Idx → EReal) (cw : Fin 3 → Fin 1536 → EReal) (j : Fin 3) : S1x704x512.Idx → EReal := fun y =>
  if 48 ≤ 704 * j.val + (y 1).val then
    yE PQ cw (y 1) (col 0 (y 2)) * (unitFac (fun k => yE PQ cw (y 1) (col 0 (lane (y 2) k))) * qScale)
  else 0

/-- The block of keys. -/
def kE (PQ : S736x1536.Idx → EReal) (cw : Fin 3 → Fin 1536 → EReal) (j : Fin 3) : S1x704x512.Idx → EReal := fun y =>
  if 48 ≤ 704 * j.val + (y 1).val then
    yE PQ cw (y 1) (col 1 (y 2)) * unitFac (fun k => yE PQ cw (y 1) (col 1 (lane (y 2) k)))
  else 0

/-- The block of values. -/
def vE (PQ : S736x1536.Idx → EReal) (cw : Fin 3 → Fin 1536 → EReal) (j : Fin 3) : S1x704x512.Idx → EReal := fun y =>
  if 48 ≤ 704 * j.val + (y 1).val then yE PQ cw (y 1) (col 2 (y 2)) else 0

/-- The block of the convolution channel. -/
def scE (PS : S736x1536.Idx → EReal) (cw : Fin 3 → Fin 512 → EReal) : S1x704x512.Idx → EReal := fun y =>
  PS (ix2 (⟨16 + (y 1).val, by have := (y 1).isLt; change (y 1).val < 704 at this; omega⟩ : Fin 736) (col 0 (y 2)))
    * conv3
      (PS (ix2 (⟨15 + (y 1).val, by have := (y 1).isLt; change (y 1).val < 704 at this; omega⟩ : Fin 736) (col 1 (y 2)))
        * PS (ix2 (⟨15 + (y 1).val, by have := (y 1).isLt; change (y 1).val < 704 at this; omega⟩ : Fin 736) (col 2 (y 2))))
      (PS (ix2 (⟨16 + (y 1).val, by have := (y 1).isLt; change (y 1).val < 704 at this; omega⟩ : Fin 736) (col 1 (y 2)))
        * PS (ix2 (⟨16 + (y 1).val, by have := (y 1).isLt; change (y 1).val < 704 at this; omega⟩ : Fin 736) (col 2 (y 2))))
      (PS (ix2 (⟨17 + (y 1).val, by have := (y 1).isLt; change (y 1).val < 704 at this; omega⟩ : Fin 736) (col 1 (y 2)))
        * PS (ix2 (⟨17 + (y 1).val, by have := (y 1).isLt; change (y 1).val < 704 at this; omega⟩ : Fin 736) (col 2 (y 2))))
      (cw 0 (y 2)) (cw 1 (y 2)) (cw 2 (y 2))

/-- A window holds rows `s + 8` to `s + 88` of the projected columns from `o` on. -/
def IsWin (PQ : S736x1536.Idx → EReal) (s : ℕ) (o : ℕ) (win : Vec Ideal S80x128 .f32) : Prop :=
  ∀ (r : Fin 80) (k : Fin 128) (hr : s + 8 + r.val < 736) (hk : o + k.val < 1536),
    win (ix2 r k) = PQ (ix2 (⟨s + 8 + r.val, hr⟩ : Fin 736) (⟨o + k.val, hk⟩ : Fin 1536))

/-- The weights of the columns from `o` on. -/
def IsCw {n : ℕ} (cw : Fin 3 → Fin n → EReal) (o : ℕ) (w : Vec Ideal S3x128 .f32) : Prop :=
  ∀ (a : Fin 3) (k : Fin 128) (hk : o + k.val < n), w (ix2 a k) = cw a ⟨o + k.val, hk⟩

theorem ix2_congr {m n : ℕ} {a a' : Fin m} {b b' : Fin n} (ha : a.val = a'.val) (hb : b.val = b'.val) : ix2 a b = ix2 a' b' := by
  rw [Fin.ext ha, Fin.ext hb]

theorem act_eq {PQ : S736x1536.Idx → EReal} {cw : Fin 3 → Fin 1536 → EReal} {s o : ℕ} {win : Vec Ideal S80x128 .f32}
    {w : Vec Ideal S3x128 .f32} (hwin : IsWin PQ s o win) (hw : IsCw cw o w) (hs : s + 64 ≤ 704) (r : Fin 64) (k : Fin 128)
    (R : Fin 704) (hR : R.val = s + r.val) (c : Fin 1536) (hc : c.val = o + k.val) :
    actT win w (ix2 r k) = yE PQ cw R c := by
  have hk : o + k.val < 1536 := hc ▸ c.isLt
  obtain rfl : c = ⟨o + k.val, hk⟩ := Fin.ext hc
  have e : ∀ (a : Fin 80) (A : Fin 736) (_ : A.val = s + 8 + a.val), win (ix2 a k) = PQ (ix2 A (⟨o + k.val, hk⟩ : Fin 1536)) :=
    fun a A hA => by
      rw [hwin a k (by omega) hk]
      exact congrArg PQ (ix2_congr hA.symm rfl)
  rw [actT_apply, convT_apply,
    e (⟨7 + r.val, by omega⟩ : Fin 80) (⟨15 + R.val, by omega⟩ : Fin 736) (by show 15 + R.val = s + 8 + (7 + r.val); omega),
    e (⟨8 + r.val, by omega⟩ : Fin 80) (⟨16 + R.val, by omega⟩ : Fin 736) (by show 16 + R.val = s + 8 + (8 + r.val); omega),
    e (⟨9 + r.val, by omega⟩ : Fin 80) (⟨17 + R.val, by omega⟩ : Fin 736) (by show 17 + R.val = s + 8 + (9 + r.val); omega),
    hw 0 k hk, hw 1 k hk, hw 2 k hk]
  rfl

/-- Where a stored piece lies in the block. -/
theorem piece_emb (s o : ℕ) (inb : ∀ a, (![0, s, o] : Fin 3 → ℕ) a + (![1, 64, 128] : Fin 3 → ℕ) a ≤ S1x704x512.size a)
    (r : Fin 64) (k : Fin 128) (hr : s + r.val < 704) (hk : o + k.val < 512) :
    (Rect.unit (s := S1x704x512) ![0, s, o] ![1, 64, 128] inb).emb (ix3 (0 : Fin 1) r k)
      = ix3 (0 : Fin 1) (⟨s + r.val, hr⟩ : Fin 704) (⟨o + k.val, hk⟩ : Fin 512) := by
  funext a
  refine Fin.ext ?_
  match a with
  | ⟨0, _⟩ => rfl
  | ⟨1, _⟩ => show s + 1 * r.val = s + r.val; omega
  | ⟨2, _⟩ => show o + 1 * k.val = o + k.val; omega

theorem q_rows {PQ : S736x1536.Idx → EReal} {cw : Fin 3 → Fin 1536 → EReal} {s : ℕ} (hs : s + 64 ≤ 704) (g : Fin 4)
    {win : Vec Ideal S80x128 .f32} {w : Vec Ideal S3x128 .f32} (hwin : IsWin PQ s (128 * g.val) win) (hw : IsCw cw (128 * g.val) w)
    (r : Fin 64) (k : Fin 128) (R : Fin 704) (hR : R.val = s + r.val) (l : Fin 512) (hl : l.val = 128 * g.val + k.val) :
    qT win w (ix2 r k) = yE PQ cw R (col 0 l) * (unitFac (fun k => yE PQ cw R (col 0 (lane l k))) * qScale) := by
  rw [qT_apply, act_eq hwin hw hs r k R hR (col 0 l) (by show 512 * 0 + l.val = _; omega)]
  have e : (fun k => actT win w (ix2 r k)) = fun k => yE PQ cw R (col 0 (lane l k)) := funext fun k' =>
    act_eq hwin hw hs r k' R hR (col 0 (lane l k')) (by show 512 * 0 + (128 * (l.val / 128) + k'.val) = _; omega)
  rw [e]

theorem k_rows {PQ : S736x1536.Idx → EReal} {cw : Fin 3 → Fin 1536 → EReal} {s : ℕ} (hs : s + 64 ≤ 704) (g : Fin 4)
    {win : Vec Ideal S80x128 .f32} {w : Vec Ideal S3x128 .f32} (hwin : IsWin PQ s (512 + 128 * g.val) win)
    (hw : IsCw cw (512 + 128 * g.val) w)
    (r : Fin 64) (k : Fin 128) (R : Fin 704) (hR : R.val = s + r.val) (l : Fin 512) (hl : l.val = 128 * g.val + k.val) :
    kT win w (ix2 r k) = yE PQ cw R (col 1 l) * unitFac (fun k => yE PQ cw R (col 1 (lane l k))) := by
  rw [kT_apply, act_eq hwin hw hs r k R hR (col 1 l) (by show 512 * 1 + l.val = _; omega)]
  have e : (fun k => actT win w (ix2 r k)) = fun k => yE PQ cw R (col 1 (lane l k)) := funext fun k' =>
    act_eq hwin hw hs r k' R hR (col 1 (lane l k')) (by show 512 * 1 + (128 * (l.val / 128) + k'.val) = _; omega)
  rw [e]

theorem v_rows {PQ : S736x1536.Idx → EReal} {cw : Fin 3 → Fin 1536 → EReal} {s : ℕ} (hs : s + 64 ≤ 704) (g : Fin 4)
    {win : Vec Ideal S80x128 .f32} {w : Vec Ideal S3x128 .f32} (hwin : IsWin PQ s (1024 + 128 * g.val) win)
    (hw : IsCw cw (1024 + 128 * g.val) w)
    (r : Fin 64) (k : Fin 128) (R : Fin 704) (hR : R.val = s + r.val) (l : Fin 512) (hl : l.val = 128 * g.val + k.val) :
    actT win w (ix2 r k) = yE PQ cw R (col 2 l) :=
  act_eq hwin hw hs r k R hR (col 2 l) (by show 512 * 2 + l.val = _; omega)

/-- A stored piece holds the block's entries, where its rows hold them. -/
theorem piece_of (G : S1x704x512.Idx → EReal) (s : ℕ) (hs : s + 64 ≤ 704) (g : Fin 4)
    {inb : ∀ a, (![0, s, 128 * g.val] : Fin 3 → ℕ) a + (![1, 64, 128] : Fin 3 → ℕ) a ≤ S1x704x512.size a}
    {pay : Vec Ideal S1x64x128 .bf16} (y : FVec Ideal S64x128 .f32) (hp : pay = outT y)
    (hy : ∀ (r : Fin 64) (k : Fin 128) (R : Fin 704) (_ : R.val = s + r.val) (l : Fin 512) (_ : l.val = 128 * g.val + k.val),
      y (ix2 r k) = G (ix3 (0 : Fin 1) R l)) :
    ∀ x, pay x = G ((Rect.unit (s := S1x704x512) ![0, s, 128 * g.val] ![1, 64, 128] inb).emb x) := by
  intro x
  obtain ⟨z, r, k, rfl⟩ : ∃ (z : Fin 1) (r : Fin 64) (k : Fin 128), x = ix3 z r k := ⟨x 0, x 1, x 2, eq_ix3 x⟩
  obtain rfl : z = 0 := Subsingleton.elim _ _
  rw [hp, outT_apply, piece_emb s (128 * g.val) inb r k (by omega) (by omega)]
  exact hy r k _ rfl _ rfl

theorem q_piece {PQ : S736x1536.Idx → EReal} {cw : Fin 3 → Fin 1536 → EReal} (j : Fin 3) (s : ℕ) (hs : s + 64 ≤ 704) (h48 : 48 ≤ s)
    (g : Fin 4) {inb : ∀ a, (![0, s, 128 * g.val] : Fin 3 → ℕ) a + (![1, 64, 128] : Fin 3 → ℕ) a ≤ S1x704x512.size a}
    {win : Vec Ideal S80x128 .f32} {w : Vec Ideal S3x128 .f32} (hwin : IsWin PQ s (128 * g.val) win) (hw : IsCw cw (128 * g.val) w)
    {pay : Vec Ideal S1x64x128 .bf16} (hp : pay = outT (qT win w)) :
    ∀ x, pay x = qE PQ cw j ((Rect.unit (s := S1x704x512) ![0, s, 128 * g.val] ![1, 64, 128] inb).emb x) :=
  piece_of _ s hs g _ hp fun r k R hR l hl => by
    rw [q_rows hs g hwin hw r k R hR l hl]
    exact (if_pos (by show 48 ≤ 704 * j.val + R.val; omega)).symm

theorem q_piece0 {PQ : S736x1536.Idx → EReal} {cw : Fin 3 → Fin 1536 → EReal} (j : Fin 3)
    (g : Fin 4) {inb : ∀ a, (![0, 0, 128 * g.val] : Fin 3 → ℕ) a + (![1, 64, 128] : Fin 3 → ℕ) a ≤ S1x704x512.size a}
    {win : Vec Ideal S80x128 .f32} {w : Vec Ideal S3x128 .f32} (hwin : IsWin PQ 0 (128 * g.val) win) (hw : IsCw cw (128 * g.val) w)
    {a : BitVec 32} (ha : a = BitVec.ofNat 32 j.val) {pay : Vec Ideal S1x64x128 .bf16} (hp : pay = outT (maskT a (qT win w))) :
    ∀ x, pay x = qE PQ cw j ((Rect.unit (s := S1x704x512) ![0, 0, 128 * g.val] ![1, 64, 128] inb).emb x) :=
  piece_of _ 0 (by omega) g _ hp fun r k R hR l hl => by
    rw [ha, maskT_apply, q_rows (by omega) g hwin hw r k R hR l hl]
    rw [show r.val = R.val by omega]
    rfl

theorem k_piece {PQ : S736x1536.Idx → EReal} {cw : Fin 3 → Fin 1536 → EReal} (j : Fin 3) (s : ℕ) (hs : s + 64 ≤ 704) (h48 : 48 ≤ s)
    (g : Fin 4) {inb : ∀ a, (![0, s, 128 * g.val] : Fin 3 → ℕ) a + (![1, 64, 128] : Fin 3 → ℕ) a ≤ S1x704x512.size a}
    {win : Vec Ideal S80x128 .f32} {w : Vec Ideal S3x128 .f32} (hwin : IsWin PQ s (512 + 128 * g.val) win)
    (hw : IsCw cw (512 + 128 * g.val) w)
    {pay : Vec Ideal S1x64x128 .bf16} (hp : pay = outT (kT win w)) :
    ∀ x, pay x = kE PQ cw j ((Rect.unit (s := S1x704x512) ![0, s, 128 * g.val] ![1, 64, 128] inb).emb x) :=
  piece_of _ s hs g _ hp fun r k R hR l hl => by
    rw [k_rows hs g hwin hw r k R hR l hl]
    exact (if_pos (by show 48 ≤ 704 * j.val + R.val; omega)).symm

theorem k_piece0 {PQ : S736x1536.Idx → EReal} {cw : Fin 3 → Fin 1536 → EReal} (j : Fin 3)
    (g : Fin 4) {inb : ∀ a, (![0, 0, 128 * g.val] : Fin 3 → ℕ) a + (![1, 64, 128] : Fin 3 → ℕ) a ≤ S1x704x512.size a}
    {win : Vec Ideal S80x128 .f32} {w : Vec Ideal S3x128 .f32} (hwin : IsWin PQ 0 (512 + 128 * g.val) win)
    (hw : IsCw cw (512 + 128 * g.val) w)
    {a : BitVec 32} (ha : a = BitVec.ofNat 32 j.val) {pay : Vec Ideal S1x64x128 .bf16} (hp : pay = outT (maskT a (kT win w))) :
    ∀ x, pay x = kE PQ cw j ((Rect.unit (s := S1x704x512) ![0, 0, 128 * g.val] ![1, 64, 128] inb).emb x) :=
  piece_of _ 0 (by omega) g _ hp fun r k R hR l hl => by
    rw [ha, maskT_apply, k_rows (by omega) g hwin hw r k R hR l hl]
    rw [show r.val = R.val by omega]
    rfl

theorem v_piece {PQ : S736x1536.Idx → EReal} {cw : Fin 3 → Fin 1536 → EReal} (j : Fin 3) (s : ℕ) (hs : s + 64 ≤ 704) (h48 : 48 ≤ s)
    (g : Fin 4) {inb : ∀ a, (![0, s, 128 * g.val] : Fin 3 → ℕ) a + (![1, 64, 128] : Fin 3 → ℕ) a ≤ S1x704x512.size a}
    {win : Vec Ideal S80x128 .f32} {w : Vec Ideal S3x128 .f32} (hwin : IsWin PQ s (1024 + 128 * g.val) win)
    (hw : IsCw cw (1024 + 128 * g.val) w)
    {pay : Vec Ideal S1x64x128 .bf16} (hp : pay = outT (actT win w)) :
    ∀ x, pay x = vE PQ cw j ((Rect.unit (s := S1x704x512) ![0, s, 128 * g.val] ![1, 64, 128] inb).emb x) :=
  piece_of _ s hs g _ hp fun r k R hR l hl => by
    rw [v_rows hs g hwin hw r k R hR l hl]
    exact (if_pos (by show 48 ≤ 704 * j.val + R.val; omega)).symm

theorem v_piece0 {PQ : S736x1536.Idx → EReal} {cw : Fin 3 → Fin 1536 → EReal} (j : Fin 3)
    (g : Fin 4) {inb : ∀ a, (![0, 0, 128 * g.val] : Fin 3 → ℕ) a + (![1, 64, 128] : Fin 3 → ℕ) a ≤ S1x704x512.size a}
    {win : Vec Ideal S80x128 .f32} {w : Vec Ideal S3x128 .f32} (hwin : IsWin PQ 0 (1024 + 128 * g.val) win)
    (hw : IsCw cw (1024 + 128 * g.val) w)
    {a : BitVec 32} (ha : a = BitVec.ofNat 32 j.val) {pay : Vec Ideal S1x64x128 .bf16} (hp : pay = outT (maskT a (actT win w))) :
    ∀ x, pay x = vE PQ cw j ((Rect.unit (s := S1x704x512) ![0, 0, 128 * g.val] ![1, 64, 128] inb).emb x) :=
  piece_of _ 0 (by omega) g _ hp fun r k R hR l hl => by
    rw [ha, maskT_apply, v_rows (by omega) g hwin hw r k R hR l hl]
    rw [show r.val = R.val by omega]
    rfl

/-- The gate's rows `s + 16` to `s + 80`. -/
def IsGate (PS : S736x1536.Idx → EReal) (s : ℕ) (o : ℕ) (g : Vec Ideal S64x128 .f32) : Prop :=
  ∀ (r : Fin 64) (k : Fin 128) (hr : s + 16 + r.val < 736) (hk : o + k.val < 1536),
    g (ix2 r k) = PS (ix2 (⟨s + 16 + r.val, hr⟩ : Fin 736) (⟨o + k.val, hk⟩ : Fin 1536))

theorem sc_piece {PS : S736x1536.Idx → EReal} {cw : Fin 3 → Fin 512 → EReal} (s : ℕ) (hs : s + 64 ≤ 704)
    (g : Fin 4) {inb : ∀ a, (![0, s, 128 * g.val] : Fin 3 → ℕ) a + (![1, 64, 128] : Fin 3 → ℕ) a ≤ S1x704x512.size a}
    {gt : Vec Ideal S64x128 .f32} {wc wh : Vec Ideal S80x128 .f32} {w : Vec Ideal S3x128 .f32} (hg : IsGate PS s (128 * g.val) gt)
    (hc : IsWin PS s (512 + 128 * g.val) wc) (hh : IsWin PS s (1024 + 128 * g.val) wh) (hw : IsCw cw (128 * g.val) w)
    {pay : Vec Ideal S1x64x128 .bf16} (hp : pay = outT (scT gt wc wh w)) :
    ∀ x, pay x = scE PS cw ((Rect.unit (s := S1x704x512) ![0, s, 128 * g.val] ![1, 64, 128] inb).emb x) :=
  piece_of _ s hs g _ hp fun r k R hR l hl => by
    have hc' : ∀ (a : Fin 80) (A : Fin 736) (_ : A.val = s + 8 + a.val), mulf (F := Ideal) (φ := .f32) wc wh (ix2 a k)
        = PS (ix2 A (col 1 l)) * PS (ix2 A (col 2 l)) := fun a A hA => by
      exact congrArg₂ (fun a b : EReal => a * b)
        ((hc a k (by omega) (by omega)).trans (congrArg PS (ix2_congr hA.symm (by show 512 + 128 * g.val + k.val = 512 * 1 + l.val; omega))))
        ((hh a k (by omega) (by omega)).trans (congrArg PS (ix2_congr hA.symm (by show 1024 + 128 * g.val + k.val = 512 * 2 + l.val; omega))))
    rw [scT_apply, convT_apply, hg r k (by omega) (by omega), hw 0 k (by omega), hw 1 k (by omega), hw 2 k (by omega),
      hc' (⟨7 + r.val, by omega⟩ : Fin 80) (⟨15 + R.val, by omega⟩ : Fin 736) (by show 15 + R.val = s + 8 + (7 + r.val); omega),
      hc' (⟨8 + r.val, by omega⟩ : Fin 80) (⟨16 + R.val, by omega⟩ : Fin 736) (by show 16 + R.val = s + 8 + (8 + r.val); omega),
      hc' (⟨9 + r.val, by omega⟩ : Fin 80) (⟨17 + R.val, by omega⟩ : Fin 736) (by show 17 + R.val = s + 8 + (9 + r.val); omega)]
    have hl' : 128 * g.val + k.val < 512 := hl ▸ l.isLt
    obtain rfl : l = ⟨128 * g.val + k.val, hl'⟩ := Fin.ext hl
    rw [ix2_congr (a := (⟨s + 16 + r.val, by omega⟩ : Fin 736)) (a' := (⟨16 + R.val, by omega⟩ : Fin 736)) (b := (⟨128 * g.val + k.val, by omega⟩ : Fin 1536)) (b' := col 0 ⟨128 * g.val + k.val, by omega⟩)
      (by show s + 16 + r.val = 16 + R.val; omega) (by show 128 * g.val + k.val = 512 * 0 + (128 * g.val + k.val); omega)]
    rfl

end Cert.Proof.InProj

end
-- ==== Proof.InProj.Front.lean ====
/- The layer's first half as functions of its arguments: the normalised rows projected, the convolutions, the unit-length
   heads and the gate columns. Row `t` counts from the front of the padded sequence; the rows outside the sequence are zero. -/
module

public import proofs.«01_k».proof.Proof.InProj.Parts

@[expose] public section

set_option maxRecDepth 16384

noncomputable section

open Idealize.ShloMosaic

namespace Cert.Proof.InProj

/-- An array of one, two or three axes. -/
abbrev A1 (a : ℕ) := (⟨1, ![a]⟩ : Shape).Idx → EReal
abbrev A2 (a b : ℕ) := (⟨2, ![a, b]⟩ : Shape).Idx → EReal
abbrev A3 (a b c : ℕ) := (⟨3, ![a, b, c]⟩ : Shape).Idx → EReal

/-- Row `t` of the padded residual rows. -/
def hN (h : A3 16 2064 1024) (b : Fin 16) (t : ℕ) (d : Fin 1024) : EReal :=
  if g : 48 ≤ t ∧ t < 2112 then h (ix3 b (⟨t - 48, by omega⟩ : Fin 2064) d) else 0

/-- Column `c` of row `t` after the norm and the projection. -/
def Pn (h : A3 16 2064 1024) (nw : A1 1024) (w : A2 1024 3600) (b : Fin 16) (t : ℕ) (c : Fin 3600) : EReal :=
  ∑ d : Fin 1024, rmsRow c1024 (hN h b t) (fun d => nw (ix1 d)) d * w (ix2 d c)

theorem Pn_zero (h : A3 16 2064 1024) (nw : A1 1024) (w : A2 1024 3600) (b : Fin 16) (t : ℕ) (c : Fin 3600)
    (ht : ¬(48 ≤ t ∧ t < 2112)) : Pn h nw w b t c = 0 := by
  unfold Pn
  refine Finset.sum_eq_zero fun d _ => ?_
  have e : hN h b t d = 0 := by unfold hN; rw [dif_neg ht]
  unfold rmsRow
  rw [e, zero_mul, zero_mul, zero_mul]

/-- A column of the projection, as one of all its columns. -/
def colW (o : ℕ) {n : ℕ} (ho : o + n ≤ 3600) (c : Fin n) : Fin 3600 := ⟨o + c.val, by omega⟩

/-- The convolved and activated column `c` of row `s`. -/
def yS (h : A3 16 2064 1024) (nw : A1 1024) (w : A2 1024 3600) (cw : A2 3 1536) (b : Fin 16) (s : ℕ) (c : Fin 1536) : EReal :=
  siluE (conv3 (Pn h nw w b (s - 1) (colW 0 (by decide) c)) (Pn h nw w b s (colW 0 (by decide) c))
    (Pn h nw w b (s + 1) (colW 0 (by decide) c)) (cw (ix2 (0 : Fin 3) c)) (cw (ix2 (1 : Fin 3) c)) (cw (ix2 (2 : Fin 3) c)))

/-- The queries. -/
def qS (h : A3 16 2064 1024) (nw : A1 1024) (w : A2 1024 3600) (cw : A2 3 1536) : A3 16 2112 512 := fun y =>
  if 48 ≤ (y 1).val then
    yS h nw w cw (y 0) (y 1).val (col 0 (y 2)) * (unitFac (fun k => yS h nw w cw (y 0) (y 1).val (col 0 (lane (y 2) k))) * qScale)
  else 0

/-- The keys. -/
def kS (h : A3 16 2064 1024) (nw : A1 1024) (w : A2 1024 3600) (cw : A2 3 1536) : A3 16 2112 512 := fun y =>
  if 48 ≤ (y 1).val then
    yS h nw w cw (y 0) (y 1).val (col 1 (y 2)) * unitFac (fun k => yS h nw w cw (y 0) (y 1).val (col 1 (lane (y 2) k)))
  else 0

/-- The values. -/
def vS (h : A3 16 2064 1024) (nw : A1 1024) (w : A2 1024 3600) (cw : A2 3 1536) : A3 16 2112 512 := fun y =>
  if 48 ≤ (y 1).val then yS h nw w cw (y 0) (y 1).val (col 2 (y 2)) else 0

/-- The output gate's columns. -/
def zS (h : A3 16 2064 1024) (nw : A1 1024) (w : A2 1024 3600) : A3 16 2112 512 := fun y =>
  Pn h nw w (y 0) (y 1).val (colW 1536 (n := 512) (by decide) (y 2))

/-- The short convolution's product at row `t`. -/
def pS (h : A3 16 2064 1024) (nw : A1 1024) (w : A2 1024 3600) (b : Fin 16) (t : ℕ) (l : Fin 512) : EReal :=
  Pn h nw w b t (colW 2576 (by decide) l) * Pn h nw w b t (colW 3088 (by decide) l)

/-- The short convolution's branch. -/
def scS (h : A3 16 2064 1024) (nw : A1 1024) (w : A2 1024 3600) (sw : A2 3 512) : A3 16 2112 512 := fun y =>
  Pn h nw w (y 0) (y 1).val (colW 2064 (n := 512) (by decide) (y 2))
    * conv3 (pS h nw w (y 0) ((y 1).val - 1) (y 2)) (pS h nw w (y 0) (y 1).val (y 2)) (pS h nw w (y 0) ((y 1).val + 1) (y 2))
        (sw (ix2 (0 : Fin 3) (y 2))) (sw (ix2 (1 : Fin 3) (y 2))) (sw (ix2 (2 : Fin 3) (y 2)))

/-- The place of gate column `k` among a gate's eight: the directions come first. -/
def perm (k : ℕ) : ℕ := 2 * (k % 4) + k / 4 % 2

/-- The gates' columns. -/
def baS (h : A3 16 2064 1024) (nw : A1 1024) (w : A2 1024 3600) : A3 16 2112 128 := fun y =>
  if (y 2).val < 8 then Pn h nw w (y 0) (y 1).val ⟨2048 + perm (y 2).val, by unfold perm; omega⟩
  else if (y 2).val < 16 then Pn h nw w (y 0) (y 1).val ⟨2056 + perm ((y 2).val - 8), by unfold perm; omega⟩
  else 0

end Cert.Proof.InProj

end
-- ==== Proof.InProj.Host.lean ====
/- The arrays that the input projection's kernel is given, from its arguments. -/
module

public import proofs.«01_k».proof.Proof.InProj.Front
public import Idealize.ShloMosaic.Lib.StableHlo.Run
public import Idealize.ShloMosaic.Lib.KernelVsHost

@[expose] public section

set_option maxRecDepth 16384

noncomputable section

open Idealize.ShloMosaic Idealize.ShloMosaic.TcCoe Idealize.SL.Sem

namespace Cert.Proof.InProj

open Cert.Kernel3Ideal Cert.Kernel3Ideal.Gen

/-- Eight columns picked by number: entry `(d, k)` is row `d` at the column that word `k` names. -/
theorem pick_apply {α : Type} (x : S1024x3600.Idx → α) (idx : IVec S8x1 32) (d : Fin 1024) (k : Fin 8) (n : Fin 3600)
    (hn : (idx (ix2 k (0 : Fin 1))).toInt.toNat = n.val) :
    Host.gather gather_S1024x3600_S8x1_S1024x8_0_1_n_n_1_1_10241 x idx (ix2 d k) = x (ix2 d n) := by
  unfold Host.gather
  congr 1
  funext a
  refine Fin.ext ?_
  show GatherDims.start gather_S1024x3600_S8x1_S1024x8_0_1_n_n_1_1_10241 (ix2 d k) idx a
      + GatherDims.batchCoord gather_S1024x3600_S8x1_S1024x8_0_1_n_n_1_1_10241 (ix2 d k) a
      + GatherDims.offCoord gather_S1024x3600_S8x1_S1024x8_0_1_n_n_1_1_10241 (ix2 d k) a = _
  match a with
  | ⟨0, _⟩ =>
    have e1 : GatherDims.start gather_S1024x3600_S8x1_S1024x8_0_1_n_n_1_1_10241 (ix2 d k) idx 0 = 0 := by
      unfold GatherDims.start; exact dif_neg (by decide)
    have e2 : GatherDims.batchCoord gather_S1024x3600_S8x1_S1024x8_0_1_n_n_1_1_10241 (ix2 d k) 0 = 0 :=
      GatherDims.batchCoord_eq_zero _ _ _ List.not_mem_nil
    have e3 : GatherDims.offCoord gather_S1024x3600_S8x1_S1024x8_0_1_n_n_1_1_10241 (ix2 d k) 0 = d.val := by
      unfold GatherDims.offCoord; rw [dif_pos (by decide)]; rfl
    show GatherDims.start gather_S1024x3600_S8x1_S1024x8_0_1_n_n_1_1_10241 (ix2 d k) idx 0 + _ + _ = _
    rw [e1]
    show 0 + GatherDims.batchCoord gather_S1024x3600_S8x1_S1024x8_0_1_n_n_1_1_10241 (ix2 d k) 0
      + GatherDims.offCoord gather_S1024x3600_S8x1_S1024x8_0_1_n_n_1_1_10241 (ix2 d k) 0 = d.val
    omega
  | ⟨1, _⟩ =>
    have e1 : GatherDims.start gather_S1024x3600_S8x1_S1024x8_0_1_n_n_1_1_10241 (ix2 d k) idx 1 = n.val := by
      unfold GatherDims.start
      rw [dif_pos (by decide)]
      have hsi : ∀ q, GatherDims.siIdx gather_S1024x3600_S8x1_S1024x8_0_1_n_n_1_1_10241 (ix2 d k) q = ix2 k (0 : Fin 1) := by
        intro q
        obtain rfl : q = ⟨0, by decide⟩ := Fin.ext (by have := q.isLt; have h : q.val < 1 := this; show q.val = 0; omega)
        funext b; refine Fin.ext ?_
        match b with
        | ⟨0, _⟩ => rfl
        | ⟨1, _⟩ => rfl
      rw [hsi, hn]
      show min n.val 3599 = n.val
      omega
    have e2 : GatherDims.batchCoord gather_S1024x3600_S8x1_S1024x8_0_1_n_n_1_1_10241 (ix2 d k) 1 = 0 :=
      GatherDims.batchCoord_eq_zero _ _ _ List.not_mem_nil
    have e3 : GatherDims.offCoord gather_S1024x3600_S8x1_S1024x8_0_1_n_n_1_1_10241 (ix2 d k) 1 = 0 :=
      GatherDims.offCoord_eq_zero _ _ _ (by decide)
    show GatherDims.start gather_S1024x3600_S8x1_S1024x8_0_1_n_n_1_1_10241 (ix2 d k) idx 1
      + GatherDims.batchCoord gather_S1024x3600_S8x1_S1024x8_0_1_n_n_1_1_10241 (ix2 d k) 1
      + GatherDims.offCoord gather_S1024x3600_S8x1_S1024x8_0_1_n_n_1_1_10241 (ix2 d k) 1 = n.val
    omega

/-- The numbers of eight gate columns from column `s` on. -/
def nums (s : BitVec 32) : IVec S8x1 32 :=
  broadcastInDim S8x1 ![0] bcast_S8_S8x1_0
    (select (cmpi .slt (addi (broadcastInDim S8 ![] bcast_S_S8 (constantI S_ 32 s)) (fun i => lit0 (S8.rowMajor i)))
        (broadcastInDim S8 ![] bcast_S_S8 (constantI S_ 32 0#32)))
      (addi (addi (broadcastInDim S8 ![] bcast_S_S8 (constantI S_ 32 s)) (fun i => lit0 (S8.rowMajor i)))
        (broadcastInDim S8 ![] bcast_S_S8 (constantI S_ 32 3600#32)))
      (addi (broadcastInDim S8 ![] bcast_S_S8 (constantI S_ 32 s)) (fun i => lit0 (S8.rowMajor i))))

theorem nums1 : ∀ k : Fin 8, (nums 2048#32 (ix2 k (0 : Fin 1))).toInt.toNat = 2048 + perm k.val := by
  decide +kernel
theorem nums2 : ∀ k : Fin 8, (nums 2056#32 (ix2 k (0 : Fin 1))).toInt.toNat = 2056 + perm k.val := by
  decide +kernel

variable (m : (ℓ : Loc nD τ sig) → Buf (Elt Ideal) ℓ)

theorem V1 (c : Dev nD) (b : Fin 16) (s : Fin 2112) (d : Fin 1024) :
    V m c main_v1 (ix3 b s d) = hN (m ((c : Thread nD τ).loc main_arg0)) b s.val d := by
  have e : @Eq (FVec Ideal S16x2112x1024 .f32) (V m c main_v1) (concatenate S16x2112x1024 1 [⟨S16x48x1024, broadcastInDim S16x48x1024 ![] bcast_S_S16x48x1024 (constant S_ .f32 0x00000000#32)⟩,
      ⟨S16x2064x1024, (m ((c : Thread nD τ).loc main_arg0))⟩] concatenates_S16x48x1024_S16x2064x1024_S16x2112x1024_d1) := by
    show StableHlo.after (List.flatten [hostOps0, hostOps0_1, hostOps0_2]) _ (Proc.devRef .tc main_v1) = _
    simp only [hostOps0, hostOps0_1, hostOps0_2, List.flatten_cons, List.flatten_nil, List.append_nil, List.cons_append, List.nil_append]
    after_results_simp
    rfl
  rw [e]
  generalize m ((c : Thread nD τ).loc main_arg0) = A
  unfold hN
  by_cases h : s.val < 48
  · rw [dif_neg (by omega)]
    refine (concatenate_pair_apply_left (t := S16x2112x1024) (s₁ := S16x48x1024) (s₂ := S16x2064x1024) 1 _ _ _ (ix3 b s d) rfl
      (ix3 b (⟨s.val, h⟩ : Fin 48) d) (fun a => by fin_cases a <;> rfl)).trans ?_
    pointwise
  · rw [dif_pos (by omega)]
    refine concatenate_pair_apply_right (t := S16x2112x1024) (s₁ := S16x48x1024) (s₂ := S16x2064x1024) 1 _ _ _ (ix3 b s d) rfl rfl
      (ix3 b (⟨s.val - 48, by omega⟩ : Fin 2064) d) (fun a ha => by fin_cases a <;> first | rfl | exact absurd rfl ha) ?_
    show s.val - 48 + 48 = s.val
    omega

theorem V29 (c : Dev nD) (d : Fin 1024) :
    V m c main_v29 (ix2 (0 : Fin 1) d) = m ((c : Thread nD τ).loc main_arg1) (ix1 d) := by
  have e : V m c main_v29 = broadcastInDim S1x1024 ![1] bcast_S1024_S1x1024_1 (m ((c : Thread nD τ).loc main_arg1)) := by
    show StableHlo.after (List.flatten [hostOps0, hostOps0_1, hostOps0_2]) _ (Proc.devRef .tc main_v29) = _
    simp only [hostOps0, hostOps0_1, hostOps0_2, List.flatten_cons, List.flatten_nil, List.append_nil, List.cons_append, List.nil_append]
    after_results_simp
  rw [e]
  generalize m ((c : Thread nD τ).loc main_arg1) = A
  pointwise

theorem V3 (c : Dev nD) (d : Fin 1024) (k : Fin 1536) :
    V m c main_v3 (ix2 d k) = m ((c : Thread nD τ).loc main_arg2) (ix2 d (colW 0 (by decide) k)) := by
  have e : @Eq (FVec Ideal S1024x1536 .bf16) (V m c main_v3) (truncf .bf16 (extractStridedSlice S1024x1536 ![0, 0] (m ((c : Thread nD τ).loc main_arg2) : Vec Ideal S1024x3600 .f32)
      slices_S1024x3600_S1024x1536_0_0) bitsLt_bf16_f32) := by
    show StableHlo.after (List.flatten [hostOps0, hostOps0_1, hostOps0_2]) _ (Proc.devRef .tc main_v3) = _
    simp only [hostOps0, hostOps0_1, hostOps0_2, List.flatten_cons, List.flatten_nil, List.append_nil, List.cons_append, List.nil_append]
    after_results_simp
  rw [e]
  generalize m ((c : Thread nD τ).loc main_arg2) = A
  pointwise
  unfold colW
  simp only [Nat.zero_add]

theorem V5 (c : Dev nD) (d : Fin 1024) (k : Fin 512) :
    V m c main_v5 (ix2 d k) = m ((c : Thread nD τ).loc main_arg2) (ix2 d (colW 1536 (by decide) k)) := by
  have e : @Eq (FVec Ideal S1024x512 .bf16) (V m c main_v5) (truncf .bf16 (extractStridedSlice S1024x512 ![0, 1536] (m ((c : Thread nD τ).loc main_arg2) : Vec Ideal S1024x3600 .f32)
      slices_S1024x3600_S1024x512_0_1536) bitsLt_bf16_f32) := by
    show StableHlo.after (List.flatten [hostOps0, hostOps0_1, hostOps0_2]) _ (Proc.devRef .tc main_v5) = _
    simp only [hostOps0, hostOps0_1, hostOps0_2, List.flatten_cons, List.flatten_nil, List.append_nil, List.cons_append, List.nil_append]
    after_results_simp
  rw [e]
  generalize m ((c : Thread nD τ).loc main_arg2) = A
  pointwise
  rfl

theorem V28 (c : Dev nD) (d : Fin 1024) (k : Fin 1536) :
    V m c main_v28 (ix2 d k) = m ((c : Thread nD τ).loc main_arg2) (ix2 d (colW 2064 (by decide) k)) := by
  have e : @Eq (FVec Ideal S1024x1536 .bf16) (V m c main_v28) (truncf .bf16 (extractStridedSlice S1024x1536 ![0, 2064] (m ((c : Thread nD τ).loc main_arg2) : Vec Ideal S1024x3600 .f32)
      slices_S1024x3600_S1024x1536_0_2064) bitsLt_bf16_f32) := by
    show StableHlo.after (List.flatten [hostOps0, hostOps0_1, hostOps0_2]) _ (Proc.devRef .tc main_v28) = _
    simp only [hostOps0, hostOps0_1, hostOps0_2, List.flatten_cons, List.flatten_nil, List.append_nil, List.cons_append, List.nil_append]
    after_results_simp
  rw [e]
  generalize m ((c : Thread nD τ).loc main_arg2) = A
  pointwise
  rfl

/-- The weights of the gates' columns. -/
def baW (w : A2 1024 3600) (d : Fin 1024) (k : Fin 128) : EReal :=
  if k.val < 8 then w (ix2 d ⟨2048 + perm k.val, by unfold perm; omega⟩)
  else if k.val < 16 then w (ix2 d ⟨2056 + perm (k.val - 8), by unfold perm; omega⟩) else 0

theorem V26 (c : Dev nD) (d : Fin 1024) (k : Fin 128) :
    V m c main_v26 (ix2 d k) = baW (m ((c : Thread nD τ).loc main_arg2)) d k := by
  have e : @Eq (FVec Ideal S1024x128 .bf16) (V m c main_v26) (truncf .bf16 (pad S1024x128 ![0, 0] ![0, 112] ![0, 0]
      (concatenate S1024x16 1 [⟨S1024x8, Host.gather gather_S1024x3600_S8x1_S1024x8_0_1_n_n_1_1_10241 (m ((c : Thread nD τ).loc main_arg2)) (nums 2048#32)⟩,
        ⟨S1024x8, Host.gather gather_S1024x3600_S8x1_S1024x8_0_1_n_n_1_1_10241 (m ((c : Thread nD τ).loc main_arg2)) (nums 2056#32)⟩] concatenates_S1024x8_S1024x8_S1024x16_d1)
      (sitofp .f32 (constantI S_ 32 0#32)) pads_S1024x16_S1024x128_000_01120 h_S_ : FVec Ideal S1024x128 .f32) bitsLt_bf16_f32) := by
    show StableHlo.after (List.flatten [hostOps0, hostOps0_1, hostOps0_2]) _ (Proc.devRef .tc main_v26) = _
    simp only [hostOps0, hostOps0_1, hostOps0_2, List.flatten_cons, List.flatten_nil, List.append_nil, List.cons_append, List.nil_append]
    simp only [StableHlo.TRef.binary, StableHlo.TRef.unary, StableHlo.TRef.toBuf, StableHlo.TRef.ofBuf, cast_eq]
    after_results_simp
    rfl
  rw [e]
  generalize m ((c : Thread nD τ).loc main_arg2) = A
  unfold baW
  split_ifs with h h'
  · refine (pad_apply_of_inside (s := S1024x16) (t := S1024x128) ![0, 0] ![0, 112] ![0, 0] _ _ pads_S1024x16_S1024x128_000_01120 h_S_ (ix2 d k) (ix2 d (⟨k.val, by omega⟩ : Fin 16)) (fun a => by fin_cases a <;> simp [ix2])).trans ?_
    refine (concatenate_pair_apply_left (t := S1024x16) (s₁ := S1024x8) (s₂ := S1024x8) 1 _ _ _ (ix2 d (⟨k.val, by omega⟩ : Fin 16)) rfl
      (ix2 d (⟨k.val, h⟩ : Fin 8)) (fun a => by fin_cases a <;> rfl)).trans ?_
    exact pick_apply _ _ d _ _ (nums1 ⟨k.val, h⟩)
  · refine (pad_apply_of_inside (s := S1024x16) (t := S1024x128) ![0, 0] ![0, 112] ![0, 0] _ _ pads_S1024x16_S1024x128_000_01120 h_S_ (ix2 d k) (ix2 d (⟨k.val, h'⟩ : Fin 16)) (fun a => by fin_cases a <;> simp [ix2])).trans ?_
    refine (concatenate_pair_apply_right (t := S1024x16) (s₁ := S1024x8) (s₂ := S1024x8) 1 _ _ _ (ix2 d (⟨k.val, h'⟩ : Fin 16)) rfl rfl
      (ix2 d (⟨k.val - 8, by omega⟩ : Fin 8)) (fun a ha => by fin_cases a <;> first | rfl | exact absurd rfl ha) ?_).trans ?_
    · show k.val - 8 + 8 = k.val
      omega
    · exact pick_apply _ _ d _ _ (nums2 ⟨k.val - 8, by omega⟩)
  · refine (pad_apply_of_not_inside (s := S1024x16) (t := S1024x128) ![0, 0] ![0, 112] ![0, 0] _ _ pads_S1024x16_S1024x128_000_01120 h_S_ (ix2 d k) 1 ?_).trans ?_
    · rintro ⟨-, -, h3⟩
      have h4 : (k.val - 0) / (0 + 1) < 16 := h3
      simp at h4
      omega
    · show FloatOps.sitofp (F := Ideal) .f32 (0#32) = (0 : EReal)
      simp [FloatOps.sitofp]

end Cert.Proof.InProj

end
-- ==== Proof.InProj.Block.lean ====
/- What one grid step of the input projection's kernel leaves in the buffers it works in: the normalised rows and the
   projected columns, over the extended reals. -/
module

public import proofs.«01_k».proof.Proof.InProj.Parts

@[expose] public section

set_option maxRecDepth 16384

noncomputable section

open Idealize.ShloMosaic Idealize.ShloMosaic.TcCoe Idealize.SL.Sem Idealize.ShloMosaic.Tactic

namespace Cert.Proof.InProj

open Cert.Kernel3Ideal Cert.Kernel3Ideal.Gen

/-- Row `r` of the residual rows a step works on: 16 rows before its tile, the tile's 704, and 16 after it. -/
def hRow (j : Fin 3) (x0 : S1x16x1024.Idx → EReal) (x1 : S1x704x1024.Idx → EReal) (x2 : S1x16x1024.Idx → EReal) (r : Fin 736)
    (d : Fin 1024) : EReal :=
  if h0 : r.val < 16 then x0 (ix3 (0 : Fin 1) (⟨r.val, h0⟩ : Fin 16) d)
  else if h1 : r.val < 720 then x1 (ix3 (0 : Fin 1) (⟨r.val - 16, by omega⟩ : Fin 704) d)
  else if j.val = 2 then 0 else x2 (ix3 (0 : Fin 1) (⟨r.val - 720, by omega⟩ : Fin 16) d)

/-- The rows after their norm. -/
def hnE (j : Fin 3) (x0 : S1x16x1024.Idx → EReal) (x1 : S1x704x1024.Idx → EReal) (x2 : S1x16x1024.Idx → EReal)
    (x3 : S1x1024.Idx → EReal) : S736x1024.Idx → EReal := fun y =>
  rmsRow c1024 (hRow j x0 x1 x2 (y 0)) (fun d => x3 (ix2 (0 : Fin 1) d)) (y 1)

/-- The rows projected through the columns of `W`. -/
def pqE (H : S736x1024.Idx → EReal) (W : S1024x1536.Idx → EReal) : S736x1536.Idx → EReal := fun y =>
  ∑ d : Fin 1024, H (ix2 (y 0) d) * W (ix2 d (y 1))

theorem pay5_apply (x3 : Vec Ideal S1x1024 .f32) (x0 : Vec Ideal S1x16x1024 .f32) (r : Fin 16) (d : Fin 1024) :
    k0_pay5 x3 x0 (ix2 r d) = rmsRow c1024 (fun d => x0 (ix3 (0 : Fin 1) r d)) (fun d => x3 (ix2 (0 : Fin 1) d)) d := by
  unfold rmsRow c1024
  pointwise [k0_pay5, k0_pay3]

theorem pay8_apply (x3 : Vec Ideal S1x1024 .f32) (x1 : Vec Ideal S1x704x1024 .f32) (r : Fin 704) (d : Fin 1024) :
    k0_pay8 (k0_pay3 x3) (k0_pay6 x1) (k0_pay7 x1) (ix2 r d)
      = rmsRow c1024 (fun d => x1 (ix3 (0 : Fin 1) r d)) (fun d => x3 (ix2 (0 : Fin 1) d)) d := by
  unfold rmsRow c1024
  pointwise [k0_pay8, k0_pay7, k0_pay6, k0_pay3]

theorem pay9_apply (x3 : Vec Ideal S1x1024 .f32) (v : FVec Ideal S16x1024 .f32) (r : Fin 16) (d : Fin 1024) :
    k0_pay9 (k0_pay3 x3) v (ix2 r d) = rmsRow c1024 (fun d => v (ix2 r d)) (fun d => x3 (ix2 (0 : Fin 1) d)) d := by
  unfold rmsRow c1024
  pointwise [k0_pay9, k0_pay3]

theorem last_word : ∀ j : Fin 3, Scalar.cmpi .eq (BitVec.ofNat 32 j.val) 2#32 = BitVec.ofBool (decide (j.val = 2)) := by
  decide +kernel

theorem pay4_apply (i : grid0.Coords) (j : Fin 3) (hj : (i 1).val = j.val) (x2 : Vec Ideal S1x16x1024 .f32) (r : Fin 16) (d : Fin 1024) :
    k0_pay4 i x2 (ix2 r d) = if j.val = 2 then (0 : EReal) else x2 (ix3 (0 : Fin 1) r d) := by
  unfold k0_pay4
  dsimp only
  rw [hj, last_word]
  by_cases h : j.val = 2
  · simp only [h, decide_true]
    show broadcast S16x1024 _ (ix2 r d) = _
    pointwise
    simp
    rfl
  · simp only [h, decide_false, if_false]
    show shapeCast S16x1024 x2 shapeCasts_S1x16x1024_S16x1024 (ix2 r d) = _
    pointwise

theorem emb_rows {n m N M : ℕ} (s o : ℕ) (inb : ∀ a, (![s, o] : Fin 2 → ℕ) a + (![n, m] : Fin 2 → ℕ) a ≤ (![N, M] : Fin 2 → ℕ) a)
    (r : Fin n) (k : Fin m) (hr : s + r.val < N) (hk : o + k.val < M) :
    (Rect.unit (s := ⟨2, ![N, M]⟩) ![s, o] ![n, m] inb).emb (ix2 r k) = ix2 (⟨s + r.val, hr⟩ : Fin N) (⟨o + k.val, hk⟩ : Fin M) := by
  funext a
  refine Fin.ext ?_
  match a with
  | ⟨0, _⟩ => show s + 1 * r.val = s + r.val; omega
  | ⟨1, _⟩ => show o + 1 * k.val = o + k.val; omega

/-- A read of a whole buffer through a box. -/
theorem readAt_whole {S : Shape} {e : EltTy} {m : Memref sig .tc .vmem S e} (h : m.IsWhole) (x : Vec Ideal S e) (R : Rect S) :
    View.readAt (Elt Ideal) m.view R.toLoadRect (h.unread x) = View.ld x R := by
  rw [View.readAt_eq_ld, h.read_unread]

theorem zero2 : (![0, 0] : Fin 2 → Nat) = fun _ => 0 := funext fun a => by fin_cases a <;> rfl
theorem zero3 : (![0, 0, 0] : Fin 3 → Nat) = fun _ => 0 := funext fun a => by fin_cases a <;> rfl

/-- A read of a whole buffer. -/
theorem readAt_all {S : Shape} {e : EltTy} {m : Memref sig .tc .vmem S e} (h : m.IsWhole) (x : Vec Ideal S e) {off : Fin S.rank → ℕ}
    (ho : off = fun _ => 0) (inb : ∀ a, off a + S.size a ≤ S.size a) :
    View.readAt (Elt Ideal) m.view (Rect.unit off S.size inb).toLoadRect (h.unread x) = x :=
  (readAt_whole h x _).trans (View.ld_unit_zero ho inb x)

theorem hn_pieces (c : Dev nD) (i : grid0.Coords) (a2 : Memref sig .tc .vmem S1x16x1024 .f32) (h2 : a2.IsWhole) (a3 : Memref sig .tc .vmem S1x704x1024 .f32) (h3 : a3.IsWhole) (a4 : Memref sig .tc .vmem S1x16x1024 .f32) (h4 : a4.IsWhole) (a5 : Memref sig .tc .vmem S1x1024 .f32) (h5 : a5.IsWhole)
    (x0 : Vec Ideal S1x16x1024 .f32) (x1 : Vec Ideal S1x704x1024 .f32) (x2 : Vec Ideal S1x16x1024 .f32) (x3 : Vec Ideal S1x1024 .f32) (j : Fin 3) (hj : (i 1).val = j.val) :
    ∀ p ∈ kernelRun0_A.sl.HS0_3 c i a2 h2 a3 h3 a4 h4 a5 h5 x0 x1 x2 x3, ∀ x, p.2 x = hnE j x0 x1 x2 x3 (p.1.emb x) := by
  unfold kernelRun0_A.sl.HS0_3
  refine List.forall_mem_cons.2 ⟨fun x => ?_, List.forall_mem_cons.2 ⟨fun x => ?_, List.forall_mem_cons.2 ⟨fun x => ?_,
    fun _ h => absurd h List.not_mem_nil⟩⟩⟩
  · obtain ⟨r, d, rfl⟩ : ∃ (r : Fin 16) (d : Fin 1024), x = ix2 r d := ⟨x 0, x 1, eq_ix2 x⟩
    refine Eq.trans ?_ (congrArg (hnE j x0 x1 x2 x3) (emb_rows 720 0 inb_S736x1024_S16x1024_720_0 r d (by omega) (by omega)).symm)
    show k0_pay9 (kernelRun0_A.sl.r c a5 h5 x3) (kernelRun0_A.sl.r_1 c i a4 h4 x2) (ix2 r d) = _
    unfold kernelRun0_A.sl.r kernelRun0_A.sl.r_1
    rw [readAt_all h5 x3 zero2, readAt_all h4 x2 zero3, pay9_apply]
    rw [show (fun d => k0_pay4 i x2 (ix2 r d)) = hRow j x0 x1 x2 (⟨720 + r.val, by omega⟩ : Fin 736) from funext fun d => by
      rw [pay4_apply i j hj]
      unfold hRow
      rw [dif_neg (by show ¬ 720 + r.val < 16; omega), dif_neg (by show ¬ 720 + r.val < 720; omega)]
      refine if_congr Iff.rfl rfl (congrArg (fun r => x2 (ix3 (0 : Fin 1) r d)) (Fin.ext ?_))
      show r.val = 720 + r.val - 720; omega]
    unfold hnE
    exact congrArg (rmsRow c1024 _ _) (Fin.ext (by show d.val = 0 + d.val; omega))
  · obtain ⟨r, d, rfl⟩ : ∃ (r : Fin 704) (d : Fin 1024), x = ix2 r d := ⟨x 0, x 1, eq_ix2 x⟩
    refine Eq.trans ?_ (congrArg (hnE j x0 x1 x2 x3) (emb_rows 16 0 inb_S736x1024_S704x1024_16_0 r d (by omega) (by omega)).symm)
    show k0_pay8 (kernelRun0_A.sl.r c a5 h5 x3) (kernelRun0_A.sl.r_2 c a3 h3 x1) (kernelRun0_A.sl.r_3 c a3 h3 x1) (ix2 r d) = _
    unfold kernelRun0_A.sl.r kernelRun0_A.sl.r_2 kernelRun0_A.sl.r_3
    rw [readAt_all h5 x3 zero2, readAt_all h3 x1 zero3, pay8_apply]
    rw [show (fun d => x1 (ix3 (0 : Fin 1) r d)) = hRow j x0 x1 x2 (⟨16 + r.val, by omega⟩ : Fin 736) from funext fun d => by
      unfold hRow
      rw [dif_neg (by show ¬ 16 + r.val < 16; omega), dif_pos (by show 16 + r.val < 720; omega)]
      refine congrArg (fun r => x1 (ix3 (0 : Fin 1) r d)) (Fin.ext ?_)
      show r.val = 16 + r.val - 16; omega]
    unfold hnE
    exact congrArg (rmsRow c1024 _ _) (Fin.ext (by show d.val = 0 + d.val; omega))
  · obtain ⟨r, d, rfl⟩ : ∃ (r : Fin 16) (d : Fin 1024), x = ix2 r d := ⟨x 0, x 1, eq_ix2 x⟩
    refine Eq.trans ?_ (congrArg (hnE j x0 x1 x2 x3) (emb_rows 0 0 inb_S736x1024_S16x1024_0_0 r d (by omega) (by omega)).symm)
    dsimp only
    rw [readAt_all h5 x3 zero2, readAt_all h2 x0 zero3, pay5_apply]
    rw [show (fun d => x0 (ix3 (0 : Fin 1) r d)) = hRow j x0 x1 x2 (⟨0 + r.val, by omega⟩ : Fin 736) from funext fun d => by
      unfold hRow
      rw [dif_pos (by show 0 + r.val < 16; omega)]
      refine congrArg (fun r => x0 (ix3 (0 : Fin 1) r d)) (Fin.ext ?_)
      show r.val = 0 + r.val; omega]
    unfold hnE
    exact congrArg (rmsRow c1024 _ _) (Fin.ext (by show d.val = 0 + d.val; omega))

theorem hn_cover (c : Dev nD) (i : grid0.Coords) (a2 : Memref sig .tc .vmem S1x16x1024 .f32) (h2 : a2.IsWhole) (a3 : Memref sig .tc .vmem S1x704x1024 .f32) (h3 : a3.IsWhole) (a4 : Memref sig .tc .vmem S1x16x1024 .f32) (h4 : a4.IsWhole) (a5 : Memref sig .tc .vmem S1x1024 .f32) (h5 : a5.IsWhole)
    (x0 : Vec Ideal S1x16x1024 .f32) (x1 : Vec Ideal S1x704x1024 .f32) (x2 : Vec Ideal S1x16x1024 .f32) (x3 : Vec Ideal S1x1024 .f32) (r : Fin 736) (d : Fin 1024) :
    ∃ p ∈ kernelRun0_A.sl.HS0_3 c i a2 h2 a3 h3 a4 h4 a5 h5 x0 x1 x2 x3, ix2 r d ∈ p.1.set := by
  unfold kernelRun0_A.sl.HS0_3
  by_cases h0 : r.val < 16
  · refine ⟨_, List.Mem.tail _ (List.Mem.tail _ (List.Mem.head _)), ?_⟩
    show ix2 r d ∈ (Rect.unit (s := S736x1024) ![0, 0] ![16, 1024] inb_S736x1024_S16x1024_0_0).set
    rw [Rect.mem_set_unit]
    intro a
    fin_cases a
    · show 0 ≤ r.val ∧ r.val < 0 + 16; omega
    · show 0 ≤ d.val ∧ d.val < 0 + 1024; omega
  by_cases h1 : r.val < 720
  · refine ⟨_, List.Mem.tail _ (List.Mem.head _), ?_⟩
    show ix2 r d ∈ (Rect.unit (s := S736x1024) ![16, 0] ![704, 1024] inb_S736x1024_S704x1024_16_0).set
    rw [Rect.mem_set_unit]
    intro a
    fin_cases a
    · show 16 ≤ r.val ∧ r.val < 16 + 704; omega
    · show 0 ≤ d.val ∧ d.val < 0 + 1024; omega
  · refine ⟨_, List.Mem.head _, ?_⟩
    show ix2 r d ∈ (Rect.unit (s := S736x1024) ![720, 0] ![16, 1024] inb_S736x1024_S16x1024_720_0).set
    rw [Rect.mem_set_unit]
    intro a
    fin_cases a
    · show 720 ≤ r.val ∧ r.val < 720 + 16; omega
    · show 0 ≤ d.val ∧ d.val < 0 + 1024; omega

/-- A load of rows from a buffer whose pieces hold `G`. -/
theorem read_pieces {N M n m : ℕ} {e : EltTy} (v : View sig .tc .vmem ⟨2, ![N, M]⟩ e) (G : Shape.Idx ⟨2, ![N, M]⟩ → Elt Ideal e)
    {L : List (View.Piece (Elt Ideal) ⟨2, ![N, M]⟩ e)} (hL : ∀ p ∈ L, ∀ x, p.2 x = G (p.1.emb x)) (s o : ℕ)
    (inb : ∀ a, (![s, o] : Fin 2 → ℕ) a + (![n, m] : Fin 2 → ℕ) a ≤ (![N, M] : Fin 2 → ℕ) a)
    (hc : ∀ (r : Fin N) (k : Fin M), o ≤ k.val → k.val < o + m → ∃ p ∈ L, ix2 r k ∈ p.1.set)
    (r : Fin n) (k : Fin m) (hr : s + r.val < N) (hk : o + k.val < M) :
    v.readCov L (Rect.unit (s := ⟨2, ![N, M]⟩) ![s, o] ![n, m] inb).toLoadRect (ix2 r k)
      = G (ix2 (⟨s + r.val, hr⟩ : Fin N) (⟨o + k.val, hk⟩ : Fin M)) := by
  rw [View.readCov_eq_canon']
  show View.canon L ((Rect.unit (s := ⟨2, ![N, M]⟩) ![s, o] ![n, m] inb).emb (ix2 r k)) = _
  rw [emb_rows s o inb r k hr hk]
  exact View.canon_apply_of_pieces (Val := Elt Ideal) (S := ⟨2, ![N, M]⟩) (e := e) G L hL _
    (hc _ _ (by show o ≤ o + k.val; omega) (by show o + k.val < o + m; omega))

theorem v59_eq (c : Dev nD) (i : grid0.Coords) (a2 : Memref sig .tc .vmem S1x16x1024 .f32) (h2 : a2.IsWhole) (a3 : Memref sig .tc .vmem S1x704x1024 .f32) (h3 : a3.IsWhole) (a4 : Memref sig .tc .vmem S1x16x1024 .f32) (h4 : a4.IsWhole) (a5 : Memref sig .tc .vmem S1x1024 .f32) (h5 : a5.IsWhole) (a18 : Memref sig .tc .vmem S736x1024 .bf16)
    (x0 : Vec Ideal S1x16x1024 .f32) (x1 : Vec Ideal S1x704x1024 .f32) (x2 : Vec Ideal S1x16x1024 .f32) (x3 : Vec Ideal S1x1024 .f32) (j : Fin 3) (hj : (i 1).val = j.val) (r : Fin 736) (d : Fin 1024) :
    kernelRun0_A.sl.v59 c i a2 h2 a3 h3 a4 h4 a5 h5 a18 x0 x1 x2 x3 (ix2 r d) = hnE j x0 x1 x2 x3 (ix2 r d) := by
  unfold kernelRun0_A.sl.v59
  refine (read_pieces (N := 736) (M := 1024) (n := 736) (m := 1024) a18.view (hnE j x0 x1 x2 x3) (hn_pieces c i a2 h2 a3 h3 a4 h4 a5 h5 x0 x1 x2 x3 j hj) 0 0 inb_S736x1024_S736x1024_0_0
    (fun r d _ _ => hn_cover c i a2 h2 a3 h3 a4 h4 a5 h5 x0 x1 x2 x3 r d) r d (by omega) (by omega)).trans ?_
  exact congrArg (hnE j x0 x1 x2 x3) (ix2_congr (by show 0 + r.val = r.val; omega) (by show 0 + d.val = d.val; omega))

theorem v5027_eq (c : Dev nD) (i : grid0.Coords) (a2 : Memref sig .tc .vmem S1x16x1024 .f32) (h2 : a2.IsWhole) (a3 : Memref sig .tc .vmem S1x704x1024 .f32) (h3 : a3.IsWhole) (a4 : Memref sig .tc .vmem S1x16x1024 .f32) (h4 : a4.IsWhole) (a5 : Memref sig .tc .vmem S1x1024 .f32) (h5 : a5.IsWhole) (a18 : Memref sig .tc .vmem S736x1024 .bf16)
    (x0 : Vec Ideal S1x16x1024 .f32) (x1 : Vec Ideal S1x704x1024 .f32) (x2 : Vec Ideal S1x16x1024 .f32) (x3 : Vec Ideal S1x1024 .f32) (j : Fin 3) (hj : (i 1).val = j.val) (r : Fin 704) (d : Fin 1024) :
    kernelRun0_A.sl.v5027 c i a2 h2 a3 h3 a4 h4 a5 h5 a18 x0 x1 x2 x3 (ix2 r d)
      = hnE j x0 x1 x2 x3 (ix2 (⟨16 + r.val, by omega⟩ : Fin 736) d) := by
  unfold kernelRun0_A.sl.v5027
  refine (read_pieces (N := 736) (M := 1024) (n := 704) (m := 1024) a18.view (hnE j x0 x1 x2 x3) (hn_pieces c i a2 h2 a3 h3 a4 h4 a5 h5 x0 x1 x2 x3 j hj) 16 0 inb_S736x1024_S704x1024_16_0
    (fun r d _ _ => hn_cover c i a2 h2 a3 h3 a4 h4 a5 h5 x0 x1 x2 x3 r d) r d (by omega) (by omega)).trans ?_
  exact congrArg (hnE j x0 x1 x2 x3) (ix2_congr rfl (by show 0 + d.val = d.val; omega))

theorem pay10_apply (H : Vec Ideal S736x1024 .bf16) (W : Vec Ideal S1024x256 .bf16) (r : Fin 736) (k : Fin 256) :
    k0_pay10 H W (ix2 r k) = ∑ d : Fin 1024, H (ix2 r d) * W (ix2 d k) := by
  pointwise [k0_pay10]

/-- A block of 256 projected columns. -/
theorem mat_piece {H : Vec Ideal S736x1024 .bf16} {G : S736x1024.Idx → EReal} (hH : ∀ (r : Fin 736) (d : Fin 1024), H (ix2 r d) = G (ix2 r d))
    {a : Memref sig .tc .vmem S1024x1536 .bf16} (h : a.IsWhole) (W : Vec Ideal S1024x1536 .bf16) (o : ℕ) (ho : o + 256 ≤ 1536)
    {inb : ∀ a, (![0, o] : Fin 2 → ℕ) a + (![736, 256] : Fin 2 → ℕ) a ≤ S736x1536.size a}
    {inb' : ∀ a, (![0, o] : Fin 2 → ℕ) a + (![1024, 256] : Fin 2 → ℕ) a ≤ S1024x1536.size a}
    {pay : Vec Ideal S736x256 .f32}
    (hp : pay = k0_pay10 H (View.readAt (Elt Ideal) a.view (Rect.unit (s := S1024x1536) ![0, o] ![1024, 256] inb').toLoadRect (h.unread W))) :
    ∀ x, pay x = pqE G W ((Rect.unit (s := S736x1536) ![0, o] ![736, 256] inb).emb x) := by
  intro x
  obtain ⟨r, k, rfl⟩ : ∃ (r : Fin 736) (k : Fin 256), x = ix2 r k := ⟨x 0, x 1, eq_ix2 x⟩
  refine Eq.trans ?_ (congrArg (pqE G W) (emb_rows 0 o inb r k (by omega) (by omega)).symm)
  rw [hp, pay10_apply]
  unfold pqE
  refine Finset.sum_congr rfl fun d _ => ?_
  rw [hH, readAt_whole h W]
  refine congrArg₂ (fun a b : EReal => a * b) (congrArg G (ix2_congr (by show r.val = 0 + r.val; omega) rfl)) ?_
  show W ((Rect.unit (s := S1024x1536) ![0, o] ![1024, 256] inb').emb (ix2 d k)) = _
  rw [emb_rows 0 o inb' d k (by omega) (by omega)]
  exact congrArg W (ix2_congr (by show 0 + d.val = d.val; omega) rfl)

/-- The pieces hold every row of the columns from `o` on. -/
def Cols (L : List (View.Piece (Elt Ideal) S736x1536 .f32)) (o : ℕ) : Prop :=
  ∀ (r : Fin 736) (k : Fin 1536), o ≤ k.val → k.val < o + 256 → ∃ p ∈ L, ix2 r k ∈ p.1.set

theorem cols_head (o : ℕ) {inb : ∀ a, (![0, o] : Fin 2 → ℕ) a + (![736, 256] : Fin 2 → ℕ) a ≤ S736x1536.size a}
    (pay : Vec Ideal S736x256 .f32) (L : List (View.Piece (Elt Ideal) S736x1536 .f32)) :
    Cols (⟨Rect.unit (s := S736x1536) ![0, o] ![736, 256] inb, pay⟩ :: L) o := fun r k h h' => by
  refine ⟨_, List.Mem.head _, ?_⟩
  rw [Rect.mem_set_unit]
  intro a
  fin_cases a
  · show 0 ≤ r.val ∧ r.val < 0 + 736; omega
  · show o ≤ k.val ∧ k.val < o + 256; omega

theorem cols_tail {o : ℕ} (p : View.Piece (Elt Ideal) S736x1536 .f32) {L : List (View.Piece (Elt Ideal) S736x1536 .f32)} (h : Cols L o) :
    Cols (p :: L) o := fun r k h1 h2 => by
  obtain ⟨q, hq, hm⟩ := h r k h1 h2
  exact ⟨q, List.Mem.tail _ hq, hm⟩

/-- A window of 80 rows read from the projected columns. -/
theorem win_read (v : View sig .tc .vmem S736x1536 .f32) {PQ : S736x1536.Idx → EReal}
    {L : List (View.Piece (Elt Ideal) S736x1536 .f32)} (hL : ∀ p ∈ L, ∀ x, p.2 x = PQ (p.1.emb x)) (c : ℕ) (hc : Cols L c) (s o : ℕ)
    (inb : ∀ a, (![s + 8, o] : Fin 2 → ℕ) a + (![80, 128] : Fin 2 → ℕ) a ≤ S736x1536.size a) (h1 : c ≤ o) (h2 : o + 128 ≤ c + 256) :
    IsWin PQ s o (v.readCov L (Rect.unit (s := S736x1536) ![s + 8, o] ![80, 128] inb).toLoadRect) := fun r k hr hk =>
  read_pieces (N := 736) (M := 1536) (n := 80) (m := 128) v PQ hL (s + 8) o inb
    (fun r k g1 g2 => hc r k (by omega) (by omega)) r k hr hk

theorem gate_read (v : View sig .tc .vmem S736x1536 .f32) {PQ : S736x1536.Idx → EReal}
    {L : List (View.Piece (Elt Ideal) S736x1536 .f32)} (hL : ∀ p ∈ L, ∀ x, p.2 x = PQ (p.1.emb x)) (c : ℕ) (hc : Cols L c) (s o : ℕ)
    (inb : ∀ a, (![s + 16, o] : Fin 2 → ℕ) a + (![64, 128] : Fin 2 → ℕ) a ≤ S736x1536.size a) (h1 : c ≤ o) (h2 : o + 128 ≤ c + 256) :
    IsGate PQ s o (v.readCov L (Rect.unit (s := S736x1536) ![s + 16, o] ![64, 128] inb).toLoadRect) := fun r k hr hk =>
  read_pieces (N := 736) (M := 1536) (n := 64) (m := 128) v PQ hL (s + 16) o inb
    (fun r k g1 g2 => hc r k (by omega) (by omega)) r k hr hk

/-- The convolution's weights read from their buffer. -/
theorem cw_read {n : ℕ} {a : Memref sig .tc .vmem ⟨2, ![3, n]⟩ .f32} (h : a.IsWhole) (x : Vec Ideal ⟨2, ![3, n]⟩ .f32) (o : ℕ)
    (inb : ∀ a, (![0, o] : Fin 2 → ℕ) a + (![3, 128] : Fin 2 → ℕ) a ≤ (![3, n] : Fin 2 → ℕ) a) :
    IsCw (fun a k => x (ix2 a k)) o
      (View.readAt (Elt Ideal) a.view (Rect.unit (s := ⟨2, ![3, n]⟩) ![0, o] ![3, 128] inb).toLoadRect (h.unread x)) := fun b k hk => by
  rw [readAt_whole h x]
  show x ((Rect.unit (s := ⟨2, ![3, n]⟩) ![0, o] ![3, 128] inb).emb (ix2 b k)) = _
  rw [emb_rows 0 o inb b k (by omega) hk]
  exact congrArg x (ix2_congr (by show 0 + b.val = b.val; omega) rfl)

theorem hs1_1 (c : Dev nD) (i : grid0.Coords) (a2 : Memref sig .tc .vmem S1x16x1024 .f32) (h2 : a2.IsWhole) (a3 : Memref sig .tc .vmem S1x704x1024 .f32) (h3 : a3.IsWhole) (a4 : Memref sig .tc .vmem S1x16x1024 .f32) (h4 : a4.IsWhole) (a5 : Memref sig .tc .vmem S1x1024 .f32) (h5 : a5.IsWhole) (a6 : Memref sig .tc .vmem S1024x1536 .bf16) (h6 : a6.IsWhole) (a18 : Memref sig .tc .vmem S736x1024 .bf16)
    (x0 : Vec Ideal S1x16x1024 .f32) (x1 : Vec Ideal S1x704x1024 .f32) (x2 : Vec Ideal S1x16x1024 .f32) (x3 : Vec Ideal S1x1024 .f32) (x4 : Vec Ideal S1024x1536 .bf16)
    (j : Fin 3) (hj : (i 1).val = j.val) : ∀ p ∈ kernelRun0_A.sl.HS1_1 c i a2 h2 a3 h3 a4 h4 a5 h5 a6 h6 a18 x0 x1 x2 x3 x4, ∀ x, p.2 x = pqE (hnE j x0 x1 x2 x3) x4 (p.1.emb x) := by
  unfold kernelRun0_A.sl.HS1_1
  exact List.forall_mem_cons.2 ⟨mat_piece (v59_eq c i a2 h2 a3 h3 a4 h4 a5 h5 a18 x0 x1 x2 x3 j hj) h6 x4 0 (by omega) (inb := inb_S736x1536_S736x256_0_0) rfl,
    fun _ h => absurd h List.not_mem_nil⟩

theorem hs1_2 (c : Dev nD) (i : grid0.Coords) (a2 : Memref sig .tc .vmem S1x16x1024 .f32) (h2 : a2.IsWhole) (a3 : Memref sig .tc .vmem S1x704x1024 .f32) (h3 : a3.IsWhole) (a4 : Memref sig .tc .vmem S1x16x1024 .f32) (h4 : a4.IsWhole) (a5 : Memref sig .tc .vmem S1x1024 .f32) (h5 : a5.IsWhole) (a6 : Memref sig .tc .vmem S1024x1536 .bf16) (h6 : a6.IsWhole) (a18 : Memref sig .tc .vmem S736x1024 .bf16)
    (x0 : Vec Ideal S1x16x1024 .f32) (x1 : Vec Ideal S1x704x1024 .f32) (x2 : Vec Ideal S1x16x1024 .f32) (x3 : Vec Ideal S1x1024 .f32) (x4 : Vec Ideal S1024x1536 .bf16)
    (j : Fin 3) (hj : (i 1).val = j.val) : ∀ p ∈ kernelRun0_A.sl.HS1_2 c i a2 h2 a3 h3 a4 h4 a5 h5 a6 h6 a18 x0 x1 x2 x3 x4, ∀ x, p.2 x = pqE (hnE j x0 x1 x2 x3) x4 (p.1.emb x) := by
  unfold kernelRun0_A.sl.HS1_2
  exact List.forall_mem_cons.2 ⟨mat_piece (v59_eq c i a2 h2 a3 h3 a4 h4 a5 h5 a18 x0 x1 x2 x3 j hj) h6 x4 256 (by omega) (inb := inb_S736x1536_S736x256_0_256) rfl,
    hs1_1 c i a2 h2 a3 h3 a4 h4 a5 h5 a6 h6 a18 x0 x1 x2 x3 x4 j hj⟩

theorem hs1_3 (c : Dev nD) (i : grid0.Coords) (a2 : Memref sig .tc .vmem S1x16x1024 .f32) (h2 : a2.IsWhole) (a3 : Memref sig .tc .vmem S1x704x1024 .f32) (h3 : a3.IsWhole) (a4 : Memref sig .tc .vmem S1x16x1024 .f32) (h4 : a4.IsWhole) (a5 : Memref sig .tc .vmem S1x1024 .f32) (h5 : a5.IsWhole) (a6 : Memref sig .tc .vmem S1024x1536 .bf16) (h6 : a6.IsWhole) (a18 : Memref sig .tc .vmem S736x1024 .bf16)
    (x0 : Vec Ideal S1x16x1024 .f32) (x1 : Vec Ideal S1x704x1024 .f32) (x2 : Vec Ideal S1x16x1024 .f32) (x3 : Vec Ideal S1x1024 .f32) (x4 : Vec Ideal S1024x1536 .bf16)
    (j : Fin 3) (hj : (i 1).val = j.val) : ∀ p ∈ kernelRun0_A.sl.HS1_3 c i a2 h2 a3 h3 a4 h4 a5 h5 a6 h6 a18 x0 x1 x2 x3 x4, ∀ x, p.2 x = pqE (hnE j x0 x1 x2 x3) x4 (p.1.emb x) := by
  unfold kernelRun0_A.sl.HS1_3
  exact List.forall_mem_cons.2 ⟨mat_piece (v59_eq c i a2 h2 a3 h3 a4 h4 a5 h5 a18 x0 x1 x2 x3 j hj) h6 x4 512 (by omega) (inb := inb_S736x1536_S736x256_0_512) rfl,
    hs1_2 c i a2 h2 a3 h3 a4 h4 a5 h5 a6 h6 a18 x0 x1 x2 x3 x4 j hj⟩

theorem hs1_4 (c : Dev nD) (i : grid0.Coords) (a2 : Memref sig .tc .vmem S1x16x1024 .f32) (h2 : a2.IsWhole) (a3 : Memref sig .tc .vmem S1x704x1024 .f32) (h3 : a3.IsWhole) (a4 : Memref sig .tc .vmem S1x16x1024 .f32) (h4 : a4.IsWhole) (a5 : Memref sig .tc .vmem S1x1024 .f32) (h5 : a5.IsWhole) (a6 : Memref sig .tc .vmem S1024x1536 .bf16) (h6 : a6.IsWhole) (a18 : Memref sig .tc .vmem S736x1024 .bf16)
    (x0 : Vec Ideal S1x16x1024 .f32) (x1 : Vec Ideal S1x704x1024 .f32) (x2 : Vec Ideal S1x16x1024 .f32) (x3 : Vec Ideal S1x1024 .f32) (x4 : Vec Ideal S1024x1536 .bf16)
    (j : Fin 3) (hj : (i 1).val = j.val) : ∀ p ∈ kernelRun0_A.sl.HS1_4 c i a2 h2 a3 h3 a4 h4 a5 h5 a6 h6 a18 x0 x1 x2 x3 x4, ∀ x, p.2 x = pqE (hnE j x0 x1 x2 x3) x4 (p.1.emb x) := by
  unfold kernelRun0_A.sl.HS1_4
  exact List.forall_mem_cons.2 ⟨mat_piece (v59_eq c i a2 h2 a3 h3 a4 h4 a5 h5 a18 x0 x1 x2 x3 j hj) h6 x4 768 (by omega) (inb := inb_S736x1536_S736x256_0_768) rfl,
    hs1_3 c i a2 h2 a3 h3 a4 h4 a5 h5 a6 h6 a18 x0 x1 x2 x3 x4 j hj⟩

theorem hs1_5 (c : Dev nD) (i : grid0.Coords) (a2 : Memref sig .tc .vmem S1x16x1024 .f32) (h2 : a2.IsWhole) (a3 : Memref sig .tc .vmem S1x704x1024 .f32) (h3 : a3.IsWhole) (a4 : Memref sig .tc .vmem S1x16x1024 .f32) (h4 : a4.IsWhole) (a5 : Memref sig .tc .vmem S1x1024 .f32) (h5 : a5.IsWhole) (a6 : Memref sig .tc .vmem S1024x1536 .bf16) (h6 : a6.IsWhole) (a18 : Memref sig .tc .vmem S736x1024 .bf16)
    (x0 : Vec Ideal S1x16x1024 .f32) (x1 : Vec Ideal S1x704x1024 .f32) (x2 : Vec Ideal S1x16x1024 .f32) (x3 : Vec Ideal S1x1024 .f32) (x4 : Vec Ideal S1024x1536 .bf16)
    (j : Fin 3) (hj : (i 1).val = j.val) : ∀ p ∈ kernelRun0_A.sl.HS1_5 c i a2 h2 a3 h3 a4 h4 a5 h5 a6 h6 a18 x0 x1 x2 x3 x4, ∀ x, p.2 x = pqE (hnE j x0 x1 x2 x3) x4 (p.1.emb x) := by
  unfold kernelRun0_A.sl.HS1_5
  exact List.forall_mem_cons.2 ⟨mat_piece (v59_eq c i a2 h2 a3 h3 a4 h4 a5 h5 a18 x0 x1 x2 x3 j hj) h6 x4 1024 (by omega) (inb := inb_S736x1536_S736x256_0_1024) rfl,
    hs1_4 c i a2 h2 a3 h3 a4 h4 a5 h5 a6 h6 a18 x0 x1 x2 x3 x4 j hj⟩

theorem hs1_6 (c : Dev nD) (i : grid0.Coords) (a2 : Memref sig .tc .vmem S1x16x1024 .f32) (h2 : a2.IsWhole) (a3 : Memref sig .tc .vmem S1x704x1024 .f32) (h3 : a3.IsWhole) (a4 : Memref sig .tc .vmem S1x16x1024 .f32) (h4 : a4.IsWhole) (a5 : Memref sig .tc .vmem S1x1024 .f32) (h5 : a5.IsWhole) (a6 : Memref sig .tc .vmem S1024x1536 .bf16) (h6 : a6.IsWhole) (a18 : Memref sig .tc .vmem S736x1024 .bf16)
    (x0 : Vec Ideal S1x16x1024 .f32) (x1 : Vec Ideal S1x704x1024 .f32) (x2 : Vec Ideal S1x16x1024 .f32) (x3 : Vec Ideal S1x1024 .f32) (x4 : Vec Ideal S1024x1536 .bf16)
    (j : Fin 3) (hj : (i 1).val = j.val) : ∀ p ∈ kernelRun0_A.sl.HS1_6 c i a2 h2 a3 h3 a4 h4 a5 h5 a6 h6 a18 x0 x1 x2 x3 x4, ∀ x, p.2 x = pqE (hnE j x0 x1 x2 x3) x4 (p.1.emb x) := by
  unfold kernelRun0_A.sl.HS1_6
  exact List.forall_mem_cons.2 ⟨mat_piece (v59_eq c i a2 h2 a3 h3 a4 h4 a5 h5 a18 x0 x1 x2 x3 j hj) h6 x4 1280 (by omega) (inb := inb_S736x1536_S736x256_0_1280) rfl,
    hs1_5 c i a2 h2 a3 h3 a4 h4 a5 h5 a6 h6 a18 x0 x1 x2 x3 x4 j hj⟩

theorem hs1_1_cols0 (c : Dev nD) (i : grid0.Coords) (a2 : Memref sig .tc .vmem S1x16x1024 .f32) (h2 : a2.IsWhole) (a3 : Memref sig .tc .vmem S1x704x1024 .f32) (h3 : a3.IsWhole) (a4 : Memref sig .tc .vmem S1x16x1024 .f32) (h4 : a4.IsWhole) (a5 : Memref sig .tc .vmem S1x1024 .f32) (h5 : a5.IsWhole) (a6 : Memref sig .tc .vmem S1024x1536 .bf16) (h6 : a6.IsWhole) (a18 : Memref sig .tc .vmem S736x1024 .bf16)
    (x0 : Vec Ideal S1x16x1024 .f32) (x1 : Vec Ideal S1x704x1024 .f32) (x2 : Vec Ideal S1x16x1024 .f32) (x3 : Vec Ideal S1x1024 .f32) (x4 : Vec Ideal S1024x1536 .bf16) : Cols (kernelRun0_A.sl.HS1_1 c i a2 h2 a3 h3 a4 h4 a5 h5 a6 h6 a18 x0 x1 x2 x3 x4) 0 := by
  unfold kernelRun0_A.sl.HS1_1
  exact cols_head _ _ _

theorem hs1_2_cols256 (c : Dev nD) (i : grid0.Coords) (a2 : Memref sig .tc .vmem S1x16x1024 .f32) (h2 : a2.IsWhole) (a3 : Memref sig .tc .vmem S1x704x1024 .f32) (h3 : a3.IsWhole) (a4 : Memref sig .tc .vmem S1x16x1024 .f32) (h4 : a4.IsWhole) (a5 : Memref sig .tc .vmem S1x1024 .f32) (h5 : a5.IsWhole) (a6 : Memref sig .tc .vmem S1024x1536 .bf16) (h6 : a6.IsWhole) (a18 : Memref sig .tc .vmem S736x1024 .bf16)
    (x0 : Vec Ideal S1x16x1024 .f32) (x1 : Vec Ideal S1x704x1024 .f32) (x2 : Vec Ideal S1x16x1024 .f32) (x3 : Vec Ideal S1x1024 .f32) (x4 : Vec Ideal S1024x1536 .bf16) : Cols (kernelRun0_A.sl.HS1_2 c i a2 h2 a3 h3 a4 h4 a5 h5 a6 h6 a18 x0 x1 x2 x3 x4) 256 := by
  unfold kernelRun0_A.sl.HS1_2
  exact cols_head _ _ _

theorem hs1_3_cols512 (c : Dev nD) (i : grid0.Coords) (a2 : Memref sig .tc .vmem S1x16x1024 .f32) (h2 : a2.IsWhole) (a3 : Memref sig .tc .vmem S1x704x1024 .f32) (h3 : a3.IsWhole) (a4 : Memref sig .tc .vmem S1x16x1024 .f32) (h4 : a4.IsWhole) (a5 : Memref sig .tc .vmem S1x1024 .f32) (h5 : a5.IsWhole) (a6 : Memref sig .tc .vmem S1024x1536 .bf16) (h6 : a6.IsWhole) (a18 : Memref sig .tc .vmem S736x1024 .bf16)
    (x0 : Vec Ideal S1x16x1024 .f32) (x1 : Vec Ideal S1x704x1024 .f32) (x2 : Vec Ideal S1x16x1024 .f32) (x3 : Vec Ideal S1x1024 .f32) (x4 : Vec Ideal S1024x1536 .bf16) : Cols (kernelRun0_A.sl.HS1_3 c i a2 h2 a3 h3 a4 h4 a5 h5 a6 h6 a18 x0 x1 x2 x3 x4) 512 := by
  unfold kernelRun0_A.sl.HS1_3
  exact cols_head _ _ _

theorem hs1_4_cols768 (c : Dev nD) (i : grid0.Coords) (a2 : Memref sig .tc .vmem S1x16x1024 .f32) (h2 : a2.IsWhole) (a3 : Memref sig .tc .vmem S1x704x1024 .f32) (h3 : a3.IsWhole) (a4 : Memref sig .tc .vmem S1x16x1024 .f32) (h4 : a4.IsWhole) (a5 : Memref sig .tc .vmem S1x1024 .f32) (h5 : a5.IsWhole) (a6 : Memref sig .tc .vmem S1024x1536 .bf16) (h6 : a6.IsWhole) (a18 : Memref sig .tc .vmem S736x1024 .bf16)
    (x0 : Vec Ideal S1x16x1024 .f32) (x1 : Vec Ideal S1x704x1024 .f32) (x2 : Vec Ideal S1x16x1024 .f32) (x3 : Vec Ideal S1x1024 .f32) (x4 : Vec Ideal S1024x1536 .bf16) : Cols (kernelRun0_A.sl.HS1_4 c i a2 h2 a3 h3 a4 h4 a5 h5 a6 h6 a18 x0 x1 x2 x3 x4) 768 := by
  unfold kernelRun0_A.sl.HS1_4
  exact cols_head _ _ _

theorem hs1_5_cols1024 (c : Dev nD) (i : grid0.Coords) (a2 : Memref sig .tc .vmem S1x16x1024 .f32) (h2 : a2.IsWhole) (a3 : Memref sig .tc .vmem S1x704x1024 .f32) (h3 : a3.IsWhole) (a4 : Memref sig .tc .vmem S1x16x1024 .f32) (h4 : a4.IsWhole) (a5 : Memref sig .tc .vmem S1x1024 .f32) (h5 : a5.IsWhole) (a6 : Memref sig .tc .vmem S1024x1536 .bf16) (h6 : a6.IsWhole) (a18 : Memref sig .tc .vmem S736x1024 .bf16)
    (x0 : Vec Ideal S1x16x1024 .f32) (x1 : Vec Ideal S1x704x1024 .f32) (x2 : Vec Ideal S1x16x1024 .f32) (x3 : Vec Ideal S1x1024 .f32) (x4 : Vec Ideal S1024x1536 .bf16) : Cols (kernelRun0_A.sl.HS1_5 c i a2 h2 a3 h3 a4 h4 a5 h5 a6 h6 a18 x0 x1 x2 x3 x4) 1024 := by
  unfold kernelRun0_A.sl.HS1_5
  exact cols_head _ _ _

theorem hs1_6_cols1280 (c : Dev nD) (i : grid0.Coords) (a2 : Memref sig .tc .vmem S1x16x1024 .f32) (h2 : a2.IsWhole) (a3 : Memref sig .tc .vmem S1x704x1024 .f32) (h3 : a3.IsWhole) (a4 : Memref sig .tc .vmem S1x16x1024 .f32) (h4 : a4.IsWhole) (a5 : Memref sig .tc .vmem S1x1024 .f32) (h5 : a5.IsWhole) (a6 : Memref sig .tc .vmem S1024x1536 .bf16) (h6 : a6.IsWhole) (a18 : Memref sig .tc .vmem S736x1024 .bf16)
    (x0 : Vec Ideal S1x16x1024 .f32) (x1 : Vec Ideal S1x704x1024 .f32) (x2 : Vec Ideal S1x16x1024 .f32) (x3 : Vec Ideal S1x1024 .f32) (x4 : Vec Ideal S1024x1536 .bf16) : Cols (kernelRun0_A.sl.HS1_6 c i a2 h2 a3 h3 a4 h4 a5 h5 a6 h6 a18 x0 x1 x2 x3 x4) 1280 := by
  unfold kernelRun0_A.sl.HS1_6
  exact cols_head _ _ _

theorem hs1_2_cols0 (c : Dev nD) (i : grid0.Coords) (a2 : Memref sig .tc .vmem S1x16x1024 .f32) (h2 : a2.IsWhole) (a3 : Memref sig .tc .vmem S1x704x1024 .f32) (h3 : a3.IsWhole) (a4 : Memref sig .tc .vmem S1x16x1024 .f32) (h4 : a4.IsWhole) (a5 : Memref sig .tc .vmem S1x1024 .f32) (h5 : a5.IsWhole) (a6 : Memref sig .tc .vmem S1024x1536 .bf16) (h6 : a6.IsWhole) (a18 : Memref sig .tc .vmem S736x1024 .bf16)
    (x0 : Vec Ideal S1x16x1024 .f32) (x1 : Vec Ideal S1x704x1024 .f32) (x2 : Vec Ideal S1x16x1024 .f32) (x3 : Vec Ideal S1x1024 .f32) (x4 : Vec Ideal S1024x1536 .bf16) : Cols (kernelRun0_A.sl.HS1_2 c i a2 h2 a3 h3 a4 h4 a5 h5 a6 h6 a18 x0 x1 x2 x3 x4) 0 := by
  unfold kernelRun0_A.sl.HS1_2
  exact cols_tail _ (hs1_1_cols0 c i a2 h2 a3 h3 a4 h4 a5 h5 a6 h6 a18 x0 x1 x2 x3 x4)

theorem hs1_3_cols0 (c : Dev nD) (i : grid0.Coords) (a2 : Memref sig .tc .vmem S1x16x1024 .f32) (h2 : a2.IsWhole) (a3 : Memref sig .tc .vmem S1x704x1024 .f32) (h3 : a3.IsWhole) (a4 : Memref sig .tc .vmem S1x16x1024 .f32) (h4 : a4.IsWhole) (a5 : Memref sig .tc .vmem S1x1024 .f32) (h5 : a5.IsWhole) (a6 : Memref sig .tc .vmem S1024x1536 .bf16) (h6 : a6.IsWhole) (a18 : Memref sig .tc .vmem S736x1024 .bf16)
    (x0 : Vec Ideal S1x16x1024 .f32) (x1 : Vec Ideal S1x704x1024 .f32) (x2 : Vec Ideal S1x16x1024 .f32) (x3 : Vec Ideal S1x1024 .f32) (x4 : Vec Ideal S1024x1536 .bf16) : Cols (kernelRun0_A.sl.HS1_3 c i a2 h2 a3 h3 a4 h4 a5 h5 a6 h6 a18 x0 x1 x2 x3 x4) 0 := by
  unfold kernelRun0_A.sl.HS1_3
  exact cols_tail _ (hs1_2_cols0 c i a2 h2 a3 h3 a4 h4 a5 h5 a6 h6 a18 x0 x1 x2 x3 x4)

theorem hs1_3_cols256 (c : Dev nD) (i : grid0.Coords) (a2 : Memref sig .tc .vmem S1x16x1024 .f32) (h2 : a2.IsWhole) (a3 : Memref sig .tc .vmem S1x704x1024 .f32) (h3 : a3.IsWhole) (a4 : Memref sig .tc .vmem S1x16x1024 .f32) (h4 : a4.IsWhole) (a5 : Memref sig .tc .vmem S1x1024 .f32) (h5 : a5.IsWhole) (a6 : Memref sig .tc .vmem S1024x1536 .bf16) (h6 : a6.IsWhole) (a18 : Memref sig .tc .vmem S736x1024 .bf16)
    (x0 : Vec Ideal S1x16x1024 .f32) (x1 : Vec Ideal S1x704x1024 .f32) (x2 : Vec Ideal S1x16x1024 .f32) (x3 : Vec Ideal S1x1024 .f32) (x4 : Vec Ideal S1024x1536 .bf16) : Cols (kernelRun0_A.sl.HS1_3 c i a2 h2 a3 h3 a4 h4 a5 h5 a6 h6 a18 x0 x1 x2 x3 x4) 256 := by
  unfold kernelRun0_A.sl.HS1_3
  exact cols_tail _ (hs1_2_cols256 c i a2 h2 a3 h3 a4 h4 a5 h5 a6 h6 a18 x0 x1 x2 x3 x4)

theorem hs1_4_cols0 (c : Dev nD) (i : grid0.Coords) (a2 : Memref sig .tc .vmem S1x16x1024 .f32) (h2 : a2.IsWhole) (a3 : Memref sig .tc .vmem S1x704x1024 .f32) (h3 : a3.IsWhole) (a4 : Memref sig .tc .vmem S1x16x1024 .f32) (h4 : a4.IsWhole) (a5 : Memref sig .tc .vmem S1x1024 .f32) (h5 : a5.IsWhole) (a6 : Memref sig .tc .vmem S1024x1536 .bf16) (h6 : a6.IsWhole) (a18 : Memref sig .tc .vmem S736x1024 .bf16)
    (x0 : Vec Ideal S1x16x1024 .f32) (x1 : Vec Ideal S1x704x1024 .f32) (x2 : Vec Ideal S1x16x1024 .f32) (x3 : Vec Ideal S1x1024 .f32) (x4 : Vec Ideal S1024x1536 .bf16) : Cols (kernelRun0_A.sl.HS1_4 c i a2 h2 a3 h3 a4 h4 a5 h5 a6 h6 a18 x0 x1 x2 x3 x4) 0 := by
  unfold kernelRun0_A.sl.HS1_4
  exact cols_tail _ (hs1_3_cols0 c i a2 h2 a3 h3 a4 h4 a5 h5 a6 h6 a18 x0 x1 x2 x3 x4)

theorem hs1_4_cols256 (c : Dev nD) (i : grid0.Coords) (a2 : Memref sig .tc .vmem S1x16x1024 .f32) (h2 : a2.IsWhole) (a3 : Memref sig .tc .vmem S1x704x1024 .f32) (h3 : a3.IsWhole) (a4 : Memref sig .tc .vmem S1x16x1024 .f32) (h4 : a4.IsWhole) (a5 : Memref sig .tc .vmem S1x1024 .f32) (h5 : a5.IsWhole) (a6 : Memref sig .tc .vmem S1024x1536 .bf16) (h6 : a6.IsWhole) (a18 : Memref sig .tc .vmem S736x1024 .bf16)
    (x0 : Vec Ideal S1x16x1024 .f32) (x1 : Vec Ideal S1x704x1024 .f32) (x2 : Vec Ideal S1x16x1024 .f32) (x3 : Vec Ideal S1x1024 .f32) (x4 : Vec Ideal S1024x1536 .bf16) : Cols (kernelRun0_A.sl.HS1_4 c i a2 h2 a3 h3 a4 h4 a5 h5 a6 h6 a18 x0 x1 x2 x3 x4) 256 := by
  unfold kernelRun0_A.sl.HS1_4
  exact cols_tail _ (hs1_3_cols256 c i a2 h2 a3 h3 a4 h4 a5 h5 a6 h6 a18 x0 x1 x2 x3 x4)

theorem hs1_4_cols512 (c : Dev nD) (i : grid0.Coords) (a2 : Memref sig .tc .vmem S1x16x1024 .f32) (h2 : a2.IsWhole) (a3 : Memref sig .tc .vmem S1x704x1024 .f32) (h3 : a3.IsWhole) (a4 : Memref sig .tc .vmem S1x16x1024 .f32) (h4 : a4.IsWhole) (a5 : Memref sig .tc .vmem S1x1024 .f32) (h5 : a5.IsWhole) (a6 : Memref sig .tc .vmem S1024x1536 .bf16) (h6 : a6.IsWhole) (a18 : Memref sig .tc .vmem S736x1024 .bf16)
    (x0 : Vec Ideal S1x16x1024 .f32) (x1 : Vec Ideal S1x704x1024 .f32) (x2 : Vec Ideal S1x16x1024 .f32) (x3 : Vec Ideal S1x1024 .f32) (x4 : Vec Ideal S1024x1536 .bf16) : Cols (kernelRun0_A.sl.HS1_4 c i a2 h2 a3 h3 a4 h4 a5 h5 a6 h6 a18 x0 x1 x2 x3 x4) 512 := by
  unfold kernelRun0_A.sl.HS1_4
  exact cols_tail _ (hs1_3_cols512 c i a2 h2 a3 h3 a4 h4 a5 h5 a6 h6 a18 x0 x1 x2 x3 x4)

theorem hs2_3 (c : Dev nD) (i : grid0.Coords) (a2 : Memref sig .tc .vmem S1x16x1024 .f32) (h2 : a2.IsWhole) (a3 : Memref sig .tc .vmem S1x704x1024 .f32) (h3 : a3.IsWhole) (a4 : Memref sig .tc .vmem S1x16x1024 .f32) (h4 : a4.IsWhole) (a5 : Memref sig .tc .vmem S1x1024 .f32) (h5 : a5.IsWhole) (a8 : Memref sig .tc .vmem S1024x1536 .bf16) (h8 : a8.IsWhole) (a18 : Memref sig .tc .vmem S736x1024 .bf16)
    (x0 : Vec Ideal S1x16x1024 .f32) (x1 : Vec Ideal S1x704x1024 .f32) (x2 : Vec Ideal S1x16x1024 .f32) (x3 : Vec Ideal S1x1024 .f32) (x6 : Vec Ideal S1024x1536 .bf16)
    (j : Fin 3) (hj : (i 1).val = j.val) : ∀ p ∈ kernelRun0_A.sl.HS2_3 c i a2 h2 a3 h3 a4 h4 a5 h5 a8 h8 a18 x0 x1 x2 x3 x6, ∀ x, p.2 x = pqE (hnE j x0 x1 x2 x3) x6 (p.1.emb x) := by
  unfold kernelRun0_A.sl.HS2_3
  exact List.forall_mem_cons.2 ⟨mat_piece (v59_eq c i a2 h2 a3 h3 a4 h4 a5 h5 a18 x0 x1 x2 x3 j hj) h8 x6 1024 (by omega) (inb := inb_S736x1536_S736x256_0_1024) rfl,
    List.forall_mem_cons.2 ⟨mat_piece (v59_eq c i a2 h2 a3 h3 a4 h4 a5 h5 a18 x0 x1 x2 x3 j hj) h8 x6 512 (by omega) (inb := inb_S736x1536_S736x256_0_512) rfl,
    List.forall_mem_cons.2 ⟨mat_piece (v59_eq c i a2 h2 a3 h3 a4 h4 a5 h5 a18 x0 x1 x2 x3 j hj) h8 x6 0 (by omega) (inb := inb_S736x1536_S736x256_0_0) rfl,
    fun _ h => absurd h List.not_mem_nil⟩⟩⟩

theorem hs2_6 (c : Dev nD) (i : grid0.Coords) (a2 : Memref sig .tc .vmem S1x16x1024 .f32) (h2 : a2.IsWhole) (a3 : Memref sig .tc .vmem S1x704x1024 .f32) (h3 : a3.IsWhole) (a4 : Memref sig .tc .vmem S1x16x1024 .f32) (h4 : a4.IsWhole) (a5 : Memref sig .tc .vmem S1x1024 .f32) (h5 : a5.IsWhole) (a8 : Memref sig .tc .vmem S1024x1536 .bf16) (h8 : a8.IsWhole) (a18 : Memref sig .tc .vmem S736x1024 .bf16)
    (x0 : Vec Ideal S1x16x1024 .f32) (x1 : Vec Ideal S1x704x1024 .f32) (x2 : Vec Ideal S1x16x1024 .f32) (x3 : Vec Ideal S1x1024 .f32) (x6 : Vec Ideal S1024x1536 .bf16)
    (j : Fin 3) (hj : (i 1).val = j.val) : ∀ p ∈ kernelRun0_A.sl.HS2_6 c i a2 h2 a3 h3 a4 h4 a5 h5 a8 h8 a18 x0 x1 x2 x3 x6, ∀ x, p.2 x = pqE (hnE j x0 x1 x2 x3) x6 (p.1.emb x) := by
  unfold kernelRun0_A.sl.HS2_6
  exact List.forall_mem_cons.2 ⟨mat_piece (v59_eq c i a2 h2 a3 h3 a4 h4 a5 h5 a18 x0 x1 x2 x3 j hj) h8 x6 1280 (by omega) (inb := inb_S736x1536_S736x256_0_1280) rfl,
    List.forall_mem_cons.2 ⟨mat_piece (v59_eq c i a2 h2 a3 h3 a4 h4 a5 h5 a18 x0 x1 x2 x3 j hj) h8 x6 768 (by omega) (inb := inb_S736x1536_S736x256_0_768) rfl,
    List.forall_mem_cons.2 ⟨mat_piece (v59_eq c i a2 h2 a3 h3 a4 h4 a5 h5 a18 x0 x1 x2 x3 j hj) h8 x6 256 (by omega) (inb := inb_S736x1536_S736x256_0_256) rfl,
    hs2_3 c i a2 h2 a3 h3 a4 h4 a5 h5 a8 h8 a18 x0 x1 x2 x3 x6 j hj⟩⟩⟩

theorem hs2_3_cols1024 (c : Dev nD) (i : grid0.Coords) (a2 : Memref sig .tc .vmem S1x16x1024 .f32) (h2 : a2.IsWhole) (a3 : Memref sig .tc .vmem S1x704x1024 .f32) (h3 : a3.IsWhole) (a4 : Memref sig .tc .vmem S1x16x1024 .f32) (h4 : a4.IsWhole) (a5 : Memref sig .tc .vmem S1x1024 .f32) (h5 : a5.IsWhole) (a8 : Memref sig .tc .vmem S1024x1536 .bf16) (h8 : a8.IsWhole) (a18 : Memref sig .tc .vmem S736x1024 .bf16)
    (x0 : Vec Ideal S1x16x1024 .f32) (x1 : Vec Ideal S1x704x1024 .f32) (x2 : Vec Ideal S1x16x1024 .f32) (x3 : Vec Ideal S1x1024 .f32) (x6 : Vec Ideal S1024x1536 .bf16) : Cols (kernelRun0_A.sl.HS2_3 c i a2 h2 a3 h3 a4 h4 a5 h5 a8 h8 a18 x0 x1 x2 x3 x6) 1024 := by
  unfold kernelRun0_A.sl.HS2_3
  exact cols_head _ _ _

theorem hs2_3_cols512 (c : Dev nD) (i : grid0.Coords) (a2 : Memref sig .tc .vmem S1x16x1024 .f32) (h2 : a2.IsWhole) (a3 : Memref sig .tc .vmem S1x704x1024 .f32) (h3 : a3.IsWhole) (a4 : Memref sig .tc .vmem S1x16x1024 .f32) (h4 : a4.IsWhole) (a5 : Memref sig .tc .vmem S1x1024 .f32) (h5 : a5.IsWhole) (a8 : Memref sig .tc .vmem S1024x1536 .bf16) (h8 : a8.IsWhole) (a18 : Memref sig .tc .vmem S736x1024 .bf16)
    (x0 : Vec Ideal S1x16x1024 .f32) (x1 : Vec Ideal S1x704x1024 .f32) (x2 : Vec Ideal S1x16x1024 .f32) (x3 : Vec Ideal S1x1024 .f32) (x6 : Vec Ideal S1024x1536 .bf16) : Cols (kernelRun0_A.sl.HS2_3 c i a2 h2 a3 h3 a4 h4 a5 h5 a8 h8 a18 x0 x1 x2 x3 x6) 512 := by
  unfold kernelRun0_A.sl.HS2_3
  exact cols_tail _ (cols_head _ _ _)

theorem hs2_3_cols0 (c : Dev nD) (i : grid0.Coords) (a2 : Memref sig .tc .vmem S1x16x1024 .f32) (h2 : a2.IsWhole) (a3 : Memref sig .tc .vmem S1x704x1024 .f32) (h3 : a3.IsWhole) (a4 : Memref sig .tc .vmem S1x16x1024 .f32) (h4 : a4.IsWhole) (a5 : Memref sig .tc .vmem S1x1024 .f32) (h5 : a5.IsWhole) (a8 : Memref sig .tc .vmem S1024x1536 .bf16) (h8 : a8.IsWhole) (a18 : Memref sig .tc .vmem S736x1024 .bf16)
    (x0 : Vec Ideal S1x16x1024 .f32) (x1 : Vec Ideal S1x704x1024 .f32) (x2 : Vec Ideal S1x16x1024 .f32) (x3 : Vec Ideal S1x1024 .f32) (x6 : Vec Ideal S1024x1536 .bf16) : Cols (kernelRun0_A.sl.HS2_3 c i a2 h2 a3 h3 a4 h4 a5 h5 a8 h8 a18 x0 x1 x2 x3 x6) 0 := by
  unfold kernelRun0_A.sl.HS2_3
  exact cols_tail _ (cols_tail _ (cols_head _ _ _))

theorem hs2_6_cols1280 (c : Dev nD) (i : grid0.Coords) (a2 : Memref sig .tc .vmem S1x16x1024 .f32) (h2 : a2.IsWhole) (a3 : Memref sig .tc .vmem S1x704x1024 .f32) (h3 : a3.IsWhole) (a4 : Memref sig .tc .vmem S1x16x1024 .f32) (h4 : a4.IsWhole) (a5 : Memref sig .tc .vmem S1x1024 .f32) (h5 : a5.IsWhole) (a8 : Memref sig .tc .vmem S1024x1536 .bf16) (h8 : a8.IsWhole) (a18 : Memref sig .tc .vmem S736x1024 .bf16)
    (x0 : Vec Ideal S1x16x1024 .f32) (x1 : Vec Ideal S1x704x1024 .f32) (x2 : Vec Ideal S1x16x1024 .f32) (x3 : Vec Ideal S1x1024 .f32) (x6 : Vec Ideal S1024x1536 .bf16) : Cols (kernelRun0_A.sl.HS2_6 c i a2 h2 a3 h3 a4 h4 a5 h5 a8 h8 a18 x0 x1 x2 x3 x6) 1280 := by
  unfold kernelRun0_A.sl.HS2_6
  exact cols_head _ _ _

theorem hs2_6_cols768 (c : Dev nD) (i : grid0.Coords) (a2 : Memref sig .tc .vmem S1x16x1024 .f32) (h2 : a2.IsWhole) (a3 : Memref sig .tc .vmem S1x704x1024 .f32) (h3 : a3.IsWhole) (a4 : Memref sig .tc .vmem S1x16x1024 .f32) (h4 : a4.IsWhole) (a5 : Memref sig .tc .vmem S1x1024 .f32) (h5 : a5.IsWhole) (a8 : Memref sig .tc .vmem S1024x1536 .bf16) (h8 : a8.IsWhole) (a18 : Memref sig .tc .vmem S736x1024 .bf16)
    (x0 : Vec Ideal S1x16x1024 .f32) (x1 : Vec Ideal S1x704x1024 .f32) (x2 : Vec Ideal S1x16x1024 .f32) (x3 : Vec Ideal S1x1024 .f32) (x6 : Vec Ideal S1024x1536 .bf16) : Cols (kernelRun0_A.sl.HS2_6 c i a2 h2 a3 h3 a4 h4 a5 h5 a8 h8 a18 x0 x1 x2 x3 x6) 768 := by
  unfold kernelRun0_A.sl.HS2_6
  exact cols_tail _ (cols_head _ _ _)

theorem hs2_6_cols256 (c : Dev nD) (i : grid0.Coords) (a2 : Memref sig .tc .vmem S1x16x1024 .f32) (h2 : a2.IsWhole) (a3 : Memref sig .tc .vmem S1x704x1024 .f32) (h3 : a3.IsWhole) (a4 : Memref sig .tc .vmem S1x16x1024 .f32) (h4 : a4.IsWhole) (a5 : Memref sig .tc .vmem S1x1024 .f32) (h5 : a5.IsWhole) (a8 : Memref sig .tc .vmem S1024x1536 .bf16) (h8 : a8.IsWhole) (a18 : Memref sig .tc .vmem S736x1024 .bf16)
    (x0 : Vec Ideal S1x16x1024 .f32) (x1 : Vec Ideal S1x704x1024 .f32) (x2 : Vec Ideal S1x16x1024 .f32) (x3 : Vec Ideal S1x1024 .f32) (x6 : Vec Ideal S1024x1536 .bf16) : Cols (kernelRun0_A.sl.HS2_6 c i a2 h2 a3 h3 a4 h4 a5 h5 a8 h8 a18 x0 x1 x2 x3 x6) 256 := by
  unfold kernelRun0_A.sl.HS2_6
  exact cols_tail _ (cols_tail _ (cols_head _ _ _))

end Cert.Proof.InProj

end
-- ==== Proof.InProj.Pieces.lean ====
/- The pieces that one grid step of the input projection's kernel stores hold the rows of its output blocks. -/
module

public import proofs.«01_k».proof.Proof.InProj.Block

@[expose] public section

set_option maxRecDepth 16384

noncomputable section

open Idealize.ShloMosaic Idealize.ShloMosaic.TcCoe Idealize.SL.Sem Idealize.ShloMosaic.Tactic

namespace Cert.Proof.InProj

open Cert.Kernel3Ideal Cert.Kernel3Ideal.Gen

set_option maxHeartbeats 4000000 in
theorem q_pieces (c : Dev nD) (i : grid0.Coords) (a2 : Memref sig .tc .vmem S1x16x1024 .f32) (h2 : a2.IsWhole) (a3 : Memref sig .tc .vmem S1x704x1024 .f32) (h3 : a3.IsWhole) (a4 : Memref sig .tc .vmem S1x16x1024 .f32) (h4 : a4.IsWhole) (a5 : Memref sig .tc .vmem S1x1024 .f32) (h5 : a5.IsWhole) (a6 : Memref sig .tc .vmem S1024x1536 .bf16) (h6 : a6.IsWhole) (a7 : Memref sig .tc .vmem S1024x512 .bf16) (h7 : a7.IsWhole) (a8 : Memref sig .tc .vmem S1024x1536 .bf16) (h8 : a8.IsWhole) (a9 : Memref sig .tc .vmem S1024x128 .bf16) (h9 : a9.IsWhole) (a10 : Memref sig .tc .vmem S3x1536 .f32) (h10 : a10.IsWhole) (a11 : Memref sig .tc .vmem S3x512 .f32) (h11 : a11.IsWhole) (a12 : Memref sig .tc .vmem S1x704x512 .bf16) (h12 : a12.IsWhole) (a13 : Memref sig .tc .vmem S1x704x512 .bf16) (h13 : a13.IsWhole) (a14 : Memref sig .tc .vmem S1x704x512 .bf16) (h14 : a14.IsWhole) (a15 : Memref sig .tc .vmem S1x704x512 .bf16) (h15 : a15.IsWhole) (a16 : Memref sig .tc .vmem S1x704x512 .bf16) (h16 : a16.IsWhole) (a17 : Memref sig .tc .vmem S1x704x128 .f32) (h17 : a17.IsWhole) (a18 : Memref sig .tc .vmem S736x1024 .bf16) (h18 : a18.IsWhole) (a19 : Memref sig .tc .vmem S736x1536 .f32) (h19 : a19.IsWhole) (a20 : Memref sig .tc .vmem S736x1536 .f32) (h20 : a20.IsWhole)
    (x0 : Vec Ideal S1x16x1024 .f32) (x1 : Vec Ideal S1x704x1024 .f32) (x2 : Vec Ideal S1x16x1024 .f32) (x3 : Vec Ideal S1x1024 .f32) (x4 : Vec Ideal S1024x1536 .bf16) (x5 : Vec Ideal S1024x512 .bf16) (x6 : Vec Ideal S1024x1536 .bf16) (x7 : Vec Ideal S1024x128 .bf16) (x8 : Vec Ideal S3x1536 .f32) (x9 : Vec Ideal S3x512 .f32)
    (j : Fin 3) (hj : (i 1).val = j.val) :
    ∀ p ∈ (kernelRun0_A c i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9).1, ∀ x, p.2 x = qE (pqE (hnE j x0 x1 x2 x3) x4) (fun a k => x8 (ix2 a k)) j (p.1.emb x) := by
  unfold kernelRun0_A
  dsimp only
  have w1_0 := win_read a19.view (hs1_1 c i a2 h2 a3 h3 a4 h4 a5 h5 a6 h6 a18 x0 x1 x2 x3 x4 j hj) 0 (hs1_1_cols0 c i a2 h2 a3 h3 a4 h4 a5 h5 a6 h6 a18 x0 x1 x2 x3 x4)
  have w2_256 := win_read a19.view (hs1_2 c i a2 h2 a3 h3 a4 h4 a5 h5 a6 h6 a18 x0 x1 x2 x3 x4 j hj) 256 (hs1_2_cols256 c i a2 h2 a3 h3 a4 h4 a5 h5 a6 h6 a18 x0 x1 x2 x3 x4)
  refine List.forall_mem_cons.2 ⟨q_piece j 640 (by omega) (by omega) 3 (inb := inb_S1x704x512_S1x64x128_0_640_384) (w2_256 640 384 inb_S736x1536_S80x128_648_384 (by omega) (by omega)) (cw_read h10 x8 384 inb_S3x1536_S3x128_0_384) rfl, ?_⟩
  refine List.forall_mem_cons.2 ⟨q_piece j 576 (by omega) (by omega) 3 (inb := inb_S1x704x512_S1x64x128_0_576_384) (w2_256 576 384 inb_S736x1536_S80x128_584_384 (by omega) (by omega)) (cw_read h10 x8 384 inb_S3x1536_S3x128_0_384) rfl, ?_⟩
  refine List.forall_mem_cons.2 ⟨q_piece j 512 (by omega) (by omega) 3 (inb := inb_S1x704x512_S1x64x128_0_512_384) (w2_256 512 384 inb_S736x1536_S80x128_520_384 (by omega) (by omega)) (cw_read h10 x8 384 inb_S3x1536_S3x128_0_384) rfl, ?_⟩
  refine List.forall_mem_cons.2 ⟨q_piece j 448 (by omega) (by omega) 3 (inb := inb_S1x704x512_S1x64x128_0_448_384) (w2_256 448 384 inb_S736x1536_S80x128_456_384 (by omega) (by omega)) (cw_read h10 x8 384 inb_S3x1536_S3x128_0_384) rfl, ?_⟩
  refine List.forall_mem_cons.2 ⟨q_piece j 384 (by omega) (by omega) 3 (inb := inb_S1x704x512_S1x64x128_0_384_384) (w2_256 384 384 inb_S736x1536_S80x128_392_384 (by omega) (by omega)) (cw_read h10 x8 384 inb_S3x1536_S3x128_0_384) rfl, ?_⟩
  refine List.forall_mem_cons.2 ⟨q_piece j 320 (by omega) (by omega) 3 (inb := inb_S1x704x512_S1x64x128_0_320_384) (w2_256 320 384 inb_S736x1536_S80x128_328_384 (by omega) (by omega)) (cw_read h10 x8 384 inb_S3x1536_S3x128_0_384) rfl, ?_⟩
  refine List.forall_mem_cons.2 ⟨q_piece j 256 (by omega) (by omega) 3 (inb := inb_S1x704x512_S1x64x128_0_256_384) (w2_256 256 384 inb_S736x1536_S80x128_264_384 (by omega) (by omega)) (cw_read h10 x8 384 inb_S3x1536_S3x128_0_384) rfl, ?_⟩
  refine List.forall_mem_cons.2 ⟨q_piece j 192 (by omega) (by omega) 3 (inb := inb_S1x704x512_S1x64x128_0_192_384) (w2_256 192 384 inb_S736x1536_S80x128_200_384 (by omega) (by omega)) (cw_read h10 x8 384 inb_S3x1536_S3x128_0_384) rfl, ?_⟩
  refine List.forall_mem_cons.2 ⟨q_piece j 128 (by omega) (by omega) 3 (inb := inb_S1x704x512_S1x64x128_0_128_384) (w2_256 128 384 inb_S736x1536_S80x128_136_384 (by omega) (by omega)) (cw_read h10 x8 384 inb_S3x1536_S3x128_0_384) rfl, ?_⟩
  refine List.forall_mem_cons.2 ⟨q_piece j 64 (by omega) (by omega) 3 (inb := inb_S1x704x512_S1x64x128_0_64_384) (w2_256 64 384 inb_S736x1536_S80x128_72_384 (by omega) (by omega)) (cw_read h10 x8 384 inb_S3x1536_S3x128_0_384) rfl, ?_⟩
  refine List.forall_mem_cons.2 ⟨q_piece0 j 3 (inb := inb_S1x704x512_S1x64x128_0_0_384) (w2_256 0 384 inb_S736x1536_S80x128_8_384 (by omega) (by omega)) (cw_read h10 x8 384 inb_S3x1536_S3x128_0_384) (congrArg (BitVec.ofNat 32) hj) rfl, ?_⟩
  refine List.forall_mem_cons.2 ⟨q_piece j 640 (by omega) (by omega) 2 (inb := inb_S1x704x512_S1x64x128_0_640_256) (w2_256 640 256 inb_S736x1536_S80x128_648_256 (by omega) (by omega)) (cw_read h10 x8 256 inb_S3x1536_S3x128_0_256) rfl, ?_⟩
  refine List.forall_mem_cons.2 ⟨q_piece j 576 (by omega) (by omega) 2 (inb := inb_S1x704x512_S1x64x128_0_576_256) (w2_256 576 256 inb_S736x1536_S80x128_584_256 (by omega) (by omega)) (cw_read h10 x8 256 inb_S3x1536_S3x128_0_256) rfl, ?_⟩
  refine List.forall_mem_cons.2 ⟨q_piece j 512 (by omega) (by omega) 2 (inb := inb_S1x704x512_S1x64x128_0_512_256) (w2_256 512 256 inb_S736x1536_S80x128_520_256 (by omega) (by omega)) (cw_read h10 x8 256 inb_S3x1536_S3x128_0_256) rfl, ?_⟩
  refine List.forall_mem_cons.2 ⟨q_piece j 448 (by omega) (by omega) 2 (inb := inb_S1x704x512_S1x64x128_0_448_256) (w2_256 448 256 inb_S736x1536_S80x128_456_256 (by omega) (by omega)) (cw_read h10 x8 256 inb_S3x1536_S3x128_0_256) rfl, ?_⟩
  refine List.forall_mem_cons.2 ⟨q_piece j 384 (by omega) (by omega) 2 (inb := inb_S1x704x512_S1x64x128_0_384_256) (w2_256 384 256 inb_S736x1536_S80x128_392_256 (by omega) (by omega)) (cw_read h10 x8 256 inb_S3x1536_S3x128_0_256) rfl, ?_⟩
  refine List.forall_mem_cons.2 ⟨q_piece j 320 (by omega) (by omega) 2 (inb := inb_S1x704x512_S1x64x128_0_320_256) (w2_256 320 256 inb_S736x1536_S80x128_328_256 (by omega) (by omega)) (cw_read h10 x8 256 inb_S3x1536_S3x128_0_256) rfl, ?_⟩
  refine List.forall_mem_cons.2 ⟨q_piece j 256 (by omega) (by omega) 2 (inb := inb_S1x704x512_S1x64x128_0_256_256) (w2_256 256 256 inb_S736x1536_S80x128_264_256 (by omega) (by omega)) (cw_read h10 x8 256 inb_S3x1536_S3x128_0_256) rfl, ?_⟩
  refine List.forall_mem_cons.2 ⟨q_piece j 192 (by omega) (by omega) 2 (inb := inb_S1x704x512_S1x64x128_0_192_256) (w2_256 192 256 inb_S736x1536_S80x128_200_256 (by omega) (by omega)) (cw_read h10 x8 256 inb_S3x1536_S3x128_0_256) rfl, ?_⟩
  refine List.forall_mem_cons.2 ⟨q_piece j 128 (by omega) (by omega) 2 (inb := inb_S1x704x512_S1x64x128_0_128_256) (w2_256 128 256 inb_S736x1536_S80x128_136_256 (by omega) (by omega)) (cw_read h10 x8 256 inb_S3x1536_S3x128_0_256) rfl, ?_⟩
  refine List.forall_mem_cons.2 ⟨q_piece j 64 (by omega) (by omega) 2 (inb := inb_S1x704x512_S1x64x128_0_64_256) (w2_256 64 256 inb_S736x1536_S80x128_72_256 (by omega) (by omega)) (cw_read h10 x8 256 inb_S3x1536_S3x128_0_256) rfl, ?_⟩
  refine List.forall_mem_cons.2 ⟨q_piece0 j 2 (inb := inb_S1x704x512_S1x64x128_0_0_256) (w2_256 0 256 inb_S736x1536_S80x128_8_256 (by omega) (by omega)) (cw_read h10 x8 256 inb_S3x1536_S3x128_0_256) (congrArg (BitVec.ofNat 32) hj) rfl, ?_⟩
  refine List.forall_mem_cons.2 ⟨q_piece j 640 (by omega) (by omega) 1 (inb := inb_S1x704x512_S1x64x128_0_640_128) (w1_0 640 128 inb_S736x1536_S80x128_648_128 (by omega) (by omega)) (cw_read h10 x8 128 inb_S3x1536_S3x128_0_128) rfl, ?_⟩
  refine List.forall_mem_cons.2 ⟨q_piece j 576 (by omega) (by omega) 1 (inb := inb_S1x704x512_S1x64x128_0_576_128) (w1_0 576 128 inb_S736x1536_S80x128_584_128 (by omega) (by omega)) (cw_read h10 x8 128 inb_S3x1536_S3x128_0_128) rfl, ?_⟩
  refine List.forall_mem_cons.2 ⟨q_piece j 512 (by omega) (by omega) 1 (inb := inb_S1x704x512_S1x64x128_0_512_128) (w1_0 512 128 inb_S736x1536_S80x128_520_128 (by omega) (by omega)) (cw_read h10 x8 128 inb_S3x1536_S3x128_0_128) rfl, ?_⟩
  refine List.forall_mem_cons.2 ⟨q_piece j 448 (by omega) (by omega) 1 (inb := inb_S1x704x512_S1x64x128_0_448_128) (w1_0 448 128 inb_S736x1536_S80x128_456_128 (by omega) (by omega)) (cw_read h10 x8 128 inb_S3x1536_S3x128_0_128) rfl, ?_⟩
  refine List.forall_mem_cons.2 ⟨q_piece j 384 (by omega) (by omega) 1 (inb := inb_S1x704x512_S1x64x128_0_384_128) (w1_0 384 128 inb_S736x1536_S80x128_392_128 (by omega) (by omega)) (cw_read h10 x8 128 inb_S3x1536_S3x128_0_128) rfl, ?_⟩
  refine List.forall_mem_cons.2 ⟨q_piece j 320 (by omega) (by omega) 1 (inb := inb_S1x704x512_S1x64x128_0_320_128) (w1_0 320 128 inb_S736x1536_S80x128_328_128 (by omega) (by omega)) (cw_read h10 x8 128 inb_S3x1536_S3x128_0_128) rfl, ?_⟩
  refine List.forall_mem_cons.2 ⟨q_piece j 256 (by omega) (by omega) 1 (inb := inb_S1x704x512_S1x64x128_0_256_128) (w1_0 256 128 inb_S736x1536_S80x128_264_128 (by omega) (by omega)) (cw_read h10 x8 128 inb_S3x1536_S3x128_0_128) rfl, ?_⟩
  refine List.forall_mem_cons.2 ⟨q_piece j 192 (by omega) (by omega) 1 (inb := inb_S1x704x512_S1x64x128_0_192_128) (w1_0 192 128 inb_S736x1536_S80x128_200_128 (by omega) (by omega)) (cw_read h10 x8 128 inb_S3x1536_S3x128_0_128) rfl, ?_⟩
  refine List.forall_mem_cons.2 ⟨q_piece j 128 (by omega) (by omega) 1 (inb := inb_S1x704x512_S1x64x128_0_128_128) (w1_0 128 128 inb_S736x1536_S80x128_136_128 (by omega) (by omega)) (cw_read h10 x8 128 inb_S3x1536_S3x128_0_128) rfl, ?_⟩
  refine List.forall_mem_cons.2 ⟨q_piece j 64 (by omega) (by omega) 1 (inb := inb_S1x704x512_S1x64x128_0_64_128) (w1_0 64 128 inb_S736x1536_S80x128_72_128 (by omega) (by omega)) (cw_read h10 x8 128 inb_S3x1536_S3x128_0_128) rfl, ?_⟩
  refine List.forall_mem_cons.2 ⟨q_piece0 j 1 (inb := inb_S1x704x512_S1x64x128_0_0_128) (w1_0 0 128 inb_S736x1536_S80x128_8_128 (by omega) (by omega)) (cw_read h10 x8 128 inb_S3x1536_S3x128_0_128) (congrArg (BitVec.ofNat 32) hj) rfl, ?_⟩
  refine List.forall_mem_cons.2 ⟨q_piece j 640 (by omega) (by omega) 0 (inb := inb_S1x704x512_S1x64x128_0_640_0) (w1_0 640 0 inb_S736x1536_S80x128_648_0 (by omega) (by omega)) (cw_read h10 x8 0 inb_S3x1536_S3x128_0_0) rfl, ?_⟩
  refine List.forall_mem_cons.2 ⟨q_piece j 576 (by omega) (by omega) 0 (inb := inb_S1x704x512_S1x64x128_0_576_0) (w1_0 576 0 inb_S736x1536_S80x128_584_0 (by omega) (by omega)) (cw_read h10 x8 0 inb_S3x1536_S3x128_0_0) rfl, ?_⟩
  refine List.forall_mem_cons.2 ⟨q_piece j 512 (by omega) (by omega) 0 (inb := inb_S1x704x512_S1x64x128_0_512_0) (w1_0 512 0 inb_S736x1536_S80x128_520_0 (by omega) (by omega)) (cw_read h10 x8 0 inb_S3x1536_S3x128_0_0) rfl, ?_⟩
  refine List.forall_mem_cons.2 ⟨q_piece j 448 (by omega) (by omega) 0 (inb := inb_S1x704x512_S1x64x128_0_448_0) (w1_0 448 0 inb_S736x1536_S80x128_456_0 (by omega) (by omega)) (cw_read h10 x8 0 inb_S3x1536_S3x128_0_0) rfl, ?_⟩
  refine List.forall_mem_cons.2 ⟨q_piece j 384 (by omega) (by omega) 0 (inb := inb_S1x704x512_S1x64x128_0_384_0) (w1_0 384 0 inb_S736x1536_S80x128_392_0 (by omega) (by omega)) (cw_read h10 x8 0 inb_S3x1536_S3x128_0_0) rfl, ?_⟩
  refine List.forall_mem_cons.2 ⟨q_piece j 320 (by omega) (by omega) 0 (inb := inb_S1x704x512_S1x64x128_0_320_0) (w1_0 320 0 inb_S736x1536_S80x128_328_0 (by omega) (by omega)) (cw_read h10 x8 0 inb_S3x1536_S3x128_0_0) rfl, ?_⟩
  refine List.forall_mem_cons.2 ⟨q_piece j 256 (by omega) (by omega) 0 (inb := inb_S1x704x512_S1x64x128_0_256_0) (w1_0 256 0 inb_S736x1536_S80x128_264_0 (by omega) (by omega)) (cw_read h10 x8 0 inb_S3x1536_S3x128_0_0) rfl, ?_⟩
  refine List.forall_mem_cons.2 ⟨q_piece j 192 (by omega) (by omega) 0 (inb := inb_S1x704x512_S1x64x128_0_192_0) (w1_0 192 0 inb_S736x1536_S80x128_200_0 (by omega) (by omega)) (cw_read h10 x8 0 inb_S3x1536_S3x128_0_0) rfl, ?_⟩
  refine List.forall_mem_cons.2 ⟨q_piece j 128 (by omega) (by omega) 0 (inb := inb_S1x704x512_S1x64x128_0_128_0) (w1_0 128 0 inb_S736x1536_S80x128_136_0 (by omega) (by omega)) (cw_read h10 x8 0 inb_S3x1536_S3x128_0_0) rfl, ?_⟩
  refine List.forall_mem_cons.2 ⟨q_piece j 64 (by omega) (by omega) 0 (inb := inb_S1x704x512_S1x64x128_0_64_0) (w1_0 64 0 inb_S736x1536_S80x128_72_0 (by omega) (by omega)) (cw_read h10 x8 0 inb_S3x1536_S3x128_0_0) rfl, ?_⟩
  refine List.forall_mem_cons.2 ⟨q_piece0 j 0 (inb := inb_S1x704x512_S1x64x128_0_0_0) (w1_0 0 0 inb_S736x1536_S80x128_8_0 (by omega) (by omega)) (cw_read h10 x8 0 inb_S3x1536_S3x128_0_0) (congrArg (BitVec.ofNat 32) hj) rfl, ?_⟩
  exact fun _ h => absurd h List.not_mem_nil

set_option maxHeartbeats 4000000 in
theorem k_pieces (c : Dev nD) (i : grid0.Coords) (a2 : Memref sig .tc .vmem S1x16x1024 .f32) (h2 : a2.IsWhole) (a3 : Memref sig .tc .vmem S1x704x1024 .f32) (h3 : a3.IsWhole) (a4 : Memref sig .tc .vmem S1x16x1024 .f32) (h4 : a4.IsWhole) (a5 : Memref sig .tc .vmem S1x1024 .f32) (h5 : a5.IsWhole) (a6 : Memref sig .tc .vmem S1024x1536 .bf16) (h6 : a6.IsWhole) (a7 : Memref sig .tc .vmem S1024x512 .bf16) (h7 : a7.IsWhole) (a8 : Memref sig .tc .vmem S1024x1536 .bf16) (h8 : a8.IsWhole) (a9 : Memref sig .tc .vmem S1024x128 .bf16) (h9 : a9.IsWhole) (a10 : Memref sig .tc .vmem S3x1536 .f32) (h10 : a10.IsWhole) (a11 : Memref sig .tc .vmem S3x512 .f32) (h11 : a11.IsWhole) (a12 : Memref sig .tc .vmem S1x704x512 .bf16) (h12 : a12.IsWhole) (a13 : Memref sig .tc .vmem S1x704x512 .bf16) (h13 : a13.IsWhole) (a14 : Memref sig .tc .vmem S1x704x512 .bf16) (h14 : a14.IsWhole) (a15 : Memref sig .tc .vmem S1x704x512 .bf16) (h15 : a15.IsWhole) (a16 : Memref sig .tc .vmem S1x704x512 .bf16) (h16 : a16.IsWhole) (a17 : Memref sig .tc .vmem S1x704x128 .f32) (h17 : a17.IsWhole) (a18 : Memref sig .tc .vmem S736x1024 .bf16) (h18 : a18.IsWhole) (a19 : Memref sig .tc .vmem S736x1536 .f32) (h19 : a19.IsWhole) (a20 : Memref sig .tc .vmem S736x1536 .f32) (h20 : a20.IsWhole)
    (x0 : Vec Ideal S1x16x1024 .f32) (x1 : Vec Ideal S1x704x1024 .f32) (x2 : Vec Ideal S1x16x1024 .f32) (x3 : Vec Ideal S1x1024 .f32) (x4 : Vec Ideal S1024x1536 .bf16) (x5 : Vec Ideal S1024x512 .bf16) (x6 : Vec Ideal S1024x1536 .bf16) (x7 : Vec Ideal S1024x128 .bf16) (x8 : Vec Ideal S3x1536 .f32) (x9 : Vec Ideal S3x512 .f32)
    (j : Fin 3) (hj : (i 1).val = j.val) :
    ∀ p ∈ (kernelRun0_A c i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9).2.1, ∀ x, p.2 x = kE (pqE (hnE j x0 x1 x2 x3) x4) (fun a k => x8 (ix2 a k)) j (p.1.emb x) := by
  unfold kernelRun0_A
  dsimp only
  have w3_512 := win_read a19.view (hs1_3 c i a2 h2 a3 h3 a4 h4 a5 h5 a6 h6 a18 x0 x1 x2 x3 x4 j hj) 512 (hs1_3_cols512 c i a2 h2 a3 h3 a4 h4 a5 h5 a6 h6 a18 x0 x1 x2 x3 x4)
  have w4_768 := win_read a19.view (hs1_4 c i a2 h2 a3 h3 a4 h4 a5 h5 a6 h6 a18 x0 x1 x2 x3 x4 j hj) 768 (hs1_4_cols768 c i a2 h2 a3 h3 a4 h4 a5 h5 a6 h6 a18 x0 x1 x2 x3 x4)
  refine List.forall_mem_cons.2 ⟨k_piece j 640 (by omega) (by omega) 3 (inb := inb_S1x704x512_S1x64x128_0_640_384) (w4_768 640 896 inb_S736x1536_S80x128_648_896 (by omega) (by omega)) (cw_read h10 x8 896 inb_S3x1536_S3x128_0_896) rfl, ?_⟩
  refine List.forall_mem_cons.2 ⟨k_piece j 576 (by omega) (by omega) 3 (inb := inb_S1x704x512_S1x64x128_0_576_384) (w4_768 576 896 inb_S736x1536_S80x128_584_896 (by omega) (by omega)) (cw_read h10 x8 896 inb_S3x1536_S3x128_0_896) rfl, ?_⟩
  refine List.forall_mem_cons.2 ⟨k_piece j 512 (by omega) (by omega) 3 (inb := inb_S1x704x512_S1x64x128_0_512_384) (w4_768 512 896 inb_S736x1536_S80x128_520_896 (by omega) (by omega)) (cw_read h10 x8 896 inb_S3x1536_S3x128_0_896) rfl, ?_⟩
  refine List.forall_mem_cons.2 ⟨k_piece j 448 (by omega) (by omega) 3 (inb := inb_S1x704x512_S1x64x128_0_448_384) (w4_768 448 896 inb_S736x1536_S80x128_456_896 (by omega) (by omega)) (cw_read h10 x8 896 inb_S3x1536_S3x128_0_896) rfl, ?_⟩
  refine List.forall_mem_cons.2 ⟨k_piece j 384 (by omega) (by omega) 3 (inb := inb_S1x704x512_S1x64x128_0_384_384) (w4_768 384 896 inb_S736x1536_S80x128_392_896 (by omega) (by omega)) (cw_read h10 x8 896 inb_S3x1536_S3x128_0_896) rfl, ?_⟩
  refine List.forall_mem_cons.2 ⟨k_piece j 320 (by omega) (by omega) 3 (inb := inb_S1x704x512_S1x64x128_0_320_384) (w4_768 320 896 inb_S736x1536_S80x128_328_896 (by omega) (by omega)) (cw_read h10 x8 896 inb_S3x1536_S3x128_0_896) rfl, ?_⟩
  refine List.forall_mem_cons.2 ⟨k_piece j 256 (by omega) (by omega) 3 (inb := inb_S1x704x512_S1x64x128_0_256_384) (w4_768 256 896 inb_S736x1536_S80x128_264_896 (by omega) (by omega)) (cw_read h10 x8 896 inb_S3x1536_S3x128_0_896) rfl, ?_⟩
  refine List.forall_mem_cons.2 ⟨k_piece j 192 (by omega) (by omega) 3 (inb := inb_S1x704x512_S1x64x128_0_192_384) (w4_768 192 896 inb_S736x1536_S80x128_200_896 (by omega) (by omega)) (cw_read h10 x8 896 inb_S3x1536_S3x128_0_896) rfl, ?_⟩
  refine List.forall_mem_cons.2 ⟨k_piece j 128 (by omega) (by omega) 3 (inb := inb_S1x704x512_S1x64x128_0_128_384) (w4_768 128 896 inb_S736x1536_S80x128_136_896 (by omega) (by omega)) (cw_read h10 x8 896 inb_S3x1536_S3x128_0_896) rfl, ?_⟩
  refine List.forall_mem_cons.2 ⟨k_piece j 64 (by omega) (by omega) 3 (inb := inb_S1x704x512_S1x64x128_0_64_384) (w4_768 64 896 inb_S736x1536_S80x128_72_896 (by omega) (by omega)) (cw_read h10 x8 896 inb_S3x1536_S3x128_0_896) rfl, ?_⟩
  refine List.forall_mem_cons.2 ⟨k_piece0 j 3 (inb := inb_S1x704x512_S1x64x128_0_0_384) (w4_768 0 896 inb_S736x1536_S80x128_8_896 (by omega) (by omega)) (cw_read h10 x8 896 inb_S3x1536_S3x128_0_896) (congrArg (BitVec.ofNat 32) hj) rfl, ?_⟩
  refine List.forall_mem_cons.2 ⟨k_piece j 640 (by omega) (by omega) 2 (inb := inb_S1x704x512_S1x64x128_0_640_256) (w4_768 640 768 inb_S736x1536_S80x128_648_768 (by omega) (by omega)) (cw_read h10 x8 768 inb_S3x1536_S3x128_0_768) rfl, ?_⟩
  refine List.forall_mem_cons.2 ⟨k_piece j 576 (by omega) (by omega) 2 (inb := inb_S1x704x512_S1x64x128_0_576_256) (w4_768 576 768 inb_S736x1536_S80x128_584_768 (by omega) (by omega)) (cw_read h10 x8 768 inb_S3x1536_S3x128_0_768) rfl, ?_⟩
  refine List.forall_mem_cons.2 ⟨k_piece j 512 (by omega) (by omega) 2 (inb := inb_S1x704x512_S1x64x128_0_512_256) (w4_768 512 768 inb_S736x1536_S80x128_520_768 (by omega) (by omega)) (cw_read h10 x8 768 inb_S3x1536_S3x128_0_768) rfl, ?_⟩
  refine List.forall_mem_cons.2 ⟨k_piece j 448 (by omega) (by omega) 2 (inb := inb_S1x704x512_S1x64x128_0_448_256) (w4_768 448 768 inb_S736x1536_S80x128_456_768 (by omega) (by omega)) (cw_read h10 x8 768 inb_S3x1536_S3x128_0_768) rfl, ?_⟩
  refine List.forall_mem_cons.2 ⟨k_piece j 384 (by omega) (by omega) 2 (inb := inb_S1x704x512_S1x64x128_0_384_256) (w4_768 384 768 inb_S736x1536_S80x128_392_768 (by omega) (by omega)) (cw_read h10 x8 768 inb_S3x1536_S3x128_0_768) rfl, ?_⟩
  refine List.forall_mem_cons.2 ⟨k_piece j 320 (by omega) (by omega) 2 (inb := inb_S1x704x512_S1x64x128_0_320_256) (w4_768 320 768 inb_S736x1536_S80x128_328_768 (by omega) (by omega)) (cw_read h10 x8 768 inb_S3x1536_S3x128_0_768) rfl, ?_⟩
  refine List.forall_mem_cons.2 ⟨k_piece j 256 (by omega) (by omega) 2 (inb := inb_S1x704x512_S1x64x128_0_256_256) (w4_768 256 768 inb_S736x1536_S80x128_264_768 (by omega) (by omega)) (cw_read h10 x8 768 inb_S3x1536_S3x128_0_768) rfl, ?_⟩
  refine List.forall_mem_cons.2 ⟨k_piece j 192 (by omega) (by omega) 2 (inb := inb_S1x704x512_S1x64x128_0_192_256) (w4_768 192 768 inb_S736x1536_S80x128_200_768 (by omega) (by omega)) (cw_read h10 x8 768 inb_S3x1536_S3x128_0_768) rfl, ?_⟩
  refine List.forall_mem_cons.2 ⟨k_piece j 128 (by omega) (by omega) 2 (inb := inb_S1x704x512_S1x64x128_0_128_256) (w4_768 128 768 inb_S736x1536_S80x128_136_768 (by omega) (by omega)) (cw_read h10 x8 768 inb_S3x1536_S3x128_0_768) rfl, ?_⟩
  refine List.forall_mem_cons.2 ⟨k_piece j 64 (by omega) (by omega) 2 (inb := inb_S1x704x512_S1x64x128_0_64_256) (w4_768 64 768 inb_S736x1536_S80x128_72_768 (by omega) (by omega)) (cw_read h10 x8 768 inb_S3x1536_S3x128_0_768) rfl, ?_⟩
  refine List.forall_mem_cons.2 ⟨k_piece0 j 2 (inb := inb_S1x704x512_S1x64x128_0_0_256) (w4_768 0 768 inb_S736x1536_S80x128_8_768 (by omega) (by omega)) (cw_read h10 x8 768 inb_S3x1536_S3x128_0_768) (congrArg (BitVec.ofNat 32) hj) rfl, ?_⟩
  refine List.forall_mem_cons.2 ⟨k_piece j 640 (by omega) (by omega) 1 (inb := inb_S1x704x512_S1x64x128_0_640_128) (w3_512 640 640 inb_S736x1536_S80x128_648_640 (by omega) (by omega)) (cw_read h10 x8 640 inb_S3x1536_S3x128_0_640) rfl, ?_⟩
  refine List.forall_mem_cons.2 ⟨k_piece j 576 (by omega) (by omega) 1 (inb := inb_S1x704x512_S1x64x128_0_576_128) (w3_512 576 640 inb_S736x1536_S80x128_584_640 (by omega) (by omega)) (cw_read h10 x8 640 inb_S3x1536_S3x128_0_640) rfl, ?_⟩
  refine List.forall_mem_cons.2 ⟨k_piece j 512 (by omega) (by omega) 1 (inb := inb_S1x704x512_S1x64x128_0_512_128) (w3_512 512 640 inb_S736x1536_S80x128_520_640 (by omega) (by omega)) (cw_read h10 x8 640 inb_S3x1536_S3x128_0_640) rfl, ?_⟩
  refine List.forall_mem_cons.2 ⟨k_piece j 448 (by omega) (by omega) 1 (inb := inb_S1x704x512_S1x64x128_0_448_128) (w3_512 448 640 inb_S736x1536_S80x128_456_640 (by omega) (by omega)) (cw_read h10 x8 640 inb_S3x1536_S3x128_0_640) rfl, ?_⟩
  refine List.forall_mem_cons.2 ⟨k_piece j 384 (by omega) (by omega) 1 (inb := inb_S1x704x512_S1x64x128_0_384_128) (w3_512 384 640 inb_S736x1536_S80x128_392_640 (by omega) (by omega)) (cw_read h10 x8 640 inb_S3x1536_S3x128_0_640) rfl, ?_⟩
  refine List.forall_mem_cons.2 ⟨k_piece j 320 (by omega) (by omega) 1 (inb := inb_S1x704x512_S1x64x128_0_320_128) (w3_512 320 640 inb_S736x1536_S80x128_328_640 (by omega) (by omega)) (cw_read h10 x8 640 inb_S3x1536_S3x128_0_640) rfl, ?_⟩
  refine List.forall_mem_cons.2 ⟨k_piece j 256 (by omega) (by omega) 1 (inb := inb_S1x704x512_S1x64x128_0_256_128) (w3_512 256 640 inb_S736x1536_S80x128_264_640 (by omega) (by omega)) (cw_read h10 x8 640 inb_S3x1536_S3x128_0_640) rfl, ?_⟩
  refine List.forall_mem_cons.2 ⟨k_piece j 192 (by omega) (by omega) 1 (inb := inb_S1x704x512_S1x64x128_0_192_128) (w3_512 192 640 inb_S736x1536_S80x128_200_640 (by omega) (by omega)) (cw_read h10 x8 640 inb_S3x1536_S3x128_0_640) rfl, ?_⟩
  refine List.forall_mem_cons.2 ⟨k_piece j 128 (by omega) (by omega) 1 (inb := inb_S1x704x512_S1x64x128_0_128_128) (w3_512 128 640 inb_S736x1536_S80x128_136_640 (by omega) (by omega)) (cw_read h10 x8 640 inb_S3x1536_S3x128_0_640) rfl, ?_⟩
  refine List.forall_mem_cons.2 ⟨k_piece j 64 (by omega) (by omega) 1 (inb := inb_S1x704x512_S1x64x128_0_64_128) (w3_512 64 640 inb_S736x1536_S80x128_72_640 (by omega) (by omega)) (cw_read h10 x8 640 inb_S3x1536_S3x128_0_640) rfl, ?_⟩
  refine List.forall_mem_cons.2 ⟨k_piece0 j 1 (inb := inb_S1x704x512_S1x64x128_0_0_128) (w3_512 0 640 inb_S736x1536_S80x128_8_640 (by omega) (by omega)) (cw_read h10 x8 640 inb_S3x1536_S3x128_0_640) (congrArg (BitVec.ofNat 32) hj) rfl, ?_⟩
  refine List.forall_mem_cons.2 ⟨k_piece j 640 (by omega) (by omega) 0 (inb := inb_S1x704x512_S1x64x128_0_640_0) (w3_512 640 512 inb_S736x1536_S80x128_648_512 (by omega) (by omega)) (cw_read h10 x8 512 inb_S3x1536_S3x128_0_512) rfl, ?_⟩
  refine List.forall_mem_cons.2 ⟨k_piece j 576 (by omega) (by omega) 0 (inb := inb_S1x704x512_S1x64x128_0_576_0) (w3_512 576 512 inb_S736x1536_S80x128_584_512 (by omega) (by omega)) (cw_read h10 x8 512 inb_S3x1536_S3x128_0_512) rfl, ?_⟩
  refine List.forall_mem_cons.2 ⟨k_piece j 512 (by omega) (by omega) 0 (inb := inb_S1x704x512_S1x64x128_0_512_0) (w3_512 512 512 inb_S736x1536_S80x128_520_512 (by omega) (by omega)) (cw_read h10 x8 512 inb_S3x1536_S3x128_0_512) rfl, ?_⟩
  refine List.forall_mem_cons.2 ⟨k_piece j 448 (by omega) (by omega) 0 (inb := inb_S1x704x512_S1x64x128_0_448_0) (w3_512 448 512 inb_S736x1536_S80x128_456_512 (by omega) (by omega)) (cw_read h10 x8 512 inb_S3x1536_S3x128_0_512) rfl, ?_⟩
  refine List.forall_mem_cons.2 ⟨k_piece j 384 (by omega) (by omega) 0 (inb := inb_S1x704x512_S1x64x128_0_384_0) (w3_512 384 512 inb_S736x1536_S80x128_392_512 (by omega) (by omega)) (cw_read h10 x8 512 inb_S3x1536_S3x128_0_512) rfl, ?_⟩
  refine List.forall_mem_cons.2 ⟨k_piece j 320 (by omega) (by omega) 0 (inb := inb_S1x704x512_S1x64x128_0_320_0) (w3_512 320 512 inb_S736x1536_S80x128_328_512 (by omega) (by omega)) (cw_read h10 x8 512 inb_S3x1536_S3x128_0_512) rfl, ?_⟩
  refine List.forall_mem_cons.2 ⟨k_piece j 256 (by omega) (by omega) 0 (inb := inb_S1x704x512_S1x64x128_0_256_0) (w3_512 256 512 inb_S736x1536_S80x128_264_512 (by omega) (by omega)) (cw_read h10 x8 512 inb_S3x1536_S3x128_0_512) rfl, ?_⟩
  refine List.forall_mem_cons.2 ⟨k_piece j 192 (by omega) (by omega) 0 (inb := inb_S1x704x512_S1x64x128_0_192_0) (w3_512 192 512 inb_S736x1536_S80x128_200_512 (by omega) (by omega)) (cw_read h10 x8 512 inb_S3x1536_S3x128_0_512) rfl, ?_⟩
  refine List.forall_mem_cons.2 ⟨k_piece j 128 (by omega) (by omega) 0 (inb := inb_S1x704x512_S1x64x128_0_128_0) (w3_512 128 512 inb_S736x1536_S80x128_136_512 (by omega) (by omega)) (cw_read h10 x8 512 inb_S3x1536_S3x128_0_512) rfl, ?_⟩
  refine List.forall_mem_cons.2 ⟨k_piece j 64 (by omega) (by omega) 0 (inb := inb_S1x704x512_S1x64x128_0_64_0) (w3_512 64 512 inb_S736x1536_S80x128_72_512 (by omega) (by omega)) (cw_read h10 x8 512 inb_S3x1536_S3x128_0_512) rfl, ?_⟩
  refine List.forall_mem_cons.2 ⟨k_piece0 j 0 (inb := inb_S1x704x512_S1x64x128_0_0_0) (w3_512 0 512 inb_S736x1536_S80x128_8_512 (by omega) (by omega)) (cw_read h10 x8 512 inb_S3x1536_S3x128_0_512) (congrArg (BitVec.ofNat 32) hj) rfl, ?_⟩
  exact fun _ h => absurd h List.not_mem_nil

set_option maxHeartbeats 4000000 in
theorem v_pieces (c : Dev nD) (i : grid0.Coords) (a2 : Memref sig .tc .vmem S1x16x1024 .f32) (h2 : a2.IsWhole) (a3 : Memref sig .tc .vmem S1x704x1024 .f32) (h3 : a3.IsWhole) (a4 : Memref sig .tc .vmem S1x16x1024 .f32) (h4 : a4.IsWhole) (a5 : Memref sig .tc .vmem S1x1024 .f32) (h5 : a5.IsWhole) (a6 : Memref sig .tc .vmem S1024x1536 .bf16) (h6 : a6.IsWhole) (a7 : Memref sig .tc .vmem S1024x512 .bf16) (h7 : a7.IsWhole) (a8 : Memref sig .tc .vmem S1024x1536 .bf16) (h8 : a8.IsWhole) (a9 : Memref sig .tc .vmem S1024x128 .bf16) (h9 : a9.IsWhole) (a10 : Memref sig .tc .vmem S3x1536 .f32) (h10 : a10.IsWhole) (a11 : Memref sig .tc .vmem S3x512 .f32) (h11 : a11.IsWhole) (a12 : Memref sig .tc .vmem S1x704x512 .bf16) (h12 : a12.IsWhole) (a13 : Memref sig .tc .vmem S1x704x512 .bf16) (h13 : a13.IsWhole) (a14 : Memref sig .tc .vmem S1x704x512 .bf16) (h14 : a14.IsWhole) (a15 : Memref sig .tc .vmem S1x704x512 .bf16) (h15 : a15.IsWhole) (a16 : Memref sig .tc .vmem S1x704x512 .bf16) (h16 : a16.IsWhole) (a17 : Memref sig .tc .vmem S1x704x128 .f32) (h17 : a17.IsWhole) (a18 : Memref sig .tc .vmem S736x1024 .bf16) (h18 : a18.IsWhole) (a19 : Memref sig .tc .vmem S736x1536 .f32) (h19 : a19.IsWhole) (a20 : Memref sig .tc .vmem S736x1536 .f32) (h20 : a20.IsWhole)
    (x0 : Vec Ideal S1x16x1024 .f32) (x1 : Vec Ideal S1x704x1024 .f32) (x2 : Vec Ideal S1x16x1024 .f32) (x3 : Vec Ideal S1x1024 .f32) (x4 : Vec Ideal S1024x1536 .bf16) (x5 : Vec Ideal S1024x512 .bf16) (x6 : Vec Ideal S1024x1536 .bf16) (x7 : Vec Ideal S1024x128 .bf16) (x8 : Vec Ideal S3x1536 .f32) (x9 : Vec Ideal S3x512 .f32)
    (j : Fin 3) (hj : (i 1).val = j.val) :
    ∀ p ∈ (kernelRun0_A c i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9).2.2.1, ∀ x, p.2 x = vE (pqE (hnE j x0 x1 x2 x3) x4) (fun a k => x8 (ix2 a k)) j (p.1.emb x) := by
  unfold kernelRun0_A
  dsimp only
  have w5_1024 := win_read a19.view (hs1_5 c i a2 h2 a3 h3 a4 h4 a5 h5 a6 h6 a18 x0 x1 x2 x3 x4 j hj) 1024 (hs1_5_cols1024 c i a2 h2 a3 h3 a4 h4 a5 h5 a6 h6 a18 x0 x1 x2 x3 x4)
  have w6_1280 := win_read a19.view (hs1_6 c i a2 h2 a3 h3 a4 h4 a5 h5 a6 h6 a18 x0 x1 x2 x3 x4 j hj) 1280 (hs1_6_cols1280 c i a2 h2 a3 h3 a4 h4 a5 h5 a6 h6 a18 x0 x1 x2 x3 x4)
  refine List.forall_mem_cons.2 ⟨v_piece j 640 (by omega) (by omega) 3 (inb := inb_S1x704x512_S1x64x128_0_640_384) (w6_1280 640 1408 inb_S736x1536_S80x128_648_1408 (by omega) (by omega)) (cw_read h10 x8 1408 inb_S3x1536_S3x128_0_1408) rfl, ?_⟩
  refine List.forall_mem_cons.2 ⟨v_piece j 576 (by omega) (by omega) 3 (inb := inb_S1x704x512_S1x64x128_0_576_384) (w6_1280 576 1408 inb_S736x1536_S80x128_584_1408 (by omega) (by omega)) (cw_read h10 x8 1408 inb_S3x1536_S3x128_0_1408) rfl, ?_⟩
  refine List.forall_mem_cons.2 ⟨v_piece j 512 (by omega) (by omega) 3 (inb := inb_S1x704x512_S1x64x128_0_512_384) (w6_1280 512 1408 inb_S736x1536_S80x128_520_1408 (by omega) (by omega)) (cw_read h10 x8 1408 inb_S3x1536_S3x128_0_1408) rfl, ?_⟩
  refine List.forall_mem_cons.2 ⟨v_piece j 448 (by omega) (by omega) 3 (inb := inb_S1x704x512_S1x64x128_0_448_384) (w6_1280 448 1408 inb_S736x1536_S80x128_456_1408 (by omega) (by omega)) (cw_read h10 x8 1408 inb_S3x1536_S3x128_0_1408) rfl, ?_⟩
  refine List.forall_mem_cons.2 ⟨v_piece j 384 (by omega) (by omega) 3 (inb := inb_S1x704x512_S1x64x128_0_384_384) (w6_1280 384 1408 inb_S736x1536_S80x128_392_1408 (by omega) (by omega)) (cw_read h10 x8 1408 inb_S3x1536_S3x128_0_1408) rfl, ?_⟩
  refine List.forall_mem_cons.2 ⟨v_piece j 320 (by omega) (by omega) 3 (inb := inb_S1x704x512_S1x64x128_0_320_384) (w6_1280 320 1408 inb_S736x1536_S80x128_328_1408 (by omega) (by omega)) (cw_read h10 x8 1408 inb_S3x1536_S3x128_0_1408) rfl, ?_⟩
  refine List.forall_mem_cons.2 ⟨v_piece j 256 (by omega) (by omega) 3 (inb := inb_S1x704x512_S1x64x128_0_256_384) (w6_1280 256 1408 inb_S736x1536_S80x128_264_1408 (by omega) (by omega)) (cw_read h10 x8 1408 inb_S3x1536_S3x128_0_1408) rfl, ?_⟩
  refine List.forall_mem_cons.2 ⟨v_piece j 192 (by omega) (by omega) 3 (inb := inb_S1x704x512_S1x64x128_0_192_384) (w6_1280 192 1408 inb_S736x1536_S80x128_200_1408 (by omega) (by omega)) (cw_read h10 x8 1408 inb_S3x1536_S3x128_0_1408) rfl, ?_⟩
  refine List.forall_mem_cons.2 ⟨v_piece j 128 (by omega) (by omega) 3 (inb := inb_S1x704x512_S1x64x128_0_128_384) (w6_1280 128 1408 inb_S736x1536_S80x128_136_1408 (by omega) (by omega)) (cw_read h10 x8 1408 inb_S3x1536_S3x128_0_1408) rfl, ?_⟩
  refine List.forall_mem_cons.2 ⟨v_piece j 64 (by omega) (by omega) 3 (inb := inb_S1x704x512_S1x64x128_0_64_384) (w6_1280 64 1408 inb_S736x1536_S80x128_72_1408 (by omega) (by omega)) (cw_read h10 x8 1408 inb_S3x1536_S3x128_0_1408) rfl, ?_⟩
  refine List.forall_mem_cons.2 ⟨v_piece0 j 3 (inb := inb_S1x704x512_S1x64x128_0_0_384) (w6_1280 0 1408 inb_S736x1536_S80x128_8_1408 (by omega) (by omega)) (cw_read h10 x8 1408 inb_S3x1536_S3x128_0_1408) (congrArg (BitVec.ofNat 32) hj) rfl, ?_⟩
  refine List.forall_mem_cons.2 ⟨v_piece j 640 (by omega) (by omega) 2 (inb := inb_S1x704x512_S1x64x128_0_640_256) (w6_1280 640 1280 inb_S736x1536_S80x128_648_1280 (by omega) (by omega)) (cw_read h10 x8 1280 inb_S3x1536_S3x128_0_1280) rfl, ?_⟩
  refine List.forall_mem_cons.2 ⟨v_piece j 576 (by omega) (by omega) 2 (inb := inb_S1x704x512_S1x64x128_0_576_256) (w6_1280 576 1280 inb_S736x1536_S80x128_584_1280 (by omega) (by omega)) (cw_read h10 x8 1280 inb_S3x1536_S3x128_0_1280) rfl, ?_⟩
  refine List.forall_mem_cons.2 ⟨v_piece j 512 (by omega) (by omega) 2 (inb := inb_S1x704x512_S1x64x128_0_512_256) (w6_1280 512 1280 inb_S736x1536_S80x128_520_1280 (by omega) (by omega)) (cw_read h10 x8 1280 inb_S3x1536_S3x128_0_1280) rfl, ?_⟩
  refine List.forall_mem_cons.2 ⟨v_piece j 448 (by omega) (by omega) 2 (inb := inb_S1x704x512_S1x64x128_0_448_256) (w6_1280 448 1280 inb_S736x1536_S80x128_456_1280 (by omega) (by omega)) (cw_read h10 x8 1280 inb_S3x1536_S3x128_0_1280) rfl, ?_⟩
  refine List.forall_mem_cons.2 ⟨v_piece j 384 (by omega) (by omega) 2 (inb := inb_S1x704x512_S1x64x128_0_384_256) (w6_1280 384 1280 inb_S736x1536_S80x128_392_1280 (by omega) (by omega)) (cw_read h10 x8 1280 inb_S3x1536_S3x128_0_1280) rfl, ?_⟩
  refine List.forall_mem_cons.2 ⟨v_piece j 320 (by omega) (by omega) 2 (inb := inb_S1x704x512_S1x64x128_0_320_256) (w6_1280 320 1280 inb_S736x1536_S80x128_328_1280 (by omega) (by omega)) (cw_read h10 x8 1280 inb_S3x1536_S3x128_0_1280) rfl, ?_⟩
  refine List.forall_mem_cons.2 ⟨v_piece j 256 (by omega) (by omega) 2 (inb := inb_S1x704x512_S1x64x128_0_256_256) (w6_1280 256 1280 inb_S736x1536_S80x128_264_1280 (by omega) (by omega)) (cw_read h10 x8 1280 inb_S3x1536_S3x128_0_1280) rfl, ?_⟩
  refine List.forall_mem_cons.2 ⟨v_piece j 192 (by omega) (by omega) 2 (inb := inb_S1x704x512_S1x64x128_0_192_256) (w6_1280 192 1280 inb_S736x1536_S80x128_200_1280 (by omega) (by omega)) (cw_read h10 x8 1280 inb_S3x1536_S3x128_0_1280) rfl, ?_⟩
  refine List.forall_mem_cons.2 ⟨v_piece j 128 (by omega) (by omega) 2 (inb := inb_S1x704x512_S1x64x128_0_128_256) (w6_1280 128 1280 inb_S736x1536_S80x128_136_1280 (by omega) (by omega)) (cw_read h10 x8 1280 inb_S3x1536_S3x128_0_1280) rfl, ?_⟩
  refine List.forall_mem_cons.2 ⟨v_piece j 64 (by omega) (by omega) 2 (inb := inb_S1x704x512_S1x64x128_0_64_256) (w6_1280 64 1280 inb_S736x1536_S80x128_72_1280 (by omega) (by omega)) (cw_read h10 x8 1280 inb_S3x1536_S3x128_0_1280) rfl, ?_⟩
  refine List.forall_mem_cons.2 ⟨v_piece0 j 2 (inb := inb_S1x704x512_S1x64x128_0_0_256) (w6_1280 0 1280 inb_S736x1536_S80x128_8_1280 (by omega) (by omega)) (cw_read h10 x8 1280 inb_S3x1536_S3x128_0_1280) (congrArg (BitVec.ofNat 32) hj) rfl, ?_⟩
  refine List.forall_mem_cons.2 ⟨v_piece j 640 (by omega) (by omega) 1 (inb := inb_S1x704x512_S1x64x128_0_640_128) (w5_1024 640 1152 inb_S736x1536_S80x128_648_1152 (by omega) (by omega)) (cw_read h10 x8 1152 inb_S3x1536_S3x128_0_1152) rfl, ?_⟩
  refine List.forall_mem_cons.2 ⟨v_piece j 576 (by omega) (by omega) 1 (inb := inb_S1x704x512_S1x64x128_0_576_128) (w5_1024 576 1152 inb_S736x1536_S80x128_584_1152 (by omega) (by omega)) (cw_read h10 x8 1152 inb_S3x1536_S3x128_0_1152) rfl, ?_⟩
  refine List.forall_mem_cons.2 ⟨v_piece j 512 (by omega) (by omega) 1 (inb := inb_S1x704x512_S1x64x128_0_512_128) (w5_1024 512 1152 inb_S736x1536_S80x128_520_1152 (by omega) (by omega)) (cw_read h10 x8 1152 inb_S3x1536_S3x128_0_1152) rfl, ?_⟩
  refine List.forall_mem_cons.2 ⟨v_piece j 448 (by omega) (by omega) 1 (inb := inb_S1x704x512_S1x64x128_0_448_128) (w5_1024 448 1152 inb_S736x1536_S80x128_456_1152 (by omega) (by omega)) (cw_read h10 x8 1152 inb_S3x1536_S3x128_0_1152) rfl, ?_⟩
  refine List.forall_mem_cons.2 ⟨v_piece j 384 (by omega) (by omega) 1 (inb := inb_S1x704x512_S1x64x128_0_384_128) (w5_1024 384 1152 inb_S736x1536_S80x128_392_1152 (by omega) (by omega)) (cw_read h10 x8 1152 inb_S3x1536_S3x128_0_1152) rfl, ?_⟩
  refine List.forall_mem_cons.2 ⟨v_piece j 320 (by omega) (by omega) 1 (inb := inb_S1x704x512_S1x64x128_0_320_128) (w5_1024 320 1152 inb_S736x1536_S80x128_328_1152 (by omega) (by omega)) (cw_read h10 x8 1152 inb_S3x1536_S3x128_0_1152) rfl, ?_⟩
  refine List.forall_mem_cons.2 ⟨v_piece j 256 (by omega) (by omega) 1 (inb := inb_S1x704x512_S1x64x128_0_256_128) (w5_1024 256 1152 inb_S736x1536_S80x128_264_1152 (by omega) (by omega)) (cw_read h10 x8 1152 inb_S3x1536_S3x128_0_1152) rfl, ?_⟩
  refine List.forall_mem_cons.2 ⟨v_piece j 192 (by omega) (by omega) 1 (inb := inb_S1x704x512_S1x64x128_0_192_128) (w5_1024 192 1152 inb_S736x1536_S80x128_200_1152 (by omega) (by omega)) (cw_read h10 x8 1152 inb_S3x1536_S3x128_0_1152) rfl, ?_⟩
  refine List.forall_mem_cons.2 ⟨v_piece j 128 (by omega) (by omega) 1 (inb := inb_S1x704x512_S1x64x128_0_128_128) (w5_1024 128 1152 inb_S736x1536_S80x128_136_1152 (by omega) (by omega)) (cw_read h10 x8 1152 inb_S3x1536_S3x128_0_1152) rfl, ?_⟩
  refine List.forall_mem_cons.2 ⟨v_piece j 64 (by omega) (by omega) 1 (inb := inb_S1x704x512_S1x64x128_0_64_128) (w5_1024 64 1152 inb_S736x1536_S80x128_72_1152 (by omega) (by omega)) (cw_read h10 x8 1152 inb_S3x1536_S3x128_0_1152) rfl, ?_⟩
  refine List.forall_mem_cons.2 ⟨v_piece0 j 1 (inb := inb_S1x704x512_S1x64x128_0_0_128) (w5_1024 0 1152 inb_S736x1536_S80x128_8_1152 (by omega) (by omega)) (cw_read h10 x8 1152 inb_S3x1536_S3x128_0_1152) (congrArg (BitVec.ofNat 32) hj) rfl, ?_⟩
  refine List.forall_mem_cons.2 ⟨v_piece j 640 (by omega) (by omega) 0 (inb := inb_S1x704x512_S1x64x128_0_640_0) (w5_1024 640 1024 inb_S736x1536_S80x128_648_1024 (by omega) (by omega)) (cw_read h10 x8 1024 inb_S3x1536_S3x128_0_1024) rfl, ?_⟩
  refine List.forall_mem_cons.2 ⟨v_piece j 576 (by omega) (by omega) 0 (inb := inb_S1x704x512_S1x64x128_0_576_0) (w5_1024 576 1024 inb_S736x1536_S80x128_584_1024 (by omega) (by omega)) (cw_read h10 x8 1024 inb_S3x1536_S3x128_0_1024) rfl, ?_⟩
  refine List.forall_mem_cons.2 ⟨v_piece j 512 (by omega) (by omega) 0 (inb := inb_S1x704x512_S1x64x128_0_512_0) (w5_1024 512 1024 inb_S736x1536_S80x128_520_1024 (by omega) (by omega)) (cw_read h10 x8 1024 inb_S3x1536_S3x128_0_1024) rfl, ?_⟩
  refine List.forall_mem_cons.2 ⟨v_piece j 448 (by omega) (by omega) 0 (inb := inb_S1x704x512_S1x64x128_0_448_0) (w5_1024 448 1024 inb_S736x1536_S80x128_456_1024 (by omega) (by omega)) (cw_read h10 x8 1024 inb_S3x1536_S3x128_0_1024) rfl, ?_⟩
  refine List.forall_mem_cons.2 ⟨v_piece j 384 (by omega) (by omega) 0 (inb := inb_S1x704x512_S1x64x128_0_384_0) (w5_1024 384 1024 inb_S736x1536_S80x128_392_1024 (by omega) (by omega)) (cw_read h10 x8 1024 inb_S3x1536_S3x128_0_1024) rfl, ?_⟩
  refine List.forall_mem_cons.2 ⟨v_piece j 320 (by omega) (by omega) 0 (inb := inb_S1x704x512_S1x64x128_0_320_0) (w5_1024 320 1024 inb_S736x1536_S80x128_328_1024 (by omega) (by omega)) (cw_read h10 x8 1024 inb_S3x1536_S3x128_0_1024) rfl, ?_⟩
  refine List.forall_mem_cons.2 ⟨v_piece j 256 (by omega) (by omega) 0 (inb := inb_S1x704x512_S1x64x128_0_256_0) (w5_1024 256 1024 inb_S736x1536_S80x128_264_1024 (by omega) (by omega)) (cw_read h10 x8 1024 inb_S3x1536_S3x128_0_1024) rfl, ?_⟩
  refine List.forall_mem_cons.2 ⟨v_piece j 192 (by omega) (by omega) 0 (inb := inb_S1x704x512_S1x64x128_0_192_0) (w5_1024 192 1024 inb_S736x1536_S80x128_200_1024 (by omega) (by omega)) (cw_read h10 x8 1024 inb_S3x1536_S3x128_0_1024) rfl, ?_⟩
  refine List.forall_mem_cons.2 ⟨v_piece j 128 (by omega) (by omega) 0 (inb := inb_S1x704x512_S1x64x128_0_128_0) (w5_1024 128 1024 inb_S736x1536_S80x128_136_1024 (by omega) (by omega)) (cw_read h10 x8 1024 inb_S3x1536_S3x128_0_1024) rfl, ?_⟩
  refine List.forall_mem_cons.2 ⟨v_piece j 64 (by omega) (by omega) 0 (inb := inb_S1x704x512_S1x64x128_0_64_0) (w5_1024 64 1024 inb_S736x1536_S80x128_72_1024 (by omega) (by omega)) (cw_read h10 x8 1024 inb_S3x1536_S3x128_0_1024) rfl, ?_⟩
  refine List.forall_mem_cons.2 ⟨v_piece0 j 0 (inb := inb_S1x704x512_S1x64x128_0_0_0) (w5_1024 0 1024 inb_S736x1536_S80x128_8_1024 (by omega) (by omega)) (cw_read h10 x8 1024 inb_S3x1536_S3x128_0_1024) (congrArg (BitVec.ofNat 32) hj) rfl, ?_⟩
  exact fun _ h => absurd h List.not_mem_nil

set_option maxHeartbeats 4000000 in
theorem sc_pieces (c : Dev nD) (i : grid0.Coords) (a2 : Memref sig .tc .vmem S1x16x1024 .f32) (h2 : a2.IsWhole) (a3 : Memref sig .tc .vmem S1x704x1024 .f32) (h3 : a3.IsWhole) (a4 : Memref sig .tc .vmem S1x16x1024 .f32) (h4 : a4.IsWhole) (a5 : Memref sig .tc .vmem S1x1024 .f32) (h5 : a5.IsWhole) (a6 : Memref sig .tc .vmem S1024x1536 .bf16) (h6 : a6.IsWhole) (a7 : Memref sig .tc .vmem S1024x512 .bf16) (h7 : a7.IsWhole) (a8 : Memref sig .tc .vmem S1024x1536 .bf16) (h8 : a8.IsWhole) (a9 : Memref sig .tc .vmem S1024x128 .bf16) (h9 : a9.IsWhole) (a10 : Memref sig .tc .vmem S3x1536 .f32) (h10 : a10.IsWhole) (a11 : Memref sig .tc .vmem S3x512 .f32) (h11 : a11.IsWhole) (a12 : Memref sig .tc .vmem S1x704x512 .bf16) (h12 : a12.IsWhole) (a13 : Memref sig .tc .vmem S1x704x512 .bf16) (h13 : a13.IsWhole) (a14 : Memref sig .tc .vmem S1x704x512 .bf16) (h14 : a14.IsWhole) (a15 : Memref sig .tc .vmem S1x704x512 .bf16) (h15 : a15.IsWhole) (a16 : Memref sig .tc .vmem S1x704x512 .bf16) (h16 : a16.IsWhole) (a17 : Memref sig .tc .vmem S1x704x128 .f32) (h17 : a17.IsWhole) (a18 : Memref sig .tc .vmem S736x1024 .bf16) (h18 : a18.IsWhole) (a19 : Memref sig .tc .vmem S736x1536 .f32) (h19 : a19.IsWhole) (a20 : Memref sig .tc .vmem S736x1536 .f32) (h20 : a20.IsWhole)
    (x0 : Vec Ideal S1x16x1024 .f32) (x1 : Vec Ideal S1x704x1024 .f32) (x2 : Vec Ideal S1x16x1024 .f32) (x3 : Vec Ideal S1x1024 .f32) (x4 : Vec Ideal S1024x1536 .bf16) (x5 : Vec Ideal S1024x512 .bf16) (x6 : Vec Ideal S1024x1536 .bf16) (x7 : Vec Ideal S1024x128 .bf16) (x8 : Vec Ideal S3x1536 .f32) (x9 : Vec Ideal S3x512 .f32)
    (j : Fin 3) (hj : (i 1).val = j.val) :
    ∀ p ∈ (kernelRun0_A c i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9).2.2.2.2.1, ∀ x, p.2 x = scE (pqE (hnE j x0 x1 x2 x3) x6) (fun a k => x9 (ix2 a k)) (p.1.emb x) := by
  unfold kernelRun0_A
  dsimp only
  have g3_0 := gate_read a20.view (hs2_3 c i a2 h2 a3 h3 a4 h4 a5 h5 a8 h8 a18 x0 x1 x2 x3 x6 j hj) 0 (hs2_3_cols0 c i a2 h2 a3 h3 a4 h4 a5 h5 a8 h8 a18 x0 x1 x2 x3 x6)
  have g6_256 := gate_read a20.view (hs2_6 c i a2 h2 a3 h3 a4 h4 a5 h5 a8 h8 a18 x0 x1 x2 x3 x6 j hj) 256 (hs2_6_cols256 c i a2 h2 a3 h3 a4 h4 a5 h5 a8 h8 a18 x0 x1 x2 x3 x6)
  have w3_1024 := win_read a20.view (hs2_3 c i a2 h2 a3 h3 a4 h4 a5 h5 a8 h8 a18 x0 x1 x2 x3 x6 j hj) 1024 (hs2_3_cols1024 c i a2 h2 a3 h3 a4 h4 a5 h5 a8 h8 a18 x0 x1 x2 x3 x6)
  have w3_512 := win_read a20.view (hs2_3 c i a2 h2 a3 h3 a4 h4 a5 h5 a8 h8 a18 x0 x1 x2 x3 x6 j hj) 512 (hs2_3_cols512 c i a2 h2 a3 h3 a4 h4 a5 h5 a8 h8 a18 x0 x1 x2 x3 x6)
  have w6_1280 := win_read a20.view (hs2_6 c i a2 h2 a3 h3 a4 h4 a5 h5 a8 h8 a18 x0 x1 x2 x3 x6 j hj) 1280 (hs2_6_cols1280 c i a2 h2 a3 h3 a4 h4 a5 h5 a8 h8 a18 x0 x1 x2 x3 x6)
  have w6_768 := win_read a20.view (hs2_6 c i a2 h2 a3 h3 a4 h4 a5 h5 a8 h8 a18 x0 x1 x2 x3 x6 j hj) 768 (hs2_6_cols768 c i a2 h2 a3 h3 a4 h4 a5 h5 a8 h8 a18 x0 x1 x2 x3 x6)
  refine List.forall_mem_cons.2 ⟨sc_piece 640 (by omega) 3 (inb := inb_S1x704x512_S1x64x128_0_640_384) (g6_256 640 384 inb_S736x1536_S64x128_656_384 (by omega) (by omega)) (w6_768 640 896 inb_S736x1536_S80x128_648_896 (by omega) (by omega)) (w6_1280 640 1408 inb_S736x1536_S80x128_648_1408 (by omega) (by omega)) (cw_read h11 x9 384 inb_S3x512_S3x128_0_384) rfl, ?_⟩
  refine List.forall_mem_cons.2 ⟨sc_piece 576 (by omega) 3 (inb := inb_S1x704x512_S1x64x128_0_576_384) (g6_256 576 384 inb_S736x1536_S64x128_592_384 (by omega) (by omega)) (w6_768 576 896 inb_S736x1536_S80x128_584_896 (by omega) (by omega)) (w6_1280 576 1408 inb_S736x1536_S80x128_584_1408 (by omega) (by omega)) (cw_read h11 x9 384 inb_S3x512_S3x128_0_384) rfl, ?_⟩
  refine List.forall_mem_cons.2 ⟨sc_piece 512 (by omega) 3 (inb := inb_S1x704x512_S1x64x128_0_512_384) (g6_256 512 384 inb_S736x1536_S64x128_528_384 (by omega) (by omega)) (w6_768 512 896 inb_S736x1536_S80x128_520_896 (by omega) (by omega)) (w6_1280 512 1408 inb_S736x1536_S80x128_520_1408 (by omega) (by omega)) (cw_read h11 x9 384 inb_S3x512_S3x128_0_384) rfl, ?_⟩
  refine List.forall_mem_cons.2 ⟨sc_piece 448 (by omega) 3 (inb := inb_S1x704x512_S1x64x128_0_448_384) (g6_256 448 384 inb_S736x1536_S64x128_464_384 (by omega) (by omega)) (w6_768 448 896 inb_S736x1536_S80x128_456_896 (by omega) (by omega)) (w6_1280 448 1408 inb_S736x1536_S80x128_456_1408 (by omega) (by omega)) (cw_read h11 x9 384 inb_S3x512_S3x128_0_384) rfl, ?_⟩
  refine List.forall_mem_cons.2 ⟨sc_piece 384 (by omega) 3 (inb := inb_S1x704x512_S1x64x128_0_384_384) (g6_256 384 384 inb_S736x1536_S64x128_400_384 (by omega) (by omega)) (w6_768 384 896 inb_S736x1536_S80x128_392_896 (by omega) (by omega)) (w6_1280 384 1408 inb_S736x1536_S80x128_392_1408 (by omega) (by omega)) (cw_read h11 x9 384 inb_S3x512_S3x128_0_384) rfl, ?_⟩
  refine List.forall_mem_cons.2 ⟨sc_piece 320 (by omega) 3 (inb := inb_S1x704x512_S1x64x128_0_320_384) (g6_256 320 384 inb_S736x1536_S64x128_336_384 (by omega) (by omega)) (w6_768 320 896 inb_S736x1536_S80x128_328_896 (by omega) (by omega)) (w6_1280 320 1408 inb_S736x1536_S80x128_328_1408 (by omega) (by omega)) (cw_read h11 x9 384 inb_S3x512_S3x128_0_384) rfl, ?_⟩
  refine List.forall_mem_cons.2 ⟨sc_piece 256 (by omega) 3 (inb := inb_S1x704x512_S1x64x128_0_256_384) (g6_256 256 384 inb_S736x1536_S64x128_272_384 (by omega) (by omega)) (w6_768 256 896 inb_S736x1536_S80x128_264_896 (by omega) (by omega)) (w6_1280 256 1408 inb_S736x1536_S80x128_264_1408 (by omega) (by omega)) (cw_read h11 x9 384 inb_S3x512_S3x128_0_384) rfl, ?_⟩
  refine List.forall_mem_cons.2 ⟨sc_piece 192 (by omega) 3 (inb := inb_S1x704x512_S1x64x128_0_192_384) (g6_256 192 384 inb_S736x1536_S64x128_208_384 (by omega) (by omega)) (w6_768 192 896 inb_S736x1536_S80x128_200_896 (by omega) (by omega)) (w6_1280 192 1408 inb_S736x1536_S80x128_200_1408 (by omega) (by omega)) (cw_read h11 x9 384 inb_S3x512_S3x128_0_384) rfl, ?_⟩
  refine List.forall_mem_cons.2 ⟨sc_piece 128 (by omega) 3 (inb := inb_S1x704x512_S1x64x128_0_128_384) (g6_256 128 384 inb_S736x1536_S64x128_144_384 (by omega) (by omega)) (w6_768 128 896 inb_S736x1536_S80x128_136_896 (by omega) (by omega)) (w6_1280 128 1408 inb_S736x1536_S80x128_136_1408 (by omega) (by omega)) (cw_read h11 x9 384 inb_S3x512_S3x128_0_384) rfl, ?_⟩
  refine List.forall_mem_cons.2 ⟨sc_piece 64 (by omega) 3 (inb := inb_S1x704x512_S1x64x128_0_64_384) (g6_256 64 384 inb_S736x1536_S64x128_80_384 (by omega) (by omega)) (w6_768 64 896 inb_S736x1536_S80x128_72_896 (by omega) (by omega)) (w6_1280 64 1408 inb_S736x1536_S80x128_72_1408 (by omega) (by omega)) (cw_read h11 x9 384 inb_S3x512_S3x128_0_384) rfl, ?_⟩
  refine List.forall_mem_cons.2 ⟨sc_piece 0 (by omega) 3 (inb := inb_S1x704x512_S1x64x128_0_0_384) (g6_256 0 384 inb_S736x1536_S64x128_16_384 (by omega) (by omega)) (w6_768 0 896 inb_S736x1536_S80x128_8_896 (by omega) (by omega)) (w6_1280 0 1408 inb_S736x1536_S80x128_8_1408 (by omega) (by omega)) (cw_read h11 x9 384 inb_S3x512_S3x128_0_384) rfl, ?_⟩
  refine List.forall_mem_cons.2 ⟨sc_piece 640 (by omega) 2 (inb := inb_S1x704x512_S1x64x128_0_640_256) (g6_256 640 256 inb_S736x1536_S64x128_656_256 (by omega) (by omega)) (w6_768 640 768 inb_S736x1536_S80x128_648_768 (by omega) (by omega)) (w6_1280 640 1280 inb_S736x1536_S80x128_648_1280 (by omega) (by omega)) (cw_read h11 x9 256 inb_S3x512_S3x128_0_256) rfl, ?_⟩
  refine List.forall_mem_cons.2 ⟨sc_piece 576 (by omega) 2 (inb := inb_S1x704x512_S1x64x128_0_576_256) (g6_256 576 256 inb_S736x1536_S64x128_592_256 (by omega) (by omega)) (w6_768 576 768 inb_S736x1536_S80x128_584_768 (by omega) (by omega)) (w6_1280 576 1280 inb_S736x1536_S80x128_584_1280 (by omega) (by omega)) (cw_read h11 x9 256 inb_S3x512_S3x128_0_256) rfl, ?_⟩
  refine List.forall_mem_cons.2 ⟨sc_piece 512 (by omega) 2 (inb := inb_S1x704x512_S1x64x128_0_512_256) (g6_256 512 256 inb_S736x1536_S64x128_528_256 (by omega) (by omega)) (w6_768 512 768 inb_S736x1536_S80x128_520_768 (by omega) (by omega)) (w6_1280 512 1280 inb_S736x1536_S80x128_520_1280 (by omega) (by omega)) (cw_read h11 x9 256 inb_S3x512_S3x128_0_256) rfl, ?_⟩
  refine List.forall_mem_cons.2 ⟨sc_piece 448 (by omega) 2 (inb := inb_S1x704x512_S1x64x128_0_448_256) (g6_256 448 256 inb_S736x1536_S64x128_464_256 (by omega) (by omega)) (w6_768 448 768 inb_S736x1536_S80x128_456_768 (by omega) (by omega)) (w6_1280 448 1280 inb_S736x1536_S80x128_456_1280 (by omega) (by omega)) (cw_read h11 x9 256 inb_S3x512_S3x128_0_256) rfl, ?_⟩
  refine List.forall_mem_cons.2 ⟨sc_piece 384 (by omega) 2 (inb := inb_S1x704x512_S1x64x128_0_384_256) (g6_256 384 256 inb_S736x1536_S64x128_400_256 (by omega) (by omega)) (w6_768 384 768 inb_S736x1536_S80x128_392_768 (by omega) (by omega)) (w6_1280 384 1280 inb_S736x1536_S80x128_392_1280 (by omega) (by omega)) (cw_read h11 x9 256 inb_S3x512_S3x128_0_256) rfl, ?_⟩
  refine List.forall_mem_cons.2 ⟨sc_piece 320 (by omega) 2 (inb := inb_S1x704x512_S1x64x128_0_320_256) (g6_256 320 256 inb_S736x1536_S64x128_336_256 (by omega) (by omega)) (w6_768 320 768 inb_S736x1536_S80x128_328_768 (by omega) (by omega)) (w6_1280 320 1280 inb_S736x1536_S80x128_328_1280 (by omega) (by omega)) (cw_read h11 x9 256 inb_S3x512_S3x128_0_256) rfl, ?_⟩
  refine List.forall_mem_cons.2 ⟨sc_piece 256 (by omega) 2 (inb := inb_S1x704x512_S1x64x128_0_256_256) (g6_256 256 256 inb_S736x1536_S64x128_272_256 (by omega) (by omega)) (w6_768 256 768 inb_S736x1536_S80x128_264_768 (by omega) (by omega)) (w6_1280 256 1280 inb_S736x1536_S80x128_264_1280 (by omega) (by omega)) (cw_read h11 x9 256 inb_S3x512_S3x128_0_256) rfl, ?_⟩
  refine List.forall_mem_cons.2 ⟨sc_piece 192 (by omega) 2 (inb := inb_S1x704x512_S1x64x128_0_192_256) (g6_256 192 256 inb_S736x1536_S64x128_208_256 (by omega) (by omega)) (w6_768 192 768 inb_S736x1536_S80x128_200_768 (by omega) (by omega)) (w6_1280 192 1280 inb_S736x1536_S80x128_200_1280 (by omega) (by omega)) (cw_read h11 x9 256 inb_S3x512_S3x128_0_256) rfl, ?_⟩
  refine List.forall_mem_cons.2 ⟨sc_piece 128 (by omega) 2 (inb := inb_S1x704x512_S1x64x128_0_128_256) (g6_256 128 256 inb_S736x1536_S64x128_144_256 (by omega) (by omega)) (w6_768 128 768 inb_S736x1536_S80x128_136_768 (by omega) (by omega)) (w6_1280 128 1280 inb_S736x1536_S80x128_136_1280 (by omega) (by omega)) (cw_read h11 x9 256 inb_S3x512_S3x128_0_256) rfl, ?_⟩
  refine List.forall_mem_cons.2 ⟨sc_piece 64 (by omega) 2 (inb := inb_S1x704x512_S1x64x128_0_64_256) (g6_256 64 256 inb_S736x1536_S64x128_80_256 (by omega) (by omega)) (w6_768 64 768 inb_S736x1536_S80x128_72_768 (by omega) (by omega)) (w6_1280 64 1280 inb_S736x1536_S80x128_72_1280 (by omega) (by omega)) (cw_read h11 x9 256 inb_S3x512_S3x128_0_256) rfl, ?_⟩
  refine List.forall_mem_cons.2 ⟨sc_piece 0 (by omega) 2 (inb := inb_S1x704x512_S1x64x128_0_0_256) (g6_256 0 256 inb_S736x1536_S64x128_16_256 (by omega) (by omega)) (w6_768 0 768 inb_S736x1536_S80x128_8_768 (by omega) (by omega)) (w6_1280 0 1280 inb_S736x1536_S80x128_8_1280 (by omega) (by omega)) (cw_read h11 x9 256 inb_S3x512_S3x128_0_256) rfl, ?_⟩
  refine List.forall_mem_cons.2 ⟨sc_piece 640 (by omega) 1 (inb := inb_S1x704x512_S1x64x128_0_640_128) (g3_0 640 128 inb_S736x1536_S64x128_656_128 (by omega) (by omega)) (w3_512 640 640 inb_S736x1536_S80x128_648_640 (by omega) (by omega)) (w3_1024 640 1152 inb_S736x1536_S80x128_648_1152 (by omega) (by omega)) (cw_read h11 x9 128 inb_S3x512_S3x128_0_128) rfl, ?_⟩
  refine List.forall_mem_cons.2 ⟨sc_piece 576 (by omega) 1 (inb := inb_S1x704x512_S1x64x128_0_576_128) (g3_0 576 128 inb_S736x1536_S64x128_592_128 (by omega) (by omega)) (w3_512 576 640 inb_S736x1536_S80x128_584_640 (by omega) (by omega)) (w3_1024 576 1152 inb_S736x1536_S80x128_584_1152 (by omega) (by omega)) (cw_read h11 x9 128 inb_S3x512_S3x128_0_128) rfl, ?_⟩
  refine List.forall_mem_cons.2 ⟨sc_piece 512 (by omega) 1 (inb := inb_S1x704x512_S1x64x128_0_512_128) (g3_0 512 128 inb_S736x1536_S64x128_528_128 (by omega) (by omega)) (w3_512 512 640 inb_S736x1536_S80x128_520_640 (by omega) (by omega)) (w3_1024 512 1152 inb_S736x1536_S80x128_520_1152 (by omega) (by omega)) (cw_read h11 x9 128 inb_S3x512_S3x128_0_128) rfl, ?_⟩
  refine List.forall_mem_cons.2 ⟨sc_piece 448 (by omega) 1 (inb := inb_S1x704x512_S1x64x128_0_448_128) (g3_0 448 128 inb_S736x1536_S64x128_464_128 (by omega) (by omega)) (w3_512 448 640 inb_S736x1536_S80x128_456_640 (by omega) (by omega)) (w3_1024 448 1152 inb_S736x1536_S80x128_456_1152 (by omega) (by omega)) (cw_read h11 x9 128 inb_S3x512_S3x128_0_128) rfl, ?_⟩
  refine List.forall_mem_cons.2 ⟨sc_piece 384 (by omega) 1 (inb := inb_S1x704x512_S1x64x128_0_384_128) (g3_0 384 128 inb_S736x1536_S64x128_400_128 (by omega) (by omega)) (w3_512 384 640 inb_S736x1536_S80x128_392_640 (by omega) (by omega)) (w3_1024 384 1152 inb_S736x1536_S80x128_392_1152 (by omega) (by omega)) (cw_read h11 x9 128 inb_S3x512_S3x128_0_128) rfl, ?_⟩
  refine List.forall_mem_cons.2 ⟨sc_piece 320 (by omega) 1 (inb := inb_S1x704x512_S1x64x128_0_320_128) (g3_0 320 128 inb_S736x1536_S64x128_336_128 (by omega) (by omega)) (w3_512 320 640 inb_S736x1536_S80x128_328_640 (by omega) (by omega)) (w3_1024 320 1152 inb_S736x1536_S80x128_328_1152 (by omega) (by omega)) (cw_read h11 x9 128 inb_S3x512_S3x128_0_128) rfl, ?_⟩
  refine List.forall_mem_cons.2 ⟨sc_piece 256 (by omega) 1 (inb := inb_S1x704x512_S1x64x128_0_256_128) (g3_0 256 128 inb_S736x1536_S64x128_272_128 (by omega) (by omega)) (w3_512 256 640 inb_S736x1536_S80x128_264_640 (by omega) (by omega)) (w3_1024 256 1152 inb_S736x1536_S80x128_264_1152 (by omega) (by omega)) (cw_read h11 x9 128 inb_S3x512_S3x128_0_128) rfl, ?_⟩
  refine List.forall_mem_cons.2 ⟨sc_piece 192 (by omega) 1 (inb := inb_S1x704x512_S1x64x128_0_192_128) (g3_0 192 128 inb_S736x1536_S64x128_208_128 (by omega) (by omega)) (w3_512 192 640 inb_S736x1536_S80x128_200_640 (by omega) (by omega)) (w3_1024 192 1152 inb_S736x1536_S80x128_200_1152 (by omega) (by omega)) (cw_read h11 x9 128 inb_S3x512_S3x128_0_128) rfl, ?_⟩
  refine List.forall_mem_cons.2 ⟨sc_piece 128 (by omega) 1 (inb := inb_S1x704x512_S1x64x128_0_128_128) (g3_0 128 128 inb_S736x1536_S64x128_144_128 (by omega) (by omega)) (w3_512 128 640 inb_S736x1536_S80x128_136_640 (by omega) (by omega)) (w3_1024 128 1152 inb_S736x1536_S80x128_136_1152 (by omega) (by omega)) (cw_read h11 x9 128 inb_S3x512_S3x128_0_128) rfl, ?_⟩
  refine List.forall_mem_cons.2 ⟨sc_piece 64 (by omega) 1 (inb := inb_S1x704x512_S1x64x128_0_64_128) (g3_0 64 128 inb_S736x1536_S64x128_80_128 (by omega) (by omega)) (w3_512 64 640 inb_S736x1536_S80x128_72_640 (by omega) (by omega)) (w3_1024 64 1152 inb_S736x1536_S80x128_72_1152 (by omega) (by omega)) (cw_read h11 x9 128 inb_S3x512_S3x128_0_128) rfl, ?_⟩
  refine List.forall_mem_cons.2 ⟨sc_piece 0 (by omega) 1 (inb := inb_S1x704x512_S1x64x128_0_0_128) (g3_0 0 128 inb_S736x1536_S64x128_16_128 (by omega) (by omega)) (w3_512 0 640 inb_S736x1536_S80x128_8_640 (by omega) (by omega)) (w3_1024 0 1152 inb_S736x1536_S80x128_8_1152 (by omega) (by omega)) (cw_read h11 x9 128 inb_S3x512_S3x128_0_128) rfl, ?_⟩
  refine List.forall_mem_cons.2 ⟨sc_piece 640 (by omega) 0 (inb := inb_S1x704x512_S1x64x128_0_640_0) (g3_0 640 0 inb_S736x1536_S64x128_656_0 (by omega) (by omega)) (w3_512 640 512 inb_S736x1536_S80x128_648_512 (by omega) (by omega)) (w3_1024 640 1024 inb_S736x1536_S80x128_648_1024 (by omega) (by omega)) (cw_read h11 x9 0 inb_S3x512_S3x128_0_0) rfl, ?_⟩
  refine List.forall_mem_cons.2 ⟨sc_piece 576 (by omega) 0 (inb := inb_S1x704x512_S1x64x128_0_576_0) (g3_0 576 0 inb_S736x1536_S64x128_592_0 (by omega) (by omega)) (w3_512 576 512 inb_S736x1536_S80x128_584_512 (by omega) (by omega)) (w3_1024 576 1024 inb_S736x1536_S80x128_584_1024 (by omega) (by omega)) (cw_read h11 x9 0 inb_S3x512_S3x128_0_0) rfl, ?_⟩
  refine List.forall_mem_cons.2 ⟨sc_piece 512 (by omega) 0 (inb := inb_S1x704x512_S1x64x128_0_512_0) (g3_0 512 0 inb_S736x1536_S64x128_528_0 (by omega) (by omega)) (w3_512 512 512 inb_S736x1536_S80x128_520_512 (by omega) (by omega)) (w3_1024 512 1024 inb_S736x1536_S80x128_520_1024 (by omega) (by omega)) (cw_read h11 x9 0 inb_S3x512_S3x128_0_0) rfl, ?_⟩
  refine List.forall_mem_cons.2 ⟨sc_piece 448 (by omega) 0 (inb := inb_S1x704x512_S1x64x128_0_448_0) (g3_0 448 0 inb_S736x1536_S64x128_464_0 (by omega) (by omega)) (w3_512 448 512 inb_S736x1536_S80x128_456_512 (by omega) (by omega)) (w3_1024 448 1024 inb_S736x1536_S80x128_456_1024 (by omega) (by omega)) (cw_read h11 x9 0 inb_S3x512_S3x128_0_0) rfl, ?_⟩
  refine List.forall_mem_cons.2 ⟨sc_piece 384 (by omega) 0 (inb := inb_S1x704x512_S1x64x128_0_384_0) (g3_0 384 0 inb_S736x1536_S64x128_400_0 (by omega) (by omega)) (w3_512 384 512 inb_S736x1536_S80x128_392_512 (by omega) (by omega)) (w3_1024 384 1024 inb_S736x1536_S80x128_392_1024 (by omega) (by omega)) (cw_read h11 x9 0 inb_S3x512_S3x128_0_0) rfl, ?_⟩
  refine List.forall_mem_cons.2 ⟨sc_piece 320 (by omega) 0 (inb := inb_S1x704x512_S1x64x128_0_320_0) (g3_0 320 0 inb_S736x1536_S64x128_336_0 (by omega) (by omega)) (w3_512 320 512 inb_S736x1536_S80x128_328_512 (by omega) (by omega)) (w3_1024 320 1024 inb_S736x1536_S80x128_328_1024 (by omega) (by omega)) (cw_read h11 x9 0 inb_S3x512_S3x128_0_0) rfl, ?_⟩
  refine List.forall_mem_cons.2 ⟨sc_piece 256 (by omega) 0 (inb := inb_S1x704x512_S1x64x128_0_256_0) (g3_0 256 0 inb_S736x1536_S64x128_272_0 (by omega) (by omega)) (w3_512 256 512 inb_S736x1536_S80x128_264_512 (by omega) (by omega)) (w3_1024 256 1024 inb_S736x1536_S80x128_264_1024 (by omega) (by omega)) (cw_read h11 x9 0 inb_S3x512_S3x128_0_0) rfl, ?_⟩
  refine List.forall_mem_cons.2 ⟨sc_piece 192 (by omega) 0 (inb := inb_S1x704x512_S1x64x128_0_192_0) (g3_0 192 0 inb_S736x1536_S64x128_208_0 (by omega) (by omega)) (w3_512 192 512 inb_S736x1536_S80x128_200_512 (by omega) (by omega)) (w3_1024 192 1024 inb_S736x1536_S80x128_200_1024 (by omega) (by omega)) (cw_read h11 x9 0 inb_S3x512_S3x128_0_0) rfl, ?_⟩
  refine List.forall_mem_cons.2 ⟨sc_piece 128 (by omega) 0 (inb := inb_S1x704x512_S1x64x128_0_128_0) (g3_0 128 0 inb_S736x1536_S64x128_144_0 (by omega) (by omega)) (w3_512 128 512 inb_S736x1536_S80x128_136_512 (by omega) (by omega)) (w3_1024 128 1024 inb_S736x1536_S80x128_136_1024 (by omega) (by omega)) (cw_read h11 x9 0 inb_S3x512_S3x128_0_0) rfl, ?_⟩
  refine List.forall_mem_cons.2 ⟨sc_piece 64 (by omega) 0 (inb := inb_S1x704x512_S1x64x128_0_64_0) (g3_0 64 0 inb_S736x1536_S64x128_80_0 (by omega) (by omega)) (w3_512 64 512 inb_S736x1536_S80x128_72_512 (by omega) (by omega)) (w3_1024 64 1024 inb_S736x1536_S80x128_72_1024 (by omega) (by omega)) (cw_read h11 x9 0 inb_S3x512_S3x128_0_0) rfl, ?_⟩
  refine List.forall_mem_cons.2 ⟨sc_piece 0 (by omega) 0 (inb := inb_S1x704x512_S1x64x128_0_0_0) (g3_0 0 0 inb_S736x1536_S64x128_16_0 (by omega) (by omega)) (w3_512 0 512 inb_S736x1536_S80x128_8_512 (by omega) (by omega)) (w3_1024 0 1024 inb_S736x1536_S80x128_8_1024 (by omega) (by omega)) (cw_read h11 x9 0 inb_S3x512_S3x128_0_0) rfl, ?_⟩
  exact fun _ h => absurd h List.not_mem_nil

end Cert.Proof.InProj

end
-- ==== Proof.InProj.Out.lean ====
/- What one grid step of the input projection's kernel leaves in its six output blocks, over the extended reals. -/
module

public import proofs.«01_k».proof.Proof.InProj.Pieces

@[expose] public section

set_option maxRecDepth 16384

noncomputable section

open Idealize.ShloMosaic Idealize.ShloMosaic.TcCoe Idealize.SL.Sem Idealize.ShloMosaic.Tactic

namespace Cert.Proof.InProj

open Cert.Kernel3Ideal Cert.Kernel3Ideal.Gen

theorem q_out (c : Dev nD) (i : grid0.Coords) (a2 : Memref sig .tc .vmem S1x16x1024 .f32) (h2 : a2.IsWhole) (a3 : Memref sig .tc .vmem S1x704x1024 .f32) (h3 : a3.IsWhole) (a4 : Memref sig .tc .vmem S1x16x1024 .f32) (h4 : a4.IsWhole) (a5 : Memref sig .tc .vmem S1x1024 .f32) (h5 : a5.IsWhole) (a6 : Memref sig .tc .vmem S1024x1536 .bf16) (h6 : a6.IsWhole) (a7 : Memref sig .tc .vmem S1024x512 .bf16) (h7 : a7.IsWhole) (a8 : Memref sig .tc .vmem S1024x1536 .bf16) (h8 : a8.IsWhole) (a9 : Memref sig .tc .vmem S1024x128 .bf16) (h9 : a9.IsWhole) (a10 : Memref sig .tc .vmem S3x1536 .f32) (h10 : a10.IsWhole) (a11 : Memref sig .tc .vmem S3x512 .f32) (h11 : a11.IsWhole) (a12 : Memref sig .tc .vmem S1x704x512 .bf16) (h12 : a12.IsWhole) (a13 : Memref sig .tc .vmem S1x704x512 .bf16) (h13 : a13.IsWhole) (a14 : Memref sig .tc .vmem S1x704x512 .bf16) (h14 : a14.IsWhole) (a15 : Memref sig .tc .vmem S1x704x512 .bf16) (h15 : a15.IsWhole) (a16 : Memref sig .tc .vmem S1x704x512 .bf16) (h16 : a16.IsWhole) (a17 : Memref sig .tc .vmem S1x704x128 .f32) (h17 : a17.IsWhole) (a18 : Memref sig .tc .vmem S736x1024 .bf16) (h18 : a18.IsWhole) (a19 : Memref sig .tc .vmem S736x1536 .f32) (h19 : a19.IsWhole) (a20 : Memref sig .tc .vmem S736x1536 .f32) (h20 : a20.IsWhole)
    (x0 : Vec Ideal S1x16x1024 .f32) (x1 : Vec Ideal S1x704x1024 .f32) (x2 : Vec Ideal S1x16x1024 .f32) (x3 : Vec Ideal S1x1024 .f32) (x4 : Vec Ideal S1024x1536 .bf16) (x5 : Vec Ideal S1024x512 .bf16) (x6 : Vec Ideal S1024x1536 .bf16) (x7 : Vec Ideal S1024x128 .bf16) (x8 : Vec Ideal S3x1536 .f32) (x9 : Vec Ideal S3x512 .f32)
    (j : Fin 3) (hj : (i 1).val = j.val) : out0_A_10 c i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9 = qE (pqE (hnE j x0 x1 x2 x3) x4) (fun a k => x8 (ix2 a k)) j := by
  unfold out0_A_10
  rw [View.read_writes_eq_canon _ _ _ (cover0_A_10 c i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9)]
  funext y
  exact View.canon_apply_of_pieces (Val := Elt Ideal) (S := S1x704x512) (e := .bf16) (qE (pqE (hnE j x0 x1 x2 x3) x4) (fun a k => x8 (ix2 a k)) j) _ (q_pieces c i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9 j hj) y
    (cover0_A_10 c i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9 y)

theorem k_out (c : Dev nD) (i : grid0.Coords) (a2 : Memref sig .tc .vmem S1x16x1024 .f32) (h2 : a2.IsWhole) (a3 : Memref sig .tc .vmem S1x704x1024 .f32) (h3 : a3.IsWhole) (a4 : Memref sig .tc .vmem S1x16x1024 .f32) (h4 : a4.IsWhole) (a5 : Memref sig .tc .vmem S1x1024 .f32) (h5 : a5.IsWhole) (a6 : Memref sig .tc .vmem S1024x1536 .bf16) (h6 : a6.IsWhole) (a7 : Memref sig .tc .vmem S1024x512 .bf16) (h7 : a7.IsWhole) (a8 : Memref sig .tc .vmem S1024x1536 .bf16) (h8 : a8.IsWhole) (a9 : Memref sig .tc .vmem S1024x128 .bf16) (h9 : a9.IsWhole) (a10 : Memref sig .tc .vmem S3x1536 .f32) (h10 : a10.IsWhole) (a11 : Memref sig .tc .vmem S3x512 .f32) (h11 : a11.IsWhole) (a12 : Memref sig .tc .vmem S1x704x512 .bf16) (h12 : a12.IsWhole) (a13 : Memref sig .tc .vmem S1x704x512 .bf16) (h13 : a13.IsWhole) (a14 : Memref sig .tc .vmem S1x704x512 .bf16) (h14 : a14.IsWhole) (a15 : Memref sig .tc .vmem S1x704x512 .bf16) (h15 : a15.IsWhole) (a16 : Memref sig .tc .vmem S1x704x512 .bf16) (h16 : a16.IsWhole) (a17 : Memref sig .tc .vmem S1x704x128 .f32) (h17 : a17.IsWhole) (a18 : Memref sig .tc .vmem S736x1024 .bf16) (h18 : a18.IsWhole) (a19 : Memref sig .tc .vmem S736x1536 .f32) (h19 : a19.IsWhole) (a20 : Memref sig .tc .vmem S736x1536 .f32) (h20 : a20.IsWhole)
    (x0 : Vec Ideal S1x16x1024 .f32) (x1 : Vec Ideal S1x704x1024 .f32) (x2 : Vec Ideal S1x16x1024 .f32) (x3 : Vec Ideal S1x1024 .f32) (x4 : Vec Ideal S1024x1536 .bf16) (x5 : Vec Ideal S1024x512 .bf16) (x6 : Vec Ideal S1024x1536 .bf16) (x7 : Vec Ideal S1024x128 .bf16) (x8 : Vec Ideal S3x1536 .f32) (x9 : Vec Ideal S3x512 .f32)
    (j : Fin 3) (hj : (i 1).val = j.val) : out0_A_11 c i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9 = kE (pqE (hnE j x0 x1 x2 x3) x4) (fun a k => x8 (ix2 a k)) j := by
  unfold out0_A_11
  rw [View.read_writes_eq_canon _ _ _ (cover0_A_11 c i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9)]
  funext y
  exact View.canon_apply_of_pieces (Val := Elt Ideal) (S := S1x704x512) (e := .bf16) (kE (pqE (hnE j x0 x1 x2 x3) x4) (fun a k => x8 (ix2 a k)) j) _ (k_pieces c i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9 j hj) y
    (cover0_A_11 c i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9 y)

theorem v_out (c : Dev nD) (i : grid0.Coords) (a2 : Memref sig .tc .vmem S1x16x1024 .f32) (h2 : a2.IsWhole) (a3 : Memref sig .tc .vmem S1x704x1024 .f32) (h3 : a3.IsWhole) (a4 : Memref sig .tc .vmem S1x16x1024 .f32) (h4 : a4.IsWhole) (a5 : Memref sig .tc .vmem S1x1024 .f32) (h5 : a5.IsWhole) (a6 : Memref sig .tc .vmem S1024x1536 .bf16) (h6 : a6.IsWhole) (a7 : Memref sig .tc .vmem S1024x512 .bf16) (h7 : a7.IsWhole) (a8 : Memref sig .tc .vmem S1024x1536 .bf16) (h8 : a8.IsWhole) (a9 : Memref sig .tc .vmem S1024x128 .bf16) (h9 : a9.IsWhole) (a10 : Memref sig .tc .vmem S3x1536 .f32) (h10 : a10.IsWhole) (a11 : Memref sig .tc .vmem S3x512 .f32) (h11 : a11.IsWhole) (a12 : Memref sig .tc .vmem S1x704x512 .bf16) (h12 : a12.IsWhole) (a13 : Memref sig .tc .vmem S1x704x512 .bf16) (h13 : a13.IsWhole) (a14 : Memref sig .tc .vmem S1x704x512 .bf16) (h14 : a14.IsWhole) (a15 : Memref sig .tc .vmem S1x704x512 .bf16) (h15 : a15.IsWhole) (a16 : Memref sig .tc .vmem S1x704x512 .bf16) (h16 : a16.IsWhole) (a17 : Memref sig .tc .vmem S1x704x128 .f32) (h17 : a17.IsWhole) (a18 : Memref sig .tc .vmem S736x1024 .bf16) (h18 : a18.IsWhole) (a19 : Memref sig .tc .vmem S736x1536 .f32) (h19 : a19.IsWhole) (a20 : Memref sig .tc .vmem S736x1536 .f32) (h20 : a20.IsWhole)
    (x0 : Vec Ideal S1x16x1024 .f32) (x1 : Vec Ideal S1x704x1024 .f32) (x2 : Vec Ideal S1x16x1024 .f32) (x3 : Vec Ideal S1x1024 .f32) (x4 : Vec Ideal S1024x1536 .bf16) (x5 : Vec Ideal S1024x512 .bf16) (x6 : Vec Ideal S1024x1536 .bf16) (x7 : Vec Ideal S1024x128 .bf16) (x8 : Vec Ideal S3x1536 .f32) (x9 : Vec Ideal S3x512 .f32)
    (j : Fin 3) (hj : (i 1).val = j.val) : out0_A_12 c i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9 = vE (pqE (hnE j x0 x1 x2 x3) x4) (fun a k => x8 (ix2 a k)) j := by
  unfold out0_A_12
  rw [View.read_writes_eq_canon _ _ _ (cover0_A_12 c i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9)]
  funext y
  exact View.canon_apply_of_pieces (Val := Elt Ideal) (S := S1x704x512) (e := .bf16) (vE (pqE (hnE j x0 x1 x2 x3) x4) (fun a k => x8 (ix2 a k)) j) _ (v_pieces c i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9 j hj) y
    (cover0_A_12 c i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9 y)

theorem sc_out (c : Dev nD) (i : grid0.Coords) (a2 : Memref sig .tc .vmem S1x16x1024 .f32) (h2 : a2.IsWhole) (a3 : Memref sig .tc .vmem S1x704x1024 .f32) (h3 : a3.IsWhole) (a4 : Memref sig .tc .vmem S1x16x1024 .f32) (h4 : a4.IsWhole) (a5 : Memref sig .tc .vmem S1x1024 .f32) (h5 : a5.IsWhole) (a6 : Memref sig .tc .vmem S1024x1536 .bf16) (h6 : a6.IsWhole) (a7 : Memref sig .tc .vmem S1024x512 .bf16) (h7 : a7.IsWhole) (a8 : Memref sig .tc .vmem S1024x1536 .bf16) (h8 : a8.IsWhole) (a9 : Memref sig .tc .vmem S1024x128 .bf16) (h9 : a9.IsWhole) (a10 : Memref sig .tc .vmem S3x1536 .f32) (h10 : a10.IsWhole) (a11 : Memref sig .tc .vmem S3x512 .f32) (h11 : a11.IsWhole) (a12 : Memref sig .tc .vmem S1x704x512 .bf16) (h12 : a12.IsWhole) (a13 : Memref sig .tc .vmem S1x704x512 .bf16) (h13 : a13.IsWhole) (a14 : Memref sig .tc .vmem S1x704x512 .bf16) (h14 : a14.IsWhole) (a15 : Memref sig .tc .vmem S1x704x512 .bf16) (h15 : a15.IsWhole) (a16 : Memref sig .tc .vmem S1x704x512 .bf16) (h16 : a16.IsWhole) (a17 : Memref sig .tc .vmem S1x704x128 .f32) (h17 : a17.IsWhole) (a18 : Memref sig .tc .vmem S736x1024 .bf16) (h18 : a18.IsWhole) (a19 : Memref sig .tc .vmem S736x1536 .f32) (h19 : a19.IsWhole) (a20 : Memref sig .tc .vmem S736x1536 .f32) (h20 : a20.IsWhole)
    (x0 : Vec Ideal S1x16x1024 .f32) (x1 : Vec Ideal S1x704x1024 .f32) (x2 : Vec Ideal S1x16x1024 .f32) (x3 : Vec Ideal S1x1024 .f32) (x4 : Vec Ideal S1024x1536 .bf16) (x5 : Vec Ideal S1024x512 .bf16) (x6 : Vec Ideal S1024x1536 .bf16) (x7 : Vec Ideal S1024x128 .bf16) (x8 : Vec Ideal S3x1536 .f32) (x9 : Vec Ideal S3x512 .f32)
    (j : Fin 3) (hj : (i 1).val = j.val) : out0_A_14 c i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9 = scE (pqE (hnE j x0 x1 x2 x3) x6) (fun a k => x9 (ix2 a k)) := by
  unfold out0_A_14
  rw [View.read_writes_eq_canon _ _ _ (cover0_A_14 c i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9)]
  funext y
  exact View.canon_apply_of_pieces (Val := Elt Ideal) (S := S1x704x512) (e := .bf16) (scE (pqE (hnE j x0 x1 x2 x3) x6) (fun a k => x9 (ix2 a k))) _ (sc_pieces c i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9 j hj) y
    (cover0_A_14 c i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9 y)

theorem pay1_apply (v : Vec Ideal S704x1024 .bf16) (W : Vec Ideal S1024x512 .bf16) (r : Fin 704) (k : Fin 512) :
    k0_pay1 (k0_pay368 v W) (ix3 (0 : Fin 1) r k) = ∑ d : Fin 1024, v (ix2 r d) * W (ix2 d k) := by
  pointwise [k0_pay1, k0_pay368]

theorem pay2_apply (v : Vec Ideal S704x1024 .bf16) (W : Vec Ideal S1024x128 .bf16) (r : Fin 704) (k : Fin 128) :
    k0_pay2 v W (ix3 (0 : Fin 1) r k) = ∑ d : Fin 1024, v (ix2 r d) * W (ix2 d k) := by
  pointwise [k0_pay2]

theorem z_out (c : Dev nD) (i : grid0.Coords) (a2 : Memref sig .tc .vmem S1x16x1024 .f32) (h2 : a2.IsWhole) (a3 : Memref sig .tc .vmem S1x704x1024 .f32) (h3 : a3.IsWhole) (a4 : Memref sig .tc .vmem S1x16x1024 .f32) (h4 : a4.IsWhole) (a5 : Memref sig .tc .vmem S1x1024 .f32) (h5 : a5.IsWhole) (a6 : Memref sig .tc .vmem S1024x1536 .bf16) (h6 : a6.IsWhole) (a7 : Memref sig .tc .vmem S1024x512 .bf16) (h7 : a7.IsWhole) (a8 : Memref sig .tc .vmem S1024x1536 .bf16) (h8 : a8.IsWhole) (a9 : Memref sig .tc .vmem S1024x128 .bf16) (h9 : a9.IsWhole) (a10 : Memref sig .tc .vmem S3x1536 .f32) (h10 : a10.IsWhole) (a11 : Memref sig .tc .vmem S3x512 .f32) (h11 : a11.IsWhole) (a12 : Memref sig .tc .vmem S1x704x512 .bf16) (h12 : a12.IsWhole) (a13 : Memref sig .tc .vmem S1x704x512 .bf16) (h13 : a13.IsWhole) (a14 : Memref sig .tc .vmem S1x704x512 .bf16) (h14 : a14.IsWhole) (a15 : Memref sig .tc .vmem S1x704x512 .bf16) (h15 : a15.IsWhole) (a16 : Memref sig .tc .vmem S1x704x512 .bf16) (h16 : a16.IsWhole) (a17 : Memref sig .tc .vmem S1x704x128 .f32) (h17 : a17.IsWhole) (a18 : Memref sig .tc .vmem S736x1024 .bf16) (h18 : a18.IsWhole) (a19 : Memref sig .tc .vmem S736x1536 .f32) (h19 : a19.IsWhole) (a20 : Memref sig .tc .vmem S736x1536 .f32) (h20 : a20.IsWhole)
    (x0 : Vec Ideal S1x16x1024 .f32) (x1 : Vec Ideal S1x704x1024 .f32) (x2 : Vec Ideal S1x16x1024 .f32) (x3 : Vec Ideal S1x1024 .f32) (x4 : Vec Ideal S1024x1536 .bf16) (x5 : Vec Ideal S1024x512 .bf16) (x6 : Vec Ideal S1024x1536 .bf16) (x7 : Vec Ideal S1024x128 .bf16) (x8 : Vec Ideal S3x1536 .f32) (x9 : Vec Ideal S3x512 .f32)
    (j : Fin 3) (hj : (i 1).val = j.val) (r : Fin 704) (k : Fin 512) : out0_A_13 c i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9 (ix3 (0 : Fin 1) r k)
      = ∑ d : Fin 1024, hnE j x0 x1 x2 x3 (ix2 (⟨16 + r.val, by omega⟩ : Fin 736) d) * x5 (ix2 d k) := by
  unfold out0_A_13
  rw [View.read_writes_eq_canon _ _ _ (cover0_A_13 c i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9)]
  unfold kernelRun0_A
  dsimp only
  rw [View.canon_cons_unit_zero (S := S1x704x512) zero3]
  unfold kernelRun0_A.sl.r_176
  rw [readAt_all h7 x5 zero2, pay1_apply]
  exact Finset.sum_congr rfl fun d _ => congrArg (fun t : EReal => t * x5 (ix2 d k))
    (v5027_eq c i a2 h2 a3 h3 a4 h4 a5 h5 a18 x0 x1 x2 x3 j hj r d)

theorem ba_out (c : Dev nD) (i : grid0.Coords) (a2 : Memref sig .tc .vmem S1x16x1024 .f32) (h2 : a2.IsWhole) (a3 : Memref sig .tc .vmem S1x704x1024 .f32) (h3 : a3.IsWhole) (a4 : Memref sig .tc .vmem S1x16x1024 .f32) (h4 : a4.IsWhole) (a5 : Memref sig .tc .vmem S1x1024 .f32) (h5 : a5.IsWhole) (a6 : Memref sig .tc .vmem S1024x1536 .bf16) (h6 : a6.IsWhole) (a7 : Memref sig .tc .vmem S1024x512 .bf16) (h7 : a7.IsWhole) (a8 : Memref sig .tc .vmem S1024x1536 .bf16) (h8 : a8.IsWhole) (a9 : Memref sig .tc .vmem S1024x128 .bf16) (h9 : a9.IsWhole) (a10 : Memref sig .tc .vmem S3x1536 .f32) (h10 : a10.IsWhole) (a11 : Memref sig .tc .vmem S3x512 .f32) (h11 : a11.IsWhole) (a12 : Memref sig .tc .vmem S1x704x512 .bf16) (h12 : a12.IsWhole) (a13 : Memref sig .tc .vmem S1x704x512 .bf16) (h13 : a13.IsWhole) (a14 : Memref sig .tc .vmem S1x704x512 .bf16) (h14 : a14.IsWhole) (a15 : Memref sig .tc .vmem S1x704x512 .bf16) (h15 : a15.IsWhole) (a16 : Memref sig .tc .vmem S1x704x512 .bf16) (h16 : a16.IsWhole) (a17 : Memref sig .tc .vmem S1x704x128 .f32) (h17 : a17.IsWhole) (a18 : Memref sig .tc .vmem S736x1024 .bf16) (h18 : a18.IsWhole) (a19 : Memref sig .tc .vmem S736x1536 .f32) (h19 : a19.IsWhole) (a20 : Memref sig .tc .vmem S736x1536 .f32) (h20 : a20.IsWhole)
    (x0 : Vec Ideal S1x16x1024 .f32) (x1 : Vec Ideal S1x704x1024 .f32) (x2 : Vec Ideal S1x16x1024 .f32) (x3 : Vec Ideal S1x1024 .f32) (x4 : Vec Ideal S1024x1536 .bf16) (x5 : Vec Ideal S1024x512 .bf16) (x6 : Vec Ideal S1024x1536 .bf16) (x7 : Vec Ideal S1024x128 .bf16) (x8 : Vec Ideal S3x1536 .f32) (x9 : Vec Ideal S3x512 .f32)
    (j : Fin 3) (hj : (i 1).val = j.val) (r : Fin 704) (k : Fin 128) : out0_A_15 c i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9 (ix3 (0 : Fin 1) r k)
      = ∑ d : Fin 1024, hnE j x0 x1 x2 x3 (ix2 (⟨16 + r.val, by omega⟩ : Fin 736) d) * x7 (ix2 d k) := by
  unfold out0_A_15
  rw [View.read_writes_eq_canon _ _ _ (cover0_A_15 c i a2 h2 a3 h3 a4 h4 a5 h5 a6 h6 a7 h7 a8 h8 a9 h9 a10 h10 a11 h11 a12 h12 a13 h13 a14 h14 a15 h15 a16 h16 a17 h17 a18 h18 a19 h19 a20 h20 x0 x1 x2 x3 x4 x5 x6 x7 x8 x9)]
  unfold kernelRun0_A
  dsimp only
  rw [View.canon_cons_unit_zero (S := S1x704x128) zero3]
  rw [readAt_all h9 x7 zero2, pay2_apply]
  exact Finset.sum_congr rfl fun d _ => congrArg (fun t : EReal => t * x7 (ix2 d k))
    (v5027_eq c i a2 h2 a3 h3 a4 h4 a5 h5 a18 x0 x1 x2 x3 j hj r d)

end Cert.Proof.InProj

end
-- ==== Proof.InProj.Array.lean ====
/- The result arrays of the input projection's kernel, from its argument arrays. -/
module

public import proofs.«01_k».proof.Proof.InProj.Host
public import proofs.«01_k».proof.Proof.InProj.Out

@[expose] public section

set_option maxRecDepth 16384

noncomputable section

open Idealize.ShloMosaic Idealize.ShloMosaic.TcCoe Idealize.SL.Sem
open Idealize.ShloMosaic.Pipeline (Dat)

namespace Cert.Proof.InProj

open Cert.Kernel3Ideal Cert.Kernel3Ideal.Gen

/-! ## A step's tile -/

section Tile

variable {j : Fin 3} {x0 : S1x16x1024.Idx → EReal} {x1 : S1x704x1024.Idx → EReal} {x2 : S1x16x1024.Idx → EReal}
  {x3 : S1x1024.Idx → EReal} {h : A3 16 2064 1024} {nw : A1 1024} {w : A2 1024 3600} {b : Fin 16}

/-- The rows a step works on are those of the padded sequence from 16 before its tile on. -/
def IsTile (j : Fin 3) (x0 : S1x16x1024.Idx → EReal) (x1 : S1x704x1024.Idx → EReal) (x2 : S1x16x1024.Idx → EReal)
    (x3 : S1x1024.Idx → EReal) (h : A3 16 2064 1024) (nw : A1 1024) (b : Fin 16) : Prop :=
  (∀ r : Fin 736, 16 ≤ 704 * j.val + r.val → ∀ d, hRow j x0 x1 x2 r d = hN h b (704 * j.val + r.val - 16) d)
    ∧ ∀ d, x3 (ix2 (0 : Fin 1) d) = nw (ix1 d)

theorem sum_tile (T : IsTile j x0 x1 x2 x3 h nw b) {n : ℕ} (W : Fin 1024 → Fin n → EReal) (c : Fin n) (c' : Fin 3600)
    (hW : ∀ d, W d c = w (ix2 d c')) (r : Fin 736) (t : ℕ) (ht : 704 * j.val + r.val = t + 16) :
    (∑ d : Fin 1024, hnE j x0 x1 x2 x3 (ix2 r d) * W d c) = Pn h nw w b t c' := by
  unfold Pn
  refine Finset.sum_congr rfl fun d _ => ?_
  obtain rfl : t = 704 * j.val + r.val - 16 := by omega
  rw [hW d]
  refine congrArg (· * w (ix2 d c')) ?_
  show rmsRow c1024 (hRow j x0 x1 x2 r) (fun d => x3 (ix2 (0 : Fin 1) d)) d = _
  rw [funext (T.1 r (by omega)), funext T.2]

variable {W : S1024x1536.Idx → EReal}

theorem y_tile (T : IsTile j x0 x1 x2 x3 h nw b) (hW : ∀ d c, W (ix2 d c) = w (ix2 d (colW 0 (by decide) c)))
    (cw : A2 3 1536) (r : Fin 704) (c : Fin 1536) (hr : 1 ≤ 704 * j.val + r.val) :
    yE (pqE (hnE j x0 x1 x2 x3) W) (fun a k => cw (ix2 a k)) r c = yS h nw w cw b (704 * j.val + r.val) c := by
  have e := fun (q : Fin 736) (t : ℕ) (ht : 704 * j.val + q.val = t + 16) =>
    sum_tile T (fun d c => W (ix2 d c)) c _ (fun d => hW d c) q t ht
  unfold yE yS
  refine congrArg siluE ?_
  have e0 : pqE (hnE j x0 x1 x2 x3) W (ix2 (⟨15 + r.val, by omega⟩ : Fin 736) c) = Pn h nw w b (704 * j.val + r.val - 1) (colW 0 (by decide) c) :=
    e ⟨15 + r.val, by omega⟩ _ (by show 704 * j.val + (15 + r.val) = _; omega)
  have e1 : pqE (hnE j x0 x1 x2 x3) W (ix2 (⟨16 + r.val, by omega⟩ : Fin 736) c) = Pn h nw w b (704 * j.val + r.val) (colW 0 (by decide) c) :=
    e ⟨16 + r.val, by omega⟩ _ (by show 704 * j.val + (16 + r.val) = _; omega)
  have e2 : pqE (hnE j x0 x1 x2 x3) W (ix2 (⟨17 + r.val, by omega⟩ : Fin 736) c) = Pn h nw w b (704 * j.val + r.val + 1) (colW 0 (by decide) c) :=
    e ⟨17 + r.val, by omega⟩ _ (by show 704 * j.val + (17 + r.val) = _; omega)
  rw [e0, e1, e2]

/-- Row `r` of tile `j`, as a row of the padded sequence. -/
def rowOf (j : Fin 3) (r : Fin 704) : Fin 2112 := ⟨704 * j.val + r.val, by omega⟩

theorem q_tile (T : IsTile j x0 x1 x2 x3 h nw b) (hW : ∀ d c, W (ix2 d c) = w (ix2 d (colW 0 (by decide) c)))
    (cw : A2 3 1536) (r : Fin 704) (l : Fin 512) :
    qE (pqE (hnE j x0 x1 x2 x3) W) (fun a k => cw (ix2 a k)) j (ix3 (0 : Fin 1) r l) = qS h nw w cw (ix3 b (rowOf j r) l) := by
  show (if 48 ≤ 704 * j.val + r.val then _ else _) = (if 48 ≤ 704 * j.val + r.val then _ else _)
  by_cases g : 48 ≤ 704 * j.val + r.val
  · rw [if_pos g, if_pos g]
    have e := fun c => y_tile T hW cw r c (by omega)
    show yE (pqE (hnE j x0 x1 x2 x3) W) (fun a k => cw (ix2 a k)) r (col 0 l) * (unitFac (fun k => yE (pqE (hnE j x0 x1 x2 x3) W) (fun a k => cw (ix2 a k)) r (col 0 (lane l k))) * qScale) = yS h nw w cw b (704 * j.val + r.val) (col 0 l) * (unitFac (fun k => yS h nw w cw b (704 * j.val + r.val) (col 0 (lane l k))) * qScale)
    rw [e, funext fun k => e (col 0 (lane l k))]
  · rw [if_neg g, if_neg g]

theorem k_tile (T : IsTile j x0 x1 x2 x3 h nw b) (hW : ∀ d c, W (ix2 d c) = w (ix2 d (colW 0 (by decide) c)))
    (cw : A2 3 1536) (r : Fin 704) (l : Fin 512) :
    kE (pqE (hnE j x0 x1 x2 x3) W) (fun a k => cw (ix2 a k)) j (ix3 (0 : Fin 1) r l) = kS h nw w cw (ix3 b (rowOf j r) l) := by
  show (if 48 ≤ 704 * j.val + r.val then _ else _) = (if 48 ≤ 704 * j.val + r.val then _ else _)
  by_cases g : 48 ≤ 704 * j.val + r.val
  · rw [if_pos g, if_pos g]
    have e := fun c => y_tile T hW cw r c (by omega)
    show yE (pqE (hnE j x0 x1 x2 x3) W) (fun a k => cw (ix2 a k)) r (col 1 l) * unitFac (fun k => yE (pqE (hnE j x0 x1 x2 x3) W) (fun a k => cw (ix2 a k)) r (col 1 (lane l k))) = yS h nw w cw b (704 * j.val + r.val) (col 1 l) * unitFac (fun k => yS h nw w cw b (704 * j.val + r.val) (col 1 (lane l k)))
    rw [e, funext fun k => e (col 1 (lane l k))]
  · rw [if_neg g, if_neg g]

theorem v_tile (T : IsTile j x0 x1 x2 x3 h nw b) (hW : ∀ d c, W (ix2 d c) = w (ix2 d (colW 0 (by decide) c)))
    (cw : A2 3 1536) (r : Fin 704) (l : Fin 512) :
    vE (pqE (hnE j x0 x1 x2 x3) W) (fun a k => cw (ix2 a k)) j (ix3 (0 : Fin 1) r l) = vS h nw w cw (ix3 b (rowOf j r) l) := by
  show (if 48 ≤ 704 * j.val + r.val then _ else _) = (if 48 ≤ 704 * j.val + r.val then _ else _)
  by_cases g : 48 ≤ 704 * j.val + r.val
  · rw [if_pos g, if_pos g]
    have e := fun c => y_tile T hW cw r c (by omega)
    show yE (pqE (hnE j x0 x1 x2 x3) W) (fun a k => cw (ix2 a k)) r (col 2 l) = yS h nw w cw b (704 * j.val + r.val) (col 2 l)
    rw [e]
  · rw [if_neg g, if_neg g]

theorem conv3_congr {p p' c c' n n' : EReal} (hp : p = p') (hc : c = c') (hn : n = n') (w0 w1 w2 : EReal) :
    conv3 p c n w0 w1 w2 = conv3 p' c' n' w0 w1 w2 := by
  rw [hp, hc, hn]

theorem sc_tile (T : IsTile j x0 x1 x2 x3 h nw b) (hW : ∀ d c, W (ix2 d c) = w (ix2 d (colW 2064 (by decide) c)))
    (sw : A2 3 512) (r : Fin 704) (l : Fin 512) :
    scE (pqE (hnE j x0 x1 x2 x3) W) (fun a k => sw (ix2 a k)) (ix3 (0 : Fin 1) r l) = scS h nw w sw (ix3 b (rowOf j r) l) := by
  have e : ∀ (i : Fin 3) (o : ℕ) (ho : o + 512 ≤ 3600) (_ : o = 2064 + 512 * i.val) (q : Fin 736) (t : ℕ)
      (_ : 704 * j.val + q.val = t + 16), pqE (hnE j x0 x1 x2 x3) W (ix2 q (col i l)) = Pn h nw w b t (colW o ho l) :=
    fun i o ho hi q t ht => sum_tile T (fun d c => W (ix2 d c)) (col i l) (colW o ho l) (fun d => (hW d _).trans (by
      refine congrArg (fun c => w (ix2 d c)) (Fin.ext ?_)
      show 2064 + (512 * i.val + l.val) = o + l.val
      omega)) q t ht
  have hg := e 0 2064 (by decide) rfl ⟨16 + r.val, by omega⟩ (704 * j.val + r.val) (by show 704 * j.val + (16 + r.val) = _; omega)
  by_cases g : 48 ≤ 704 * j.val + r.val
  · have p : ∀ (q : Fin 736) (t : ℕ) (_ : 704 * j.val + q.val = t + 16),
        pqE (hnE j x0 x1 x2 x3) W (ix2 q (col 1 l)) * pqE (hnE j x0 x1 x2 x3) W (ix2 q (col 2 l)) = pS h nw w b t l :=
      fun q t ht => by rw [e 1 2576 (by decide) rfl q t ht, e 2 3088 (by decide) rfl q t ht]; rfl
    have p0 := p ⟨15 + r.val, by omega⟩ (704 * j.val + r.val - 1) (by show 704 * j.val + (15 + r.val) = _; omega)
    have p1 := p ⟨16 + r.val, by omega⟩ (704 * j.val + r.val) (by show 704 * j.val + (16 + r.val) = _; omega)
    have p2 := p ⟨17 + r.val, by omega⟩ (704 * j.val + r.val + 1) (by show 704 * j.val + (17 + r.val) = _; omega)
    unfold scE scS
    exact congrArg₂ (fun a b : EReal => a * b) hg (conv3_congr p0 p1 p2 _ _ _)
  · have z := hg.trans (Pn_zero h nw w b _ _ (by omega))
    have z' := Pn_zero h nw w b (704 * j.val + r.val) (colW 2064 (n := 512) (by decide) l) (by omega)
    unfold scE scS
    exact (congrArg (fun a : EReal => a * _) z).trans ((zero_mul _).trans (((congrArg (fun a : EReal => a * _) z').trans (zero_mul _)).symm))

theorem ba_tile (T : IsTile j x0 x1 x2 x3 h nw b) (X : S1024x128.Idx → EReal) (hX : ∀ d k, X (ix2 d k) = baW w d k) (r : Fin 704)
    (k : Fin 128) :
    (∑ d : Fin 1024, hnE j x0 x1 x2 x3 (ix2 (⟨16 + r.val, by omega⟩ : Fin 736) d) * X (ix2 d k)) = baS h nw w (ix3 b (rowOf j r) k) := by
  have e := fun (c' : Fin 3600) (hc : ∀ d, X (ix2 d k) = w (ix2 d c')) => sum_tile T (fun d k => X (ix2 d k)) k c' hc
    ⟨16 + r.val, by omega⟩ (704 * j.val + r.val) (by show 704 * j.val + (16 + r.val) = _; omega)
  unfold baS
  show _ = if k.val < 8 then _ else if k.val < 16 then _ else _
  split_ifs with h1 h2
  · exact e _ fun d => (hX d k).trans (by unfold baW; rw [if_pos h1]; rfl)
  · exact e _ fun d => (hX d k).trans (by unfold baW; rw [if_neg h1, if_pos h2]; rfl)
  · refine Finset.sum_eq_zero fun d _ => ?_
    rw [hX d k]
    unfold baW
    rw [if_neg h1, if_neg h2, mul_zero]

end Tile

variable (m : (ℓ : Loc nD τ sig) → Buf (Elt Ideal) ℓ)

/-! ## The blocks at a grid point -/

/-- The batch entry of grid point `t`. -/
def bOf (t : Fin cfg0.N) : Fin 16 := ⟨t.val / 3, by have := t.isLt; have h : cfg0.N = 48 := N_0; omega⟩

/-- The tile of grid point `t`. -/
def jOf (t : Fin cfg0.N) : Fin 3 := ⟨t.val % 3, by omega⟩

theorem coord1 : ∀ t : Fin cfg0.N, (grid0.coords t 1).val = (jOf t).val :=
  (by decide +kernel : ∀ t : Fin grid0.N, (grid0.coords t 1).val = t.val % 3)

theorem at0 : ∀ t : Fin cfg0.N, cc0_transform_0 (grid0.coords t) = ![t.val / 3, 44 * (t.val % 3) - 1, 0] :=
  (by decide +kernel : ∀ t : Fin grid0.N, cc0_transform_0 (grid0.coords t) = ![t.val / 3, 44 * (t.val % 3) - 1, 0])
theorem at2 : ∀ t : Fin cfg0.N, cc0_transform_2 (grid0.coords t) = ![t.val / 3, min (44 * (t.val % 3 + 1)) 131, 0] :=
  (by decide +kernel : ∀ t : Fin grid0.N, cc0_transform_2 (grid0.coords t) = ![t.val / 3, min (44 * (t.val % 3 + 1)) 131, 0])
theorem at1 : ∀ t : Fin cfg0.N, cc0_transform_1 (grid0.coords t) = ![t.val / 3, t.val % 3, 0] :=
  (by decide +kernel : ∀ t : Fin grid0.N, cc0_transform_1 (grid0.coords t) = ![t.val / 3, t.val % 3, 0])
theorem at10 : ∀ t : Fin cfg0.N, cc0_transform_10 (grid0.coords t) = ![t.val / 3, t.val % 3, 0] :=
  (by decide +kernel : ∀ t : Fin grid0.N, cc0_transform_10 (grid0.coords t) = ![t.val / 3, t.val % 3, 0])
theorem at11 : ∀ t : Fin cfg0.N, cc0_transform_11 (grid0.coords t) = ![t.val / 3, t.val % 3, 0] :=
  (by decide +kernel : ∀ t : Fin grid0.N, cc0_transform_11 (grid0.coords t) = ![t.val / 3, t.val % 3, 0])
theorem at12 : ∀ t : Fin cfg0.N, cc0_transform_12 (grid0.coords t) = ![t.val / 3, t.val % 3, 0] :=
  (by decide +kernel : ∀ t : Fin grid0.N, cc0_transform_12 (grid0.coords t) = ![t.val / 3, t.val % 3, 0])
theorem at13 : ∀ t : Fin cfg0.N, cc0_transform_13 (grid0.coords t) = ![t.val / 3, t.val % 3, 0] :=
  (by decide +kernel : ∀ t : Fin grid0.N, cc0_transform_13 (grid0.coords t) = ![t.val / 3, t.val % 3, 0])
theorem at14 : ∀ t : Fin cfg0.N, cc0_transform_14 (grid0.coords t) = ![t.val / 3, t.val % 3, 0] :=
  (by decide +kernel : ∀ t : Fin grid0.N, cc0_transform_14 (grid0.coords t) = ![t.val / 3, t.val % 3, 0])
theorem at15 : ∀ t : Fin cfg0.N, cc0_transform_15 (grid0.coords t) = ![t.val / 3, t.val % 3, 0] :=
  (by decide +kernel : ∀ t : Fin grid0.N, cc0_transform_15 (grid0.coords t) = ![t.val / 3, t.val % 3, 0])

theorem blk0 (c : Dev nD) (t : Fin cfg0.N) (r : Fin 16) (d : Fin 1024) (s : ℕ) (hs : 16 * (44 * (t.val % 3) - 1) + r.val = s) :
    (iblk m c 0 t : Vec Ideal S1x16x1024 .f32) (ix3 (0 : Fin 1) r d) = hN (m ((c : Thread nD τ).loc main_arg0)) (bOf t) s d := by
  obtain ⟨s', rfl⟩ : ∃ s' : Fin 2112, s'.val = s := ⟨⟨s, by omega⟩, rfl⟩
  refine Eq.trans ?_ (V1 m c (bOf t) s' d)
  unfold iblk
  rw [View.read_apply]
  show V m c main_v1 _ = _
  congr 1
  funext a
  refine Fin.ext ?_
  show cc0_transform_0 (grid0.coords t) a * S1x16x1024.size a + 1 * (ix3 (0 : Fin 1) r d a).val = _
  rw [at0]
  match a with
  | ⟨0, _⟩ => show t.val / 3 * 1 + 1 * 0 = t.val / 3; omega
  | ⟨1, _⟩ => show (44 * (t.val % 3) - 1) * 16 + 1 * r.val = s'.val; omega
  | ⟨2, _⟩ => show 0 * 1024 + 1 * d.val = d.val; omega

theorem blk1 (c : Dev nD) (t : Fin cfg0.N) (r : Fin 704) (d : Fin 1024) (s : ℕ) (hs : 704 * (t.val % 3) + r.val = s) :
    (iblk m c 1 t : Vec Ideal S1x704x1024 .f32) (ix3 (0 : Fin 1) r d) = hN (m ((c : Thread nD τ).loc main_arg0)) (bOf t) s d := by
  obtain ⟨s', rfl⟩ : ∃ s' : Fin 2112, s'.val = s := ⟨⟨s, by omega⟩, rfl⟩
  refine Eq.trans ?_ (V1 m c (bOf t) s' d)
  unfold iblk
  rw [View.read_apply]
  show V m c main_v1 _ = _
  congr 1
  funext a
  refine Fin.ext ?_
  show cc0_transform_1 (grid0.coords t) a * S1x704x1024.size a + 1 * (ix3 (0 : Fin 1) r d a).val = _
  rw [at1]
  match a with
  | ⟨0, _⟩ => show t.val / 3 * 1 + 1 * 0 = t.val / 3; omega
  | ⟨1, _⟩ => show t.val % 3 * 704 + 1 * r.val = s'.val; omega
  | ⟨2, _⟩ => show 0 * 1024 + 1 * d.val = d.val; omega

theorem blk2 (c : Dev nD) (t : Fin cfg0.N) (r : Fin 16) (d : Fin 1024) (s : ℕ) (hs : 16 * min (44 * (t.val % 3 + 1)) 131 + r.val = s) :
    (iblk m c 2 t : Vec Ideal S1x16x1024 .f32) (ix3 (0 : Fin 1) r d) = hN (m ((c : Thread nD τ).loc main_arg0)) (bOf t) s d := by
  obtain ⟨s', rfl⟩ : ∃ s' : Fin 2112, s'.val = s := ⟨⟨s, by omega⟩, rfl⟩
  refine Eq.trans ?_ (V1 m c (bOf t) s' d)
  unfold iblk
  rw [View.read_apply]
  show V m c main_v1 _ = _
  congr 1
  funext a
  refine Fin.ext ?_
  show cc0_transform_2 (grid0.coords t) a * S1x16x1024.size a + 1 * (ix3 (0 : Fin 1) r d a).val = _
  rw [at2]
  match a with
  | ⟨0, _⟩ => show t.val / 3 * 1 + 1 * 0 = t.val / 3; omega
  | ⟨1, _⟩ => show min (44 * (t.val % 3 + 1)) 131 * 16 + 1 * r.val = s'.val; omega
  | ⟨2, _⟩ => show 0 * 1024 + 1 * d.val = d.val; omega

theorem blk3 (c : Dev nD) (t : Fin cfg0.N) : (iblk m c 3 t : Vec Ideal S1x1024 .f32) = V m c main_v29 := by
  have hz' : (fun a => win0_3.index t a * main_v29.ty.shape.size a) = fun _ => 0 := funext fun a => by fin_cases a <;> rfl
  exact Memref.read_access_unit_zero (Elt Ideal) main_v29 hz' (fun a => by rw [congrFun hz' a]; simp) (V m c main_v29)

theorem blk4 (c : Dev nD) (t : Fin cfg0.N) : (iblk m c 4 t : Vec Ideal S1024x1536 .bf16) = V m c main_v3 := by
  have hz' : (fun a => win0_4.index t a * main_v3.ty.shape.size a) = fun _ => 0 := funext fun a => by fin_cases a <;> rfl
  exact Memref.read_access_unit_zero (Elt Ideal) main_v3 hz' (fun a => by rw [congrFun hz' a]; simp) (V m c main_v3)

theorem blk5 (c : Dev nD) (t : Fin cfg0.N) : (iblk m c 5 t : Vec Ideal S1024x512 .bf16) = V m c main_v5 := by
  have hz' : (fun a => win0_5.index t a * main_v5.ty.shape.size a) = fun _ => 0 := funext fun a => by fin_cases a <;> rfl
  exact Memref.read_access_unit_zero (Elt Ideal) main_v5 hz' (fun a => by rw [congrFun hz' a]; simp) (V m c main_v5)

theorem blk6 (c : Dev nD) (t : Fin cfg0.N) : (iblk m c 6 t : Vec Ideal S1024x1536 .bf16) = V m c main_v28 := by
  have hz' : (fun a => win0_6.index t a * main_v28.ty.shape.size a) = fun _ => 0 := funext fun a => by fin_cases a <;> rfl
  exact Memref.read_access_unit_zero (Elt Ideal) main_v28 hz' (fun a => by rw [congrFun hz' a]; simp) (V m c main_v28)

theorem blk7 (c : Dev nD) (t : Fin cfg0.N) : (iblk m c 7 t : Vec Ideal S1024x128 .bf16) = V m c main_v26 := by
  have hz' : (fun a => win0_7.index t a * main_v26.ty.shape.size a) = fun _ => 0 := funext fun a => by fin_cases a <;> rfl
  exact Memref.read_access_unit_zero (Elt Ideal) main_v26 hz' (fun a => by rw [congrFun hz' a]; simp) (V m c main_v26)

theorem blk8 (c : Dev nD) (t : Fin cfg0.N) : (iblk m c 8 t : Vec Ideal S3x1536 .f32) = V m c main_arg3 := by
  have hz' : (fun a => win0_8.index t a * main_arg3.ty.shape.size a) = fun _ => 0 := funext fun a => by fin_cases a <;> rfl
  exact Memref.read_access_unit_zero (Elt Ideal) main_arg3 hz' (fun a => by rw [congrFun hz' a]; simp) (V m c main_arg3)

theorem blk9 (c : Dev nD) (t : Fin cfg0.N) : (iblk m c 9 t : Vec Ideal S3x512 .f32) = V m c main_arg4 := by
  have hz' : (fun a => win0_9.index t a * main_arg4.ty.shape.size a) = fun _ => 0 := funext fun a => by fin_cases a <;> rfl
  exact Memref.read_access_unit_zero (Elt Ideal) main_arg4 hz' (fun a => by rw [congrFun hz' a]; simp) (V m c main_arg4)

theorem tile_at (c : Dev nD) (t : Fin cfg0.N) :
    IsTile (jOf t) (iblk m c 0 t) (iblk m c 1 t) (iblk m c 2 t) (iblk m c 3 t) (m ((c : Thread nD τ).loc main_arg0))
      (m ((c : Thread nD τ).loc main_arg1)) (bOf t) := by
  refine ⟨fun r hr d => ?_, fun d => (congrFun (blk3 m c t) _).trans (V29 m c d)⟩
  have hj : (jOf t).val = t.val % 3 := rfl
  rw [hj] at hr ⊢
  unfold hRow
  split_ifs with h0 h1 h2
  · exact blk0 m c t _ d _ (by show 16 * (44 * (t.val % 3) - 1) + r.val = _; omega)
  · exact blk1 m c t _ d _ (by show 704 * (t.val % 3) + (r.val - 16) = _; omega)
  · unfold hN
    rw [dif_neg (by omega)]
  · exact blk2 m c t _ d _ (by show 16 * min (44 * (t.val % 3 + 1)) 131 + (r.val - 720) = _; omega)

/-! ## The result arrays -/

/-- Result 0 of the kernel. -/
def res10 (c : Dev nD) : Buf (Elt Ideal) ((c : Thread nD τ).loc main_v30_0) :=
  (qS (m ((c : Thread nD τ).loc main_arg0)) (m ((c : Thread nD τ).loc main_arg1)) (m ((c : Thread nD τ).loc main_arg2)) (m ((c : Thread nD τ).loc main_arg3)) : A3 16 2112 512)

theorem flushed10_eq (c : Dev nD) (t : Fin cfg0.N) :
    (dats m 0 c).flushed 10 t = ((cfg0.win 10).blk t).view.read (Elt Ideal) (res10 m c) := by
  rw [Cert.Kernel3Ideal.Value.flushed10_A]
  rw [q_out (j := jOf t) (hj := coord1 t)]
  funext y
  obtain ⟨o, r, l, rfl⟩ : ∃ (o : Fin 1) (r : Fin 704) (l : Fin 512), y = ix3 o r l := ⟨y 0, y 1, y 2, eq_ix3 y⟩
  obtain rfl : o = 0 := Subsingleton.elim _ _
  refine Eq.trans ?_ (q_tile (tile_at m c t) (W := iblk m c 4 t) (fun d k => (congrFun (blk4 m c t) _).trans (V3 m c d k))
    (m ((c : Thread nD τ).loc main_arg3)) r l |>.trans ?_)
  · show qE _ (fun a k => (iblk m c 8 t : Vec Ideal S3x1536 .f32) (ix2 a k)) _ _ = _
    rw [blk8, V_main_arg3]
    rfl
  · rw [View.read_apply]
    show (qS (m ((c : Thread nD τ).loc main_arg0)) (m ((c : Thread nD τ).loc main_arg1)) (m ((c : Thread nD τ).loc main_arg2)) (m ((c : Thread nD τ).loc main_arg3)) : A3 16 2112 512) _ = (qS (m ((c : Thread nD τ).loc main_arg0)) (m ((c : Thread nD τ).loc main_arg1)) (m ((c : Thread nD τ).loc main_arg2)) (m ((c : Thread nD τ).loc main_arg3)) : A3 16 2112 512) _
    congr 1
    funext a
    refine Fin.ext ?_
    show _ = cc0_transform_10 (grid0.coords t) a * S1x704x512.size a + 1 * (ix3 (0 : Fin 1) r l a).val
    rw [at10]
    match a with
    | ⟨0, _⟩ => show t.val / 3 = t.val / 3 * 1 + 1 * 0; omega
    | ⟨1, _⟩ => show 704 * (t.val % 3) + r.val = t.val % 3 * 704 + 1 * r.val; omega
    | ⟨2, _⟩ => show l.val = 0 * 512 + 1 * l.val; omega

theorem final10 (c : Dev nD) : (dats m 0 c).arrAt 10 cfg0.N = res10 m c :=
  (dats m 0 c).arrAt_eq_of_cover 10 (res10 m c) (fun t _ => flushed10_eq m c t) fun i => by
    have h0 : (i 0 : Nat) < 16 := (i 0).isLt
    have h1 : (i 1 : Nat) < 2112 := (i 1).isLt
    have h2 : (i 2 : Nat) < 512 := (i 2).isLt
    have hN : cfg0.N = 48 := N_0
    obtain ⟨t, ht⟩ : ∃ t : Fin cfg0.N, t.val = 3 * (i 0 : Nat) + (i 1 : Nat) / 704 := ⟨⟨_, by omega⟩, rfl⟩
    refine ⟨t, flush0_10 t, ?_⟩
    show i ∈ ((View.whole main_v30_0).slice (win0_10.rect t)).set
    rw [View.set_slice_whole, Rect.mem_set_unit]
    intro a
    show cc0_transform_10 (grid0.coords t) a * S1x704x512.size a ≤ (i a : Nat)
      ∧ (i a : Nat) < cc0_transform_10 (grid0.coords t) a * S1x704x512.size a + S1x704x512.size a
    rw [at10]
    match a with
    | ⟨0, _⟩ => show t.val / 3 * 1 ≤ (i 0 : Nat) ∧ (i 0 : Nat) < t.val / 3 * 1 + 1; omega
    | ⟨1, _⟩ => show t.val % 3 * 704 ≤ (i 1 : Nat) ∧ (i 1 : Nat) < t.val % 3 * 704 + 704; omega
    | ⟨2, _⟩ => show 0 * 512 ≤ (i 2 : Nat) ∧ (i 2 : Nat) < 0 * 512 + 512; omega

/-- Result 1 of the kernel. -/
def res11 (c : Dev nD) : Buf (Elt Ideal) ((c : Thread nD τ).loc main_v30_1) :=
  (kS (m ((c : Thread nD τ).loc main_arg0)) (m ((c : Thread nD τ).loc main_arg1)) (m ((c : Thread nD τ).loc main_arg2)) (m ((c : Thread nD τ).loc main_arg3)) : A3 16 2112 512)

theorem flushed11_eq (c : Dev nD) (t : Fin cfg0.N) :
    (dats m 0 c).flushed 11 t = ((cfg0.win 11).blk t).view.read (Elt Ideal) (res11 m c) := by
  rw [Cert.Kernel3Ideal.Value.flushed11_A]
  rw [k_out (j := jOf t) (hj := coord1 t)]
  funext y
  obtain ⟨o, r, l, rfl⟩ : ∃ (o : Fin 1) (r : Fin 704) (l : Fin 512), y = ix3 o r l := ⟨y 0, y 1, y 2, eq_ix3 y⟩
  obtain rfl : o = 0 := Subsingleton.elim _ _
  refine Eq.trans ?_ (k_tile (tile_at m c t) (W := iblk m c 4 t) (fun d k => (congrFun (blk4 m c t) _).trans (V3 m c d k))
    (m ((c : Thread nD τ).loc main_arg3)) r l |>.trans ?_)
  · show kE _ (fun a k => (iblk m c 8 t : Vec Ideal S3x1536 .f32) (ix2 a k)) _ _ = _
    rw [blk8, V_main_arg3]
    rfl
  · rw [View.read_apply]
    show (kS (m ((c : Thread nD τ).loc main_arg0)) (m ((c : Thread nD τ).loc main_arg1)) (m ((c : Thread nD τ).loc main_arg2)) (m ((c : Thread nD τ).loc main_arg3)) : A3 16 2112 512) _ = (kS (m ((c : Thread nD τ).loc main_arg0)) (m ((c : Thread nD τ).loc main_arg1)) (m ((c : Thread nD τ).loc main_arg2)) (m ((c : Thread nD τ).loc main_arg3)) : A3 16 2112 512) _
    congr 1
    funext a
    refine Fin.ext ?_
    show _ = cc0_transform_11 (grid0.coords t) a * S1x704x512.size a + 1 * (ix3 (0 : Fin 1) r l a).val
    rw [at11]
    match a with
    | ⟨0, _⟩ => show t.val / 3 = t.val / 3 * 1 + 1 * 0; omega
    | ⟨1, _⟩ => show 704 * (t.val % 3) + r.val = t.val % 3 * 704 + 1 * r.val; omega
    | ⟨2, _⟩ => show l.val = 0 * 512 + 1 * l.val; omega

theorem final11 (c : Dev nD) : (dats m 0 c).arrAt 11 cfg0.N = res11 m c :=
  (dats m 0 c).arrAt_eq_of_cover 11 (res11 m c) (fun t _ => flushed11_eq m c t) fun i => by
    have h0 : (i 0 : Nat) < 16 := (i 0).isLt
    have h1 : (i 1 : Nat) < 2112 := (i 1).isLt
    have h2 : (i 2 : Nat) < 512 := (i 2).isLt
    have hN : cfg0.N = 48 := N_0
    obtain ⟨t, ht⟩ : ∃ t : Fin cfg0.N, t.val = 3 * (i 0 : Nat) + (i 1 : Nat) / 704 := ⟨⟨_, by omega⟩, rfl⟩
    refine ⟨t, flush0_11 t, ?_⟩
    show i ∈ ((View.whole main_v30_1).slice (win0_11.rect t)).set
    rw [View.set_slice_whole, Rect.mem_set_unit]
    intro a
    show cc0_transform_11 (grid0.coords t) a * S1x704x512.size a ≤ (i a : Nat)
      ∧ (i a : Nat) < cc0_transform_11 (grid0.coords t) a * S1x704x512.size a + S1x704x512.size a
    rw [at11]
    match a with
    | ⟨0, _⟩ => show t.val / 3 * 1 ≤ (i 0 : Nat) ∧ (i 0 : Nat) < t.val / 3 * 1 + 1; omega
    | ⟨1, _⟩ => show t.val % 3 * 704 ≤ (i 1 : Nat) ∧ (i 1 : Nat) < t.val % 3 * 704 + 704; omega
    | ⟨2, _⟩ => show 0 * 512 ≤ (i 2 : Nat) ∧ (i 2 : Nat) < 0 * 512 + 512; omega

/-- Result 2 of the kernel. -/
def res12 (c : Dev nD) : Buf (Elt Ideal) ((c : Thread nD τ).loc main_v30_2) :=
  (vS (m ((c : Thread nD τ).loc main_arg0)) (m ((c : Thread nD τ).loc main_arg1)) (m ((c : Thread nD τ).loc main_arg2)) (m ((c : Thread nD τ).loc main_arg3)) : A3 16 2112 512)

theorem flushed12_eq (c : Dev nD) (t : Fin cfg0.N) :
    (dats m 0 c).flushed 12 t = ((cfg0.win 12).blk t).view.read (Elt Ideal) (res12 m c) := by
  rw [Cert.Kernel3Ideal.Value.flushed12_A]
  rw [v_out (j := jOf t) (hj := coord1 t)]
  funext y
  obtain ⟨o, r, l, rfl⟩ : ∃ (o : Fin 1) (r : Fin 704) (l : Fin 512), y = ix3 o r l := ⟨y 0, y 1, y 2, eq_ix3 y⟩
  obtain rfl : o = 0 := Subsingleton.elim _ _
  refine Eq.trans ?_ (v_tile (tile_at m c t) (W := iblk m c 4 t) (fun d k => (congrFun (blk4 m c t) _).trans (V3 m c d k))
    (m ((c : Thread nD τ).loc main_arg3)) r l |>.trans ?_)
  · show vE _ (fun a k => (iblk m c 8 t : Vec Ideal S3x1536 .f32) (ix2 a k)) _ _ = _
    rw [blk8, V_main_arg3]
    rfl
  · rw [View.read_apply]
    show (vS (m ((c : Thread nD τ).loc main_arg0)) (m ((c : Thread nD τ).loc main_arg1)) (m ((c : Thread nD τ).loc main_arg2)) (m ((c : Thread nD τ).loc main_arg3)) : A3 16 2112 512) _ = (vS (m ((c : Thread nD τ).loc main_arg0)) (m ((c : Thread nD τ).loc main_arg1)) (m ((c : Thread nD τ).loc main_arg2)) (m ((c : Thread nD τ).loc main_arg3)) : A3 16 2112 512) _
    congr 1
    funext a
    refine Fin.ext ?_
    show _ = cc0_transform_12 (grid0.coords t) a * S1x704x512.size a + 1 * (ix3 (0 : Fin 1) r l a).val
    rw [at12]
    match a with
    | ⟨0, _⟩ => show t.val / 3 = t.val / 3 * 1 + 1 * 0; omega
    | ⟨1, _⟩ => show 704 * (t.val % 3) + r.val = t.val % 3 * 704 + 1 * r.val; omega
    | ⟨2, _⟩ => show l.val = 0 * 512 + 1 * l.val; omega

theorem final12 (c : Dev nD) : (dats m 0 c).arrAt 12 cfg0.N = res12 m c :=
  (dats m 0 c).arrAt_eq_of_cover 12 (res12 m c) (fun t _ => flushed12_eq m c t) fun i => by
    have h0 : (i 0 : Nat) < 16 := (i 0).isLt
    have h1 : (i 1 : Nat) < 2112 := (i 1).isLt
    have h2 : (i 2 : Nat) < 512 := (i 2).isLt
    have hN : cfg0.N = 48 := N_0
    obtain ⟨t, ht⟩ : ∃ t : Fin cfg0.N, t.val = 3 * (i 0 : Nat) + (i 1 : Nat) / 704 := ⟨⟨_, by omega⟩, rfl⟩
    refine ⟨t, flush0_12 t, ?_⟩
    show i ∈ ((View.whole main_v30_2).slice (win0_12.rect t)).set
    rw [View.set_slice_whole, Rect.mem_set_unit]
    intro a
    show cc0_transform_12 (grid0.coords t) a * S1x704x512.size a ≤ (i a : Nat)
      ∧ (i a : Nat) < cc0_transform_12 (grid0.coords t) a * S1x704x512.size a + S1x704x512.size a
    rw [at12]
    match a with
    | ⟨0, _⟩ => show t.val / 3 * 1 ≤ (i 0 : Nat) ∧ (i 0 : Nat) < t.val / 3 * 1 + 1; omega
    | ⟨1, _⟩ => show t.val % 3 * 704 ≤ (i 1 : Nat) ∧ (i 1 : Nat) < t.val % 3 * 704 + 704; omega
    | ⟨2, _⟩ => show 0 * 512 ≤ (i 2 : Nat) ∧ (i 2 : Nat) < 0 * 512 + 512; omega

/-- Result 3 of the kernel. -/
def res13 (c : Dev nD) : Buf (Elt Ideal) ((c : Thread nD τ).loc main_v30_3) :=
  (zS (m ((c : Thread nD τ).loc main_arg0)) (m ((c : Thread nD τ).loc main_arg1)) (m ((c : Thread nD τ).loc main_arg2)) : A3 16 2112 512)

theorem flushed13_eq (c : Dev nD) (t : Fin cfg0.N) :
    (dats m 0 c).flushed 13 t = ((cfg0.win 13).blk t).view.read (Elt Ideal) (res13 m c) := by
  rw [Cert.Kernel3Ideal.Value.flushed13_A]
  funext y
  obtain ⟨o, r, l, rfl⟩ : ∃ (o : Fin 1) (r : Fin 704) (l : Fin 512), y = ix3 o r l := ⟨y 0, y 1, y 2, eq_ix3 y⟩
  obtain rfl : o = 0 := Subsingleton.elim _ _
  refine (z_out (j := jOf t) (hj := coord1 t) (r := r) (k := l) ..).trans ((sum_tile (tile_at m c t) (fun d k => (iblk m c 5 t : Vec Ideal S1024x512 .bf16) (ix2 d k)) l
    (colW 1536 (by decide) l) (fun d => (congrFun (blk5 m c t) _).trans (V5 m c d l)) ⟨16 + r.val, by omega⟩ (rowOf (jOf t) r).val
    (by show 704 * (jOf t).val + (16 + r.val) = 704 * (jOf t).val + r.val + 16; omega)).trans ?_)
  show zS (m ((c : Thread nD τ).loc main_arg0)) (m ((c : Thread nD τ).loc main_arg1)) (m ((c : Thread nD τ).loc main_arg2)) (ix3 (bOf t) (rowOf (jOf t) r) l) = _
  rw [View.read_apply]
  show (zS (m ((c : Thread nD τ).loc main_arg0)) (m ((c : Thread nD τ).loc main_arg1)) (m ((c : Thread nD τ).loc main_arg2)) : A3 16 2112 512) _ = (zS (m ((c : Thread nD τ).loc main_arg0)) (m ((c : Thread nD τ).loc main_arg1)) (m ((c : Thread nD τ).loc main_arg2)) : A3 16 2112 512) _
  congr 1
  funext a
  refine Fin.ext ?_
  show _ = cc0_transform_13 (grid0.coords t) a * S1x704x512.size a + 1 * (ix3 (0 : Fin 1) r l a).val
  rw [at13]
  match a with
  | ⟨0, _⟩ => show t.val / 3 = t.val / 3 * 1 + 1 * 0; omega
  | ⟨1, _⟩ => show 704 * (t.val % 3) + r.val = t.val % 3 * 704 + 1 * r.val; omega
  | ⟨2, _⟩ => show l.val = 0 * 512 + 1 * l.val; omega

theorem final13 (c : Dev nD) : (dats m 0 c).arrAt 13 cfg0.N = res13 m c :=
  (dats m 0 c).arrAt_eq_of_cover 13 (res13 m c) (fun t _ => flushed13_eq m c t) fun i => by
    have h0 : (i 0 : Nat) < 16 := (i 0).isLt
    have h1 : (i 1 : Nat) < 2112 := (i 1).isLt
    have h2 : (i 2 : Nat) < 512 := (i 2).isLt
    have hN : cfg0.N = 48 := N_0
    obtain ⟨t, ht⟩ : ∃ t : Fin cfg0.N, t.val = 3 * (i 0 : Nat) + (i 1 : Nat) / 704 := ⟨⟨_, by omega⟩, rfl⟩
    refine ⟨t, flush0_13 t, ?_⟩
    show i ∈ ((View.whole main_v30_3).slice (win0_13.rect t)).set
    rw [View.set_slice_whole, Rect.mem_set_unit]
    intro a
    show cc0_transform_13 (grid0.coords t) a * S1x704x512.size a ≤ (i a : Nat)
      ∧ (i a : Nat) < cc0_transform_13 (grid0.coords t) a * S1x704x512.size a + S1x704x512.size a
    rw [at13]
    match a with
    | ⟨0, _⟩ => show t.val / 3 * 1 ≤ (i 0 : Nat) ∧ (i 0 : Nat) < t.val / 3 * 1 + 1; omega
    | ⟨1, _⟩ => show t.val % 3 * 704 ≤ (i 1 : Nat) ∧ (i 1 : Nat) < t.val % 3 * 704 + 704; omega
    | ⟨2, _⟩ => show 0 * 512 ≤ (i 2 : Nat) ∧ (i 2 : Nat) < 0 * 512 + 512; omega

/-- Result 4 of the kernel. -/
def res14 (c : Dev nD) : Buf (Elt Ideal) ((c : Thread nD τ).loc main_v30_4) :=
  (scS (m ((c : Thread nD τ).loc main_arg0)) (m ((c : Thread nD τ).loc main_arg1)) (m ((c : Thread nD τ).loc main_arg2)) (m ((c : Thread nD τ).loc main_arg4)) : A3 16 2112 512)

theorem flushed14_eq (c : Dev nD) (t : Fin cfg0.N) :
    (dats m 0 c).flushed 14 t = ((cfg0.win 14).blk t).view.read (Elt Ideal) (res14 m c) := by
  rw [Cert.Kernel3Ideal.Value.flushed14_A]
  rw [sc_out (j := jOf t) (hj := coord1 t)]
  funext y
  obtain ⟨o, r, l, rfl⟩ : ∃ (o : Fin 1) (r : Fin 704) (l : Fin 512), y = ix3 o r l := ⟨y 0, y 1, y 2, eq_ix3 y⟩
  obtain rfl : o = 0 := Subsingleton.elim _ _
  refine Eq.trans ?_ (sc_tile (tile_at m c t) (W := iblk m c 6 t) (fun d k => (congrFun (blk6 m c t) _).trans (V28 m c d k))
    (m ((c : Thread nD τ).loc main_arg4)) r l |>.trans ?_)
  · show scE _ (fun a k => (iblk m c 9 t : Vec Ideal S3x512 .f32) (ix2 a k)) _ = _
    rw [blk9, V_main_arg4]
    rfl
  · rw [View.read_apply]
    show (scS (m ((c : Thread nD τ).loc main_arg0)) (m ((c : Thread nD τ).loc main_arg1)) (m ((c : Thread nD τ).loc main_arg2)) (m ((c : Thread nD τ).loc main_arg4)) : A3 16 2112 512) _ = (scS (m ((c : Thread nD τ).loc main_arg0)) (m ((c : Thread nD τ).loc main_arg1)) (m ((c : Thread nD τ).loc main_arg2)) (m ((c : Thread nD τ).loc main_arg4)) : A3 16 2112 512) _
    congr 1
    funext a
    refine Fin.ext ?_
    show _ = cc0_transform_14 (grid0.coords t) a * S1x704x512.size a + 1 * (ix3 (0 : Fin 1) r l a).val
    rw [at14]
    match a with
    | ⟨0, _⟩ => show t.val / 3 = t.val / 3 * 1 + 1 * 0; omega
    | ⟨1, _⟩ => show 704 * (t.val % 3) + r.val = t.val % 3 * 704 + 1 * r.val; omega
    | ⟨2, _⟩ => show l.val = 0 * 512 + 1 * l.val; omega

theorem final14 (c : Dev nD) : (dats m 0 c).arrAt 14 cfg0.N = res14 m c :=
  (dats m 0 c).arrAt_eq_of_cover 14 (res14 m c) (fun t _ => flushed14_eq m c t) fun i => by
    have h0 : (i 0 : Nat) < 16 := (i 0).isLt
    have h1 : (i 1 : Nat) < 2112 := (i 1).isLt
    have h2 : (i 2 : Nat) < 512 := (i 2).isLt
    have hN : cfg0.N = 48 := N_0
    obtain ⟨t, ht⟩ : ∃ t : Fin cfg0.N, t.val = 3 * (i 0 : Nat) + (i 1 : Nat) / 704 := ⟨⟨_, by omega⟩, rfl⟩
    refine ⟨t, flush0_14 t, ?_⟩
    show i ∈ ((View.whole main_v30_4).slice (win0_14.rect t)).set
    rw [View.set_slice_whole, Rect.mem_set_unit]
    intro a
    show cc0_transform_14 (grid0.coords t) a * S1x704x512.size a ≤ (i a : Nat)
      ∧ (i a : Nat) < cc0_transform_14 (grid0.coords t) a * S1x704x512.size a + S1x704x512.size a
    rw [at14]
    match a with
    | ⟨0, _⟩ => show t.val / 3 * 1 ≤ (i 0 : Nat) ∧ (i 0 : Nat) < t.val / 3 * 1 + 1; omega
    | ⟨1, _⟩ => show t.val % 3 * 704 ≤ (i 1 : Nat) ∧ (i 1 : Nat) < t.val % 3 * 704 + 704; omega
    | ⟨2, _⟩ => show 0 * 512 ≤ (i 2 : Nat) ∧ (i 2 : Nat) < 0 * 512 + 512; omega

/-- Result 5 of the kernel. -/
def res15 (c : Dev nD) : Buf (Elt Ideal) ((c : Thread nD τ).loc main_v30_5) :=
  (baS (m ((c : Thread nD τ).loc main_arg0)) (m ((c : Thread nD τ).loc main_arg1)) (m ((c : Thread nD τ).loc main_arg2)) : A3 16 2112 128)

theorem flushed15_eq (c : Dev nD) (t : Fin cfg0.N) :
    (dats m 0 c).flushed 15 t = ((cfg0.win 15).blk t).view.read (Elt Ideal) (res15 m c) := by
  rw [Cert.Kernel3Ideal.Value.flushed15_A]
  funext y
  obtain ⟨o, r, l, rfl⟩ : ∃ (o : Fin 1) (r : Fin 704) (l : Fin 128), y = ix3 o r l := ⟨y 0, y 1, y 2, eq_ix3 y⟩
  obtain rfl : o = 0 := Subsingleton.elim _ _
  refine (ba_out (j := jOf t) (hj := coord1 t) (r := r) (k := l) ..).trans ((ba_tile (tile_at m c t) (iblk m c 7 t)
    (fun d k => (congrFun (blk7 m c t) _).trans (V26 m c d k)) r l).trans ?_)
  rw [View.read_apply]
  show (baS (m ((c : Thread nD τ).loc main_arg0)) (m ((c : Thread nD τ).loc main_arg1)) (m ((c : Thread nD τ).loc main_arg2)) : A3 16 2112 128) _ = (baS (m ((c : Thread nD τ).loc main_arg0)) (m ((c : Thread nD τ).loc main_arg1)) (m ((c : Thread nD τ).loc main_arg2)) : A3 16 2112 128) _
  congr 1
  funext a
  refine Fin.ext ?_
  show _ = cc0_transform_15 (grid0.coords t) a * S1x704x128.size a + 1 * (ix3 (0 : Fin 1) r l a).val
  rw [at15]
  match a with
  | ⟨0, _⟩ => show t.val / 3 = t.val / 3 * 1 + 1 * 0; omega
  | ⟨1, _⟩ => show 704 * (t.val % 3) + r.val = t.val % 3 * 704 + 1 * r.val; omega
  | ⟨2, _⟩ => show l.val = 0 * 128 + 1 * l.val; omega

theorem final15 (c : Dev nD) : (dats m 0 c).arrAt 15 cfg0.N = res15 m c :=
  (dats m 0 c).arrAt_eq_of_cover 15 (res15 m c) (fun t _ => flushed15_eq m c t) fun i => by
    have h0 : (i 0 : Nat) < 16 := (i 0).isLt
    have h1 : (i 1 : Nat) < 2112 := (i 1).isLt
    have h2 : (i 2 : Nat) < 128 := (i 2).isLt
    have hN : cfg0.N = 48 := N_0
    obtain ⟨t, ht⟩ : ∃ t : Fin cfg0.N, t.val = 3 * (i 0 : Nat) + (i 1 : Nat) / 704 := ⟨⟨_, by omega⟩, rfl⟩
    refine ⟨t, flush0_15 t, ?_⟩
    show i ∈ ((View.whole main_v30_5).slice (win0_15.rect t)).set
    rw [View.set_slice_whole, Rect.mem_set_unit]
    intro a
    show cc0_transform_15 (grid0.coords t) a * S1x704x128.size a ≤ (i a : Nat)
      ∧ (i a : Nat) < cc0_transform_15 (grid0.coords t) a * S1x704x128.size a + S1x704x128.size a
    rw [at15]
    match a with
    | ⟨0, _⟩ => show t.val / 3 * 1 ≤ (i 0 : Nat) ∧ (i 0 : Nat) < t.val / 3 * 1 + 1; omega
    | ⟨1, _⟩ => show t.val % 3 * 704 ≤ (i 1 : Nat) ∧ (i 1 : Nat) < t.val % 3 * 704 + 704; omega
    | ⟨2, _⟩ => show 0 * 128 ≤ (i 2 : Nat) ∧ (i 2 : Nat) < 0 * 128 + 128; omega

end Cert.Proof.InProj

end
-- ==== Proof.InProj.Ref.lean ====
/- The reference of the layer's first half, one operation group at a time, at an index. -/
module

public import proofs.«01_k».proof.Proof.Gen.Reference3Ideal.Run
public import proofs.«01_k».proof.Proof.InProj.Front
public import Idealize.ShloMosaic.Lib.KernelVsHost

@[expose] public section

set_option maxRecDepth 16384

noncomputable section

open Idealize.ShloMosaic Idealize.ShloMosaic.TcCoe Idealize.SL.Sem

namespace Cert.Proof.InProj.Ref

open Cert.Reference3Ideal Cert.Reference3Ideal.Gen

/-- The zero that pads. -/
def zero0 : FVec Ideal S_ .f32 := sitofp .f32 (constantI S_ 32 0#32)

theorem zero0_apply (i : S_.Idx) : zero0 i = (0 : EReal) := by
  show FloatOps.sitofp (F := Ideal) .f32 (0#32) = (0 : EReal)
  simp [FloatOps.sitofp]

/-- The norm over the model's width. -/
def norm3 (x : FVec Ideal S16x2064x1024 .f32) (w : FVec Ideal S1024 .f32) : FVec Ideal S16x2064x1024 .f32 :=
  mulf (mulf x (broadcastInDim S16x2064x1024 ![0, 1, 2] bcast_S16x2064x1_S16x2064x1024_0_1_2 (Host.rsqrt (addf
      (Host.divf (broadcastInDim S16x2064x1 ![0, 1] bcast_S16x2064_S16x2064x1_0_1
        (Host.reduceAdd (mulf x x) (constant S_ .f32 0x00000000#32) reducesTo_S16x2064x1024_S16x2064_d2 h_S_))
        (broadcastInDim S16x2064x1 ![] bcast_S_S16x2064x1 (constant S_ .f32 0x44800000#32)))
      (broadcastInDim S16x2064x1 ![] bcast_S_S16x2064x1 (constant S_ .f32 0x358637BD#32))))))
    (broadcastInDim S16x2064x1024 ![0, 1, 2] bcast_S1x1x1024_S16x2064x1024_0_1_2
      (broadcastInDim S1x1x1024 ![2] bcast_S1024_S1x1x1024_2 w))

/-- The rows projected. -/
def proj (x : FVec Ideal S16x2064x1024 .f32) (w : FVec Ideal S1024 .f32) (W : FVec Ideal S1024x3600 .f32) : FVec Ideal S16x2064x3600 .f32 :=
  Host.dotGeneral dot_S16x2064x1024_S1024x3600_S16x2064x3600_2_0_01_1_n_n none (norm3 x w) W

theorem norm3_apply (x : FVec Ideal S16x2064x1024 .f32) (w : FVec Ideal S1024 .f32) (b : Fin 16) (s : Fin 2064) (d : Fin 1024) :
    norm3 x w (ix3 b s d) = rmsRow c1024 (fun d => x (ix3 b s d)) (fun d => w (ix1 d)) d := by
  unfold rmsRow c1024
  pointwise [norm3]

theorem proj_apply (x : FVec Ideal S16x2064x1024 .f32) (w : FVec Ideal S1024 .f32) (W : FVec Ideal S1024x3600 .f32) (b : Fin 16)
    (s : Fin 2064) (c : Fin 3600) : proj x w W (ix3 b s c) = Pn x w W b (48 + s.val) c := by
  have e : proj x w W (ix3 b s c) = ∑ d : Fin 1024, norm3 x w (ix3 b s d) * W (ix2 d c) := by
    unfold proj
    generalize norm3 x w = N
    pointwise
  rw [e]
  unfold Pn
  refine Finset.sum_congr rfl fun d _ => ?_
  rw [norm3_apply]
  have h : (fun d => x (ix3 b s d)) = hN x b (48 + s.val) := by
    funext d
    unfold hN
    rw [dif_pos (by omega)]
    refine congrArg (fun s => x (ix3 b s d)) (Fin.ext ?_)
    show s.val = 48 + s.val - 48
    omega
  rw [h]

/-- The 48 rows put in front. -/
def lpad (x : FVec Ideal S16x2064x512 .f32) : FVec Ideal S16x2112x512 .f32 :=
  pad S16x2112x512 ![0, 48, 0] ![0, 0, 0] ![0, 0, 0] x zero0 pads_S16x2064x512_S16x2112x512_000_4800_000 h_S_

theorem lpad_apply (x : FVec Ideal S16x2064x512 .f32) (b : Fin 16) (s : Fin 2112) (l : Fin 512) :
    lpad x (ix3 b s l) = if h : 48 ≤ s.val then x (ix3 b (⟨s.val - 48, by omega⟩ : Fin 2064) l) else (0 : EReal) := by
  unfold lpad
  split_ifs with h
  · refine pad_apply_of_inside (s := S16x2064x512) (t := S16x2112x512) ![0, 48, 0] ![0, 0, 0] ![0, 0, 0] _ _
      pads_S16x2064x512_S16x2112x512_000_4800_000 h_S_ (ix3 b s l) (ix3 b (⟨s.val - 48, by omega⟩ : Fin 2064) l) (fun a => ?_)
    match a with
    | ⟨0, _⟩ => show b.val = 0 + b.val * (0 + 1); omega
    | ⟨1, _⟩ => show s.val = 48 + (s.val - 48) * (0 + 1); omega
    | ⟨2, _⟩ => show l.val = 0 + l.val * (0 + 1); omega
  · refine (pad_apply_of_not_inside (s := S16x2064x512) (t := S16x2112x512) ![0, 48, 0] ![0, 0, 0] ![0, 0, 0] _ _
      pads_S16x2064x512_S16x2112x512_000_4800_000 h_S_ (ix3 b s l) 1 ?_).trans (zero0_apply _)
    rintro ⟨h1, -, -⟩
    exact h h1

/-- One row of zeros on each side. -/
def rim1536 (x : FVec Ideal S16x2064x1536 .f32) : FVec Ideal S16x2066x1536 .f32 :=
  pad S16x2066x1536 ![0, 1, 0] ![0, 1, 0] ![0, 0, 0] x zero0 pads_S16x2064x1536_S16x2066x1536_000_110_000 h_S_

theorem rim1536_apply (x : FVec Ideal S16x2064x1536 .f32) (b : Fin 16) (l : Fin 1536) (G : ℕ → EReal)
    (hx : ∀ s : Fin 2064, x (ix3 b s l) = G (48 + s.val)) (h0 : G 47 = 0) (h1 : G 2112 = 0) (t : Fin 2066) :
    rim1536 x (ix3 b t l) = G (47 + t.val) := by
  unfold rim1536
  by_cases h : 1 ≤ t.val ∧ t.val ≤ 2064
  · refine (pad_apply_of_inside (s := S16x2064x1536) (t := S16x2066x1536) ![0, 1, 0] ![0, 1, 0] ![0, 0, 0] _ _
      pads_S16x2064x1536_S16x2066x1536_000_110_000 h_S_ (ix3 b t l) (ix3 b (⟨t.val - 1, by omega⟩ : Fin 2064) l) (fun a => ?_)).trans ?_
    · match a with
      | ⟨0, _⟩ => show b.val = 0 + b.val * (0 + 1); omega
      | ⟨1, _⟩ => show t.val = 1 + (t.val - 1) * (0 + 1); omega
      | ⟨2, _⟩ => show l.val = 0 + l.val * (0 + 1); omega
    · refine (hx _).trans (congrArg G ?_)
      show 48 + (t.val - 1) = _
      omega
  · refine (pad_apply_of_not_inside (s := S16x2064x1536) (t := S16x2066x1536) ![0, 1, 0] ![0, 1, 0] ![0, 0, 0] _ _
      pads_S16x2064x1536_S16x2066x1536_000_110_000 h_S_ (ix3 b t l) 1 ?_).trans ((zero0_apply _).trans ?_)
    · rintro ⟨g1, -, g2⟩
      have g3 : (t.val - 1) / (0 + 1) < 2064 := g2
      have g4 : 1 ≤ t.val := g1
      rw [Nat.div_one] at g3
      omega
    · rcases (by omega : t.val = 0 ∨ t.val = 2065) with e | e
      · rw [e]; exact h0.symm
      · rw [e]; exact h1.symm

/-- Row `i` of the convolution's weights, over all rows. -/
def wrow1536 (w : FVec Ideal S1x1536 .f32) : FVec Ideal S16x2064x1536 .f32 :=
  broadcastInDim S16x2064x1536 ![0, 1, 2] bcast_S1x1x1536_S16x2064x1536_0_1_2
    (broadcastInDim S1x1x1536 ![2] bcast_S1536_S1x1x1536_2 (shapeCast S1536 w shapeCasts_S1x1536_S1536))

/-- The convolution over three rows. -/
def conv1536 (x : FVec Ideal S16x2064x1536 .f32) (w : FVec Ideal S3x1536 .f32) : FVec Ideal S16x2064x1536 .f32 :=
  addf (addf (mulf (extractStridedSlice S16x2064x1536 ![0, 0, 0] (rim1536 x) slices_S16x2066x1536_S16x2064x1536_0_0_0)
        (wrow1536 (extractStridedSlice S1x1536 ![0, 0] w slices_S3x1536_S1x1536_0_0)))
      (mulf (extractStridedSlice S16x2064x1536 ![0, 1, 0] (rim1536 x) slices_S16x2066x1536_S16x2064x1536_0_1_0)
        (wrow1536 (extractStridedSlice S1x1536 ![1, 0] w slices_S3x1536_S1x1536_1_0))))
    (mulf (extractStridedSlice S16x2064x1536 ![0, 2, 0] (rim1536 x) slices_S16x2066x1536_S16x2064x1536_0_2_0)
      (wrow1536 (extractStridedSlice S1x1536 ![2, 0] w slices_S3x1536_S1x1536_2_0)))

theorem conv1536_apply (x : FVec Ideal S16x2064x1536 .f32) (w : FVec Ideal S3x1536 .f32) (b : Fin 16) (l : Fin 1536) (G : ℕ → EReal)
    (hx : ∀ s : Fin 2064, x (ix3 b s l) = G (48 + s.val)) (h0 : G 47 = 0) (h1 : G 2112 = 0) (s : Fin 2064) :
    conv1536 x w (ix3 b s l) = conv3 (G (47 + s.val)) (G (48 + s.val)) (G (49 + s.val)) (w (ix2 (0 : Fin 3) l)) (w (ix2 (1 : Fin 3) l))
      (w (ix2 (2 : Fin 3) l)) := by
  have e0 := rim1536_apply x b l G hx h0 h1 (⟨s.val, by omega⟩ : Fin 2066)
  have e1 := (rim1536_apply x b l G hx h0 h1 (⟨1 + s.val, by omega⟩ : Fin 2066)).trans (congrArg G (show 47 + (1 + s.val) = 48 + s.val by omega))
  have e2 := (rim1536_apply x b l G hx h0 h1 (⟨2 + s.val, by omega⟩ : Fin 2066)).trans (congrArg G (show 47 + (2 + s.val) = 49 + s.val by omega))
  have e : conv1536 x w (ix3 b s l) = rim1536 x (ix3 b (⟨s.val, by omega⟩ : Fin 2066) l) * w (ix2 (0 : Fin 3) l)
      + rim1536 x (ix3 b (⟨1 + s.val, by omega⟩ : Fin 2066) l) * w (ix2 (1 : Fin 3) l)
      + rim1536 x (ix3 b (⟨2 + s.val, by omega⟩ : Fin 2066) l) * w (ix2 (2 : Fin 3) l) := by
    unfold conv1536
    generalize rim1536 x = R
    pointwise [wrow1536]
  rw [e, e0, e1, e2]
  unfold conv3
  rw [mul_comm (G (47 + s.val)), mul_comm (G (48 + s.val)), mul_comm (G (49 + s.val)), add_comm (w (ix2 (0 : Fin 3) l) * _)]

/-- One row of zeros on each side. -/
def rim512 (x : FVec Ideal S16x2064x512 .f32) : FVec Ideal S16x2066x512 .f32 :=
  pad S16x2066x512 ![0, 1, 0] ![0, 1, 0] ![0, 0, 0] x zero0 pads_S16x2064x512_S16x2066x512_000_110_000 h_S_

theorem rim512_apply (x : FVec Ideal S16x2064x512 .f32) (b : Fin 16) (l : Fin 512) (G : ℕ → EReal)
    (hx : ∀ s : Fin 2064, x (ix3 b s l) = G (48 + s.val)) (h0 : G 47 = 0) (h1 : G 2112 = 0) (t : Fin 2066) :
    rim512 x (ix3 b t l) = G (47 + t.val) := by
  unfold rim512
  by_cases h : 1 ≤ t.val ∧ t.val ≤ 2064
  · refine (pad_apply_of_inside (s := S16x2064x512) (t := S16x2066x512) ![0, 1, 0] ![0, 1, 0] ![0, 0, 0] _ _
      pads_S16x2064x512_S16x2066x512_000_110_000 h_S_ (ix3 b t l) (ix3 b (⟨t.val - 1, by omega⟩ : Fin 2064) l) (fun a => ?_)).trans ?_
    · match a with
      | ⟨0, _⟩ => show b.val = 0 + b.val * (0 + 1); omega
      | ⟨1, _⟩ => show t.val = 1 + (t.val - 1) * (0 + 1); omega
      | ⟨2, _⟩ => show l.val = 0 + l.val * (0 + 1); omega
    · refine (hx _).trans (congrArg G ?_)
      show 48 + (t.val - 1) = _
      omega
  · refine (pad_apply_of_not_inside (s := S16x2064x512) (t := S16x2066x512) ![0, 1, 0] ![0, 1, 0] ![0, 0, 0] _ _
      pads_S16x2064x512_S16x2066x512_000_110_000 h_S_ (ix3 b t l) 1 ?_).trans ((zero0_apply _).trans ?_)
    · rintro ⟨g1, -, g2⟩
      have g3 : (t.val - 1) / (0 + 1) < 2064 := g2
      have g4 : 1 ≤ t.val := g1
      rw [Nat.div_one] at g3
      omega
    · rcases (by omega : t.val = 0 ∨ t.val = 2065) with e | e
      · rw [e]; exact h0.symm
      · rw [e]; exact h1.symm

/-- Row `i` of the convolution's weights, over all rows. -/
def wrow512 (w : FVec Ideal S1x512 .f32) : FVec Ideal S16x2064x512 .f32 :=
  broadcastInDim S16x2064x512 ![0, 1, 2] bcast_S1x1x512_S16x2064x512_0_1_2
    (broadcastInDim S1x1x512 ![2] bcast_S512_S1x1x512_2 (shapeCast S512 w shapeCasts_S1x512_S512))

/-- The convolution over three rows. -/
def conv512 (x : FVec Ideal S16x2064x512 .f32) (w : FVec Ideal S3x512 .f32) : FVec Ideal S16x2064x512 .f32 :=
  addf (addf (mulf (extractStridedSlice S16x2064x512 ![0, 0, 0] (rim512 x) slices_S16x2066x512_S16x2064x512_0_0_0)
        (wrow512 (extractStridedSlice S1x512 ![0, 0] w slices_S3x512_S1x512_0_0)))
      (mulf (extractStridedSlice S16x2064x512 ![0, 1, 0] (rim512 x) slices_S16x2066x512_S16x2064x512_0_1_0)
        (wrow512 (extractStridedSlice S1x512 ![1, 0] w slices_S3x512_S1x512_1_0))))
    (mulf (extractStridedSlice S16x2064x512 ![0, 2, 0] (rim512 x) slices_S16x2066x512_S16x2064x512_0_2_0)
      (wrow512 (extractStridedSlice S1x512 ![2, 0] w slices_S3x512_S1x512_2_0)))

theorem conv512_apply (x : FVec Ideal S16x2064x512 .f32) (w : FVec Ideal S3x512 .f32) (b : Fin 16) (l : Fin 512) (G : ℕ → EReal)
    (hx : ∀ s : Fin 2064, x (ix3 b s l) = G (48 + s.val)) (h0 : G 47 = 0) (h1 : G 2112 = 0) (s : Fin 2064) :
    conv512 x w (ix3 b s l) = conv3 (G (47 + s.val)) (G (48 + s.val)) (G (49 + s.val)) (w (ix2 (0 : Fin 3) l)) (w (ix2 (1 : Fin 3) l))
      (w (ix2 (2 : Fin 3) l)) := by
  have e0 := rim512_apply x b l G hx h0 h1 (⟨s.val, by omega⟩ : Fin 2066)
  have e1 := (rim512_apply x b l G hx h0 h1 (⟨1 + s.val, by omega⟩ : Fin 2066)).trans (congrArg G (show 47 + (1 + s.val) = 48 + s.val by omega))
  have e2 := (rim512_apply x b l G hx h0 h1 (⟨2 + s.val, by omega⟩ : Fin 2066)).trans (congrArg G (show 47 + (2 + s.val) = 49 + s.val by omega))
  have e : conv512 x w (ix3 b s l) = rim512 x (ix3 b (⟨s.val, by omega⟩ : Fin 2066) l) * w (ix2 (0 : Fin 3) l)
      + rim512 x (ix3 b (⟨1 + s.val, by omega⟩ : Fin 2066) l) * w (ix2 (1 : Fin 3) l)
      + rim512 x (ix3 b (⟨2 + s.val, by omega⟩ : Fin 2066) l) * w (ix2 (2 : Fin 3) l) := by
    unfold conv512
    generalize rim512 x = R
    pointwise [wrow512]
  rw [e, e0, e1, e2]
  unfold conv3
  rw [mul_comm (G (47 + s.val)), mul_comm (G (48 + s.val)), mul_comm (G (49 + s.val)), add_comm (w (ix2 (0 : Fin 3) l) * _)]

/-- `x · sigmoid(x)`. -/
def silu3 (x : FVec Ideal S16x2064x1536 .f32) : FVec Ideal S16x2064x1536 .f32 :=
  mulf x (Host.divf (broadcastInDim S16x2064x1536 ![] bcast_S_S16x2064x1536 (constant S_ .f32 0x3F800000#32))
    (addf (broadcastInDim S16x2064x1536 ![] bcast_S_S16x2064x1536 (constant S_ .f32 0x3F800000#32)) (Host.exp (Host.negf x))))

theorem silu3_apply (x : FVec Ideal S16x2064x1536 .f32) (i : S16x2064x1536.Idx) : silu3 x i = siluE (x i) := by
  unfold siluE
  pointwise [silu3]
  rfl

/-- The convolved and activated columns. -/
def act (P : FVec Ideal S16x2064x3600 .f32) (w : FVec Ideal S3x1536 .f32) : FVec Ideal S16x2064x1536 .f32 :=
  silu3 (conv1536 (extractStridedSlice S16x2064x1536 ![0, 0, 0] P slices_S16x2064x3600_S16x2064x1536_0_0_0) w)

theorem act_apply (x : FVec Ideal S16x2064x1024 .f32) (nw : FVec Ideal S1024 .f32) (W : FVec Ideal S1024x3600 .f32)
    (cw : FVec Ideal S3x1536 .f32) (b : Fin 16) (s : Fin 2064) (c : Fin 1536) :
    act (proj x nw W) cw (ix3 b s c) = yS x nw W cw b (48 + s.val) c := by
  unfold act yS
  rw [silu3_apply]
  refine congrArg siluE ((conv1536_apply _ cw b c (fun t => Pn x nw W b t (colW 0 (by decide) c)) (fun s => ?_)
    (Pn_zero _ _ _ _ _ _ (by omega)) (Pn_zero _ _ _ _ _ _ (by omega)) s).trans ?_)
  · refine Eq.trans ?_ (proj_apply x nw W b s _)
    generalize proj x nw W = P
    pointwise
    unfold colW
    simp only [Nat.zero_add]
  · show conv3 (Pn x nw W b (47 + s.val) _) _ (Pn x nw W b (49 + s.val) _) _ _ _ = _
    rw [show 48 + s.val - 1 = 47 + s.val by omega, show 48 + s.val + 1 = 49 + s.val by omega]

/-- Rows by head. -/
def split4 (x : FVec Ideal S16x2064x512 .f32) : FVec Ideal S16x2064x4x128 .f32 := shapeCast S16x2064x4x128 x shapeCasts_S16x2064x512_S16x2064x4x128
/-- Heads side by side. -/
def join4 (x : FVec Ideal S16x2064x4x128 .f32) : FVec Ideal S16x2064x512 .f32 := shapeCast S16x2064x512 x shapeCasts_S16x2064x4x128_S16x2064x512

theorem split4_apply (x : FVec Ideal S16x2064x512 .f32) (b : Fin 16) (s : Fin 2064) (d : Fin 4) (k : Fin 128) :
    split4 x (ix4 b s d k) = x (ix3 b s (⟨128 * d.val + k.val, by omega⟩ : Fin 512)) := by
  refine shapeCast_apply x _ _ _ ?_
  rw [rowMajor_val3 _ (2064 * 512) 512 rfl rfl, rowMajor_val4 _ (2064 * (4 * 128)) (4 * 128) 128 rfl rfl rfl]
  show b.val * (2064 * 512) + s.val * 512 + (128 * d.val + k.val) = b.val * (2064 * (4 * 128)) + s.val * (4 * 128) + d.val * 128 + k.val
  omega

theorem join4_apply (x : FVec Ideal S16x2064x4x128 .f32) (b : Fin 16) (s : Fin 2064) (j : Fin 512) :
    join4 x (ix3 b s j) = x (ix4 b s (⟨j.val / 128, by omega⟩ : Fin 4) (⟨j.val % 128, by omega⟩ : Fin 128)) := by
  refine shapeCast_apply x _ _ _ ?_
  rw [rowMajor_val3 _ (2064 * 512) 512 rfl rfl, rowMajor_val4 _ (2064 * (4 * 128)) (4 * 128) 128 rfl rfl rfl]
  show b.val * (2064 * (4 * 128)) + s.val * (4 * 128) + j.val / 128 * 128 + j.val % 128 = b.val * (2064 * 512) + s.val * 512 + j.val
  omega

/-- Heads brought to length one. -/
def unit4 (x : FVec Ideal S16x2064x4x128 .f32) : FVec Ideal S16x2064x4x128 .f32 :=
  mulf x (broadcastInDim S16x2064x4x128 ![0, 1, 2, 3] bcast_S16x2064x4x1_S16x2064x4x128_0_1_2_3 (Host.rsqrt (addf
    (broadcastInDim S16x2064x4x1 ![0, 1, 2] bcast_S16x2064x4_S16x2064x4x1_0_1_2
      (Host.reduceAdd (mulf x x) (constant S_ .f32 0x00000000#32) reducesTo_S16x2064x4x128_S16x2064x4_d3 h_S_))
    (broadcastInDim S16x2064x4x1 ![] bcast_S_S16x2064x4x1 (constant S_ .f32 0x358637BD#32)))))

theorem unit4_apply (x : FVec Ideal S16x2064x4x128 .f32) (b : Fin 16) (s : Fin 2064) (d : Fin 4) (k : Fin 128) :
    unit4 x (ix4 b s d k) = x (ix4 b s d k) * unitFac (fun k => x (ix4 b s d k)) := by
  unfold unitFac
  pointwise [unit4]

/-- The scaling of the queries. -/
def scale4 (x : FVec Ideal S16x2064x4x128 .f32) : FVec Ideal S16x2064x4x128 .f32 :=
  mulf x (broadcastInDim S16x2064x4x128 ![] bcast_S_S16x2064x4x128 (constant S_ .f32 0x3DB504F3#32))

theorem scale4_apply (x : FVec Ideal S16x2064x4x128 .f32) (i : S16x2064x4x128.Idx) : scale4 x i = x i * qScale := by
  unfold qScale
  pointwise [scale4]

/-- The queries, keys and values of the rows of the sequence. -/
def q3 (Y : FVec Ideal S16x2064x1536 .f32) : FVec Ideal S16x2064x512 .f32 :=
  join4 (scale4 (unit4 (split4 (extractStridedSlice S16x2064x512 ![0, 0, 0] Y slices_S16x2064x1536_S16x2064x512_0_0_0))))
def k3 (Y : FVec Ideal S16x2064x1536 .f32) : FVec Ideal S16x2064x512 .f32 :=
  join4 (unit4 (split4 (extractStridedSlice S16x2064x512 ![0, 0, 512] Y slices_S16x2064x1536_S16x2064x512_0_0_512)))
def v3 (Y : FVec Ideal S16x2064x1536 .f32) : FVec Ideal S16x2064x512 .f32 :=
  extractStridedSlice S16x2064x512 ![0, 0, 1024] Y slices_S16x2064x1536_S16x2064x512_0_0_1024

theorem cut0 (Y : FVec Ideal S16x2064x1536 .f32) (b : Fin 16) (s : Fin 2064) (l : Fin 512) :
    extractStridedSlice S16x2064x512 ![0, 0, 0] Y slices_S16x2064x1536_S16x2064x512_0_0_0 (ix3 b s l) = Y (ix3 b s (col 0 l)) := by
  pointwise
  exact congrArg (fun c => Y (ix3 b s c)) (Fin.ext (by show l.val = 512 * 0 + l.val; omega))

theorem cut1 (Y : FVec Ideal S16x2064x1536 .f32) (b : Fin 16) (s : Fin 2064) (l : Fin 512) :
    extractStridedSlice S16x2064x512 ![0, 0, 512] Y slices_S16x2064x1536_S16x2064x512_0_0_512 (ix3 b s l) = Y (ix3 b s (col 1 l)) := by
  pointwise
  rfl

theorem v3_apply (Y : FVec Ideal S16x2064x1536 .f32) (b : Fin 16) (s : Fin 2064) (l : Fin 512) : v3 Y (ix3 b s l) = Y (ix3 b s (col 2 l)) := by
  unfold v3
  pointwise
  rfl

theorem home (l : Fin 512) : (⟨128 * (l.val / 128) + l.val % 128, by omega⟩ : Fin 512) = l := Fin.ext (by show 128 * (l.val / 128) + l.val % 128 = l.val; omega)

theorem q3_apply (Y : FVec Ideal S16x2064x1536 .f32) (b : Fin 16) (s : Fin 2064) (l : Fin 512) :
    q3 Y (ix3 b s l) = Y (ix3 b s (col 0 l)) * (unitFac (fun k => Y (ix3 b s (col 0 (lane l k)))) * qScale) := by
  unfold q3
  rw [join4_apply, scale4_apply, unit4_apply, mul_assoc]
  simp only [split4_apply, cut0]
  rw [home]
  rfl

theorem k3_apply (Y : FVec Ideal S16x2064x1536 .f32) (b : Fin 16) (s : Fin 2064) (l : Fin 512) :
    k3 Y (ix3 b s l) = Y (ix3 b s (col 1 l)) * unitFac (fun k => Y (ix3 b s (col 1 (lane l k)))) := by
  unfold k3
  rw [join4_apply, unit4_apply]
  simp only [split4_apply, cut1]
  rw [home]
  rfl

/-- The short convolution's branch, for the rows of the sequence. -/
def sc3 (P : FVec Ideal S16x2064x3600 .f32) (w : FVec Ideal S3x512 .f32) : FVec Ideal S16x2064x512 .f32 :=
  mulf (extractStridedSlice S16x2064x512 ![0, 0, 2064] P slices_S16x2064x3600_S16x2064x512_0_0_2064)
    (conv512 (mulf (extractStridedSlice S16x2064x512 ![0, 0, 2576] P slices_S16x2064x3600_S16x2064x512_0_0_2576)
      (extractStridedSlice S16x2064x512 ![0, 0, 3088] P slices_S16x2064x3600_S16x2064x512_0_0_3088)) w)

theorem sc3_apply (x : FVec Ideal S16x2064x1024 .f32) (nw : FVec Ideal S1024 .f32) (W : FVec Ideal S1024x3600 .f32)
    (sw : FVec Ideal S3x512 .f32) (b : Fin 16) (s : Fin 2064) (l : Fin 512) :
    sc3 (proj x nw W) sw (ix3 b s l) = Pn x nw W b (48 + s.val) (colW 2064 (by decide) l)
      * conv3 (pS x nw W b (47 + s.val) l) (pS x nw W b (48 + s.val) l) (pS x nw W b (49 + s.val) l) (sw (ix2 (0 : Fin 3) l))
          (sw (ix2 (1 : Fin 3) l)) (sw (ix2 (2 : Fin 3) l)) := by
  have z : ∀ t : ℕ, ¬(48 ≤ t ∧ t < 2112) → pS x nw W b t l = 0 := fun t ht => by
    unfold pS
    rw [Pn_zero _ _ _ _ _ _ ht, zero_mul]
  refine congrArg₂ (fun a b : EReal => a * b) ?_ (conv512_apply _ sw b l (fun t => pS x nw W b t l) (fun s => ?_) (z _ (by omega)) (z _ (by omega)) s)
  · refine Eq.trans ?_ (proj_apply x nw W b s _)
    generalize proj x nw W = P
    pointwise
    rfl
  · refine congrArg₂ (fun a b : EReal => a * b) ?_ ?_
    · refine Eq.trans ?_ (proj_apply x nw W b s _)
      generalize proj x nw W = P
      pointwise
      rfl
    · refine Eq.trans ?_ (proj_apply x nw W b s _)
      generalize proj x nw W = P
      pointwise
      rfl

/-- The output gate's columns, for the rows of the sequence. -/
def z3 (P : FVec Ideal S16x2064x3600 .f32) : FVec Ideal S16x2064x512 .f32 :=
  extractStridedSlice S16x2064x512 ![0, 0, 1536] P slices_S16x2064x3600_S16x2064x512_0_0_1536

theorem z3_apply (x : FVec Ideal S16x2064x1024 .f32) (nw : FVec Ideal S1024 .f32) (W : FVec Ideal S1024x3600 .f32) (b : Fin 16)
    (s : Fin 2064) (l : Fin 512) : z3 (proj x nw W) (ix3 b s l) = Pn x nw W b (48 + s.val) (colW 1536 (by decide) l) := by
  refine Eq.trans ?_ (proj_apply x nw W b s _)
  generalize proj x nw W = P
  unfold z3
  pointwise
  rfl

/-- The eight columns of a gate, the directions first. -/
def turn (x : FVec Ideal S16x2064x8 .f32) : FVec Ideal S16x2064x8 .f32 :=
  shapeCast S16x2064x8 (transpose S16x2064x2x2x2 [0, 1, 4, 2, 3] (shapeCast S16x2064x2x2x2 x shapeCasts_S16x2064x8_S16x2064x2x2x2)
    transposes_S16x2064x2x2x2_S16x2064x2x2x2_0_1_4_2_3) shapeCasts_S16x2064x2x2x2_S16x2064x8

theorem turn_apply (x : FVec Ideal S16x2064x8 .f32) (b : Fin 16) (s : Fin 2064) (k : Fin 8) :
    turn x (ix3 b s k) = x (ix3 b s (⟨perm k.val, by unfold perm; omega⟩ : Fin 8)) := by
  unfold turn
  refine (shapeCast_apply _ _ _ (ix5 b s (⟨k.val / 4, by omega⟩ : Fin 2) (⟨k.val / 2 % 2, by omega⟩ : Fin 2) (⟨k.val % 2, by omega⟩ : Fin 2)) ?_).trans
    ((transpose_apply (s := S16x2064x2x2x2) (t := S16x2064x2x2x2) [0, 1, 4, 2, 3] _ transposes_S16x2064x2x2x2_S16x2064x2x2x2_0_1_4_2_3 _
      (ix5 b s (⟨k.val / 2 % 2, by omega⟩ : Fin 2) (⟨k.val % 2, by omega⟩ : Fin 2) (⟨k.val / 4, by omega⟩ : Fin 2)) ?_).trans
      (shapeCast_apply _ _ _ _ ?_))
  · rw [rowMajor_val3 _ (2064 * 8) 8 rfl rfl, rowMajor_val5 _ (2064 * (2 * (2 * 2))) (2 * (2 * 2)) (2 * 2) 2 rfl rfl rfl rfl]
    show b.val * (2064 * (2 * (2 * 2))) + s.val * (2 * (2 * 2)) + k.val / 4 * (2 * 2) + k.val / 2 % 2 * 2 + k.val % 2 = b.val * (2064 * 8) + s.val * 8 + k.val
    omega
  · intro b
    fin_cases b <;> rfl
  · rw [rowMajor_val3 _ (2064 * 8) 8 rfl rfl, rowMajor_val5 _ (2064 * (2 * (2 * 2))) (2 * (2 * 2)) (2 * 2) 2 rfl rfl rfl rfl]
    show b.val * (2064 * 8) + s.val * 8 + perm k.val
      = b.val * (2064 * (2 * (2 * 2))) + s.val * (2 * (2 * 2)) + k.val / 2 % 2 * (2 * 2) + k.val % 2 * 2 + k.val / 4
    unfold perm
    omega

/-- The gates' columns, padded. -/
def ba3 (P : FVec Ideal S16x2064x3600 .f32) : FVec Ideal S16x2112x128 .f32 :=
  pad S16x2112x128 ![0, 48, 0] ![0, 0, 112] ![0, 0, 0]
    (concatenate S16x2064x16 2 [⟨S16x2064x8, turn (extractStridedSlice S16x2064x8 ![0, 0, 2048] P slices_S16x2064x3600_S16x2064x8_0_0_2048)⟩,
      ⟨S16x2064x8, turn (extractStridedSlice S16x2064x8 ![0, 0, 2056] P slices_S16x2064x3600_S16x2064x8_0_0_2056)⟩]
      concatenates_S16x2064x8_S16x2064x8_S16x2064x16_d2) zero0 pads_S16x2064x16_S16x2112x128_000_4800_01120 h_S_

theorem ba3_apply (x : FVec Ideal S16x2064x1024 .f32) (nw : FVec Ideal S1024 .f32) (W : FVec Ideal S1024x3600 .f32) (b : Fin 16)
    (s : Fin 2112) (k : Fin 128) : ba3 (proj x nw W) (ix3 b s k) = baS x nw W (ix3 b s k) := by
  have hP := fun (s : Fin 2064) (o : ℕ) (ho : o + 8 ≤ 3600) (k : Fin 8) => proj_apply x nw W b s (colW o ho k)
  generalize proj x nw W = P at hP ⊢
  have c0 : ∀ (s : Fin 2064) (k : Fin 8), extractStridedSlice S16x2064x8 ![0, 0, 2048] P slices_S16x2064x3600_S16x2064x8_0_0_2048 (ix3 b s k)
      = Pn x nw W b (48 + s.val) (colW 2048 (by decide) k) := fun s k => by
    refine Eq.trans ?_ (hP s 2048 (by decide) k)
    pointwise
    rfl
  have c1 : ∀ (s : Fin 2064) (k : Fin 8), extractStridedSlice S16x2064x8 ![0, 0, 2056] P slices_S16x2064x3600_S16x2064x8_0_0_2056 (ix3 b s k)
      = Pn x nw W b (48 + s.val) (colW 2056 (by decide) k) := fun s k => by
    refine Eq.trans ?_ (hP s 2056 (by decide) k)
    pointwise
    rfl
  unfold ba3
  by_cases h : 48 ≤ s.val ∧ k.val < 16
  · refine (pad_apply_of_inside (s := S16x2064x16) (t := S16x2112x128) ![0, 48, 0] ![0, 0, 112] ![0, 0, 0] _ _
      pads_S16x2064x16_S16x2112x128_000_4800_01120 h_S_ (ix3 b s k) (ix3 b (⟨s.val - 48, by omega⟩ : Fin 2064) (⟨k.val, h.2⟩ : Fin 16)) (fun a => ?_)).trans ?_
    · match a with
      | ⟨0, _⟩ => show b.val = 0 + b.val * (0 + 1); omega
      | ⟨1, _⟩ => show s.val = 48 + (s.val - 48) * (0 + 1); omega
      | ⟨2, _⟩ => show k.val = 0 + k.val * (0 + 1); omega
    · have hs : 48 + (s.val - 48) = s.val := by omega
      unfold baS
      show _ = if k.val < 8 then _ else if k.val < 16 then _ else _
      by_cases h8 : k.val < 8
      · rw [if_pos h8]
        refine (concatenate_pair_apply_left (t := S16x2064x16) (s₁ := S16x2064x8) (s₂ := S16x2064x8) 2 _ _ _ _ rfl
          (ix3 b (⟨s.val - 48, by omega⟩ : Fin 2064) (⟨k.val, h8⟩ : Fin 8)) (fun a => by fin_cases a <;> rfl)).trans ?_
        refine (turn_apply _ b _ _).trans ((c0 _ _).trans ?_)
        show Pn x nw W b (48 + (s.val - 48)) _ = Pn x nw W b s.val _
        rw [hs]
        rfl
      · rw [if_neg h8, if_pos h.2]
        refine (concatenate_pair_apply_right (t := S16x2064x16) (s₁ := S16x2064x8) (s₂ := S16x2064x8) 2 _ _ _ _ rfl rfl
          (ix3 b (⟨s.val - 48, by omega⟩ : Fin 2064) (⟨k.val - 8, by omega⟩ : Fin 8))
          (fun a ha => by fin_cases a <;> first | rfl | exact absurd rfl ha) ?_).trans ?_
        · show k.val - 8 + 8 = k.val
          omega
        · refine (turn_apply _ b _ _).trans ((c1 _ _).trans ?_)
          show Pn x nw W b (48 + (s.val - 48)) _ = Pn x nw W b s.val _
          rw [hs]
          rfl
  · have z : pad S16x2112x128 ![0, 48, 0] ![0, 0, 112] ![0, 0, 0]
        (concatenate S16x2064x16 2 [⟨S16x2064x8, turn (extractStridedSlice S16x2064x8 ![0, 0, 2048] P slices_S16x2064x3600_S16x2064x8_0_0_2048)⟩,
          ⟨S16x2064x8, turn (extractStridedSlice S16x2064x8 ![0, 0, 2056] P slices_S16x2064x3600_S16x2064x8_0_0_2056)⟩]
          concatenates_S16x2064x8_S16x2064x8_S16x2064x16_d2) zero0 pads_S16x2064x16_S16x2112x128_000_4800_01120 h_S_ (ix3 b s k) = (0 : EReal) := by
      by_cases g : 48 ≤ s.val
      · refine (pad_apply_of_not_inside (s := S16x2064x16) (t := S16x2112x128) ![0, 48, 0] ![0, 0, 112] ![0, 0, 0] _ _
          pads_S16x2064x16_S16x2112x128_000_4800_01120 h_S_ (ix3 b s k) 2 ?_).trans (zero0_apply _)
        rintro ⟨-, -, h3⟩
        have h4 : (k.val - 0) / (0 + 1) < 16 := h3
        rw [Nat.div_one] at h4
        omega
      · refine (pad_apply_of_not_inside (s := S16x2064x16) (t := S16x2112x128) ![0, 48, 0] ![0, 0, 112] ![0, 0, 0] _ _
          pads_S16x2064x16_S16x2112x128_000_4800_01120 h_S_ (ix3 b s k) 1 ?_).trans (zero0_apply _)
        rintro ⟨h3, -, -⟩
        exact g h3
    refine z.trans ?_
    unfold baS
    show _ = if k.val < 8 then Pn x nw W b s.val _ else if k.val < 16 then Pn x nw W b s.val _ else _
    split_ifs with h1 h2
    · exact (Pn_zero _ _ _ _ _ _ (by omega)).symm
    · exact (Pn_zero _ _ _ _ _ _ (by omega)).symm
    · rfl

/-! ## The results -/

theorem q_eq (x : FVec Ideal S16x2064x1024 .f32) (nw : FVec Ideal S1024 .f32) (W : FVec Ideal S1024x3600 .f32) (cw : FVec Ideal S3x1536 .f32) :
    lpad (q3 (act (proj x nw W) cw)) = qS x nw W cw := by
  funext i
  obtain ⟨b, s, l, rfl⟩ : ∃ (b : Fin 16) (s : Fin 2112) (l : Fin 512), i = ix3 b s l := ⟨i 0, i 1, i 2, eq_ix3 i⟩
  rw [lpad_apply]
  show _ = if 48 ≤ s.val then yS x nw W cw b s.val (col 0 l) * (unitFac (fun k => yS x nw W cw b s.val (col 0 (lane l k))) * qScale) else 0
  split_ifs with h
  · have e : 48 + (s.val - 48) = s.val := by omega
    rw [q3_apply]
    simp only [act_apply]
    rw [e]
  · rfl

theorem k_eq (x : FVec Ideal S16x2064x1024 .f32) (nw : FVec Ideal S1024 .f32) (W : FVec Ideal S1024x3600 .f32) (cw : FVec Ideal S3x1536 .f32) :
    lpad (k3 (act (proj x nw W) cw)) = kS x nw W cw := by
  funext i
  obtain ⟨b, s, l, rfl⟩ : ∃ (b : Fin 16) (s : Fin 2112) (l : Fin 512), i = ix3 b s l := ⟨i 0, i 1, i 2, eq_ix3 i⟩
  rw [lpad_apply]
  show _ = if 48 ≤ s.val then yS x nw W cw b s.val (col 1 l) * unitFac (fun k => yS x nw W cw b s.val (col 1 (lane l k))) else 0
  split_ifs with h
  · have e : 48 + (s.val - 48) = s.val := by omega
    rw [k3_apply]
    simp only [act_apply]
    rw [e]
  · rfl

theorem v_eq (x : FVec Ideal S16x2064x1024 .f32) (nw : FVec Ideal S1024 .f32) (W : FVec Ideal S1024x3600 .f32) (cw : FVec Ideal S3x1536 .f32) :
    lpad (v3 (act (proj x nw W) cw)) = vS x nw W cw := by
  funext i
  obtain ⟨b, s, l, rfl⟩ : ∃ (b : Fin 16) (s : Fin 2112) (l : Fin 512), i = ix3 b s l := ⟨i 0, i 1, i 2, eq_ix3 i⟩
  rw [lpad_apply]
  show _ = if 48 ≤ s.val then yS x nw W cw b s.val (col 2 l) else 0
  split_ifs with h
  · have e : 48 + (s.val - 48) = s.val := by omega
    rw [v3_apply, act_apply]
    rw [e]
  · rfl

theorem z_eq (x : FVec Ideal S16x2064x1024 .f32) (nw : FVec Ideal S1024 .f32) (W : FVec Ideal S1024x3600 .f32) :
    lpad (z3 (proj x nw W)) = zS x nw W := by
  funext i
  obtain ⟨b, s, l, rfl⟩ : ∃ (b : Fin 16) (s : Fin 2112) (l : Fin 512), i = ix3 b s l := ⟨i 0, i 1, i 2, eq_ix3 i⟩
  rw [lpad_apply]
  show _ = Pn x nw W b s.val (colW 1536 (n := 512) (by decide) l)
  split_ifs with h
  · have e : 48 + (s.val - 48) = s.val := by omega
    rw [z3_apply]
    rw [e]
  · exact (Pn_zero _ _ _ _ _ _ (by omega)).symm

theorem sc_eq (x : FVec Ideal S16x2064x1024 .f32) (nw : FVec Ideal S1024 .f32) (W : FVec Ideal S1024x3600 .f32) (sw : FVec Ideal S3x512 .f32) :
    lpad (sc3 (proj x nw W) sw) = scS x nw W sw := by
  funext i
  obtain ⟨b, s, l, rfl⟩ : ∃ (b : Fin 16) (s : Fin 2112) (l : Fin 512), i = ix3 b s l := ⟨i 0, i 1, i 2, eq_ix3 i⟩
  rw [lpad_apply]
  show _ = Pn x nw W b s.val (colW 2064 (n := 512) (by decide) l)
    * conv3 (pS x nw W b (s.val - 1) l) (pS x nw W b s.val l) (pS x nw W b (s.val + 1) l) (sw (ix2 (0 : Fin 3) l)) (sw (ix2 (1 : Fin 3) l)) (sw (ix2 (2 : Fin 3) l))
  split_ifs with h
  · have e : 48 + (s.val - 48) = s.val := by omega
    have e0 : 47 + (s.val - 48) = s.val - 1 := by omega
    have e1 : 49 + (s.val - 48) = s.val + 1 := by omega
    rw [sc3_apply]
    rw [e, e0, e1]
  · rw [Pn_zero _ _ _ _ _ _ (by omega), zero_mul]

theorem ba_eq (x : FVec Ideal S16x2064x1024 .f32) (nw : FVec Ideal S1024 .f32) (W : FVec Ideal S1024x3600 .f32) :
    ba3 (proj x nw W) = baS x nw W := by
  funext i
  obtain ⟨b, s, k, rfl⟩ : ∃ (b : Fin 16) (s : Fin 2112) (k : Fin 128), i = ix3 b s k := ⟨i 0, i 1, i 2, eq_ix3 i⟩
  exact ba3_apply x nw W b s k

end Cert.Proof.InProj.Ref

end
-- ==== Proof.InProj.Claim.lean ====
/- The norm, the input projection and the short convolutions: the kernel's results are the reference's, and the reference's frame. -/
module

public import proofs.«01_k».proof.Defs
public import proofs.«01_k».proof.Proof.InProj.Array
public import proofs.«01_k».proof.Proof.InProj.Ref

@[expose] public section

set_option maxRecDepth 16384

noncomputable section

open Idealize.ShloMosaic Idealize.ShloMosaic.TcCoe Idealize.SL.Sem

namespace Cert.Proof.InProj

section Results

variable (m : (ℓ : Loc Cert.Reference3Ideal.nD Cert.Reference3Ideal.τ Cert.Reference3Ideal.sig) → Buf (Elt Ideal) ℓ) (c : Dev Cert.Reference3Ideal.nD)

/-- The reference's arguments: the residual rows, -/
abbrev r0 : FVec Ideal Cert.Reference3Ideal.S16x2064x1024 .f32 := m ((c.tc : Thread Cert.Reference3Ideal.nD Cert.Reference3Ideal.τ).loc Cert.Reference3Ideal.main_arg0)
/-- the norm's weights, -/
abbrev r1 : FVec Ideal Cert.Reference3Ideal.S1024 .f32 := m ((c.tc : Thread Cert.Reference3Ideal.nD Cert.Reference3Ideal.τ).loc Cert.Reference3Ideal.main_arg1)
/-- the projection, -/
abbrev r2 : FVec Ideal Cert.Reference3Ideal.S1024x3600 .f32 := m ((c.tc : Thread Cert.Reference3Ideal.nD Cert.Reference3Ideal.τ).loc Cert.Reference3Ideal.main_arg2)
/-- and the weights of the two convolutions. -/
abbrev r3 : FVec Ideal Cert.Reference3Ideal.S3x1536 .f32 := m ((c.tc : Thread Cert.Reference3Ideal.nD Cert.Reference3Ideal.τ).loc Cert.Reference3Ideal.main_arg3)
/-- The second one's. -/
abbrev r4 : FVec Ideal Cert.Reference3Ideal.S3x512 .f32 := m ((c.tc : Thread Cert.Reference3Ideal.nD Cert.Reference3Ideal.τ).loc Cert.Reference3Ideal.main_arg4)

theorem res106 : (Cert.Reference3Ideal.Value.res_main_v106 m c : A3 16 2112 512) = Ref.lpad (Ref.q3 (Ref.act (Ref.proj (r0 m c) (r1 m c) (r2 m c)) (r3 m c))) := by
  unfold Cert.Reference3Ideal.Value.res_main_v106
  rfl

theorem res108 : (Cert.Reference3Ideal.Value.res_main_v108 m c : A3 16 2112 512) = Ref.lpad (Ref.k3 (Ref.act (Ref.proj (r0 m c) (r1 m c) (r2 m c)) (r3 m c))) := by
  unfold Cert.Reference3Ideal.Value.res_main_v108
  rfl

theorem res110 : (Cert.Reference3Ideal.Value.res_main_v110 m c : A3 16 2112 512) = Ref.lpad (Ref.v3 (Ref.act (Ref.proj (r0 m c) (r1 m c) (r2 m c)) (r3 m c))) := by
  unfold Cert.Reference3Ideal.Value.res_main_v110
  rfl

theorem res114 : (Cert.Reference3Ideal.Value.res_main_v114 m c : A3 16 2112 512) = Ref.lpad (Ref.sc3 (Ref.proj (r0 m c) (r1 m c) (r2 m c)) (r4 m c)) := by
  unfold Cert.Reference3Ideal.Value.res_main_v114
  rfl

end Results

theorem frame_reference : Cert.quiescent_Reference3Ideal := fun m ρ _ =>
  (θ_run Cert.Reference3Ideal.defs _ _).mono (fun r h => ⟨fun c => (h c).2.2.2.2.2.2, sem_eq_zero_of_no_sems (by decide) r.2⟩)
    (Cert.Reference3Ideal.Value.run (F := Ideal) m ρ)

theorem value : Cert.algebraic_Kernel3Ideal_Reference3Ideal := fun m ρ m' ρ' _ hag =>
  ⟨fun c => res10 m c, fun c => res11 m c, fun c => res12 m c, fun c => res13 m c, fun c => res14 m c, fun c => res15 m c,
    (θ_run Cert.Kernel3Ideal.defs _ _).mono (fun _ h c => by
      obtain ⟨h0, h1, h2, h3, h4, h5, hk⟩ := h c
      exact ⟨h0.trans (final10 m c), h1.trans (final11 m c), h2.trans (final12 m c), h3.trans (final13 m c), h4.trans (final14 m c),
        h5.trans (final15 m c), hk⟩)
      (Cert.Kernel3Ideal.Value.run_blocks m ρ),
    (θ_run Cert.Reference3Ideal.defs _ _).mono (fun _ h c => by
      obtain ⟨h0, h1, h2, h3, h4, h5, hk⟩ := h c
      obtain ⟨e0, e1, e2, e3, e4⟩ := hag c
      refine ⟨h0.trans ?_, h1.trans ?_, h2.trans ?_, h3.trans ?_, h4.trans ?_, h5.trans ?_, hk⟩
      · refine (res106 m' c).trans ((Ref.q_eq _ _ _ _).trans ?_)
        unfold r0 r1 r2 r3
        rw [e0, e1, e2, e3]
        rfl
      · refine (res108 m' c).trans ((Ref.k_eq _ _ _ _).trans ?_)
        unfold r0 r1 r2 r3
        rw [e0, e1, e2, e3]
        rfl
      · refine (res110 m' c).trans ((Ref.v_eq _ _ _ _).trans ?_)
        unfold r0 r1 r2 r3
        rw [e0, e1, e2, e3]
        rfl
      · refine (Ref.z_eq (r0 m' c) (r1 m' c) (r2 m' c)).trans ?_
        unfold r0 r1 r2
        rw [e0, e1, e2]
        rfl
      · refine (res114 m' c).trans ((Ref.sc_eq _ _ _ _).trans ?_)
        unfold r0 r1 r2 r4
        rw [e0, e1, e2, e4]
        rfl
      · refine (Ref.ba_eq (r0 m' c) (r1 m' c) (r2 m' c)).trans ?_
        unfold r0 r1 r2
        rw [e0, e1, e2]
        rfl)
      (Cert.Reference3Ideal.Value.run (F := Ideal) m' ρ')⟩

end Cert.Proof.InProj

end
-- ==== Proof.lean ====
/- The certificate: the frames of the delta rule's program, and the frames and values of the layer's other calls. -/
module

public import proofs.«01_k».proof.Defs
public import proofs.«01_k».proof.Proof.Gdn.Both
public import proofs.«01_k».proof.Proof.OutFfn.Claim
public import proofs.«01_k».proof.Proof.OutMid.Claim
public import proofs.«01_k».proof.Proof.InProj.Claim
public import proofs.«01_k».proof.Proof.Gen.Kernel2.Frame
public import proofs.«01_k».proof.Proof.Gen.Kernel3.Frame
public import proofs.«01_k».proof.Proof.Gen.Kernel3Ideal.Value
public import proofs.«01_k».proof.Proof.Gen.Kernel4.Frame

@[expose] public section

noncomputable section

namespace Cert.Proof

open Idealize.ShloMosaic Idealize.SL.Sem

theorem frame_kernel2 : Cert.quiescent_Kernel2 := fun m ρ _ => Cert.Kernel2.Gen.frame m ρ

theorem frame_kernel2Ideal : Cert.quiescent_Kernel2Ideal := fun m ρ _ => Cert.Kernel2Ideal.Gen.frame m ρ

theorem frame_kernel3 : Cert.quiescent_Kernel3 := fun m ρ _ => Cert.Kernel3.Gen.frame m ρ

theorem frame_kernel3Ideal : Cert.quiescent_Kernel3Ideal := fun m ρ _ => Cert.Kernel3Ideal.Gen.frame m ρ

theorem frame_kernel4 : Cert.quiescent_Kernel4 := fun m ρ _ => Cert.Kernel4.Gen.frame m ρ

theorem frame_kernel4Ideal : Cert.quiescent_Kernel4Ideal := fun m ρ _ => Cert.Kernel4Ideal.Gen.frame m ρ

theorem claim : Cert.Claim :=
  ⟨Cert.Kernel.Gen.facts, Cert.KernelIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts, Cert.Kernel4.Gen.facts,
    Cert.Kernel4Ideal.Gen.facts, Cert.Reference4Ideal.Gen.facts, Gdn.frame_kernel, Gdn.frame_kernelIdeal, frame_kernel2,
    frame_kernel2Ideal, OutFfn.frame_reference, frame_kernel3, frame_kernel3Ideal, InProj.frame_reference, frame_kernel4, frame_kernel4Ideal,
    OutMid.frame_reference, trivial, trivial, OutFfn.value, trivial, InProj.value, trivial, OutMid.value⟩

end Cert.Proof

end
